-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_JoinReference (m : (ℓ : Loc Cert.JoinReference.nD Cert.JoinReference.τ Cert.JoinReference.sig) → Buf (Elt Bits) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_CrossReference (m : (ℓ : Loc Cert.CrossReference.nD Cert.CrossReference.τ Cert.CrossReference.sig) → Buf (Elt Bits) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvReferenceIdeal (m : (ℓ : Loc Cert.StepConvReferenceIdeal.nD Cert.StepConvReferenceIdeal.τ Cert.StepConvReferenceIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalReferenceIdeal (m : (ℓ : Loc Cert.TotalReferenceIdeal.nD Cert.TotalReferenceIdeal.τ Cert.TotalReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWReferenceIdeal (m : (ℓ : Loc Cert.GradWReferenceIdeal.nD Cert.GradWReferenceIdeal.τ Cert.GradWReferenceIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInReferenceIdeal (m : (ℓ : Loc Cert.GradWInReferenceIdeal.nD Cert.GradWInReferenceIdeal.τ Cert.GradWInReferenceIdeal.sig) → Buf (Elt Ideal) ℓ) : Prop :=
  True

def Pre_GradH (m : (ℓ : Loc Cert.GradH.nD Cert.GradH.τ Cert.GradH.sig) → Buf (Elt Bits) ℓ) : Prop :=
  True

def Pre_GradHIdeal (m : (ℓ : Loc Cert.GradHIdeal.nD Cert.GradHIdeal.τ Cert.GradHIdeal.sig) → Buf (Elt Ideal) ℓ) : Prop :=
  True

def Pre_GradHReferenceIdeal (m : (ℓ : Loc Cert.GradHReferenceIdeal.nD Cert.GradHReferenceIdeal.τ Cert.GradHReferenceIdeal.sig) → Buf (Elt Ideal) ℓ) : Prop :=
  True

def Pre_SumCores (m : (ℓ : Loc Cert.SumCores.nD Cert.SumCores.τ Cert.SumCores.sig) → Buf (Elt Bits) ℓ) : Prop :=
  True

def Pre_SumCoresIdeal (m : (ℓ : Loc Cert.SumCoresIdeal.nD Cert.SumCoresIdeal.τ Cert.SumCoresIdeal.sig) → Buf (Elt Ideal) ℓ) : Prop :=
  True

def Pre_SumCoresReferenceIdeal (m : (ℓ : Loc Cert.SumCoresReferenceIdeal.nD Cert.SumCoresReferenceIdeal.τ Cert.SumCoresReferenceIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsReferenceIdeal (m : (ℓ : Loc Cert.SumChipsReferenceIdeal.nD Cert.SumChipsReferenceIdeal.τ Cert.SumChipsReferenceIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInReferenceIdeal (m : (ℓ : Loc Cert.CastInReferenceIdeal.nD Cert.CastInReferenceIdeal.τ Cert.CastInReferenceIdeal.sig) → Buf (Elt Ideal) ℓ) : Prop :=
  True

def Pre_CastInReference (m : (ℓ : Loc Cert.CastInReference.nD Cert.CastInReference.τ Cert.CastInReference.sig) → Buf (Elt Bits) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutReferenceIdeal (m : (ℓ : Loc Cert.CastOutReferenceIdeal.nD Cert.CastOutReferenceIdeal.τ Cert.CastOutReferenceIdeal.sig) → Buf (Elt Ideal) ℓ) : Prop :=
  True

def Pre_CastOutReference (m : (ℓ : Loc Cert.CastOutReference.nD Cert.CastOutReference.τ Cert.CastOutReference.sig) → Buf (Elt Bits) ℓ) : Prop :=
  True

def Pre_PairIn [hPre_a_core : Cert.Pre_a_core.Facts] (m : (ℓ : Loc Cert.PairIn.nD Cert.PairIn.τ Cert.PairIn.sig) → Buf (Elt Bits) ℓ) : Prop :=
  ∀ c : Dev Cert.PairIn.nD,
    (Cert.Pre_a_core.fn (F := Bits) (m ((c.tc : Thread Cert.PairIn.nD Cert.PairIn.τ).loc Cert.PairIn.main_arg0)) (m ((c.tc : Thread Cert.PairIn.nD Cert.PairIn.τ).loc Cert.PairIn.main_arg1)) (m ((c.tc : Thread Cert.PairIn.nD Cert.PairIn.τ).loc Cert.PairIn.main_arg2))) = (fun _ => 1#1)

def Pre_PairInIdeal [hPre_a_core : Cert.Pre_a_core.Facts] (m : (ℓ : Loc Cert.PairInIdeal.nD Cert.PairInIdeal.τ Cert.PairInIdeal.sig) → Buf (Elt Ideal) ℓ) : Prop :=
  ∀ c : Dev Cert.PairInIdeal.nD,
    (Cert.Pre_a_core.fn (F := Ideal) (m ((c.tc : Thread Cert.PairInIdeal.nD Cert.PairInIdeal.τ).loc Cert.PairInIdeal.main_arg0)) (m ((c.tc : Thread Cert.PairInIdeal.nD Cert.PairInIdeal.τ).loc Cert.PairInIdeal.main_arg1)) (m ((c.tc : Thread Cert.PairInIdeal.nD Cert.PairInIdeal.τ).loc Cert.PairInIdeal.main_arg2))) = (fun _ => 1#1)

def Pre_PairInReferenceIdeal (m : (ℓ : Loc Cert.PairInReferenceIdeal.nD Cert.PairInReferenceIdeal.τ Cert.PairInReferenceIdeal.sig) → Buf (Elt Ideal) ℓ) : Prop :=
  True

def Pre_PairInReferenceIdeal_a_core [hPre_a_core : Cert.Pre_a_core.Facts] (m : (ℓ : Loc Cert.PairInReferenceIdeal.nD Cert.PairInReferenceIdeal.τ Cert.PairInReferenceIdeal.sig) → Buf (Elt Ideal) ℓ) : Prop :=
  ∀ c : Dev Cert.PairInReferenceIdeal.nD,
    (Cert.Pre_a_core.fn (F := Ideal) (m ((c.tc : Thread Cert.PairInReferenceIdeal.nD Cert.PairInReferenceIdeal.τ).loc Cert.PairInReferenceIdeal.main_arg0)) (m ((c.tc : Thread Cert.PairInReferenceIdeal.nD Cert.PairInReferenceIdeal.τ).loc Cert.PairInReferenceIdeal.main_arg1)) (m ((c.tc : Thread Cert.PairInReferenceIdeal.nD Cert.PairInReferenceIdeal.τ).loc Cert.PairInReferenceIdeal.main_arg2))) = (fun _ => 1#1)

def Pre_PairInReference [hPre_a_core : Cert.Pre_a_core.Facts] (m : (ℓ : Loc Cert.PairInReference.nD Cert.PairInReference.τ Cert.PairInReference.sig) → Buf (Elt Bits) ℓ) : Prop :=
  ∀ c : Dev Cert.PairInReference.nD,
    (Cert.Pre_a_core.fn (F := Bits) (m ((c.tc : Thread Cert.PairInReference.nD Cert.PairInReference.τ).loc Cert.PairInReference.main_arg0)) (m ((c.tc : Thread Cert.PairInReference.nD Cert.PairInReference.τ).loc Cert.PairInReference.main_arg1)) (m ((c.tc : Thread Cert.PairInReference.nD Cert.PairInReference.τ).loc Cert.PairInReference.main_arg2))) = (fun _ => 1#1)

def Pre_FourIn [hPre_four_chips : Cert.Pre_four_chips.Facts] (m : (ℓ : Loc Cert.FourIn.nD Cert.FourIn.τ Cert.FourIn.sig) → Buf (Elt Bits) ℓ) : Prop :=
  ∀ c : Dev Cert.FourIn.nD,
    (Cert.Pre_four_chips.fn (F := Bits) (m ((c.tc : Thread Cert.FourIn.nD Cert.FourIn.τ).loc Cert.FourIn.main_arg0)) (m ((c.tc : Thread Cert.FourIn.nD Cert.FourIn.τ).loc Cert.FourIn.main_arg1)) (m ((c.tc : Thread Cert.FourIn.nD Cert.FourIn.τ).loc Cert.FourIn.main_arg2))) = (fun _ => 1#1)

def Pre_FourInIdeal [hPre_four_chips : Cert.Pre_four_chips.Facts] (m : (ℓ : Loc Cert.FourInIdeal.nD Cert.FourInIdeal.τ Cert.FourInIdeal.sig) → Buf (Elt Ideal) ℓ) : Prop :=
  ∀ c : Dev Cert.FourInIdeal.nD,
    (Cert.Pre_four_chips.fn (F := Ideal) (m ((c.tc : Thread Cert.FourInIdeal.nD Cert.FourInIdeal.τ).loc Cert.FourInIdeal.main_arg0)) (m ((c.tc : Thread Cert.FourInIdeal.nD Cert.FourInIdeal.τ).loc Cert.FourInIdeal.main_arg1)) (m ((c.tc : Thread Cert.FourInIdeal.nD Cert.FourInIdeal.τ).loc Cert.FourInIdeal.main_arg2))) = (fun _ => 1#1)

def Pre_FourInReferenceIdeal (m : (ℓ : Loc Cert.FourInReferenceIdeal.nD Cert.FourInReferenceIdeal.τ Cert.FourInReferenceIdeal.sig) → Buf (Elt Ideal) ℓ) : Prop :=
  True

def Pre_FourInReferenceIdeal_four_chips [hPre_four_chips : Cert.Pre_four_chips.Facts] (m : (ℓ : Loc Cert.FourInReferenceIdeal.nD Cert.FourInReferenceIdeal.τ Cert.FourInReferenceIdeal.sig) → Buf (Elt Ideal) ℓ) : Prop :=
  ∀ c : Dev Cert.FourInReferenceIdeal.nD,
    (Cert.Pre_four_chips.fn (F := Ideal) (m ((c.tc : Thread Cert.FourInReferenceIdeal.nD Cert.FourInReferenceIdeal.τ).loc Cert.FourInReferenceIdeal.main_arg0)) (m ((c.tc : Thread Cert.FourInReferenceIdeal.nD Cert.FourInReferenceIdeal.τ).loc Cert.FourInReferenceIdeal.main_arg1)) (m ((c.tc : Thread Cert.FourInReferenceIdeal.nD Cert.FourInReferenceIdeal.τ).loc Cert.FourInReferenceIdeal.main_arg2))) = (fun _ => 1#1)

def Pre_FourInReference [hPre_four_chips : Cert.Pre_four_chips.Facts] (m : (ℓ : Loc Cert.FourInReference.nD Cert.FourInReference.τ Cert.FourInReference.sig) → Buf (Elt Bits) ℓ) : Prop :=
  ∀ c : Dev Cert.FourInReference.nD,
    (Cert.Pre_four_chips.fn (F := Bits) (m ((c.tc : Thread Cert.FourInReference.nD Cert.FourInReference.τ).loc Cert.FourInReference.main_arg0)) (m ((c.tc : Thread Cert.FourInReference.nD Cert.FourInReference.τ).loc Cert.FourInReference.main_arg1)) (m ((c.tc : Thread Cert.FourInReference.nD Cert.FourInReference.τ).loc Cert.FourInReference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3)
      ∧ r.2.mem ((c.tc : Thread Cert.Swap.nD Cert.Swap.τ).loc Cert.Swap.main_arg4) = m ((c.tc : Thread Cert.Swap.nD Cert.Swap.τ).loc Cert.Swap.main_arg4))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
      ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0)
      ∧ r.2.mem ((c.tc : Thread Cert.SwapReferenceIdeal.nD Cert.SwapReferenceIdeal.τ).loc Cert.SwapReferenceIdeal.main_arg1) = m ((c.tc : Thread Cert.SwapReferenceIdeal.nD Cert.SwapReferenceIdeal.τ).loc Cert.SwapReferenceIdeal.main_arg1)
      ∧ r.2.mem ((c.tc : Thread Cert.SwapReferenceIdeal.nD Cert.SwapReferenceIdeal.τ).loc Cert.SwapReferenceIdeal.main_arg2) = m ((c.tc : Thread Cert.SwapReferenceIdeal.nD Cert.SwapReferenceIdeal.τ).loc Cert.SwapReferenceIdeal.main_arg2)
      ∧ r.2.mem ((c.tc : Thread Cert.SwapReferenceIdeal.nD Cert.SwapReferenceIdeal.τ).loc Cert.SwapReferenceIdeal.main_arg3) = m ((c.tc : Thread Cert.SwapReferenceIdeal.nD Cert.SwapReferenceIdeal.τ).loc Cert.SwapReferenceIdeal.main_arg3)
      ∧ r.2.mem ((c.tc : Thread Cert.SwapReferenceIdeal.nD Cert.SwapReferenceIdeal.τ).loc Cert.SwapReferenceIdeal.main_arg4) = m ((c.tc : Thread Cert.SwapReferenceIdeal.nD Cert.SwapReferenceIdeal.τ).loc Cert.SwapReferenceIdeal.main_arg4))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0)
      ∧ r.2.mem ((c.tc : Thread Cert.SwapReference.nD Cert.SwapReference.τ).loc Cert.SwapReference.main_arg1) = m ((c.tc : Thread Cert.SwapReference.nD Cert.SwapReference.τ).loc Cert.SwapReference.main_arg1)
      ∧ r.2.mem ((c.tc : Thread Cert.SwapReference.nD Cert.SwapReference.τ).loc Cert.SwapReference.main_arg2) = m ((c.tc : Thread Cert.SwapReference.nD Cert.SwapReference.τ).loc Cert.SwapReference.main_arg2)
      ∧ r.2.mem ((c.tc : Thread Cert.SwapReference.nD Cert.SwapReference.τ).loc Cert.SwapReference.main_arg3) = m ((c.tc : Thread Cert.SwapReference.nD Cert.SwapReference.τ).loc Cert.SwapReference.main_arg3)
      ∧ r.2.mem ((c.tc : Thread Cert.SwapReference.nD Cert.SwapReference.τ).loc Cert.SwapReference.main_arg4) = m ((c.tc : Thread Cert.SwapReference.nD Cert.SwapReference.τ).loc Cert.SwapReference.main_arg4))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4))
      ∧ r.2.sem = fun _ => 0)

def quiescent_JoinReference [hJoinReference : Cert.JoinReference.Facts] : Prop :=
  ∀ (m : (ℓ : Loc Cert.JoinReference.nD Cert.JoinReference.τ Cert.JoinReference.sig) → Buf (Elt Bits) ℓ) (g : Dev Cert.JoinReference.nD → PrngReg), Pre_JoinReference m →
    θ_run (Cert.JoinReference.defs (F := Bits)) (onTc (τ := Cert.JoinReference.τ) (Cert.JoinReference.main (F := Bits))) ⟨m, fun _ => 0, g⟩ (fun r => (∀ c : Dev Cert.JoinReference.nD,
      r.2.mem ((c.tc : Thread Cert.JoinReference.nD Cert.JoinReference.τ).loc Cert.JoinReference.main_arg0) = m ((c.tc : Thread Cert.JoinReference.nD Cert.JoinReference.τ).loc Cert.JoinReference.main_arg0)
      ∧ r.2.mem ((c.tc : Thread Cert.JoinReference.nD Cert.JoinReference.τ).loc Cert.JoinReference.main_arg1) = m ((c.tc : Thread Cert.JoinReference.nD Cert.JoinReference.τ).loc Cert.JoinReference.main_arg1)
      ∧ r.2.mem ((c.tc : Thread Cert.JoinReference.nD Cert.JoinReference.τ).loc Cert.JoinReference.main_arg2) = m ((c.tc : Thread Cert.JoinReference.nD Cert.JoinReference.τ).loc Cert.JoinReference.main_arg2)
      ∧ r.2.mem ((c.tc : Thread Cert.JoinReference.nD Cert.JoinReference.τ).loc Cert.JoinReference.main_arg3) = m ((c.tc : Thread Cert.JoinReference.nD Cert.JoinReference.τ).loc Cert.JoinReference.main_arg3)
      ∧ r.2.mem ((c.tc : Thread Cert.JoinReference.nD Cert.JoinReference.τ).loc Cert.JoinReference.main_arg4) = m ((c.tc : Thread Cert.JoinReference.nD Cert.JoinReference.τ).loc Cert.JoinReference.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4))
      ∧ r.2.sem = fun _ => 0)

def quiescent_CrossReference [hCrossReference : Cert.CrossReference.Facts] : Prop :=
  ∀ (m : (ℓ : Loc Cert.CrossReference.nD Cert.CrossReference.τ Cert.CrossReference.sig) → Buf (Elt Bits) ℓ) (g : Dev Cert.CrossReference.nD → PrngReg), Pre_CrossReference m →
    θ_run (Cert.CrossReference.defs (F := Bits)) (onTc (τ := Cert.CrossReference.τ) (Cert.CrossReference.main (F := Bits))) ⟨m, fun _ => 0, g⟩ (fun r => (∀ c : Dev Cert.CrossReference.nD,
      r.2.mem ((c.tc : Thread Cert.CrossReference.nD Cert.CrossReference.τ).loc Cert.CrossReference.main_arg0) = m ((c.tc : Thread Cert.CrossReference.nD Cert.CrossReference.τ).loc Cert.CrossReference.main_arg0)
      ∧ r.2.mem ((c.tc : Thread Cert.CrossReference.nD Cert.CrossReference.τ).loc Cert.CrossReference.main_arg1) = m ((c.tc : Thread Cert.CrossReference.nD Cert.CrossReference.τ).loc Cert.CrossReference.main_arg1)
      ∧ r.2.mem ((c.tc : Thread Cert.CrossReference.nD Cert.CrossReference.τ).loc Cert.CrossReference.main_arg2) = m ((c.tc : Thread Cert.CrossReference.nD Cert.CrossReference.τ).loc Cert.CrossReference.main_arg2)
      ∧ r.2.mem ((c.tc : Thread Cert.CrossReference.nD Cert.CrossReference.τ).loc Cert.CrossReference.main_arg3) = m ((c.tc : Thread Cert.CrossReference.nD Cert.CrossReference.τ).loc Cert.CrossReference.main_arg3)
      ∧ r.2.mem ((c.tc : Thread Cert.CrossReference.nD Cert.CrossReference.τ).loc Cert.CrossReference.main_arg4) = m ((c.tc : Thread Cert.CrossReference.nD Cert.CrossReference.τ).loc Cert.CrossReference.main_arg4))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvReferenceIdeal [hStepConvReferenceIdeal : Cert.StepConvReferenceIdeal.Facts] : Prop :=
  ∀ (m : (ℓ : Loc Cert.StepConvReferenceIdeal.nD Cert.StepConvReferenceIdeal.τ Cert.StepConvReferenceIdeal.sig) → Buf (Elt Ideal) ℓ) (g : Dev Cert.StepConvReferenceIdeal.nD → PrngReg), Pre_StepConvReferenceIdeal m →
    θ_run (Cert.StepConvReferenceIdeal.defs (F := Ideal)) (onTc (τ := Cert.StepConvReferenceIdeal.τ) (Cert.StepConvReferenceIdeal.main (F := Ideal))) ⟨m, fun _ => 0, g⟩ (fun r => (∀ c : Dev Cert.StepConvReferenceIdeal.nD,
      r.2.mem ((c.tc : Thread Cert.StepConvReferenceIdeal.nD Cert.StepConvReferenceIdeal.τ).loc Cert.StepConvReferenceIdeal.main_arg0) = m ((c.tc : Thread Cert.StepConvReferenceIdeal.nD Cert.StepConvReferenceIdeal.τ).loc Cert.StepConvReferenceIdeal.main_arg0)
      ∧ r.2.mem ((c.tc : Thread Cert.StepConvReferenceIdeal.nD Cert.StepConvReferenceIdeal.τ).loc Cert.StepConvReferenceIdeal.main_arg1) = m ((c.tc : Thread Cert.StepConvReferenceIdeal.nD Cert.StepConvReferenceIdeal.τ).loc Cert.StepConvReferenceIdeal.main_arg1)
      ∧ r.2.mem ((c.tc : Thread Cert.StepConvReferenceIdeal.nD Cert.StepConvReferenceIdeal.τ).loc Cert.StepConvReferenceIdeal.main_arg2) = m ((c.tc : Thread Cert.StepConvReferenceIdeal.nD Cert.StepConvReferenceIdeal.τ).loc Cert.StepConvReferenceIdeal.main_arg2)
      ∧ r.2.mem ((c.tc : Thread Cert.StepConvReferenceIdeal.nD Cert.StepConvReferenceIdeal.τ).loc Cert.StepConvReferenceIdeal.main_arg3) = m ((c.tc : Thread Cert.StepConvReferenceIdeal.nD Cert.StepConvReferenceIdeal.τ).loc Cert.StepConvReferenceIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalReferenceIdeal [hTotalReferenceIdeal : Cert.TotalReferenceIdeal.Facts] : Prop :=
  ∀ (m : (ℓ : Loc Cert.TotalReferenceIdeal.nD Cert.TotalReferenceIdeal.τ Cert.TotalReferenceIdeal.sig) → Buf (Elt Ideal) ℓ) (g : Dev Cert.TotalReferenceIdeal.nD → PrngReg), Pre_TotalReferenceIdeal m →
    θ_run (Cert.TotalReferenceIdeal.defs (F := Ideal)) (onTc (τ := Cert.TotalReferenceIdeal.τ) (Cert.TotalReferenceIdeal.main (F := Ideal))) ⟨m, fun _ => 0, g⟩ (fun r => (∀ c : Dev Cert.TotalReferenceIdeal.nD,
      r.2.mem ((c.tc : Thread Cert.TotalReferenceIdeal.nD Cert.TotalReferenceIdeal.τ).loc Cert.TotalReferenceIdeal.main_arg0) = m ((c.tc : Thread Cert.TotalReferenceIdeal.nD Cert.TotalReferenceIdeal.τ).loc Cert.TotalReferenceIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWReferenceIdeal [hGradWReferenceIdeal : Cert.GradWReferenceIdeal.Facts] : Prop :=
  ∀ (m : (ℓ : Loc Cert.GradWReferenceIdeal.nD Cert.GradWReferenceIdeal.τ Cert.GradWReferenceIdeal.sig) → Buf (Elt Ideal) ℓ) (g : Dev Cert.GradWReferenceIdeal.nD → PrngReg), Pre_GradWReferenceIdeal m →
    θ_run (Cert.GradWReferenceIdeal.defs (F := Ideal)) (onTc (τ := Cert.GradWReferenceIdeal.τ) (Cert.GradWReferenceIdeal.main (F := Ideal))) ⟨m, fun _ => 0, g⟩ (fun r => (∀ c : Dev Cert.GradWReferenceIdeal.nD,
      r.2.mem ((c.tc : Thread Cert.GradWReferenceIdeal.nD Cert.GradWReferenceIdeal.τ).loc Cert.GradWReferenceIdeal.main_arg0) = m ((c.tc : Thread Cert.GradWReferenceIdeal.nD Cert.GradWReferenceIdeal.τ).loc Cert.GradWReferenceIdeal.main_arg0)
      ∧ r.2.mem ((c.tc : Thread Cert.GradWReferenceIdeal.nD Cert.GradWReferenceIdeal.τ).loc Cert.GradWReferenceIdeal.main_arg1) = m ((c.tc : Thread Cert.GradWReferenceIdeal.nD Cert.GradWReferenceIdeal.τ).loc Cert.GradWReferenceIdeal.main_arg1))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInReferenceIdeal [hGradWInReferenceIdeal : Cert.GradWInReferenceIdeal.Facts] : Prop :=
  ∀ (m : (ℓ : Loc Cert.GradWInReferenceIdeal.nD Cert.GradWInReferenceIdeal.τ Cert.GradWInReferenceIdeal.sig) → Buf (Elt Ideal) ℓ) (g : Dev Cert.GradWInReferenceIdeal.nD → PrngReg), Pre_GradWInReferenceIdeal m →
    θ_run (Cert.GradWInReferenceIdeal.defs (F := Ideal)) (onTc (τ := Cert.GradWInReferenceIdeal.τ) (Cert.GradWInReferenceIdeal.main (F := Ideal))) ⟨m, fun _ => 0, g⟩ (fun r => (∀ c : Dev Cert.GradWInReferenceIdeal.nD,
      r.2.mem ((c.tc : Thread Cert.GradWInReferenceIdeal.nD Cert.GradWInReferenceIdeal.τ).loc Cert.GradWInReferenceIdeal.main_arg0) = m ((c.tc : Thread Cert.GradWInReferenceIdeal.nD Cert.GradWInReferenceIdeal.τ).loc Cert.GradWInReferenceIdeal.main_arg0)
      ∧ r.2.mem ((c.tc : Thread Cert.GradWInReferenceIdeal.nD Cert.GradWInReferenceIdeal.τ).loc Cert.GradWInReferenceIdeal.main_arg1) = m ((c.tc : Thread Cert.GradWInReferenceIdeal.nD Cert.GradWInReferenceIdeal.τ).loc Cert.GradWInReferenceIdeal.main_arg1))
      ∧ r.2.sem = fun _ => 0)

def quiescent_GradH [hGradH : Cert.GradH.Facts] : Prop :=
  ∀ (m : (ℓ : Loc Cert.GradH.nD Cert.GradH.τ Cert.GradH.sig) → Buf (Elt Bits) ℓ) (g : Dev Cert.GradH.nD → PrngReg), Pre_GradH m →
    θ_run (Cert.GradH.defs (F := Bits)) (onTc (τ := Cert.GradH.τ) (Cert.GradH.main (F := Bits))) ⟨m, fun _ => 0, g⟩ (fun r => (∀ c : Dev Cert.GradH.nD,
      r.2.mem ((c.tc : Thread Cert.GradH.nD Cert.GradH.τ).loc Cert.GradH.main_arg0) = m ((c.tc : Thread Cert.GradH.nD Cert.GradH.τ).loc Cert.GradH.main_arg0)
      ∧ r.2.mem ((c.tc : Thread Cert.GradH.nD Cert.GradH.τ).loc Cert.GradH.main_arg1) = m ((c.tc : Thread Cert.GradH.nD Cert.GradH.τ).loc Cert.GradH.main_arg1))
      ∧ r.2.sem = fun _ => 0)

def quiescent_GradHIdeal [hGradHIdeal : Cert.GradHIdeal.Facts] : Prop :=
  ∀ (m : (ℓ : Loc Cert.GradHIdeal.nD Cert.GradHIdeal.τ Cert.GradHIdeal.sig) → Buf (Elt Ideal) ℓ) (g : Dev Cert.GradHIdeal.nD → PrngReg), Pre_GradHIdeal m →
    θ_run (Cert.GradHIdeal.defs (F := Ideal)) (onTc (τ := Cert.GradHIdeal.τ) (Cert.GradHIdeal.main (F := Ideal))) ⟨m, fun _ => 0, g⟩ (fun r => (∀ c : Dev Cert.GradHIdeal.nD,
      r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
      ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1))
      ∧ r.2.sem = fun _ => 0)

def quiescent_GradHReferenceIdeal [hGradHReferenceIdeal : Cert.GradHReferenceIdeal.Facts] : Prop :=
  ∀ (m : (ℓ : Loc Cert.GradHReferenceIdeal.nD Cert.GradHReferenceIdeal.τ Cert.GradHReferenceIdeal.sig) → Buf (Elt Ideal) ℓ) (g : Dev Cert.GradHReferenceIdeal.nD → PrngReg), Pre_GradHReferenceIdeal m →
    θ_run (Cert.GradHReferenceIdeal.defs (F := Ideal)) (onTc (τ := Cert.GradHReferenceIdeal.τ) (Cert.GradHReferenceIdeal.main (F := Ideal))) ⟨m, fun _ => 0, g⟩ (fun r => (∀ c : Dev Cert.GradHReferenceIdeal.nD,
      r.2.mem ((c.tc : Thread Cert.GradHReferenceIdeal.nD Cert.GradHReferenceIdeal.τ).loc Cert.GradHReferenceIdeal.main_arg0) = m ((c.tc : Thread Cert.GradHReferenceIdeal.nD Cert.GradHReferenceIdeal.τ).loc Cert.GradHReferenceIdeal.main_arg0)
      ∧ r.2.mem ((c.tc : Thread Cert.GradHReferenceIdeal.nD Cert.GradHReferenceIdeal.τ).loc Cert.GradHReferenceIdeal.main_arg1) = m ((c.tc : Thread Cert.GradHReferenceIdeal.nD Cert.GradHReferenceIdeal.τ).loc Cert.GradHReferenceIdeal.main_arg1))
      ∧ r.2.sem = fun _ => 0)

def quiescent_SumCores [hSumCores : Cert.SumCores.Facts] : Prop :=
  ∀ (m : (ℓ : Loc Cert.SumCores.nD Cert.SumCores.τ Cert.SumCores.sig) → Buf (Elt Bits) ℓ) (g : Dev Cert.SumCores.nD → PrngReg), Pre_SumCores m →
    θ_run (Cert.SumCores.defs (F := Bits)) (onTc (τ := Cert.SumCores.τ) (Cert.SumCores.main (F := Bits))) ⟨m, fun _ => 0, g⟩ (fun r => (∀ c : Dev Cert.SumCores.nD,
      r.2.mem ((c.tc : Thread Cert.SumCores.nD Cert.SumCores.τ).loc Cert.SumCores.main_arg0) = m ((c.tc : Thread Cert.SumCores.nD Cert.SumCores.τ).loc Cert.SumCores.main_arg0)
      ∧ r.2.mem ((c.tc : Thread Cert.SumCores.nD Cert.SumCores.τ).loc Cert.SumCores.main_arg1) = m ((c.tc : Thread Cert.SumCores.nD Cert.SumCores.τ).loc Cert.SumCores.main_arg1))
      ∧ r.2.sem = fun _ => 0)

def quiescent_SumCoresIdeal [hSumCoresIdeal : Cert.SumCoresIdeal.Facts] : Prop :=
  ∀ (m : (ℓ : Loc Cert.SumCoresIdeal.nD Cert.SumCoresIdeal.τ Cert.SumCoresIdeal.sig) → Buf (Elt Ideal) ℓ) (g : Dev Cert.SumCoresIdeal.nD → PrngReg), Pre_SumCoresIdeal m →
    θ_run (Cert.SumCoresIdeal.defs (F := Ideal)) (onTc (τ := Cert.SumCoresIdeal.τ) (Cert.SumCoresIdeal.main (F := Ideal))) ⟨m, fun _ => 0, g⟩ (fun r => (∀ c : Dev Cert.SumCoresIdeal.nD,
      r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0)
      ∧ r.2.mem ((c.tc : Thread Cert.SumCoresIdeal.nD Cert.SumCoresIdeal.τ).loc Cert.SumCoresIdeal.main_arg1) = m ((c.tc : Thread Cert.SumCoresIdeal.nD Cert.SumCoresIdeal.τ).loc Cert.SumCoresIdeal.main_arg1))
      ∧ r.2.sem = fun _ => 0)

def quiescent_SumCoresReferenceIdeal [hSumCoresReferenceIdeal : Cert.SumCoresReferenceIdeal.Facts] : Prop :=
  ∀ (m : (ℓ : Loc Cert.SumCoresReferenceIdeal.nD Cert.SumCoresReferenceIdeal.τ Cert.SumCoresReferenceIdeal.sig) → Buf (Elt Ideal) ℓ) (g : Dev Cert.SumCoresReferenceIdeal.nD → PrngReg), Pre_SumCoresReferenceIdeal m →
    θ_run (Cert.SumCoresReferenceIdeal.defs (F := Ideal)) (onTc (τ := Cert.SumCoresReferenceIdeal.τ) (Cert.SumCoresReferenceIdeal.main (F := Ideal))) ⟨m, fun _ => 0, g⟩ (fun r => (∀ c : Dev Cert.SumCoresReferenceIdeal.nD,
      r.2.mem ((c.tc : Thread Cert.SumCoresReferenceIdeal.nD Cert.SumCoresReferenceIdeal.τ).loc Cert.SumCoresReferenceIdeal.main_arg0) = m ((c.tc : Thread Cert.SumCoresReferenceIdeal.nD Cert.SumCoresReferenceIdeal.τ).loc Cert.SumCoresReferenceIdeal.main_arg0)
      ∧ r.2.mem ((c.tc : Thread Cert.SumCoresReferenceIdeal.nD Cert.SumCoresReferenceIdeal.τ).loc Cert.SumCoresReferenceIdeal.main_arg1) = m ((c.tc : Thread Cert.SumCoresReferenceIdeal.nD Cert.SumCoresReferenceIdeal.τ).loc Cert.SumCoresReferenceIdeal.main_arg1))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsReferenceIdeal [hSumChipsReferenceIdeal : Cert.SumChipsReferenceIdeal.Facts] : Prop :=
  ∀ (m : (ℓ : Loc Cert.SumChipsReferenceIdeal.nD Cert.SumChipsReferenceIdeal.τ Cert.SumChipsReferenceIdeal.sig) → Buf (Elt Ideal) ℓ) (g : Dev Cert.SumChipsReferenceIdeal.nD → PrngReg), Pre_SumChipsReferenceIdeal m →
    θ_run (Cert.SumChipsReferenceIdeal.defs (F := Ideal)) (onTc (τ := Cert.SumChipsReferenceIdeal.τ) (Cert.SumChipsReferenceIdeal.main (F := Ideal))) ⟨m, fun _ => 0, g⟩ (fun r => (∀ c : Dev Cert.SumChipsReferenceIdeal.nD,
      r.2.mem ((c.tc : Thread Cert.SumChipsReferenceIdeal.nD Cert.SumChipsReferenceIdeal.τ).loc Cert.SumChipsReferenceIdeal.main_arg0) = m ((c.tc : Thread Cert.SumChipsReferenceIdeal.nD Cert.SumChipsReferenceIdeal.τ).loc Cert.SumChipsReferenceIdeal.main_arg0))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInReferenceIdeal [hCastInReferenceIdeal : Cert.CastInReferenceIdeal.Facts] : Prop :=
  ∀ (m : (ℓ : Loc Cert.CastInReferenceIdeal.nD Cert.CastInReferenceIdeal.τ Cert.CastInReferenceIdeal.sig) → Buf (Elt Ideal) ℓ) (g : Dev Cert.CastInReferenceIdeal.nD → PrngReg), Pre_CastInReferenceIdeal m →
    θ_run (Cert.CastInReferenceIdeal.defs (F := Ideal)) (onTc (τ := Cert.CastInReferenceIdeal.τ) (Cert.CastInReferenceIdeal.main (F := Ideal))) ⟨m, fun _ => 0, g⟩ (fun r => (∀ c : Dev Cert.CastInReferenceIdeal.nD,
      r.2.mem ((c.tc : Thread Cert.CastInReferenceIdeal.nD Cert.CastInReferenceIdeal.τ).loc Cert.CastInReferenceIdeal.main_arg0) = m ((c.tc : Thread Cert.CastInReferenceIdeal.nD Cert.CastInReferenceIdeal.τ).loc Cert.CastInReferenceIdeal.main_arg0))
      ∧ r.2.sem = fun _ => 0)

def quiescent_CastInReference [hCastInReference : Cert.CastInReference.Facts] : Prop :=
  ∀ (m : (ℓ : Loc Cert.CastInReference.nD Cert.CastInReference.τ Cert.CastInReference.sig) → Buf (Elt Bits) ℓ) (g : Dev Cert.CastInReference.nD → PrngReg), Pre_CastInReference m →
    θ_run (Cert.CastInReference.defs (F := Bits)) (onTc (τ := Cert.CastInReference.τ) (Cert.CastInReference.main (F := Bits))) ⟨m, fun _ => 0, g⟩ (fun r => (∀ c : Dev Cert.CastInReference.nD,
      r.2.mem ((c.tc : Thread Cert.CastInReference.nD Cert.CastInReference.τ).loc Cert.CastInReference.main_arg0) = m ((c.tc : Thread Cert.CastInReference.nD Cert.CastInReference.τ).loc Cert.CastInReference.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutReferenceIdeal [hCastOutReferenceIdeal : Cert.CastOutReferenceIdeal.Facts] : Prop :=
  ∀ (m : (ℓ : Loc Cert.CastOutReferenceIdeal.nD Cert.CastOutReferenceIdeal.τ Cert.CastOutReferenceIdeal.sig) → Buf (Elt Ideal) ℓ) (g : Dev Cert.CastOutReferenceIdeal.nD → PrngReg), Pre_CastOutReferenceIdeal m →
    θ_run (Cert.CastOutReferenceIdeal.defs (F := Ideal)) (onTc (τ := Cert.CastOutReferenceIdeal.τ) (Cert.CastOutReferenceIdeal.main (F := Ideal))) ⟨m, fun _ => 0, g⟩ (fun r => (∀ c : Dev Cert.CastOutReferenceIdeal.nD,
      r.2.mem ((c.tc : Thread Cert.CastOutReferenceIdeal.nD Cert.CastOutReferenceIdeal.τ).loc Cert.CastOutReferenceIdeal.main_arg0) = m ((c.tc : Thread Cert.CastOutReferenceIdeal.nD Cert.CastOutReferenceIdeal.τ).loc Cert.CastOutReferenceIdeal.main_arg0))
      ∧ r.2.sem = fun _ => 0)

def quiescent_CastOutReference [hCastOutReference : Cert.CastOutReference.Facts] : Prop :=
  ∀ (m : (ℓ : Loc Cert.CastOutReference.nD Cert.CastOutReference.τ Cert.CastOutReference.sig) → Buf (Elt Bits) ℓ) (g : Dev Cert.CastOutReference.nD → PrngReg), Pre_CastOutReference m →
    θ_run (Cert.CastOutReference.defs (F := Bits)) (onTc (τ := Cert.CastOutReference.τ) (Cert.CastOutReference.main (F := Bits))) ⟨m, fun _ => 0, g⟩ (fun r => (∀ c : Dev Cert.CastOutReference.nD,
      r.2.mem ((c.tc : Thread Cert.CastOutReference.nD Cert.CastOutReference.τ).loc Cert.CastOutReference.main_arg0) = m ((c.tc : Thread Cert.CastOutReference.nD Cert.CastOutReference.τ).loc Cert.CastOutReference.main_arg0))
      ∧ r.2.sem = fun _ => 0)

def quiescent_PairIn [hPairIn : Cert.PairIn.Facts] [hPre_a_core : Cert.Pre_a_core.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1)
      ∧ r.2.mem ((c.tc : Thread Cert.PairIn.nD Cert.PairIn.τ).loc Cert.PairIn.main_arg2) = m ((c.tc : Thread Cert.PairIn.nD Cert.PairIn.τ).loc Cert.PairIn.main_arg2))
      ∧ r.2.sem = fun _ => 0)

def quiescent_PairInIdeal [hPairInIdeal : Cert.PairInIdeal.Facts] [hPre_a_core : Cert.Pre_a_core.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
      ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ r.2.sem = fun _ => 0)

def quiescent_PairInReferenceIdeal [hPairInReferenceIdeal : Cert.PairInReferenceIdeal.Facts] : Prop :=
  ∀ (m : (ℓ : Loc Cert.PairInReferenceIdeal.nD Cert.PairInReferenceIdeal.τ Cert.PairInReferenceIdeal.sig) → Buf (Elt Ideal) ℓ) (g : Dev Cert.PairInReferenceIdeal.nD → PrngReg), Pre_PairInReferenceIdeal m →
    θ_run (Cert.PairInReferenceIdeal.defs (F := Ideal)) (onTc (τ := Cert.PairInReferenceIdeal.τ) (Cert.PairInReferenceIdeal.main (F := Ideal))) ⟨m, fun _ => 0, g⟩ (fun r => (∀ c : Dev Cert.PairInReferenceIdeal.nD,
      r.2.mem ((c.tc : Thread Cert.PairInReferenceIdeal.nD Cert.PairInReferenceIdeal.τ).loc Cert.PairInReferenceIdeal.main_arg0) = m ((c.tc : Thread Cert.PairInReferenceIdeal.nD Cert.PairInReferenceIdeal.τ).loc Cert.PairInReferenceIdeal.main_arg0)
      ∧ r.2.mem ((c.tc : Thread Cert.PairInReferenceIdeal.nD Cert.PairInReferenceIdeal.τ).loc Cert.PairInReferenceIdeal.main_arg1) = m ((c.tc : Thread Cert.PairInReferenceIdeal.nD Cert.PairInReferenceIdeal.τ).loc Cert.PairInReferenceIdeal.main_arg1)
      ∧ r.2.mem ((c.tc : Thread Cert.PairInReferenceIdeal.nD Cert.PairInReferenceIdeal.τ).loc Cert.PairInReferenceIdeal.main_arg2) = m ((c.tc : Thread Cert.PairInReferenceIdeal.nD Cert.PairInReferenceIdeal.τ).loc Cert.PairInReferenceIdeal.main_arg2))
      ∧ r.2.sem = fun _ => 0)

def quiescent_PairInReferenceIdeal_pre_a_core [hPairInReferenceIdeal : Cert.PairInReferenceIdeal.Facts] [hPre_a_core : Cert.Pre_a_core.Facts] : Prop :=
  ∀ (m : (ℓ : Loc Cert.PairInReferenceIdeal.nD Cert.PairInReferenceIdeal.τ Cert.PairInReferenceIdeal.sig) → Buf (Elt Ideal) ℓ) (g : Dev Cert.PairInReferenceIdeal.nD → PrngReg), Pre_PairInReferenceIdeal_a_core m →
    θ_run (Cert.PairInReferenceIdeal.defs (F := Ideal)) (onTc (τ := Cert.PairInReferenceIdeal.τ) (Cert.PairInReferenceIdeal.main (F := Ideal))) ⟨m, fun _ => 0, g⟩ (fun r => (∀ c : Dev Cert.PairInReferenceIdeal.nD,
      r.2.mem ((c.tc : Thread Cert.PairInReferenceIdeal.nD Cert.PairInReferenceIdeal.τ).loc Cert.PairInReferenceIdeal.main_arg0) = m ((c.tc : Thread Cert.PairInReferenceIdeal.nD Cert.PairInReferenceIdeal.τ).loc Cert.PairInReferenceIdeal.main_arg0)
      ∧ r.2.mem ((c.tc : Thread Cert.PairInReferenceIdeal.nD Cert.PairInReferenceIdeal.τ).loc Cert.PairInReferenceIdeal.main_arg1) = m ((c.tc : Thread Cert.PairInReferenceIdeal.nD Cert.PairInReferenceIdeal.τ).loc Cert.PairInReferenceIdeal.main_arg1)
      ∧ r.2.mem ((c.tc : Thread Cert.PairInReferenceIdeal.nD Cert.PairInReferenceIdeal.τ).loc Cert.PairInReferenceIdeal.main_arg2) = m ((c.tc : Thread Cert.PairInReferenceIdeal.nD Cert.PairInReferenceIdeal.τ).loc Cert.PairInReferenceIdeal.main_arg2))
      ∧ r.2.sem = fun _ => 0)

def quiescent_PairInReference [hPairInReference : Cert.PairInReference.Facts] [hPre_a_core : Cert.Pre_a_core.Facts] : Prop :=
  ∀ (m : (ℓ : Loc Cert.PairInReference.nD Cert.PairInReference.τ Cert.PairInReference.sig) → Buf (Elt Bits) ℓ) (g : Dev Cert.PairInReference.nD → PrngReg), Pre_PairInReference m →
    θ_run (Cert.PairInReference.defs (F := Bits)) (onTc (τ := Cert.PairInReference.τ) (Cert.PairInReference.main (F := Bits))) ⟨m, fun _ => 0, g⟩ (fun r => (∀ c : Dev Cert.PairInReference.nD,
      r.2.mem ((c.tc : Thread Cert.PairInReference.nD Cert.PairInReference.τ).loc Cert.PairInReference.main_arg0) = m ((c.tc : Thread Cert.PairInReference.nD Cert.PairInReference.τ).loc Cert.PairInReference.main_arg0)
      ∧ r.2.mem ((c.tc : Thread Cert.PairInReference.nD Cert.PairInReference.τ).loc Cert.PairInReference.main_arg1) = m ((c.tc : Thread Cert.PairInReference.nD Cert.PairInReference.τ).loc Cert.PairInReference.main_arg1)
      ∧ r.2.mem ((c.tc : Thread Cert.PairInReference.nD Cert.PairInReference.τ).loc Cert.PairInReference.main_arg2) = m ((c.tc : Thread Cert.PairInReference.nD Cert.PairInReference.τ).loc Cert.PairInReference.main_arg2))
      ∧ r.2.sem = fun _ => 0)

def quiescent_FourIn [hFourIn : Cert.FourIn.Facts] [hPre_four_chips : Cert.Pre_four_chips.Facts] : Prop :=
  ∀ (m : (ℓ : Loc Cert.FourIn.nD Cert.FourIn.τ Cert.FourIn.sig) → Buf (Elt Bits) ℓ) (g : Dev Cert.FourIn.nD → PrngReg), Pre_FourIn m →
    θ_run (Cert.FourIn.defs (F := Bits)) (onTc (τ := Cert.FourIn.τ) (Cert.FourIn.main (F := Bits))) ⟨m, fun _ => 0, g⟩ (fun r => (∀ c : Dev Cert.FourIn.nD,
      r.2.mem ((c.tc : Thread Cert.FourIn.nD Cert.FourIn.τ).loc Cert.FourIn.main_arg0) = m ((c.tc : Thread Cert.FourIn.nD Cert.FourIn.τ).loc Cert.FourIn.main_arg0)
      ∧ r.2.mem ((c.tc : Thread Cert.FourIn.nD Cert.FourIn.τ).loc Cert.FourIn.main_arg1) = m ((c.tc : Thread Cert.FourIn.nD Cert.FourIn.τ).loc Cert.FourIn.main_arg1)
      ∧ r.2.mem ((c.tc : Thread Cert.FourIn.nD Cert.FourIn.τ).loc Cert.FourIn.main_arg2) = m ((c.tc : Thread Cert.FourIn.nD Cert.FourIn.τ).loc Cert.FourIn.main_arg2))
      ∧ r.2.sem = fun _ => 0)

def quiescent_FourInIdeal [hFourInIdeal : Cert.FourInIdeal.Facts] [hPre_four_chips : Cert.Pre_four_chips.Facts] : Prop :=
  ∀ (m : (ℓ : Loc Cert.FourInIdeal.nD Cert.FourInIdeal.τ Cert.FourInIdeal.sig) → Buf (Elt Ideal) ℓ) (g : Dev Cert.FourInIdeal.nD → PrngReg), Pre_FourInIdeal m →
    θ_run (Cert.FourInIdeal.defs (F := Ideal)) (onTc (τ := Cert.FourInIdeal.τ) (Cert.FourInIdeal.main (F := Ideal))) ⟨m, fun _ => 0, g⟩ (fun r => (∀ c : Dev Cert.FourInIdeal.nD,
      r.2.mem ((c.tc : Thread Cert.FourInIdeal.nD Cert.FourInIdeal.τ).loc Cert.FourInIdeal.main_arg0) = m ((c.tc : Thread Cert.FourInIdeal.nD Cert.FourInIdeal.τ).loc Cert.FourInIdeal.main_arg0)
      ∧ r.2.mem ((c.tc : Thread Cert.FourInIdeal.nD Cert.FourInIdeal.τ).loc Cert.FourInIdeal.main_arg1) = m ((c.tc : Thread Cert.FourInIdeal.nD Cert.FourInIdeal.τ).loc Cert.FourInIdeal.main_arg1)
      ∧ r.2.mem ((c.tc : Thread Cert.FourInIdeal.nD Cert.FourInIdeal.τ).loc Cert.FourInIdeal.main_arg2) = m ((c.tc : Thread Cert.FourInIdeal.nD Cert.FourInIdeal.τ).loc Cert.FourInIdeal.main_arg2))
      ∧ r.2.sem = fun _ => 0)

def quiescent_FourInReferenceIdeal [hFourInReferenceIdeal : Cert.FourInReferenceIdeal.Facts] : Prop :=
  ∀ (m : (ℓ : Loc Cert.FourInReferenceIdeal.nD Cert.FourInReferenceIdeal.τ Cert.FourInReferenceIdeal.sig) → Buf (Elt Ideal) ℓ) (g : Dev Cert.FourInReferenceIdeal.nD → PrngReg), Pre_FourInReferenceIdeal m →
    θ_run (Cert.FourInReferenceIdeal.defs (F := Ideal)) (onTc (τ := Cert.FourInReferenceIdeal.τ) (Cert.FourInReferenceIdeal.main (F := Ideal))) ⟨m, fun _ => 0, g⟩ (fun r => (∀ c : Dev Cert.FourInReferenceIdeal.nD,
      r.2.mem ((c.tc : Thread Cert.FourInReferenceIdeal.nD Cert.FourInReferenceIdeal.τ).loc Cert.FourInReferenceIdeal.main_arg0) = m ((c.tc : Thread Cert.FourInReferenceIdeal.nD Cert.FourInReferenceIdeal.τ).loc Cert.FourInReferenceIdeal.main_arg0)
      ∧ r.2.mem ((c.tc : Thread Cert.FourInReferenceIdeal.nD Cert.FourInReferenceIdeal.τ).loc Cert.FourInReferenceIdeal.main_arg1) = m ((c.tc : Thread Cert.FourInReferenceIdeal.nD Cert.FourInReferenceIdeal.τ).loc Cert.FourInReferenceIdeal.main_arg1)
      ∧ r.2.mem ((c.tc : Thread Cert.FourInReferenceIdeal.nD Cert.FourInReferenceIdeal.τ).loc Cert.FourInReferenceIdeal.main_arg2) = m ((c.tc : Thread Cert.FourInReferenceIdeal.nD Cert.FourInReferenceIdeal.τ).loc Cert.FourInReferenceIdeal.main_arg2))
      ∧ r.2.sem = fun _ => 0)

def quiescent_FourInReferenceIdeal_pre_four_chips [hFourInReferenceIdeal : Cert.FourInReferenceIdeal.Facts] [hPre_four_chips : Cert.Pre_four_chips.Facts] : Prop :=
  ∀ (m : (ℓ : Loc Cert.FourInReferenceIdeal.nD Cert.FourInReferenceIdeal.τ Cert.FourInReferenceIdeal.sig) → Buf (Elt Ideal) ℓ) (g : Dev Cert.FourInReferenceIdeal.nD → PrngReg), Pre_FourInReferenceIdeal_four_chips m →
    θ_run (Cert.FourInReferenceIdeal.defs (F := Ideal)) (onTc (τ := Cert.FourInReferenceIdeal.τ) (Cert.FourInReferenceIdeal.main (F := Ideal))) ⟨m, fun _ => 0, g⟩ (fun r => (∀ c : Dev Cert.FourInReferenceIdeal.nD,
      r.2.mem ((c.tc : Thread Cert.FourInReferenceIdeal.nD Cert.FourInReferenceIdeal.τ).loc Cert.FourInReferenceIdeal.main_arg0) = m ((c.tc : Thread Cert.FourInReferenceIdeal.nD Cert.FourInReferenceIdeal.τ).loc Cert.FourInReferenceIdeal.main_arg0)
      ∧ r.2.mem ((c.tc : Thread Cert.FourInReferenceIdeal.nD Cert.FourInReferenceIdeal.τ).loc Cert.FourInReferenceIdeal.main_arg1) = m ((c.tc : Thread Cert.FourInReferenceIdeal.nD Cert.FourInReferenceIdeal.τ).loc Cert.FourInReferenceIdeal.main_arg1)
      ∧ r.2.mem ((c.tc : Thread Cert.FourInReferenceIdeal.nD Cert.FourInReferenceIdeal.τ).loc Cert.FourInReferenceIdeal.main_arg2) = m ((c.tc : Thread Cert.FourInReferenceIdeal.nD Cert.FourInReferenceIdeal.τ).loc Cert.FourInReferenceIdeal.main_arg2))
      ∧ r.2.sem = fun _ => 0)

def quiescent_FourInReference [hFourInReference : Cert.FourInReference.Facts] [hPre_four_chips : Cert.Pre_four_chips.Facts] : Prop :=
  ∀ (m : (ℓ : Loc Cert.FourInReference.nD Cert.FourInReference.τ Cert.FourInReference.sig) → Buf (Elt Bits) ℓ) (g : Dev Cert.FourInReference.nD → PrngReg), Pre_FourInReference m →
    θ_run (Cert.FourInReference.defs (F := Bits)) (onTc (τ := Cert.FourInReference.τ) (Cert.FourInReference.main (F := Bits))) ⟨m, fun _ => 0, g⟩ (fun r => (∀ c : Dev Cert.FourInReference.nD,
      r.2.mem ((c.tc : Thread Cert.FourInReference.nD Cert.FourInReference.τ).loc Cert.FourInReference.main_arg0) = m ((c.tc : Thread Cert.FourInReference.nD Cert.FourInReference.τ).loc Cert.FourInReference.main_arg0)
      ∧ r.2.mem ((c.tc : Thread Cert.FourInReference.nD Cert.FourInReference.τ).loc Cert.FourInReference.main_arg1) = m ((c.tc : Thread Cert.FourInReference.nD Cert.FourInReference.τ).loc Cert.FourInReference.main_arg1)
      ∧ r.2.mem ((c.tc : Thread Cert.FourInReference.nD Cert.FourInReference.τ).loc Cert.FourInReference.main_arg2) = m ((c.tc : Thread Cert.FourInReference.nD Cert.FourInReference.τ).loc Cert.FourInReference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1664]⟩ ⟨2, ![1024, 6656]⟩ (Layout.meshBlock [2, 2, 2] ![[], [0, 1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 1024]⟩ ⟨2, ![1024, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![256, 1024]⟩ ⟨2, ![1024, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![256, 1024]⟩ ⟨2, ![1024, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![4, 256]⟩ ⟨2, ![4, 1024]⟩ (Layout.meshBlock [2, 2, 2] ![[], [0, 1]] c) (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v4)) (v2 : Buf (Elt Ideal) (((0 : Dev Cert.ReferenceIdeal.nD).tc : Thread Cert.ReferenceIdeal.nD Cert.ReferenceIdeal.τ).loc Cert.ReferenceIdeal.main_v5)) (v3 : Buf (Elt Ideal) (((0 : Dev Cert.ReferenceIdeal.nD).tc : Thread Cert.ReferenceIdeal.nD Cert.ReferenceIdeal.τ).loc Cert.ReferenceIdeal.main_v6)) (v4 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v4) = v1
          ∧ r.2.mem (((0 : Dev Cert.ReferenceIdeal.nD).tc : Thread Cert.ReferenceIdeal.nD Cert.ReferenceIdeal.τ).loc Cert.ReferenceIdeal.main_v5) = v2
          ∧ r.2.mem (((0 : Dev Cert.ReferenceIdeal.nD).tc : Thread Cert.ReferenceIdeal.nD Cert.ReferenceIdeal.τ).loc Cert.ReferenceIdeal.main_v6) = v3
          ∧ r.2.mem (((0 : Dev Cert.ReferenceIdeal.nD).tc : Thread Cert.ReferenceIdeal.nD Cert.ReferenceIdeal.τ).loc Cert.ReferenceIdeal.main_v3) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 1664]⟩ ⟨2, ![1024, 6656]⟩ (Layout.meshBlock [2, 2, 2] ![[], [0, 1]] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.blockN ⟨2, ![256, 1024]⟩ ⟨2, ![1024, 1024]⟩ (Layout.meshBlock [2, 2, 2] ![[0, 1], []] c) (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.blockN ⟨2, ![256, 1024]⟩ ⟨2, ![1024, 1024]⟩ (Layout.meshBlock [2, 2, 2] ![[0, 1], []] c) (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.blockN ⟨2, ![256, 1024]⟩ ⟨2, ![1024, 1024]⟩ (Layout.meshBlock [2, 2, 2] ![[0, 1], []] c) (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.blockN ⟨2, ![4, 256]⟩ ⟨2, ![4, 1024]⟩ (Layout.meshBlock [2, 2, 2] ![[], [0, 1]] c) (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v4)) (v2 : Buf (Elt Bits) (((0 : Dev Cert.Reference.nD).tc : Thread Cert.Reference.nD Cert.Reference.τ).loc Cert.Reference.main_v5)) (v3 : Buf (Elt Bits) (((0 : Dev Cert.Reference.nD).tc : Thread Cert.Reference.nD Cert.Reference.τ).loc Cert.Reference.main_v6)) (v4 : Buf (Elt Bits) (((0 : Dev Cert.Reference.nD).tc : Thread Cert.Reference.nD Cert.Reference.τ).loc Cert.Reference.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v4) = v1
          ∧ r.2.mem (((0 : Dev Cert.Reference.nD).tc : Thread Cert.Reference.nD Cert.Reference.τ).loc Cert.Reference.main_v5) = v2
          ∧ r.2.mem (((0 : Dev Cert.Reference.nD).tc : Thread Cert.Reference.nD Cert.Reference.τ).loc Cert.Reference.main_v6) = v3
          ∧ r.2.mem (((0 : Dev Cert.Reference.nD).tc : Thread Cert.Reference.nD Cert.Reference.τ).loc Cert.Reference.main_v3) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Swap_SwapIdeal : Prop :=
  True

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 1024, 1664]⟩ ⟨3, ![32, 1024, 1664]⟩ 0 8 c (m' (((0 : Dev Cert.SwapReferenceIdeal.nD).tc : Thread Cert.SwapReferenceIdeal.nD Cert.SwapReferenceIdeal.τ).loc Cert.SwapReferenceIdeal.main_arg0))
      ∧ m ((c.tc : Thread Cert.SwapIdeal.nD Cert.SwapIdeal.τ).loc Cert.SwapIdeal.main_arg1) = Layout.block ⟨3, ![4, 256, 1024]⟩ ⟨3, ![32, 256, 1024]⟩ 0 8 c (m' (((0 : Dev Cert.SwapReferenceIdeal.nD).tc : Thread Cert.SwapReferenceIdeal.nD Cert.SwapReferenceIdeal.τ).loc Cert.SwapReferenceIdeal.main_arg1))
      ∧ m ((c.tc : Thread Cert.SwapIdeal.nD Cert.SwapIdeal.τ).loc Cert.SwapIdeal.main_arg2) = Layout.block ⟨3, ![4, 256, 1024]⟩ ⟨3, ![32, 256, 1024]⟩ 0 8 c (m' (((0 : Dev Cert.SwapReferenceIdeal.nD).tc : Thread Cert.SwapReferenceIdeal.nD Cert.SwapReferenceIdeal.τ).loc Cert.SwapReferenceIdeal.main_arg2))
      ∧ m ((c.tc : Thread Cert.SwapIdeal.nD Cert.SwapIdeal.τ).loc Cert.SwapIdeal.main_arg3) = Layout.block ⟨3, ![4, 256, 1024]⟩ ⟨3, ![32, 256, 1024]⟩ 0 8 c (m' (((0 : Dev Cert.SwapReferenceIdeal.nD).tc : Thread Cert.SwapReferenceIdeal.nD Cert.SwapReferenceIdeal.τ).loc Cert.SwapReferenceIdeal.main_arg3))
      ∧ m ((c.tc : Thread Cert.SwapIdeal.nD Cert.SwapIdeal.τ).loc Cert.SwapIdeal.main_arg4) = Layout.block ⟨2, ![2144, 128]⟩ ⟨2, ![17152, 128]⟩ 0 8 c (m' (((0 : Dev Cert.SwapReferenceIdeal.nD).tc : Thread Cert.SwapReferenceIdeal.nD Cert.SwapReferenceIdeal.τ).loc Cert.SwapReferenceIdeal.main_arg4))) →
    ∃ (v0 : Buf (Elt Ideal) (((0 : Dev Cert.SwapReferenceIdeal.nD).tc : Thread Cert.SwapReferenceIdeal.nD Cert.SwapReferenceIdeal.τ).loc Cert.SwapReferenceIdeal.main_v9)) (v1 : Buf (Elt Ideal) (((0 : Dev Cert.SwapReferenceIdeal.nD).tc : Thread Cert.SwapReferenceIdeal.nD Cert.SwapReferenceIdeal.τ).loc Cert.SwapReferenceIdeal.main_v18)) (v2 : Buf (Elt Ideal) (((0 : Dev Cert.SwapReferenceIdeal.nD).tc : Thread Cert.SwapReferenceIdeal.nD Cert.SwapReferenceIdeal.τ).loc Cert.SwapReferenceIdeal.main_v27)) (v3 : Buf (Elt Ideal) (((0 : Dev Cert.SwapReferenceIdeal.nD).tc : Thread Cert.SwapReferenceIdeal.nD Cert.SwapReferenceIdeal.τ).loc Cert.SwapReferenceIdeal.main_v36)) (v4 : Buf (Elt Ideal) (((0 : Dev Cert.SwapReferenceIdeal.nD).tc : Thread Cert.SwapReferenceIdeal.nD Cert.SwapReferenceIdeal.τ).loc Cert.SwapReferenceIdeal.main_v44)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 512, 1664]⟩ ⟨3, ![32, 512, 1664]⟩ 0 8 c v0
          ∧ r.2.mem ((c.tc : Thread Cert.SwapIdeal.nD Cert.SwapIdeal.τ).loc Cert.SwapIdeal.main_v1_1) = Layout.block ⟨3, ![4, 128, 1024]⟩ ⟨3, ![32, 128, 1024]⟩ 0 8 c v1
          ∧ r.2.mem ((c.tc : Thread Cert.SwapIdeal.nD Cert.SwapIdeal.τ).loc Cert.SwapIdeal.main_v1_2) = Layout.block ⟨3, ![4, 128, 1024]⟩ ⟨3, ![32, 128, 1024]⟩ 0 8 c v2
          ∧ r.2.mem ((c.tc : Thread Cert.SwapIdeal.nD Cert.SwapIdeal.τ).loc Cert.SwapIdeal.main_v1_3) = Layout.block ⟨3, ![4, 128, 1024]⟩ ⟨3, ![32, 128, 1024]⟩ 0 8 c v3
          ∧ r.2.mem ((c.tc : Thread Cert.SwapIdeal.nD Cert.SwapIdeal.τ).loc Cert.SwapIdeal.main_v1_4) = Layout.block ⟨2, ![2144, 128]⟩ ⟨2, ![17152, 128]⟩ 0 8 c v4
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
          ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v9) = v0
          ∧ r.2.mem (((0 : Dev Cert.SwapReferenceIdeal.nD).tc : Thread Cert.SwapReferenceIdeal.nD Cert.SwapReferenceIdeal.τ).loc Cert.SwapReferenceIdeal.main_v18) = v1
          ∧ r.2.mem (((0 : Dev Cert.SwapReferenceIdeal.nD).tc : Thread Cert.SwapReferenceIdeal.nD Cert.SwapReferenceIdeal.τ).loc Cert.SwapReferenceIdeal.main_v27) = v2
          ∧ r.2.mem (((0 : Dev Cert.SwapReferenceIdeal.nD).tc : Thread Cert.SwapReferenceIdeal.nD Cert.SwapReferenceIdeal.τ).loc Cert.SwapReferenceIdeal.main_v36) = v3
          ∧ r.2.mem (((0 : Dev Cert.SwapReferenceIdeal.nD).tc : Thread Cert.SwapReferenceIdeal.nD Cert.SwapReferenceIdeal.τ).loc Cert.SwapReferenceIdeal.main_v44) = v4
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0)
          ∧ r.2.mem (((0 : Dev Cert.SwapReferenceIdeal.nD).tc : Thread Cert.SwapReferenceIdeal.nD Cert.SwapReferenceIdeal.τ).loc Cert.SwapReferenceIdeal.main_arg1) = m' (((0 : Dev Cert.SwapReferenceIdeal.nD).tc : Thread Cert.SwapReferenceIdeal.nD Cert.SwapReferenceIdeal.τ).loc Cert.SwapReferenceIdeal.main_arg1)
          ∧ r.2.mem (((0 : Dev Cert.SwapReferenceIdeal.nD).tc : Thread Cert.SwapReferenceIdeal.nD Cert.SwapReferenceIdeal.τ).loc Cert.SwapReferenceIdeal.main_arg2) = m' (((0 : Dev Cert.SwapReferenceIdeal.nD).tc : Thread Cert.SwapReferenceIdeal.nD Cert.SwapReferenceIdeal.τ).loc Cert.SwapReferenceIdeal.main_arg2)
          ∧ r.2.mem (((0 : Dev Cert.SwapReferenceIdeal.nD).tc : Thread Cert.SwapReferenceIdeal.nD Cert.SwapReferenceIdeal.τ).loc Cert.SwapReferenceIdeal.main_arg3) = m' (((0 : Dev Cert.SwapReferenceIdeal.nD).tc : Thread Cert.SwapReferenceIdeal.nD Cert.SwapReferenceIdeal.τ).loc Cert.SwapReferenceIdeal.main_arg3)
          ∧ r.2.mem (((0 : Dev Cert.SwapReferenceIdeal.nD).tc : Thread Cert.SwapReferenceIdeal.nD Cert.SwapReferenceIdeal.τ).loc Cert.SwapReferenceIdeal.main_arg4) = m' (((0 : Dev Cert.SwapReferenceIdeal.nD).tc : Thread Cert.SwapReferenceIdeal.nD Cert.SwapReferenceIdeal.τ).loc Cert.SwapReferenceIdeal.main_arg4))

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨3, ![4, 1024, 1664]⟩ ⟨3, ![32, 1024, 1664]⟩ 0 8 c (m' (((0 : Dev Cert.SwapReference.nD).tc : Thread Cert.SwapReference.nD Cert.SwapReference.τ).loc Cert.SwapReference.main_arg0))
      ∧ m ((c.tc : Thread Cert.Swap.nD Cert.Swap.τ).loc Cert.Swap.main_arg1) = Layout.block ⟨3, ![4, 256, 1024]⟩ ⟨3, ![32, 256, 1024]⟩ 0 8 c (m' (((0 : Dev Cert.SwapReference.nD).tc : Thread Cert.SwapReference.nD Cert.SwapReference.τ).loc Cert.SwapReference.main_arg1))
      ∧ m ((c.tc : Thread Cert.Swap.nD Cert.Swap.τ).loc Cert.Swap.main_arg2) = Layout.block ⟨3, ![4, 256, 1024]⟩ ⟨3, ![32, 256, 1024]⟩ 0 8 c (m' (((0 : Dev Cert.SwapReference.nD).tc : Thread Cert.SwapReference.nD Cert.SwapReference.τ).loc Cert.SwapReference.main_arg2))
      ∧ m ((c.tc : Thread Cert.Swap.nD Cert.Swap.τ).loc Cert.Swap.main_arg3) = Layout.block ⟨3, ![4, 256, 1024]⟩ ⟨3, ![32, 256, 1024]⟩ 0 8 c (m' (((0 : Dev Cert.SwapReference.nD).tc : Thread Cert.SwapReference.nD Cert.SwapReference.τ).loc Cert.SwapReference.main_arg3))
      ∧ m ((c.tc : Thread Cert.Swap.nD Cert.Swap.τ).loc Cert.Swap.main_arg4) = Layout.block ⟨2, ![2144, 128]⟩ ⟨2, ![17152, 128]⟩ 0 8 c (m' (((0 : Dev Cert.SwapReference.nD).tc : Thread Cert.SwapReference.nD Cert.SwapReference.τ).loc Cert.SwapReference.main_arg4))) →
    ∃ (v0 : Buf (Elt Bits) (((0 : Dev Cert.SwapReference.nD).tc : Thread Cert.SwapReference.nD Cert.SwapReference.τ).loc Cert.SwapReference.main_v9)) (v1 : Buf (Elt Bits) (((0 : Dev Cert.SwapReference.nD).tc : Thread Cert.SwapReference.nD Cert.SwapReference.τ).loc Cert.SwapReference.main_v18)) (v2 : Buf (Elt Bits) (((0 : Dev Cert.SwapReference.nD).tc : Thread Cert.SwapReference.nD Cert.SwapReference.τ).loc Cert.SwapReference.main_v27)) (v3 : Buf (Elt Bits) (((0 : Dev Cert.SwapReference.nD).tc : Thread Cert.SwapReference.nD Cert.SwapReference.τ).loc Cert.SwapReference.main_v36)) (v4 : Buf (Elt Bits) (((0 : Dev Cert.SwapReference.nD).tc : Thread Cert.SwapReference.nD Cert.SwapReference.τ).loc Cert.SwapReference.main_v44)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 512, 1664]⟩ ⟨3, ![32, 512, 1664]⟩ 0 8 c v0
          ∧ r.2.mem ((c.tc : Thread Cert.Swap.nD Cert.Swap.τ).loc Cert.Swap.main_v1_1) = Layout.block ⟨3, ![4, 128, 1024]⟩ ⟨3, ![32, 128, 1024]⟩ 0 8 c v1
          ∧ r.2.mem ((c.tc : Thread Cert.Swap.nD Cert.Swap.τ).loc Cert.Swap.main_v1_2) = Layout.block ⟨3, ![4, 128, 1024]⟩ ⟨3, ![32, 128, 1024]⟩ 0 8 c v2
          ∧ r.2.mem ((c.tc : Thread Cert.Swap.nD Cert.Swap.τ).loc Cert.Swap.main_v1_3) = Layout.block ⟨3, ![4, 128, 1024]⟩ ⟨3, ![32, 128, 1024]⟩ 0 8 c v3
          ∧ r.2.mem ((c.tc : Thread Cert.Swap.nD Cert.Swap.τ).loc Cert.Swap.main_v1_4) = Layout.block ⟨2, ![2144, 128]⟩ ⟨2, ![17152, 128]⟩ 0 8 c v4
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2)
          ∧ r.2.mem ((c.tc : Thread Cert.Swap.nD Cert.Swap.τ).loc Cert.Swap.main_arg3) = m ((c.tc : Thread Cert.Swap.nD Cert.Swap.τ).loc Cert.Swap.main_arg3)
          ∧ r.2.mem ((c.tc : Thread Cert.Swap.nD Cert.Swap.τ).loc Cert.Swap.main_arg4) = m ((c.tc : Thread Cert.Swap.nD Cert.Swap.τ).loc Cert.Swap.main_arg4))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v9) = v0
          ∧ r.2.mem (((0 : Dev Cert.SwapReference.nD).tc : Thread Cert.SwapReference.nD Cert.SwapReference.τ).loc Cert.SwapReference.main_v18) = v1
          ∧ r.2.mem (((0 : Dev Cert.SwapReference.nD).tc : Thread Cert.SwapReference.nD Cert.SwapReference.τ).loc Cert.SwapReference.main_v27) = v2
          ∧ r.2.mem (((0 : Dev Cert.SwapReference.nD).tc : Thread Cert.SwapReference.nD Cert.SwapReference.τ).loc Cert.SwapReference.main_v36) = v3
          ∧ r.2.mem (((0 : Dev Cert.SwapReference.nD).tc : Thread Cert.SwapReference.nD Cert.SwapReference.τ).loc Cert.SwapReference.main_v44) = v4
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0)
          ∧ r.2.mem (((0 : Dev Cert.SwapReference.nD).tc : Thread Cert.SwapReference.nD Cert.SwapReference.τ).loc Cert.SwapReference.main_arg1) = m' (((0 : Dev Cert.SwapReference.nD).tc : Thread Cert.SwapReference.nD Cert.SwapReference.τ).loc Cert.SwapReference.main_arg1)
          ∧ r.2.mem (((0 : Dev Cert.SwapReference.nD).tc : Thread Cert.SwapReference.nD Cert.SwapReference.τ).loc Cert.SwapReference.main_arg2) = m' (((0 : Dev Cert.SwapReference.nD).tc : Thread Cert.SwapReference.nD Cert.SwapReference.τ).loc Cert.SwapReference.main_arg2)
          ∧ r.2.mem (((0 : Dev Cert.SwapReference.nD).tc : Thread Cert.SwapReference.nD Cert.SwapReference.τ).loc Cert.SwapReference.main_arg3) = m' (((0 : Dev Cert.SwapReference.nD).tc : Thread Cert.SwapReference.nD Cert.SwapReference.τ).loc Cert.SwapReference.main_arg3)
          ∧ r.2.mem (((0 : Dev Cert.SwapReference.nD).tc : Thread Cert.SwapReference.nD Cert.SwapReference.τ).loc Cert.SwapReference.main_arg4) = m' (((0 : Dev Cert.SwapReference.nD).tc : Thread Cert.SwapReference.nD Cert.SwapReference.τ).loc Cert.SwapReference.main_arg4))

def preserves_Join_JoinIdeal : Prop :=
  True

def algebraic_JoinIdeal_JoinReferenceIdeal [hJoinIdeal : Cert.JoinIdeal.Facts] [hJoinReferenceIdeal : Cert.JoinReferenceIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![512, 1664]⟩ ⟨2, ![4096, 1664]⟩ 0 8 c (m' (((0 : Dev Cert.JoinReferenceIdeal.nD).tc : Thread Cert.JoinReferenceIdeal.nD Cert.JoinReferenceIdeal.τ).loc Cert.JoinReferenceIdeal.main_arg0))
      ∧ m ((c.tc : Thread Cert.JoinIdeal.nD Cert.JoinIdeal.τ).loc Cert.JoinIdeal.main_arg1) = Layout.block ⟨2, ![128, 1024]⟩ ⟨2, ![1024, 1024]⟩ 0 8 c (m' (((0 : Dev Cert.JoinReferenceIdeal.nD).tc : Thread Cert.JoinReferenceIdeal.nD Cert.JoinReferenceIdeal.τ).loc Cert.JoinReferenceIdeal.main_arg1))
      ∧ m ((c.tc : Thread Cert.JoinIdeal.nD Cert.JoinIdeal.τ).loc Cert.JoinIdeal.main_arg2) = Layout.block ⟨2, ![128, 1024]⟩ ⟨2, ![1024, 1024]⟩ 0 8 c (m' (((0 : Dev Cert.JoinReferenceIdeal.nD).tc : Thread Cert.JoinReferenceIdeal.nD Cert.JoinReferenceIdeal.τ).loc Cert.JoinReferenceIdeal.main_arg2))
      ∧ m ((c.tc : Thread Cert.JoinIdeal.nD Cert.JoinIdeal.τ).loc Cert.JoinIdeal.main_arg3) = Layout.block ⟨2, ![128, 1024]⟩ ⟨2, ![1024, 1024]⟩ 0 8 c (m' (((0 : Dev Cert.JoinReferenceIdeal.nD).tc : Thread Cert.JoinReferenceIdeal.nD Cert.JoinReferenceIdeal.τ).loc Cert.JoinReferenceIdeal.main_arg3))
      ∧ m ((c.tc : Thread Cert.JoinIdeal.nD Cert.JoinIdeal.τ).loc Cert.JoinIdeal.main_arg4) = Layout.blockN ⟨2, ![1072, 128]⟩ ⟨2, ![2144, 128]⟩ (Layout.meshBlock [2, 2, 2] ![[2], []] c) (m' (((0 : Dev Cert.JoinReferenceIdeal.nD).tc : Thread Cert.JoinReferenceIdeal.nD Cert.JoinReferenceIdeal.τ).loc Cert.JoinReferenceIdeal.main_arg4))) →
    ∃ (v0 : Buf (Elt Ideal) (((0 : Dev Cert.JoinReferenceIdeal.nD).tc : Thread Cert.JoinReferenceIdeal.nD Cert.JoinReferenceIdeal.τ).loc Cert.JoinReferenceIdeal.main_arg0)) (v1 : Buf (Elt Ideal) (((0 : Dev Cert.JoinReferenceIdeal.nD).tc : Thread Cert.JoinReferenceIdeal.nD Cert.JoinReferenceIdeal.τ).loc Cert.JoinReferenceIdeal.main_arg1)) (v2 : Buf (Elt Ideal) (((0 : Dev Cert.JoinReferenceIdeal.nD).tc : Thread Cert.JoinReferenceIdeal.nD Cert.JoinReferenceIdeal.τ).loc Cert.JoinReferenceIdeal.main_arg2)) (v3 : Buf (Elt Ideal) (((0 : Dev Cert.JoinReferenceIdeal.nD).tc : Thread Cert.JoinReferenceIdeal.nD Cert.JoinReferenceIdeal.τ).loc Cert.JoinReferenceIdeal.main_arg3)) (v4 : Buf (Elt Ideal) (((0 : Dev Cert.JoinReferenceIdeal.nD).tc : Thread Cert.JoinReferenceIdeal.nD Cert.JoinReferenceIdeal.τ).loc Cert.JoinReferenceIdeal.main_arg4)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1_0) = Layout.blockN ⟨2, ![1024, 1664]⟩ ⟨2, ![4096, 1664]⟩ (Layout.meshBlock [2, 2, 2] ![[0, 1], []] c) v0
          ∧ r.2.mem ((c.tc : Thread Cert.JoinIdeal.nD Cert.JoinIdeal.τ).loc Cert.JoinIdeal.main_v1_1) = Layout.blockN ⟨2, ![256, 1024]⟩ ⟨2, ![1024, 1024]⟩ (Layout.meshBlock [2, 2, 2] ![[0, 1], []] c) v1
          ∧ r.2.mem ((c.tc : Thread Cert.JoinIdeal.nD Cert.JoinIdeal.τ).loc Cert.JoinIdeal.main_v1_2) = Layout.blockN ⟨2, ![256, 1024]⟩ ⟨2, ![1024, 1024]⟩ (Layout.meshBlock [2, 2, 2] ![[0, 1], []] c) v2
          ∧ r.2.mem ((c.tc : Thread Cert.JoinIdeal.nD Cert.JoinIdeal.τ).loc Cert.JoinIdeal.main_v1_3) = Layout.blockN ⟨2, ![256, 1024]⟩ ⟨2, ![1024, 1024]⟩ (Layout.meshBlock [2, 2, 2] ![[0, 1], []] c) v3
          ∧ r.2.mem ((c.tc : Thread Cert.JoinIdeal.nD Cert.JoinIdeal.τ).loc Cert.JoinIdeal.main_v1_4) = v4
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ θ_run (Cert.JoinReferenceIdeal.defs (F := Ideal)) (onTc (τ := Cert.JoinReferenceIdeal.τ) (Cert.JoinReferenceIdeal.main (F := Ideal))) ⟨m', fun _ => 0, g'⟩ (fun r =>
          r.2.mem (((0 : Dev Cert.JoinReferenceIdeal.nD).tc : Thread Cert.JoinReferenceIdeal.nD Cert.JoinReferenceIdeal.τ).loc Cert.JoinReferenceIdeal.main_arg0) = v0
          ∧ r.2.mem (((0 : Dev Cert.JoinReferenceIdeal.nD).tc : Thread Cert.JoinReferenceIdeal.nD Cert.JoinReferenceIdeal.τ).loc Cert.JoinReferenceIdeal.main_arg1) = v1
          ∧ r.2.mem (((0 : Dev Cert.JoinReferenceIdeal.nD).tc : Thread Cert.JoinReferenceIdeal.nD Cert.JoinReferenceIdeal.τ).loc Cert.JoinReferenceIdeal.main_arg2) = v2
          ∧ r.2.mem (((0 : Dev Cert.JoinReferenceIdeal.nD).tc : Thread Cert.JoinReferenceIdeal.nD Cert.JoinReferenceIdeal.τ).loc Cert.JoinReferenceIdeal.main_arg3) = v3
          ∧ r.2.mem (((0 : Dev Cert.JoinReferenceIdeal.nD).tc : Thread Cert.JoinReferenceIdeal.nD Cert.JoinReferenceIdeal.τ).loc Cert.JoinReferenceIdeal.main_arg4) = v4
          ∧ r.2.mem (((0 : Dev Cert.JoinReferenceIdeal.nD).tc : Thread Cert.JoinReferenceIdeal.nD Cert.JoinReferenceIdeal.τ).loc Cert.JoinReferenceIdeal.main_arg0) = m' (((0 : Dev Cert.JoinReferenceIdeal.nD).tc : Thread Cert.JoinReferenceIdeal.nD Cert.JoinReferenceIdeal.τ).loc Cert.JoinReferenceIdeal.main_arg0)
          ∧ r.2.mem (((0 : Dev Cert.JoinReferenceIdeal.nD).tc : Thread Cert.JoinReferenceIdeal.nD Cert.JoinReferenceIdeal.τ).loc Cert.JoinReferenceIdeal.main_arg1) = m' (((0 : Dev Cert.JoinReferenceIdeal.nD).tc : Thread Cert.JoinReferenceIdeal.nD Cert.JoinReferenceIdeal.τ).loc Cert.JoinReferenceIdeal.main_arg1)
          ∧ r.2.mem (((0 : Dev Cert.JoinReferenceIdeal.nD).tc : Thread Cert.JoinReferenceIdeal.nD Cert.JoinReferenceIdeal.τ).loc Cert.JoinReferenceIdeal.main_arg2) = m' (((0 : Dev Cert.JoinReferenceIdeal.nD).tc : Thread Cert.JoinReferenceIdeal.nD Cert.JoinReferenceIdeal.τ).loc Cert.JoinReferenceIdeal.main_arg2)
          ∧ r.2.mem (((0 : Dev Cert.JoinReferenceIdeal.nD).tc : Thread Cert.JoinReferenceIdeal.nD Cert.JoinReferenceIdeal.τ).loc Cert.JoinReferenceIdeal.main_arg3) = m' (((0 : Dev Cert.JoinReferenceIdeal.nD).tc : Thread Cert.JoinReferenceIdeal.nD Cert.JoinReferenceIdeal.τ).loc Cert.JoinReferenceIdeal.main_arg3)
          ∧ r.2.mem (((0 : Dev Cert.JoinReferenceIdeal.nD).tc : Thread Cert.JoinReferenceIdeal.nD Cert.JoinReferenceIdeal.τ).loc Cert.JoinReferenceIdeal.main_arg4) = m' (((0 : Dev Cert.JoinReferenceIdeal.nD).tc : Thread Cert.JoinReferenceIdeal.nD Cert.JoinReferenceIdeal.τ).loc Cert.JoinReferenceIdeal.main_arg4))

def bitexact_Join_JoinReference [hJoin : Cert.Join.Facts] [hJoinReference : Cert.JoinReference.Facts] : Prop :=
  ∀ (m : (ℓ : Loc Cert.Join.nD Cert.Join.τ Cert.Join.sig) → Buf (Elt Bits) ℓ) (g : Dev Cert.Join.nD → PrngReg)
    (m' : (ℓ : Loc Cert.JoinReference.nD Cert.JoinReference.τ Cert.JoinReference.sig) → Buf (Elt Bits) ℓ) (g' : Dev Cert.JoinReference.nD → PrngReg), Pre_Join m →
    (∀ c : Dev Cert.Join.nD,
      m ((c.tc : Thread Cert.Join.nD Cert.Join.τ).loc Cert.Join.main_arg0) = Layout.block ⟨2, ![512, 1664]⟩ ⟨2, ![4096, 1664]⟩ 0 8 c (m' (((0 : Dev Cert.JoinReference.nD).tc : Thread Cert.JoinReference.nD Cert.JoinReference.τ).loc Cert.JoinReference.main_arg0))
      ∧ m ((c.tc : Thread Cert.Join.nD Cert.Join.τ).loc Cert.Join.main_arg1) = Layout.block ⟨2, ![128, 1024]⟩ ⟨2, ![1024, 1024]⟩ 0 8 c (m' (((0 : Dev Cert.JoinReference.nD).tc : Thread Cert.JoinReference.nD Cert.JoinReference.τ).loc Cert.JoinReference.main_arg1))
      ∧ m ((c.tc : Thread Cert.Join.nD Cert.Join.τ).loc Cert.Join.main_arg2) = Layout.block ⟨2, ![128, 1024]⟩ ⟨2, ![1024, 1024]⟩ 0 8 c (m' (((0 : Dev Cert.JoinReference.nD).tc : Thread Cert.JoinReference.nD Cert.JoinReference.τ).loc Cert.JoinReference.main_arg2))
      ∧ m ((c.tc : Thread Cert.Join.nD Cert.Join.τ).loc Cert.Join.main_arg3) = Layout.block ⟨2, ![128, 1024]⟩ ⟨2, ![1024, 1024]⟩ 0 8 c (m' (((0 : Dev Cert.JoinReference.nD).tc : Thread Cert.JoinReference.nD Cert.JoinReference.τ).loc Cert.JoinReference.main_arg3))
      ∧ m ((c.tc : Thread Cert.Join.nD Cert.Join.τ).loc Cert.Join.main_arg4) = Layout.blockN ⟨2, ![1072, 128]⟩ ⟨2, ![2144, 128]⟩ (Layout.meshBlock [2, 2, 2] ![[2], []] c) (m' (((0 : Dev Cert.JoinReference.nD).tc : Thread Cert.JoinReference.nD Cert.JoinReference.τ).loc Cert.JoinReference.main_arg4))) →
    ∃ (v0 : Buf (Elt Bits) (((0 : Dev Cert.JoinReference.nD).tc : Thread Cert.JoinReference.nD Cert.JoinReference.τ).loc Cert.JoinReference.main_arg0)) (v1 : Buf (Elt Bits) (((0 : Dev Cert.JoinReference.nD).tc : Thread Cert.JoinReference.nD Cert.JoinReference.τ).loc Cert.JoinReference.main_arg1)) (v2 : Buf (Elt Bits) (((0 : Dev Cert.JoinReference.nD).tc : Thread Cert.JoinReference.nD Cert.JoinReference.τ).loc Cert.JoinReference.main_arg2)) (v3 : Buf (Elt Bits) (((0 : Dev Cert.JoinReference.nD).tc : Thread Cert.JoinReference.nD Cert.JoinReference.τ).loc Cert.JoinReference.main_arg3)) (v4 : Buf (Elt Bits) (((0 : Dev Cert.JoinReference.nD).tc : Thread Cert.JoinReference.nD Cert.JoinReference.τ).loc Cert.JoinReference.main_arg4)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1_0) = Layout.blockN ⟨2, ![1024, 1664]⟩ ⟨2, ![4096, 1664]⟩ (Layout.meshBlock [2, 2, 2] ![[0, 1], []] c) v0
          ∧ r.2.mem ((c.tc : Thread Cert.Join.nD Cert.Join.τ).loc Cert.Join.main_v1_1) = Layout.blockN ⟨2, ![256, 1024]⟩ ⟨2, ![1024, 1024]⟩ (Layout.meshBlock [2, 2, 2] ![[0, 1], []] c) v1
          ∧ r.2.mem ((c.tc : Thread Cert.Join.nD Cert.Join.τ).loc Cert.Join.main_v1_2) = Layout.blockN ⟨2, ![256, 1024]⟩ ⟨2, ![1024, 1024]⟩ (Layout.meshBlock [2, 2, 2] ![[0, 1], []] c) v2
          ∧ r.2.mem ((c.tc : Thread Cert.Join.nD Cert.Join.τ).loc Cert.Join.main_v1_3) = Layout.blockN ⟨2, ![256, 1024]⟩ ⟨2, ![1024, 1024]⟩ (Layout.meshBlock [2, 2, 2] ![[0, 1], []] c) v3
          ∧ r.2.mem ((c.tc : Thread Cert.Join.nD Cert.Join.τ).loc Cert.Join.main_v1_4) = v4
          ∧ r.2.mem ((c.tc : Thread Cert.Join.nD Cert.Join.τ).loc Cert.Join.main_arg0) = m ((c.tc : Thread Cert.Join.nD Cert.Join.τ).loc Cert.Join.main_arg0)
          ∧ r.2.mem ((c.tc : Thread Cert.Join.nD Cert.Join.τ).loc Cert.Join.main_arg1) = m ((c.tc : Thread Cert.Join.nD Cert.Join.τ).loc Cert.Join.main_arg1)
          ∧ r.2.mem ((c.tc : Thread Cert.Join.nD Cert.Join.τ).loc Cert.Join.main_arg2) = m ((c.tc : Thread Cert.Join.nD Cert.Join.τ).loc Cert.Join.main_arg2)
          ∧ r.2.mem ((c.tc : Thread Cert.Join.nD Cert.Join.τ).loc Cert.Join.main_arg3) = m ((c.tc : Thread Cert.Join.nD Cert.Join.τ).loc Cert.Join.main_arg3)
          ∧ r.2.mem ((c.tc : Thread Cert.Join.nD Cert.Join.τ).loc Cert.Join.main_arg4) = m ((c.tc : Thread Cert.Join.nD Cert.Join.τ).loc Cert.Join.main_arg4))
      ∧ θ_run (Cert.JoinReference.defs (F := Bits)) (onTc (τ := Cert.JoinReference.τ) (Cert.JoinReference.main (F := Bits))) ⟨m', fun _ => 0, g'⟩ (fun r =>
          r.2.mem (((0 : Dev Cert.JoinReference.nD).tc : Thread Cert.JoinReference.nD Cert.JoinReference.τ).loc Cert.JoinReference.main_arg0) = v0
          ∧ r.2.mem (((0 : Dev Cert.JoinReference.nD).tc : Thread Cert.JoinReference.nD Cert.JoinReference.τ).loc Cert.JoinReference.main_arg1) = v1
          ∧ r.2.mem (((0 : Dev Cert.JoinReference.nD).tc : Thread Cert.JoinReference.nD Cert.JoinReference.τ).loc Cert.JoinReference.main_arg2) = v2
          ∧ r.2.mem (((0 : Dev Cert.JoinReference.nD).tc : Thread Cert.JoinReference.nD Cert.JoinReference.τ).loc Cert.JoinReference.main_arg3) = v3
          ∧ r.2.mem (((0 : Dev Cert.JoinReference.nD).tc : Thread Cert.JoinReference.nD Cert.JoinReference.τ).loc Cert.JoinReference.main_arg4) = v4
          ∧ r.2.mem (((0 : Dev Cert.JoinReference.nD).tc : Thread Cert.JoinReference.nD Cert.JoinReference.τ).loc Cert.JoinReference.main_arg0) = m' (((0 : Dev Cert.JoinReference.nD).tc : Thread Cert.JoinReference.nD Cert.JoinReference.τ).loc Cert.JoinReference.main_arg0)
          ∧ r.2.mem (((0 : Dev Cert.JoinReference.nD).tc : Thread Cert.JoinReference.nD Cert.JoinReference.τ).loc Cert.JoinReference.main_arg1) = m' (((0 : Dev Cert.JoinReference.nD).tc : Thread Cert.JoinReference.nD Cert.JoinReference.τ).loc Cert.JoinReference.main_arg1)
          ∧ r.2.mem (((0 : Dev Cert.JoinReference.nD).tc : Thread Cert.JoinReference.nD Cert.JoinReference.τ).loc Cert.JoinReference.main_arg2) = m' (((0 : Dev Cert.JoinReference.nD).tc : Thread Cert.JoinReference.nD Cert.JoinReference.τ).loc Cert.JoinReference.main_arg2)
          ∧ r.2.mem (((0 : Dev Cert.JoinReference.nD).tc : Thread Cert.JoinReference.nD Cert.JoinReference.τ).loc Cert.JoinReference.main_arg3) = m' (((0 : Dev Cert.JoinReference.nD).tc : Thread Cert.JoinReference.nD Cert.JoinReference.τ).loc Cert.JoinReference.main_arg3)
          ∧ r.2.mem (((0 : Dev Cert.JoinReference.nD).tc : Thread Cert.JoinReference.nD Cert.JoinReference.τ).loc Cert.JoinReference.main_arg4) = m' (((0 : Dev Cert.JoinReference.nD).tc : Thread Cert.JoinReference.nD Cert.JoinReference.τ).loc Cert.JoinReference.main_arg4))

def preserves_Cross_CrossIdeal : Prop :=
  True

def algebraic_CrossIdeal_CrossReferenceIdeal_on_from_others [hCrossIdeal : Cert.CrossIdeal.Facts] [hCrossReferenceIdeal : Cert.CrossReferenceIdeal.Facts] [hOn_from_others : Cert.On_from_others.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal m →
    (∀ c : Dev Cert.CrossIdeal.nD,
      m ((c.tc : Thread Cert.CrossIdeal.nD Cert.CrossIdeal.τ).loc Cert.CrossIdeal.main_arg0) = Layout.block ⟨3, ![4, 512, 1664]⟩ ⟨3, ![32, 512, 1664]⟩ 0 8 c (m' (((0 : Dev Cert.CrossReferenceIdeal.nD).tc : Thread Cert.CrossReferenceIdeal.nD Cert.CrossReferenceIdeal.τ).loc Cert.CrossReferenceIdeal.main_arg0))
      ∧ m ((c.tc : Thread Cert.CrossIdeal.nD Cert.CrossIdeal.τ).loc Cert.CrossIdeal.main_arg1) = Layout.block ⟨3, ![4, 128, 1024]⟩ ⟨3, ![32, 128, 1024]⟩ 0 8 c (m' (((0 : Dev Cert.CrossReferenceIdeal.nD).tc : Thread Cert.CrossReferenceIdeal.nD Cert.CrossReferenceIdeal.τ).loc Cert.CrossReferenceIdeal.main_arg1))
      ∧ m ((c.tc : Thread Cert.CrossIdeal.nD Cert.CrossIdeal.τ).loc Cert.CrossIdeal.main_arg2) = Layout.block ⟨3, ![4, 128, 1024]⟩ ⟨3, ![32, 128, 1024]⟩ 0 8 c (m' (((0 : Dev Cert.CrossReferenceIdeal.nD).tc : Thread Cert.CrossReferenceIdeal.nD Cert.CrossReferenceIdeal.τ).loc Cert.CrossReferenceIdeal.main_arg2))
      ∧ m ((c.tc : Thread Cert.CrossIdeal.nD Cert.CrossIdeal.τ).loc Cert.CrossIdeal.main_arg3) = Layout.block ⟨3, ![4, 128, 1024]⟩ ⟨3, ![32, 128, 1024]⟩ 0 8 c (m' (((0 : Dev Cert.CrossReferenceIdeal.nD).tc : Thread Cert.CrossReferenceIdeal.nD Cert.CrossReferenceIdeal.τ).loc Cert.CrossReferenceIdeal.main_arg3))
      ∧ m ((c.tc : Thread Cert.CrossIdeal.nD Cert.CrossIdeal.τ).loc Cert.CrossIdeal.main_arg4) = Layout.block ⟨2, ![2144, 128]⟩ ⟨2, ![17152, 128]⟩ 0 8 c (m' (((0 : Dev Cert.CrossReferenceIdeal.nD).tc : Thread Cert.CrossReferenceIdeal.nD Cert.CrossReferenceIdeal.τ).loc Cert.CrossReferenceIdeal.main_arg4))) →
    ∃ (v0 : Buf (Elt Ideal) (((0 : Dev Cert.CrossReferenceIdeal.nD).tc : Thread Cert.CrossReferenceIdeal.nD Cert.CrossReferenceIdeal.τ).loc Cert.CrossReferenceIdeal.main_v10)) (v1 : Buf (Elt Ideal) (((0 : Dev Cert.CrossReferenceIdeal.nD).tc : Thread Cert.CrossReferenceIdeal.nD Cert.CrossReferenceIdeal.τ).loc Cert.CrossReferenceIdeal.main_v13)) (v2 : Buf (Elt Ideal) (((0 : Dev Cert.CrossReferenceIdeal.nD).tc : Thread Cert.CrossReferenceIdeal.nD Cert.CrossReferenceIdeal.τ).loc Cert.CrossReferenceIdeal.main_v16)) (v3 : Buf (Elt Ideal) (((0 : Dev Cert.CrossReferenceIdeal.nD).tc : Thread Cert.CrossReferenceIdeal.nD Cert.CrossReferenceIdeal.τ).loc Cert.CrossReferenceIdeal.main_v19)) (v4 : Buf (Elt Ideal) (((0 : Dev Cert.CrossReferenceIdeal.nD).tc : Thread Cert.CrossReferenceIdeal.nD Cert.CrossReferenceIdeal.τ).loc Cert.CrossReferenceIdeal.main_v21)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          (∀ i : (⟨3, ![4, 512, 1664]⟩ : Shape).Idx, (Layout.block ⟨3, ![4, 512, 1664]⟩ ⟨3, ![32, 512, 1664]⟩ 0 8 c ((Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).1) : (⟨3, ![4, 512, 1664]⟩ : Shape).Idx → _) i = 1#1 → r.2.mem ((c.tc : Thread Cert.CrossIdeal.nD Cert.CrossIdeal.τ).loc Cert.CrossIdeal.main_v1_0) i = (Layout.block ⟨3, ![4, 512, 1664]⟩ ⟨3, ![32, 512, 1664]⟩ 0 8 c v0 : (⟨3, ![4, 512, 1664]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.1) : (⟨3, ![4, 128, 1024]⟩ : Shape).Idx → _) i = 1#1 → r.2.mem ((c.tc : Thread Cert.CrossIdeal.nD Cert.CrossIdeal.τ).loc Cert.CrossIdeal.main_v1_1) i = (Layout.block ⟨3, ![4, 128, 1024]⟩ ⟨3, ![32, 128, 1024]⟩ 0 8 c v1 : (⟨3, ![4, 128, 1024]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.1) : (⟨3, ![4, 128, 1024]⟩ : Shape).Idx → _) i = 1#1 → r.2.mem ((c.tc : Thread Cert.CrossIdeal.nD Cert.CrossIdeal.τ).loc Cert.CrossIdeal.main_v1_2) i = (Layout.block ⟨3, ![4, 128, 1024]⟩ ⟨3, ![32, 128, 1024]⟩ 0 8 c v2 : (⟨3, ![4, 128, 1024]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.2.1) : (⟨3, ![4, 128, 1024]⟩ : Shape).Idx → _) i = 1#1 → r.2.mem ((c.tc : Thread Cert.CrossIdeal.nD Cert.CrossIdeal.τ).loc Cert.CrossIdeal.main_v1_3) i = (Layout.block ⟨3, ![4, 128, 1024]⟩ ⟨3, ![32, 128, 1024]⟩ 0 8 c v3 : (⟨3, ![4, 128, 1024]⟩ : Shape).Idx → _) i)
          ∧ (∀ i : (⟨3, ![4, 1072, 128]⟩ : Shape).Idx, (Layout.block ⟨3, ![4, 1072, 128]⟩ ⟨3, ![32, 1072, 128]⟩ 0 8 c ((Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.2.2) : (⟨3, ![4, 1072, 128]⟩ : Shape).Idx → _) i = 1#1 → r.2.mem ((c.tc : Thread Cert.CrossIdeal.nD Cert.CrossIdeal.τ).loc Cert.CrossIdeal.main_v1_4) i = (Layout.block ⟨3, ![4, 1072, 128]⟩ ⟨3, ![32, 1072, 128]⟩ 0 8 c v4 : (⟨3, ![4, 1072, 128]⟩ : Shape).Idx → _) i)
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossReferenceIdeal.defs (F := Ideal)) (onTc (τ := Cert.CrossReferenceIdeal.τ) (Cert.CrossReferenceIdeal.main (F := Ideal))) ⟨m', fun _ => 0, g'⟩ (fun r =>
          (∀ i : (⟨3, ![32, 512, 1664]⟩ : Shape).Idx, (Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).1 i = 1#1 → r.2.mem (((0 : Dev Cert.CrossReferenceIdeal.nD).tc : Thread Cert.CrossReferenceIdeal.nD Cert.CrossReferenceIdeal.τ).loc Cert.CrossReferenceIdeal.main_v10) i = v0 i)
          ∧ (∀ i : (⟨3, ![32, 128, 1024]⟩ : Shape).Idx, (Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.1 i = 1#1 → r.2.mem (((0 : Dev Cert.CrossReferenceIdeal.nD).tc : Thread Cert.CrossReferenceIdeal.nD Cert.CrossReferenceIdeal.τ).loc Cert.CrossReferenceIdeal.main_v13) i = v1 i)
          ∧ (∀ i : (⟨3, ![32, 128, 1024]⟩ : Shape).Idx, (Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.1 i = 1#1 → r.2.mem (((0 : Dev Cert.CrossReferenceIdeal.nD).tc : Thread Cert.CrossReferenceIdeal.nD Cert.CrossReferenceIdeal.τ).loc Cert.CrossReferenceIdeal.main_v16) i = v2 i)
          ∧ (∀ i : (⟨3, ![32, 128, 1024]⟩ : Shape).Idx, (Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.2.1 i = 1#1 → r.2.mem (((0 : Dev Cert.CrossReferenceIdeal.nD).tc : Thread Cert.CrossReferenceIdeal.nD Cert.CrossReferenceIdeal.τ).loc Cert.CrossReferenceIdeal.main_v19) i = v3 i)
          ∧ (∀ i : (⟨3, ![32, 1072, 128]⟩ : Shape).Idx, (Cert.On_from_others.fn (F := Ideal) (m' (((0 : Dev Cert.CrossReferenceIdeal.nD).tc : Thread Cert.CrossReferenceIdeal.nD Cert.CrossReferenceIdeal.τ).loc Cert.CrossReferenceIdeal.main_arg0)) (m' (((0 : Dev Cert.CrossReferenceIdeal.nD).tc : Thread Cert.CrossReferenceIdeal.nD Cert.CrossReferenceIdeal.τ).loc Cert.CrossReferenceIdeal.main_arg1)) (m' (((0 : Dev Cert.CrossReferenceIdeal.nD).tc : Thread Cert.CrossReferenceIdeal.nD Cert.CrossReferenceIdeal.τ).loc Cert.CrossReferenceIdeal.main_arg2)) (m' (((0 : Dev Cert.CrossReferenceIdeal.nD).tc : Thread Cert.CrossReferenceIdeal.nD Cert.CrossReferenceIdeal.τ).loc Cert.CrossReferenceIdeal.main_arg3)) (m' (((0 : Dev Cert.CrossReferenceIdeal.nD).tc : Thread Cert.CrossReferenceIdeal.nD Cert.CrossReferenceIdeal.τ).loc Cert.CrossReferenceIdeal.main_arg4))).2.2.2.2 i = 1#1 → r.2.mem (((0 : Dev Cert.CrossReferenceIdeal.nD).tc : Thread Cert.CrossReferenceIdeal.nD Cert.CrossReferenceIdeal.τ).loc Cert.CrossReferenceIdeal.main_v21) i = v4 i)
          ∧ r.2.mem (((0 : Dev Cert.CrossReferenceIdeal.nD).tc : Thread Cert.CrossReferenceIdeal.nD Cert.CrossReferenceIdeal.τ).loc Cert.CrossReferenceIdeal.main_arg0) = m' (((0 : Dev Cert.CrossReferenceIdeal.nD).tc : Thread Cert.CrossReferenceIdeal.nD Cert.CrossReferenceIdeal.τ).loc Cert.CrossReferenceIdeal.main_arg0)
          ∧ r.2.mem (((0 : Dev Cert.CrossReferenceIdeal.nD).tc : Thread Cert.CrossReferenceIdeal.nD Cert.CrossReferenceIdeal.τ).loc Cert.CrossReferenceIdeal.main_arg1) = m' (((0 : Dev Cert.CrossReferenceIdeal.nD).tc : Thread Cert.CrossReferenceIdeal.nD Cert.CrossReferenceIdeal.τ).loc Cert.CrossReferenceIdeal.main_arg1)
          ∧ r.2.mem (((0 : Dev Cert.CrossReferenceIdeal.nD).tc : Thread Cert.CrossReferenceIdeal.nD Cert.CrossReferenceIdeal.τ).loc Cert.CrossReferenceIdeal.main_arg2) = m' (((0 : Dev Cert.CrossReferenceIdeal.nD).tc : Thread Cert.CrossReferenceIdeal.nD Cert.CrossReferenceIdeal.τ).loc Cert.CrossReferenceIdeal.main_arg2)
          ∧ r.2.mem (((0 : Dev Cert.CrossReferenceIdeal.nD).tc : Thread Cert.CrossReferenceIdeal.nD Cert.CrossReferenceIdeal.τ).loc Cert.CrossReferenceIdeal.main_arg3) = m' (((0 : Dev Cert.CrossReferenceIdeal.nD).tc : Thread Cert.CrossReferenceIdeal.nD Cert.CrossReferenceIdeal.τ).loc Cert.CrossReferenceIdeal.main_arg3)
          ∧ r.2.mem (((0 : Dev Cert.CrossReferenceIdeal.nD).tc : Thread Cert.CrossReferenceIdeal.nD Cert.CrossReferenceIdeal.τ).loc Cert.CrossReferenceIdeal.main_arg4) = m' (((0 : Dev Cert.CrossReferenceIdeal.nD).tc : Thread Cert.CrossReferenceIdeal.nD Cert.CrossReferenceIdeal.τ).loc Cert.CrossReferenceIdeal.main_arg4))

def bitexact_Cross_CrossReference_on_from_others [hCross : Cert.Cross.Facts] [hCrossReference : Cert.CrossReference.Facts] [hOn_from_others : Cert.On_from_others.Facts] : Prop :=
  ∀ (m : (ℓ : Loc Cert.Cross.nD Cert.Cross.τ Cert.Cross.sig) → Buf (Elt Bits) ℓ) (g : Dev Cert.Cross.nD → PrngReg)
    (m' : (ℓ : Loc Cert.CrossReference.nD Cert.CrossReference.τ Cert.CrossReference.sig) → Buf (Elt Bits) ℓ) (g' : Dev Cert.CrossReference.nD → PrngReg), Pre_Cross m →
    (∀ c : Dev Cert.Cross.nD,
      m ((c.tc : Thread Cert.Cross.nD Cert.Cross.τ).loc Cert.Cross.main_arg0) = Layout.block ⟨3, ![4, 512, 1664]⟩ ⟨3, ![32, 512, 1664]⟩ 0 8 c (m' (((0 : Dev Cert.CrossReference.nD).tc : Thread Cert.CrossReference.nD Cert.CrossReference.τ).loc Cert.CrossReference.main_arg0))
      ∧ m ((c.tc : Thread Cert.Cross.nD Cert.Cross.τ).loc Cert.Cross.main_arg1) = Layout.block ⟨3, ![4, 128, 1024]⟩ ⟨3, ![32, 128, 1024]⟩ 0 8 c (m' (((0 : Dev Cert.CrossReference.nD).tc : Thread Cert.CrossReference.nD Cert.CrossReference.τ).loc Cert.CrossReference.main_arg1))
      ∧ m ((c.tc : Thread Cert.Cross.nD Cert.Cross.τ).loc Cert.Cross.main_arg2) = Layout.block ⟨3, ![4, 128, 1024]⟩ ⟨3, ![32, 128, 1024]⟩ 0 8 c (m' (((0 : Dev Cert.CrossReference.nD).tc : Thread Cert.CrossReference.nD Cert.CrossReference.τ).loc Cert.CrossReference.main_arg2))
      ∧ m ((c.tc : Thread Cert.Cross.nD Cert.Cross.τ).loc Cert.Cross.main_arg3) = Layout.block ⟨3, ![4, 128, 1024]⟩ ⟨3, ![32, 128, 1024]⟩ 0 8 c (m' (((0 : Dev Cert.CrossReference.nD).tc : Thread Cert.CrossReference.nD Cert.CrossReference.τ).loc Cert.CrossReference.main_arg3))
      ∧ m ((c.tc : Thread Cert.Cross.nD Cert.Cross.τ).loc Cert.Cross.main_arg4) = Layout.block ⟨2, ![2144, 128]⟩ ⟨2, ![17152, 128]⟩ 0 8 c (m' (((0 : Dev Cert.CrossReference.nD).tc : Thread Cert.CrossReference.nD Cert.CrossReference.τ).loc Cert.CrossReference.main_arg4))) →
    ∃ (v0 : Buf (Elt Bits) (((0 : Dev Cert.CrossReference.nD).tc : Thread Cert.CrossReference.nD Cert.CrossReference.τ).loc Cert.CrossReference.main_v10)) (v1 : Buf (Elt Bits) (((0 : Dev Cert.CrossReference.nD).tc : Thread Cert.CrossReference.nD Cert.CrossReference.τ).loc Cert.CrossReference.main_v13)) (v2 : Buf (Elt Bits) (((0 : Dev Cert.CrossReference.nD).tc : Thread Cert.CrossReference.nD Cert.CrossReference.τ).loc Cert.CrossReference.main_v16)) (v3 : Buf (Elt Bits) (((0 : Dev Cert.CrossReference.nD).tc : Thread Cert.CrossReference.nD Cert.CrossReference.τ).loc Cert.CrossReference.main_v19)) (v4 : Buf (Elt Bits) (((0 : Dev Cert.CrossReference.nD).tc : Thread Cert.CrossReference.nD Cert.CrossReference.τ).loc Cert.CrossReference.main_v21)),
      θ_run (Cert.Cross.defs (F := Bits)) (onTc (τ := Cert.Cross.τ) (Cert.Cross.main (F := Bits))) ⟨m, fun _ => 0, g⟩ (fun r => ∀ c : Dev Cert.Cross.nD,
          (∀ i : (⟨3, ![4, 512, 1664]⟩ : Shape).Idx, (Layout.block ⟨3, ![4, 512, 1664]⟩ ⟨3, ![32, 512, 1664]⟩ 0 8 c ((Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).1) : (⟨3, ![4, 512, 1664]⟩ : Shape).Idx → _) i = 1#1 → r.2.mem ((c.tc : Thread Cert.Cross.nD Cert.Cross.τ).loc Cert.Cross.main_v1_0) i = (Layout.block ⟨3, ![4, 512, 1664]⟩ ⟨3, ![32, 512, 1664]⟩ 0 8 c v0 : (⟨3, ![4, 512, 1664]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.1) : (⟨3, ![4, 128, 1024]⟩ : Shape).Idx → _) i = 1#1 → r.2.mem ((c.tc : Thread Cert.Cross.nD Cert.Cross.τ).loc Cert.Cross.main_v1_1) i = (Layout.block ⟨3, ![4, 128, 1024]⟩ ⟨3, ![32, 128, 1024]⟩ 0 8 c v1 : (⟨3, ![4, 128, 1024]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.1) : (⟨3, ![4, 128, 1024]⟩ : Shape).Idx → _) i = 1#1 → r.2.mem ((c.tc : Thread Cert.Cross.nD Cert.Cross.τ).loc Cert.Cross.main_v1_2) i = (Layout.block ⟨3, ![4, 128, 1024]⟩ ⟨3, ![32, 128, 1024]⟩ 0 8 c v2 : (⟨3, ![4, 128, 1024]⟩ : Shape).Idx → _) i)
          ∧ (∀ i : (⟨3, ![4, 128, 1024]⟩ : Shape).Idx, (Layout.block ⟨3, ![4, 128, 1024]⟩ ⟨3, ![32, 128, 1024]⟩ 0 8 c ((Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.2.1) : (⟨3, ![4, 128, 1024]⟩ : Shape).Idx → _) i = 1#1 → r.2.mem ((c.tc : Thread Cert.Cross.nD Cert.Cross.τ).loc Cert.Cross.main_v1_3) i = (Layout.block ⟨3, ![4, 128, 1024]⟩ ⟨3, ![32, 128, 1024]⟩ 0 8 c v3 : (⟨3, ![4, 128, 1024]⟩ : Shape).Idx → _) i)
          ∧ (∀ i : (⟨3, ![4, 1072, 128]⟩ : Shape).Idx, (Layout.block ⟨3, ![4, 1072, 128]⟩ ⟨3, ![32, 1072, 128]⟩ 0 8 c ((Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.2.2) : (⟨3, ![4, 1072, 128]⟩ : Shape).Idx → _) i = 1#1 → r.2.mem ((c.tc : Thread Cert.Cross.nD Cert.Cross.τ).loc Cert.Cross.main_v1_4) i = (Layout.block ⟨3, ![4, 1072, 128]⟩ ⟨3, ![32, 1072, 128]⟩ 0 8 c v4 : (⟨3, ![4, 1072, 128]⟩ : Shape).Idx → _) i)
          ∧ r.2.mem ((c.tc : Thread Cert.Cross.nD Cert.Cross.τ).loc Cert.Cross.main_arg0) = m ((c.tc : Thread Cert.Cross.nD Cert.Cross.τ).loc Cert.Cross.main_arg0)
          ∧ r.2.mem ((c.tc : Thread Cert.Cross.nD Cert.Cross.τ).loc Cert.Cross.main_arg1) = m ((c.tc : Thread Cert.Cross.nD Cert.Cross.τ).loc Cert.Cross.main_arg1)
          ∧ r.2.mem ((c.tc : Thread Cert.Cross.nD Cert.Cross.τ).loc Cert.Cross.main_arg2) = m ((c.tc : Thread Cert.Cross.nD Cert.Cross.τ).loc Cert.Cross.main_arg2)
          ∧ r.2.mem ((c.tc : Thread Cert.Cross.nD Cert.Cross.τ).loc Cert.Cross.main_arg3) = m ((c.tc : Thread Cert.Cross.nD Cert.Cross.τ).loc Cert.Cross.main_arg3)
          ∧ r.2.mem ((c.tc : Thread Cert.Cross.nD Cert.Cross.τ).loc Cert.Cross.main_arg4) = m ((c.tc : Thread Cert.Cross.nD Cert.Cross.τ).loc Cert.Cross.main_arg4))
      ∧ θ_run (Cert.CrossReference.defs (F := Bits)) (onTc (τ := Cert.CrossReference.τ) (Cert.CrossReference.main (F := Bits))) ⟨m', fun _ => 0, g'⟩ (fun r =>
          (∀ i : (⟨3, ![32, 512, 1664]⟩ : Shape).Idx, (Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).1 i = 1#1 → r.2.mem (((0 : Dev Cert.CrossReference.nD).tc : Thread Cert.CrossReference.nD Cert.CrossReference.τ).loc Cert.CrossReference.main_v10) i = v0 i)
          ∧ (∀ i : (⟨3, ![32, 128, 1024]⟩ : Shape).Idx, (Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.1 i = 1#1 → r.2.mem (((0 : Dev Cert.CrossReference.nD).tc : Thread Cert.CrossReference.nD Cert.CrossReference.τ).loc Cert.CrossReference.main_v13) i = v1 i)
          ∧ (∀ i : (⟨3, ![32, 128, 1024]⟩ : Shape).Idx, (Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.1 i = 1#1 → r.2.mem (((0 : Dev Cert.CrossReference.nD).tc : Thread Cert.CrossReference.nD Cert.CrossReference.τ).loc Cert.CrossReference.main_v16) i = v2 i)
          ∧ (∀ i : (⟨3, ![32, 128, 1024]⟩ : Shape).Idx, (Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.2.1 i = 1#1 → r.2.mem (((0 : Dev Cert.CrossReference.nD).tc : Thread Cert.CrossReference.nD Cert.CrossReference.τ).loc Cert.CrossReference.main_v19) i = v3 i)
          ∧ (∀ i : (⟨3, ![32, 1072, 128]⟩ : Shape).Idx, (Cert.On_from_others.fn (F := Bits) (m' (((0 : Dev Cert.CrossReference.nD).tc : Thread Cert.CrossReference.nD Cert.CrossReference.τ).loc Cert.CrossReference.main_arg0)) (m' (((0 : Dev Cert.CrossReference.nD).tc : Thread Cert.CrossReference.nD Cert.CrossReference.τ).loc Cert.CrossReference.main_arg1)) (m' (((0 : Dev Cert.CrossReference.nD).tc : Thread Cert.CrossReference.nD Cert.CrossReference.τ).loc Cert.CrossReference.main_arg2)) (m' (((0 : Dev Cert.CrossReference.nD).tc : Thread Cert.CrossReference.nD Cert.CrossReference.τ).loc Cert.CrossReference.main_arg3)) (m' (((0 : Dev Cert.CrossReference.nD).tc : Thread Cert.CrossReference.nD Cert.CrossReference.τ).loc Cert.CrossReference.main_arg4))).2.2.2.2 i = 1#1 → r.2.mem (((0 : Dev Cert.CrossReference.nD).tc : Thread Cert.CrossReference.nD Cert.CrossReference.τ).loc Cert.CrossReference.main_v21) i = v4 i)
          ∧ r.2.mem (((0 : Dev Cert.CrossReference.nD).tc : Thread Cert.CrossReference.nD Cert.CrossReference.τ).loc Cert.CrossReference.main_arg0) = m' (((0 : Dev Cert.CrossReference.nD).tc : Thread Cert.CrossReference.nD Cert.CrossReference.τ).loc Cert.CrossReference.main_arg0)
          ∧ r.2.mem (((0 : Dev Cert.CrossReference.nD).tc : Thread Cert.CrossReference.nD Cert.CrossReference.τ).loc Cert.CrossReference.main_arg1) = m' (((0 : Dev Cert.CrossReference.nD).tc : Thread Cert.CrossReference.nD Cert.CrossReference.τ).loc Cert.CrossReference.main_arg1)
          ∧ r.2.mem (((0 : Dev Cert.CrossReference.nD).tc : Thread Cert.CrossReference.nD Cert.CrossReference.τ).loc Cert.CrossReference.main_arg2) = m' (((0 : Dev Cert.CrossReference.nD).tc : Thread Cert.CrossReference.nD Cert.CrossReference.τ).loc Cert.CrossReference.main_arg2)
          ∧ r.2.mem (((0 : Dev Cert.CrossReference.nD).tc : Thread Cert.CrossReference.nD Cert.CrossReference.τ).loc Cert.CrossReference.main_arg3) = m' (((0 : Dev Cert.CrossReference.nD).tc : Thread Cert.CrossReference.nD Cert.CrossReference.τ).loc Cert.CrossReference.main_arg3)
          ∧ r.2.mem (((0 : Dev Cert.CrossReference.nD).tc : Thread Cert.CrossReference.nD Cert.CrossReference.τ).loc Cert.CrossReference.main_arg4) = m' (((0 : Dev Cert.CrossReference.nD).tc : Thread Cert.CrossReference.nD Cert.CrossReference.τ).loc Cert.CrossReference.main_arg4))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v23) = v0 c
          ∧ r.2.mem ((c.tc : Thread Cert.StepInReferenceIdeal.nD Cert.StepInReferenceIdeal.τ).loc Cert.StepInReferenceIdeal.main_v4) = v1 c
          ∧ r.2.mem ((c.tc : Thread Cert.StepInReferenceIdeal.nD Cert.StepInReferenceIdeal.τ).loc Cert.StepInReferenceIdeal.main_v10) = v2 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v23) = v0 c
          ∧ r.2.mem ((c.tc : Thread Cert.StepOutReferenceIdeal.nD Cert.StepOutReferenceIdeal.τ).loc Cert.StepOutReferenceIdeal.main_v4) = v1 c
          ∧ r.2.mem ((c.tc : Thread Cert.StepOutReferenceIdeal.nD Cert.StepOutReferenceIdeal.τ).loc Cert.StepOutReferenceIdeal.main_v10) = v2 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepConv_StepConvIdeal : Prop :=
  True

def algebraic_StepConvIdeal_StepConvReferenceIdeal [hStepConvIdeal : Cert.StepConvIdeal.Facts] [hStepConvReferenceIdeal : Cert.StepConvReferenceIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvReferenceIdeal.nD Cert.StepConvReferenceIdeal.τ Cert.StepConvReferenceIdeal.sig) → Buf (Elt Ideal) ℓ) (g' : Dev Cert.StepConvReferenceIdeal.nD → PrngReg), Pre_StepConvIdeal m →
    (∀ c : Dev Cert.StepConvIdeal.nD,
      m' ((c.tc : Thread Cert.StepConvReferenceIdeal.nD Cert.StepConvReferenceIdeal.τ).loc Cert.StepConvReferenceIdeal.main_arg0) = m ((c.tc : Thread Cert.StepConvIdeal.nD Cert.StepConvIdeal.τ).loc Cert.StepConvIdeal.main_arg0)
      ∧ m' ((c.tc : Thread Cert.StepConvReferenceIdeal.nD Cert.StepConvReferenceIdeal.τ).loc Cert.StepConvReferenceIdeal.main_arg1) = m ((c.tc : Thread Cert.StepConvIdeal.nD Cert.StepConvIdeal.τ).loc Cert.StepConvIdeal.main_arg1)
      ∧ m' ((c.tc : Thread Cert.StepConvReferenceIdeal.nD Cert.StepConvReferenceIdeal.τ).loc Cert.StepConvReferenceIdeal.main_arg2) = m ((c.tc : Thread Cert.StepConvIdeal.nD Cert.StepConvIdeal.τ).loc Cert.StepConvIdeal.main_arg2)
      ∧ m' ((c.tc : Thread Cert.StepConvReferenceIdeal.nD Cert.StepConvReferenceIdeal.τ).loc Cert.StepConvReferenceIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvReferenceIdeal.defs (F := Ideal)) (onTc (τ := Cert.StepConvReferenceIdeal.τ) (Cert.StepConvReferenceIdeal.main (F := Ideal))) ⟨m', fun _ => 0, g'⟩ (fun r => ∀ c : Dev Cert.StepConvReferenceIdeal.nD,
          r.2.mem ((c.tc : Thread Cert.StepConvReferenceIdeal.nD Cert.StepConvReferenceIdeal.τ).loc Cert.StepConvReferenceIdeal.main_v23) = v0 c
          ∧ r.2.mem ((c.tc : Thread Cert.StepConvReferenceIdeal.nD Cert.StepConvReferenceIdeal.τ).loc Cert.StepConvReferenceIdeal.main_v4) = v1 c
          ∧ r.2.mem ((c.tc : Thread Cert.StepConvReferenceIdeal.nD Cert.StepConvReferenceIdeal.τ).loc Cert.StepConvReferenceIdeal.main_v10) = v2 c
          ∧ r.2.mem ((c.tc : Thread Cert.StepConvReferenceIdeal.nD Cert.StepConvReferenceIdeal.τ).loc Cert.StepConvReferenceIdeal.main_arg0) = m' ((c.tc : Thread Cert.StepConvReferenceIdeal.nD Cert.StepConvReferenceIdeal.τ).loc Cert.StepConvReferenceIdeal.main_arg0)
          ∧ r.2.mem ((c.tc : Thread Cert.StepConvReferenceIdeal.nD Cert.StepConvReferenceIdeal.τ).loc Cert.StepConvReferenceIdeal.main_arg1) = m' ((c.tc : Thread Cert.StepConvReferenceIdeal.nD Cert.StepConvReferenceIdeal.τ).loc Cert.StepConvReferenceIdeal.main_arg1)
          ∧ r.2.mem ((c.tc : Thread Cert.StepConvReferenceIdeal.nD Cert.StepConvReferenceIdeal.τ).loc Cert.StepConvReferenceIdeal.main_arg2) = m' ((c.tc : Thread Cert.StepConvReferenceIdeal.nD Cert.StepConvReferenceIdeal.τ).loc Cert.StepConvReferenceIdeal.main_arg2)
          ∧ r.2.mem ((c.tc : Thread Cert.StepConvReferenceIdeal.nD Cert.StepConvReferenceIdeal.τ).loc Cert.StepConvReferenceIdeal.main_arg3) = m' ((c.tc : Thread Cert.StepConvReferenceIdeal.nD Cert.StepConvReferenceIdeal.τ).loc Cert.StepConvReferenceIdeal.main_arg3))

def preserves_StepSmall_StepSmallIdeal : Prop :=
  True

def algebraic_StepSmallIdeal_StepSmallReferenceIdeal [hStepSmallIdeal : Cert.StepSmallIdeal.Facts] [hStepSmallReferenceIdeal : Cert.StepSmallReferenceIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallIdeal m →
    (∀ c : Dev Cert.StepSmallIdeal.nD,
      m' ((c.tc : Thread Cert.StepSmallReferenceIdeal.nD Cert.StepSmallReferenceIdeal.τ).loc Cert.StepSmallReferenceIdeal.main_arg0) = m ((c.tc : Thread Cert.StepSmallIdeal.nD Cert.StepSmallIdeal.τ).loc Cert.StepSmallIdeal.main_arg0)
      ∧ m' ((c.tc : Thread Cert.StepSmallReferenceIdeal.nD Cert.StepSmallReferenceIdeal.τ).loc Cert.StepSmallReferenceIdeal.main_arg1) = m ((c.tc : Thread Cert.StepSmallIdeal.nD Cert.StepSmallIdeal.τ).loc Cert.StepSmallIdeal.main_arg1)
      ∧ m' ((c.tc : Thread Cert.StepSmallReferenceIdeal.nD Cert.StepSmallReferenceIdeal.τ).loc Cert.StepSmallReferenceIdeal.main_arg2) = m ((c.tc : Thread Cert.StepSmallIdeal.nD Cert.StepSmallIdeal.τ).loc Cert.StepSmallIdeal.main_arg2)
      ∧ m' ((c.tc : Thread Cert.StepSmallReferenceIdeal.nD Cert.StepSmallReferenceIdeal.τ).loc Cert.StepSmallReferenceIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v23) = v0 c
          ∧ r.2.mem ((c.tc : Thread Cert.StepSmallReferenceIdeal.nD Cert.StepSmallReferenceIdeal.τ).loc Cert.StepSmallReferenceIdeal.main_v4) = v1 c
          ∧ r.2.mem ((c.tc : Thread Cert.StepSmallReferenceIdeal.nD Cert.StepSmallReferenceIdeal.τ).loc Cert.StepSmallReferenceIdeal.main_v10) = v2 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v22) = v0 c
          ∧ r.2.mem ((c.tc : Thread Cert.GradXReferenceIdeal.nD Cert.GradXReferenceIdeal.τ).loc Cert.GradXReferenceIdeal.main_v25) = v1 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)) (v7 : (c : Dev Cert.MergeIdeal.nD) → Buf (Elt Ideal) ((c.tc : Thread Cert.MergeIdeal.nD Cert.MergeIdeal.τ).loc Cert.MergeIdeal.main_v0_7)) (v8 : (c : Dev Cert.MergeIdeal.nD) → Buf (Elt Ideal) ((c.tc : Thread Cert.MergeIdeal.nD Cert.MergeIdeal.τ).loc Cert.MergeIdeal.main_v0_8)) (v9 : (c : Dev Cert.MergeIdeal.nD) → Buf (Elt Ideal) ((c.tc : Thread Cert.MergeIdeal.nD Cert.MergeIdeal.τ).loc Cert.MergeIdeal.main_v0_9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_v0_7) = v7 c
          ∧ r.2.mem ((c.tc : Thread Cert.MergeIdeal.nD Cert.MergeIdeal.τ).loc Cert.MergeIdeal.main_v0_8) = v8 c
          ∧ r.2.mem ((c.tc : Thread Cert.MergeIdeal.nD Cert.MergeIdeal.τ).loc Cert.MergeIdeal.main_v0_9) = v9 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v74) = v0 c
          ∧ r.2.mem ((c.tc : Thread Cert.MergeReferenceIdeal.nD Cert.MergeReferenceIdeal.τ).loc Cert.MergeReferenceIdeal.main_v76) = v1 c
          ∧ r.2.mem ((c.tc : Thread Cert.MergeReferenceIdeal.nD Cert.MergeReferenceIdeal.τ).loc Cert.MergeReferenceIdeal.main_v78) = v2 c
          ∧ r.2.mem ((c.tc : Thread Cert.MergeReferenceIdeal.nD Cert.MergeReferenceIdeal.τ).loc Cert.MergeReferenceIdeal.main_v79) = v3 c
          ∧ r.2.mem ((c.tc : Thread Cert.MergeReferenceIdeal.nD Cert.MergeReferenceIdeal.τ).loc Cert.MergeReferenceIdeal.main_v58) = v4 c
          ∧ r.2.mem ((c.tc : Thread Cert.MergeReferenceIdeal.nD Cert.MergeReferenceIdeal.τ).loc Cert.MergeReferenceIdeal.main_v80) = v5 c
          ∧ r.2.mem ((c.tc : Thread Cert.MergeReferenceIdeal.nD Cert.MergeReferenceIdeal.τ).loc Cert.MergeReferenceIdeal.main_v81) = v6 c
          ∧ r.2.mem ((c.tc : Thread Cert.MergeReferenceIdeal.nD Cert.MergeReferenceIdeal.τ).loc Cert.MergeReferenceIdeal.main_v82) = v7 c
          ∧ r.2.mem ((c.tc : Thread Cert.MergeReferenceIdeal.nD Cert.MergeReferenceIdeal.τ).loc Cert.MergeReferenceIdeal.main_v83) = v8 c
          ∧ r.2.mem ((c.tc : Thread Cert.MergeReferenceIdeal.nD Cert.MergeReferenceIdeal.τ).loc Cert.MergeReferenceIdeal.main_v86) = v9 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Total_TotalIdeal : Prop :=
  True

def algebraic_TotalIdeal_TotalReferenceIdeal [hTotalIdeal : Cert.TotalIdeal.Facts] [hTotalReferenceIdeal : Cert.TotalReferenceIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalReferenceIdeal.nD Cert.TotalReferenceIdeal.τ Cert.TotalReferenceIdeal.sig) → Buf (Elt Ideal) ℓ) (g' : Dev Cert.TotalReferenceIdeal.nD → PrngReg), Pre_TotalIdeal m →
    (∀ c : Dev Cert.TotalIdeal.nD,
      m ((c.tc : Thread Cert.TotalIdeal.nD Cert.TotalIdeal.τ).loc Cert.TotalIdeal.main_arg0) = Layout.block ⟨1, ![1]⟩ ⟨1, ![8]⟩ 0 8 c (m' (((0 : Dev Cert.TotalReferenceIdeal.nD).tc : Thread Cert.TotalReferenceIdeal.nD Cert.TotalReferenceIdeal.τ).loc Cert.TotalReferenceIdeal.main_arg0))) →
    ∃ (v0 : Buf (Elt Ideal) (((0 : Dev Cert.TotalReferenceIdeal.nD).tc : Thread Cert.TotalReferenceIdeal.nD Cert.TotalReferenceIdeal.τ).loc Cert.TotalReferenceIdeal.main_v1)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v1) = v0
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalReferenceIdeal.defs (F := Ideal)) (onTc (τ := Cert.TotalReferenceIdeal.τ) (Cert.TotalReferenceIdeal.main (F := Ideal))) ⟨m', fun _ => 0, g'⟩ (fun r =>
          r.2.mem (((0 : Dev Cert.TotalReferenceIdeal.nD).tc : Thread Cert.TotalReferenceIdeal.nD Cert.TotalReferenceIdeal.τ).loc Cert.TotalReferenceIdeal.main_v1) = v0
          ∧ r.2.mem (((0 : Dev Cert.TotalReferenceIdeal.nD).tc : Thread Cert.TotalReferenceIdeal.nD Cert.TotalReferenceIdeal.τ).loc Cert.TotalReferenceIdeal.main_arg0) = m' (((0 : Dev Cert.TotalReferenceIdeal.nD).tc : Thread Cert.TotalReferenceIdeal.nD Cert.TotalReferenceIdeal.τ).loc Cert.TotalReferenceIdeal.main_arg0))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v4) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_GradW_GradWIdeal : Prop :=
  True

def algebraic_GradWIdeal_GradWReferenceIdeal [hGradWIdeal : Cert.GradWIdeal.Facts] [hGradWReferenceIdeal : Cert.GradWReferenceIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWReferenceIdeal.nD Cert.GradWReferenceIdeal.τ Cert.GradWReferenceIdeal.sig) → Buf (Elt Ideal) ℓ) (g' : Dev Cert.GradWReferenceIdeal.nD → PrngReg), Pre_GradWIdeal m →
    (∀ c : Dev Cert.GradWIdeal.nD,
      m' ((c.tc : Thread Cert.GradWReferenceIdeal.nD Cert.GradWReferenceIdeal.τ).loc Cert.GradWReferenceIdeal.main_arg0) = m ((c.tc : Thread Cert.GradWIdeal.nD Cert.GradWIdeal.τ).loc Cert.GradWIdeal.main_arg0)
      ∧ m' ((c.tc : Thread Cert.GradWReferenceIdeal.nD Cert.GradWReferenceIdeal.τ).loc Cert.GradWReferenceIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWReferenceIdeal.defs (F := Ideal)) (onTc (τ := Cert.GradWReferenceIdeal.τ) (Cert.GradWReferenceIdeal.main (F := Ideal))) ⟨m', fun _ => 0, g'⟩ (fun r => ∀ c : Dev Cert.GradWReferenceIdeal.nD,
          r.2.mem ((c.tc : Thread Cert.GradWReferenceIdeal.nD Cert.GradWReferenceIdeal.τ).loc Cert.GradWReferenceIdeal.main_v3) = v0 c
          ∧ r.2.mem ((c.tc : Thread Cert.GradWReferenceIdeal.nD Cert.GradWReferenceIdeal.τ).loc Cert.GradWReferenceIdeal.main_arg0) = m' ((c.tc : Thread Cert.GradWReferenceIdeal.nD Cert.GradWReferenceIdeal.τ).loc Cert.GradWReferenceIdeal.main_arg0)
          ∧ r.2.mem ((c.tc : Thread Cert.GradWReferenceIdeal.nD Cert.GradWReferenceIdeal.τ).loc Cert.GradWReferenceIdeal.main_arg1) = m' ((c.tc : Thread Cert.GradWReferenceIdeal.nD Cert.GradWReferenceIdeal.τ).loc Cert.GradWReferenceIdeal.main_arg1))

def preserves_GradWIn_GradWInIdeal : Prop :=
  True

def algebraic_GradWInIdeal_GradWInReferenceIdeal [hGradWInIdeal : Cert.GradWInIdeal.Facts] [hGradWInReferenceIdeal : Cert.GradWInReferenceIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInReferenceIdeal.nD Cert.GradWInReferenceIdeal.τ Cert.GradWInReferenceIdeal.sig) → Buf (Elt Ideal) ℓ) (g' : Dev Cert.GradWInReferenceIdeal.nD → PrngReg), Pre_GradWInIdeal m →
    (∀ c : Dev Cert.GradWInIdeal.nD,
      m' ((c.tc : Thread Cert.GradWInReferenceIdeal.nD Cert.GradWInReferenceIdeal.τ).loc Cert.GradWInReferenceIdeal.main_arg0) = m ((c.tc : Thread Cert.GradWInIdeal.nD Cert.GradWInIdeal.τ).loc Cert.GradWInIdeal.main_arg0)
      ∧ m' ((c.tc : Thread Cert.GradWInReferenceIdeal.nD Cert.GradWInReferenceIdeal.τ).loc Cert.GradWInReferenceIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInReferenceIdeal.defs (F := Ideal)) (onTc (τ := Cert.GradWInReferenceIdeal.τ) (Cert.GradWInReferenceIdeal.main (F := Ideal))) ⟨m', fun _ => 0, g'⟩ (fun r => ∀ c : Dev Cert.GradWInReferenceIdeal.nD,
          r.2.mem ((c.tc : Thread Cert.GradWInReferenceIdeal.nD Cert.GradWInReferenceIdeal.τ).loc Cert.GradWInReferenceIdeal.main_v5) = v0 c
          ∧ r.2.mem ((c.tc : Thread Cert.GradWInReferenceIdeal.nD Cert.GradWInReferenceIdeal.τ).loc Cert.GradWInReferenceIdeal.main_arg0) = m' ((c.tc : Thread Cert.GradWInReferenceIdeal.nD Cert.GradWInReferenceIdeal.τ).loc Cert.GradWInReferenceIdeal.main_arg0)
          ∧ r.2.mem ((c.tc : Thread Cert.GradWInReferenceIdeal.nD Cert.GradWInReferenceIdeal.τ).loc Cert.GradWInReferenceIdeal.main_arg1) = m' ((c.tc : Thread Cert.GradWInReferenceIdeal.nD Cert.GradWInReferenceIdeal.τ).loc Cert.GradWInReferenceIdeal.main_arg1))

def preserves_GradH_GradHIdeal : Prop :=
  True

def algebraic_GradHIdeal_GradHReferenceIdeal [hGradHIdeal : Cert.GradHIdeal.Facts] [hGradHReferenceIdeal : Cert.GradHReferenceIdeal.Facts] : Prop :=
  ∀ (m : (ℓ : Loc Cert.GradHIdeal.nD Cert.GradHIdeal.τ Cert.GradHIdeal.sig) → Buf (Elt Ideal) ℓ) (g : Dev Cert.GradHIdeal.nD → PrngReg)
    (m' : (ℓ : Loc Cert.GradHReferenceIdeal.nD Cert.GradHReferenceIdeal.τ Cert.GradHReferenceIdeal.sig) → Buf (Elt Ideal) ℓ) (g' : Dev Cert.GradHReferenceIdeal.nD → PrngReg), Pre_GradHIdeal m →
    (∀ c : Dev Cert.GradHIdeal.nD,
      m' ((c.tc : Thread Cert.GradHReferenceIdeal.nD Cert.GradHReferenceIdeal.τ).loc Cert.GradHReferenceIdeal.main_arg0) = m ((c.tc : Thread Cert.GradHIdeal.nD Cert.GradHIdeal.τ).loc Cert.GradHIdeal.main_arg0)
      ∧ m' ((c.tc : Thread Cert.GradHReferenceIdeal.nD Cert.GradHReferenceIdeal.τ).loc Cert.GradHReferenceIdeal.main_arg1) = m ((c.tc : Thread Cert.GradHIdeal.nD Cert.GradHIdeal.τ).loc Cert.GradHIdeal.main_arg1)) →
    ∃ (v0 : (c : Dev Cert.GradHIdeal.nD) → Buf (Elt Ideal) ((c.tc : Thread Cert.GradHIdeal.nD Cert.GradHIdeal.τ).loc Cert.GradHIdeal.main_v0)),
      θ_run (Cert.GradHIdeal.defs (F := Ideal)) (onTc (τ := Cert.GradHIdeal.τ) (Cert.GradHIdeal.main (F := Ideal))) ⟨m, fun _ => 0, g⟩ (fun r => ∀ c : Dev Cert.GradHIdeal.nD,
          r.2.mem ((c.tc : Thread Cert.GradHIdeal.nD Cert.GradHIdeal.τ).loc Cert.GradHIdeal.main_v0) = v0 c
          ∧ r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
          ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1))
      ∧ θ_run (Cert.GradHReferenceIdeal.defs (F := Ideal)) (onTc (τ := Cert.GradHReferenceIdeal.τ) (Cert.GradHReferenceIdeal.main (F := Ideal))) ⟨m', fun _ => 0, g'⟩ (fun r => ∀ c : Dev Cert.GradHReferenceIdeal.nD,
          r.2.mem ((c.tc : Thread Cert.GradHReferenceIdeal.nD Cert.GradHReferenceIdeal.τ).loc Cert.GradHReferenceIdeal.main_v5) = v0 c
          ∧ r.2.mem ((c.tc : Thread Cert.GradHReferenceIdeal.nD Cert.GradHReferenceIdeal.τ).loc Cert.GradHReferenceIdeal.main_arg0) = m' ((c.tc : Thread Cert.GradHReferenceIdeal.nD Cert.GradHReferenceIdeal.τ).loc Cert.GradHReferenceIdeal.main_arg0)
          ∧ r.2.mem ((c.tc : Thread Cert.GradHReferenceIdeal.nD Cert.GradHReferenceIdeal.τ).loc Cert.GradHReferenceIdeal.main_arg1) = m' ((c.tc : Thread Cert.GradHReferenceIdeal.nD Cert.GradHReferenceIdeal.τ).loc Cert.GradHReferenceIdeal.main_arg1))

def preserves_SumCores_SumCoresIdeal : Prop :=
  True

def algebraic_SumCoresIdeal_SumCoresReferenceIdeal [hSumCoresIdeal : Cert.SumCoresIdeal.Facts] [hSumCoresReferenceIdeal : Cert.SumCoresReferenceIdeal.Facts] : Prop :=
  ∀ (m : (ℓ : Loc Cert.SumCoresIdeal.nD Cert.SumCoresIdeal.τ Cert.SumCoresIdeal.sig) → Buf (Elt Ideal) ℓ) (g : Dev Cert.SumCoresIdeal.nD → PrngReg)
    (m' : (ℓ : Loc Cert.SumCoresReferenceIdeal.nD Cert.SumCoresReferenceIdeal.τ Cert.SumCoresReferenceIdeal.sig) → Buf (Elt Ideal) ℓ) (g' : Dev Cert.SumCoresReferenceIdeal.nD → PrngReg), Pre_SumCoresIdeal m →
    (∀ c : Dev Cert.SumCoresIdeal.nD,
      m' ((c.tc : Thread Cert.SumCoresReferenceIdeal.nD Cert.SumCoresReferenceIdeal.τ).loc Cert.SumCoresReferenceIdeal.main_arg0) = m ((c.tc : Thread Cert.SumCoresIdeal.nD Cert.SumCoresIdeal.τ).loc Cert.SumCoresIdeal.main_arg0)
      ∧ m' ((c.tc : Thread Cert.SumCoresReferenceIdeal.nD Cert.SumCoresReferenceIdeal.τ).loc Cert.SumCoresReferenceIdeal.main_arg1) = m ((c.tc : Thread Cert.SumCoresIdeal.nD Cert.SumCoresIdeal.τ).loc Cert.SumCoresIdeal.main_arg1)) →
    ∃ (v0 : (c : Dev Cert.SumCoresIdeal.nD) → Buf (Elt Ideal) ((c.tc : Thread Cert.SumCoresIdeal.nD Cert.SumCoresIdeal.τ).loc Cert.SumCoresIdeal.main_v0)),
      θ_run (Cert.SumCoresIdeal.defs (F := Ideal)) (onTc (τ := Cert.SumCoresIdeal.τ) (Cert.SumCoresIdeal.main (F := Ideal))) ⟨m, fun _ => 0, g⟩ (fun r => ∀ c : Dev Cert.SumCoresIdeal.nD,
          r.2.mem ((c.tc : Thread Cert.SumCoresIdeal.nD Cert.SumCoresIdeal.τ).loc Cert.SumCoresIdeal.main_v0) = v0 c
          ∧ r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0)
          ∧ r.2.mem ((c.tc : Thread Cert.SumCoresIdeal.nD Cert.SumCoresIdeal.τ).loc Cert.SumCoresIdeal.main_arg1) = m ((c.tc : Thread Cert.SumCoresIdeal.nD Cert.SumCoresIdeal.τ).loc Cert.SumCoresIdeal.main_arg1))
      ∧ θ_run (Cert.SumCoresReferenceIdeal.defs (F := Ideal)) (onTc (τ := Cert.SumCoresReferenceIdeal.τ) (Cert.SumCoresReferenceIdeal.main (F := Ideal))) ⟨m', fun _ => 0, g'⟩ (fun r => ∀ c : Dev Cert.SumCoresReferenceIdeal.nD,
          r.2.mem ((c.tc : Thread Cert.SumCoresReferenceIdeal.nD Cert.SumCoresReferenceIdeal.τ).loc Cert.SumCoresReferenceIdeal.main_v0) = v0 c
          ∧ r.2.mem ((c.tc : Thread Cert.SumCoresReferenceIdeal.nD Cert.SumCoresReferenceIdeal.τ).loc Cert.SumCoresReferenceIdeal.main_arg0) = m' ((c.tc : Thread Cert.SumCoresReferenceIdeal.nD Cert.SumCoresReferenceIdeal.τ).loc Cert.SumCoresReferenceIdeal.main_arg0)
          ∧ r.2.mem ((c.tc : Thread Cert.SumCoresReferenceIdeal.nD Cert.SumCoresReferenceIdeal.τ).loc Cert.SumCoresReferenceIdeal.main_arg1) = m' ((c.tc : Thread Cert.SumCoresReferenceIdeal.nD Cert.SumCoresReferenceIdeal.τ).loc Cert.SumCoresReferenceIdeal.main_arg1))

def preserves_SumChips_SumChipsIdeal : Prop :=
  True

def algebraic_SumChipsIdeal_SumChipsReferenceIdeal [hSumChipsIdeal : Cert.SumChipsIdeal.Facts] [hSumChipsReferenceIdeal : Cert.SumChipsReferenceIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsReferenceIdeal.nD Cert.SumChipsReferenceIdeal.τ Cert.SumChipsReferenceIdeal.sig) → Buf (Elt Ideal) ℓ) (g' : Dev Cert.SumChipsReferenceIdeal.nD → PrngReg), Pre_SumChipsIdeal m →
    (∀ c : Dev Cert.SumChipsIdeal.nD,
      m' ((c.tc : Thread Cert.SumChipsReferenceIdeal.nD Cert.SumChipsReferenceIdeal.τ).loc Cert.SumChipsReferenceIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsReferenceIdeal.defs (F := Ideal)) (onTc (τ := Cert.SumChipsReferenceIdeal.τ) (Cert.SumChipsReferenceIdeal.main (F := Ideal))) ⟨m', fun _ => 0, g'⟩ (fun r => ∀ c : Dev Cert.SumChipsReferenceIdeal.nD,
          r.2.mem ((c.tc : Thread Cert.SumChipsReferenceIdeal.nD Cert.SumChipsReferenceIdeal.τ).loc Cert.SumChipsReferenceIdeal.main_v0) = v0 c
          ∧ r.2.mem ((c.tc : Thread Cert.SumChipsReferenceIdeal.nD Cert.SumChipsReferenceIdeal.τ).loc Cert.SumChipsReferenceIdeal.main_arg0) = m' ((c.tc : Thread Cert.SumChipsReferenceIdeal.nD Cert.SumChipsReferenceIdeal.τ).loc Cert.SumChipsReferenceIdeal.main_arg0))

def preserves_CastIn_CastInIdeal : Prop :=
  True

def algebraic_CastInIdeal_CastInReferenceIdeal [hCastInIdeal : Cert.CastInIdeal.Facts] [hCastInReferenceIdeal : Cert.CastInReferenceIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInReferenceIdeal.nD Cert.CastInReferenceIdeal.τ Cert.CastInReferenceIdeal.sig) → Buf (Elt Ideal) ℓ) (g' : Dev Cert.CastInReferenceIdeal.nD → PrngReg), Pre_CastInIdeal m →
    (∀ c : Dev Cert.CastInIdeal.nD,
      m' ((c.tc : Thread Cert.CastInReferenceIdeal.nD Cert.CastInReferenceIdeal.τ).loc Cert.CastInReferenceIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInReferenceIdeal.defs (F := Ideal)) (onTc (τ := Cert.CastInReferenceIdeal.τ) (Cert.CastInReferenceIdeal.main (F := Ideal))) ⟨m', fun _ => 0, g'⟩ (fun r => ∀ c : Dev Cert.CastInReferenceIdeal.nD,
          r.2.mem ((c.tc : Thread Cert.CastInReferenceIdeal.nD Cert.CastInReferenceIdeal.τ).loc Cert.CastInReferenceIdeal.main_v0) = v0 c
          ∧ r.2.mem ((c.tc : Thread Cert.CastInReferenceIdeal.nD Cert.CastInReferenceIdeal.τ).loc Cert.CastInReferenceIdeal.main_arg0) = m' ((c.tc : Thread Cert.CastInReferenceIdeal.nD Cert.CastInReferenceIdeal.τ).loc Cert.CastInReferenceIdeal.main_arg0))

def bitexact_CastIn_CastInReference [hCastIn : Cert.CastIn.Facts] [hCastInReference : Cert.CastInReference.Facts] : Prop :=
  ∀ (m : (ℓ : Loc Cert.CastIn.nD Cert.CastIn.τ Cert.CastIn.sig) → Buf (Elt Bits) ℓ) (g : Dev Cert.CastIn.nD → PrngReg)
    (m' : (ℓ : Loc Cert.CastInReference.nD Cert.CastInReference.τ Cert.CastInReference.sig) → Buf (Elt Bits) ℓ) (g' : Dev Cert.CastInReference.nD → PrngReg), Pre_CastIn m →
    (∀ c : Dev Cert.CastIn.nD,
      m' ((c.tc : Thread Cert.CastInReference.nD Cert.CastInReference.τ).loc Cert.CastInReference.main_arg0) = m ((c.tc : Thread Cert.CastIn.nD Cert.CastIn.τ).loc Cert.CastIn.main_arg0)) →
    ∃ (v0 : (c : Dev Cert.CastIn.nD) → Buf (Elt Bits) ((c.tc : Thread Cert.CastIn.nD Cert.CastIn.τ).loc Cert.CastIn.main_v0)),
      θ_run (Cert.CastIn.defs (F := Bits)) (onTc (τ := Cert.CastIn.τ) (Cert.CastIn.main (F := Bits))) ⟨m, fun _ => 0, g⟩ (fun r => ∀ c : Dev Cert.CastIn.nD,
          r.2.mem ((c.tc : Thread Cert.CastIn.nD Cert.CastIn.τ).loc Cert.CastIn.main_v0) = v0 c
          ∧ r.2.mem ((c.tc : Thread Cert.CastIn.nD Cert.CastIn.τ).loc Cert.CastIn.main_arg0) = m ((c.tc : Thread Cert.CastIn.nD Cert.CastIn.τ).loc Cert.CastIn.main_arg0))
      ∧ θ_run (Cert.CastInReference.defs (F := Bits)) (onTc (τ := Cert.CastInReference.τ) (Cert.CastInReference.main (F := Bits))) ⟨m', fun _ => 0, g'⟩ (fun r => ∀ c : Dev Cert.CastInReference.nD,
          r.2.mem ((c.tc : Thread Cert.CastInReference.nD Cert.CastInReference.τ).loc Cert.CastInReference.main_v0) = v0 c
          ∧ r.2.mem ((c.tc : Thread Cert.CastInReference.nD Cert.CastInReference.τ).loc Cert.CastInReference.main_arg0) = m' ((c.tc : Thread Cert.CastInReference.nD Cert.CastInReference.τ).loc Cert.CastInReference.main_arg0))

def preserves_CastOut_CastOutIdeal : Prop :=
  True

def algebraic_CastOutIdeal_CastOutReferenceIdeal [hCastOutIdeal : Cert.CastOutIdeal.Facts] [hCastOutReferenceIdeal : Cert.CastOutReferenceIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutReferenceIdeal.nD Cert.CastOutReferenceIdeal.τ Cert.CastOutReferenceIdeal.sig) → Buf (Elt Ideal) ℓ) (g' : Dev Cert.CastOutReferenceIdeal.nD → PrngReg), Pre_CastOutIdeal m →
    (∀ c : Dev Cert.CastOutIdeal.nD,
      m' ((c.tc : Thread Cert.CastOutReferenceIdeal.nD Cert.CastOutReferenceIdeal.τ).loc Cert.CastOutReferenceIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutReferenceIdeal.defs (F := Ideal)) (onTc (τ := Cert.CastOutReferenceIdeal.τ) (Cert.CastOutReferenceIdeal.main (F := Ideal))) ⟨m', fun _ => 0, g'⟩ (fun r => ∀ c : Dev Cert.CastOutReferenceIdeal.nD,
          r.2.mem ((c.tc : Thread Cert.CastOutReferenceIdeal.nD Cert.CastOutReferenceIdeal.τ).loc Cert.CastOutReferenceIdeal.main_v0) = v0 c
          ∧ r.2.mem ((c.tc : Thread Cert.CastOutReferenceIdeal.nD Cert.CastOutReferenceIdeal.τ).loc Cert.CastOutReferenceIdeal.main_arg0) = m' ((c.tc : Thread Cert.CastOutReferenceIdeal.nD Cert.CastOutReferenceIdeal.τ).loc Cert.CastOutReferenceIdeal.main_arg0))

def bitexact_CastOut_CastOutReference [hCastOut : Cert.CastOut.Facts] [hCastOutReference : Cert.CastOutReference.Facts] : Prop :=
  ∀ (m : (ℓ : Loc Cert.CastOut.nD Cert.CastOut.τ Cert.CastOut.sig) → Buf (Elt Bits) ℓ) (g : Dev Cert.CastOut.nD → PrngReg)
    (m' : (ℓ : Loc Cert.CastOutReference.nD Cert.CastOutReference.τ Cert.CastOutReference.sig) → Buf (Elt Bits) ℓ) (g' : Dev Cert.CastOutReference.nD → PrngReg), Pre_CastOut m →
    (∀ c : Dev Cert.CastOut.nD,
      m' ((c.tc : Thread Cert.CastOutReference.nD Cert.CastOutReference.τ).loc Cert.CastOutReference.main_arg0) = m ((c.tc : Thread Cert.CastOut.nD Cert.CastOut.τ).loc Cert.CastOut.main_arg0)) →
    ∃ (v0 : (c : Dev Cert.CastOut.nD) → Buf (Elt Bits) ((c.tc : Thread Cert.CastOut.nD Cert.CastOut.τ).loc Cert.CastOut.main_v0)),
      θ_run (Cert.CastOut.defs (F := Bits)) (onTc (τ := Cert.CastOut.τ) (Cert.CastOut.main (F := Bits))) ⟨m, fun _ => 0, g⟩ (fun r => ∀ c : Dev Cert.CastOut.nD,
          r.2.mem ((c.tc : Thread Cert.CastOut.nD Cert.CastOut.τ).loc Cert.CastOut.main_v0) = v0 c
          ∧ r.2.mem ((c.tc : Thread Cert.CastOut.nD Cert.CastOut.τ).loc Cert.CastOut.main_arg0) = m ((c.tc : Thread Cert.CastOut.nD Cert.CastOut.τ).loc Cert.CastOut.main_arg0))
      ∧ θ_run (Cert.CastOutReference.defs (F := Bits)) (onTc (τ := Cert.CastOutReference.τ) (Cert.CastOutReference.main (F := Bits))) ⟨m', fun _ => 0, g'⟩ (fun r => ∀ c : Dev Cert.CastOutReference.nD,
          r.2.mem ((c.tc : Thread Cert.CastOutReference.nD Cert.CastOutReference.τ).loc Cert.CastOutReference.main_v0) = v0 c
          ∧ r.2.mem ((c.tc : Thread Cert.CastOutReference.nD Cert.CastOutReference.τ).loc Cert.CastOutReference.main_arg0) = m' ((c.tc : Thread Cert.CastOutReference.nD Cert.CastOutReference.τ).loc Cert.CastOutReference.main_arg0))

def preserves_PairIn_PairInIdeal : Prop :=
  True

def algebraic_PairInIdeal_PairInReferenceIdeal [hPairInIdeal : Cert.PairInIdeal.Facts] [hPairInReferenceIdeal : Cert.PairInReferenceIdeal.Facts] [hPre_a_core : Cert.Pre_a_core.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInReferenceIdeal.nD Cert.PairInReferenceIdeal.τ Cert.PairInReferenceIdeal.sig) → Buf (Elt Ideal) ℓ) (g' : Dev Cert.PairInReferenceIdeal.nD → PrngReg), Pre_PairInIdeal m →
    (∀ c : Dev Cert.PairInIdeal.nD,
      m' ((c.tc : Thread Cert.PairInReferenceIdeal.nD Cert.PairInReferenceIdeal.τ).loc Cert.PairInReferenceIdeal.main_arg0) = m ((c.tc : Thread Cert.PairInIdeal.nD Cert.PairInIdeal.τ).loc Cert.PairInIdeal.main_arg0)
      ∧ m' ((c.tc : Thread Cert.PairInReferenceIdeal.nD Cert.PairInReferenceIdeal.τ).loc Cert.PairInReferenceIdeal.main_arg1) = m ((c.tc : Thread Cert.PairInIdeal.nD Cert.PairInIdeal.τ).loc Cert.PairInIdeal.main_arg1)
      ∧ m' ((c.tc : Thread Cert.PairInReferenceIdeal.nD Cert.PairInReferenceIdeal.τ).loc Cert.PairInReferenceIdeal.main_arg2) = m ((c.tc : Thread Cert.PairInIdeal.nD Cert.PairInIdeal.τ).loc Cert.PairInIdeal.main_arg2)) →
    ∃ (v0 : (c : Dev Cert.PairInIdeal.nD) → Buf (Elt Ideal) ((c.tc : Thread Cert.PairInIdeal.nD Cert.PairInIdeal.τ).loc Cert.PairInIdeal.main_v0_0)) (v1 : (c : Dev Cert.PairInIdeal.nD) → Buf (Elt Ideal) ((c.tc : Thread Cert.PairInIdeal.nD Cert.PairInIdeal.τ).loc Cert.PairInIdeal.main_v0_1)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0_0) = v0 c
          ∧ r.2.mem ((c.tc : Thread Cert.PairInIdeal.nD Cert.PairInIdeal.τ).loc Cert.PairInIdeal.main_v0_1) = v1 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
          ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ θ_run (Cert.PairInReferenceIdeal.defs (F := Ideal)) (onTc (τ := Cert.PairInReferenceIdeal.τ) (Cert.PairInReferenceIdeal.main (F := Ideal))) ⟨m', fun _ => 0, g'⟩ (fun r => ∀ c : Dev Cert.PairInReferenceIdeal.nD,
          r.2.mem ((c.tc : Thread Cert.PairInReferenceIdeal.nD Cert.PairInReferenceIdeal.τ).loc Cert.PairInReferenceIdeal.main_v5) = v0 c
          ∧ r.2.mem ((c.tc : Thread Cert.PairInReferenceIdeal.nD Cert.PairInReferenceIdeal.τ).loc Cert.PairInReferenceIdeal.main_v6) = v1 c
          ∧ r.2.mem ((c.tc : Thread Cert.PairInReferenceIdeal.nD Cert.PairInReferenceIdeal.τ).loc Cert.PairInReferenceIdeal.main_arg0) = m' ((c.tc : Thread Cert.PairInReferenceIdeal.nD Cert.PairInReferenceIdeal.τ).loc Cert.PairInReferenceIdeal.main_arg0)
          ∧ r.2.mem ((c.tc : Thread Cert.PairInReferenceIdeal.nD Cert.PairInReferenceIdeal.τ).loc Cert.PairInReferenceIdeal.main_arg1) = m' ((c.tc : Thread Cert.PairInReferenceIdeal.nD Cert.PairInReferenceIdeal.τ).loc Cert.PairInReferenceIdeal.main_arg1)
          ∧ r.2.mem ((c.tc : Thread Cert.PairInReferenceIdeal.nD Cert.PairInReferenceIdeal.τ).loc Cert.PairInReferenceIdeal.main_arg2) = m' ((c.tc : Thread Cert.PairInReferenceIdeal.nD Cert.PairInReferenceIdeal.τ).loc Cert.PairInReferenceIdeal.main_arg2))

def bitexact_PairIn_PairInReference [hPairIn : Cert.PairIn.Facts] [hPairInReference : Cert.PairInReference.Facts] [hPre_a_core : Cert.Pre_a_core.Facts] : Prop :=
  ∀ (m : (ℓ : Loc Cert.PairIn.nD Cert.PairIn.τ Cert.PairIn.sig) → Buf (Elt Bits) ℓ) (g : Dev Cert.PairIn.nD → PrngReg)
    (m' : (ℓ : Loc Cert.PairInReference.nD Cert.PairInReference.τ Cert.PairInReference.sig) → Buf (Elt Bits) ℓ) (g' : Dev Cert.PairInReference.nD → PrngReg), Pre_PairIn m →
    (∀ c : Dev Cert.PairIn.nD,
      m' ((c.tc : Thread Cert.PairInReference.nD Cert.PairInReference.τ).loc Cert.PairInReference.main_arg0) = m ((c.tc : Thread Cert.PairIn.nD Cert.PairIn.τ).loc Cert.PairIn.main_arg0)
      ∧ m' ((c.tc : Thread Cert.PairInReference.nD Cert.PairInReference.τ).loc Cert.PairInReference.main_arg1) = m ((c.tc : Thread Cert.PairIn.nD Cert.PairIn.τ).loc Cert.PairIn.main_arg1)
      ∧ m' ((c.tc : Thread Cert.PairInReference.nD Cert.PairInReference.τ).loc Cert.PairInReference.main_arg2) = m ((c.tc : Thread Cert.PairIn.nD Cert.PairIn.τ).loc Cert.PairIn.main_arg2)) →
    ∃ (v0 : (c : Dev Cert.PairIn.nD) → Buf (Elt Bits) ((c.tc : Thread Cert.PairIn.nD Cert.PairIn.τ).loc Cert.PairIn.main_v0_0)) (v1 : (c : Dev Cert.PairIn.nD) → Buf (Elt Bits) ((c.tc : Thread Cert.PairIn.nD Cert.PairIn.τ).loc Cert.PairIn.main_v0_1)),
      θ_run (Cert.PairIn.defs (F := Bits)) (onTc (τ := Cert.PairIn.τ) (Cert.PairIn.main (F := Bits))) ⟨m, fun _ => 0, g⟩ (fun r => ∀ c : Dev Cert.PairIn.nD,
          r.2.mem ((c.tc : Thread Cert.PairIn.nD Cert.PairIn.τ).loc Cert.PairIn.main_v0_0) = v0 c
          ∧ r.2.mem ((c.tc : Thread Cert.PairIn.nD Cert.PairIn.τ).loc Cert.PairIn.main_v0_1) = v1 c
          ∧ r.2.mem ((c.tc : Thread Cert.PairIn.nD Cert.PairIn.τ).loc Cert.PairIn.main_arg0) = m ((c.tc : Thread Cert.PairIn.nD Cert.PairIn.τ).loc Cert.PairIn.main_arg0)
          ∧ r.2.mem ((c.tc : Thread Cert.PairIn.nD Cert.PairIn.τ).loc Cert.PairIn.main_arg1) = m ((c.tc : Thread Cert.PairIn.nD Cert.PairIn.τ).loc Cert.PairIn.main_arg1)
          ∧ r.2.mem ((c.tc : Thread Cert.PairIn.nD Cert.PairIn.τ).loc Cert.PairIn.main_arg2) = m ((c.tc : Thread Cert.PairIn.nD Cert.PairIn.τ).loc Cert.PairIn.main_arg2))
      ∧ θ_run (Cert.PairInReference.defs (F := Bits)) (onTc (τ := Cert.PairInReference.τ) (Cert.PairInReference.main (F := Bits))) ⟨m', fun _ => 0, g'⟩ (fun r => ∀ c : Dev Cert.PairInReference.nD,
          r.2.mem ((c.tc : Thread Cert.PairInReference.nD Cert.PairInReference.τ).loc Cert.PairInReference.main_v5) = v0 c
          ∧ r.2.mem ((c.tc : Thread Cert.PairInReference.nD Cert.PairInReference.τ).loc Cert.PairInReference.main_v6) = v1 c
          ∧ r.2.mem ((c.tc : Thread Cert.PairInReference.nD Cert.PairInReference.τ).loc Cert.PairInReference.main_arg0) = m' ((c.tc : Thread Cert.PairInReference.nD Cert.PairInReference.τ).loc Cert.PairInReference.main_arg0)
          ∧ r.2.mem ((c.tc : Thread Cert.PairInReference.nD Cert.PairInReference.τ).loc Cert.PairInReference.main_arg1) = m' ((c.tc : Thread Cert.PairInReference.nD Cert.PairInReference.τ).loc Cert.PairInReference.main_arg1)
          ∧ r.2.mem ((c.tc : Thread Cert.PairInReference.nD Cert.PairInReference.τ).loc Cert.PairInReference.main_arg2) = m' ((c.tc : Thread Cert.PairInReference.nD Cert.PairInReference.τ).loc Cert.PairInReference.main_arg2))

def preserves_FourIn_FourInIdeal : Prop :=
  True

def algebraic_FourInIdeal_FourInReferenceIdeal [hFourInIdeal : Cert.FourInIdeal.Facts] [hFourInReferenceIdeal : Cert.FourInReferenceIdeal.Facts] [hPre_four_chips : Cert.Pre_four_chips.Facts] : Prop :=
  ∀ (m : (ℓ : Loc Cert.FourInIdeal.nD Cert.FourInIdeal.τ Cert.FourInIdeal.sig) → Buf (Elt Ideal) ℓ) (g : Dev Cert.FourInIdeal.nD → PrngReg)
    (m' : (ℓ : Loc Cert.FourInReferenceIdeal.nD Cert.FourInReferenceIdeal.τ Cert.FourInReferenceIdeal.sig) → Buf (Elt Ideal) ℓ) (g' : Dev Cert.FourInReferenceIdeal.nD → PrngReg), Pre_FourInIdeal m →
    (∀ c : Dev Cert.FourInIdeal.nD,
      m' ((c.tc : Thread Cert.FourInReferenceIdeal.nD Cert.FourInReferenceIdeal.τ).loc Cert.FourInReferenceIdeal.main_arg0) = m ((c.tc : Thread Cert.FourInIdeal.nD Cert.FourInIdeal.τ).loc Cert.FourInIdeal.main_arg0)
      ∧ m' ((c.tc : Thread Cert.FourInReferenceIdeal.nD Cert.FourInReferenceIdeal.τ).loc Cert.FourInReferenceIdeal.main_arg1) = m ((c.tc : Thread Cert.FourInIdeal.nD Cert.FourInIdeal.τ).loc Cert.FourInIdeal.main_arg1)
      ∧ m' ((c.tc : Thread Cert.FourInReferenceIdeal.nD Cert.FourInReferenceIdeal.τ).loc Cert.FourInReferenceIdeal.main_arg2) = m ((c.tc : Thread Cert.FourInIdeal.nD Cert.FourInIdeal.τ).loc Cert.FourInIdeal.main_arg2)) →
    ∃ (v0 : (c : Dev Cert.FourInIdeal.nD) → Buf (Elt Ideal) ((c.tc : Thread Cert.FourInIdeal.nD Cert.FourInIdeal.τ).loc Cert.FourInIdeal.main_v0)),
      θ_run (Cert.FourInIdeal.defs (F := Ideal)) (onTc (τ := Cert.FourInIdeal.τ) (Cert.FourInIdeal.main (F := Ideal))) ⟨m, fun _ => 0, g⟩ (fun r => ∀ c : Dev Cert.FourInIdeal.nD,
          r.2.mem ((c.tc : Thread Cert.FourInIdeal.nD Cert.FourInIdeal.τ).loc Cert.FourInIdeal.main_v0) = v0 c
          ∧ r.2.mem ((c.tc : Thread Cert.FourInIdeal.nD Cert.FourInIdeal.τ).loc Cert.FourInIdeal.main_arg0) = m ((c.tc : Thread Cert.FourInIdeal.nD Cert.FourInIdeal.τ).loc Cert.FourInIdeal.main_arg0)
          ∧ r.2.mem ((c.tc : Thread Cert.FourInIdeal.nD Cert.FourInIdeal.τ).loc Cert.FourInIdeal.main_arg1) = m ((c.tc : Thread Cert.FourInIdeal.nD Cert.FourInIdeal.τ).loc Cert.FourInIdeal.main_arg1)
          ∧ r.2.mem ((c.tc : Thread Cert.FourInIdeal.nD Cert.FourInIdeal.τ).loc Cert.FourInIdeal.main_arg2) = m ((c.tc : Thread Cert.FourInIdeal.nD Cert.FourInIdeal.τ).loc Cert.FourInIdeal.main_arg2))
      ∧ θ_run (Cert.FourInReferenceIdeal.defs (F := Ideal)) (onTc (τ := Cert.FourInReferenceIdeal.τ) (Cert.FourInReferenceIdeal.main (F := Ideal))) ⟨m', fun _ => 0, g'⟩ (fun r => ∀ c : Dev Cert.FourInReferenceIdeal.nD,
          r.2.mem ((c.tc : Thread Cert.FourInReferenceIdeal.nD Cert.FourInReferenceIdeal.τ).loc Cert.FourInReferenceIdeal.main_v69) = v0 c
          ∧ r.2.mem ((c.tc : Thread Cert.FourInReferenceIdeal.nD Cert.FourInReferenceIdeal.τ).loc Cert.FourInReferenceIdeal.main_arg0) = m' ((c.tc : Thread Cert.FourInReferenceIdeal.nD Cert.FourInReferenceIdeal.τ).loc Cert.FourInReferenceIdeal.main_arg0)
          ∧ r.2.mem ((c.tc : Thread Cert.FourInReferenceIdeal.nD Cert.FourInReferenceIdeal.τ).loc Cert.FourInReferenceIdeal.main_arg1) = m' ((c.tc : Thread Cert.FourInReferenceIdeal.nD Cert.FourInReferenceIdeal.τ).loc Cert.FourInReferenceIdeal.main_arg1)
          ∧ r.2.mem ((c.tc : Thread Cert.FourInReferenceIdeal.nD Cert.FourInReferenceIdeal.τ).loc Cert.FourInReferenceIdeal.main_arg2) = m' ((c.tc : Thread Cert.FourInReferenceIdeal.nD Cert.FourInReferenceIdeal.τ).loc Cert.FourInReferenceIdeal.main_arg2))

def bitexact_FourIn_FourInReference [hFourIn : Cert.FourIn.Facts] [hFourInReference : Cert.FourInReference.Facts] [hPre_four_chips : Cert.Pre_four_chips.Facts] : Prop :=
  ∀ (m : (ℓ : Loc Cert.FourIn.nD Cert.FourIn.τ Cert.FourIn.sig) → Buf (Elt Bits) ℓ) (g : Dev Cert.FourIn.nD → PrngReg)
    (m' : (ℓ : Loc Cert.FourInReference.nD Cert.FourInReference.τ Cert.FourInReference.sig) → Buf (Elt Bits) ℓ) (g' : Dev Cert.FourInReference.nD → PrngReg), Pre_FourIn m →
    (∀ c : Dev Cert.FourIn.nD,
      m' ((c.tc : Thread Cert.FourInReference.nD Cert.FourInReference.τ).loc Cert.FourInReference.main_arg0) = m ((c.tc : Thread Cert.FourIn.nD Cert.FourIn.τ).loc Cert.FourIn.main_arg0)
      ∧ m' ((c.tc : Thread Cert.FourInReference.nD Cert.FourInReference.τ).loc Cert.FourInReference.main_arg1) = m ((c.tc : Thread Cert.FourIn.nD Cert.FourIn.τ).loc Cert.FourIn.main_arg1)
      ∧ m' ((c.tc : Thread Cert.FourInReference.nD Cert.FourInReference.τ).loc Cert.FourInReference.main_arg2) = m ((c.tc : Thread Cert.FourIn.nD Cert.FourIn.τ).loc Cert.FourIn.main_arg2)) →
    ∃ (v0 : (c : Dev Cert.FourIn.nD) → Buf (Elt Bits) ((c.tc : Thread Cert.FourIn.nD Cert.FourIn.τ).loc Cert.FourIn.main_v0)),
      θ_run (Cert.FourIn.defs (F := Bits)) (onTc (τ := Cert.FourIn.τ) (Cert.FourIn.main (F := Bits))) ⟨m, fun _ => 0, g⟩ (fun r => ∀ c : Dev Cert.FourIn.nD,
          r.2.mem ((c.tc : Thread Cert.FourIn.nD Cert.FourIn.τ).loc Cert.FourIn.main_v0) = v0 c
          ∧ r.2.mem ((c.tc : Thread Cert.FourIn.nD Cert.FourIn.τ).loc Cert.FourIn.main_arg0) = m ((c.tc : Thread Cert.FourIn.nD Cert.FourIn.τ).loc Cert.FourIn.main_arg0)
          ∧ r.2.mem ((c.tc : Thread Cert.FourIn.nD Cert.FourIn.τ).loc Cert.FourIn.main_arg1) = m ((c.tc : Thread Cert.FourIn.nD Cert.FourIn.τ).loc Cert.FourIn.main_arg1)
          ∧ r.2.mem ((c.tc : Thread Cert.FourIn.nD Cert.FourIn.τ).loc Cert.FourIn.main_arg2) = m ((c.tc : Thread Cert.FourIn.nD Cert.FourIn.τ).loc Cert.FourIn.main_arg2))
      ∧ θ_run (Cert.FourInReference.defs (F := Bits)) (onTc (τ := Cert.FourInReference.τ) (Cert.FourInReference.main (F := Bits))) ⟨m', fun _ => 0, g'⟩ (fun r => ∀ c : Dev Cert.FourInReference.nD,
          r.2.mem ((c.tc : Thread Cert.FourInReference.nD Cert.FourInReference.τ).loc Cert.FourInReference.main_v69) = v0 c
          ∧ r.2.mem ((c.tc : Thread Cert.FourInReference.nD Cert.FourInReference.τ).loc Cert.FourInReference.main_arg0) = m' ((c.tc : Thread Cert.FourInReference.nD Cert.FourInReference.τ).loc Cert.FourInReference.main_arg0)
          ∧ r.2.mem ((c.tc : Thread Cert.FourInReference.nD Cert.FourInReference.τ).loc Cert.FourInReference.main_arg1) = m' ((c.tc : Thread Cert.FourInReference.nD Cert.FourInReference.τ).loc Cert.FourInReference.main_arg1)
          ∧ r.2.mem ((c.tc : Thread Cert.FourInReference.nD Cert.FourInReference.τ).loc Cert.FourInReference.main_arg2) = m' ((c.tc : Thread Cert.FourInReference.nD Cert.FourInReference.τ).loc Cert.FourInReference.main_arg2))

def Claim : Prop :=
  ∃ (hKernel : Cert.Kernel.Facts) (hKernelIdeal : Cert.KernelIdeal.Facts) (hReferenceIdeal : Cert.ReferenceIdeal.Facts) (hReference : Cert.Reference.Facts) (hSwap : Cert.Swap.Facts) (hSwapIdeal : Cert.SwapIdeal.Facts) (hSwapReferenceIdeal : Cert.SwapReferenceIdeal.Facts) (hSwapReference : Cert.SwapReference.Facts) (hJoin : Cert.Join.Facts) (hJoinIdeal : Cert.JoinIdeal.Facts) (hJoinReferenceIdeal : Cert.JoinReferenceIdeal.Facts) (hJoinReference : Cert.JoinReference.Facts) (hCross : Cert.Cross.Facts) (hCrossIdeal : Cert.CrossIdeal.Facts) (hCrossReferenceIdeal : Cert.CrossReferenceIdeal.Facts) (hCrossReference : Cert.CrossReference.Facts) (hStepIn : Cert.StepIn.Facts) (hStepInIdeal : Cert.StepInIdeal.Facts) (hStepInReferenceIdeal : Cert.StepInReferenceIdeal.Facts) (hStepOut : Cert.StepOut.Facts) (hStepOutIdeal : Cert.StepOutIdeal.Facts) (hStepOutReferenceIdeal : Cert.StepOutReferenceIdeal.Facts) (hStepConv : Cert.StepConv.Facts) (hStepConvIdeal : Cert.StepConvIdeal.Facts) (hStepConvReferenceIdeal : Cert.StepConvReferenceIdeal.Facts) (hStepSmall : Cert.StepSmall.Facts) (hStepSmallIdeal : Cert.StepSmallIdeal.Facts) (hStepSmallReferenceIdeal : Cert.StepSmallReferenceIdeal.Facts) (hGradX : Cert.GradX.Facts) (hGradXIdeal : Cert.GradXIdeal.Facts) (hGradXReferenceIdeal : Cert.GradXReferenceIdeal.Facts) (hMerge : Cert.Merge.Facts) (hMergeIdeal : Cert.MergeIdeal.Facts) (hMergeReferenceIdeal : Cert.MergeReferenceIdeal.Facts) (hTotal : Cert.Total.Facts) (hTotalIdeal : Cert.TotalIdeal.Facts) (hTotalReferenceIdeal : Cert.TotalReferenceIdeal.Facts) (hNorm : Cert.Norm.Facts) (hNormIdeal : Cert.NormIdeal.Facts) (hNormReferenceIdeal : Cert.NormReferenceIdeal.Facts) (hProject : Cert.Project.Facts) (hProjectIdeal : Cert.ProjectIdeal.Facts) (hProjectReferenceIdeal : Cert.ProjectReferenceIdeal.Facts) (hGradW : Cert.GradW.Facts) (hGradWIdeal : Cert.GradWIdeal.Facts) (hGradWReferenceIdeal : Cert.GradWReferenceIdeal.Facts) (hGradWIn : Cert.GradWIn.Facts) (hGradWInIdeal : Cert.GradWInIdeal.Facts) (hGradWInReferenceIdeal : Cert.GradWInReferenceIdeal.Facts) (hGradH : Cert.GradH.Facts) (hGradHIdeal : Cert.GradHIdeal.Facts) (hGradHReferenceIdeal : Cert.GradHReferenceIdeal.Facts) (hSumCores : Cert.SumCores.Facts) (hSumCoresIdeal : Cert.SumCoresIdeal.Facts) (hSumCoresReferenceIdeal : Cert.SumCoresReferenceIdeal.Facts) (hSumChips : Cert.SumChips.Facts) (hSumChipsIdeal : Cert.SumChipsIdeal.Facts) (hSumChipsReferenceIdeal : Cert.SumChipsReferenceIdeal.Facts) (hCastIn : Cert.CastIn.Facts) (hCastInIdeal : Cert.CastInIdeal.Facts) (hCastInReferenceIdeal : Cert.CastInReferenceIdeal.Facts) (hCastInReference : Cert.CastInReference.Facts) (hCastOut : Cert.CastOut.Facts) (hCastOutIdeal : Cert.CastOutIdeal.Facts) (hCastOutReferenceIdeal : Cert.CastOutReferenceIdeal.Facts) (hCastOutReference : Cert.CastOutReference.Facts) (hPairIn : Cert.PairIn.Facts) (hPairInIdeal : Cert.PairInIdeal.Facts) (hPairInReferenceIdeal : Cert.PairInReferenceIdeal.Facts) (hPairInReference : Cert.PairInReference.Facts) (hFourIn : Cert.FourIn.Facts) (hFourInIdeal : Cert.FourInIdeal.Facts) (hFourInReferenceIdeal : Cert.FourInReferenceIdeal.Facts) (hFourInReference : Cert.FourInReference.Facts) (hPre_a_core : Cert.Pre_a_core.Facts) (hPre_four_chips : Cert.Pre_four_chips.Facts) (hOn_from_others : Cert.On_from_others.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_Join (hJoin := hJoin)
    ∧ quiescent_JoinIdeal (hJoinIdeal := hJoinIdeal)
    ∧ quiescent_JoinReferenceIdeal (hJoinReferenceIdeal := hJoinReferenceIdeal)
    ∧ quiescent_JoinReference (hJoinReference := hJoinReference)
    ∧ quiescent_Cross (hCross := hCross)
    ∧ quiescent_CrossIdeal (hCrossIdeal := hCrossIdeal)
    ∧ quiescent_CrossReferenceIdeal (hCrossReferenceIdeal := hCrossReferenceIdeal)
    ∧ quiescent_CrossReference (hCrossReference := hCrossReference)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepConv (hStepConv := hStepConv)
    ∧ quiescent_StepConvIdeal (hStepConvIdeal := hStepConvIdeal)
    ∧ quiescent_StepConvReferenceIdeal (hStepConvReferenceIdeal := hStepConvReferenceIdeal)
    ∧ quiescent_StepSmall (hStepSmall := hStepSmall)
    ∧ quiescent_StepSmallIdeal (hStepSmallIdeal := hStepSmallIdeal)
    ∧ quiescent_StepSmallReferenceIdeal (hStepSmallReferenceIdeal := hStepSmallReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Total (hTotal := hTotal)
    ∧ quiescent_TotalIdeal (hTotalIdeal := hTotalIdeal)
    ∧ quiescent_TotalReferenceIdeal (hTotalReferenceIdeal := hTotalReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_GradW (hGradW := hGradW)
    ∧ quiescent_GradWIdeal (hGradWIdeal := hGradWIdeal)
    ∧ quiescent_GradWReferenceIdeal (hGradWReferenceIdeal := hGradWReferenceIdeal)
    ∧ quiescent_GradWIn (hGradWIn := hGradWIn)
    ∧ quiescent_GradWInIdeal (hGradWInIdeal := hGradWInIdeal)
    ∧ quiescent_GradWInReferenceIdeal (hGradWInReferenceIdeal := hGradWInReferenceIdeal)
    ∧ quiescent_GradH (hGradH := hGradH)
    ∧ quiescent_GradHIdeal (hGradHIdeal := hGradHIdeal)
    ∧ quiescent_GradHReferenceIdeal (hGradHReferenceIdeal := hGradHReferenceIdeal)
    ∧ quiescent_SumCores (hSumCores := hSumCores)
    ∧ quiescent_SumCoresIdeal (hSumCoresIdeal := hSumCoresIdeal)
    ∧ quiescent_SumCoresReferenceIdeal (hSumCoresReferenceIdeal := hSumCoresReferenceIdeal)
    ∧ quiescent_SumChips (hSumChips := hSumChips)
    ∧ quiescent_SumChipsIdeal (hSumChipsIdeal := hSumChipsIdeal)
    ∧ quiescent_SumChipsReferenceIdeal (hSumChipsReferenceIdeal := hSumChipsReferenceIdeal)
    ∧ quiescent_CastIn (hCastIn := hCastIn)
    ∧ quiescent_CastInIdeal (hCastInIdeal := hCastInIdeal)
    ∧ quiescent_CastInReferenceIdeal (hCastInReferenceIdeal := hCastInReferenceIdeal)
    ∧ quiescent_CastInReference (hCastInReference := hCastInReference)
    ∧ quiescent_CastOut (hCastOut := hCastOut)
    ∧ quiescent_CastOutIdeal (hCastOutIdeal := hCastOutIdeal)
    ∧ quiescent_CastOutReferenceIdeal (hCastOutReferenceIdeal := hCastOutReferenceIdeal)
    ∧ quiescent_CastOutReference (hCastOutReference := hCastOutReference)
    ∧ quiescent_PairIn (hPairIn := hPairIn) (hPre_a_core := hPre_a_core)
    ∧ quiescent_PairInIdeal (hPairInIdeal := hPairInIdeal) (hPre_a_core := hPre_a_core)
    ∧ quiescent_PairInReferenceIdeal (hPairInReferenceIdeal := hPairInReferenceIdeal)
    ∧ quiescent_PairInReferenceIdeal_pre_a_core (hPairInReferenceIdeal := hPairInReferenceIdeal) (hPre_a_core := hPre_a_core)
    ∧ quiescent_PairInReference (hPairInReference := hPairInReference) (hPre_a_core := hPre_a_core)
    ∧ quiescent_FourIn (hFourIn := hFourIn) (hPre_four_chips := hPre_four_chips)
    ∧ quiescent_FourInIdeal (hFourInIdeal := hFourInIdeal) (hPre_four_chips := hPre_four_chips)
    ∧ quiescent_FourInReferenceIdeal (hFourInReferenceIdeal := hFourInReferenceIdeal)
    ∧ quiescent_FourInReferenceIdeal_pre_four_chips (hFourInReferenceIdeal := hFourInReferenceIdeal) (hPre_four_chips := hPre_four_chips)
    ∧ quiescent_FourInReference (hFourInReference := hFourInReference) (hPre_four_chips := hPre_four_chips)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Swap_SwapIdeal
    ∧ algebraic_SwapIdeal_SwapReferenceIdeal (hSwapIdeal := hSwapIdeal) (hSwapReferenceIdeal := hSwapReferenceIdeal)
    ∧ bitexact_Swap_SwapReference (hSwap := hSwap) (hSwapReference := hSwapReference)
    ∧ preserves_Join_JoinIdeal
    ∧ algebraic_JoinIdeal_JoinReferenceIdeal (hJoinIdeal := hJoinIdeal) (hJoinReferenceIdeal := hJoinReferenceIdeal)
    ∧ bitexact_Join_JoinReference (hJoin := hJoin) (hJoinReference := hJoinReference)
    ∧ preserves_Cross_CrossIdeal
    ∧ algebraic_CrossIdeal_CrossReferenceIdeal_on_from_others (hCrossIdeal := hCrossIdeal) (hCrossReferenceIdeal := hCrossReferenceIdeal) (hOn_from_others := hOn_from_others)
    ∧ bitexact_Cross_CrossReference_on_from_others (hCross := hCross) (hCrossReference := hCrossReference) (hOn_from_others := hOn_from_others)
    ∧ preserves_StepIn_StepInIdeal
    ∧ algebraic_StepInIdeal_StepInReferenceIdeal (hStepInIdeal := hStepInIdeal) (hStepInReferenceIdeal := hStepInReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepConv_StepConvIdeal
    ∧ algebraic_StepConvIdeal_StepConvReferenceIdeal (hStepConvIdeal := hStepConvIdeal) (hStepConvReferenceIdeal := hStepConvReferenceIdeal)
    ∧ preserves_StepSmall_StepSmallIdeal
    ∧ algebraic_StepSmallIdeal_StepSmallReferenceIdeal (hStepSmallIdeal := hStepSmallIdeal) (hStepSmallReferenceIdeal := hStepSmallReferenceIdeal)
    ∧ preserves_GradX_GradXIdeal
    ∧ algebraic_GradXIdeal_GradXReferenceIdeal (hGradXIdeal := hGradXIdeal) (hGradXReferenceIdeal := hGradXReferenceIdeal)
    ∧ preserves_Merge_MergeIdeal
    ∧ algebraic_MergeIdeal_MergeReferenceIdeal (hMergeIdeal := hMergeIdeal) (hMergeReferenceIdeal := hMergeReferenceIdeal)
    ∧ preserves_Total_TotalIdeal
    ∧ algebraic_TotalIdeal_TotalReferenceIdeal (hTotalIdeal := hTotalIdeal) (hTotalReferenceIdeal := hTotalReferenceIdeal)
    ∧ preserves_Norm_NormIdeal
    ∧ algebraic_NormIdeal_NormReferenceIdeal (hNormIdeal := hNormIdeal) (hNormReferenceIdeal := hNormReferenceIdeal)
    ∧ preserves_Project_ProjectIdeal
    ∧ algebraic_ProjectIdeal_ProjectReferenceIdeal (hProjectIdeal := hProjectIdeal) (hProjectReferenceIdeal := hProjectReferenceIdeal)
    ∧ preserves_GradW_GradWIdeal
    ∧ algebraic_GradWIdeal_GradWReferenceIdeal (hGradWIdeal := hGradWIdeal) (hGradWReferenceIdeal := hGradWReferenceIdeal)
    ∧ preserves_GradWIn_GradWInIdeal
    ∧ algebraic_GradWInIdeal_GradWInReferenceIdeal (hGradWInIdeal := hGradWInIdeal) (hGradWInReferenceIdeal := hGradWInReferenceIdeal)
    ∧ preserves_GradH_GradHIdeal
    ∧ algebraic_GradHIdeal_GradHReferenceIdeal (hGradHIdeal := hGradHIdeal) (hGradHReferenceIdeal := hGradHReferenceIdeal)
    ∧ preserves_SumCores_SumCoresIdeal
    ∧ algebraic_SumCoresIdeal_SumCoresReferenceIdeal (hSumCoresIdeal := hSumCoresIdeal) (hSumCoresReferenceIdeal := hSumCoresReferenceIdeal)
    ∧ preserves_SumChips_SumChipsIdeal
    ∧ algebraic_SumChipsIdeal_SumChipsReferenceIdeal (hSumChipsIdeal := hSumChipsIdeal) (hSumChipsReferenceIdeal := hSumChipsReferenceIdeal)
    ∧ preserves_CastIn_CastInIdeal
    ∧ algebraic_CastInIdeal_CastInReferenceIdeal (hCastInIdeal := hCastInIdeal) (hCastInReferenceIdeal := hCastInReferenceIdeal)
    ∧ bitexact_CastIn_CastInReference (hCastIn := hCastIn) (hCastInReference := hCastInReference)
    ∧ preserves_CastOut_CastOutIdeal
    ∧ algebraic_CastOutIdeal_CastOutReferenceIdeal (hCastOutIdeal := hCastOutIdeal) (hCastOutReferenceIdeal := hCastOutReferenceIdeal)
    ∧ bitexact_CastOut_CastOutReference (hCastOut := hCastOut) (hCastOutReference := hCastOutReference)
    ∧ preserves_PairIn_PairInIdeal
    ∧ algebraic_PairInIdeal_PairInReferenceIdeal (hPairInIdeal := hPairInIdeal) (hPairInReferenceIdeal := hPairInReferenceIdeal) (hPre_a_core := hPre_a_core)
    ∧ bitexact_PairIn_PairInReference (hPairIn := hPairIn) (hPairInReference := hPairInReference) (hPre_a_core := hPre_a_core)
    ∧ preserves_FourIn_FourInIdeal
    ∧ algebraic_FourInIdeal_FourInReferenceIdeal (hFourInIdeal := hFourInIdeal) (hFourInReferenceIdeal := hFourInReferenceIdeal) (hPre_four_chips := hPre_four_chips)
    ∧ bitexact_FourIn_FourInReference (hFourIn := hFourIn) (hFourInReference := hFourInReference) (hPre_four_chips := hPre_four_chips)
-- ==== On_from_others.lean ====
abbrev S32x512x1664 : Shape := ⟨3, ![32, 512, 1664]⟩
abbrev S32x128x1024 : Shape := ⟨3, ![32, 128, 1024]⟩
abbrev S17152x128 : Shape := ⟨2, ![17152, 128]⟩
abbrev S_ : Shape := ⟨0, ![]⟩
abbrev S32x1072x128 : Shape := ⟨3, ![32, 1072, 128]⟩

class Facts : Prop where
  bcast_S_S32x512x1664 : S_.BroadcastsInDim S32x512x1664 (![] : Fin 0 → Fin S32x512x1664.rank)
  bcast_S_S32x128x1024 : S_.BroadcastsInDim S32x128x1024 (![] : Fin 0 → Fin S32x128x1024.rank)
  bcast_S_S32x1072x128 : S_.BroadcastsInDim S32x1072x128 (![] : Fin 0 → Fin S32x1072x128.rank)

variable [Facts]

def fn_part1 {F : FTy → Type} [FloatOps F] (main_v5 : IVec S32x512x1664 1) (main_v11 : IVec S32x128x1024 1) (main_v17 : IVec S32x128x1024 1) : IVec S32x512x1664 1 × IVec S32x128x1024 1 × IVec S32x128x1024 1 × IVec S32x128x1024 1 × IVec S32x1072x128 1 :=
  let main_v18 : IVec S32x128x1024 32 := iotaInDim S32x128x1024 32 0
  let main_c_5 : IVec S_ 32 := constantI S_ 32 3#32
  let main_v19 : IVec S32x128x1024 32 := broadcastInDim S32x128x1024 ![] bcast_S_S32x128x1024 main_c_5
  let main_v20 : IVec S32x128x1024 32 := Host.shrui main_v18 main_v19
  let main_c_6 : IVec S_ 32 := constantI S_ 32 3#32
  let main_v21 : IVec S32x128x1024 32 := broadcastInDim S32x128x1024 ![] bcast_S_S32x128x1024 main_c_6
  let main_v22 : IVec S32x128x1024 32 := andi main_v18 main_v21
  let main_v23 : IVec S32x128x1024 1 := cmpi .ne main_v20 main_v22
  let main_c_7 : IVec S_ 1 := constantI S_ 1 1#1
  let main_v24 : IVec S32x1072x128 1 := broadcastInDim S32x1072x128 ![] bcast_S_S32x1072x128 main_c_7
  (main_v5, main_v11, main_v17, main_v23, main_v24)

def fn {F : FTy → Type} [FloatOps F] (main_arg0 : FVec F S32x512x1664 .bf16) (main_arg1 : FVec F S32x128x1024 .bf16) (main_arg2 : FVec F S32x128x1024 .bf16) (main_arg3 : FVec F S32x128x1024 .bf16) (main_arg4 : FVec F S17152x128 .f32) : IVec S32x512x1664 1 × IVec S32x128x1024 1 × IVec S32x128x1024 1 × IVec S32x128x1024 1 × IVec S32x1072x128 1 :=
  let main_v0 : IVec S32x512x1664 32 := iotaInDim S32x512x1664 32 0
  let main_c : IVec S_ 32 := constantI S_ 32 3#32
  let main_v1 : IVec S32x512x1664 32 := broadcastInDim S32x512x1664 ![] bcast_S_S32x512x1664 main_c
  let main_v2 : IVec S32x512x1664 32 := Host.shrui main_v0 main_v1
  let main_c_0 : IVec S_ 32 := constantI S_ 32 3#32
  let main_v3 : IVec S32x512x1664 32 := broadcastInDim S32x512x1664 ![] bcast_S_S32x512x1664 main_c_0
  let main_v4 : IVec S32x512x1664 32 := andi main_v0 main_v3
  let main_v5 : IVec S32x512x1664 1 := cmpi .ne main_v2 main_v4
  let main_v6 : IVec S32x128x1024 32 := iotaInDim S32x128x1024 32 0
  let main_c_1 : IVec S_ 32 := constantI S_ 32 3#32
  let main_v7 : IVec S32x128x1024 32 := broadcastInDim S32x128x1024 ![] bcast_S_S32x128x1024 main_c_1
  let main_v8 : IVec S32x128x1024 32 := Host.shrui main_v6 main_v7
  let main_c_2 : IVec S_ 32 := constantI S_ 32 3#32
  let main_v9 : IVec S32x128x1024 32 := broadcastInDim S32x128x1024 ![] bcast_S_S32x128x1024 main_c_2
  let main_v10 : IVec S32x128x1024 32 := andi main_v6 main_v9
  let main_v11 : IVec S32x128x1024 1 := cmpi .ne main_v8 main_v10
  let main_v12 : IVec S32x128x1024 32 := iotaInDim S32x128x1024 32 0
  let main_c_3 : IVec S_ 32 := constantI S_ 32 3#32
  let main_v13 : IVec S32x128x1024 32 := broadcastInDim S32x128x1024 ![] bcast_S_S32x128x1024 main_c_3
  let main_v14 : IVec S32x128x1024 32 := Host.shrui main_v12 main_v13
  let main_c_4 : IVec S_ 32 := constantI S_ 32 3#32
  let main_v15 : IVec S32x128x1024 32 := broadcastInDim S32x128x1024 ![] bcast_S_S32x128x1024 main_c_4
  let main_v16 : IVec S32x128x1024 32 := andi main_v12 main_v15
  let main_v17 : IVec S32x128x1024 1 := cmpi .ne main_v14 main_v16
  fn_part1 (F := F) main_v5 main_v11 main_v17
-- ==== Pre_a_core.lean ====
abbrev S4x1024x1664 : Shape := ⟨3, ![4, 1024, 1664]⟩
abbrev S4x512x1664 : Shape := ⟨3, ![4, 512, 1664]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x1664 .f32) (main_arg1 : FVec F S4x512x1664 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_four_chips.lean ====
abbrev S4x512x1664 : Shape := ⟨3, ![4, 512, 1664]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x512x1664 .f32) (main_arg1 : FVec F S4x512x1664 .bf16) (main_arg2 : IVec S4 32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 4#32
  let main_v2 : IVec S4 32 := broadcastInDim S4 ![] bcast_S_S4 main_c_0
  let main_v3 : IVec S4 1 := cmpi .slt main_arg2 main_v2
  let main_v4 : IVec S4 1 := andi main_v1 main_v3
  main_v4
-- ==== Kernel.lean ====
abbrev S1024x1664 : Shape := ⟨2, ![1024, 1664]⟩
abbrev S256x1024 : Shape := ⟨2, ![256, 1024]⟩
abbrev S4x256 : Shape := ⟨2, ![4, 256]⟩
abbrev S4x1024x1664 : Shape := ⟨3, ![4, 1024, 1664]⟩
abbrev S4x256x1024 : Shape := ⟨3, ![4, 256, 1024]⟩
abbrev S4x4x256 : Shape := ⟨3, ![4, 4, 256]⟩
abbrev S15 : Shape := ⟨1, ![15]⟩
abbrev S5 : Shape := ⟨1, ![5]⟩
abbrev S1 : Shape := ⟨1, ![1]⟩
abbrev S_ : Shape := ⟨0, ![]⟩
abbrev S1x1024x1664 : Shape := ⟨3, ![1, 1024, 1664]⟩
abbrev S1x256x1024 : Shape := ⟨3, ![1, 256, 1024]⟩
abbrev S1x4x256 : Shape := ⟨3, ![1, 4, 256]⟩

abbrev nBuf : Space → Nat
  | .hbm => 10
  | .vmem => 0
  | .smem => 0
  | _ => 0

abbrev bufTy : (tb : Table) → Fin (tcTables nBuf tb) → BufTy
  | .hbm, ⟨0, _⟩ => ⟨S1024x1664, .bf16⟩
  | .hbm, ⟨1, _⟩ => ⟨S256x1024, .bf16⟩
  | .hbm, ⟨2, _⟩ => ⟨S256x1024, .bf16⟩
  | .hbm, ⟨3, _⟩ => ⟨S256x1024, .bf16⟩
  | .hbm, ⟨4, _⟩ => ⟨S4x256, .f32⟩
  | .hbm, ⟨5, _⟩ => ⟨S4x1024x1664, .bf16⟩
  | .hbm, ⟨6, _⟩ => ⟨S4x256x1024, .bf16⟩
  | .hbm, ⟨7, _⟩ => ⟨S4x256x1024, .bf16⟩
  | .hbm, ⟨8, _⟩ => ⟨S4x256x1024, .bf16⟩
  | .hbm, ⟨9, _⟩ => ⟨S4x4x256, .f32⟩
  | _, _ => ⟨S1024x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  ![v10.toNat, 0, 0]
def k0_dev1 (d0 : Dev nD) : Nat :=
  let c0_i32_75 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_17 v2
  let c4_i32_74 : BitVec 32 := 4#32
  let v101 : BitVec 32 := Scalar.muli v31 c4_i32_74
  let v102 : BitVec 32 := Scalar.addi c0_i32_75 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v103 : BitVec 32 := Scalar.muli v5 c2_i32_76
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v105 : BitVec 32 := Scalar.muli v8 c1_i32_77
  let v106 : BitVec 32 := Scalar.addi v104 v105
  v106.toNat
def k0_dev2 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v113 : BitVec 32 := Scalar.muli v2 c4_i32_82
  let v114 : BitVec 32 := Scalar.addi c0_i32_83 v113
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_20 v5
  let c2_i32_84 : BitVec 32 := 2#32
  let v115 : BitVec 32 := Scalar.muli v35 c2_i32_84
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v117 : BitVec 32 := Scalar.muli v8 c1_i32_85
  let v118 : BitVec 32 := Scalar.addi v116 v117
  v118.toNat
def k0_dev3 (d0 : Dev nD) : Nat :=
  let c0_i32_91 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_23 v2
  let c4_i32_90 : BitVec 32 := 4#32
  let v125 : BitVec 32 := Scalar.muli v39 c4_i32_90
  let v126 : BitVec 32 := Scalar.addi c0_i32_91 v125
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c2_i32_92 : BitVec 32 := 2#32
  let v127 : BitVec 32 := Scalar.muli v40 c2_i32_92
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v129 : BitVec 32 := Scalar.muli v8 c1_i32_93
  let v130 : BitVec 32 := Scalar.addi v128 v129
  v130.toNat
def k0_dev4 (d0 : Dev nD) : Nat :=
  let c0_i32_99 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_28 v2
  let c4_i32_98 : BitVec 32 := 4#32
  let v137 : BitVec 32 := Scalar.muli v45 c4_i32_98
  let v138 : BitVec 32 := Scalar.addi c0_i32_99 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v139 : BitVec 32 := Scalar.muli v5 c2_i32_100
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v141 : BitVec 32 := Scalar.muli v8 c1_i32_101
  let v142 : BitVec 32 := Scalar.addi v140 v141
  v142.toNat
def k0_dev5 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v149 : BitVec 32 := Scalar.muli v2 c4_i32_106
  let v150 : BitVec 32 := Scalar.addi c0_i32_107 v149
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_31 v5
  let c2_i32_108 : BitVec 32 := 2#32
  let v151 : BitVec 32 := Scalar.muli v49 c2_i32_108
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v153 : BitVec 32 := Scalar.muli v8 c1_i32_109
  let v154 : BitVec 32 := Scalar.addi v152 v153
  v154.toNat
def k0_dev6 (d0 : Dev nD) : Nat :=
  let c0_i32_114 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_34 v2
  let c4_i32_113 : BitVec 32 := 4#32
  let v161 : BitVec 32 := Scalar.muli v53 c4_i32_113
  let v162 : BitVec 32 := Scalar.addi c0_i32_114 v161
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_35 v5
  let c2_i32_115 : BitVec 32 := 2#32
  let v163 : BitVec 32 := Scalar.muli v54 c2_i32_115
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v165 : BitVec 32 := Scalar.muli v8 c1_i32_116
  let v166 : BitVec 32 := Scalar.addi v164 v165
  v166.toNat
def k0_dev7 (d0 : Dev nD) : Nat :=
  let c0_i32_121 : BitVec 32 := 0#32
  let c1_i32_39 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_39 v2
  let c4_i32_120 : BitVec 32 := 4#32
  let v173 : BitVec 32 := Scalar.muli v59 c4_i32_120
  let v174 : BitVec 32 := Scalar.addi c0_i32_121 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v175 : BitVec 32 := Scalar.muli v5 c2_i32_122
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v177 : BitVec 32 := Scalar.muli v8 c1_i32_123
  let v178 : BitVec 32 := Scalar.addi v176 v177
  v178.toNat
def k0_dev8 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v185 : BitVec 32 := Scalar.muli v2 c4_i32_127
  let v186 : BitVec 32 := Scalar.addi c0_i32_128 v185
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_42 v5
  let c2_i32_129 : BitVec 32 := 2#32
  let v187 : BitVec 32 := Scalar.muli v63 c2_i32_129
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v189 : BitVec 32 := Scalar.muli v8 c1_i32_130
  let v190 : BitVec 32 := Scalar.addi v188 v189
  v190.toNat
def k0_dev9 (d0 : Dev nD) : Nat :=
  let c0_i32_135 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_45 v2
  let c4_i32_134 : BitVec 32 := 4#32
  let v197 : BitVec 32 := Scalar.muli v67 c4_i32_134
  let v198 : BitVec 32 := Scalar.addi c0_i32_135 v197
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_46 v5
  let c2_i32_136 : BitVec 32 := 2#32
  let v199 : BitVec 32 := Scalar.muli v68 c2_i32_136
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v201 : BitVec 32 := Scalar.muli v8 c1_i32_137
  let v202 : BitVec 32 := Scalar.addi v200 v201
  v202.toNat
def k0_dev10 (d0 : Dev nD) : Nat :=
  let c0_i32_142 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.subi c1_i32_50 v2
  let c4_i32_141 : BitVec 32 := 4#32
  let v209 : BitVec 32 := Scalar.muli v73 c4_i32_141
  let v210 : BitVec 32 := Scalar.addi c0_i32_142 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v211 : BitVec 32 := Scalar.muli v5 c2_i32_143
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v213 : BitVec 32 := Scalar.muli v8 c1_i32_144
  let v214 : BitVec 32 := Scalar.addi v212 v213
  v214.toNat
def k0_dev11 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v221 : BitVec 32 := Scalar.muli v2 c4_i32_148
  let v222 : BitVec 32 := Scalar.addi c0_i32_149 v221
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_53 v5
  let c2_i32_150 : BitVec 32 := 2#32
  let v223 : BitVec 32 := Scalar.muli v77 c2_i32_150
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v225 : BitVec 32 := Scalar.muli v8 c1_i32_151
  let v226 : BitVec 32 := Scalar.addi v224 v225
  v226.toNat
def k0_dev12 (d0 : Dev nD) : Nat :=
  let c0_i32_156 : BitVec 32 := 0#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_56 v2
  let c4_i32_155 : BitVec 32 := 4#32
  let v233 : BitVec 32 := Scalar.muli v81 c4_i32_155
  let v234 : BitVec 32 := Scalar.addi c0_i32_156 v233
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_57 v5
  let c2_i32_157 : BitVec 32 := 2#32
  let v235 : BitVec 32 := Scalar.muli v82 c2_i32_157
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v237 : BitVec 32 := Scalar.muli v8 c1_i32_158
  let v238 : BitVec 32 := Scalar.addi v236 v237
  v238.toNat
def k0_dev13 (d0 : Dev nD) : Nat :=
  let c0_i32_163 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.subi c1_i32_61 v2
  let c4_i32_162 : BitVec 32 := 4#32
  let v245 : BitVec 32 := Scalar.muli v87 c4_i32_162
  let v246 : BitVec 32 := Scalar.addi c0_i32_163 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v247 : BitVec 32 := Scalar.muli v5 c2_i32_164
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v249 : BitVec 32 := Scalar.muli v8 c1_i32_165
  let v250 : BitVec 32 := Scalar.addi v248 v249
  v250.toNat
def k0_dev14 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v257 : BitVec 32 := Scalar.muli v2 c4_i32_169
  let v258 : BitVec 32 := Scalar.addi c0_i32_170 v257
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_64 v5
  let c2_i32_171 : BitVec 32 := 2#32
  let v259 : BitVec 32 := Scalar.muli v91 c2_i32_171
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v261 : BitVec 32 := Scalar.muli v8 c1_i32_172
  let v262 : BitVec 32 := Scalar.addi v260 v261
  v262.toNat
def k0_dev15 (d0 : Dev nD) : Nat :=
  let c0_i32_177 : BitVec 32 := 0#32
  let c1_i32_67 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.subi c1_i32_67 v2
  let c4_i32_176 : BitVec 32 := 4#32
  let v269 : BitVec 32 := Scalar.muli v95 c4_i32_176
  let v270 : BitVec 32 := Scalar.addi c0_i32_177 v269
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.subi c1_i32_68 v5
  let c2_i32_178 : BitVec 32 := 2#32
  let v271 : BitVec 32 := Scalar.muli v96 c2_i32_178
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v273 : BitVec 32 := Scalar.muli v8 c1_i32_179
  let v274 : BitVec 32 := Scalar.addi v272 v273
  v274.toNat
def k0_off4 (d0 : Dev nD) : Fin 3 → Nat :=
  let c2_i32_19 : BitVec 32 := 2#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_18 v2
  let v33 : BitVec 32 := Scalar.muli c2_i32_19 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.addi v33 v5
  let c0_i32_193 : BitVec 32 := 0#32
  let c0_i32_194 : BitVec 32 := 0#32
  ![v34.toNat, 0, 0]
def k0_off5 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_21 v2
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_22 v5
  let v38 : BitVec 32 := Scalar.addi v36 v37
  let c0_i32_206 : BitVec 32 := 0#32
  let c0_i32_207 : BitVec 32 := 0#32
  ![v38.toNat, 0, 0]
def k0_off6 (d0 : Dev nD) : Fin 3 → Nat :=
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.subi c1_i32_25 v2
  let v42 : BitVec 32 := Scalar.muli c2_i32_26 v41
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_27 v5
  let v44 : BitVec 32 := Scalar.addi v42 v43
  let c0_i32_219 : BitVec 32 := 0#32
  let c0_i32_220 : BitVec 32 := 0#32
  ![v44.toNat, 0, 0]
def k0_off7 (d0 : Dev nD) : Fin 3 → Nat :=
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_29 v2
  let v47 : BitVec 32 := Scalar.muli c2_i32_30 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.addi v47 v5
  let c0_i32_232 : BitVec 32 := 0#32
  let c0_i32_233 : BitVec 32 := 0#32
  ![v48.toNat, 0, 0]
def k0_off8 (d0 : Dev nD) : Fin 3 → Nat :=
  let c2_i32_32 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c2_i32_32 v2
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_33 v5
  let v52 : BitVec 32 := Scalar.addi v50 v51
  let c0_i32_245 : BitVec 32 := 0#32
  let c0_i32_246 : BitVec 32 := 0#32
  ![v52.toNat, 0, 0]
def k0_off9 (d0 : Dev nD) : Fin 3 → Nat :=
  let c2_i32_37 : BitVec 32 := 2#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_36 v2
  let v56 : BitVec 32 := Scalar.muli c2_i32_37 v55
  let c1_i32_38 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_38 v5
  let v58 : BitVec 32 := Scalar.addi v56 v57
  let c0_i32_258 : BitVec 32 := 0#32
  let c0_i32_259 : BitVec 32 := 0#32
  ![v58.toNat, 0, 0]
def k0_off10 (d0 : Dev nD) : Fin 3 → Nat :=
  let c2_i32_63 : BitVec 32 := 2#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v88 : BitVec 32 := Scalar.subi c1_i32_62 v2
  let v89 : BitVec 32 := Scalar.muli c2_i32_63 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v90 : BitVec 32 := Scalar.addi v89 v5
  let c0_i32_349 : BitVec 32 := 0#32
  let c0_i32_350 : BitVec 32 := 0#32
  ![v90.toNat, 0, 0]
def k0_off11 (d0 : Dev nD) : Fin 3 → Nat :=
  let c2_i32_65 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.muli c2_i32_65 v2
  let c1_i32_66 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.subi c1_i32_66 v5
  let v94 : BitVec 32 := Scalar.addi v92 v93
  let c0_i32_362 : BitVec 32 := 0#32
  let c0_i32_363 : BitVec 32 := 0#32
  ![v94.toNat, 0, 0]
def k0_off12 (d0 : Dev nD) : Fin 3 → Nat :=
  let c2_i32_70 : BitVec 32 := 2#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_69 v2
  let v98 : BitVec 32 := Scalar.muli c2_i32_70 v97
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_71 v5
  let v100 : BitVec 32 := Scalar.addi v98 v99
  let c0_i32_375 : BitVec 32 := 0#32
  let c0_i32_376 : BitVec 32 := 0#32
  ![v100.toNat, 0, 0]
-- ==== Reference.lean ====
abbrev S1024x6656 : Shape := ⟨2, ![1024, 6656]⟩
abbrev S1024x1024 : Shape := ⟨2, ![1024, 1024]⟩
abbrev S4x1024 : Shape := ⟨2, ![4, 1024]⟩
abbrev S1024x4x1664 : Shape := ⟨3, ![1024, 4, 1664]⟩
abbrev S4x1024x1664 : Shape := ⟨3, ![4, 1024, 1664]⟩
abbrev S4x4x256 : Shape := ⟨3, ![4, 4, 256]⟩
abbrev S4x256x1024 : Shape := ⟨3, ![4, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x6656, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x1024, .f32⟩
  | .hbm, ⟨5, _⟩ => ⟨S1024x4x1664, .bf16⟩
  | .hbm, ⟨6, _⟩ => ⟨S4x1024x1664, .bf16⟩
  | .hbm, ⟨7, _⟩ => ⟨S4x4x256, .f32⟩
  | .hbm, ⟨8, _⟩ => ⟨S4x4x256, .f32⟩
  | .hbm, ⟨9, _⟩ => ⟨S4x256x1024, .bf16⟩
  | .hbm, ⟨10, _⟩ => ⟨S4x256x1024, .bf16⟩
  | .hbm, ⟨11, _⟩ => ⟨S4x256x1024, .bf16⟩
  | _, _ => ⟨S1024x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Swap.lean ====
abbrev S4x1024x1664 : Shape := ⟨3, ![4, 1024, 1664]⟩
abbrev S4x256x1024 : Shape := ⟨3, ![4, 256, 1024]⟩
abbrev S2144x128 : Shape := ⟨2, ![2144, 128]⟩
abbrev S4x512x1664 : Shape := ⟨3, ![4, 512, 1664]⟩
abbrev S4x128x1024 : Shape := ⟨3, ![4, 128, 1024]⟩
abbrev S5 : Shape := ⟨1, ![5]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x1664, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S2144x128, .f32⟩
  | .hbm, ⟨5, _⟩ => ⟨S4x512x1664, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S2144x128, .f32⟩
  | _, _ => ⟨S4x1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c512_i32 : BitVec 32 := 512#32
  let v11 : BitVec 32 := Scalar.muli v10 c512_i32
  v11
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c128_i32 : BitVec 32 := 128#32
  let v14 : BitVec 32 := Scalar.muli v13 c128_i32
  v14
def k0_mult3 (d0 : Dev nD) : BitVec 32 :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c128_i32_7 : BitVec 32 := 128#32
  let v17 : BitVec 32 := Scalar.muli v16 c128_i32_7
  v17
def k0_mult4 (d0 : Dev nD) : BitVec 32 :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_8 v8
  let c128_i32_9 : BitVec 32 := 128#32
  let v20 : BitVec 32 := Scalar.muli v19 c128_i32_9
  v20
def k0_off1 (d0 : Dev nD) : Fin 3 → Nat :=
  let c0_i32_15 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c512_i32 : BitVec 32 := 512#32
  let v11 : BitVec 32 := Scalar.muli v10 c512_i32
  let v12 : BitVec 32 := v11
  let c0_i32_16 : BitVec 32 := 0#32
  ![0, v12.toNat, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v22 : BitVec 32 := Scalar.muli v2 c4_i32_11
  let v23 : BitVec 32 := Scalar.addi c0_i32_12 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v24 : BitVec 32 := Scalar.muli v5 c2_i32_13
  let v25 : BitVec 32 := Scalar.addi v23 v24
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v26 : BitVec 32 := Scalar.muli v9 c1_i32_14
  let v27 : BitVec 32 := Scalar.addi v25 v26
  v27.toNat
def k0_off2 (d0 : Dev nD) : Fin 3 → Nat :=
  let c0_i32_23 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c128_i32 : BitVec 32 := 128#32
  let v14 : BitVec 32 := Scalar.muli v13 c128_i32
  let v15 : BitVec 32 := v14
  let c0_i32_24 : BitVec 32 := 0#32
  ![0, v15.toNat, 0]
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v33 : BitVec 32 := Scalar.muli v2 c4_i32_19
  let v34 : BitVec 32 := Scalar.addi c0_i32_20 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v35 : BitVec 32 := Scalar.muli v5 c2_i32_21
  let v36 : BitVec 32 := Scalar.addi v34 v35
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v37 : BitVec 32 := Scalar.muli v9 c1_i32_22
  let v38 : BitVec 32 := Scalar.addi v36 v37
  v38.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v44 : BitVec 32 := Scalar.muli v2 c4_i32_27
  let v45 : BitVec 32 := Scalar.addi c0_i32_28 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v46 : BitVec 32 := Scalar.muli v5 c2_i32_29
  let v47 : BitVec 32 := Scalar.addi v45 v46
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_30 : BitVec 32 := 1#32
  let v48 : BitVec 32 := Scalar.muli v9 c1_i32_30
  let v49 : BitVec 32 := Scalar.addi v47 v48
  v49.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v59 : BitVec 32 := Scalar.muli v9 c1_i32_37
  let v60 : BitVec 32 := Scalar.addi v58 v59
  v60.toNat
def k0_dev5 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v66 : BitVec 32 := Scalar.muli v2 c4_i32_42
  let v67 : BitVec 32 := Scalar.addi c0_i32_43 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v68 : BitVec 32 := Scalar.muli v5 c2_i32_44
  let v69 : BitVec 32 := Scalar.addi v67 v68
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_45 : BitVec 32 := 1#32
  let v70 : BitVec 32 := Scalar.muli v9 c1_i32_45
  let v71 : BitVec 32 := Scalar.addi v69 v70
  v71.toNat
-- ==== SwapReference.lean ====
abbrev S32x1024x1664 : Shape := ⟨3, ![32, 1024, 1664]⟩
abbrev S32x256x1024 : Shape := ⟨3, ![32, 256, 1024]⟩
abbrev S17152x128 : Shape := ⟨2, ![17152, 128]⟩
abbrev S4x2x2144x128 : Shape := ⟨4, ![4, 2, 2144, 128]⟩
abbrev S4x2x4x2x512x1664 : Shape := ⟨6, ![4, 2, 4, 2, 512, 1664]⟩
abbrev S4x1x4x1x512x1664 : Shape := ⟨6, ![4, 1, 4, 1, 512, 1664]⟩
abbrev S4x4x512x1664 : Shape := ⟨4, ![4, 4, 512, 1664]⟩
abbrev S4x1x4x512x1664 : Shape := ⟨5, ![4, 1, 4, 512, 1664]⟩
abbrev S4x2x4x512x1664 : Shape := ⟨5, ![4, 2, 4, 512, 1664]⟩
abbrev S32x512x1664 : Shape := ⟨3, ![32, 512, 1664]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x1x2144x128 : Shape := ⟨4, ![4, 1, 2144, 128]⟩
abbrev S4x2144x128 : Shape := ⟨3, ![4, 2144, 128]⟩

abbrev nBuf : Space → Nat
  | .hbm => 50
  | .vmem => 0
  | .smem => 0
  | _ => 0

abbrev bufTy : (tb : Table) → Fin (tcTables nBuf tb) → BufTy
  | .hbm, ⟨0, _⟩ => ⟨S32x1024x1664, .f32⟩
  | .hbm, ⟨1, _⟩ => ⟨S32x256x1024, .f32⟩
  | .hbm, ⟨2, _⟩ => ⟨S32x256x1024, .f32⟩
  | .hbm, ⟨3, _⟩ => ⟨S32x256x1024, .f32⟩
  | .hbm, ⟨4, _⟩ => ⟨S17152x128, .f32⟩
  | .hbm, ⟨5, _⟩ => ⟨S4x2x2144x128, .f32⟩
  | .hbm, ⟨6, _⟩ => ⟨S4x2x4x2x512x1664, .f32⟩
  | .hbm, ⟨7, _⟩ => ⟨S4x1x4x1x512x1664, .f32⟩
  | .hbm, ⟨8, _⟩ => ⟨S4x4x512x1664, .f32⟩
  | .hbm, ⟨9, _⟩ => ⟨S4x1x4x1x512x1664, .f32⟩
  | .hbm, ⟨10, _⟩ => ⟨S4x4x512x1664, .f32⟩
  | .hbm, ⟨11, _⟩ => ⟨S4x1x4x512x1664, .f32⟩
  | .hbm, ⟨12, _⟩ => ⟨S4x1x4x512x1664, .f32⟩
  | .hbm, ⟨13, _⟩ => ⟨S4x2x4x512x1664, .f32⟩
  | .hbm, ⟨14, _⟩ => ⟨S32x512x1664, .f32⟩
  | .hbm, ⟨15, _⟩ => ⟨S4x2x4x2x128x1024, .f32⟩
  | .hbm, ⟨16, _⟩ => ⟨S4x1x4x1x128x1024, .f32⟩
  | .hbm, ⟨17, _⟩ => ⟨S4x4x128x1024, .f32⟩
  | .hbm, ⟨18, _⟩ => ⟨S4x1x4x1x128x1024, .f32⟩
  | .hbm, ⟨19, _⟩ => ⟨S4x4x128x1024, .f32⟩
  | .hbm, ⟨20, _⟩ => ⟨S4x1x4x128x1024, .f32⟩
  | .hbm, ⟨21, _⟩ => ⟨S4x1x4x128x1024, .f32⟩
  | .hbm, ⟨22, _⟩ => ⟨S4x2x4x128x1024, .f32⟩
  | .hbm, ⟨23, _⟩ => ⟨S32x128x1024, .f32⟩
  | .hbm, ⟨24, _⟩ => ⟨S4x2x4x2x128x1024, .f32⟩
  | .hbm, ⟨25, _⟩ => ⟨S4x1x4x1x128x1024, .f32⟩
  | .hbm, ⟨26, _⟩ => ⟨S4x4x128x1024, .f32⟩
  | .hbm, ⟨27, _⟩ => ⟨S4x1x4x1x128x1024, .f32⟩
  | .hbm, ⟨28, _⟩ => ⟨S4x4x128x1024, .f32⟩
  | .hbm, ⟨29, _⟩ => ⟨S4x1x4x128x1024, .f32⟩
  | .hbm, ⟨30, _⟩ => ⟨S4x1x4x128x1024, .f32⟩
  | .hbm, ⟨31, _⟩ => ⟨S4x2x4x128x1024, .f32⟩
  | .hbm, ⟨32, _⟩ => ⟨S32x128x1024, .f32⟩
  | .hbm, ⟨33, _⟩ => ⟨S4x2x4x2x128x1024, .f32⟩
  | .hbm, ⟨34, _⟩ => ⟨S4x1x4x1x128x1024, .f32⟩
  | .hbm, ⟨35, _⟩ => ⟨S4x4x128x1024, .f32⟩
  | .hbm, ⟨36, _⟩ => ⟨S4x1x4x1x128x1024, .f32⟩
  | .hbm, ⟨37, _⟩ => ⟨S4x4x128x1024, .f32⟩
  | .hbm, ⟨38, _⟩ => ⟨S4x1x4x128x1024, .f32⟩
  | .hbm, ⟨39, _⟩ => ⟨S4x1x4x128x1024, .f32⟩
  | .hbm, ⟨40, _⟩ => ⟨S4x2x4x128x1024, .f32⟩
  | .hbm, ⟨41, _⟩ => ⟨S32x128x1024, .f32⟩
  | .hbm, ⟨42, _⟩ => ⟨S4x1x2144x128, .f32⟩
  | .hbm, ⟨43, _⟩ => ⟨S4x2144x128, .f32⟩
  | .hbm, ⟨44, _⟩ => ⟨S4x1x2144x128, .f32⟩
  | .hbm, ⟨45, _⟩ => ⟨S4x2144x128, .f32⟩
  | .hbm, ⟨46, _⟩ => ⟨S4x1x2144x128, .f32⟩
  | .hbm, ⟨47, _⟩ => ⟨S4x1x2144x128, .f32⟩
  | .hbm, ⟨48, _⟩ => ⟨S4x2x2144x128, .f32⟩
  | .hbm, ⟨49, _⟩ => ⟨S17152x128, .f32⟩
  | _, _ => ⟨S32x1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Join.lean ====
abbrev S512x1664 : Shape := ⟨2, ![512, 1664]⟩
abbrev S128x1024 : Shape := ⟨2, ![128, 1024]⟩
abbrev S1072x128 : Shape := ⟨2, ![1072, 128]⟩
abbrev S1024x1664 : Shape := ⟨2, ![1024, 1664]⟩
abbrev S256x1024 : Shape := ⟨2, ![256, 1024]⟩
abbrev S2144x128 : Shape := ⟨2, ![2144, 128]⟩
abbrev S5 : Shape := ⟨1, ![5]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S512x1664, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1072x128, .f32⟩
  | .hbm, ⟨5, _⟩ => ⟨S1024x1664, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S2144x128, .f32⟩
  | _, _ => ⟨S512x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v10 : BitVec 32 := Scalar.muli v8 c512_i32
  v10
def k0_mult2 (d0 : Dev nD) : BitVec 32 :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c512_i32_5 : BitVec 32 := 512#32
  let v13 : BitVec 32 := Scalar.muli v12 c512_i32_5
  v13
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v15 : BitVec 32 := Scalar.muli v8 c128_i32
  v15
def k0_mult4 (d0 : Dev nD) : BitVec 32 :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_6 v8
  let c128_i32_7 : BitVec 32 := 128#32
  let v18 : BitVec 32 := Scalar.muli v17 c128_i32_7
  v18
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_8 : BitVec 32 := 128#32
  let v20 : BitVec 32 := Scalar.muli v8 c128_i32_8
  v20
def k0_mult6 (d0 : Dev nD) : BitVec 32 :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_9 v8
  let c128_i32_10 : BitVec 32 := 128#32
  let v23 : BitVec 32 := Scalar.muli v22 c128_i32_10
  v23
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_11 : BitVec 32 := 128#32
  let v25 : BitVec 32 := Scalar.muli v8 c128_i32_11
  v25
def k0_mult8 (d0 : Dev nD) : BitVec 32 :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_12 v8
  let c128_i32_13 : BitVec 32 := 128#32
  let v28 : BitVec 32 := Scalar.muli v27 c128_i32_13
  v28
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1072_i32 : BitVec 32 := 1072#32
  let v30 : BitVec 32 := Scalar.muli v8 c1072_i32
  v30
def k0_mult10 (d0 : Dev nD) : BitVec 32 :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_14 v8
  let c1072_i32_15 : BitVec 32 := 1072#32
  let v33 : BitVec 32 := Scalar.muli v32 c1072_i32_15
  v33
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v10 : BitVec 32 := Scalar.muli v8 c512_i32
  let v11 : BitVec 32 := v10
  let c0_i32_16 : BitVec 32 := 0#32
  ![v11.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v15 : BitVec 32 := Scalar.muli v8 c128_i32
  let v16 : BitVec 32 := v15
  let c0_i32_18 : BitVec 32 := 0#32
  ![v16.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1072_i32 : BitVec 32 := 1072#32
  let v30 : BitVec 32 := Scalar.muli v8 c1072_i32
  let v31 : BitVec 32 := v30
  let c0_i32_23 : BitVec 32 := 0#32
  ![v31.toNat, 0]
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v50 : BitVec 32 := Scalar.muli v2 c4_i32_26
  let v51 : BitVec 32 := Scalar.addi c0_i32_27 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v52 : BitVec 32 := Scalar.muli v5 c2_i32_28
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v54 : BitVec 32 := Scalar.muli v9 c1_i32_29
  let v55 : BitVec 32 := Scalar.addi v53 v54
  v55.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v61 : BitVec 32 := Scalar.muli v2 c4_i32_33
  let v62 : BitVec 32 := Scalar.addi c0_i32_34 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v63 : BitVec 32 := Scalar.muli v5 c2_i32_35
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v65 : BitVec 32 := Scalar.muli v9 c1_i32_36
  let v66 : BitVec 32 := Scalar.addi v64 v65
  v66.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v72 : BitVec 32 := Scalar.muli v2 c4_i32_40
  let v73 : BitVec 32 := Scalar.addi c0_i32_41 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v74 : BitVec 32 := Scalar.muli v5 c2_i32_42
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v76 : BitVec 32 := Scalar.muli v9 c1_i32_43
  let v77 : BitVec 32 := Scalar.addi v75 v76
  v77.toNat
def k0_dev4 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v83 : BitVec 32 := Scalar.muli v2 c4_i32_47
  let v84 : BitVec 32 := Scalar.addi c0_i32_48 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v85 : BitVec 32 := Scalar.muli v5 c2_i32_49
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v87 : BitVec 32 := Scalar.muli v9 c1_i32_50
  let v88 : BitVec 32 := Scalar.addi v86 v87
  v88.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v94 : BitVec 32 := Scalar.muli v2 c4_i32_54
  let v95 : BitVec 32 := Scalar.addi c0_i32_55 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v96 : BitVec 32 := Scalar.muli v5 c2_i32_56
  let v97 : BitVec 32 := Scalar.addi v95 v96
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_57 : BitVec 32 := 1#32
  let v98 : BitVec 32 := Scalar.muli v9 c1_i32_57
  let v99 : BitVec 32 := Scalar.addi v97 v98
  v99.toNat
def k0_off4 (d0 : Dev nD) : Fin 2 → Nat :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c512_i32_5 : BitVec 32 := 512#32
  let v13 : BitVec 32 := Scalar.muli v12 c512_i32_5
  let v14 : BitVec 32 := v13
  let c0_i32_69 : BitVec 32 := 0#32
  ![v14.toNat, 0]
def k0_off5 (d0 : Dev nD) : Fin 2 → Nat :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_6 v8
  let c128_i32_7 : BitVec 32 := 128#32
  let v18 : BitVec 32 := Scalar.muli v17 c128_i32_7
  let v19 : BitVec 32 := v18
  let c0_i32_80 : BitVec 32 := 0#32
  ![v19.toNat, 0]
def k0_off6 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_14 v8
  let c1072_i32_15 : BitVec 32 := 1072#32
  let v33 : BitVec 32 := Scalar.muli v32 c1072_i32_15
  let v34 : BitVec 32 := v33
  let c0_i32_113 : BitVec 32 := 0#32
  ![v34.toNat, 0]
-- ==== JoinReference.lean ====
abbrev S4096x1664 : Shape := ⟨2, ![4096, 1664]⟩
abbrev S1024x1024 : Shape := ⟨2, ![1024, 1024]⟩
abbrev S2144x128 : Shape := ⟨2, ![2144, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1664, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2144x128, .f32⟩
  | _, _ => ⟨S4096x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩

abbrev nD : Nat := 1
abbrev τ : Topo := Topo.v7x

variable {F : FTy → Type} [FloatOps F]
-- ==== Cross.lean ====
abbrev S4x512x1664 : Shape := ⟨3, ![4, 512, 1664]⟩
abbrev S4x128x1024 : Shape := ⟨3, ![4, 128, 1024]⟩
abbrev S2144x128 : Shape := ⟨2, ![2144, 128]⟩
abbrev S4x1072x128 : Shape := ⟨3, ![4, 1072, 128]⟩
abbrev S15 : Shape := ⟨1, ![15]⟩
abbrev S_ : Shape := ⟨0, ![]⟩
abbrev S1x1072x128 : Shape := ⟨3, ![1, 1072, 128]⟩
abbrev S1072x128 : Shape := ⟨2, ![1072, 128]⟩
abbrev S1 : Shape := ⟨1, ![1]⟩
abbrev S1x512x1664 : Shape := ⟨3, ![1, 512, 1664]⟩
abbrev S512x1664 : Shape := ⟨2, ![512, 1664]⟩
abbrev S1x128x1024 : Shape := ⟨3, ![1, 128, 1024]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x512x1664, .bf16⟩
  | .hbm, ⟨1, _⟩ => ⟨S4x128x1024, .bf16⟩
  | .hbm, ⟨2, _⟩ => ⟨S4x128x1024, .bf16⟩
  | .hbm, ⟨3, _⟩ => ⟨S4x128x1024, .bf16⟩
  | .hbm, ⟨4, _⟩ => ⟨S2144x128, .f32⟩
  | .hbm, ⟨5, _⟩ => ⟨S4x512x1664, .bf16⟩
  | .hbm, ⟨6, _⟩ => ⟨S4x128x1024, .bf16⟩
  | .hbm, ⟨7, _⟩ => ⟨S4x128x1024, .bf16⟩
  | .hbm, ⟨8, _⟩ => ⟨S4x128x1024, .bf16⟩
  | .hbm, ⟨9, _⟩ => ⟨S4x1072x128, .f32⟩
  | _, _ => ⟨S4x512x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1072_i32 : BitVec 32 := 1072#32
  let v11 : BitVec 32 := Scalar.muli v8 c1072_i32
  v11
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1072_i32 : BitVec 32 := 1072#32
  let v11 : BitVec 32 := Scalar.muli v8 c1072_i32
  let v12 : BitVec 32 := v11
  let c0_i32_5 : BitVec 32 := 0#32
  ![v12.toNat, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_67 : BitVec 32 := 0#32
  let c0_i32_68 : BitVec 32 := 0#32
  ![v10.toNat, 0, 0]
def k0_off4 (d0 : Dev nD) : Fin 3 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_7 v2
  let v18 : BitVec 32 := Scalar.muli c2_i32_8 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32_69 : BitVec 32 := 0#32
  let c0_i32_70 : BitVec 32 := 0#32
  ![v19.toNat, 0, 0]
def k0_dev1 (d0 : Dev nD) : Nat :=
  let c0_i32_64 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_6 v2
  let c4_i32_63 : BitVec 32 := 4#32
  let v86 : BitVec 32 := Scalar.muli v16 c4_i32_63
  let v87 : BitVec 32 := Scalar.addi c0_i32_64 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v88 : BitVec 32 := Scalar.muli v5 c2_i32_65
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v90 : BitVec 32 := Scalar.muli v8 c1_i32_66
  let v91 : BitVec 32 := Scalar.addi v89 v90
  v91.toNat
def k0_off5 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v23 : BitVec 32 := Scalar.addi v21 v22
  let c0_i32_79 : BitVec 32 := 0#32
  let c0_i32_80 : BitVec 32 := 0#32
  ![v23.toNat, 0, 0]
def k0_dev2 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v100 : BitVec 32 := Scalar.muli v2 c4_i32_73
  let v101 : BitVec 32 := Scalar.addi c0_i32_74 v100
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_75 : BitVec 32 := 2#32
  let v102 : BitVec 32 := Scalar.muli v20 c2_i32_75
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v104 : BitVec 32 := Scalar.muli v8 c1_i32_76
  let v105 : BitVec 32 := Scalar.addi v103 v104
  v105.toNat
def k0_off6 (d0 : Dev nD) : Fin 3 → Nat :=
  let c2_i32_15 : BitVec 32 := 2#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_14 v2
  let v27 : BitVec 32 := Scalar.muli c2_i32_15 v26
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let v29 : BitVec 32 := Scalar.addi v27 v28
  let c0_i32_89 : BitVec 32 := 0#32
  let c0_i32_90 : BitVec 32 := 0#32
  ![v29.toNat, 0, 0]
def k0_dev3 (d0 : Dev nD) : Nat :=
  let c0_i32_84 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_12 v2
  let c4_i32_83 : BitVec 32 := 4#32
  let v114 : BitVec 32 := Scalar.muli v24 c4_i32_83
  let v115 : BitVec 32 := Scalar.addi c0_i32_84 v114
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_13 v5
  let c2_i32_85 : BitVec 32 := 2#32
  let v116 : BitVec 32 := Scalar.muli v25 c2_i32_85
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v118 : BitVec 32 := Scalar.muli v8 c1_i32_86
  let v119 : BitVec 32 := Scalar.addi v117 v118
  v119.toNat
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_96 : BitVec 32 := 0#32
  let c0_i32_97 : BitVec 32 := 0#32
  ![v10.toNat, 0, 0]
def k0_off8 (d0 : Dev nD) : Fin 3 → Nat :=
  let c2_i32_19 : BitVec 32 := 2#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let v32 : BitVec 32 := Scalar.muli c2_i32_19 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.addi v32 v5
  let c0_i32_98 : BitVec 32 := 0#32
  let c0_i32_99 : BitVec 32 := 0#32
  ![v33.toNat, 0, 0]
def k0_dev4 (d0 : Dev nD) : Nat :=
  let c0_i32_93 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_17 v2
  let c4_i32_92 : BitVec 32 := 4#32
  let v128 : BitVec 32 := Scalar.muli v30 c4_i32_92
  let v129 : BitVec 32 := Scalar.addi c0_i32_93 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v130 : BitVec 32 := Scalar.muli v5 c2_i32_94
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v132 : BitVec 32 := Scalar.muli v8 c1_i32_95
  let v133 : BitVec 32 := Scalar.addi v131 v132
  v133.toNat
def k0_off9 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_21 v2
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_22 v5
  let v37 : BitVec 32 := Scalar.addi v35 v36
  let c0_i32_108 : BitVec 32 := 0#32
  let c0_i32_109 : BitVec 32 := 0#32
  ![v37.toNat, 0, 0]
def k0_dev5 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v142 : BitVec 32 := Scalar.muli v2 c4_i32_102
  let v143 : BitVec 32 := Scalar.addi c0_i32_103 v142
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_20 v5
  let c2_i32_104 : BitVec 32 := 2#32
  let v144 : BitVec 32 := Scalar.muli v34 c2_i32_104
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v146 : BitVec 32 := Scalar.muli v8 c1_i32_105
  let v147 : BitVec 32 := Scalar.addi v145 v146
  v147.toNat
def k0_off10 (d0 : Dev nD) : Fin 3 → Nat :=
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_25 v2
  let v41 : BitVec 32 := Scalar.muli c2_i32_26 v40
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.subi c1_i32_27 v5
  let v43 : BitVec 32 := Scalar.addi v41 v42
  let c0_i32_117 : BitVec 32 := 0#32
  let c0_i32_118 : BitVec 32 := 0#32
  ![v43.toNat, 0, 0]
def k0_dev6 (d0 : Dev nD) : Nat :=
  let c0_i32_112 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_23 v2
  let c4_i32_111 : BitVec 32 := 4#32
  let v156 : BitVec 32 := Scalar.muli v38 c4_i32_111
  let v157 : BitVec 32 := Scalar.addi c0_i32_112 v156
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_24 v5
  let c2_i32_113 : BitVec 32 := 2#32
  let v158 : BitVec 32 := Scalar.muli v39 c2_i32_113
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v160 : BitVec 32 := Scalar.muli v8 c1_i32_114
  let v161 : BitVec 32 := Scalar.addi v159 v160
  v161.toNat
def k0_dev7 (d0 : Dev nD) : Nat :=
  let c0_i32_121 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_28 v2
  let c4_i32_120 : BitVec 32 := 4#32
  let v170 : BitVec 32 := Scalar.muli v44 c4_i32_120
  let v171 : BitVec 32 := Scalar.addi c0_i32_121 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v172 : BitVec 32 := Scalar.muli v5 c2_i32_122
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v174 : BitVec 32 := Scalar.muli v8 c1_i32_123
  let v175 : BitVec 32 := Scalar.addi v173 v174
  v175.toNat
def k0_dev8 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v184 : BitVec 32 := Scalar.muli v2 c4_i32_129
  let v185 : BitVec 32 := Scalar.addi c0_i32_130 v184
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_131 : BitVec 32 := 2#32
  let v186 : BitVec 32 := Scalar.muli v48 c2_i32_131
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v188 : BitVec 32 := Scalar.muli v8 c1_i32_132
  let v189 : BitVec 32 := Scalar.addi v187 v188
  v189.toNat
def k0_dev9 (d0 : Dev nD) : Nat :=
  let c0_i32_139 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.subi c1_i32_34 v2
  let c4_i32_138 : BitVec 32 := 4#32
  let v198 : BitVec 32 := Scalar.muli v52 c4_i32_138
  let v199 : BitVec 32 := Scalar.addi c0_i32_139 v198
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_35 v5
  let c2_i32_140 : BitVec 32 := 2#32
  let v200 : BitVec 32 := Scalar.muli v53 c2_i32_140
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v202 : BitVec 32 := Scalar.muli v8 c1_i32_141
  let v203 : BitVec 32 := Scalar.addi v201 v202
  v203.toNat
def k0_dev10 (d0 : Dev nD) : Nat :=
  let c0_i32_148 : BitVec 32 := 0#32
  let c1_i32_39 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.subi c1_i32_39 v2
  let c4_i32_147 : BitVec 32 := 4#32
  let v212 : BitVec 32 := Scalar.muli v58 c4_i32_147
  let v213 : BitVec 32 := Scalar.addi c0_i32_148 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v214 : BitVec 32 := Scalar.muli v5 c2_i32_149
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v216 : BitVec 32 := Scalar.muli v8 c1_i32_150
  let v217 : BitVec 32 := Scalar.addi v215 v216
  v217.toNat
def k0_dev11 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v226 : BitVec 32 := Scalar.muli v2 c4_i32_156
  let v227 : BitVec 32 := Scalar.addi c0_i32_157 v226
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.subi c1_i32_42 v5
  let c2_i32_158 : BitVec 32 := 2#32
  let v228 : BitVec 32 := Scalar.muli v62 c2_i32_158
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v230 : BitVec 32 := Scalar.muli v8 c1_i32_159
  let v231 : BitVec 32 := Scalar.addi v229 v230
  v231.toNat
def k0_dev12 (d0 : Dev nD) : Nat :=
  let c0_i32_166 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v66 : BitVec 32 := Scalar.subi c1_i32_45 v2
  let c4_i32_165 : BitVec 32 := 4#32
  let v240 : BitVec 32 := Scalar.muli v66 c4_i32_165
  let v241 : BitVec 32 := Scalar.addi c0_i32_166 v240
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.subi c1_i32_46 v5
  let c2_i32_167 : BitVec 32 := 2#32
  let v242 : BitVec 32 := Scalar.muli v67 c2_i32_167
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v244 : BitVec 32 := Scalar.muli v8 c1_i32_168
  let v245 : BitVec 32 := Scalar.addi v243 v244
  v245.toNat
def k0_dev13 (d0 : Dev nD) : Nat :=
  let c0_i32_175 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_50 v2
  let c4_i32_174 : BitVec 32 := 4#32
  let v254 : BitVec 32 := Scalar.muli v72 c4_i32_174
  let v255 : BitVec 32 := Scalar.addi c0_i32_175 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v256 : BitVec 32 := Scalar.muli v5 c2_i32_176
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v258 : BitVec 32 := Scalar.muli v8 c1_i32_177
  let v259 : BitVec 32 := Scalar.addi v257 v258
  v259.toNat
def k0_dev14 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v267 : BitVec 32 := Scalar.muli v2 c4_i32_182
  let v268 : BitVec 32 := Scalar.addi c0_i32_183 v267
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_53 v5
  let c2_i32_184 : BitVec 32 := 2#32
  let v269 : BitVec 32 := Scalar.muli v76 c2_i32_184
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v271 : BitVec 32 := Scalar.muli v8 c1_i32_185
  let v272 : BitVec 32 := Scalar.addi v270 v271
  v272.toNat
def k0_dev15 (d0 : Dev nD) : Nat :=
  let c0_i32_191 : BitVec 32 := 0#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v80 : BitVec 32 := Scalar.subi c1_i32_56 v2
  let c4_i32_190 : BitVec 32 := 4#32
  let v280 : BitVec 32 := Scalar.muli v80 c4_i32_190
  let v281 : BitVec 32 := Scalar.addi c0_i32_191 v280
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_57 v5
  let c2_i32_192 : BitVec 32 := 2#32
  let v282 : BitVec 32 := Scalar.muli v81 c2_i32_192
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v284 : BitVec 32 := Scalar.muli v8 c1_i32_193
  let v285 : BitVec 32 := Scalar.addi v283 v284
  v285.toNat
def k0_off11 (d0 : Dev nD) : Fin 3 → Nat :=
  let c2_i32_52 : BitVec 32 := 2#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.subi c1_i32_51 v2
  let v74 : BitVec 32 := Scalar.muli c2_i32_52 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.addi v74 v5
  let c0_i32_413 : BitVec 32 := 0#32
  let c0_i32_414 : BitVec 32 := 0#32
  ![v75.toNat, 0, 0]
def k0_off12 (d0 : Dev nD) : Fin 3 → Nat :=
  let c2_i32_54 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.muli c2_i32_54 v2
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_55 v5
  let v79 : BitVec 32 := Scalar.addi v77 v78
  let c0_i32_428 : BitVec 32 := 0#32
  let c0_i32_429 : BitVec 32 := 0#32
  ![v79.toNat, 0, 0]
def k0_off13 (d0 : Dev nD) : Fin 3 → Nat :=
  let c2_i32_59 : BitVec 32 := 2#32
  let c1_i32_58 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.subi c1_i32_58 v2
  let v83 : BitVec 32 := Scalar.muli c2_i32_59 v82
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.subi c1_i32_60 v5
  let v85 : BitVec 32 := Scalar.addi v83 v84
  let c0_i32_443 : BitVec 32 := 0#32
  let c0_i32_444 : BitVec 32 := 0#32
  ![v85.toNat, 0, 0]
-- ==== CrossReference.lean ====
abbrev S32x512x1664 : Shape := ⟨3, ![32, 512, 1664]⟩
abbrev S32x128x1024 : Shape := ⟨3, ![32, 128, 1024]⟩
abbrev S17152x128 : Shape := ⟨2, ![17152, 128]⟩
abbrev S4x2x2x1072x128 : Shape := ⟨5, ![4, 2, 2, 1072, 128]⟩
abbrev S4x1x1x1072x128 : Shape := ⟨5, ![4, 1, 1, 1072, 128]⟩
abbrev S4x1072x128 : Shape := ⟨3, ![4, 1072, 128]⟩
abbrev S1x4x1072x128 : Shape := ⟨4, ![1, 4, 1072, 128]⟩
abbrev S2x4x1072x128 : Shape := ⟨4, ![2, 4, 1072, 128]⟩
abbrev S4x2x4x512x1664 : Shape := ⟨5, ![4, 2, 4, 512, 1664]⟩
abbrev S4x2x4x128x1024 : Shape := ⟨5, ![4, 2, 4, 128, 1024]⟩
abbrev S4x2x4x1072x128 : Shape := ⟨5, ![4, 2, 4, 1072, 128]⟩
abbrev S32x1072x128 : Shape := ⟨3, ![32, 1072, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x512x1664, .bf16⟩
  | .hbm, ⟨1, _⟩ => ⟨S32x128x1024, .bf16⟩
  | .hbm, ⟨2, _⟩ => ⟨S32x128x1024, .bf16⟩
  | .hbm, ⟨3, _⟩ => ⟨S32x128x1024, .bf16⟩
  | .hbm, ⟨4, _⟩ => ⟨S17152x128, .f32⟩
  | .hbm, ⟨5, _⟩ => ⟨S4x2x2x1072x128, .f32⟩
  | .hbm, ⟨6, _⟩ => ⟨S4x1x1x1072x128, .f32⟩
  | .hbm, ⟨7, _⟩ => ⟨S4x1072x128, .f32⟩
  | .hbm, ⟨8, _⟩ => ⟨S4x1x1x1072x128, .f32⟩
  | .hbm, ⟨9, _⟩ => ⟨S4x1072x128, .f32⟩
  | .hbm, ⟨10, _⟩ => ⟨S1x4x1072x128, .f32⟩
  | .hbm, ⟨11, _⟩ => ⟨S1x4x1072x128, .f32⟩
  | .hbm, ⟨12, _⟩ => ⟨S2x4x1072x128, .f32⟩
  | .hbm, ⟨13, _⟩ => ⟨S4x2x4x512x1664, .bf16⟩
  | .hbm, ⟨14, _⟩ => ⟨S4x2x4x512x1664, .bf16⟩
  | .hbm, ⟨15, _⟩ => ⟨S32x512x1664, .bf16⟩
  | .hbm, ⟨16, _⟩ => ⟨S4x2x4x128x1024, .bf16⟩
  | .hbm, ⟨17, _⟩ => ⟨S4x2x4x128x1024, .bf16⟩
  | .hbm, ⟨18, _⟩ => ⟨S32x128x1024, .bf16⟩
  | .hbm, ⟨19, _⟩ => ⟨S4x2x4x128x1024, .bf16⟩
  | .hbm, ⟨20, _⟩ => ⟨S4x2x4x128x1024, .bf16⟩
  | .hbm, ⟨21, _⟩ => ⟨S32x128x1024, .bf16⟩
  | .hbm, ⟨22, _⟩ => ⟨S4x2x4x128x1024, .bf16⟩
  | .hbm, ⟨23, _⟩ => ⟨S4x2x4x128x1024, .bf16⟩
  | .hbm, ⟨24, _⟩ => ⟨S32x128x1024, .bf16⟩
  | .hbm, ⟨25, _⟩ => ⟨S4x2x4x1072x128, .f32⟩
  | .hbm, ⟨26, _⟩ => ⟨S32x1072x128, .f32⟩
  | _, _ => ⟨S32x512x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== StepIn.lean ====
abbrev S1024x1664 : Shape := ⟨2, ![1024, 1664]⟩
abbrev S128x1664 : Shape := ⟨2, ![128, 1664]⟩

abbrev nBuf : Space → Nat
  | .hbm => 7
  | .vmem => 14
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .local _ .vmem, ⟨0, _⟩ => ⟨S128x1664, .f32⟩
  | .local _ .vmem, ⟨1, _⟩ => ⟨S128x1664, .f32⟩
  | .local _ .vmem, ⟨2, _⟩ => ⟨S128x1664, .f32⟩
  | .local _ .vmem, ⟨3, _⟩ => ⟨S128x1664, .f32⟩
  | .local _ .vmem, ⟨4, _⟩ => ⟨S128x1664, .f32⟩
  | .local _ .vmem, ⟨5, _⟩ => ⟨S128x1664, .f32⟩
  | .local _ .vmem, ⟨6, _⟩ => ⟨S128x1664, .f32⟩
  | .local _ .vmem, ⟨7, _⟩ => ⟨S128x1664, .f32⟩
  | .local _ .vmem, ⟨8, _⟩ => ⟨S128x1664, .f32⟩
  | .local _ .vmem, ⟨9, _⟩ => ⟨S128x1664, .f32⟩
  | .local _ .vmem, ⟨10, _⟩ => ⟨S128x1664, .f32⟩
  | .local _ .vmem, ⟨11, _⟩ => ⟨S128x1664, .f32⟩
  | .local _ .vmem, ⟨12, _⟩ => ⟨S128x1664, .f32⟩
  | .local _ .vmem, ⟨13, _⟩ => ⟨S128x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInIdeal.lean ====
abbrev S1024x1664 : Shape := ⟨2, ![1024, 1664]⟩
abbrev S128x1664 : Shape := ⟨2, ![128, 1664]⟩

abbrev nBuf : Space → Nat
  | .hbm => 7
  | .vmem => 14
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .local _ .vmem, ⟨0, _⟩ => ⟨S128x1664, .f32⟩
  | .local _ .vmem, ⟨1, _⟩ => ⟨S128x1664, .f32⟩
  | .local _ .vmem, ⟨2, _⟩ => ⟨S128x1664, .f32⟩
  | .local _ .vmem, ⟨3, _⟩ => ⟨S128x1664, .f32⟩
  | .local _ .vmem, ⟨4, _⟩ => ⟨S128x1664, .f32⟩
  | .local _ .vmem, ⟨5, _⟩ => ⟨S128x1664, .f32⟩
  | .local _ .vmem, ⟨6, _⟩ => ⟨S128x1664, .f32⟩
  | .local _ .vmem, ⟨7, _⟩ => ⟨S128x1664, .f32⟩
  | .local _ .vmem, ⟨8, _⟩ => ⟨S128x1664, .f32⟩
  | .local _ .vmem, ⟨9, _⟩ => ⟨S128x1664, .f32⟩
  | .local _ .vmem, ⟨10, _⟩ => ⟨S128x1664, .f32⟩
  | .local _ .vmem, ⟨11, _⟩ => ⟨S128x1664, .f32⟩
  | .local _ .vmem, ⟨12, _⟩ => ⟨S128x1664, .f32⟩
  | .local _ .vmem, ⟨13, _⟩ => ⟨S128x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInReferenceIdeal.lean ====
abbrev S1024x1664 : Shape := ⟨2, ![1024, 1664]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S_, .f32⟩
  | .hbm, ⟨5, _⟩ => ⟨S1024x1664, .f32⟩
  | .hbm, ⟨6, _⟩ => ⟨S1024x1664, .f32⟩
  | .hbm, ⟨7, _⟩ => ⟨S_, .f32⟩
  | .hbm, ⟨8, _⟩ => ⟨S1024x1664, .f32⟩
  | .hbm, ⟨9, _⟩ => ⟨S1024x1664, .f32⟩
  | .hbm, ⟨10, _⟩ => ⟨S1024x1664, .f32⟩
  | .hbm, ⟨11, _⟩ => ⟨S_, .f32⟩
  | .hbm, ⟨12, _⟩ => ⟨S1024x1664, .f32⟩
  | .hbm, ⟨13, _⟩ => ⟨S1024x1664, .f32⟩
  | .hbm, ⟨14, _⟩ => ⟨S1024x1664, .f32⟩
  | .hbm, ⟨15, _⟩ => ⟨S_, .f32⟩
  | .hbm, ⟨16, _⟩ => ⟨S1024x1664, .f32⟩
  | .hbm, ⟨17, _⟩ => ⟨S1024x1664, .f32⟩
  | .hbm, ⟨18, _⟩ => ⟨S1024x1664, .f32⟩
  | .hbm, ⟨19, _⟩ => ⟨S_, .f32⟩
  | .hbm, ⟨20, _⟩ => ⟨S1024x1664, .f32⟩
  | .hbm, ⟨21, _⟩ => ⟨S1024x1664, .f32⟩
  | .hbm, ⟨22, _⟩ => ⟨S_, .f32⟩
  | .hbm, ⟨23, _⟩ => ⟨S1024x1664, .f32⟩
  | .hbm, ⟨24, _⟩ => ⟨S1024x1664, .f32⟩
  | .hbm, ⟨25, _⟩ => ⟨S1024x1664, .f32⟩
  | .hbm, ⟨26, _⟩ => ⟨S_, .f32⟩
  | .hbm, ⟨27, _⟩ => ⟨S1024x1664, .f32⟩
  | .hbm, ⟨28, _⟩ => ⟨S1024x1664, .f32⟩
  | .hbm, ⟨29, _⟩ => ⟨S1024x1664, .f32⟩
  | .hbm, ⟨30, _⟩ => ⟨S_, .f32⟩
  | .hbm, ⟨31, _⟩ => ⟨S1024x1664, .f32⟩
  | .hbm, ⟨32, _⟩ => ⟨S1024x1664, .f32⟩
  | .hbm, ⟨33, _⟩ => ⟨S1024x1664, .f32⟩
  | .hbm, ⟨34, _⟩ => ⟨S_, .f32⟩
  | .hbm, ⟨35, _⟩ => ⟨S1024x1664, .f32⟩
  | .hbm, ⟨36, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConv.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvIdeal.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvReferenceIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSmall.lean ====
abbrev S2144x128 : Shape := ⟨2, ![2144, 128]⟩
abbrev S1072x128 : Shape := ⟨2, ![1072, 128]⟩

abbrev nBuf : Space → Nat
  | .hbm => 7
  | .vmem => 14
  | .smem => 0
  | _ => 0

abbrev bufTy : (tb : Table) → Fin (tcTables nBuf tb) → BufTy
  | .hbm, ⟨0, _⟩ => ⟨S2144x128, .f32⟩
  | .hbm, ⟨1, _⟩ => ⟨S2144x128, .f32⟩
  | .hbm, ⟨2, _⟩ => ⟨S2144x128, .f32⟩
  | .hbm, ⟨3, _⟩ => ⟨S2144x128, .f32⟩
  | .hbm, ⟨4, _⟩ => ⟨S2144x128, .f32⟩
  | .hbm, ⟨5, _⟩ => ⟨S2144x128, .f32⟩
  | .hbm, ⟨6, _⟩ => ⟨S2144x128, .f32⟩
  | .local _ .vmem, ⟨0, _⟩ => ⟨S1072x128, .f32⟩
  | .local _ .vmem, ⟨1, _⟩ => ⟨S1072x128, .f32⟩
  | .local _ .vmem, ⟨2, _⟩ => ⟨S1072x128, .f32⟩
  | .local _ .vmem, ⟨3, _⟩ => ⟨S1072x128, .f32⟩
  | .local _ .vmem, ⟨4, _⟩ => ⟨S1072x128, .f32⟩
  | .local _ .vmem, ⟨5, _⟩ => ⟨S1072x128, .f32⟩
  | .local _ .vmem, ⟨6, _⟩ => ⟨S1072x128, .f32⟩
  | .local _ .vmem, ⟨7, _⟩ => ⟨S1072x128, .f32⟩
  | .local _ .vmem, ⟨8, _⟩ => ⟨S1072x128, .f32⟩
  | .local _ .vmem, ⟨9, _⟩ => ⟨S1072x128, .f32⟩
  | .local _ .vmem, ⟨10, _⟩ => ⟨S1072x128, .f32⟩
  | .local _ .vmem, ⟨11, _⟩ => ⟨S1072x128, .f32⟩
  | .local _ .vmem, ⟨12, _⟩ => ⟨S1072x128, .f32⟩
  | .local _ .vmem, ⟨13, _⟩ => ⟨S1072x128, .f32⟩
  | _, _ => ⟨S2144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1072x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1072x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1072x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepSmallReferenceIdeal.lean ====
abbrev S2144x128 : Shape := ⟨2, ![2144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2144x128, .f32⟩
  | .hbm, ⟨1, _⟩ => ⟨S2144x128, .f32⟩
  | .hbm, ⟨2, _⟩ => ⟨S2144x128, .f32⟩
  | .hbm, ⟨3, _⟩ => ⟨S2144x128, .f32⟩
  | .hbm, ⟨4, _⟩ => ⟨S_, .f32⟩
  | .hbm, ⟨5, _⟩ => ⟨S2144x128, .f32⟩
  | .hbm, ⟨6, _⟩ => ⟨S2144x128, .f32⟩
  | .hbm, ⟨7, _⟩ => ⟨S_, .f32⟩
  | .hbm, ⟨8, _⟩ => ⟨S2144x128, .f32⟩
  | .hbm, ⟨9, _⟩ => ⟨S2144x128, .f32⟩
  | .hbm, ⟨10, _⟩ => ⟨S2144x128, .f32⟩
  | .hbm, ⟨11, _⟩ => ⟨S_, .f32⟩
  | .hbm, ⟨12, _⟩ => ⟨S2144x128, .f32⟩
  | .hbm, ⟨13, _⟩ => ⟨S2144x128, .f32⟩
  | .hbm, ⟨14, _⟩ => ⟨S2144x128, .f32⟩
  | .hbm, ⟨15, _⟩ => ⟨S_, .f32⟩
  | .hbm, ⟨16, _⟩ => ⟨S2144x128, .f32⟩
  | .hbm, ⟨17, _⟩ => ⟨S2144x128, .f32⟩
  | .hbm, ⟨18, _⟩ => ⟨S2144x128, .f32⟩
  | .hbm, ⟨19, _⟩ => ⟨S_, .f32⟩
  | .hbm, ⟨20, _⟩ => ⟨S2144x128, .f32⟩
  | .hbm, ⟨21, _⟩ => ⟨S2144x128, .f32⟩
  | .hbm, ⟨22, _⟩ => ⟨S_, .f32⟩
  | .hbm, ⟨23, _⟩ => ⟨S2144x128, .f32⟩
  | .hbm, ⟨24, _⟩ => ⟨S2144x128, .f32⟩
  | .hbm, ⟨25, _⟩ => ⟨S2144x128, .f32⟩
  | .hbm, ⟨26, _⟩ => ⟨S_, .f32⟩
  | .hbm, ⟨27, _⟩ => ⟨S2144x128, .f32⟩
  | .hbm, ⟨28, _⟩ => ⟨S2144x128, .f32⟩
  | .hbm, ⟨29, _⟩ => ⟨S2144x128, .f32⟩
  | .hbm, ⟨30, _⟩ => ⟨S_, .f32⟩
  | .hbm, ⟨31, _⟩ => ⟨S2144x128, .f32⟩
  | .hbm, ⟨32, _⟩ => ⟨S2144x128, .f32⟩
  | .hbm, ⟨33, _⟩ => ⟨S2144x128, .f32⟩
  | .hbm, ⟨34, _⟩ => ⟨S_, .f32⟩
  | .hbm, ⟨35, _⟩ => ⟨S2144x128, .f32⟩
  | .hbm, ⟨36, _⟩ => ⟨S2144x128, .f32⟩
  | _, _ => ⟨S2144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Merge.lean ====
abbrev S4096x1024 : Shape := ⟨2, ![4096, 1024]⟩
abbrev S4096x6656 : Shape := ⟨2, ![4096, 6656]⟩
abbrev S1024x1024 : Shape := ⟨2, ![1024, 1024]⟩
abbrev S1x1024 : Shape := ⟨2, ![1, 1024]⟩
abbrev S4096x2048 : Shape := ⟨2, ![4096, 2048]⟩
abbrev S1x128 : Shape := ⟨2, ![1, 128]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 19
  | .vmem => 38
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x6656, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4096x2048, .bf16⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S1x128, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S256x2048, .bf16⟩
  | .local _ .vmem, ⟨21, _⟩ => ⟨S256x2048, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x128, .f32⟩
  | .local _ .vmem, ⟨37, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem21_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MergeReferenceIdeal.lean ====
abbrev S4096x1024 : Shape := ⟨2, ![4096, 1024]⟩
abbrev S4096x6656 : Shape := ⟨2, ![4096, 6656]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1x128 : Shape := ⟨2, ![1, 128]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x6656, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1024x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x2048, .f32⟩
  | .hbm, ⟨99, _⟩ => ⟨S4096x2048, .bf16⟩
  | .hbm, ⟨100, _⟩ => ⟨S1024x1024, .f32⟩
  | .hbm, ⟨101, _⟩ => ⟨S4096x1024, .f32⟩
  | .hbm, ⟨102, _⟩ => ⟨S1024x1024, .f32⟩
  | .hbm, ⟨103, _⟩ => ⟨S4096x1024, .f32⟩
  | .hbm, ⟨104, _⟩ => ⟨S4096x1024, .bf16⟩
  | .hbm, ⟨105, _⟩ => ⟨S4096x1024, .bf16⟩
  | .hbm, ⟨106, _⟩ => ⟨S4096x1024, .bf16⟩
  | .hbm, ⟨107, _⟩ => ⟨S4096x1024, .bf16⟩
  | .hbm, ⟨108, _⟩ => ⟨S1x128, .f32⟩
  | .hbm, ⟨109, _⟩ => ⟨S4096x1024, .f32⟩
  | .hbm, ⟨110, _⟩ => ⟨S_, .f32⟩
  | .hbm, ⟨111, _⟩ => ⟨S1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Total.lean ====
abbrev S1 : Shape := ⟨1, ![1]⟩

abbrev nBuf : Space → Nat
  | .hbm => 10
  | .vmem => 0
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | _, _ => ⟨S1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v1_s0 : Ref sig .tc := ⟨.hbm, 2, rfl⟩
abbrev main_v1_s1 : Ref sig .tc := ⟨.hbm, 3, rfl⟩
abbrev main_v1_s2 : Ref sig .tc := ⟨.hbm, 4, rfl⟩
abbrev main_v1_s3 : Ref sig .tc := ⟨.hbm, 5, rfl⟩
abbrev main_v1_s4 : Ref sig .tc := ⟨.hbm, 6, rfl⟩
abbrev main_v1_s5 : Ref sig .tc := ⟨.hbm, 7, rfl⟩
abbrev main_v1_s6 : Ref sig .tc := ⟨.hbm, 8, rfl⟩
abbrev main_v1_s7 : Ref sig .tc := ⟨.hbm, 9, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v1_s0 | 1 => main_v1_s1 | 2 => main_v1_s2 | 3 => main_v1_s3 | 4 => main_v1_s4 | 5 => main_v1_s5 | 6 => main_v1_s6 | 7 => main_v1_s7 | ⟨_ + 8, h⟩ => absurd h (Nat.not_lt.2 (Nat.le_add_left _ _))
-- ==== TotalReferenceIdeal.lean ====
abbrev S8 : Shape := ⟨1, ![8]⟩
abbrev S_ : Shape := ⟨0, ![]⟩
abbrev S1 : Shape := ⟨1, ![1]⟩

abbrev nBuf : Space → Nat
  | .hbm => 4
  | .vmem => 0
  | .smem => 0
  | _ => 0

abbrev bufTy : (tb : Table) → Fin (tcTables nBuf tb) → BufTy
  | .hbm, ⟨0, _⟩ => ⟨S8, .f32⟩
  | .hbm, ⟨1, _⟩ => ⟨S_, .f32⟩
  | .hbm, ⟨2, _⟩ => ⟨S_, .f32⟩
  | .hbm, ⟨3, _⟩ => ⟨S1, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Project.lean ====
abbrev S4096x1024 : Shape := ⟨2, ![4096, 1024]⟩
abbrev S4x1024x1664 : Shape := ⟨3, ![4, 1024, 1664]⟩
abbrev S4096x6656 : Shape := ⟨2, ![4096, 6656]⟩
abbrev S512x1024 : Shape := ⟨2, ![512, 1024]⟩
abbrev S1x1024x1664 : Shape := ⟨3, ![1, 1024, 1664]⟩
abbrev S512x1664 : Shape := ⟨2, ![512, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1664, .bf16⟩
  | .hbm, ⟨2, _⟩ => ⟨S4096x6656, .f32⟩
  | .local _ .vmem, ⟨0, _⟩ => ⟨S512x1024, .bf16⟩
  | .local _ .vmem, ⟨1, _⟩ => ⟨S512x1024, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S512x1664, .f32⟩
  | .local _ .vmem, ⟨5, _⟩ => ⟨S512x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S4096x1024 : Shape := ⟨2, ![4096, 1024]⟩
abbrev S4x1024x1664 : Shape := ⟨3, ![4, 1024, 1664]⟩
abbrev S1024x4x1664 : Shape := ⟨3, ![1024, 4, 1664]⟩
abbrev S1024x6656 : Shape := ⟨2, ![1024, 6656]⟩
abbrev S4096x6656 : Shape := ⟨2, ![4096, 6656]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1664, .bf16⟩
  | .hbm, ⟨2, _⟩ => ⟨S4x1024x1664, .f32⟩
  | .hbm, ⟨3, _⟩ => ⟨S1024x4x1664, .f32⟩
  | .hbm, ⟨4, _⟩ => ⟨S1024x6656, .f32⟩
  | .hbm, ⟨5, _⟩ => ⟨S4096x1024, .f32⟩
  | .hbm, ⟨6, _⟩ => ⟨S4096x6656, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradW.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradWReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradWIn.lean ====
abbrev S4096x1024 : Shape := ⟨2, ![4096, 1024]⟩
abbrev S4096x6656 : Shape := ⟨2, ![4096, 6656]⟩
abbrev S4x1024x1664 : Shape := ⟨3, ![4, 1024, 1664]⟩
abbrev S512x1024 : Shape := ⟨2, ![512, 1024]⟩
abbrev S512x1664 : Shape := ⟨2, ![512, 1664]⟩
abbrev S1x1024x1664 : Shape := ⟨3, ![1, 1024, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6656, .bf16⟩
  | .hbm, ⟨2, _⟩ => ⟨S4x1024x1664, .f32⟩
  | .local _ .vmem, ⟨0, _⟩ => ⟨S512x1024, .bf16⟩
  | .local _ .vmem, ⟨1, _⟩ => ⟨S512x1024, .bf16⟩
  | .local _ .vmem, ⟨2, _⟩ => ⟨S512x1664, .bf16⟩
  | .local _ .vmem, ⟨3, _⟩ => ⟨S512x1664, .bf16⟩
  | .local _ .vmem, ⟨4, _⟩ => ⟨S1x1024x1664, .f32⟩
  | .local _ .vmem, ⟨5, _⟩ => ⟨S1x1024x1664, .f32⟩
  | .local _ .vmem, ⟨6, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWInReferenceIdeal.lean ====
abbrev S4096x1024 : Shape := ⟨2, ![4096, 1024]⟩
abbrev S4096x6656 : Shape := ⟨2, ![4096, 6656]⟩
abbrev S1024x4096 : Shape := ⟨2, ![1024, 4096]⟩
abbrev S1024x6656 : Shape := ⟨2, ![1024, 6656]⟩
abbrev S1024x4x1664 : Shape := ⟨3, ![1024, 4, 1664]⟩
abbrev S4x1024x1664 : Shape := ⟨3, ![4, 1024, 1664]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6656, .bf16⟩
  | .hbm, ⟨2, _⟩ => ⟨S4096x1024, .f32⟩
  | .hbm, ⟨3, _⟩ => ⟨S1024x4096, .f32⟩
  | .hbm, ⟨4, _⟩ => ⟨S4096x6656, .f32⟩
  | .hbm, ⟨5, _⟩ => ⟨S1024x6656, .f32⟩
  | .hbm, ⟨6, _⟩ => ⟨S1024x4x1664, .f32⟩
  | .hbm, ⟨7, _⟩ => ⟨S4x1024x1664, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradH.lean ====
abbrev S4096x6656 : Shape := ⟨2, ![4096, 6656]⟩
abbrev S4x1024x1664 : Shape := ⟨3, ![4, 1024, 1664]⟩
abbrev S4096x1024 : Shape := ⟨2, ![4096, 1024]⟩
abbrev S1024x1664 : Shape := ⟨2, ![1024, 1664]⟩
abbrev S1x1024x1664 : Shape := ⟨3, ![1, 1024, 1664]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6656, .bf16⟩
  | .hbm, ⟨1, _⟩ => ⟨S4x1024x1664, .bf16⟩
  | .hbm, ⟨2, _⟩ => ⟨S4096x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradHReferenceIdeal.lean ====
abbrev S4096x6656 : Shape := ⟨2, ![4096, 6656]⟩
abbrev S4x1024x1664 : Shape := ⟨3, ![4, 1024, 1664]⟩
abbrev S1024x4x1664 : Shape := ⟨3, ![1024, 4, 1664]⟩
abbrev S1024x6656 : Shape := ⟨2, ![1024, 6656]⟩
abbrev S6656x1024 : Shape := ⟨2, ![6656, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4x1024x1664, .bf16⟩
  | .hbm, ⟨2, _⟩ => ⟨S4x1024x1664, .f32⟩
  | .hbm, ⟨3, _⟩ => ⟨S1024x4x1664, .f32⟩
  | .hbm, ⟨4, _⟩ => ⟨S1024x6656, .f32⟩
  | .hbm, ⟨5, _⟩ => ⟨S4096x6656, .f32⟩
  | .hbm, ⟨6, _⟩ => ⟨S6656x1024, .f32⟩
  | .hbm, ⟨7, _⟩ => ⟨S4096x1024, .f32⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumCores.lean ====
abbrev S2144x128 : Shape := ⟨2, ![2144, 128]⟩

abbrev nBuf : Space → Nat
  | .hbm => 3
  | .vmem => 3
  | .smem => 0
  | _ => 0

abbrev bufTy : (tb : Table) → Fin (tcTables nBuf tb) → BufTy
  | .hbm, ⟨0, _⟩ => ⟨S2144x128, .f32⟩
  | .hbm, ⟨1, _⟩ => ⟨S2144x128, .f32⟩
  | .hbm, ⟨2, _⟩ => ⟨S2144x128, .f32⟩
  | .local _ .vmem, ⟨0, _⟩ => ⟨S2144x128, .f32⟩
  | .local _ .vmem, ⟨1, _⟩ => ⟨S2144x128, .f32⟩
  | .local _ .vmem, ⟨2, _⟩ => ⟨S2144x128, .f32⟩
  | _, _ => ⟨S2144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumCoresReferenceIdeal.lean ====
abbrev S2144x128 : Shape := ⟨2, ![2144, 128]⟩

abbrev nBuf : Space → Nat
  | .hbm => 3
  | .vmem => 0
  | .smem => 0
  | _ => 0

abbrev bufTy : (tb : Table) → Fin (tcTables nBuf tb) → BufTy
  | .hbm, ⟨0, _⟩ => ⟨S2144x128, .f32⟩
  | .hbm, ⟨1, _⟩ => ⟨S2144x128, .f32⟩
  | .hbm, ⟨2, _⟩ => ⟨S2144x128, .f32⟩
  | _, _ => ⟨S2144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumChips.lean ====
abbrev S4x1072x128 : Shape := ⟨3, ![4, 1072, 128]⟩
abbrev S1072x128 : Shape := ⟨2, ![1072, 128]⟩
abbrev S1x1072x128 : Shape := ⟨3, ![1, 1072, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x1072x128, .f32⟩
  | .hbm, ⟨1, _⟩ => ⟨S1072x128, .f32⟩
  | .local _ .vmem, ⟨0, _⟩ => ⟨S4x1072x128, .f32⟩
  | .local _ .vmem, ⟨1, _⟩ => ⟨S1072x128, .f32⟩
  | _, _ => ⟨S4x1072x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1072x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsReferenceIdeal.lean ====
abbrev S4x1072x128 : Shape := ⟨3, ![4, 1072, 128]⟩
abbrev S_ : Shape := ⟨0, ![]⟩
abbrev S1072x128 : Shape := ⟨2, ![1072, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x1072x128, .f32⟩
  | .hbm, ⟨1, _⟩ => ⟨S_, .f32⟩
  | .hbm, ⟨2, _⟩ => ⟨S1072x128, .f32⟩
  | _, _ => ⟨S4x1072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CastIn.lean ====
abbrev S1024x1664 : Shape := ⟨2, ![1024, 1664]⟩
abbrev S256x1664 : Shape := ⟨2, ![256, 1664]⟩

abbrev nBuf : Space → Nat
  | .hbm => 2
  | .vmem => 4
  | .smem => 0
  | _ => 0

abbrev bufTy : (tb : Table) → Fin (tcTables nBuf tb) → BufTy
  | .hbm, ⟨0, _⟩ => ⟨S1024x1664, .f32⟩
  | .hbm, ⟨1, _⟩ => ⟨S1024x1664, .bf16⟩
  | .local _ .vmem, ⟨0, _⟩ => ⟨S256x1664, .f32⟩
  | .local _ .vmem, ⟨1, _⟩ => ⟨S256x1664, .f32⟩
  | .local _ .vmem, ⟨2, _⟩ => ⟨S256x1664, .bf16⟩
  | .local _ .vmem, ⟨3, _⟩ => ⟨S256x1664, .bf16⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInReferenceIdeal.lean ====
abbrev S1024x1664 : Shape := ⟨2, ![1024, 1664]⟩

abbrev nBuf : Space → Nat
  | .hbm => 2
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .bf16⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastInReference.lean ====
abbrev S1024x1664 : Shape := ⟨2, ![1024, 1664]⟩

abbrev nBuf : Space → Nat
  | .hbm => 2
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .bf16⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .local _ .vmem, ⟨0, _⟩ => ⟨S256x1024, .f32⟩
  | .local _ .vmem, ⟨1, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CastOutReference.lean ====
abbrev S256x1024 : Shape := ⟨2, ![256, 1024]⟩

abbrev nBuf : Space → Nat
  | .hbm => 2
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== PairIn.lean ====
abbrev S4x1024x1664 : Shape := ⟨3, ![4, 1024, 1664]⟩
abbrev S4x512x1664 : Shape := ⟨3, ![4, 512, 1664]⟩
abbrev S1 : Shape := ⟨1, ![1]⟩
abbrev S1x256x1664 : Shape := ⟨3, ![1, 256, 1664]⟩
abbrev S256x1664 : Shape := ⟨2, ![256, 1664]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x1664, .f32⟩
  | .hbm, ⟨1, _⟩ => ⟨S4x512x1664, .f32⟩
  | .hbm, ⟨2, _⟩ => ⟨S4x512x1664, .f32⟩
  | .hbm, ⟨3, _⟩ => ⟨S4x512x1664, .bf16⟩
  | .local _ .vmem, ⟨0, _⟩ => ⟨S1x256x1664, .f32⟩
  | .local _ .vmem, ⟨1, _⟩ => ⟨S1x256x1664, .f32⟩
  | .local _ .vmem, ⟨2, _⟩ => ⟨S1x256x1664, .f32⟩
  | .local _ .vmem, ⟨3, _⟩ => ⟨S1x256x1664, .f32⟩
  | .local _ .vmem, ⟨4, _⟩ => ⟨S1x256x1664, .f32⟩
  | .local _ .vmem, ⟨5, _⟩ => ⟨S1x256x1664, .f32⟩
  | .local _ .vmem, ⟨6, _⟩ => ⟨S1x256x1664, .bf16⟩
  | .local _ .vmem, ⟨7, _⟩ => ⟨S1x256x1664, .bf16⟩
  | .local _ .smem, ⟨0, _⟩ => ⟨S1, .i32⟩
  | _, _ => ⟨S4x1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairInReference.lean ====
abbrev S4x1024x1664 : Shape := ⟨3, ![4, 1024, 1664]⟩
abbrev S4x512x1664 : Shape := ⟨3, ![4, 512, 1664]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1664, .f32⟩
  | .hbm, ⟨1, _⟩ => ⟨S4x512x1664, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x1664, .f32⟩
  | .hbm, ⟨7, _⟩ => ⟨S4x512x1664, .f32⟩
  | .hbm, ⟨8, _⟩ => ⟨S4x512x1664, .f32⟩
  | .hbm, ⟨9, _⟩ => ⟨S4x512x1664, .f32⟩
  | .hbm, ⟨10, _⟩ => ⟨S4x512x1664, .bf16⟩
  | _, _ => ⟨S4x1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FourIn.lean ====
abbrev S4x512x1664 : Shape := ⟨3, ![4, 512, 1664]⟩
abbrev S4 : Shape := ⟨1, ![4]⟩
abbrev S512x1664 : Shape := ⟨2, ![512, 1664]⟩
abbrev S1x256x1664 : Shape := ⟨3, ![1, 256, 1664]⟩
abbrev S1 : Shape := ⟨1, ![1]⟩
abbrev S256x1664 : Shape := ⟨2, ![256, 1664]⟩

abbrev nBuf : Space → Nat
  | .hbm => 3
  | .vmem => 10
  | .smem => 1
  | _ => 0

abbrev bufTy : (tb : Table) → Fin (tcTables nBuf tb) → BufTy
  | .hbm, ⟨0, _⟩ => ⟨S4x512x1664, .f32⟩
  | .hbm, ⟨1, _⟩ => ⟨S4x512x1664, .bf16⟩
  | .hbm, ⟨2, _⟩ => ⟨S512x1664, .f32⟩
  | .local _ .vmem, ⟨0, _⟩ => ⟨S1x256x1664, .f32⟩
  | .local _ .vmem, ⟨1, _⟩ => ⟨S1x256x1664, .f32⟩
  | .local _ .vmem, ⟨2, _⟩ => ⟨S1x256x1664, .bf16⟩
  | .local _ .vmem, ⟨3, _⟩ => ⟨S1x256x1664, .bf16⟩
  | .local _ .vmem, ⟨4, _⟩ => ⟨S1x256x1664, .bf16⟩
  | .local _ .vmem, ⟨5, _⟩ => ⟨S1x256x1664, .bf16⟩
  | .local _ .vmem, ⟨6, _⟩ => ⟨S1x256x1664, .bf16⟩
  | .local _ .vmem, ⟨7, _⟩ => ⟨S1x256x1664, .bf16⟩
  | .local _ .vmem, ⟨8, _⟩ => ⟨S256x1664, .f32⟩
  | .local _ .vmem, ⟨9, _⟩ => ⟨S256x1664, .f32⟩
  | .local _ .smem, ⟨0, _⟩ => ⟨S4, .i32⟩
  | _, _ => ⟨S4x512x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FourInReference.lean ====
abbrev S4x512x1664 : Shape := ⟨3, ![4, 512, 1664]⟩
abbrev S4 : Shape := ⟨1, ![4]⟩
abbrev S1 : Shape := ⟨1, ![1]⟩
abbrev S_ : Shape := ⟨0, ![]⟩
abbrev S1x512x1664 : Shape := ⟨3, ![1, 512, 1664]⟩
abbrev S512x1664 : Shape := ⟨2, ![512, 1664]⟩

abbrev nBuf : Space → Nat
  | .hbm => 85
  | .vmem => 0
  | .smem => 0
  | _ => 0

abbrev bufTy : (tb : Table) → Fin (tcTables nBuf tb) → BufTy
  | .hbm, ⟨0, _⟩ => ⟨S4x512x1664, .f32⟩
  | .hbm, ⟨1, _⟩ => ⟨S4x512x1664, .bf16⟩
  | .hbm, ⟨2, _⟩ => ⟨S4, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1x512x1664, .f32⟩
  | .hbm, ⟨8, _⟩ => ⟨S512x1664, .f32⟩
  | .hbm, ⟨9, _⟩ => ⟨S_, .i32⟩
  | .hbm, ⟨10, _⟩ => ⟨S_, .i1⟩
  | .hbm, ⟨11, _⟩ => ⟨S1x512x1664, .f32⟩
  | .hbm, ⟨12, _⟩ => ⟨S512x1664, .f32⟩
  | .hbm, ⟨13, _⟩ => ⟨S_, .i32⟩
  | .hbm, ⟨14, _⟩ => ⟨S_, .i1⟩
  | .hbm, ⟨15, _⟩ => ⟨S1x512x1664, .f32⟩
  | .hbm, ⟨16, _⟩ => ⟨S512x1664, .f32⟩
  | .hbm, ⟨17, _⟩ => ⟨S1x512x1664, .f32⟩
  | .hbm, ⟨18, _⟩ => ⟨S512x1664, .f32⟩
  | .hbm, ⟨19, _⟩ => ⟨S512x1664, .f32⟩
  | .hbm, ⟨20, _⟩ => ⟨S512x1664, .f32⟩
  | .hbm, ⟨21, _⟩ => ⟨S512x1664, .f32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S1x512x1664, .bf16⟩
  | .hbm, ⟨27, _⟩ => ⟨S512x1664, .bf16⟩
  | .hbm, ⟨28, _⟩ => ⟨S_, .i32⟩
  | .hbm, ⟨29, _⟩ => ⟨S_, .i1⟩
  | .hbm, ⟨30, _⟩ => ⟨S1x512x1664, .bf16⟩
  | .hbm, ⟨31, _⟩ => ⟨S512x1664, .bf16⟩
  | .hbm, ⟨32, _⟩ => ⟨S_, .i32⟩
  | .hbm, ⟨33, _⟩ => ⟨S_, .i1⟩
  | .hbm, ⟨34, _⟩ => ⟨S1x512x1664, .bf16⟩
  | .hbm, ⟨35, _⟩ => ⟨S512x1664, .bf16⟩
  | .hbm, ⟨36, _⟩ => ⟨S1x512x1664, .bf16⟩
  | .hbm, ⟨37, _⟩ => ⟨S512x1664, .bf16⟩
  | .hbm, ⟨38, _⟩ => ⟨S512x1664, .bf16⟩
  | .hbm, ⟨39, _⟩ => ⟨S512x1664, .bf16⟩
  | .hbm, ⟨40, _⟩ => ⟨S512x1664, .bf16⟩
  | .hbm, ⟨41, _⟩ => ⟨S512x1664, .f32⟩
  | .hbm, ⟨42, _⟩ => ⟨S512x1664, .f32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S1x512x1664, .bf16⟩
  | .hbm, ⟨48, _⟩ => ⟨S512x1664, .bf16⟩
  | .hbm, ⟨49, _⟩ => ⟨S_, .i32⟩
  | .hbm, ⟨50, _⟩ => ⟨S_, .i1⟩
  | .hbm, ⟨51, _⟩ => ⟨S1x512x1664, .bf16⟩
  | .hbm, ⟨52, _⟩ => ⟨S512x1664, .bf16⟩
  | .hbm, ⟨53, _⟩ => ⟨S_, .i32⟩
  | .hbm, ⟨54, _⟩ => ⟨S_, .i1⟩
  | .hbm, ⟨55, _⟩ => ⟨S1x512x1664, .bf16⟩
  | .hbm, ⟨56, _⟩ => ⟨S512x1664, .bf16⟩
  | .hbm, ⟨57, _⟩ => ⟨S1x512x1664, .bf16⟩
  | .hbm, ⟨58, _⟩ => ⟨S512x1664, .bf16⟩
  | .hbm, ⟨59, _⟩ => ⟨S512x1664, .bf16⟩
  | .hbm, ⟨60, _⟩ => ⟨S512x1664, .bf16⟩
  | .hbm, ⟨61, _⟩ => ⟨S512x1664, .bf16⟩
  | .hbm, ⟨62, _⟩ => ⟨S512x1664, .f32⟩
  | .hbm, ⟨63, _⟩ => ⟨S512x1664, .f32⟩
  | .hbm, ⟨64, _⟩ => ⟨S1, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S1x512x1664, .bf16⟩
  | .hbm, ⟨69, _⟩ => ⟨S512x1664, .bf16⟩
  | .hbm, ⟨70, _⟩ => ⟨S_, .i32⟩
  | .hbm, ⟨71, _⟩ => ⟨S_, .i1⟩
  | .hbm, ⟨72, _⟩ => ⟨S1x512x1664, .bf16⟩
  | .hbm, ⟨73, _⟩ => ⟨S512x1664, .bf16⟩
  | .hbm, ⟨74, _⟩ => ⟨S_, .i32⟩
  | .hbm, ⟨75, _⟩ => ⟨S_, .i1⟩
  | .hbm, ⟨76, _⟩ => ⟨S1x512x1664, .bf16⟩
  | .hbm, ⟨77, _⟩ => ⟨S512x1664, .bf16⟩
  | .hbm, ⟨78, _⟩ => ⟨S1x512x1664, .bf16⟩
  | .hbm, ⟨79, _⟩ => ⟨S512x1664, .bf16⟩
  | .hbm, ⟨80, _⟩ => ⟨S512x1664, .bf16⟩
  | .hbm, ⟨81, _⟩ => ⟨S512x1664, .bf16⟩
  | .hbm, ⟨82, _⟩ => ⟨S512x1664, .bf16⟩
  | .hbm, ⟨83, _⟩ => ⟨S512x1664, .f32⟩
  | .hbm, ⟨84, _⟩ => ⟨S512x1664, .f32⟩
  | _, _ => ⟨S4x512x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== Proof.Backward.GradX.lean ====
/-
  The gradient through the first normalization: a row's gradient reads that row alone, and the scale's gradient is a sum over all 4096 rows,
  which the call gathers in eight parts of 512 rows.
-/
module

public import proofs.«01_k».proof.Proof.Gen.GradX.Frame
public import proofs.«01_k».proof.Proof.Gen.GradXIdeal.Frame
public import proofs.«01_k».proof.Proof.Gen.GradXReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Backward.GradX

/-! ## The two gradients as formulas -/

section Formula

variable {rows : ℕ} (x dh : FVec Ideal ⟨2, ![rows, 1024]⟩ .f32)

/-- The reciprocal root of row `i`'s mean square, `eps` added. -/
def scale (i : Fin rows) : EReal :=
  Ideal.rsqrt (Ideal.div (∑ k : Fin 1024, x (ix2 i k) * x (ix2 i k)) (Ideal.ofBits .f32 0x44800000#32) + Ideal.ofBits .f32 0x358637BD#32)

/-- Row `i`'s normalized entry in column `k`. -/
def normed (i : Fin rows) (k : Fin 1024) : EReal := x (ix2 i k) * scale x i

/-- What row `i` adds to the gradient of column `k`'s scale. -/
def part (i : Fin rows) (k : Fin 1024) : EReal := dh (ix2 i k) * normed x i k

/-- The gradient of row `i`'s entry in column `k`, added to the one that reaches it directly. -/
def grad (dx : FVec Ideal ⟨2, ![rows, 1024]⟩ .f32) (g : FVec Ideal ⟨2, ![1, 1024]⟩ .f32) (i : Fin rows) (k : Fin 1024) : EReal :=
  dx (ix2 i k) + scale x i * (dh (ix2 i k) * g (ix2 0 k)
    - normed x i k * Ideal.div (∑ l : Fin 1024, dh (ix2 i l) * g (ix2 0 l) * normed x i l) (Ideal.ofBits .f32 0x44800000#32))

end Formula

section Kernel

open Cert.GradXIdeal Cert.GradXIdeal.Gen

theorem index : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

theorem payload (x dh : FVec Ideal S512x1024 .f32) (g : FVec Ideal S1x1024 .f32) (dx : FVec Ideal S512x1024 .f32) (y : S512x1024.Idx) :
    k0_pay3 (F := Ideal) x dh g dx y = grad x dh dx g (y 0) (y 1) := by
  pointwise [k0_pay1, k0_pay2, k0_pay3, grad, normed, scale]

theorem payload_zero (y : S1x1024.Idx) : k0_pay4 (F := Ideal) y = 0 := by pointwise [k0_pay4]

theorem payload_part (x dh : FVec Ideal S512x1024 .f32) (a : FVec Ideal S1x1024 .f32) (y : S1x1024.Idx) :
    k0_pay5 (F := Ideal) x dh a y = a y + ∑ i : Fin 512, part x dh i (y 1) := by
  pointwise [k0_pay1, k0_pay2, k0_pay5, part, normed, scale]

variable (m : (ℓ : Loc nD τ sig) → Buf (Elt Ideal) ℓ)

theorem final_4 (c : Dev nD) : (dats m 0 c).arrAt 4 (cfgs 0).N = fun j : S4096x1024.Idx => grad (m ((c : Thread nD τ).loc main_arg0))
    (m ((c : Thread nD τ).loc main_arg1)) (m ((c : Thread nD τ).loc main_arg2)) (m ((c : Thread nD τ).loc main_arg3)) (j 0) (j 1) := by
  refine (dats m 0 c).arrAt_eq_of_covers 4 _ (by decide +kernel) fun t _ y => ?_
  blk_simp
  rw [after0_4]
  have h : (outsAt0 m c t.val t.isLt).1 = k0_pay3 (iblk m c 0 t) (iblk m c 1 t) (iblk m c 3 t) (iblk m c 2 t) := by
    by_cases h : t.val % 8 = 0
    · rw [outsAt0_A m c t h]; frame_out
    · rw [outsAt0_B m c t h]; frame_out
  rw [h]
  refine (payload _ _ _ _ _).trans ?_
  unfold grad normed scale
  blk_point [iblk, V, index t]

theorem final_5 (c : Dev nD) : (dats m 0 c).arrAt 5 (cfgs 0).N = fun j : S1x1024.Idx => ∑ i : Fin 4096,
    part (m ((c : Thread nD τ).loc main_arg0)) (m ((c : Thread nD τ).loc main_arg1)) i (j 1) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) _
    (fun t h j => by rw [outsAt0_A m c t h]; frame_out; rw [payload_part, payload_zero])
    (fun t h j => by rw [outsAt0_B m c t h]; frame_out; rw [payload_part])
    (le_of_eq N_0) t0_7 rfl j, zero_add]
  refine Fin.sum_mul_add_congr fun t i h => ?_
  unfold part normed scale
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun j : S4096x1024.Idx => grad (m ((c : Thread nD τ).loc main_arg0))
      (m ((c : Thread nD τ).loc main_arg1)) (m ((c : Thread nD τ).loc main_arg2)) (m ((c : Thread nD τ).loc main_arg3)) (j 0) (j 1))
    ∧ r.2.mem ((c : Thread nD τ).loc main_v0_1) = (fun j : S1x1024.Idx => ∑ i : Fin 4096,
      part (m ((c : Thread nD τ).loc main_arg0)) (m ((c : Thread nD τ).loc main_arg1)) i (j 1)) :=
  (θ_run defs _ _).mono (fun _ h c => ⟨((h c).1 4).trans (final_4 m c), ((h c).1 5).trans (final_5 m c)⟩) (run_main m g)

end Kernel

section Reference

open Cert.GradXReferenceIdeal Cert.GradXReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v22) = (fun j : S4096x1024.Idx => grad (m (((0 : Dev nD) : Thread nD τ).loc main_arg0))
        (m (((0 : Dev nD) : Thread nD τ).loc main_arg1)) (m (((0 : Dev nD) : Thread nD τ).loc main_arg2)) (m (((0 : Dev nD) : Thread nD τ).loc main_arg3)) (j 0) (j 1))
      ∧ r.2.mem (((0 : Dev nD) : Thread nD τ).loc main_v25) = (fun j : S1x1024.Idx => ∑ i : Fin 4096,
        part (m (((0 : Dev nD) : Thread nD τ).loc main_arg0)) (m (((0 : Dev nD) : Thread nD τ).loc main_arg1)) i (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) := by
  hlo_run
  · funext j
    pointwise [grad, normed, scale]
  · funext j
    pointwise [part, normed, scale]
  all_goals rfl

end Reference

end Cert.Proof.Backward.GradX

end
-- ==== Proof.Backward.Merge.Row.lean ====
/-
  One row of the merge of the two branches, forward to the loss and back to the merge's inputs, as formulas over the extended reals.
-/
module

public import Idealize.ShloMosaic.Lib.Pointwise

@[expose] public section

noncomputable section

open Idealize.ShloMosaic

namespace Cert.Proof.Backward.Merge

/-- What belongs to one row: the input, the target, the two branches' outputs, and the two gates before their sigmoid. -/
structure Row where
  x : Fin 1024 → EReal
  target : Fin 1024 → EReal
  first : Fin 1024 → EReal
  second : Fin 1024 → EReal
  gate₁ : Fin 1024 → EReal
  gate₂ : Fin 1024 → EReal

/-- What belongs to all rows: the branches' projections, the output projection and the last norm's scale. -/
structure Weights where
  first : Fin 1024 → Fin 1024 → EReal
  second : Fin 1024 → Fin 1024 → EReal
  out : Fin 1024 → Fin 1024 → EReal
  gain : Fin 1024 → EReal

def sigmoid (z : EReal) : EReal := Ideal.div 1 (1 + Ideal.exp (-z))

/-- The number of columns. -/
def width : EReal := Ideal.ofBits .f32 0x44800000#32

variable (W : Weights) (R : Row)

def projected₁ (k : Fin 1024) : EReal := ∑ l : Fin 1024, R.first l * W.first l k

def projected₂ (k : Fin 1024) : EReal := ∑ l : Fin 1024, R.second l * W.second l k

def merged (k : Fin 1024) : EReal := sigmoid (R.gate₁ k) * projected₁ W R k + sigmoid (R.gate₂ k) * projected₂ W R k

/-- The row after the output projection and the residual. -/
def output (k : Fin 1024) : EReal := R.x k + ∑ l : Fin 1024, merged W R l * W.out l k

def scale : EReal := Ideal.rsqrt (Ideal.div (∑ k : Fin 1024, output W R k * output W R k) width + Ideal.ofBits .f32 0x358637BD#32)

def normed (k : Fin 1024) : EReal := output W R k * scale W R

def error (k : Fin 1024) : EReal := normed W R k * W.gain k - R.target k

/-- The sum of the row's squared errors. -/
def squares : EReal := ∑ k : Fin 1024, error W R k * error W R k

/-- The loss's gradient at the last norm's output. -/
def slope (k : Fin 1024) : EReal := error W R k * Ideal.ofBits .f32 0x3A800000#32

/-- The loss's gradient at the last norm's input. -/
def grad (k : Fin 1024) : EReal := scale W R * (slope W R k * W.gain k
  - normed W R k * Ideal.div (∑ l : Fin 1024, slope W R l * W.gain l * normed W R l) width)

/-- The loss's gradient at the merged row. -/
def gradMerged (k : Fin 1024) : EReal := ∑ l : Fin 1024, grad W R l * W.out k l

def gradProjected₁ (k : Fin 1024) : EReal := gradMerged W R k * sigmoid (R.gate₁ k)

def gradProjected₂ (k : Fin 1024) : EReal := gradMerged W R k * sigmoid (R.gate₂ k)

def gradGate₁ (k : Fin 1024) : EReal := gradMerged W R k * projected₁ W R k * (sigmoid (R.gate₁ k) * (1 - sigmoid (R.gate₁ k)))

def gradGate₂ (k : Fin 1024) : EReal := gradMerged W R k * projected₂ W R k * (sigmoid (R.gate₂ k) * (1 - sigmoid (R.gate₂ k)))

def gradFirst (k : Fin 1024) : EReal := ∑ l : Fin 1024, gradProjected₁ W R l * W.first k l

def gradSecond (k : Fin 1024) : EReal := ∑ l : Fin 1024, gradProjected₂ W R l * W.second k l

/-- What the row adds to the gradient of the last norm's scale. -/
def gradGain (k : Fin 1024) : EReal := slope W R k * normed W R k

/-- The gates' gradients side by side. -/
def gradGates (k : Fin 2048) : EReal := if h : k.val < 1024 then gradGate₁ W R ⟨k.val, h⟩ else gradGate₂ W R ⟨k.val - 1024, by omega⟩

/-! ## The rows of whole arrays -/

def weights (a b o : FVec Ideal ⟨2, ![1024, 1024]⟩ .bf16) (g : FVec Ideal ⟨2, ![1, 1024]⟩ .f32) : Weights where
  first k l := a (ix2 k l)
  second k l := b (ix2 k l)
  out k l := o (ix2 k l)
  gain k := g (ix2 0 k)

/-- The gates are columns 4608 to 5631 and 5632 to 6655 of `z`. -/
def wholeRow (x y : FVec Ideal ⟨2, ![4096, 1024]⟩ .f32) (p q : FVec Ideal ⟨2, ![4096, 1024]⟩ .bf16) (z : FVec Ideal ⟨2, ![4096, 6656]⟩ .f32) (i : Fin 4096) : Row where
  x k := x (ix2 i k)
  target k := y (ix2 i k)
  first k := p (ix2 i k)
  second k := q (ix2 i k)
  gate₁ k := z (ix2 i ⟨4608 + k.val, by omega⟩)
  gate₂ k := z (ix2 i ⟨5632 + k.val, by omega⟩)

/-! ## The loss: half the sum over the rows of the mean squared error -/

/-- Half of the row's mean squared error. -/
def halfMean : EReal := Ideal.ofBits .f32 0x3A000000#32 * squares W R

theorem const_2048 : Ideal.ofBits .f32 0x3A000000#32 = ((1 / 2048 : ℝ) : EReal) := by
  simp [Ideal.ofBits, Ideal.ieee, -EReal.coe_mul]; norm_num

theorem const_half : Ideal.ofBits .f32 0x3F000000#32 = ((1 / 2 : ℝ) : EReal) := by
  simp [Ideal.ofBits, Ideal.ieee, -EReal.coe_mul]; norm_num

theorem const_width : Ideal.ofBits .f32 0x44800000#32 = ((1024 : ℝ) : EReal) := by
  simp [Ideal.ofBits, Ideal.ieee, -EReal.coe_mul]; norm_num

/-- A non-negative real factor goes into a sum of extended reals. -/
theorem coe_mul_sum {n : ℕ} (c : ℝ) (hc : 0 ≤ c) (f : Fin n → EReal) : (c : EReal) * ∑ i : Fin n, f i = ∑ i : Fin n, (c : EReal) * f i := by
  induction n with
  | zero => simp
  | succ n ih =>
    rw [Fin.sum_univ_succ, Fin.sum_univ_succ, EReal.left_distrib_of_nonneg_of_ne_top (EReal.coe_nonneg.mpr hc) (EReal.coe_ne_top c), ih]

theorem scaled_sum {n : ℕ} (f : Fin n → EReal) : Ideal.ofBits .f32 0x3A000000#32 * ∑ i : Fin n, f i = ∑ i : Fin n, Ideal.ofBits .f32 0x3A000000#32 * f i := by
  rw [const_2048]; exact coe_mul_sum _ (by norm_num) f

theorem half_sum_mean {n : ℕ} (f : Fin n → EReal) : Ideal.ofBits .f32 0x3F000000#32 * ∑ i : Fin n, Ideal.div (f i) (Ideal.ofBits .f32 0x44800000#32)
    = ∑ i : Fin n, Ideal.ofBits .f32 0x3A000000#32 * f i := by
  rw [const_half, coe_mul_sum _ (by norm_num)]
  refine Finset.sum_congr rfl fun i _ => ?_
  rw [const_width, const_2048, Ideal.div_coe (by norm_num), mul_left_comm, ← EReal.coe_mul, mul_comm]
  norm_num

end Cert.Proof.Backward.Merge

end
-- ==== Proof.Backward.Merge.Tile.lean ====
/-
  What the call computes from one tile of 256 rows: each row's formulas.
-/
module

public import proofs.«01_k».proof.Proof.Gen.MergeIdeal.Skeleton
public import proofs.«01_k».proof.Proof.Backward.Merge.Row

@[expose] public section

set_option maxRecDepth 16384

noncomputable section

open Idealize.ShloMosaic Idealize.ShloMosaic.TcCoe Idealize.SL.Sem
open Cert.MergeIdeal Cert.MergeIdeal.Gen

namespace Cert.Proof.Backward.Merge

/-- A gate read from its left and its right half. -/
def halves (l r : FVec Ideal S256x512 .f32) (i : Fin 256) (k : Fin 1024) : EReal :=
  if h : k.val < 512 then l (ix2 i ⟨k.val, h⟩) else r (ix2 i ⟨k.val - 512, by omega⟩)

/-- The rows of a tile. -/
def tileRow (x y : FVec Ideal S256x1024 .f32) (p q : FVec Ideal S256x1024 .bf16) (l₁ r₁ l₂ r₂ : FVec Ideal S256x512 .f32) (i : Fin 256) : Row where
  x k := x (ix2 i k)
  target k := y (ix2 i k)
  first k := p (ix2 i k)
  second k := q (ix2 i k)
  gate₁ := halves l₁ r₁ i
  gate₂ := halves l₂ r₂ i

variable (x y : FVec Ideal S256x1024 .f32) (p q : FVec Ideal S256x1024 .bf16) (l₁ r₁ l₂ r₂ : FVec Ideal S256x512 .f32)
  (a b o : FVec Ideal S1024x1024 .bf16) (g : FVec Ideal S1x1024 .f32)

theorem pay5 (i : Fin 256) (k : Fin 1024) : k0_pay5 (F := Ideal) l₁ r₁ (ix2 i k) = sigmoid ((tileRow x y p q l₁ r₁ l₂ r₂ i).gate₁ k) := by
  pointwise [k0_pay5, sigmoid, tileRow, halves, zero_sub]

theorem pay6 (i : Fin 256) (k : Fin 1024) : k0_pay6 (F := Ideal) l₂ r₂ (ix2 i k) = sigmoid ((tileRow x y p q l₁ r₁ l₂ r₂ i).gate₂ k) := by
  pointwise [k0_pay6, sigmoid, tileRow, halves, zero_sub]

theorem pay3 (i : Fin 256) (k : Fin 1024) : k0_pay3 (F := Ideal) a p (ix2 i k) = projected₁ (weights a b o g) (tileRow x y p q l₁ r₁ l₂ r₂ i) k := by
  pointwise [k0_pay3, projected₁, weights, tileRow]

theorem pay4 (i : Fin 256) (k : Fin 1024) : k0_pay4 (F := Ideal) b q (ix2 i k) = projected₂ (weights a b o g) (tileRow x y p q l₁ r₁ l₂ r₂ i) k := by
  pointwise [k0_pay4, projected₂, weights, tileRow]

theorem pay7 (i : Fin 256) (k : Fin 1024) : k0_pay7 (F := Ideal) a b p q l₁ r₁ l₂ r₂ (ix2 i k) = merged (weights a b o g) (tileRow x y p q l₁ r₁ l₂ r₂ i) k := by
  pointwise [k0_pay7]
  rw [pay5 x y p q l₁ r₁ l₂ r₂, pay6 x y p q l₁ r₁ l₂ r₂, pay3 x y p q l₁ r₁ l₂ r₂ a b o g, pay4 x y p q l₁ r₁ l₂ r₂ a b o g]
  rfl

section Chain

/-! The tile's merged rows `M` are an argument of the later parts. -/

variable (W : Weights) (R : Fin 256 → Row) (hO : ∀ k l, o (ix2 k l) = W.out k l) (hG : ∀ k, g (ix2 0 k) = W.gain k)
  (hX : ∀ i k, x (ix2 i k) = (R i).x k) (hY : ∀ i k, y (ix2 i k) = (R i).target k) (M : FVec Ideal S256x1024 .f32) (hM : ∀ i k, M (ix2 i k) = merged W (R i) k)

include hO hX hM

theorem pay9 (i : Fin 256) (k : Fin 1024) : k0_pay9 (F := Ideal) o M x (ix2 i k) = output W (R i) k := by
  pointwise [k0_pay9, k0_pay8, output, hO, hX, hM]

theorem pay10 (i : Fin 256) : k0_pay10 (F := Ideal) o M x (ix2 i 0) = scale W (R i) := by
  pointwise [k0_pay10, scale, width, pay9 x o W R hO hX M hM]

theorem pay11 (i : Fin 256) (k : Fin 1024) : k0_pay11 (F := Ideal) o M x (ix2 i k) = normed W (R i) k := by
  pointwise [k0_pay11, normed, pay9 x o W R hO hX M hM, pay10 x o W R hO hX M hM]

include hG hY

theorem pay12 (i : Fin 256) (k : Fin 1024) : k0_pay12 (F := Ideal) o g M x y (ix2 i k) = error W (R i) k := by
  pointwise [k0_pay12, error, pay11 x o W R hO hX M hM, hG, hY]

theorem pay13 (i : Fin 256) (k : Fin 1024) : k0_pay13 (F := Ideal) o g M x y (ix2 i k) = slope W (R i) k := by
  pointwise [k0_pay13, slope, pay12 x y o g W R hO hG hX hY M hM]

theorem pay14 (i : Fin 256) (k : Fin 1024) : k0_pay14 (F := Ideal) o g M x y (ix2 i k) = Merge.grad W (R i) k := by
  pointwise [k0_pay14, Merge.grad, width, pay10 x o W R hO hX M hM, pay11 x o W R hO hX M hM, pay13 x y o g W R hO hG hX hY M hM, hG]

theorem pay16 (i : Fin 256) (k : Fin 1024) : k0_pay16 (F := Ideal) o g M x y (ix2 i k) = gradMerged W (R i) k := by
  pointwise [k0_pay16, k0_pay15, gradMerged, pay14 x y o g W R hO hG hX hY M hM, hO]

end Chain

section Ends

variable (W : Weights) (R : Fin 256 → Row) (hA : ∀ k l, a (ix2 k l) = W.first k l) (hB : ∀ k l, b (ix2 k l) = W.second k l)
  (S D P M : FVec Ideal S256x1024 .f32) (H : FVec Ideal S256x1024 .bf16)

theorem pay17 (hD : ∀ i k, k0_pay16 (F := Ideal) o g M x y (ix2 i k) = gradMerged W (R i) k) (hS : ∀ i k, S (ix2 i k) = sigmoid ((R i).gate₁ k))
    (i : Fin 256) (k : Fin 1024) : k0_pay17 (F := Ideal) o g S M x y (ix2 i k) = gradProjected₁ W (R i) k := by
  pointwise [k0_pay17, gradProjected₁, hD, hS]

theorem pay18 (hD : ∀ i k, D (ix2 i k) = gradMerged W (R i) k) (hS : ∀ i k, S (ix2 i k) = sigmoid ((R i).gate₂ k))
    (i : Fin 256) (k : Fin 1024) : k0_pay18 (F := Ideal) S D (ix2 i k) = gradProjected₂ W (R i) k := by
  pointwise [k0_pay18, gradProjected₂, hD, hS]

theorem pay19 (hD : ∀ i k, D (ix2 i k) = gradMerged W (R i) k) (hP : ∀ i k, P (ix2 i k) = projected₁ W (R i) k)
    (hS : ∀ i k, S (ix2 i k) = sigmoid ((R i).gate₁ k)) (i : Fin 256) (k : Fin 1024) : k0_pay19 (F := Ideal) P S D (ix2 i k) = gradGate₁ W (R i) k := by
  pointwise [k0_pay19, gradGate₁, hD, hS, hP]

theorem pay20 (hD : ∀ i k, D (ix2 i k) = gradMerged W (R i) k) (hP : ∀ i k, P (ix2 i k) = projected₂ W (R i) k)
    (hS : ∀ i k, S (ix2 i k) = sigmoid ((R i).gate₂ k)) (i : Fin 256) (k : Fin 1024) : k0_pay20 (F := Ideal) P S D (ix2 i k) = gradGate₂ W (R i) k := by
  pointwise [k0_pay20, gradGate₂, hD, hS, hP]

include hA in
theorem pay21 (hH : ∀ i k, H (ix2 i k) = gradProjected₁ W (R i) k) (i : Fin 256) (k : Fin 1024) :
    k0_pay21 (F := Ideal) a H (ix2 i k) = gradFirst W (R i) k := by
  pointwise [k0_pay21, gradFirst, hH, hA]

include hB in
theorem pay22 (hD : ∀ i k, D (ix2 i k) = gradMerged W (R i) k) (hS : ∀ i k, S (ix2 i k) = sigmoid ((R i).gate₂ k)) (i : Fin 256) (k : Fin 1024) :
    k0_pay22 (F := Ideal) b S D (ix2 i k) = gradSecond W (R i) k := by
  pointwise [k0_pay22, gradSecond, pay18 W R S D hD hS, hB]

theorem pay2 (N S : FVec Ideal S256x1024 .f32) (acc : FVec Ideal S1x1024 .f32) (hN : ∀ i k, N (ix2 i k) = normed W (R i) k)
    (hS : ∀ i k, S (ix2 i k) = slope W (R i) k) (k : Fin 1024) : k0_pay2 (F := Ideal) N S acc (ix2 0 k) = acc (ix2 0 k) + ∑ i : Fin 256, gradGain W (R i) k := by
  pointwise [k0_pay2, gradGain, hN, hS]

theorem pay1 (E : FVec Ideal S256x1024 .f32) (acc : FVec Ideal S1x128 .f32) (hE : ∀ i k, E (ix2 i k) = error W (R i) k) (l : Fin 128) :
    k0_pay1 (F := Ideal) (k0_pay25 acc) k0_pay26 (k0_pay27 E) (ix2 0 l) = acc (ix2 0 l) + Ideal.ofBits .f32 0x3A000000#32 * ∑ i : Fin 256, squares W (R i) := by
  pointwise [k0_pay1, k0_pay25, k0_pay26, k0_pay27, squares, hE]

end Ends

/-! ## From the blocks that the call loads -/

theorem tile_merged (j : S256x1024.Idx) : k0_pay8 (F := Ideal) (k0_pay7 a b p q l₁ r₁ l₂ r₂) j
    = merged (weights a b o g) (tileRow x y p q l₁ r₁ l₂ r₂ (j 0)) (j 1) := by
  refine Eq.trans ?_ (pay7 x y p q l₁ r₁ l₂ r₂ a b o g (j 0) (j 1))
  rw [← eq_ix2 j]; rfl

theorem tile_error (i : Fin 256) (k : Fin 1024) : k0_pay12 (F := Ideal) o g (k0_pay7 a b p q l₁ r₁ l₂ r₂) x y (ix2 i k)
    = error (weights a b o g) (tileRow x y p q l₁ r₁ l₂ r₂ i) k :=
  pay12 x y o g (weights a b o g) (tileRow x y p q l₁ r₁ l₂ r₂) (fun _ _ => rfl) (fun _ => rfl) (fun _ _ => rfl) (fun _ _ => rfl) _ (pay7 x y p q l₁ r₁ l₂ r₂ a b o g) i k

theorem tile_gradMerged (i : Fin 256) (k : Fin 1024) : k0_pay16 (F := Ideal) o g (k0_pay7 a b p q l₁ r₁ l₂ r₂) x y (ix2 i k)
    = gradMerged (weights a b o g) (tileRow x y p q l₁ r₁ l₂ r₂ i) k :=
  pay16 x y o g (weights a b o g) (tileRow x y p q l₁ r₁ l₂ r₂) (fun _ _ => rfl) (fun _ => rfl) (fun _ _ => rfl) (fun _ _ => rfl) _ (pay7 x y p q l₁ r₁ l₂ r₂ a b o g) i k

theorem tile_grad (j : S256x1024.Idx) : k0_pay14 (F := Ideal) o g (k0_pay7 a b p q l₁ r₁ l₂ r₂) x y j
    = Merge.grad (weights a b o g) (tileRow x y p q l₁ r₁ l₂ r₂ (j 0)) (j 1) := by
  refine Eq.trans (congrArg _ (eq_ix2 j)) ?_
  exact pay14 x y o g (weights a b o g) (tileRow x y p q l₁ r₁ l₂ r₂) (fun _ _ => rfl) (fun _ => rfl) (fun _ _ => rfl) (fun _ _ => rfl) _
    (pay7 x y p q l₁ r₁ l₂ r₂ a b o g) (j 0) (j 1)

theorem tile_gradProjected₁ (i : Fin 256) (k : Fin 1024) : k0_pay17 (F := Ideal) o g (k0_pay5 l₁ r₁) (k0_pay7 a b p q l₁ r₁ l₂ r₂) x y (ix2 i k)
    = gradProjected₁ (weights a b o g) (tileRow x y p q l₁ r₁ l₂ r₂ i) k :=
  pay17 x y o g (weights a b o g) (tileRow x y p q l₁ r₁ l₂ r₂) _ _ (tile_gradMerged x y p q l₁ r₁ l₂ r₂ a b o g) (pay5 x y p q l₁ r₁ l₂ r₂) i k

theorem tile_gradProjected₂ (i : Fin 256) (k : Fin 1024) : k0_pay18 (F := Ideal) (k0_pay6 l₂ r₂) (k0_pay16 o g (k0_pay7 a b p q l₁ r₁ l₂ r₂) x y) (ix2 i k)
    = gradProjected₂ (weights a b o g) (tileRow x y p q l₁ r₁ l₂ r₂ i) k :=
  pay18 (weights a b o g) (tileRow x y p q l₁ r₁ l₂ r₂) _ _ (tile_gradMerged x y p q l₁ r₁ l₂ r₂ a b o g) (pay6 x y p q l₁ r₁ l₂ r₂) i k

theorem tile_gradGate₁ (i : Fin 256) (k : Fin 1024) :
    k0_pay19 (F := Ideal) (k0_pay3 a p) (k0_pay5 l₁ r₁) (k0_pay16 o g (k0_pay7 a b p q l₁ r₁ l₂ r₂) x y) (ix2 i k)
    = gradGate₁ (weights a b o g) (tileRow x y p q l₁ r₁ l₂ r₂ i) k :=
  pay19 (weights a b o g) (tileRow x y p q l₁ r₁ l₂ r₂) _ _ _ (tile_gradMerged x y p q l₁ r₁ l₂ r₂ a b o g)
    (pay3 x y p q l₁ r₁ l₂ r₂ a b o g) (pay5 x y p q l₁ r₁ l₂ r₂) i k

theorem tile_gradGate₂ (i : Fin 256) (k : Fin 1024) :
    k0_pay20 (F := Ideal) (k0_pay4 b q) (k0_pay6 l₂ r₂) (k0_pay16 o g (k0_pay7 a b p q l₁ r₁ l₂ r₂) x y) (ix2 i k)
    = gradGate₂ (weights a b o g) (tileRow x y p q l₁ r₁ l₂ r₂ i) k :=
  pay20 (weights a b o g) (tileRow x y p q l₁ r₁ l₂ r₂) _ _ _ (tile_gradMerged x y p q l₁ r₁ l₂ r₂ a b o g)
    (pay4 x y p q l₁ r₁ l₂ r₂ a b o g) (pay6 x y p q l₁ r₁ l₂ r₂) i k

theorem tile_gradFirst (i : Fin 256) (k : Fin 1024) :
    k0_pay21 (F := Ideal) a (k0_pay17 o g (k0_pay5 l₁ r₁) (k0_pay7 a b p q l₁ r₁ l₂ r₂) x y) (ix2 i k)
    = gradFirst (weights a b o g) (tileRow x y p q l₁ r₁ l₂ r₂ i) k :=
  pay21 a (weights a b o g) (tileRow x y p q l₁ r₁ l₂ r₂) (fun _ _ => rfl) _ (tile_gradProjected₁ x y p q l₁ r₁ l₂ r₂ a b o g) i k

theorem tile_gradSecond (i : Fin 256) (k : Fin 1024) :
    k0_pay22 (F := Ideal) b (k0_pay6 l₂ r₂) (k0_pay16 o g (k0_pay7 a b p q l₁ r₁ l₂ r₂) x y) (ix2 i k)
    = gradSecond (weights a b o g) (tileRow x y p q l₁ r₁ l₂ r₂ i) k :=
  pay22 b (weights a b o g) (tileRow x y p q l₁ r₁ l₂ r₂) (fun _ _ => rfl) _ _ (tile_gradMerged x y p q l₁ r₁ l₂ r₂ a b o g) (pay6 x y p q l₁ r₁ l₂ r₂) i k

theorem tile_loss (acc : FVec Ideal S1x128 .f32) (j : S1x128.Idx) :
    k0_pay1 (F := Ideal) (k0_pay25 acc) k0_pay26 (k0_pay27 (k0_pay12 o g (k0_pay7 a b p q l₁ r₁ l₂ r₂) x y)) j
    = acc j + ∑ i : Fin 256, halfMean (weights a b o g) (tileRow x y p q l₁ r₁ l₂ r₂ i) := by
  unfold halfMean
  rw [← scaled_sum]
  obtain ⟨l, rfl⟩ : ∃ l : Fin 128, j = ix2 0 l := ⟨j 1, (eq_ix2 j).trans (congrArg (ix2 · (j 1)) (Subsingleton.elim (α := Fin 1) _ _))⟩
  exact pay1 (weights a b o g) (tileRow x y p q l₁ r₁ l₂ r₂) _ acc (tile_error x y p q l₁ r₁ l₂ r₂ a b o g) l

theorem tile_gradGain (acc : FVec Ideal S1x1024 .f32) (j : S1x1024.Idx) :
    k0_pay2 (F := Ideal) (k0_pay11 o (k0_pay7 a b p q l₁ r₁ l₂ r₂) x) (k0_pay13 o g (k0_pay7 a b p q l₁ r₁ l₂ r₂) x y) acc j
    = acc j + ∑ i : Fin 256, gradGain (weights a b o g) (tileRow x y p q l₁ r₁ l₂ r₂ i) (j 1) := by
  obtain ⟨k, rfl⟩ : ∃ k : Fin 1024, j = ix2 0 k := ⟨j 1, (eq_ix2 j).trans (congrArg (ix2 · (j 1)) (Subsingleton.elim (α := Fin 1) _ _))⟩
  exact pay2 (weights a b o g) (tileRow x y p q l₁ r₁ l₂ r₂) _ _ acc
    (pay11 x o (weights a b o g) (tileRow x y p q l₁ r₁ l₂ r₂) (fun _ _ => rfl) (fun _ _ => rfl) _ (pay7 x y p q l₁ r₁ l₂ r₂ a b o g))
    (pay13 x y o g (weights a b o g) (tileRow x y p q l₁ r₁ l₂ r₂) (fun _ _ => rfl) (fun _ => rfl) (fun _ _ => rfl) (fun _ _ => rfl) _ (pay7 x y p q l₁ r₁ l₂ r₂ a b o g)) k

end Cert.Proof.Backward.Merge

end
-- ==== Proof.Backward.Merge.Reference.lean ====
/-
  The reference's results, row by row.
-/
module

public import proofs.«01_k».proof.Proof.Gen.MergeReferenceIdeal
public import proofs.«01_k».proof.Proof.Backward.Merge.Row
public import Idealize.ShloMosaic.Lib.Pipeline.ValueKit

@[expose] public section

set_option maxRecDepth 16384

noncomputable section

open Idealize.ShloMosaic Idealize.ShloMosaic.TcCoe Idealize.SL.Sem
open Cert.MergeReferenceIdeal Cert.MergeReferenceIdeal.Gen

namespace Cert.Proof.Backward.Merge

variable (m : (ℓ : Loc nD τ sig) → Buf (Elt Ideal) ℓ) (g : Dev nD → PrngReg)

/-- The rows of the reference's arguments. -/
def givenRow (i : Fin 4096) : Row := wholeRow (m (((0 : Dev nD) : Thread nD τ).loc main_arg0)) (m (((0 : Dev nD) : Thread nD τ).loc main_arg1))
  (m (((0 : Dev nD) : Thread nD τ).loc main_arg2)) (m (((0 : Dev nD) : Thread nD τ).loc main_arg3)) (m (((0 : Dev nD) : Thread nD τ).loc main_arg4)) i

def givenWeights : Weights := weights (m (((0 : Dev nD) : Thread nD τ).loc main_arg5)) (m (((0 : Dev nD) : Thread nD τ).loc main_arg6))
  (m (((0 : Dev nD) : Thread nD τ).loc main_arg7)) (m (((0 : Dev nD) : Thread nD τ).loc main_arg8))

set_option maxHeartbeats 2000000 in
theorem run_reference :
    θ_run (defs (F := Ideal)) (onTc (τ := τ) (main (F := Ideal))) ⟨m, fun _ => 0, g⟩ fun r =>
      r.2.mem (((0 : Dev nD) : Thread nD τ).loc main_v74) = (fun j : S4096x2048.Idx => gradGates (givenWeights m) (givenRow m (j 0)) (j 1))
      ∧ r.2.mem (((0 : Dev nD) : Thread nD τ).loc main_v76) = (fun j : S4096x1024.Idx => gradFirst (givenWeights m) (givenRow m (j 0)) (j 1))
      ∧ r.2.mem (((0 : Dev nD) : Thread nD τ).loc main_v78) = (fun j : S4096x1024.Idx => gradSecond (givenWeights m) (givenRow m (j 0)) (j 1))
      ∧ r.2.mem (((0 : Dev nD) : Thread nD τ).loc main_v79) = (fun j : S4096x1024.Idx => merged (givenWeights m) (givenRow m (j 0)) (j 1))
      ∧ r.2.mem (((0 : Dev nD) : Thread nD τ).loc main_v58) = (fun j : S4096x1024.Idx => Merge.grad (givenWeights m) (givenRow m (j 0)) (j 1))
      ∧ r.2.mem (((0 : Dev nD) : Thread nD τ).loc main_v80) = (fun j : S4096x1024.Idx => Merge.grad (givenWeights m) (givenRow m (j 0)) (j 1))
      ∧ r.2.mem (((0 : Dev nD) : Thread nD τ).loc main_v81) = (fun j : S4096x1024.Idx => gradProjected₁ (givenWeights m) (givenRow m (j 0)) (j 1))
      ∧ r.2.mem (((0 : Dev nD) : Thread nD τ).loc main_v82) = (fun j : S4096x1024.Idx => gradProjected₂ (givenWeights m) (givenRow m (j 0)) (j 1))
      ∧ r.2.mem (((0 : Dev nD) : Thread nD τ).loc main_v83) = (fun _ : S1x128.Idx => ∑ i : Fin 4096, halfMean (givenWeights m) (givenRow m i))
      ∧ r.2.mem (((0 : Dev nD) : Thread nD τ).loc main_v86) = (fun j : S1x1024.Idx => ∑ i : Fin 4096, gradGain (givenWeights m) (givenRow m i) (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4)
      ∧ r.2.mem (((0 : Dev nD) : Thread nD τ).loc main_arg5) = m (((0 : Dev nD) : Thread nD τ).loc main_arg5)
      ∧ r.2.mem (((0 : Dev nD) : Thread nD τ).loc main_arg6) = m (((0 : Dev nD) : Thread nD τ).loc main_arg6)
      ∧ r.2.mem (((0 : Dev nD) : Thread nD τ).loc main_arg7) = m (((0 : Dev nD) : Thread nD τ).loc main_arg7)
      ∧ r.2.mem (((0 : Dev nD) : Thread nD τ).loc main_arg8) = m (((0 : Dev nD) : Thread nD τ).loc main_arg8) := by
  hlo_run
  · funext j
    pointwise [givenWeights, givenRow, weights, wholeRow, gradGates, gradGate₁, gradGate₂, gradMerged, Merge.grad, slope, error, normed, scale, output, width, merged, sigmoid, projected₁, projected₂]
  · funext j
    pointwise [givenWeights, givenRow, weights, wholeRow, gradFirst, gradProjected₁, gradMerged, Merge.grad, slope, error, normed, scale, output, width, merged, sigmoid, projected₁, projected₂]
  · funext j
    pointwise [givenWeights, givenRow, weights, wholeRow, gradSecond, gradProjected₂, gradMerged, Merge.grad, slope, error, normed, scale, output, width, merged, sigmoid, projected₁, projected₂]
  · funext j
    pointwise [givenWeights, givenRow, weights, wholeRow, merged, sigmoid, projected₁, projected₂]
  · funext j
    pointwise [givenWeights, givenRow, weights, wholeRow, Merge.grad, slope, error, normed, scale, output, width, merged, sigmoid, projected₁, projected₂]
  · funext j
    pointwise [givenWeights, givenRow, weights, wholeRow, Merge.grad, slope, error, normed, scale, output, width, merged, sigmoid, projected₁, projected₂]
  · funext j
    pointwise [givenWeights, givenRow, weights, wholeRow, gradProjected₁, gradMerged, Merge.grad, slope, error, normed, scale, output, width, merged, sigmoid, projected₁, projected₂]
  · funext j
    pointwise [givenWeights, givenRow, weights, wholeRow, gradProjected₂, gradMerged, Merge.grad, slope, error, normed, scale, output, width, merged, sigmoid, projected₁, projected₂]
  · funext j
    pointwise [givenWeights, givenRow, weights, wholeRow, halfMean, squares, error, normed, scale, output, width, merged, sigmoid, projected₁, projected₂]
    exact half_sum_mean _
  · funext j
    pointwise [givenWeights, givenRow, weights, wholeRow, gradGain, slope, error, normed, scale, output, width, merged, sigmoid, projected₁, projected₂]
  all_goals rfl

end Cert.Proof.Backward.Merge

end
-- ==== Proof.Backward.Merge.lean ====
/-
  The merge of the two branches, the output projection, the last norm and the loss, forward, and the gradients back to the merge's inputs:
  each row of a result reads that row alone, and the loss and the last scale's gradient are sums over all 4096 rows, which the call gathers
  in sixteen parts of 256 rows.
-/
module

public import proofs.«01_k».proof.Proof.Gen.Merge.Frame
public import proofs.«01_k».proof.Proof.Gen.MergeIdeal.Frame
public import proofs.«01_k».proof.Proof.Backward.Merge.Tile
public import proofs.«01_k».proof.Proof.Backward.Merge.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.MergeIdeal Cert.MergeIdeal.Gen

namespace Cert.Proof.Backward.Merge

theorem index : ∀ t : Fin cfg0.N, win0_0.index t = ![t.val, 0] ∧ win0_1.index t = ![t.val, 0] ∧ win0_2.index t = ![t.val, 0] ∧ win0_3.index t = ![t.val, 0]
    ∧ win0_4.index t = ![t.val, 9] ∧ win0_5.index t = ![t.val, 10] ∧ win0_6.index t = ![t.val, 11] ∧ win0_7.index t = ![t.val, 12]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![0, 0] ∧ win0_21.index t = ![0, 0] :=
  (by decide +kernel : ∀ t : Fin grid0.N, _)

variable (m : (ℓ : Loc nD τ sig) → Buf (Elt Ideal) ℓ) (c : Dev nD)

/-- The rows of the call's arguments. -/
def row (i : Fin 4096) : Row := wholeRow (m ((c : Thread nD τ).loc main_arg0)) (m ((c : Thread nD τ).loc main_arg1))
  (m ((c : Thread nD τ).loc main_arg2)) (m ((c : Thread nD τ).loc main_arg3)) (m ((c : Thread nD τ).loc main_arg4)) i

def all : Weights := weights (m ((c : Thread nD τ).loc main_arg5)) (m ((c : Thread nD τ).loc main_arg6))
  (m ((c : Thread nD τ).loc main_arg7)) (m ((c : Thread nD τ).loc main_arg8))

/-- The tile of a step is 256 of the rows. -/
theorem tile_row (t : Fin cfg0.N) (i : Fin 256) (n : Fin 4096) (h : n.val = t.val * 256 + i.val) : tileRow (iblk m c 0 t) (iblk m c 1 t) (iblk m c 2 t) (iblk m c 3 t) (iblk m c 4 t) (iblk m c 5 t)
    (iblk m c 6 t) (iblk m c 7 t) i = row m c n := by
  unfold tileRow row wholeRow
  simp only [Row.mk.injEq]
  refine ⟨funext fun k => ?_, funext fun k => ?_, funext fun k => ?_, funext fun k => ?_, funext fun k => ?_, funext fun k => ?_⟩
  · blk_point [iblk, V, index t]
  · blk_point [iblk, V, index t]
  · blk_point [iblk, V, index t]
  · blk_point [iblk, V, index t]
  · unfold halves
    blk_point [iblk, V, index t]
  · unfold halves
    blk_point [iblk, V, index t]

theorem tile_weights (t : Fin cfg0.N) : weights (iblk m c 8 t) (iblk m c 9 t) (iblk m c 10 t) (iblk m c 11 t) = all m c := by
  unfold all weights
  simp only [Weights.mk.injEq]
  refine ⟨funext fun k => funext fun l => ?_, funext fun k => funext fun l => ?_, funext fun k => funext fun l => ?_, funext fun k => ?_⟩
  all_goals blk_point [iblk, V, index t]

section Tile

/-! ## What one step stores -/

variable (t : Fin cfg0.N)

/-- The step's merged rows. -/
abbrev mergedTile : FVec Ideal S256x1024 .f32 :=
  k0_pay7 (iblk m c 8 t) (iblk m c 9 t) (iblk m c 2 t) (iblk m c 3 t) (iblk m c 4 t) (iblk m c 5 t) (iblk m c 6 t) (iblk m c 7 t)

/-- The gradient at them. -/
abbrev gradMergedTile := k0_pay16 (F := Ideal) (iblk m c 10 t) (iblk m c 11 t) (mergedTile m c t) (iblk m c 0 t) (iblk m c 1 t)

/-- The gradient at the first branch's projection. -/
abbrev gradProjectedTile := k0_pay17 (F := Ideal) (iblk m c 10 t) (iblk m c 11 t) (k0_pay5 (iblk m c 4 t) (iblk m c 5 t)) (mergedTile m c t) (iblk m c 0 t) (iblk m c 1 t)

variable (y : S256x1024.Idx) (n : Fin 4096) (l : Fin 1024) (hn : n.val = t.val * 256 + (y 0).val) (hl : l.val = (y 1).val)

include hn hl

theorem stored_gradGate₁ : k0_pay19 (F := Ideal) (k0_pay3 (iblk m c 8 t) (iblk m c 2 t)) (k0_pay5 (iblk m c 4 t) (iblk m c 5 t)) (gradMergedTile m c t) y
    = gradGate₁ (all m c) (row m c n) l := by
  obtain rfl : l = y 1 := Fin.ext hl
  refine (congrArg _ (eq_ix2 y)).trans ((tile_gradGate₁ (iblk m c 0 t) (iblk m c 1 t) (iblk m c 2 t) (iblk m c 3 t) _ _ (iblk m c 6 t) (iblk m c 7 t) _ (iblk m c 9 t) _ _ (y 0) (y 1)).trans ?_)
  rw [tile_weights, tile_row m c t _ n hn]

theorem stored_gradGate₂ : k0_pay20 (F := Ideal) (k0_pay4 (iblk m c 9 t) (iblk m c 3 t)) (k0_pay6 (iblk m c 6 t) (iblk m c 7 t)) (gradMergedTile m c t) y
    = gradGate₂ (all m c) (row m c n) l := by
  obtain rfl : l = y 1 := Fin.ext hl
  refine (congrArg _ (eq_ix2 y)).trans ((tile_gradGate₂ (iblk m c 0 t) (iblk m c 1 t) (iblk m c 2 t) (iblk m c 3 t) (iblk m c 4 t) (iblk m c 5 t) _ _ (iblk m c 8 t) _ _ _ (y 0) (y 1)).trans ?_)
  rw [tile_weights, tile_row m c t _ n hn]

theorem stored_gradFirst : k0_pay21 (F := Ideal) (iblk m c 8 t) (gradProjectedTile m c t) y = gradFirst (all m c) (row m c n) l := by
  obtain rfl : l = y 1 := Fin.ext hl
  refine (congrArg _ (eq_ix2 y)).trans ((tile_gradFirst (iblk m c 0 t) (iblk m c 1 t) (iblk m c 2 t) (iblk m c 3 t) _ _ (iblk m c 6 t) (iblk m c 7 t) _ (iblk m c 9 t) _ _ (y 0) (y 1)).trans ?_)
  rw [tile_weights, tile_row m c t _ n hn]

theorem stored_gradSecond : k0_pay22 (F := Ideal) (iblk m c 9 t) (k0_pay6 (iblk m c 6 t) (iblk m c 7 t)) (gradMergedTile m c t) y = gradSecond (all m c) (row m c n) l := by
  obtain rfl : l = y 1 := Fin.ext hl
  refine (congrArg _ (eq_ix2 y)).trans ((tile_gradSecond (iblk m c 0 t) (iblk m c 1 t) (iblk m c 2 t) (iblk m c 3 t) (iblk m c 4 t) (iblk m c 5 t) _ _ (iblk m c 8 t) _ _ _ (y 0) (y 1)).trans ?_)
  rw [tile_weights, tile_row m c t _ n hn]

theorem stored_merged : k0_pay8 (F := Ideal) (mergedTile m c t) y = merged (all m c) (row m c n) l := by
  obtain rfl : l = y 1 := Fin.ext hl
  refine (tile_merged (iblk m c 0 t) (iblk m c 1 t) _ _ _ _ _ _ _ _ (iblk m c 10 t) (iblk m c 11 t) y).trans ?_
  rw [tile_weights, tile_row m c t _ n hn]

theorem stored_grad : k0_pay14 (F := Ideal) (iblk m c 10 t) (iblk m c 11 t) (mergedTile m c t) (iblk m c 0 t) (iblk m c 1 t) y = Merge.grad (all m c) (row m c n) l := by
  obtain rfl : l = y 1 := Fin.ext hl
  refine (tile_grad (iblk m c 0 t) (iblk m c 1 t) _ _ _ _ _ _ _ _ (iblk m c 10 t) (iblk m c 11 t) y).trans ?_
  rw [tile_weights, tile_row m c t _ n hn]

theorem stored_gradProjected₁ : gradProjectedTile m c t y = gradProjected₁ (all m c) (row m c n) l := by
  obtain rfl : l = y 1 := Fin.ext hl
  refine (congrArg _ (eq_ix2 y)).trans ((tile_gradProjected₁ (iblk m c 0 t) (iblk m c 1 t) (iblk m c 2 t) (iblk m c 3 t) _ _ (iblk m c 6 t) (iblk m c 7 t) _ (iblk m c 9 t) _ _ (y 0) (y 1)).trans ?_)
  rw [tile_weights, tile_row m c t _ n hn]

theorem stored_gradProjected₂ : k0_pay18 (F := Ideal) (k0_pay6 (iblk m c 6 t) (iblk m c 7 t)) (gradMergedTile m c t) y = gradProjected₂ (all m c) (row m c n) l := by
  obtain rfl : l = y 1 := Fin.ext hl
  refine (congrArg _ (eq_ix2 y)).trans ((tile_gradProjected₂ (iblk m c 0 t) (iblk m c 1 t) (iblk m c 2 t) (iblk m c 3 t) (iblk m c 4 t) (iblk m c 5 t) _ _ (iblk m c 8 t) _ _ _ (y 0) (y 1)).trans ?_)
  rw [tile_weights, tile_row m c t _ n hn]

end Tile

/-! ## The results -/

theorem gradGates_left (W : Weights) (R : Row) (k : Fin 2048) (l : Fin 1024) (h : k.val = l.val) : gradGates W R k = gradGate₁ W R l := by
  rw [gradGates, dif_pos (show k.val < 1024 by omega)]
  exact congrArg _ (Fin.ext h)

theorem gradGates_right (W : Weights) (R : Row) (k : Fin 2048) (l : Fin 1024) (h : k.val = 1024 + l.val) : gradGates W R k = gradGate₂ W R l := by
  rw [gradGates, dif_neg (show ¬ k.val < 1024 by omega)]
  exact congrArg _ (Fin.ext (by simp only; omega))

theorem final_12 : (dats m 0 c).arrAt 12 (cfgs 0).N = fun j : S4096x2048.Idx => gradGates (all m c) (row m c (j 0)) (j 1) := by
  refine (dats m 0 c).arrAt_eq_of_covers 12 _ (by decide +kernel) fun t _ y => ?_
  blk_simp
  rw [after0_12]
  by_cases q : t.val % 16 = 0
  · rw [outsAt0_A m c t q]; frame_out
    canon_tiles x h
    · refine (stored_gradGate₂ m c t x _ (x 1) ?_ rfl).trans (gradGates_right _ _ _ _ ?_).symm <;> blk_simp [index t] <;> omega
    · refine (stored_gradGate₁ m c t x _ (x 1) ?_ rfl).trans (gradGates_left _ _ _ _ ?_).symm <;> blk_simp [index t] <;> omega
  · rw [outsAt0_B m c t q]; frame_out
    canon_tiles x h
    · refine (stored_gradGate₂ m c t x _ (x 1) ?_ rfl).trans (gradGates_right _ _ _ _ ?_).symm <;> blk_simp [index t] <;> omega
    · refine (stored_gradGate₁ m c t x _ (x 1) ?_ rfl).trans (gradGates_left _ _ _ _ ?_).symm <;> blk_simp [index t] <;> omega

theorem final_13 : (dats m 0 c).arrAt 13 (cfgs 0).N = fun j : S4096x1024.Idx => gradFirst (all m c) (row m c (j 0)) (j 1) := by
  refine (dats m 0 c).arrAt_eq_of_covers 13 _ (by decide +kernel) fun t _ y => ?_
  blk_simp
  rw [after0_13]
  have h : (outsAt0 m c t.val t.isLt).2.1 = k0_pay21 (iblk m c 8 t) (gradProjectedTile m c t) := by
    by_cases h : t.val % 16 = 0
    · rw [outsAt0_A m c t h]; frame_out
    · rw [outsAt0_B m c t h]; frame_out
  rw [h]
  exact stored_gradFirst m c t y _ _ (by blk_simp [index t]) (by blk_simp [index t])

theorem final_14 : (dats m 0 c).arrAt 14 (cfgs 0).N = fun j : S4096x1024.Idx => gradSecond (all m c) (row m c (j 0)) (j 1) := by
  refine (dats m 0 c).arrAt_eq_of_covers 14 _ (by decide +kernel) fun t _ y => ?_
  blk_simp
  rw [after0_14]
  have h : (outsAt0 m c t.val t.isLt).2.2.1 = k0_pay22 (iblk m c 9 t) (k0_pay6 (iblk m c 6 t) (iblk m c 7 t)) (gradMergedTile m c t) := by
    by_cases h : t.val % 16 = 0
    · rw [outsAt0_A m c t h]; frame_out
    · rw [outsAt0_B m c t h]; frame_out
  rw [h]
  exact stored_gradSecond m c t y _ _ (by blk_simp [index t]) (by blk_simp [index t])

theorem final_15 : (dats m 0 c).arrAt 15 (cfgs 0).N = fun j : S4096x1024.Idx => merged (all m c) (row m c (j 0)) (j 1) := by
  refine (dats m 0 c).arrAt_eq_of_covers 15 _ (by decide +kernel) fun t _ y => ?_
  blk_simp
  rw [after0_15]
  have h : (outsAt0 m c t.val t.isLt).2.2.2.1 = k0_pay8 (mergedTile m c t) := by
    by_cases h : t.val % 16 = 0
    · rw [outsAt0_A m c t h]; frame_out
    · rw [outsAt0_B m c t h]; frame_out
  rw [h]
  exact stored_merged m c t y _ _ (by blk_simp [index t]) (by blk_simp [index t])

theorem final_16 : (dats m 0 c).arrAt 16 (cfgs 0).N = fun j : S4096x1024.Idx => Merge.grad (all m c) (row m c (j 0)) (j 1) := by
  refine (dats m 0 c).arrAt_eq_of_covers 16 _ (by decide +kernel) fun t _ y => ?_
  blk_simp
  rw [after0_16]
  have h : (outsAt0 m c t.val t.isLt).2.2.2.2.1 = k0_pay14 (iblk m c 10 t) (iblk m c 11 t) (mergedTile m c t) (iblk m c 0 t) (iblk m c 1 t) := by
    by_cases h : t.val % 16 = 0
    · rw [outsAt0_A m c t h]; frame_out
    · rw [outsAt0_B m c t h]; frame_out
  rw [h]
  exact stored_grad m c t y _ _ (by blk_simp [index t]) (by blk_simp [index t])

theorem final_17 : (dats m 0 c).arrAt 17 (cfgs 0).N = fun j : S4096x1024.Idx => Merge.grad (all m c) (row m c (j 0)) (j 1) := by
  refine (dats m 0 c).arrAt_eq_of_covers 17 _ (by decide +kernel) fun t _ y => ?_
  blk_simp
  rw [after0_17]
  have h : (outsAt0 m c t.val t.isLt).2.2.2.2.2.1 = k0_pay15 (iblk m c 10 t) (iblk m c 11 t) (mergedTile m c t) (iblk m c 0 t) (iblk m c 1 t) := by
    by_cases h : t.val % 16 = 0
    · rw [outsAt0_A m c t h]; frame_out
    · rw [outsAt0_B m c t h]; frame_out
  rw [h]
  exact stored_grad m c t y _ _ (by blk_simp [index t]) (by blk_simp [index t])

theorem final_18 : (dats m 0 c).arrAt 18 (cfgs 0).N = fun j : S4096x1024.Idx => gradProjected₁ (all m c) (row m c (j 0)) (j 1) := by
  refine (dats m 0 c).arrAt_eq_of_covers 18 _ (by decide +kernel) fun t _ y => ?_
  blk_simp
  rw [after0_18]
  have h : (outsAt0 m c t.val t.isLt).2.2.2.2.2.2.1 = gradProjectedTile m c t := by
    by_cases h : t.val % 16 = 0
    · rw [outsAt0_A m c t h]; frame_out
    · rw [outsAt0_B m c t h]; frame_out
  rw [h]
  exact stored_gradProjected₁ m c t y _ _ (by blk_simp [index t]) (by blk_simp [index t])

theorem final_19 : (dats m 0 c).arrAt 19 (cfgs 0).N = fun j : S4096x1024.Idx => gradProjected₂ (all m c) (row m c (j 0)) (j 1) := by
  refine (dats m 0 c).arrAt_eq_of_covers 19 _ (by decide +kernel) fun t _ y => ?_
  blk_simp
  rw [after0_19]
  have h : (outsAt0 m c t.val t.isLt).2.2.2.2.2.2.2.1 = k0_pay18 (k0_pay6 (iblk m c 6 t) (iblk m c 7 t)) (gradMergedTile m c t) := by
    by_cases h : t.val % 16 = 0
    · rw [outsAt0_A m c t h]; frame_out
    · rw [outsAt0_B m c t h]; frame_out
  rw [h]
  exact stored_gradProjected₂ m c t y _ _ (by blk_simp [index t]) (by blk_simp [index t])

theorem zero_loss (j : S1x128.Idx) : k0_pay23 (F := Ideal) j = 0 := by pointwise [k0_pay23]

theorem zero_gradGain (j : S1x1024.Idx) : k0_pay24 (F := Ideal) j = 0 := by pointwise [k0_pay24]

theorem final_20 : (dats m 0 c).arrAt 20 (cfgs 0).N = fun j : S1x128.Idx => ∑ i : Fin 4096, halfMean (all m c) (row m c i) := by
  refine (dats m 0 c).arrAt_eq_of_after_last 20 t0_15 (by decide +kernel) _ fun j => ?_
  blk_simp
  rw [after0_20, Pipeline.eq_sum_fin_of_reset_step_apply_last (fun n h => (outsAt0 m c n h).2.2.2.2.2.2.2.2.1) 16 (fun _ => 0) _
    (fun t h j => by rw [outsAt0_A m c t h]; frame_out; rw [tile_loss (iblk m c 0 t) (iblk m c 1 t), zero_loss])
    (fun t h j => by rw [outsAt0_B m c t h]; frame_out; rw [tile_loss (iblk m c 0 t) (iblk m c 1 t)])
    (le_of_eq N_0) t0_15 rfl j, zero_add]
  refine Fin.sum_mul_add_congr fun t i h => ?_
  rw [tile_weights, tile_row m c t i ⟨t.val * 256 + i.val, h⟩ rfl]

theorem final_21 : (dats m 0 c).arrAt 21 (cfgs 0).N = fun j : S1x1024.Idx => ∑ i : Fin 4096, gradGain (all m c) (row m c i) (j 1) := by
  refine (dats m 0 c).arrAt_eq_of_after_last 21 t0_15 (by decide +kernel) _ fun j => ?_
  blk_simp
  rw [after0_21, Pipeline.eq_sum_fin_of_reset_step_apply_last (fun n h => (outsAt0 m c n h).2.2.2.2.2.2.2.2.2) 16 (fun _ => 0) _
    (fun t h j => by rw [outsAt0_A m c t h]; frame_out; rw [tile_gradGain (iblk m c 0 t) (iblk m c 1 t), zero_gradGain])
    (fun t h j => by rw [outsAt0_B m c t h]; frame_out; rw [tile_gradGain (iblk m c 0 t) (iblk m c 1 t)])
    (le_of_eq N_0) t0_15 rfl j, zero_add]
  refine Fin.sum_mul_add_congr fun t i h => ?_
  rw [tile_weights, tile_row m c t i ⟨t.val * 256 + i.val, h⟩ rfl]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun j : S4096x2048.Idx => gradGates (all m c) (row m c (j 0)) (j 1))
    ∧ r.2.mem ((c : Thread nD τ).loc main_v0_1) = (fun j : S4096x1024.Idx => gradFirst (all m c) (row m c (j 0)) (j 1))
    ∧ r.2.mem ((c : Thread nD τ).loc main_v0_2) = (fun j : S4096x1024.Idx => gradSecond (all m c) (row m c (j 0)) (j 1))
    ∧ r.2.mem ((c : Thread nD τ).loc main_v0_3) = (fun j : S4096x1024.Idx => merged (all m c) (row m c (j 0)) (j 1))
    ∧ r.2.mem ((c : Thread nD τ).loc main_v0_4) = (fun j : S4096x1024.Idx => Merge.grad (all m c) (row m c (j 0)) (j 1))
    ∧ r.2.mem ((c : Thread nD τ).loc main_v0_5) = (fun j : S4096x1024.Idx => Merge.grad (all m c) (row m c (j 0)) (j 1))
    ∧ r.2.mem ((c : Thread nD τ).loc main_v0_6) = (fun j : S4096x1024.Idx => gradProjected₁ (all m c) (row m c (j 0)) (j 1))
    ∧ r.2.mem ((c : Thread nD τ).loc main_v0_7) = (fun j : S4096x1024.Idx => gradProjected₂ (all m c) (row m c (j 0)) (j 1))
    ∧ r.2.mem ((c : Thread nD τ).loc main_v0_8) = (fun _ : S1x128.Idx => ∑ i : Fin 4096, halfMean (all m c) (row m c i))
    ∧ r.2.mem ((c : Thread nD τ).loc main_v0_9) = (fun j : S1x1024.Idx => ∑ i : Fin 4096, gradGain (all m c) (row m c i) (j 1)) :=
  (θ_run defs _ _).mono (fun _ h c => ⟨((h c).1 12).trans (final_12 m c), ((h c).1 13).trans (final_13 m c), ((h c).1 14).trans (final_14 m c), ((h c).1 15).trans (final_15 m c), ((h c).1 16).trans (final_16 m c), ((h c).1 17).trans (final_17 m c), ((h c).1 18).trans (final_18 m c), ((h c).1 19).trans (final_19 m c), ((h c).1 20).trans (final_20 m c), ((h c).1 21).trans (final_21 m c)⟩) (run_main m g)

end Cert.Proof.Backward.Merge

end
-- ==== Proof.Forward.Norm.lean ====
/-
  The first normalization: a row's result reads that row alone.
-/
module

public import proofs.«01_k».proof.Proof.Gen.Norm.Frame
public import proofs.«01_k».proof.Proof.Gen.NormIdeal.Frame
public import proofs.«01_k».proof.Proof.Gen.NormReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Forward.Norm

/-- Row `i`'s entry in column `k`, over the root of the row's mean square with `eps` added, times the column's scale. -/
def normed {rows : ℕ} (x : FVec Ideal ⟨2, ![rows, 1024]⟩ .f32) (g : FVec Ideal ⟨2, ![1, 1024]⟩ .f32) (i : Fin rows) (k : Fin 1024) : EReal :=
  x (ix2 i k) * Ideal.rsqrt (Ideal.div (∑ l : Fin 1024, x (ix2 i l) * x (ix2 i l)) (Ideal.ofBits .f32 0x44800000#32) + Ideal.ofBits .f32 0x358637BD#32) * g (ix2 0 k)

section Kernel

open Cert.NormIdeal Cert.NormIdeal.Gen

theorem index : ∀ t : Fin cfg0.N, win0_0.index t = ![t.val, 0] ∧ win0_1.index t = ![0, 0] ∧ win0_2.index t = ![t.val, 0] :=
  (by decide +kernel : ∀ t : Fin grid0.N, _)

theorem payload (x : FVec Ideal S512x1024 .f32) (g : FVec Ideal S1x1024 .f32) (y : S512x1024.Idx) : k0_pay1 (F := Ideal) x g y = normed x g (y 0) (y 1) := by
  pointwise [k0_pay1, normed]

variable (m : (ℓ : Loc nD τ sig) → Buf (Elt Ideal) ℓ)

theorem final (c : Dev nD) : (dats m 0 c).arrAt 2 (cfgs 0).N = fun j : S4096x1024.Idx =>
    normed (m ((c : Thread nD τ).loc main_arg0)) (m ((c : Thread nD τ).loc main_arg1)) (j 0) (j 1) := by
  refine (dats m 0 c).arrAt_eq_of_covers 2 _ (by decide +kernel) fun t _ y => ?_
  blk_simp
  rw [after0_2]; frame_out
  refine (payload _ _ _).trans ?_
  unfold normed
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S4096x1024.Idx =>
      normed (m ((c : Thread nD τ).loc main_arg0)) (m ((c : Thread nD τ).loc main_arg1)) (j 0) (j 1)) :=
  (θ_run defs _ _).mono (fun _ h c => ((h c).1 2).trans (final m c)) (run_main m g)

end Kernel

section Reference

open Cert.NormReferenceIdeal Cert.NormReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v12) = (fun j : S4096x1024.Idx =>
        normed (m (((0 : Dev nD) : Thread nD τ).loc main_arg0)) (m (((0 : Dev nD) : Thread nD τ).loc main_arg1)) (j 0) (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run
  · funext j
    pointwise [normed]
  all_goals rfl

end Reference

end Cert.Proof.Forward.Norm

end
-- ==== Proof.Forward.Project.lean ====
/-
  The input projection: every block of 512 rows times every chip's part of the weights is that block of the product with the parts side by side.
-/
module

public import proofs.«01_k».proof.Proof.Gen.Project.Frame
public import proofs.«01_k».proof.Proof.Gen.ProjectIdeal.Frame
public import proofs.«01_k».proof.Proof.Gen.ProjectReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Forward.Project

/-- Row `i` of `h` times column `k` of the four chips' parts side by side. -/
def product (h : FVec Ideal ⟨2, ![4096, 1024]⟩ .bf16) (w : FVec Ideal ⟨3, ![4, 1024, 1664]⟩ .bf16) (i : Fin 4096) (k : Fin 6656) : EReal :=
  ∑ l : Fin 1024, h (ix2 i l) * w (ix3 ⟨k.val / 1664, by omega⟩ l ⟨k.val % 1664, by omega⟩)

section Kernel

open Cert.ProjectIdeal Cert.ProjectIdeal.Gen

theorem index : ∀ t : Fin cfg0.N, win0_0.index t = ![t.val % 8, 0] ∧ win0_1.index t = ![t.val / 8, 0, 0] ∧ win0_2.index t = ![t.val % 8, t.val / 8] :=
  (by decide +kernel : ∀ t : Fin grid0.N, _)

theorem payload (h : FVec Ideal S512x1024 .bf16) (w : FVec Ideal S1x1024x1664 .bf16) (y : S512x1664.Idx) :
    k0_pay1 (F := Ideal) h w y = ∑ l : Fin 1024, h (ix2 (y 0) l) * w (ix3 0 l (y 1)) := by
  pointwise [k0_pay1]

variable (m : (ℓ : Loc nD τ sig) → Buf (Elt Ideal) ℓ)

theorem final (c : Dev nD) : (dats m 0 c).arrAt 2 (cfgs 0).N = fun j : S4096x6656.Idx =>
    product (m ((c : Thread nD τ).loc main_arg0)) (m ((c : Thread nD τ).loc main_arg1)) (j 0) (j 1) := by
  refine (dats m 0 c).arrAt_eq_of_covers 2 _ (by decide +kernel) fun t _ y => ?_
  blk_simp
  rw [after0_2]; frame_out
  refine (payload _ _ _).trans ?_
  unfold product
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S4096x6656.Idx =>
      product (m ((c : Thread nD τ).loc main_arg0)) (m ((c : Thread nD τ).loc main_arg1)) (j 0) (j 1)) :=
  (θ_run defs _ _).mono (fun _ h c => ((h c).1 2).trans (final m c)) (run_main m g)

end Kernel

section Reference

open Cert.ProjectReferenceIdeal Cert.ProjectReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v4) = (fun j : S4096x6656.Idx =>
        product (m (((0 : Dev nD) : Thread nD τ).loc main_arg0)) (m (((0 : Dev nD) : Thread nD τ).loc main_arg1)) (j 0) (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run
  · funext j
    pointwise [product]
  all_goals rfl

end Reference

end Cert.Proof.Forward.Project

end
-- ==== Proof.Backward.GradW.lean ====
/-
  The gradient of a square weight: the product over all 4096 rows, gathered in eight parts of 512 rows.
-/
module

public import proofs.«01_k».proof.Proof.Gen.GradW.Frame
public import proofs.«01_k».proof.Proof.Gen.GradWIdeal.Frame
public import proofs.«01_k».proof.Proof.Gen.GradWReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Backward.GradW

/-- Column `k` of `a` times column `l` of `b`. -/
def product {rows : ℕ} (a b : FVec Ideal ⟨2, ![rows, 1024]⟩ .bf16) (k l : Fin 1024) : EReal := ∑ i : Fin rows, a (ix2 i k) * b (ix2 i l)

section Kernel

open Cert.GradWIdeal Cert.GradWIdeal.Gen

theorem index : ∀ t : Fin cfg0.N, win0_0.index t = ![t.val, 0] ∧ win0_1.index t = ![t.val, 0] ∧ win0_2.index t = ![0, 0] :=
  (by decide +kernel : ∀ t : Fin grid0.N, _)

theorem payload_zero (y : S1024x1024.Idx) : k0_pay1 (F := Ideal) y = 0 := by pointwise [k0_pay1]

theorem payload (acc : FVec Ideal S1024x1024 .f32) (a b : FVec Ideal S512x1024 .bf16) (y : S1024x1024.Idx) :
    k0_pay2 (F := Ideal) acc a b y = acc y + product a b (y 0) (y 1) := by
  pointwise [k0_pay2, product]

variable (m : (ℓ : Loc nD τ sig) → Buf (Elt Ideal) ℓ)

theorem final (c : Dev nD) : (dats m 0 c).arrAt 2 (cfgs 0).N = fun j : S1024x1024.Idx =>
    product (m ((c : Thread nD τ).loc main_arg0)) (m ((c : Thread nD τ).loc main_arg1)) (j 0) (j 1) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [outsAt0_A m c t h]; frame_out; rw [payload, payload_zero])
    (fun t h j => by rw [outsAt0_B m c t h]; frame_out; rw [payload])
    (le_of_eq N_0) t0_7 rfl j, zero_add]
  refine Fin.sum_mul_add_congr fun t i h => ?_
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S1024x1024.Idx =>
      product (m ((c : Thread nD τ).loc main_arg0)) (m ((c : Thread nD τ).loc main_arg1)) (j 0) (j 1)) :=
  (θ_run defs _ _).mono (fun _ h c => ((h c).1 2).trans (final m c)) (run_main m g)

end Kernel

section Reference

open Cert.GradWReferenceIdeal Cert.GradWReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v3) = (fun j : S1024x1024.Idx =>
        product (m (((0 : Dev nD) : Thread nD τ).loc main_arg0)) (m (((0 : Dev nD) : Thread nD τ).loc main_arg1)) (j 0) (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run
  · funext j
    pointwise [product]
  all_goals rfl

end Reference

end Cert.Proof.Backward.GradW

end
-- ==== Proof.Backward.GradWIn.lean ====
/-
  The gradient of w_in, a block of columns for each chip: the product over all 4096 rows, gathered for every block in eight parts of 512 rows.
-/
module

public import proofs.«01_k».proof.Proof.Gen.GradWIn.Frame
public import proofs.«01_k».proof.Proof.Gen.GradWInIdeal.Frame
public import proofs.«01_k».proof.Proof.Gen.GradWInReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Backward.GradWIn

/-- Column `k` of `h` times column `l` of the block `n` of `d`. -/
def product (h : FVec Ideal ⟨2, ![4096, 1024]⟩ .bf16) (d : FVec Ideal ⟨2, ![4096, 6656]⟩ .bf16) (n : Fin 4) (k : Fin 1024) (l : Fin 1664) : EReal :=
  ∑ i : Fin 4096, h (ix2 i k) * d (ix2 i ⟨n.val * 1664 + l.val, by omega⟩)

section Kernel

open Cert.GradWInIdeal Cert.GradWInIdeal.Gen

theorem index : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem payload_zero (y : S1024x1664.Idx) : k0_pay1 (F := Ideal) y = 0 := by pointwise [k0_pay1]

/-- What 512 rows add. -/
def part (a : FVec Ideal S512x1024 .bf16) (b : FVec Ideal S512x1664 .bf16) (y : S1024x1664.Idx) : EReal := ∑ i : Fin 512, a (ix2 i (y 0)) * b (ix2 i (y 1))

theorem payload (acc : FVec Ideal S1024x1664 .f32) (a : FVec Ideal S512x1024 .bf16) (b : FVec Ideal S512x1664 .bf16) (y : S1024x1664.Idx) :
    k0_pay2 (F := Ideal) acc a b y = acc y + part a b y := by
  pointwise [k0_pay2, part]

theorem payload_out (acc : FVec Ideal S1024x1664 .f32) (y : S1x1024x1664.Idx) : k0_pay3 (F := Ideal) acc y = acc (ix2 (y 1) (y 2)) := by
  pointwise [k0_pay3]

variable (m : (ℓ : Loc nD τ sig) → Buf (Elt Ideal) ℓ)

/-- Where a block is written back, it is the sum of its eight parts. -/
theorem gathered (c : Dev nD) (t : Fin cfg0.N) (h : t.val % 8 = 7) (y : S1x1024x1664.Idx) : (outsAt0 m c t.val t.isLt).1 y
    = ∑ s : Fin 8, part (iblk m c 0 ⟨8 * (t.val / 8) + s.val, Pipeline.run_point_lt_of_flush t h s⟩) (iblk m c 1 ⟨8 * (t.val / 8) + s.val, Pipeline.run_point_lt_of_flush t h s⟩) (ix2 (y 1) (y 2)) := by
  have e : (outsAt0 m c t.val t.isLt).1 y = (outsAt0 m c t.val t.isLt).2 (ix2 (y 1) (y 2)) := by
    rw [outsAt0_C m c t (by omega) h]; frame_out; rw [payload_out]
  rw [e, Pipeline.eq_sum_fin_of_reset_step_apply_of_flush (fun n h => (outsAt0 m c n h).2) 8 (fun _ => 0) (fun t => part (iblk m c 0 t) (iblk m c 1 t))
    (fun t h j => by rw [outsAt0_A m c t h (by omega)]; frame_out; rw [payload, payload_zero])
    (fun t h j => by
      by_cases h' : t.val % 8 = 7
      · rw [outsAt0_C m c t h h']; frame_out; rw [payload, read_unread_whole]
      · rw [outsAt0_B m c t h h']; frame_out; rw [payload, read_unread_whole]) t h, zero_add]

theorem final (c : Dev nD) : (dats m 0 c).arrAt 2 (cfgs 0).N = fun j : S4x1024x1664.Idx =>
    product (m ((c : Thread nD τ).loc main_arg0)) (m ((c : Thread nD τ).loc main_arg1)) (j 0) (j 1) (j 2) := by
  refine (dats m 0 c).arrAt_eq_of_covers 2 _ (by decide +kernel) fun t hf y => ?_
  have h := (flush0_2 t).mp hf
  blk_simp
  rw [after0_2, gathered m c t h]
  unfold product part
  refine Fin.sum_mul_add_congr fun s i hl => ?_
  blk_point [iblk, V, index t, index ⟨_, Pipeline.run_point_lt_of_flush t h s⟩]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S4x1024x1664.Idx =>
      product (m ((c : Thread nD τ).loc main_arg0)) (m ((c : Thread nD τ).loc main_arg1)) (j 0) (j 1) (j 2)) :=
  (θ_run defs _ _).mono (fun _ h c => ((h c).1 2).trans (final m c)) (run_main m g)

end Kernel

section Reference

open Cert.GradWInReferenceIdeal Cert.GradWInReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v5) = (fun j : S4x1024x1664.Idx =>
        product (m (((0 : Dev nD) : Thread nD τ).loc main_arg0)) (m (((0 : Dev nD) : Thread nD τ).loc main_arg1)) (j 0) (j 1) (j 2))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run
  · funext j
    pointwise [product]
  all_goals rfl

end Reference

end Cert.Proof.Backward.GradWIn

end
-- ==== Proof.Backward.GradH.lean ====
/-
  The gradient at the input projection's rows: the product with the four chips' parts of the weights side by side, gathered one part at a time.
-/
module

public import proofs.«01_k».proof.Proof.Gen.GradH.Frame
public import proofs.«01_k».proof.Proof.Gen.GradHIdeal.Frame
public import proofs.«01_k».proof.Proof.Gen.GradHReferenceIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Backward.GradH

/-- Row `i` of `d` times row `k` of the four chips' parts side by side. -/
def product (d : FVec Ideal ⟨2, ![4096, 6656]⟩ .bf16) (w : FVec Ideal ⟨3, ![4, 1024, 1664]⟩ .bf16) (i : Fin 4096) (k : Fin 1024) : EReal :=
  ∑ l : Fin 6656, d (ix2 i l) * w (ix3 ⟨l.val / 1664, by omega⟩ k ⟨l.val % 1664, by omega⟩)

section Kernel

open Cert.GradHIdeal Cert.GradHIdeal.Gen

theorem index : ∀ t : Fin cfg0.N, win0_0.index t = ![t.val / 4, t.val % 4] ∧ win0_1.index t = ![t.val % 4, 0, 0] ∧ win0_2.index t = ![t.val / 4, 0] :=
  (by decide +kernel : ∀ t : Fin grid0.N, _)

theorem payload_zero (y : S1024x1024.Idx) : k0_pay1 (F := Ideal) y = 0 := by pointwise [k0_pay1]

/-- What one chip's part adds. -/
def part (a : FVec Ideal S1024x1664 .bf16) (b : FVec Ideal S1x1024x1664 .bf16) (y : S1024x1024.Idx) : EReal :=
  ∑ l : Fin 1664, a (ix2 (y 0) l) * b (ix3 0 (y 1) l)

theorem payload (acc : FVec Ideal S1024x1024 .f32) (a : FVec Ideal S1024x1664 .bf16) (b : FVec Ideal S1x1024x1664 .bf16) (y : S1024x1024.Idx) :
    k0_pay2 (F := Ideal) acc a b y = acc y + part a b y := by
  pointwise [k0_pay2, part]

variable (m : (ℓ : Loc nD τ sig) → Buf (Elt Ideal) ℓ)

/-- Where a block is written back, it is the sum of its four parts. -/
theorem gathered (c : Dev nD) (t : Fin cfg0.N) (h : t.val % 4 = 3) (y : S1024x1024.Idx) : (outsAt0 m c t.val t.isLt).1 y
    = ∑ s : Fin 4, part (iblk m c 0 ⟨4 * (t.val / 4) + s.val, Pipeline.run_point_lt_of_flush t h s⟩) (iblk m c 1 ⟨4 * (t.val / 4) + s.val, Pipeline.run_point_lt_of_flush t h s⟩) y := by
  have e : (outsAt0 m c t.val t.isLt).1 y = (outsAt0 m c t.val t.isLt).2 y := by
    rw [outsAt0_C m c t (by omega) h]; frame_out
  rw [e, Pipeline.eq_sum_fin_of_reset_step_apply_of_flush (fun n h => (outsAt0 m c n h).2) 4 (fun _ => 0) (fun t => part (iblk m c 0 t) (iblk m c 1 t))
    (fun t h j => by rw [outsAt0_A m c t h (by omega)]; frame_out; rw [payload, payload_zero])
    (fun t h j => by
      by_cases h' : t.val % 4 = 3
      · rw [outsAt0_C m c t h h']; frame_out; rw [payload, read_unread_whole]
      · rw [outsAt0_B m c t h h']; frame_out; rw [payload, read_unread_whole]) t h, zero_add]

theorem final (c : Dev nD) : (dats m 0 c).arrAt 2 (cfgs 0).N = fun j : S4096x1024.Idx =>
    product (m ((c : Thread nD τ).loc main_arg0)) (m ((c : Thread nD τ).loc main_arg1)) (j 0) (j 1) := by
  refine (dats m 0 c).arrAt_eq_of_covers 2 _ (by decide +kernel) fun t hf y => ?_
  have h := (flush0_2 t).mp hf
  blk_simp
  rw [after0_2, gathered m c t h]
  unfold product part
  refine Fin.sum_mul_add_congr fun s i hl => ?_
  blk_point [iblk, V, index t, index ⟨_, Pipeline.run_point_lt_of_flush t h s⟩]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S4096x1024.Idx =>
      product (m ((c : Thread nD τ).loc main_arg0)) (m ((c : Thread nD τ).loc main_arg1)) (j 0) (j 1)) :=
  (θ_run defs _ _).mono (fun _ h c => ((h c).1 2).trans (final m c)) (run_main m g)

end Kernel

section Reference

open Cert.GradHReferenceIdeal Cert.GradHReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v5) = (fun j : S4096x1024.Idx =>
        product (m (((0 : Dev nD) : Thread nD τ).loc main_arg0)) (m (((0 : Dev nD) : Thread nD τ).loc main_arg1)) (j 0) (j 1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run
  · funext j
    pointwise [product]
  all_goals rfl

end Reference

end Cert.Proof.Backward.GradH

end
-- ==== Proof.Summed.Cores.lean ====
/-
  The sum of the small gradients over the two cores of a chip.
-/
module

public import proofs.«01_k».proof.Proof.Gen.SumCores.Frame
public import proofs.«01_k».proof.Proof.Gen.SumCoresIdeal.Frame
public import proofs.«01_k».proof.Proof.Gen.SumCoresReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Summed.Cores

/-- The sum, entry by entry. -/
def sum (a b : FVec Ideal ⟨2, ![2144, 128]⟩ .f32) (j : Shape.Idx ⟨2, ![2144, 128]⟩) : EReal := a j + b j

section Kernel

open Cert.SumCoresIdeal Cert.SumCoresIdeal.Gen

theorem index : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ)

theorem final (c : Dev nD) : (dats m 0 c).arrAt 2 (cfgs 0).N =
    sum (m ((c : Thread nD τ).loc main_arg0)) (m ((c : Thread nD τ).loc main_arg1)) := by
  refine (dats m 0 c).arrAt_eq_of_covers 2 _ (by decide +kernel) fun t _ y => ?_
  blk_simp
  rw [after0_2]; frame_out
  show sum (iblk m c 0 t) (iblk m c 1 t) y = _
  unfold sum
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0) =
      sum (m ((c : Thread nD τ).loc main_arg0)) (m ((c : Thread nD τ).loc main_arg1)) :=
  (θ_run defs _ _).mono (fun _ h c => ((h c).1 2).trans (final m c)) (run_main m g)

end Kernel

section Reference

open Cert.SumCoresReferenceIdeal Cert.SumCoresReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v0) =
        sum (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) := by
  hlo_run <;> rfl

end Reference

end Cert.Proof.Summed.Cores

end
-- ==== Proof.Summed.Chips.lean ====
/-
  The sum of the small gradients over the four chips.
-/
module

public import proofs.«01_k».proof.Proof.Gen.SumChips.Frame
public import proofs.«01_k».proof.Proof.Gen.SumChipsIdeal.Frame
public import proofs.«01_k».proof.Proof.Gen.SumChipsReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Summed.Chips

section Kernel

open Cert.SumChipsIdeal Cert.SumChipsIdeal.Gen

theorem index : ∀ t : Fin cfg0.N, win0_0.index t = ![0, 0, 0] ∧ win0_1.index t = ![0, 0] :=
  (by decide +kernel : ∀ t : Fin grid0.N, _)

theorem payload (a b p q : FVec Ideal S1x1072x128 .f32) (y : S1072x128.Idx) : k0_pay1 (F := Ideal) a b p q y
    = a (ix3 0 (y 0) (y 1)) + b (ix3 0 (y 0) (y 1)) + (p (ix3 0 (y 0) (y 1)) + q (ix3 0 (y 0) (y 1))) := by
  pointwise [k0_pay1]

variable (m : (ℓ : Loc nD τ sig) → Buf (Elt Ideal) ℓ)

theorem final (c : Dev nD) : (dats m 0 c).arrAt 1 (cfgs 0).N = fun j : S1072x128.Idx =>
    (∑ d : Fin 4, m ((c : Thread nD τ).loc main_arg0) (ix3 d (j 0) (j 1)) : EReal) := by
  refine (dats m 0 c).arrAt_eq_of_covers 1 _ (by decide +kernel) fun t _ y => ?_
  blk_simp
  rw [after0_1]; frame_out
  refine (payload _ _ _ _ _).trans ?_
  rw [Fin.sum_univ_four, ← add_assoc]
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0) = (fun j : S1072x128.Idx =>
      (∑ d : Fin 4, m ((c : Thread nD τ).loc main_arg0) (ix3 d (j 0) (j 1)) : EReal)) :=
  (θ_run defs _ _).mono (fun _ h c => ((h c).1 1).trans (final m c)) (run_main m g)

end Kernel

section Reference

open Cert.SumChipsReferenceIdeal Cert.SumChipsReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v0) = (fun j : S1072x128.Idx =>
        (∑ d : Fin 4, m (((0 : Dev nD) : Thread nD τ).loc main_arg0) (ix3 d (j 0) (j 1)) : EReal))
      ∧ r.2.mem (((0 : Dev nD) : Thread nD τ).loc main_arg0) = m (((0 : Dev nD) : Thread nD τ).loc main_arg0) := by
  hlo_run
  · funext j
    pointwise []
  all_goals rfl

end Reference

end Cert.Proof.Summed.Chips

end
-- ==== Proof.Summed.Pair.lean ====
/-
  The sum over the two cores of a chip, each of which holds one half of the rows.
-/
module

public import proofs.«01_k».proof.Proof.Gen.PairIn.Frame
public import proofs.«01_k».proof.Proof.Gen.PairInIdeal.Frame
public import proofs.«01_k».proof.Proof.Gen.PairInReference
public import proofs.«01_k».proof.Proof.Gen.PairInReferenceIdeal
public import proofs.«01_k».proof.Proof.Gen.Pre_a_core
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Summed.Pair

variable {F : FTy → Type} [FloatOps F]

/-- The row of `own` that a row of the half stands for. -/
def row (k : BitVec 32) (r : Fin 512) : Fin 1024 := if k = 0#32 then ⟨r.val, by omega⟩ else ⟨512 + r.val, by omega⟩

/-- The half of `own` that the word names, and what came from the other core. -/
def sum (own : FVec F ⟨3, ![4, 1024, 1664]⟩ .f32) (got : FVec F ⟨3, ![4, 512, 1664]⟩ .f32) (k : BitVec 32) :
    FVec F ⟨3, ![4, 512, 1664]⟩ .f32 :=
  fun j => FloatOps.addf (own (ix3 (j 0) (row k (j 1)) (j 2))) (got j)

/-- The half chosen between two slices. -/
theorem half (own : FVec F ⟨3, ![4, 1024, 1664]⟩ .f32) (k : BitVec 32) (j : Shape.Idx ⟨3, ![4, 512, 1664]⟩) :
    Scalar.select (IntOp.cmpi .eq k 0#32) (extractStridedSlice ⟨3, ![4, 512, 1664]⟩ ![0, 0, 0] own (by decide) j)
      (extractStridedSlice ⟨3, ![4, 512, 1664]⟩ ![0, 512, 0] own (by decide) j) = own (ix3 (j 0) (row k (j 1)) (j 2)) := by
  by_cases h : k = 0#32
  · subst h
    show extractStridedSlice ⟨3, ![4, 512, 1664]⟩ ![0, 0, 0] own (by decide) j = _
    pointwise [row]
  · have e : IntOp.cmpi .eq k 0#32 = 0#1 := by
      have h' : (k == 0#32) = false := beq_false_of_ne h
      simp only [IntOp.cmpi, h']
      rfl
    rw [e]
    show extractStridedSlice ⟨3, ![4, 512, 1664]⟩ ![0, 512, 0] own (by decide) j = _
    pointwise [row]
    rw [if_neg h]

theorem half_cast (own : FVec F ⟨3, ![4, 1024, 1664]⟩ .f32) (k : IVec ⟨1, ![1]⟩ 32) (h i) (j : Shape.Idx ⟨3, ![4, 512, 1664]⟩) :
    Scalar.select (IntOp.cmpi .eq (shapeCast ⟨0, ![]⟩ k h i) 0#32) (extractStridedSlice ⟨3, ![4, 512, 1664]⟩ ![0, 0, 0] own (by decide) j)
      (extractStridedSlice ⟨3, ![4, 512, 1664]⟩ ![0, 512, 0] own (by decide) j) = own (ix3 (j 0) (row (k (ix1 0)) (j 1)) (j 2)) := by
  have e : shapeCast ⟨0, ![]⟩ k h i = k (ix1 0) :=
    congrArg k (funext fun a => Fin.ext (by fin_cases a; exact Nat.lt_one_iff.mp (Fin.isLt _)))
  rw [e]
  exact half own _ j

/-- The same, rounded. -/
def short (a : FVec F ⟨3, ![4, 512, 1664]⟩ .f32) : FVec F ⟨3, ![4, 512, 1664]⟩ .bf16 :=
  fun j => FloatOps.truncf .bf16 (by decide : FTy.bits .bf16 < FTy.bits .f32) (a j)

/-- The precondition says that the word is one of the two cores'. -/
theorem named (own : FVec F ⟨3, ![4, 1024, 1664]⟩ .f32) (got : FVec F ⟨3, ![4, 512, 1664]⟩ .f32) (k : IVec ⟨1, ![1]⟩ 32)
    (h : Cert.Pre_a_core.fn (F := F) own got k = fun _ => 1#1) : k (ix1 0) = 0#32 ∨ k (ix1 0) = 1#32 := by
  have p := congrFun h (ix1 0)
  have ori_one (a b : BitVec 1) : IntOp.ori a b = 1#1 ↔ a = 1#1 ∨ b = 1#1 := by revert a b; decide
  have eq_one (a b : BitVec 32) : IntOp.cmpi .eq a b = 1#1 ↔ a = b := by
    simp only [IntOp.cmpi]
    by_cases e : a = b
    · simp [e]
    · simp [beq_false_of_ne e, e]
  simp only [Cert.Pre_a_core.fn, constantI, broadcastInDim, cmpi, ori, ori_one, eq_one] at p
  exact p

theorem sum_congr {own own' : FVec F ⟨3, ![4, 1024, 1664]⟩ .f32} {got got' : FVec F ⟨3, ![4, 512, 1664]⟩ .f32} {k k' : IVec ⟨1, ![1]⟩ 32}
    (h₁ : own = own') (h₂ : got = got') (h₃ : k = k') : sum own got (k (ix1 0)) = sum own' got' (k' (ix1 0)) := by
  subst h₁ h₂ h₃
  rfl

section Kernel

open Cert.PairInIdeal Cert.PairInIdeal.Gen

theorem covers : ∀ β : (a : Fin 3) → Fin ((S4x512x1664.size a + S1x256x1664.size a - 1) / S1x256x1664.size a),
    ∃ t : Fin grid0.N, ∀ a, cc0_transform_2 (grid0.coords t) a = β a := by
  decide +kernel

variable (m : (ℓ : Loc nD τ sig) → Buf (Elt F) ℓ)

theorem covers_short (hO : Ok m) : ((cfgM m hO).win 3).Covers := by
  refine ⟨(by decide : ∀ a, 0 < S1x256x1664.size a), fun β => ?_⟩
  obtain ⟨t, ht⟩ := covers β
  exact ⟨t, flush0_3 _ t, fun a => ⟨ht a, .inl rfl⟩⟩

theorem covers_sum (hO : Ok m) : ((cfgM m hO).win 2).Covers := by
  refine ⟨(by decide : ∀ a, 0 < S1x256x1664.size a), fun β => ?_⟩
  obtain ⟨t, ht⟩ := covers β
  exact ⟨t, flush0_2 _ t, fun a => ⟨ht a, .inl rfl⟩⟩

theorem word : (tbl m).at 0 (Rect.unit (s := S1) ![0] S1.size inb_S1_S1_0) numel1_S1 = m (((0 : Dev nD) : Thread nD τ).loc main_arg2) (ix1 0) := by
  show m (((0 : Dev nD) : Thread nD τ).loc main_arg2) _ = _
  congr 1
  funext a
  fin_cases a
  rfl

/-- Where an entry of a block of `own` lies. -/
theorem own_at (hO : Ok m) (t : Fin (cfgM m hO).N) (y : S1x256x1664.Idx) (a : Fin 3) :
    ((((cfgM m hO).win 0).blk t).view.emb y a).val =
      cc0_transform_0 inb_S1_S1_0 numel1_S1 (tbl m) (grid0.coords t) a * S1x256x1664.size a + (y a).val := by
  blk_simp
  rfl

theorem got_at (hO : Ok m) (t : Fin (cfgM m hO).N) (y : S1x256x1664.Idx) (a : Fin 3) :
    ((((cfgM m hO).win 1).blk t).view.emb y a).val = cc0_transform_2 (grid0.coords t) a * S1x256x1664.size a + (y a).val := by
  blk_simp
  rfl

theorem sum_at (hO : Ok m) (t : Fin (cfgM m hO).N) (y : S1x256x1664.Idx) (a : Fin 3) :
    ((((cfgM m hO).win 2).blk t).view.emb y a).val = cc0_transform_2 (grid0.coords t) a * S1x256x1664.size a + (y a).val := by
  blk_simp
  rfl

theorem short_at (hO : Ok m) (t : Fin (cfgM m hO).N) (y : S1x256x1664.Idx) (a : Fin 3) :
    ((((cfgM m hO).win 3).blk t).view.emb y a).val = cc0_transform_2 (grid0.coords t) a * S1x256x1664.size a + (y a).val := by
  blk_simp
  rfl

/-- The rows of the block of `own` are those of the half that the word names. -/
theorem own_row (k : BitVec 32) (hk : k = 0#32 ∨ k = 1#32) (i : grid0.Coords) (y : S1x256x1664.Idx) (o : S4x1024x1664.Idx) (j : S4x512x1664.Idx)
    (ho : ∀ a, (o a).val = (![(BitVec.ofNat 32 (i 0).val).toNat, (Scalar.addi (Scalar.muli k 2#32) (BitVec.ofNat 32 (i 1).val)).toNat, 0] : Fin 3 → ℕ) a
      * S1x256x1664.size a + (y a).val)
    (hj : ∀ a, (j a).val = (![(BitVec.ofNat 32 (i 0).val).toNat, (BitVec.ofNat 32 (i 1).val).toNat, 0] : Fin 3 → ℕ) a
      * S1x256x1664.size a + (y a).val) :
    o = ix3 (j 0) (row k (j 1)) (j 2) := by
  have h1 : (i 1).val < 2 := (i 1).isLt
  have o1 : (o 1).val = (Scalar.addi (Scalar.muli k 2#32) (BitVec.ofNat 32 (i 1).val)).toNat * 256 + (y 1).val := ho 1
  have j1 : (j 1).val = (BitVec.ofNat 32 (i 1).val).toNat * 256 + (y 1).val := hj 1
  funext a
  apply Fin.ext
  fin_cases a
  · exact (ho 0).trans (hj 0).symm
  · show (o 1).val = (row k (j 1)).val
    rw [o1]
    rcases hk with rfl | rfl
    · simp only [row, if_true, j1, Scalar.addi, Scalar.muli, IntOp.addi, IntOp.muli]
      simp
    · simp only [row, j1, Scalar.addi, Scalar.muli, IntOp.addi, IntOp.muli, BitVec.toNat_add, BitVec.toNat_ofNat]
      simp
      omega
  · exact (ho 2).trans (hj 2).symm

theorem leaves (c : Dev nD) (i : grid0.Coords) (a b s h) (ha : a.IsWhole) (hb : b.IsWhole) (hs : s.IsWhole) (hh : h.IsWhole) (x0 x1 xt) :
    out0_A_2 (F := F) c i a ha b hb s hs h hh x0 x1 xt = fun y => FloatOps.addf (x0 y) (x1 y) := by
  funext y
  frame_out
  pointwise [k0_pay2, k0_pay1]

theorem leaves_short (c : Dev nD) (i : grid0.Coords) (a b s h) (ha : a.IsWhole) (hb : b.IsWhole) (hs : s.IsWhole) (hh : h.IsWhole) (x0 x1 xt) :
    out0_A_3 (F := F) c i a ha b hb s hs h hh x0 x1 xt = fun y => FloatOps.truncf .bf16 (by decide) (FloatOps.addf (x0 y) (x1 y)) := by
  funext y
  frame_out
  pointwise [k0_pay3, k0_pay1]

theorem leaves_at (hO : Ok m) (t : Fin (cfgM m hO).N) :
    (outsAt0 m hO 0 t).1 = fun y => FloatOps.addf (iblk m hO 0 0 t y : F .f32) (iblk m hO 0 1 t y : F .f32) := by
  dsimp only [outsAt0]
  exact leaves 0 _ _ _ _ _ _ _ _ _ _ _ _

theorem leaves_short_at (hO : Ok m) (t : Fin (cfgM m hO).N) : (outsAt0 m hO 0 t).2 =
    fun y => FloatOps.truncf .bf16 (by decide : FTy.bits .bf16 < FTy.bits .f32) (FloatOps.addf (iblk m hO 0 0 t y : F .f32) (iblk m hO 0 1 t y : F .f32)) := by
  dsimp only [outsAt0]
  exact leaves_short 0 _ _ _ _ _ _ _ _ _ _ _ _

section Table

variable (hk : m (((0 : Dev nD) : Thread nD τ).loc main_arg2) (ix1 0) = 0#32 ∨ m (((0 : Dev nD) : Thread nD τ).loc main_arg2) (ix1 0) = 1#32)
include hk

theorem blocks (hO : Ok m) (t : Fin (cfgM m hO).N) (y : S1x256x1664.Idx) (j : S4x512x1664.Idx)
    (hj : ∀ a, (j a).val = cc0_transform_2 (grid0.coords t) a * S1x256x1664.size a + (y a).val) :
    (FloatOps.addf (iblk m hO 0 0 t y : F .f32) (iblk m hO 0 1 t y : F .f32) : F .f32) =
      sum (m (((0 : Dev nD) : Thread nD τ).loc main_arg0)) (m (((0 : Dev nD) : Thread nD τ).loc main_arg1))
        (m (((0 : Dev nD) : Thread nD τ).loc main_arg2) (ix1 0)) j := by
  show FloatOps.addf (m (((0 : Dev nD) : Thread nD τ).loc main_arg0) ((((cfgM m hO).win 0).blk t).view.emb y))
    (m (((0 : Dev nD) : Thread nD τ).loc main_arg1) ((((cfgM m hO).win 1).blk t).view.emb y)) = FloatOps.addf _ _
  congr 2
  · exact own_row _ hk (grid0.coords t) y _ j (fun a => (own_at m hO t y a).trans (by rw [← word m]; rfl)) hj
  · funext a
    exact Fin.ext ((got_at m hO t y a).trans (hj a).symm)

/-- With one of the two words every block lies inside its array. -/
theorem ok : Ok m := fun i => by
  have h0 : (i 0).val < 4 := (i 0).isLt
  have h1 : (i 1).val < 2 := (i 1).isLt
  refine ⟨fun a => ?_, .inl rfl⟩
  fin_cases a
  · show ((BitVec.ofNat 32 (i 0).val).toNat + 1) * 1 ≤ 4
    simp only [BitVec.toNat_ofNat]
    omega
  · show ((Scalar.addi (Scalar.muli ((tbl m).at 0 (Rect.unit (s := S1) ![0] S1.size inb_S1_S1_0) numel1_S1) 2#32) (BitVec.ofNat 32 (i 1).val)).toNat + 1) * 256 ≤ 1024
    rw [word m]
    rcases hk with e | e <;> rw [e] <;>
      simp only [Scalar.addi, Scalar.muli, IntOp.addi, IntOp.muli, BitVec.toNat_add, BitVec.toNat_mul, BitVec.toNat_ofNat] <;> omega
  · exact le_refl 1664

theorem final (hO : Ok m) : (dats m hO 0 0).arrAt 2 (cfgM m hO).N =
    sum (m (((0 : Dev nD) : Thread nD τ).loc main_arg0)) (m (((0 : Dev nD) : Thread nD τ).loc main_arg1))
      (m (((0 : Dev nD) : Thread nD τ).loc main_arg2) (ix1 0)) := by
  refine (dats m hO 0 0).arrAt_eq_of_covers 2 _ (covers_sum m hO) fun t _ y => ?_
  have at' := sum_at m hO t y
  blk_simp
  rw [after0_2, leaves_at]
  exact blocks m hk hO t y _ at'

theorem final_short (hO : Ok m) : (dats m hO 0 0).arrAt 3 (cfgM m hO).N =
    short (sum (m (((0 : Dev nD) : Thread nD τ).loc main_arg0)) (m (((0 : Dev nD) : Thread nD τ).loc main_arg1))
      (m (((0 : Dev nD) : Thread nD τ).loc main_arg2) (ix1 0))) := by
  refine (dats m hO 0 0).arrAt_eq_of_covers 3 _ (covers_short m hO) fun t _ y => ?_
  have at' := short_at m hO t y
  blk_simp
  rw [after0_3, leaves_short_at]
  exact congrArg (FloatOps.truncf .bf16 (by decide : FTy.bits .bf16 < FTy.bits .f32)) (blocks m hk hO t y _ at')

theorem run (g : Dev nD → PrngReg) : θ_run (defs (F := F)) (onTc (τ := τ) (main (F := F))) ⟨m, fun _ => 0, g⟩ fun r => ∀ c : Dev nD,
    r.2.mem ((c : Thread nD τ).loc main_v0_0) = sum (m (((0 : Dev nD) : Thread nD τ).loc main_arg0))
      (m (((0 : Dev nD) : Thread nD τ).loc main_arg1)) (m (((0 : Dev nD) : Thread nD τ).loc main_arg2) (ix1 0))
    ∧ r.2.mem ((c : Thread nD τ).loc main_v0_1) = short (sum (m (((0 : Dev nD) : Thread nD τ).loc main_arg0))
      (m (((0 : Dev nD) : Thread nD τ).loc main_arg1)) (m (((0 : Dev nD) : Thread nD τ).loc main_arg2) (ix1 0))) :=
  (θ_run defs _ _).mono (fun _ h c => by
    obtain rfl : c = 0 := Subsingleton.elim _ _
    exact ⟨((h 0).1 2).trans (final m hk (ok m hk)), ((h 0).1 3).trans (final_short m hk (ok m hk))⟩) (run_main m g (ok m hk))

end Table

end Kernel

section Reference

open Cert.PairInReferenceIdeal Cert.PairInReferenceIdeal.Gen

variable (m : (ℓ : Loc nD τ sig) → Buf (Elt F) ℓ) (g : Dev nD → PrngReg)

theorem run_reference :
    θ_run (defs (F := F)) (onTc (τ := τ) (main (F := F))) ⟨m, fun _ => 0, g⟩ fun r =>
      r.2.mem (((0 : Dev nD) : Thread nD τ).loc main_v5) = sum (m (((0 : Dev nD) : Thread nD τ).loc main_arg0))
        (m (((0 : Dev nD) : Thread nD τ).loc main_arg1)) (m (((0 : Dev nD) : Thread nD τ).loc main_arg2) (ix1 0))
      ∧ r.2.mem (((0 : Dev nD) : Thread nD τ).loc main_v6) = short (sum (m (((0 : Dev nD) : Thread nD τ).loc main_arg0))
        (m (((0 : Dev nD) : Thread nD τ).loc main_arg1)) (m (((0 : Dev nD) : Thread nD τ).loc main_arg2) (ix1 0)))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) := by
  hlo_run
  · simp only [StableHlo.TRef.toBuf, StableHlo.TRef.ofBuf, cast_eq]
    funext j
    exact congrArg (fun v : F .f32 => FloatOps.addf v (m ((Dev.tc 0).loc main_arg1) j))
      (half_cast (m ((Dev.tc 0).loc main_arg0)) (m ((Dev.tc 0).loc main_arg2)) _ _ j)
  · simp only [StableHlo.TRef.toBuf, StableHlo.TRef.ofBuf, cast_eq]
    funext j
    exact congrArg (fun v : F .f32 => FloatOps.truncf .bf16 (by decide : FTy.bits .bf16 < FTy.bits .f32) (FloatOps.addf v (m ((Dev.tc 0).loc main_arg1) j)))
      (half_cast (m ((Dev.tc 0).loc main_arg0)) (m ((Dev.tc 0).loc main_arg2)) _ _ j)

end Reference

/-! The idealized program is the program itself. -/

theorem defs_eq : letI := Cert.PairIn.Gen.facts; letI := Cert.PairInIdeal.Gen.facts; Cert.PairIn.defs (F := F) = Cert.PairInIdeal.defs (F := F) := by
  refine congrArg (Pipeline.defs _) (congrArg Defs.onTc (funext fun l => funext fun x => ?_))
  match l, x with
  | 0, (t, s) => rfl

theorem run_of_ideal (m : (ℓ : Loc Cert.PairIn.nD Cert.PairIn.τ Cert.PairIn.sig) → Buf (Elt F) ℓ) (g : Dev Cert.PairIn.nD → PrngReg) (Q) :
    letI := Cert.PairIn.Gen.facts; letI := Cert.PairInIdeal.Gen.facts;
    θ_run (Cert.PairInIdeal.defs (F := F)) (onTc (τ := Cert.PairInIdeal.τ) (Cert.PairInIdeal.main (F := F))) ⟨m, fun _ => 0, g⟩ Q →
    θ_run (Cert.PairIn.defs (F := F)) (onTc (τ := Cert.PairIn.τ) (Cert.PairIn.main (F := F))) ⟨m, fun _ => 0, g⟩ Q := by
  rw [defs_eq]
  exact id

end Cert.Proof.Summed.Pair

end
-- ==== Proof.Summed.Four.lean ====
/-
  The sum over the four chips, each part chosen by a word of the table.
-/
module

public import proofs.«01_k».proof.Proof.Gen.FourIn.Frame
public import proofs.«01_k».proof.Proof.Gen.FourInIdeal.Frame
public import proofs.«01_k».proof.Proof.Gen.FourInReference
public import proofs.«01_k».proof.Proof.Gen.FourInReferenceIdeal
public import proofs.«01_k».proof.Proof.Gen.Pre_four_chips
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Summed.Four

variable {F : FTy → Type} [FloatOps F]

/-- The chip that a word names. -/
def chip (k : BitVec 32) : Fin 4 := if k = 0#32 then 0 else if k = 1#32 then 1 else if k = 2#32 then 2 else 3

theorem chip_val (k : BitVec 32) (h : k.toNat < 4) : (chip k).val = k.toNat := by
  have e : k = BitVec.ofNat 32 k.toNat := BitVec.eq_of_toNat_eq (by rw [BitVec.toNat_ofNat]; omega)
  generalize k.toNat = n at e h
  subst e
  match n, h with
  | 0, _ => rfl
  | 1, _ => rfl
  | 2, _ => rfl
  | 3, _ => rfl

/-- The part of one chip. -/
def part {α : Type} (a : Shape.Idx ⟨3, ![4, 512, 1664]⟩ → α) (k : BitVec 32) (j : Shape.Idx ⟨2, ![512, 1664]⟩) : α :=
  a (ix3 (chip k) (j 0) (j 1))

/-- The own part, then the three that came from the other chips, added in the table's order. -/
def sum (own : FVec F ⟨3, ![4, 512, 1664]⟩ .f32) (got : FVec F ⟨3, ![4, 512, 1664]⟩ .bf16) (idx : IVec ⟨1, ![4]⟩ 32) :
    FVec F ⟨2, ![512, 1664]⟩ .f32 := fun j =>
  let long (v : F .bf16) : F .f32 := FloatOps.extf .f32 (by decide : FTy.bits .bf16 < FTy.bits .f32) v
  FloatOps.addf (FloatOps.addf (FloatOps.addf (part own (idx (ix1 0)) j) (long (part got (idx (ix1 1)) j)))
    (long (part got (idx (ix1 2)) j))) (long (part got (idx (ix1 3)) j))

/-- The precondition says that every word is one of the four chips'. -/
theorem named (own : FVec F ⟨3, ![4, 512, 1664]⟩ .f32) (got : FVec F ⟨3, ![4, 512, 1664]⟩ .bf16) (idx : IVec ⟨1, ![4]⟩ 32)
    (h : Cert.Pre_four_chips.fn (F := F) own got idx = fun _ => 1#1) (n : Fin 4) : (idx (ix1 n)).toNat < 4 := by
  have p := congrFun h (ix1 n)
  have andi_one (a b : BitVec 1) : IntOp.andi a b = 1#1 ↔ a = 1#1 ∧ b = 1#1 := by revert a b; decide
  have ofBool_eq_one (p : Bool) : (BitVec.ofBool p = 1#1) ↔ p = true := by cases p <;> decide
  simp only [Cert.Pre_four_chips.fn, constantI, broadcastInDim, cmpi, andi, andi_one] at p
  simp only [ofBool_eq_one, IntOp.cmpi, BitVec.sle, BitVec.slt, decide_eq_true_eq, BitVec.toInt, BitVec.toNat_ofNat] at p
  have := (idx (ix1 n)).isLt
  omega

/-- One chip's rows chosen between four slices. -/
theorem choice {α : Type} (a : Shape.Idx ⟨3, ![4, 512, 1664]⟩ → α) (k : BitVec 32) (h) (j : Shape.Idx ⟨2, ![512, 1664]⟩) :
    Scalar.select (IntOp.cmpi .eq k 0#32) (shapeCast ⟨2, ![512, 1664]⟩ (extractStridedSlice ⟨3, ![1, 512, 1664]⟩ ![0, 0, 0] a (by decide)) h j)
      (Scalar.select (IntOp.cmpi .eq k 1#32) (shapeCast ⟨2, ![512, 1664]⟩ (extractStridedSlice ⟨3, ![1, 512, 1664]⟩ ![1, 0, 0] a (by decide)) h j)
        (Scalar.select (IntOp.cmpi .eq k 2#32) (shapeCast ⟨2, ![512, 1664]⟩ (extractStridedSlice ⟨3, ![1, 512, 1664]⟩ ![2, 0, 0] a (by decide)) h j)
          (shapeCast ⟨2, ![512, 1664]⟩ (extractStridedSlice ⟨3, ![1, 512, 1664]⟩ ![3, 0, 0] a (by decide)) h j))) = part a k j := by
  have select_eq (l : BitVec 32) (x y : α) : Scalar.select (IntOp.cmpi .eq k l) x y = if k = l then x else y := by
    by_cases e : k = l
    · simp [IntOp.cmpi, Scalar.select, e]
    · simp [IntOp.cmpi, Scalar.select, beq_false_of_ne e, e]
  have s0 : shapeCast ⟨2, ![512, 1664]⟩ (extractStridedSlice ⟨3, ![1, 512, 1664]⟩ ![0, 0, 0] a (by decide)) h j = a (ix3 0 (j 0) (j 1)) := by
    pointwise []
  have s1 : shapeCast ⟨2, ![512, 1664]⟩ (extractStridedSlice ⟨3, ![1, 512, 1664]⟩ ![1, 0, 0] a (by decide)) h j = a (ix3 1 (j 0) (j 1)) := by
    pointwise []
  have s2 : shapeCast ⟨2, ![512, 1664]⟩ (extractStridedSlice ⟨3, ![1, 512, 1664]⟩ ![2, 0, 0] a (by decide)) h j = a (ix3 2 (j 0) (j 1)) := by
    pointwise []
  have s3 : shapeCast ⟨2, ![512, 1664]⟩ (extractStridedSlice ⟨3, ![1, 512, 1664]⟩ ![3, 0, 0] a (by decide)) h j = a (ix3 3 (j 0) (j 1)) := by
    pointwise []
  rw [s0, s1, s2, s3, select_eq, select_eq, select_eq]
  unfold part chip
  split_ifs <;> rfl

/-- The word of the table that a slice of one word is. -/
theorem entry (idx : IVec ⟨1, ![4]⟩ 32) (n : Fin 4) (h h' i) :
    shapeCast ⟨0, ![]⟩ (extractStridedSlice ⟨1, ![1]⟩ ![n.val] idx h) h' i = idx (ix1 n) := by
  refine congrArg idx (funext fun a => ?_)
  fin_cases a
  exact Fin.ext ((congrArg (n.val + ·) (Nat.lt_one_iff.mp (Fin.isLt _))).trans (Nat.add_zero _))

/-- The same with that word. -/
theorem chosen {α : Type} (a : Shape.Idx ⟨3, ![4, 512, 1664]⟩ → α) (idx : IVec ⟨1, ![4]⟩ 32) (n : Fin 4) (hs hc i) (h) (j : Shape.Idx ⟨2, ![512, 1664]⟩) :
    let w := shapeCast ⟨0, ![]⟩ (extractStridedSlice ⟨1, ![1]⟩ ![n.val] idx hs) hc i
    Scalar.select (IntOp.cmpi .eq w 0#32) (shapeCast ⟨2, ![512, 1664]⟩ (extractStridedSlice ⟨3, ![1, 512, 1664]⟩ ![0, 0, 0] a (by decide)) h j)
      (Scalar.select (IntOp.cmpi .eq w 1#32) (shapeCast ⟨2, ![512, 1664]⟩ (extractStridedSlice ⟨3, ![1, 512, 1664]⟩ ![1, 0, 0] a (by decide)) h j)
        (Scalar.select (IntOp.cmpi .eq w 2#32) (shapeCast ⟨2, ![512, 1664]⟩ (extractStridedSlice ⟨3, ![1, 512, 1664]⟩ ![2, 0, 0] a (by decide)) h j)
          (shapeCast ⟨2, ![512, 1664]⟩ (extractStridedSlice ⟨3, ![1, 512, 1664]⟩ ![3, 0, 0] a (by decide)) h j))) = part a (idx (ix1 n)) j := by
  dsimp only
  rw [entry]
  exact choice a _ h j

theorem sum_congr {own own' : FVec F ⟨3, ![4, 512, 1664]⟩ .f32} {got got' : FVec F ⟨3, ![4, 512, 1664]⟩ .bf16} {k k' : IVec ⟨1, ![4]⟩ 32}
    (h₁ : own = own') (h₂ : got = got') (h₃ : k = k') : sum own got k = sum own' got' k' := by
  subst h₁ h₂ h₃
  rfl

section Kernel

open Cert.FourInIdeal Cert.FourInIdeal.Gen

theorem covers : ∀ β : (a : Fin 2) → Fin ((S512x1664.size a + S256x1664.size a - 1) / S256x1664.size a),
    ∃ t : Fin grid0.N, ∀ a, cc0_transform_4 (grid0.coords t) a = β a := by
  decide +kernel

/-- A block of sixteen-bit entries begins and ends at whole words. -/
theorem words : ∀ (k : Fin 4) (i : Fin 2), S4x512x1664.WholeWordsAt (EltTy.packing .bf16)
    (fun a => (![k.val, i.val, 0] : Fin 3 → ℕ) a * S1x256x1664.size a) S1x256x1664.size (fun _ => 1) := by
  decide +kernel

theorem inside (k : ℕ) (hk : k < 4) (i : ℕ) (hi : i < 2) (a : Fin 3) :
    ((![k, i, 0] : Fin 3 → ℕ) a + 1) * S1x256x1664.size a ≤ S4x512x1664.size a := by
  fin_cases a
  · show (k + 1) * 1 ≤ 4
    omega
  · show (i + 1) * 256 ≤ 512
    omega
  · exact le_refl 1664

/-- The rows of a block are those of the chip that the word names. -/
theorem rows (k : BitVec 32) (hk : k.toNat < 4) (i : ℕ) (y : S256x1664.Idx) (o : S4x512x1664.Idx) (j : S512x1664.Idx)
    (ho : ∀ a, (o a).val = (![k.toNat, i, 0] : Fin 3 → ℕ) a * S1x256x1664.size a + ((ix3 0 (y 0) (y 1) : S1x256x1664.Idx) a).val)
    (hj : ∀ a, (j a).val = (![i, 0] : Fin 2 → ℕ) a * S256x1664.size a + (y a).val) : o = ix3 (chip k) (j 0) (j 1) := by
  funext a
  apply Fin.ext
  fin_cases a
  · show (o 0).val = (chip k).val
    rw [chip_val k hk, ho 0]
    exact (Nat.add_zero _).trans (Nat.mul_one _)
  · exact (ho 1).trans (hj 0).symm
  · exact (ho 2).trans (hj 1).symm

theorem leaves (c : Dev nD) (i : grid0.Coords) (a b d e s) (ha : a.IsWhole) (hb : b.IsWhole) (hd : d.IsWhole) (he : e.IsWhole) (hs : s.IsWhole) (x0 x1 x2 x3 xt) :
    out0_A_4 (F := F) c i a ha b hb d hd e he s hs x0 x1 x2 x3 xt = fun y =>
      let long (v : F .bf16) : F .f32 := FloatOps.extf .f32 (by decide : FTy.bits .bf16 < FTy.bits .f32) v
      FloatOps.addf (FloatOps.addf (FloatOps.addf (x0 (ix3 0 (y 0) (y 1))) (long (x1 (ix3 0 (y 0) (y 1)))))
        (long (x2 (ix3 0 (y 0) (y 1))))) (long (x3 (ix3 0 (y 0) (y 1)))) := by
  funext y
  frame_out
  pointwise [k0_pay1]

variable (m : (ℓ : Loc nD τ sig) → Buf (Elt F) ℓ)

theorem covers_sum (hO : Ok m) : ((cfgM m hO).win 4).Covers := by
  refine ⟨(by decide : ∀ a, 0 < S256x1664.size a), fun β => ?_⟩
  obtain ⟨t, ht⟩ := covers β
  exact ⟨t, flush0_4 _ t, fun a => ⟨ht a, .inl rfl⟩⟩

theorem word (n : Fin 4) (h) : (tbl m).at 0 (Rect.unit (s := S4) ![n.val] S1.size h) numel1_S1 =
    m (((0 : Dev nD) : Thread nD τ).loc main_arg2) (ix1 n) := by
  show m (((0 : Dev nD) : Thread nD τ).loc main_arg2) _ = _
  congr 1
  funext a
  fin_cases a
  exact Fin.ext (Nat.add_zero _)

/-- The blocks that the words name, in the order of the windows. -/
theorem index (i : grid0.Coords) :
    cc0_transform_0 inb_S4_S1_0 numel1_S1 (tbl m) i = ![(m (((0 : Dev nD) : Thread nD τ).loc main_arg2) (ix1 0)).toNat, (i 0).val, 0]
    ∧ cc0_transform_1 inb_S4_S1_1 numel1_S1 (tbl m) i = ![(m (((0 : Dev nD) : Thread nD τ).loc main_arg2) (ix1 1)).toNat, (i 0).val, 0]
    ∧ cc0_transform_2 inb_S4_S1_2 numel1_S1 (tbl m) i = ![(m (((0 : Dev nD) : Thread nD τ).loc main_arg2) (ix1 2)).toNat, (i 0).val, 0]
    ∧ cc0_transform_3 inb_S4_S1_3 numel1_S1 (tbl m) i = ![(m (((0 : Dev nD) : Thread nD τ).loc main_arg2) (ix1 3)).toNat, (i 0).val, 0] := by
  have h : (i 0).val < 2 := (i 0).isLt
  have e : (BitVec.ofNat 32 (i 0).val).toNat = (i 0).val := by
    rw [BitVec.toNat_ofNat]
    omega
  refine ⟨?_, ?_, ?_, ?_⟩
  · exact congrArg₂ (fun k l => ![BitVec.toNat k, l, 0]) (word m 0 _) e
  · exact congrArg₂ (fun k l => ![BitVec.toNat k, l, 0]) (word m 1 _) e
  · exact congrArg₂ (fun k l => ![BitVec.toNat k, l, 0]) (word m 2 _) e
  · exact congrArg₂ (fun k l => ![BitVec.toNat k, l, 0]) (word m 3 _) e

theorem leaves_at (hO : Ok m) (t : Fin (cfgM m hO).N) : outsAt0 m hO 0 t = fun y =>
    let long (v : F .bf16) : F .f32 := FloatOps.extf .f32 (by decide : FTy.bits .bf16 < FTy.bits .f32) v
    FloatOps.addf (FloatOps.addf (FloatOps.addf (iblk m hO 0 0 t (ix3 0 (y 0) (y 1)) : F .f32) (long (iblk m hO 0 1 t (ix3 0 (y 0) (y 1)))))
      (long (iblk m hO 0 2 t (ix3 0 (y 0) (y 1))))) (long (iblk m hO 0 3 t (ix3 0 (y 0) (y 1)))) := by
  dsimp only [outsAt0]
  exact leaves 0 _ _ _ _ _ _ _ _ _ _ _ _ _ _ _ _

theorem at_0 (hO : Ok m) (t : Fin (cfgM m hO).N) (y : S1x256x1664.Idx) (a : Fin 3) :
    ((((cfgM m hO).win 0).blk t).view.emb y a).val =
      cc0_transform_0 inb_S4_S1_0 numel1_S1 (tbl m) (grid0.coords t) a * S1x256x1664.size a + (y a).val := by
  blk_simp
  rfl

theorem at_1 (hO : Ok m) (t : Fin (cfgM m hO).N) (y : S1x256x1664.Idx) (a : Fin 3) :
    ((((cfgM m hO).win 1).blk t).view.emb y a).val =
      cc0_transform_1 inb_S4_S1_1 numel1_S1 (tbl m) (grid0.coords t) a * S1x256x1664.size a + (y a).val := by
  blk_simp
  rfl

theorem at_2 (hO : Ok m) (t : Fin (cfgM m hO).N) (y : S1x256x1664.Idx) (a : Fin 3) :
    ((((cfgM m hO).win 2).blk t).view.emb y a).val =
      cc0_transform_2 inb_S4_S1_2 numel1_S1 (tbl m) (grid0.coords t) a * S1x256x1664.size a + (y a).val := by
  blk_simp
  rfl

theorem at_3 (hO : Ok m) (t : Fin (cfgM m hO).N) (y : S1x256x1664.Idx) (a : Fin 3) :
    ((((cfgM m hO).win 3).blk t).view.emb y a).val =
      cc0_transform_3 inb_S4_S1_3 numel1_S1 (tbl m) (grid0.coords t) a * S1x256x1664.size a + (y a).val := by
  blk_simp
  rfl

theorem at_sum (hO : Ok m) (t : Fin (cfgM m hO).N) (y : S256x1664.Idx) (a : Fin 2) :
    ((((cfgM m hO).win 4).blk t).view.emb y a).val = (![(grid0.coords t 0).val, 0] : Fin 2 → ℕ) a * S256x1664.size a + (y a).val := by
  have h : (grid0.coords t 0).val < 2 := (grid0.coords t 0).isLt
  have e : (BitVec.ofNat 32 (grid0.coords t 0).val).toNat = (grid0.coords t 0).val := by
    rw [BitVec.toNat_ofNat]
    omega
  have k : cc0_transform_4 (grid0.coords t) = ![(grid0.coords t 0).val, 0] := congrArg (fun l => ![l, 0]) e
  rw [← k]
  blk_simp
  rfl

section Table

variable (hk : ∀ n, (m (((0 : Dev nD) : Thread nD τ).loc main_arg2) (ix1 n)).toNat < 4)
include hk

/-- With four such words every block lies inside its array. -/
theorem ok : Ok m := by
  have h (i : grid0.Coords) : (i 0).val < 2 := (i 0).isLt
  have w (i : grid0.Coords) (n : Fin 4) := words ⟨_, hk n⟩ ⟨_, h i⟩
  refine ⟨fun i => ⟨fun a => ?_, .inl rfl⟩, fun i => ⟨fun a => ?_, .inr ?_⟩, fun i => ⟨fun a => ?_, .inr ?_⟩, fun i => ⟨fun a => ?_, .inr ?_⟩⟩
  · rw [(index m i).1]
    exact inside _ (hk 0) _ (h i) a
  · rw [(index m i).2.1]
    exact inside _ (hk 1) _ (h i) a
  · have := w i 1
    rw [Rect.wholeWords_iff_at]
    rw [← (index m i).2.1] at this
    exact this
  · rw [(index m i).2.2.1]
    exact inside _ (hk 2) _ (h i) a
  · have := w i 2
    rw [Rect.wholeWords_iff_at]
    rw [← (index m i).2.2.1] at this
    exact this
  · rw [(index m i).2.2.2]
    exact inside _ (hk 3) _ (h i) a
  · have := w i 3
    rw [Rect.wholeWords_iff_at]
    rw [← (index m i).2.2.2] at this
    exact this

theorem blocks (hO : Ok m) (t : Fin (cfgM m hO).N) (y : S256x1664.Idx) (j : S512x1664.Idx)
    (hj : ∀ a, (j a).val = (![(grid0.coords t 0).val, 0] : Fin 2 → ℕ) a * S256x1664.size a + (y a).val) :
    iblk m hO 0 0 t (ix3 0 (y 0) (y 1)) = part (m (((0 : Dev nD) : Thread nD τ).loc main_arg0)) (m (((0 : Dev nD) : Thread nD τ).loc main_arg2) (ix1 0)) j
    ∧ iblk m hO 0 1 t (ix3 0 (y 0) (y 1)) = part (m (((0 : Dev nD) : Thread nD τ).loc main_arg1)) (m (((0 : Dev nD) : Thread nD τ).loc main_arg2) (ix1 1)) j
    ∧ iblk m hO 0 2 t (ix3 0 (y 0) (y 1)) = part (m (((0 : Dev nD) : Thread nD τ).loc main_arg1)) (m (((0 : Dev nD) : Thread nD τ).loc main_arg2) (ix1 2)) j
    ∧ iblk m hO 0 3 t (ix3 0 (y 0) (y 1)) = part (m (((0 : Dev nD) : Thread nD τ).loc main_arg1)) (m (((0 : Dev nD) : Thread nD τ).loc main_arg2) (ix1 3)) j := by
  have x := index m (grid0.coords t)
  refine ⟨?_, ?_, ?_, ?_⟩
  · exact congrArg (m (((0 : Dev nD) : Thread nD τ).loc main_arg0)) (rows _ (hk 0) _ y _ j (fun a => x.1 ▸ at_0 m hO t _ a) hj)
  · exact congrArg (m (((0 : Dev nD) : Thread nD τ).loc main_arg1)) (rows _ (hk 1) _ y _ j (fun a => x.2.1 ▸ at_1 m hO t _ a) hj)
  · exact congrArg (m (((0 : Dev nD) : Thread nD τ).loc main_arg1)) (rows _ (hk 2) _ y _ j (fun a => x.2.2.1 ▸ at_2 m hO t _ a) hj)
  · exact congrArg (m (((0 : Dev nD) : Thread nD τ).loc main_arg1)) (rows _ (hk 3) _ y _ j (fun a => x.2.2.2 ▸ at_3 m hO t _ a) hj)

theorem final (hO : Ok m) : (dats m hO 0 0).arrAt 4 (cfgM m hO).N =
    sum (m (((0 : Dev nD) : Thread nD τ).loc main_arg0)) (m (((0 : Dev nD) : Thread nD τ).loc main_arg1)) (m (((0 : Dev nD) : Thread nD τ).loc main_arg2)) := by
  refine (dats m hO 0 0).arrAt_eq_of_covers 4 _ (covers_sum m hO) fun t _ y => ?_
  have b := blocks m hk hO t y _ (at_sum m hO t y)
  blk_simp
  rw [after0_4, leaves_at]
  dsimp only
  rw [b.1, b.2.1, b.2.2.1, b.2.2.2]
  rfl

theorem run (g : Dev nD → PrngReg) : θ_run (defs (F := F)) (onTc (τ := τ) (main (F := F))) ⟨m, fun _ => 0, g⟩ fun r => ∀ c : Dev nD,
    r.2.mem ((c : Thread nD τ).loc main_v0) = sum (m (((0 : Dev nD) : Thread nD τ).loc main_arg0))
      (m (((0 : Dev nD) : Thread nD τ).loc main_arg1)) (m (((0 : Dev nD) : Thread nD τ).loc main_arg2)) :=
  (θ_run defs _ _).mono (fun _ h c => by
    obtain rfl : c = 0 := Subsingleton.elim _ _
    exact ((h 0).1 4).trans (final m hk (ok m hk))) (run_main m g (ok m hk))

end Table

end Kernel

section Reference

open Cert.FourInReferenceIdeal Cert.FourInReferenceIdeal.Gen

variable (m : (ℓ : Loc nD τ sig) → Buf (Elt F) ℓ) (g : Dev nD → PrngReg)

theorem run_reference :
    θ_run (defs (F := F)) (onTc (τ := τ) (main (F := F))) ⟨m, fun _ => 0, g⟩ fun r =>
      r.2.mem (((0 : Dev nD) : Thread nD τ).loc main_v69) = sum (m (((0 : Dev nD) : Thread nD τ).loc main_arg0))
        (m (((0 : Dev nD) : Thread nD τ).loc main_arg1)) (m (((0 : Dev nD) : Thread nD τ).loc main_arg2))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2) := by
  hlo_run
  simp only [StableHlo.TRef.toBuf, StableHlo.TRef.ofBuf, cast_eq]
  funext j
  refine congrArg₂ FloatOps.addf (congrArg₂ FloatOps.addf (congrArg₂ FloatOps.addf ?_ (congrArg (FloatOps.extf .f32 (by decide)) ?_))
    (congrArg (FloatOps.extf .f32 (by decide)) ?_)) (congrArg (FloatOps.extf .f32 (by decide)) ?_)
  · exact chosen (m ((Dev.tc 0).loc main_arg0)) (m ((Dev.tc 0).loc main_arg2)) 0 _ _ _ _ j
  · exact chosen (m ((Dev.tc 0).loc main_arg1)) (m ((Dev.tc 0).loc main_arg2)) 1 _ _ _ _ j
  · exact chosen (m ((Dev.tc 0).loc main_arg1)) (m ((Dev.tc 0).loc main_arg2)) 2 _ _ _ _ j
  · exact chosen (m ((Dev.tc 0).loc main_arg1)) (m ((Dev.tc 0).loc main_arg2)) 3 _ _ _ _ j

end Reference

/-! The idealized program is the program itself. -/

theorem defs_eq : letI := Cert.FourIn.Gen.facts; letI := Cert.FourInIdeal.Gen.facts; Cert.FourIn.defs (F := F) = Cert.FourInIdeal.defs (F := F) := by
  refine congrArg (Pipeline.defs _) (congrArg Defs.onTc (funext fun l => funext fun x => ?_))
  match l, x with
  | 0, (t, s) => rfl

theorem run_of_ideal (m : (ℓ : Loc Cert.FourIn.nD Cert.FourIn.τ Cert.FourIn.sig) → Buf (Elt F) ℓ) (g : Dev Cert.FourIn.nD → PrngReg) (Q) :
    letI := Cert.FourIn.Gen.facts; letI := Cert.FourInIdeal.Gen.facts;
    θ_run (Cert.FourInIdeal.defs (F := F)) (onTc (τ := Cert.FourInIdeal.τ) (Cert.FourInIdeal.main (F := F))) ⟨m, fun _ => 0, g⟩ Q →
    θ_run (Cert.FourIn.defs (F := F)) (onTc (τ := Cert.FourIn.τ) (Cert.FourIn.main (F := F))) ⟨m, fun _ => 0, g⟩ Q := by
  rw [defs_eq]
  exact id

end Cert.Proof.Summed.Four

end
-- ==== Proof.Forward.CastIn.lean ====
/-
  The copy of `w_in` in the shorter format.
-/
module

public import proofs.«01_k».proof.Proof.Gen.CastIn.Frame
public import proofs.«01_k».proof.Proof.Gen.CastInIdeal.Frame
public import proofs.«01_k».proof.Proof.Gen.CastInReference
public import proofs.«01_k».proof.Proof.Gen.CastInReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Forward.CastIn

variable {F : FTy → Type} [FloatOps F]

/-- Every entry, rounded to the shorter format. -/
def cast (w : FVec F ⟨2, ![1024, 1664]⟩ .f32) : FVec F ⟨2, ![1024, 1664]⟩ .bf16 :=
  fun j => FloatOps.truncf .bf16 (by decide : FTy.bits .bf16 < FTy.bits .f32) (w j)

section Kernel

open Cert.CastInIdeal Cert.CastInIdeal.Gen

theorem index : ∀ t : Fin cfg0.N, win0_0.index t = ![t.val, 0] ∧ win0_1.index t = ![t.val, 0] :=
  (by decide +kernel : ∀ t : Fin grid0.N, _)

variable (m : (ℓ : Loc nD τ sig) → Buf (Elt F) ℓ)

theorem final (c : Dev nD) : (dats m 0 c).arrAt 1 (cfgs 0).N = cast (m ((c : Thread nD τ).loc main_arg0)) := by
  refine (dats m 0 c).arrAt_eq_of_covers 1 _ (by decide +kernel) fun t _ y => ?_
  blk_simp
  rw [after0_1]; frame_out
  pointwise [cast]
  blk_point [iblk, V, index t]

theorem run (g : Dev nD → PrngReg) : θ_run (defs (F := F)) (onTc (τ := τ) (main (F := F))) ⟨m, fun _ => 0, g⟩ fun r => ∀ c : Dev nD,
    r.2.mem ((c : Thread nD τ).loc main_v0) = cast (m ((c : Thread nD τ).loc main_arg0)) :=
  (θ_run defs _ _).mono (fun _ h c => ((h c).1 1).trans (final m c)) (run_main m g)

end Kernel

section Reference

open Cert.CastInReferenceIdeal Cert.CastInReferenceIdeal.Gen

variable (m : (ℓ : Loc nD τ sig) → Buf (Elt F) ℓ) (g : Dev nD → PrngReg)

theorem run_reference :
    θ_run (defs (F := F)) (onTc (τ := τ) (main (F := F))) ⟨m, fun _ => 0, g⟩ fun r =>
      r.2.mem (((0 : Dev nD) : Thread nD τ).loc main_v0) = cast (m (((0 : Dev nD) : Thread nD τ).loc main_arg0))
      ∧ r.2.mem (((0 : Dev nD) : Thread nD τ).loc main_arg0) = m (((0 : Dev nD) : Thread nD τ).loc main_arg0) := by
  hlo_run <;> rfl

end Reference

/-! The idealized program is the program itself. -/

theorem defs_eq : letI := Cert.CastIn.Gen.facts; letI := Cert.CastInIdeal.Gen.facts; Cert.CastIn.defs (F := F) = Cert.CastInIdeal.defs (F := F) := by
  refine congrArg (Pipeline.defs _) (congrArg Defs.onTc (funext fun l => funext fun x => ?_))
  match l, x with
  | 0, (t, s) => rfl

theorem run_of_ideal (m : (ℓ : Loc Cert.CastIn.nD Cert.CastIn.τ Cert.CastIn.sig) → Buf (Elt F) ℓ) (g : Dev Cert.CastIn.nD → PrngReg) (Q) :
    letI := Cert.CastIn.Gen.facts; letI := Cert.CastInIdeal.Gen.facts;
    θ_run (Cert.CastInIdeal.defs (F := F)) (onTc (τ := Cert.CastInIdeal.τ) (Cert.CastInIdeal.main (F := F))) ⟨m, fun _ => 0, g⟩ Q →
    θ_run (Cert.CastIn.defs (F := F)) (onTc (τ := Cert.CastIn.τ) (Cert.CastIn.main (F := F))) ⟨m, fun _ => 0, g⟩ Q := by
  rw [defs_eq]
  exact id

end Cert.Proof.Forward.CastIn

end
-- ==== Proof.Forward.CastOut.lean ====
/-
  The copy of `w_rnn_out` in the shorter format.
-/
module

public import proofs.«01_k».proof.Proof.Gen.CastOut.Frame
public import proofs.«01_k».proof.Proof.Gen.CastOutIdeal.Frame
public import proofs.«01_k».proof.Proof.Gen.CastOutReference
public import proofs.«01_k».proof.Proof.Gen.CastOutReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Forward.CastOut

variable {F : FTy → Type} [FloatOps F]

/-- Every entry, rounded to the shorter format. -/
def cast (w : FVec F ⟨2, ![256, 1024]⟩ .f32) : FVec F ⟨2, ![256, 1024]⟩ .bf16 :=
  fun j => FloatOps.truncf .bf16 (by decide : FTy.bits .bf16 < FTy.bits .f32) (w j)

section Kernel

open Cert.CastOutIdeal Cert.CastOutIdeal.Gen

theorem index : ∀ t : Fin cfg0.N, win0_0.index t = ![0, 0] ∧ win0_1.index t = ![0, 0] :=
  (by decide +kernel : ∀ t : Fin grid0.N, _)

variable (m : (ℓ : Loc nD τ sig) → Buf (Elt F) ℓ)

theorem final (c : Dev nD) : (dats m 0 c).arrAt 1 (cfgs 0).N = cast (m ((c : Thread nD τ).loc main_arg0)) := by
  refine (dats m 0 c).arrAt_eq_of_covers 1 _ (by decide +kernel) fun t _ y => ?_
  blk_simp
  rw [after0_1]; frame_out
  pointwise [cast]
  blk_point [iblk, V, index t]

theorem run (g : Dev nD → PrngReg) : θ_run (defs (F := F)) (onTc (τ := τ) (main (F := F))) ⟨m, fun _ => 0, g⟩ fun r => ∀ c : Dev nD,
    r.2.mem ((c : Thread nD τ).loc main_v0) = cast (m ((c : Thread nD τ).loc main_arg0)) :=
  (θ_run defs _ _).mono (fun _ h c => ((h c).1 1).trans (final m c)) (run_main m g)

end Kernel

section Reference

open Cert.CastOutReferenceIdeal Cert.CastOutReferenceIdeal.Gen

variable (m : (ℓ : Loc nD τ sig) → Buf (Elt F) ℓ) (g : Dev nD → PrngReg)

theorem run_reference :
    θ_run (defs (F := F)) (onTc (τ := τ) (main (F := F))) ⟨m, fun _ => 0, g⟩ fun r =>
      r.2.mem (((0 : Dev nD) : Thread nD τ).loc main_v0) = cast (m (((0 : Dev nD) : Thread nD τ).loc main_arg0))
      ∧ r.2.mem (((0 : Dev nD) : Thread nD τ).loc main_arg0) = m (((0 : Dev nD) : Thread nD τ).loc main_arg0) := by
  hlo_run <;> rfl

end Reference

/-! The idealized program is the program itself. -/

theorem defs_eq : letI := Cert.CastOut.Gen.facts; letI := Cert.CastOutIdeal.Gen.facts; Cert.CastOut.defs (F := F) = Cert.CastOutIdeal.defs (F := F) := by
  refine congrArg (Pipeline.defs _) (congrArg Defs.onTc (funext fun l => funext fun x => ?_))
  match l, x with
  | 0, (t, s) => rfl

theorem run_of_ideal (m : (ℓ : Loc Cert.CastOut.nD Cert.CastOut.τ Cert.CastOut.sig) → Buf (Elt F) ℓ) (g : Dev Cert.CastOut.nD → PrngReg) (Q) :
    letI := Cert.CastOut.Gen.facts; letI := Cert.CastOutIdeal.Gen.facts;
    θ_run (Cert.CastOutIdeal.defs (F := F)) (onTc (τ := Cert.CastOutIdeal.τ) (Cert.CastOutIdeal.main (F := F))) ⟨m, fun _ => 0, g⟩ Q →
    θ_run (Cert.CastOut.defs (F := F)) (onTc (τ := Cert.CastOut.τ) (Cert.CastOut.main (F := F))) ⟨m, fun _ => 0, g⟩ Q := by
  rw [defs_eq]
  exact id

end Cert.Proof.Forward.CastOut

end
-- ==== Proof.Total.Run.lean ====
/-
  A program that is one all-reduce and launches no kernel: every run of it ends, with the fold of the group's operands on each
  device, the operands as they were, and every semaphore at zero.
-/
module

public import Idealize.ShloMosaic.Lib.Pipeline.CollectiveSegs
public import Idealize.ShloMosaic.Lib.Pipeline.Kit

@[expose] public section

set_option Elab.async false

noncomputable section

namespace Cert.Proof.Total

open Idealize.ShloMosaic Idealize.ShloMosaic.TcCoe Idealize.ShloMosaic.AllReduce Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

/-- The pipelines' resources, of which there are none, beside the all-reduce's. -/
abbrev UA (nD : Nat) (τ : Topo) (sig : RefSig) : Type := URounds (GSem nD τ sig) Unit × URounds (GSem nD τ sig) (Dev nD)

local notation "𝕄" => MT nD τ sig Unit Val ℕ (UA nD τ sig) ℕ

abbrev EA : Emb (URounds (GSem nD τ sig) (Dev nD)) (MT nD τ sig Unit Val ℕ (UA nD τ sig) ℕ) := embR

variable (P : Cfg nD τ sig Val)

/-! ## The order of the waits: the barrier first, then the slots -/

def L (g : GSem nD τ sig) : Finset Unit := if g.1.2 = .tc then {()} else ∅
def lv (g : GSem nD τ sig) (_ : Unit) : ℕ := if g.2 = .reg P.barrier then 0 else 1

theorem L_of_ne (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _

theorem mayWait_barrier (c : Dev nD) :
    (levAts L (lv P) : sProp 𝕄) ⊢ MayWait (c : Thread nD τ) (.reg P.barrier) () (0 + P.dataDue c ()) := by
  rw [zero_add]
  exact MayOwe.of_cut (lev := lv P) 0
    (fun p hp => by rw [Finset.mem_singleton.mp hp]; exact mem_L _ _ _)
    (fun g u hg => by obtain ⟨d, -, rfl, -⟩ := P.dataDue_pos hg; exact mem_L _ _ _)
    (fun p hp => by rw [Finset.mem_singleton.mp hp]; exact le_of_eq (if_pos rfl))
    (fun g u hg => by
      obtain ⟨d, -, rfl, -⟩ := P.dataDue_pos hg
      unfold lv; rw [if_neg (fun h => by cases h)]; exact Nat.zero_lt_one)

theorem mayWait_recv (c : Dev nD) : (levAts L (lv P) : sProp 𝕄) ⊢ MayWait (c : Thread nD τ) (.dma P.recv) () (0 : CellTallies nD τ sig Unit) := by
  rw [MayWait_zero]; iintro -; iempintro
theorem mayWait_send (c : Dev nD) : (levAts L (lv P) : sProp 𝕄) ⊢ MayWait (c : Thread nD τ) (.dma P.send) () (0 : CellTallies nD τ sig Unit) := by
  rw [MayWait_zero]; iintro -; iempintro

/-! ## The launch -/

variable (V : Dev nD → Valuation τ sig Val)

/-- What a device owes at launch: its signals and its transfers. -/
abbrev O₀ (c : Dev nD) : CellTallies nD τ sig Unit := P.due c () ()

abbrev dat : Dat Unit ℕ (UA nD τ sig) ℕ P := Dat.once P V

abbrev invs : sProp 𝕄 := iprop(∃ κ, (dat P V).cellInvs EA κ)

/-- The all-reduce's resources at launch, all with device `c₀`. -/
def G (c₀ c : Dev nD) : sProp 𝕄 := if c = c₀ then BI.own (EA (initOf P.cells (dat P V).launchToks)) else iprop(emp)

theorem bigSep_G (c₀ : Dev nD) : bigSep Finset.univ (G P V c₀) = (BI.own (EA (initOf P.cells (dat P V).launchToks)) : sProp 𝕄) := by
  rw [bigSep_univ_at _ c₀, bigSep_congr (s := Finset.univ.erase c₀) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The program's semaphores are the all-reduce's three. -/
def SemsAre : Prop := ∀ c : Dev nD,
  (unscopedSems0 c : sProp 𝕄) = iprop(semVal (P.barrierCell c) 0 ∗ semVal (P.recvCell c) 0 ∗ semVal (P.sendCell c) 0)

variable {Λ₀ : Labels} (pcs : Fin 0 → Pipeline.PCfg sig Λ₀ Val) (defs₀ : Defs nD τ sig Val Λ₀)

/-- The all-reduce as the program's one segment. -/
def seg [∀ e, Nonempty (Val e)] (hc : P.SlotCredit) (hN : 0 < P.amount) :
    Pipeline.HostSeg (Ix := Unit) (Name := ℕ) (U := UA nD τ sig) (Lvl := ℕ) pcs defs₀ Variants.none L (lv P) :=
  hostSegHeld₀ EA pcs defs₀ Variants.none L (lv P) hc hN V (fun _ => 0) () () () () ()
    (mayWait_barrier P) (mayWait_recv P) (mayWait_send P) (fun _ => invs P V)

/-- What the launch gives the devices becomes what each holds before the all-reduce. -/
theorem init [∀ e, Nonempty (Val e)] (hc : P.SlotCredit) (hN : 0 < P.amount) (hs : SemsAre P) (c₀ : Dev nD) (X : Dev nD → sProp 𝕄) :
    iprop((bigSep Finset.univ fun c : Dev nD => iprop(unscopedBufs c (fun b => V c (Proc.devRef .tc b)) ∗ unscopedSems0 c
          ∗ owes (c : Thread nD τ) (O₀ P c) ∅ ∗ Pipeline.launchCred (O₀ P) c ∗ X c ∗ G P V c₀ c)) ∗ levAts L (lv P))
      ⊢ (|={Set.univ}=> bigSep Finset.univ fun c : Dev nD => (seg P V pcs defs₀ hc hN).pre c : sProp 𝕄) := by
  have h₁ (c : Dev nD) : iprop(unscopedBufs c (fun b => V c (Proc.devRef .tc b)) ∗ unscopedSems0 c
        ∗ owes (c : Thread nD τ) (O₀ P c) ∅ ∗ Pipeline.launchCred (O₀ P) c ∗ X c ∗ G P V c₀ c)
      ⊢ iprop(((semVal (P.barrierCell c) 0 ∗ semVal (P.recvCell c) 0 ∗ semVal (P.sendCell c) 0)
            ∗ Pipeline.launchCred (fun d => P.due d () ()) c)
          ∗ G P V c₀ c ∗ (StableHlo.held (c : Thread nD τ) P.siteRefs (V c) ∗ owes (c : Thread nD τ) (O₀ P c) ∅)) := by
    rw [hs c, show unscopedBufs c (fun b => V c (Proc.devRef .tc b)) = StableHlo.held (c : Thread nD τ) (Pipeline.ucRefs τ sig) (V c)
        from Pipeline.unscopedBufs_held (Ix := Unit) (Name := ℕ) (U := UA nD τ sig) (Lvl := ℕ) c (V c),
      StableHlo.held_sub_split (c : Thread nD τ) P.siteRefs_sub_ucRefs (V c)]
    iintro ⟨⟨Hb, -⟩, Hs, HO, Hcr, -, HG⟩
    isplitl [Hs Hcr]; · isplitl [Hs] <;> iassumption
    isplitl [HG]; · iexact HG
    isplitl [Hb] <;> iassumption
  have h₂ (c : Dev nD) : iprop((dat P V).rides EA c () () ∗ (StableHlo.held (c : Thread nD τ) P.siteRefs (V c) ∗ owes (c : Thread nD τ) (O₀ P c) ∅))
      ⊢ (seg P V pcs defs₀ hc hN).pre c := by
    dsimp only [seg, hostSegHeld₀]
    unfold Dat.rides
    rw [zero_add]
    iintro ⟨⟨#Hi, Hr⟩, Hb, HO⟩
    isplitl [Hb]; · iexact Hb
    isplitl [Hr]
    · isplitr; · iexact Hi
      iexact Hr
    isplitl [HO]; · iexists ∅; iexact HO
    iexact Hi
  iintro ⟨H, -⟩
  ihave H' := (show _ ⊢ iprop((bigSep Finset.univ fun c : Dev nD => iprop((semVal (P.barrierCell c) 0 ∗ semVal (P.recvCell c) 0 ∗ semVal (P.sendCell c) 0)
          ∗ Pipeline.launchCred (fun d => P.due d () ()) c))
        ∗ bigSep Finset.univ (G P V c₀)
        ∗ bigSep Finset.univ fun c : Dev nD => iprop(StableHlo.held (c : Thread nD τ) P.siteRefs (V c) ∗ owes (c : Thread nD τ) (O₀ P c) ∅))
      from by rw [← bigSep_sep', ← bigSep_sep']; exact bigSep_mono fun c _ => h₁ c) $$ H
  icases H' with ⟨Hsc, HG, Hrest⟩
  ihave Hu := (Entails.of_eq (bigSep_G P V c₀)) $$ HG
  imod ((dat P V).fund_rides EA () () (Es := Set.univ)) $$ [Hsc Hu] with Hr
  · isplitl [Hsc] <;> iassumption
  imodintro
  iapply (show iprop((bigSep Finset.univ fun c : Dev nD => (dat P V).rides EA c () ())
        ∗ bigSep Finset.univ fun c : Dev nD => iprop(StableHlo.held (c : Thread nD τ) P.siteRefs (V c) ∗ owes (c : Thread nD τ) (O₀ P c) ∅))
      ⊢ bigSep Finset.univ fun c : Dev nD => (seg P V pcs defs₀ hc hN).pre c from by rw [← bigSep_sep']; exact bigSep_mono fun c _ => h₂ c)
  isplitl [Hr] <;> iassumption

/-! ## The run -/

/-- What a run leaves: on each device the fold of its group's operands, the operand as it was, every semaphore at zero. -/
theorem run_alone [∀ e, Nonempty (Val e)] (hc : P.SlotCredit) (hN : 0 < P.amount) (hs : SemsAre P) (c₀ : Dev nD)
    (hall : ∀ s : SemLoc sig, s.isScoped .tc = false → s = .reg P.barrier ∨ s = .dma P.recv ∨ s = .dma P.send)
    (main : Dev nD → Prog (TpuEff nD τ sig Val (Pipeline.Sig Λ₀ (Fin 0) fun p => (pcs p).Adm) .tc) PUnit)
    (hmain : ∀ c, main c = Pipeline.chain [StableHlo.allReduce P])
    (m : (ℓ : Loc nD τ sig) → Buf Val ℓ) (g : Dev nD → PrngReg) :
    θ_run (Pipeline.defs pcs defs₀) (onTc main) ⟨m, fun _ => 0, g⟩ fun r => (∀ c : Dev nD,
      r.2.mem ((c : Dev nD), (P.result : DevRef τ sig)) = P.toResult (P.foldGroup fun j => m ((P.peer c j : Dev nD), (P.operand : DevRef τ sig)))
        ∧ r.2.mem ((c : Dev nD), (P.operand : DevRef τ sig)) = m ((c : Dev nD), (P.operand : DevRef τ sig))) ∧ r.2.sem = fun _ => 0 := by
  let V : Dev nD → Valuation τ sig Val := fun s b => m ((s : Dev nD), b)
  let a : (p : Fin 0) → (pcs p).Adm := fun p => p.elim0
  let dats : (p : Fin 0) → (c : Dev nD) → Pipeline.Dat τ Val Unit ℕ (UA nD τ sig) ℕ (Pipeline.pin pcs a p) c := fun p => p.elim0
  let H := seg P V pcs defs₀ hc hN
  have hinj : Function.Injective (Pipeline.cellOf (nD := nD) (τ := τ) (Pipeline.pin pcs a)) := fun p _ _ => p.1.elim0
  refine Pipeline.θ_run_regions_kit_sems pcs a dats () hinj embL defs₀ Variants.none L (lv P) m g main [.host H]
    (fun c Q => by rw [show main c = Pipeline.Seg.run ([.host H] : List (Pipeline.Seg pcs a dats () defs₀ Variants.none L (lv P))) from hmain c])
    (by simp only [Pipeline.Seg.pipes_host, Pipeline.Seg.pipes_nil]; exact List.nodup_nil)
    (O₀ := O₀ P) (hL := L_of_ne) (G := G P V c₀)
    (u₀ := (initOf (Pipeline.cells (Pipeline.pin pcs a) hinj) (Pipeline.launchToks (Pipeline.pin pcs a) hinj), initOf P.cells (dat P V).launchToks))
    (hu₀ := by
      iintro Hu
      ihave H := (ownU_pair _ _) $$ Hu
      icases H with ⟨HP, HX⟩
      imodintro
      isplitl [HP]; · iexact HP
      rw [bigSep_G]; iexact HX)
    (T₀ := fun c => H.pre c)
    (Tₙ := fun c => iprop(StableHlo.held (c : Thread nD τ) P.siteRefs (P.after₀ V c) ∗ (invs P V ∗ P.ghostAfter EA c 0)))
    (hch := ⟨fun c => .rfl, fun c => by
      show iprop(StableHlo.held (c : Thread nD τ) P.siteRefs (P.after₀ V c) ∗ P.ghostAfter EA c 0 ∗ (∃ W, owes (c : Thread nD τ) (0 : CellTallies nD τ sig Unit) W) ∗ invs P V) ⊢ _
      iintro ⟨Hh, Hg, HO, Hi⟩
      isplitr [HO]; swap; · iexact HO
      isplitl [Hh]; · iexact Hh
      isplitl [Hi] <;> iassumption⟩)
    (hinit := init P V pcs defs₀ hc hN hs c₀ fun c => prngReg c (g c))
    (QY := fun c s => (s.mem ((c : Dev nD), (P.result : DevRef τ sig)) = P.after₀ V c P.result ∧ s.mem ((c : Dev nD), (P.operand : DevRef τ sig)) = P.after₀ V c P.operand)
      ∧ s.sem (P.barrierCell c) = 0 ∧ s.sem (P.recvCell c) = 0 ∧ s.sem (P.sendCell c) = 0)
    (hfin := fun c s' => by
      refine Laws.pure_elim _ ((sep_mono_left sep_elim_left).trans (sep_comm.1.trans (SI_pointsTo_bufs_agree (qs := fun _ => fullShare) P.siteRefs))) fun h => ?_
      iintro ⟨⟨-, He⟩, HSI⟩
      imod ((dat P V).ghostAfter_read EA c (k := 0) le_rfl s') $$ [He HSI] with ⟨%hz, HSI⟩
      · isplitl [He] <;> iassumption
      imodintro
      isplitr; · ipureintro; exact ⟨⟨h _ P.result_mem_siteRefs, h _ P.operand_mem_siteRefs⟩, hz⟩
      iexact HSI)
    (hQ := fun s h hz => ⟨fun c => ⟨(h c).1.1.trans (P.after₀_result V c), (h c).1.2.trans (P.after₀_operand V c)⟩, sem_eq_zero hz fun c s hs => by
      rcases hall s hs with rfl | rfl | rfl
      exacts [(h c).2.1, (h c).2.2.1, (h c).2.2.2]⟩)

end Cert.Proof.Total

end
-- ==== Proof.Total.lean ====
/-
  The loss over all devices: every device ends with the sum of the devices' losses.
-/
module

public import proofs.«01_k».proof.Proof.Total.Run
public import proofs.«01_k».proof.Proof.Gen.Total
public import proofs.«01_k».proof.Proof.Gen.TotalIdeal
public import proofs.«01_k».proof.Proof.Gen.TotalReferenceIdeal
public import Idealize.ShloMosaic.Lib.Pipeline.ValueKit

@[expose] public section

set_option Elab.async false

noncomputable section

open Idealize.ShloMosaic Idealize.ShloMosaic.TcCoe Idealize.SL.BI Idealize.SL.Sem

/-! ## The run, on bits and on ideal values -/

namespace Cert.Proof.Total.OnBits

open Cert.Total Cert.Total.Gen

variable {F : FTy → Type} [FloatOps F]

theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c : Thread nD τ).loc main_arg0) = m ((c : Thread nD τ).loc main_arg0)) ∧ r.2.sem = fun _ => 0 :=
  θ_run_mono (run_alone (ar0 (F := F)) pcfgs defs₀ (fun j => by fin_cases j <;> rfl)
      (View.dmaCredit_pos _ (by show 0 < (main_arg0 : Ref sig .tc).ty.shape.numel; decide))
      (fun c => by unfold unscopedSems0; rw [bigSep_eq_bigSepL_of_eq [SemLoc.reg ar0_barrier, .dma ar0_recv, .dma ar0_send] (by decide) (by decide)]; rfl)
      0 (show ∀ s : SemLoc sig, s.isScoped .tc = false → s = .reg ar0_barrier ∨ s = .dma ar0_recv ∨ s = .dma ar0_send by decide) main (fun c => rfl) m g)
    fun r h => ⟨fun c => (h.1 c).2, h.2⟩

end Cert.Proof.Total.OnBits

namespace Cert.Proof.Total

open Cert.TotalIdeal Cert.TotalIdeal.Gen

/-- The sum of what the devices hold. -/
def overDevices (x : Fin 8 → S1.Idx → EReal) : S1.Idx → EReal := fun i => ∑ j : Fin 8, x j i

theorem run (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c : Thread nD τ).loc main_v1) = overDevices (fun j => m (((j : Dev nD) : Thread nD τ).loc main_arg0))
        ∧ r.2.mem ((c : Thread nD τ).loc main_arg0) = m ((c : Thread nD τ).loc main_arg0)) ∧ r.2.sem = fun _ => 0 :=
  θ_run_mono (run_alone (ar0 (F := Ideal)) pcfgs defs₀ (fun j => by fin_cases j <;> rfl)
      (View.dmaCredit_pos _ (by show 0 < (main_arg0 : Ref sig .tc).ty.shape.numel; decide))
      (fun c => by unfold unscopedSems0; rw [bigSep_eq_bigSepL_of_eq [SemLoc.reg ar0_barrier, .dma ar0_recv, .dma ar0_send] (by decide) (by decide)]; rfl)
      0 (show ∀ s : SemLoc sig, s.isScoped .tc = false → s = .reg ar0_barrier ∨ s = .dma ar0_recv ∨ s = .dma ar0_send by decide) main (fun c => rfl) m g)
    fun r h => ⟨fun c => ⟨(h.1 c).1.trans (funext fun i => by
      unfold overDevices; rw [Fin.sum_univ_eight]; fin_cases c <;> rfl), (h.1 c).2⟩, h.2⟩

end Cert.Proof.Total

/-! ## The reference -/

namespace Cert.Proof.Total

open Cert.TotalReferenceIdeal Cert.TotalReferenceIdeal.Gen

/-- The sum of an array of eight. -/
def ofAll (x : S8.Idx → EReal) : S1.Idx → EReal := fun _ => ∑ j : Fin 8, x (ix1 j)

theorem run_reference (m : (ℓ : Loc nD τ sig) → Buf (Elt Ideal) ℓ) (g : Dev nD → PrngReg) :
    θ_run (defs (F := Ideal)) (onTc (τ := τ) (main (F := Ideal))) ⟨m, fun _ => 0, g⟩ fun r =>
      r.2.mem (((0 : Dev nD) : Thread nD τ).loc main_v1) = ofAll (m (((0 : Dev nD) : Thread nD τ).loc main_arg0))
      ∧ r.2.mem (((0 : Dev nD) : Thread nD τ).loc main_arg0) = m (((0 : Dev nD) : Thread nD τ).loc main_arg0) := by
  hlo_run
  funext i
  pointwise [ofAll]

/-- What the devices hold, one block of the array each, sums to the sum of the array. -/
theorem over_blocks {x : Fin 8 → S1.Idx → EReal} {y : S8.Idx → EReal} (h : ∀ c : Fin 8, x c = Layout.block ⟨1, ![1]⟩ ⟨1, ![8]⟩ 0 8 c y) :
    overDevices x = ofAll y := by
  funext i
  refine Finset.sum_congr rfl fun j _ => ?_
  rw [h j, Layout.block_apply]
  refine congrArg y (funext fun a => Fin.ext ?_)
  have hi : (i 0).val = 0 := Nat.lt_one_iff.mp (i 0).isLt
  obtain rfl : a = 0 := Subsingleton.elim _ _
  simp [Layout.Tiles.idx, ix1, hi]

end Cert.Proof.Total

end
-- ==== Proof.Exchange.Net.lean ====
/-
  A NET of transfers, all in HBM: what a kernel that only moves data does. On every device it starts local copies,
  sends over its channels, waits for each channel's two ends and then for its local copies. The four communicating calls
  of the training step are nets; what is proved about nets is in the other modules of this directory.
-/
module

public import Idealize.ShloMosaic.Lib.StableHlo
public import Idealize.ShloMosaic.Lib.Tactic
public import Idealize.ShloMosaic.Lib.Rounds
public import Idealize.ShloMosaic.Lib.Pipeline.Launch
public import Idealize.ShloMosaic.Lib.Pipeline.Kit
public import Idealize.ShloMosaic.Lib.Pipeline.Regions
public import Idealize.ShloMosaic.Adequacy
public import Idealize.ShloMosaic.Init

@[expose] public section

noncomputable section

namespace Cert.Exchange

open Idealize.ShloMosaic Idealize.ShloMosaic.TcCoe Idealize.SL Idealize.SL.Sem

/-- The two ends of one transfer. The device the destination lies on is not said here. -/
structure Wire (sig : RefSig) where
  s : Shape
  e : EltTy
  src : Memref sig .tc .hbm s e
  dst : Memref sig .tc .hbm s e
  hsrc : src.view.WordExact
  hdst : dst.view.WordExact
  hsc : dst.view.ref.isScScratch = false

/-- A memref of any shape, naming the amount a wait takes. -/
structure End (sig : RefSig) where
  s : Shape
  e : EltTy
  mem : Memref sig .tc .hbm s e

/-- The channels `J` and the local copies `I` of a kernel, as every device has them. -/
structure Net (nD : Nat) (sig : RefSig) (J I : Type) where
  /-- The transfer device `d` starts. -/
  wire : Dev nD → J ⊕ I → Wire sig
  /-- The device at the other end of channel `j`. -/
  peer : J → Dev nD → Dev nD
  sendSem : J → DmaSem sig
  recvSem : J → DmaSem sig
  copySem : I → DmaSem sig
  /-- What the waits name. -/
  sent : Dev nD → J → End sig
  got : Dev nD → J → End sig
  copied : Dev nD → I → End sig
  /-- The order in which the kernel goes through them. -/
  channels : List J
  copies : List I

section Ops

variable {nD : Nat} {τ : Topo} {sig : RefSig} {Val : EltTy → Type} {Λ : Labels}

def startOp (w : Wire sig) (x : DmaSem sig) : TpuEff nD τ sig Val Λ .tc PUnit :=
  .enqueueDma w.src (.here w.dst) (.dma x) w.hsrc w.hdst ⟨Or.inl rfl, trivial⟩

def sendOp (w : Wire sig) (d : Dev nD) (xs xr : DmaSem sig) : TpuEff nD τ sig Val Λ .tc PUnit :=
  .enqueueDma w.src (.remote (Dev.tc d) w.dst (.dma xs) w.hsc) (.dma xr) w.hsrc w.hdst ⟨⟨rfl, Or.inl rfl⟩, trivial⟩

def waitOp (x : DmaSem sig) (t : End sig) : TpuEff nD τ sig Val Λ .tc PUnit :=
  .waitDma x t.mem.view.ref t.s t.e (.inr t.mem.hasMemref)

/-- A list of effects with no results, one after the other. -/
def runOps : List (TpuEff nD τ sig Val Λ .tc PUnit) → Prog (TpuEff nD τ sig Val Λ .tc) PUnit
  | [] => .ret ⟨⟩
  | e :: l => .op e fun _ => runOps l

variable {J I : Type} (N : Net nD sig J I)

/-- What the kernel does on device `d`. -/
def Net.ops (d : Dev nD) : List (TpuEff nD τ sig Val Λ .tc PUnit) :=
  N.copies.map (fun i => startOp (N.wire d (.inr i)) (N.copySem i))
    ++ (N.channels.map (fun j => sendOp (N.wire d (.inl j)) (N.peer j d) (N.sendSem j) (N.recvSem j))
    ++ (N.channels.flatMap (fun j => [waitOp (N.sendSem j) (N.sent d j), waitOp (N.recvSem j) (N.got d j)])
    ++ N.copies.map (fun i => waitOp (N.copySem i) (N.copied d i))))

/-- The kernel: it asks which device it is on and goes through its transfers. -/
def Net.prog : Prog (TpuEff nD τ sig Val Λ .tc) PUnit := .op .deviceId fun d => runOps (N.ops d)

end Ops

end Cert.Exchange
-- ==== Proof.Exchange.Protocol.lean ====
/-
  The protocol of a net. Every channel has a cell on the sender, which gives back the share of the source, and one on the
  receiver, which hands over the elements written; every local copy has one cell, which does both. Each cell has one duty,
  in round 0. Nothing is waited for before all transfers are under way, so at every wait the device owes nothing.
-/
module

public import proofs.«01_k».proof.Proof.Exchange.Net

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {J I : Type}

/-- The cells of a device: channels' sending ends, their receiving ends, local copies. -/
abbrev Key (J I : Type) : Type := J ⊕ (J ⊕ I)

namespace Net

variable (N : Net nD sig J I)

def sem : Key J I → DmaSem sig := Sum.elim N.sendSem (Sum.elim N.recvSem N.copySem)

/-- The device whose transfer `p` lands on device `c`. -/
def source (c : Dev nD) : J ⊕ I → Dev nD := Sum.elim (fun j => N.peer j c) (fun _ => c)

/-- What makes a net's kernel run to its end. -/
structure Sound (amount : J ⊕ I → ℕ) : Prop where
  peer_peer : ∀ j c, N.peer j (N.peer j c) = c
  sem_inj : Function.Injective N.sem
  amount_pos : ∀ p, 0 < amount p
  wire_credit : ∀ d p, (N.wire d p).dst.view.dmaCredit = amount p
  sent_credit : ∀ d j, (N.sent d j).mem.view.dmaCredit = amount (.inl j)
  got_credit : ∀ d j, (N.got d j).mem.view.dmaCredit = amount (.inl j)
  copied_credit : ∀ d i, (N.copied d i).mem.view.dmaCredit = amount (.inr i)
  channels_nodup : N.channels.Nodup
  channels_all : ∀ j, j ∈ N.channels
  copies_nodup : N.copies.Nodup
  copies_all : ∀ i, i ∈ N.copies

end Net

abbrev UU (nD : Nat) (τ : Topo) (sig : RefSig) : Type := UR sig nD τ × UR sig nD τ

variable {Val : EltTy → Type}

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

section

variable (N : Net nD sig J I) (amount : J ⊕ I → ℕ) (share : J ⊕ I → PosShare TreeShare)
variable (m : (ℓ : Loc nD τ sig) → Buf Val ℓ)

/-! ## Elements -/

/-- Device `c`'s share of the source of its transfer `p`. -/
abbrev srcPts (c : Dev nD) (p : J ⊕ I) : sProp 𝕄 :=
  (N.wire c p).src.view.loc (c : Thread nD τ) ↦[(N.wire c p).src.view.set]{share p} m ((N.wire c p).src.view.loc (c : Thread nD τ))

/-- Where device `d`'s transfer `p` lands on device `c`, as before the kernel. -/
abbrev slotPts (c d : Dev nD) (p : J ⊕ I) : sProp 𝕄 :=
  (N.wire d p).dst.view.loc (c : Thread nD τ) ↦[(N.wire d p).dst.view.set]{fullShare} m ((N.wire d p).dst.view.loc (c : Thread nD τ))

/-- What it leaves there. -/
def landed (c d : Dev nD) (p : J ⊕ I) : Buf Val ((N.wire d p).dst.view.loc (c : Thread nD τ)) :=
  (N.wire d p).dst.view.write Val (m ((N.wire d p).dst.view.loc (c : Thread nD τ)))
    ((N.wire d p).src.view.read Val (m ((N.wire d p).src.view.loc (d : Thread nD τ)))) Finset.univ

abbrev landPts (c d : Dev nD) (p : J ⊕ I) : sProp 𝕄 :=
  (N.wire d p).dst.view.loc (c : Thread nD τ) ↦[(N.wire d p).dst.view.set]{fullShare} landed N m c d p

instance srcPts_storable (c : Dev nD) (p : J ⊕ I) : BI.Storable (upEmb : UEmb _ 𝕄) (srcPts N share m c p) := inferInstance
instance landPts_storable (c d : Dev nD) (p : J ⊕ I) : BI.Storable (upEmb : UEmb _ 𝕄) (landPts N m c d p) := inferInstance

/-! ## The schedule -/

abbrev cell (c : Dev nD) (k : Key J I) : GSem nD τ sig := ((c : Thread nD τ), .dma (N.sem k))

def units : Key J I → ℕ := Sum.elim (fun j => amount (.inl j)) amount

def pay (c : Dev nD) : Key J I → sProp 𝕄
  | .inl j => srcPts N share m c (.inl j)
  | .inr (.inl j) => landPts N m c (N.peer j c) (.inl j)
  | .inr (.inr i) => iprop(landPts N m c c (.inr i) ∗ srcPts N share m c (.inr i))

instance pay_storable (c : Dev nD) (k : Key J I) : BI.Storable (upEmb : UEmb _ 𝕄) (pay N share m c k) := by
  rcases k with j | j | i <;> (unfold pay; infer_instance)

open Classical in
def schedule (hpos : ∀ p, 0 < amount p) : Rounds.Schedule (GSem nD τ sig) Unit 𝕄 where
  duties g r := if r = 0 ∧ g.1.2 = .tc ∧ ∃ k, g.2 = .dma (N.sem k) then {()} else ∅
  amount g _ _ := if h : ∃ k, g.2 = .dma (N.sem k) then units amount h.choose else 1
  payload g _ _ := if h : ∃ k, g.2 = .dma (N.sem k) then pay N share m g.1.1 h.choose else iprop(emp)
  amount_pos g r d _ := by
    split
    · rename_i h; generalize h.choose = k
      rcases k with j | p
      · exact hpos _
      · exact hpos _
    · exact Nat.one_pos

variable {amount}
variable (hN : N.Sound amount)

abbrev plan : Rounds.Schedule (GSem nD τ sig) Unit (MT nD τ sig Unit Val ℕ (UU nD τ sig) ℕ) := schedule N amount share m hN.amount_pos

instance payload_storable (hpos : ∀ p, 0 < amount p) (g : GSem nD τ sig) (r : ℕ) (d : Unit) :
    BI.Storable (upEmb : UEmb _ 𝕄) ((schedule N amount share m hpos).payload g r d) := by
  dsimp only [schedule]; split <;> infer_instance

include hN in
theorem choose_key (c : Dev nD) (k : Key J I) (h : ∃ k', (cell (τ := τ) N c k).2 = .dma (N.sem k')) : h.choose = k :=
  hN.sem_inj (SemLoc.dma.inj (h.choose_spec.symm.trans rfl))

theorem duties_cell (c : Dev nD) (k : Key J I) : (plan N share m hN).duties (cell N c k) 0 = {()} := if_pos ⟨rfl, rfl, k, rfl⟩
theorem duties_later (g : GSem nD τ sig) (r : ℕ) (hr : 1 ≤ r) : (plan N share m hN).duties g r = ∅ := if_neg fun h => by omega
theorem amount_cell (c : Dev nD) (k : Key J I) (u : Unit) : (plan N share m hN).amount (cell N c k) 0 u = units amount k := by
  have h : ∃ k', (cell (τ := τ) N c k).2 = .dma (N.sem k') := ⟨k, rfl⟩
  exact (dif_pos h).trans (by rw [choose_key N hN c k h])
theorem payload_cell (c : Dev nD) (k : Key J I) (u : Unit) : (plan N share m hN).payload (cell N c k) 0 u = pay N share m c k := by
  have h : ∃ k', (cell (τ := τ) N c k).2 = .dma (N.sem k') := ⟨k, rfl⟩
  exact (dif_pos h).trans (by rw [choose_key N hN c k h])
theorem expect_cell (c : Dev nD) (k : Key J I) : (plan N share m hN).expect (cell N c k) 0 = units amount k := by
  unfold Schedule.expect Schedule.amountOf; rw [duties_cell N share m hN, Finset.sum_singleton, amount_cell N share m hN]
theorem rest_cell (c : Dev nD) (k : Key J I) :
    bigSep ((plan N share m hN).duties (cell N c k) 0 \ ∅) (fun u => (plan N share m hN).payload (cell N c k) 0 u) = pay N share m c k := by
  rw [Finset.sdiff_empty, duties_cell N share m hN, bigSep_singleton, payload_cell N share m hN]
theorem unit_mem (c : Dev nD) (k : Key J I) : () ∈ (plan N share m hN).duties (cell N c k) 0 := by
  rw [duties_cell N share m hN]; exact Finset.mem_singleton_self _

/-! ## Lists of effects -/

/-- The separating conjunction along a list. -/
def along {A : Type} (P : A → sProp 𝕄) : List A → sProp 𝕄
  | [] => iprop(emp)
  | a :: l => iprop(P a ∗ along P l)

theorem along_eq {A : Type} [DecidableEq A] (P : A → sProp 𝕄) : ∀ l : List A, l.Nodup → along P l = bigSep l.toFinset P
  | [], _ => rfl
  | a :: l, h => by
    rw [List.nodup_cons] at h
    rw [along, along_eq P l h.2, List.toFinset_cons, bigSep_insert (by rw [List.mem_toFinset]; exact h.1)]; rfl

theorem runOps_cons {Λ : Labels} (e : TpuEff nD τ sig Val Λ .tc PUnit) (l : List (TpuEff nD τ sig Val Λ .tc PUnit)) :
    runOps (e :: l) = .op e fun _ => runOps l := rfl

variable {Λ : Labels} (defs : Defs nD τ sig Val Λ) (𝒱 : Variants) (bd : Option 𝒱.V) (c : Dev nD)

abbrev runs (l : List (TpuEff nD τ sig Val Λ .tc PUnit)) (Q : PUnit → sProp 𝕄) : sProp 𝕄 :=
  wp frame (wpE defs 𝒱 (c : Thread nD τ) bd) Set.univ (runOps l) Q

/-- A family of stretches, one for each element of a list, each turning its own resources `A a` into `B a` and a common
    state `S` over the list still to come into that over the rest. -/
theorem runs_flatMap {A : Type} {f : A → List (TpuEff nD τ sig Val Λ .tc PUnit)} {P B : A → sProp 𝕄} {S : List A → sProp 𝕄}
    {R : sProp 𝕄} [BI.Persistent R] {rest : List (TpuEff nD τ sig Val Λ .tc PUnit)} {Q : PUnit → sProp 𝕄}
    (h : ∀ a l rest, iprop(R ∗ P a ∗ S (a :: l)) ⊢ iprop(((B a ∗ S l) -∗ runs defs 𝒱 bd c rest Q) -∗ runs defs 𝒱 bd c (f a ++ rest) Q)) :
    ∀ l, iprop(R ∗ along P l ∗ S l) ⊢ iprop(((along B l ∗ S []) -∗ runs defs 𝒱 bd c rest Q) -∗ runs defs 𝒱 bd c (l.flatMap f ++ rest) Q)
  | [] => by
    rw [List.flatMap_nil, List.nil_append]
    unfold along
    iintro ⟨-, HA, HS⟩ Hk
    iapply Hk
    isplitl [HA]; · iexact HA
    iexact HS
  | a :: l => by
    rw [List.flatMap_cons, List.append_assoc]
    unfold along
    iintro ⟨#HR, ⟨HA, HAs⟩, HS⟩ Hk
    iapply (h a l (l.flatMap f ++ rest)) $$ [HA HS]
    · isplitr; · iexact HR
      isplitl [HA] <;> iassumption
    iintro ⟨HB, HS⟩
    iapply (runs_flatMap h l) $$ [HAs HS]
    · isplitr; · iexact HR
      isplitl [HAs] <;> iassumption
    iintro ⟨HBs, HS⟩
    iapply Hk
    isplitr [HS]
    · isplitl [HB] <;> iassumption
    · iexact HS

end

end Cert.Exchange
-- ==== Proof.Exchange.Body.lean ====
/-
  A net's kernel, run on one device: from its shares of the sources, the places its transfers land in, its tokens and its
  positions at its cells, to the places others' transfers landed in, everything it gave up, and its counters at zero.
-/
module

public import proofs.«01_k».proof.Proof.Exchange.Protocol

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {J I : Type} [Fintype J] [Fintype I] [DecidableEq J] [DecidableEq I]
variable {Val : EltTy → Type}

local notation "𝕄" => MT nD τ sig Unit Val ℕ (UU nD τ sig) ℕ

variable (N : Net nD sig J I) {amount : J ⊕ I → ℕ} (share : J ⊕ I → PosShare TreeShare)
variable (m : (ℓ : Loc nD τ sig) → Buf Val ℓ) (hN : N.Sound amount)

/-! ## What a device holds along the way -/

abbrev token (c : Dev nD) (k : Key J I) : sProp 𝕄 := dutyTok ER (cell N c k) 0 ()
abbrev position (c : Dev nD) (r : ℕ) (k : Key J I) : sProp 𝕄 := atPos ER (cell N c k) r (∅ : Finset Unit) 0
abbrev credit (amount : J ⊕ I → ℕ) (c : Dev nD) (k : Key J I) : sProp 𝕄 := cred (tallyAt (cell N c k) () (units amount k))

/-- Every cell's invariant, and that its round 0 is open. -/
def records (κ : Dev nD × Key J I → ℕ) : sProp 𝕄 :=
  bigSep Finset.univ fun x : Dev nD × Key J I =>
    iprop(cellInv ER (plan N share m hN) (κ x) (cell N x.1 x.2) ∗ reached ER (cell N x.1 x.2) 0)

instance records_persistent (κ : Dev nD × Key J I → ℕ) : BI.Persistent (records N share m hN κ) := by
  unfold records; infer_instance

theorem records_at (κ : Dev nD × Key J I → ℕ) (c : Dev nD) (k : Key J I) :
    records N share m hN κ ⊢ iprop(cellInv ER (plan N share m hN) (κ (c, k)) (cell N c k) ∗ reached ER (cell N c k) 0) :=
  bigSep_elim (Φ := fun x : Dev nD × Key J I => iprop(cellInv ER (plan N share m hN) (κ x) (cell N x.1 x.2) ∗ reached ER (cell N x.1 x.2) 0))
    (Finset.mem_univ (c, k))

def copyPre (c : Dev nD) (i : I) : sProp 𝕄 :=
  iprop(srcPts N share m c (.inr i) ∗ slotPts N m c c (.inr i) ∗ token N c (.inr (.inr i)))

def sendPre (c : Dev nD) (j : J) : sProp 𝕄 :=
  iprop(srcPts N share m c (.inl j) ∗ slotPts N m (N.peer j c) c (.inl j) ∗ token N c (.inl j) ∗ token N (N.peer j c) (.inr (.inl j)))

/-- What device `c` owes while the channels `l` are still to be sent over. -/
def debts (amount : J ⊕ I → ℕ) (c : Dev nD) (l : List J) : CellTallies nD τ sig Unit :=
  (l.map fun j => tallyAt (cell N (N.peer j c) (.inr (.inl j))) () (amount (.inl j))).sum

theorem debts_cons (c : Dev nD) (j : J) (l : List J) :
    debts (τ := τ) N amount c (j :: l) = debts N amount c l + tallyAt (cell N (N.peer j c) (.inr (.inl j))) () (amount (.inl j)) := by
  unfold debts; rw [List.map_cons, List.sum_cons, add_comm]

def owing (c : Dev nD) (O : CellTallies nD τ sig Unit) : sProp 𝕄 := iprop(∃ W, owes (c : Thread nD τ) O W)

def ends (c : Dev nD) (r : ℕ) (j : J) : sProp 𝕄 := iprop(position N c r (.inl j) ∗ position N c r (.inr (.inl j)))

def received (c : Dev nD) (j : J) : sProp 𝕄 :=
  iprop(srcPts N share m c (.inl j) ∗ landPts N m c (N.peer j c) (.inl j) ∗ ends N c 1 j)

def copyPost (c : Dev nD) (i : I) : sProp 𝕄 :=
  iprop((landPts N m c c (.inr i) ∗ srcPts N share m c (.inr i)) ∗ position N c 1 (.inr (.inr i)))

variable {Λ : Labels} (defs : Defs nD τ sig Val Λ) (𝒱 : Variants) (bd : Option 𝒱.V) (c : Dev nD)

variable (κ : Dev nD × Key J I → ℕ)

/-! ## The four kinds of steps -/

theorem step_copy (i : I) (O : List I → sProp 𝕄) (hO : ∀ l, O l = iprop(emp)) (l : List I) (rest : List (TpuEff nD τ sig Val Λ .tc PUnit)) (Q : PUnit → sProp 𝕄) :
    iprop(records N share m hN κ ∗ copyPre N share m c i ∗ O (i :: l))
      ⊢ iprop(((credit N amount c (.inr (.inr i)) ∗ O l) -∗ runs defs 𝒱 bd c rest Q)
          -∗ runs defs 𝒱 bd c ([startOp (N.wire c (.inr i)) (N.copySem i)] ++ rest) Q) := by
  rw [hO, hO]
  unfold copyPre
  iintro ⟨#HR, ⟨Hs, Hd, Ht⟩, -⟩ Hk
  ihave H := (records_at N share m hN κ c (.inr (.inr i))) $$ HR
  icases H with ⟨#Hi, #Hr⟩
  rw [List.singleton_append]
  unfold runs startOp
  rw [runOps_cons]
  iapply (Rounds.wp_copy_pointsTo 𝒱 ER (plan N share m hN) (c : Thread nD τ) bd (κ := κ (c, .inr (.inr i))) (r := 0) (d := ())
    (unit_mem N share m hN c (.inr (.inr i))) () (amount (.inr i)) (hN.wire_credit c (.inr i))
    (amount_cell N share m hN c (.inr (.inr i)) ()) (Entails.of_eq (payload_cell N share m hN c (.inr (.inr i)) ()).symm)) $$ [Hs Hd Ht]
  · isplitr; · iexact Hi
    isplitl [Hs]; · iexact Hs
    isplitl [Hd]; · iexact Hd
    isplitl [Ht]; · iexact Ht
    iexact Hr
  iintro Hc
  iapply Hk
  isplitl [Hc]; · iexact Hc
  iempintro

theorem step_send (hr : ∀ c c' : Dev nD, τ.routes (c : Thread nD τ) (c' : Thread nD τ) = true) (j : J) (l : List J) (rest : List (TpuEff nD τ sig Val Λ .tc PUnit)) (Q : PUnit → sProp 𝕄) :
    iprop(records N share m hN κ ∗ sendPre N share m c j ∗ owing c (debts N amount c (j :: l)))
      ⊢ iprop(((credit N amount c (.inl j) ∗ owing c (debts N amount c l)) -∗ runs defs 𝒱 bd c rest Q)
          -∗ runs defs 𝒱 bd c ([sendOp (N.wire c (.inl j)) (N.peer j c) (N.sendSem j) (N.recvSem j)] ++ rest) Q) := by
  unfold sendPre owing
  iintro ⟨#HR, ⟨Hs, Hd, Ht, Ht'⟩, ⟨%W, HO⟩⟩ Hk
  ihave H := (records_at N share m hN κ c (.inl j)) $$ HR
  icases H with ⟨#Hi, #Hr⟩
  ihave H' := (records_at N share m hN κ (N.peer j c) (.inr (.inl j))) $$ HR
  icases H' with ⟨#Hi', #Hr'⟩
  rw [List.singleton_append]
  unfold runs sendOp
  rw [runOps_cons]
  have hpay : landPts N m (N.peer j c) c (.inl j) ⊢ pay N share m (N.peer j c) (.inr (.inl j)) :=
    Entails.of_eq (by show _ = landPts N m (N.peer j c) (N.peer j (N.peer j c)) (.inl j); rw [hN.peer_peer j c])
  iapply (Rounds.wp_send_pointsTo 𝒱 ER (plan N share m hN) (c : Thread nD τ) bd (κ₁ := κ (c, .inl j)) (κ₂ := κ (N.peer j c, .inr (.inl j)))
    (r₁ := 0) (r₂ := 0) (d₁ := ()) (d₂ := ()) (unit_mem N share m hN c (.inl j)) (unit_mem N share m hN (N.peer j c) (.inr (.inl j)))
    () () (amount (.inl j)) (hN.wire_credit c (.inl j)) (amount_cell N share m hN c (.inl j) ()) (amount_cell N share m hN (N.peer j c) (.inr (.inl j)) ())
    (debts N amount c l) (debts_cons N c j l) (W := W)
    (Entails.of_eq (payload_cell N share m hN c (.inl j) ()).symm)
    (hpay.trans (Entails.of_eq (payload_cell N share m hN (N.peer j c) (.inr (.inl j)) ()).symm)) (hr := hr c (N.peer j c))) $$ [Hs Hd Ht Ht' HO]
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait at one of the device's own cells, with nothing owed. -/
theorem step_wait (k : Key J I) {P : sProp 𝕄} (hP : pay N share m c k = P) (t : End sig) (ht : t.mem.view.dmaCredit = units amount k) (rest : List (TpuEff nD τ sig Val Λ .tc PUnit)) (Q : PUnit → sProp 𝕄) :
    iprop(records N share m hN κ ∗ (credit N amount c k ∗ position N c 0 k) ∗ owing c 0)
      ⊢ iprop(((P ∗ position N c 1 k ∗ owing c 0) -∗ runs defs 𝒱 bd c rest Q)
          -∗ runs defs 𝒱 bd c (waitOp (N.sem k) t :: rest) Q) := by
  subst hP
  unfold owing
  iintro ⟨#HR, ⟨Hc, Hp⟩, ⟨%W, HO⟩⟩ Hk
  ihave H := (records_at N share m hN κ c k) $$ HR
  icases H with ⟨#Hi, -⟩
  unfold runs waitOp
  rw [runOps_cons]
  iapply (Rounds.wp_wait_rest_token 𝒱 ER (plan N share m hN) (c : Thread nD τ) bd (κ := κ (c, k)) (wpE_waitDma_eq 𝒱 (c : Thread nD τ) bd Set.univ)
      (Set.mem_univ _) () (O := 0) (W := W) (R := 0) (m := 0) (T := ∅)
      (by rw [Nat.zero_add]; exact ht.trans (expect_cell N share m hN c k).symm)) $$ [Hc HO Hp]
  · isplitr; · iexact Hi
    isplitl [Hc]
    · rw [show t.mem.view.ref.dmaCredit t.s t.e = units amount k from ht]; iexact Hc
    isplitl [HO]; · iexact HO
    isplitr; · rw [MayWait_zero]; iempintro
    iexact Hp
  rw [show ((c : Thread nD τ), SemLoc.dma (N.sem k)) = cell N c k from rfl, rest_cell N share m hN c k]
  iintro ⟨HO, Hp, -, Hpay⟩
  iapply Hk
  isplitl [Hpay]; · iexact Hpay
  isplitl [Hp]; · iexact Hp
  iexists _; iexact HO

def channelPre (amount : J ⊕ I → ℕ) (c : Dev nD) (j : J) : sProp 𝕄 :=
  iprop(credit N amount c (.inl j) ∗ credit N amount c (.inr (.inl j)) ∗ ends N c 0 j)

theorem step_channel (j : J) (l : List J) (rest : List (TpuEff nD τ sig Val Λ .tc PUnit)) (Q : PUnit → sProp 𝕄) :
    iprop(records N share m hN κ ∗ channelPre N amount c j ∗ owing c 0)
      ⊢ iprop(((received N share m c j ∗ owing c 0) -∗ runs defs 𝒱 bd c rest Q)
          -∗ runs defs 𝒱 bd c ([waitOp (N.sendSem j) (N.sent c j), waitOp (N.recvSem j) (N.got c j)] ++ rest) Q) := by
  unfold channelPre received ends
  iintro ⟨#HR, ⟨Hc, Hc', Hp, Hp'⟩, HO⟩ Hk
  iapply (step_wait N share m hN defs 𝒱 bd c κ (.inl j) (P := srcPts N share m c (.inl j)) rfl (N.sent c j) (hN.sent_credit c j) (waitOp (N.recvSem j) (N.got c j) :: rest) Q) $$ [Hc Hp HO]
  · isplitr; · iexact HR
    isplitl [Hc Hp]; · isplitl [Hc]; · iexact Hc
                       iexact Hp
    iexact HO
  iintro ⟨Hs, Hp, HO⟩
  iapply (step_wait N share m hN defs 𝒱 bd c κ (.inr (.inl j)) (P := landPts N m c (N.peer j c) (.inl j)) rfl (N.got c j) (hN.got_credit c j) rest Q) $$ [Hc' Hp' HO]
  · isplitr; · iexact HR
    isplitl [Hc' Hp']; · isplitl [Hc']; · iexact Hc'
                         iexact Hp'
    iexact HO
  iintro ⟨Hd, Hp', HO⟩
  iapply Hk
  isplitr [HO]
  · isplitl [Hs]; · iexact Hs
    isplitl [Hd]; · iexact Hd
    isplitl [Hp]; · iexact Hp
    iexact Hp'
  · iexact HO

def copyWait (amount : J ⊕ I → ℕ) (c : Dev nD) (i : I) : sProp 𝕄 :=
  iprop(credit N amount c (.inr (.inr i)) ∗ position N c 0 (.inr (.inr i)))

theorem step_copied (i : I) (l : List I) (rest : List (TpuEff nD τ sig Val Λ .tc PUnit)) (Q : PUnit → sProp 𝕄) :
    iprop(records N share m hN κ ∗ copyWait N amount c i ∗ owing c 0)
      ⊢ iprop(((copyPost N share m c i ∗ owing c 0) -∗ runs defs 𝒱 bd c rest Q)
          -∗ runs defs 𝒱 bd c ([waitOp (N.copySem i) (N.copied c i)] ++ rest) Q) := by
  unfold copyPost copyWait
  iintro ⟨#HR, Hc, HO⟩ Hk
  iapply (step_wait N share m hN defs 𝒱 bd c κ (.inr (.inr i)) (P := iprop(landPts N m c c (.inr i) ∗ srcPts N share m c (.inr i))) rfl (N.copied c i) (hN.copied_credit c i) rest Q) $$ [Hc HO]
  · isplitr; · iexact HR
    isplitl [Hc]; · iexact Hc
    iexact HO
  iintro ⟨Hs, Hp, HO⟩
  iapply Hk
  isplitr [HO]
  · isplitl [Hs]; · iexact Hs
    iexact Hp
  · iexact HO

/-! ## The kernel -/

theorem along_sep {A : Type} (P Q : A → sProp 𝕄) : ∀ l : List A, iprop(along P l ∗ along Q l) ⊢ along (fun a => iprop(P a ∗ Q a)) l
  | [] => by unfold along; iintro ⟨-, -⟩; iempintro
  | a :: l => by
    unfold along
    iintro ⟨⟨H1, H2⟩, H3, H4⟩
    isplitl [H1 H3]; · isplitl [H1]; · iexact H1
                       iexact H3
    iapply (along_sep P Q l)
    isplitl [H2]; · iexact H2
    iexact H4

theorem along_mono {A : Type} {P Q : A → sProp 𝕄} (h : ∀ a, P a ⊢ Q a) : ∀ l : List A, along P l ⊢ along Q l
  | [] => .rfl
  | a :: l => by unfold along; exact BIClass.sep_mono (h a) (along_mono h l)

/-- What device `c` holds before the kernel, the records apart. -/
def before (amount : J ⊕ I → ℕ) (c : Dev nD) : sProp 𝕄 :=
  iprop(along (copyPre N share m c) N.copies ∗ along (sendPre N share m c) N.channels
    ∗ along (fun j => iprop(credit N amount c (.inr (.inl j)) ∗ ends N c 0 j)) N.channels
    ∗ along (fun i => position N c 0 (.inr (.inr i))) N.copies)

/-- And after it. -/
def after (c : Dev nD) : sProp 𝕄 :=
  iprop(along (received N share m c) N.channels ∗ along (copyPost N share m c) N.copies)

theorem runs_net (hr : ∀ c c' : Dev nD, τ.routes (c : Thread nD τ) (c' : Thread nD τ) = true) (Q : PUnit → sProp 𝕄) :
    iprop(records N share m hN κ ∗ before N share m amount c ∗ owing c (debts N amount c N.channels))
      ⊢ iprop((∀ u, (after N share m c ∗ owing c 0) -∗ |={Set.univ}=> Q u) -∗ wp frame (wpE defs 𝒱 (c : Thread nD τ) bd) Set.univ (N.prog : Prog (TpuEff nD τ sig Val Λ .tc) PUnit) Q) := by
  unfold before after
  iintro ⟨#HR, ⟨H1, H2, H3, H4⟩, HO⟩ Hk
  unfold Net.prog
  rw [wp_deviceId]
  unfold Net.ops
  simp only [List.map_eq_flatMap, List.append_assoc]
  iapply (runs_flatMap defs 𝒱 bd c (S := fun _ => iprop(emp)) (fun i l rest => step_copy N share m hN defs 𝒱 bd c κ i (fun _ => iprop(emp)) (fun _ => rfl) l rest Q) N.copies) $$ [H1]
  · isplitr; · iexact HR
    isplitl [H1]; · iexact H1
    iempintro
  iintro ⟨C1, -⟩
  iapply (runs_flatMap defs 𝒱 bd c (S := fun l => owing c (debts N amount c l)) (fun j l rest => step_send N share m hN defs 𝒱 bd c κ hr j l rest Q) N.channels) $$ [H2 HO]
  · isplitr; · iexact HR
    isplitl [H2]; · iexact H2
    iexact HO
  iintro ⟨C2, HO⟩
  iapply (runs_flatMap defs 𝒱 bd c (S := fun _ => owing c 0) (fun j l rest => step_channel N share m hN defs 𝒱 bd c κ j l rest Q) N.channels) $$ [C2 H3 HO]
  · isplitr; · iexact HR
    isplitl [C2 H3]
    · iapply (along_sep (fun j => credit N amount c (.inl j)) (fun j => iprop(credit N amount c (.inr (.inl j)) ∗ ends N c 0 j)) N.channels)
      isplitl [C2]; · iexact C2
      iexact H3
    iexact HO
  iintro ⟨R2, HO⟩
  rw [← List.append_nil (N.copies.flatMap _)]
  iapply (runs_flatMap defs 𝒱 bd c (S := fun _ => owing c 0) (fun i l rest => step_copied N share m hN defs 𝒱 bd c κ i l rest Q) N.copies) $$ [C1 H4 HO]
  · isplitr; · iexact HR
    isplitl [C1 H4]
    · iapply (along_sep (fun i => credit N amount c (.inr (.inr i))) (fun i => position N c 0 (.inr (.inr i))) N.copies)
      isplitl [C1]; · iexact C1
      iexact H4
    iexact HO
  iintro ⟨R1, HO⟩
  unfold runs
  rw [show runOps ([] : List (TpuEff nD τ sig Val Λ .tc PUnit)) = .ret ⟨⟩ from rfl, wp_ret]
  iapply Hk
  isplitr [HO]
  · isplitl [R2]; · iexact R2
    iexact R1
  · iexact HO

end Cert.Exchange
-- ==== Proof.Exchange.Deal.lean ====
/-
  The two ends of a net's run, on all devices at once: what the launch deals out, made into what each device's kernel starts
  from, and what the kernel leaves, with its cells closed.
-/
module

public import proofs.«01_k».proof.Proof.Exchange.Body

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {J I : Type} [Fintype J] [Fintype I] [DecidableEq J] [DecidableEq I]
variable {Val : EltTy → Type}

local notation "𝕄" => MT nD τ sig Unit Val ℕ (UU nD τ sig) ℕ

variable (N : Net nD sig J I) {amount : J ⊕ I → ℕ} (share : J ⊕ I → PosShare TreeShare)
variable (m : (ℓ : Loc nD τ sig) → Buf Val ℓ) (hN : N.Sound amount)

theorem along_univ {A : Type} [Fintype A] [DecidableEq A] (P : A → sProp 𝕄) (l : List A) (hn : l.Nodup) (ha : ∀ a, a ∈ l) :
    along P l = bigSep Finset.univ P := by
  rw [along_eq P l hn, show l.toFinset = Finset.univ from Finset.eq_univ_iff_forall.mpr fun a => List.mem_toFinset.mpr (ha a)]

theorem bigSep_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem each {A : Type} [DecidableEq A] [Fintype A] {R : sProp 𝕄} [BI.Persistent R] {Φ Ψ : A → sProp 𝕄}
    (h : ∀ a, iprop(R ∗ Φ a) ⊢ iprop(|={Set.univ}=> Ψ a)) :
    iprop(R ∗ bigSep Finset.univ Φ) ⊢ iprop(|={Set.univ}=> bigSep Finset.univ Ψ) :=
  ((BIClass.sep_mono (BI.bigSep_of_persistent Finset.univ R) .rfl).trans
    (by rw [← bigSep_sep']; exact bigSep_mono fun a _ => h a)).trans (bigSep_fupd _ _)

/-- A device's shares of its sources, and the places transfers land in on it: as before the kernel, and as after it. -/
def supply (c : Dev nD) : sProp 𝕄 :=
  bigSep Finset.univ fun p : J ⊕ I => iprop(srcPts N share m c p ∗ slotPts N m c (N.source c p) p)
def outcome (c : Dev nD) : sProp 𝕄 :=
  bigSep Finset.univ fun p : J ⊕ I => iprop(srcPts N share m c p ∗ landPts N m c (N.source c p) p)

/-- A device's counters at zero. -/
def zeros (c : Dev nD) : sProp 𝕄 := bigSep Finset.univ fun k : Key J I => semVal (cell N c k) 0

/-! ## Closing -/

section Close

variable (c : Dev nD) (κ : Dev nD × Key J I → ℕ)

theorem close_cell (k : Key J I) :
    iprop(records N share m hN κ ∗ position N c 1 k) ⊢ iprop(|={Set.univ}=> semVal (cell N c k) 0) := by
  iintro ⟨#HR, Hp⟩
  ihave H := (records_at N share m hN κ c k) $$ HR
  icases H with ⟨#Hi, -⟩
  iapply (Rounds.cell_close ER (plan N share m hN) (Set.mem_univ (κ (c, k))) (fun h => h)
    fun r hr => duties_later N share m hN (cell N c k) r hr)
  isplitr; · iexact Hi
  iexact Hp

theorem close_channel (j : J) :
    iprop(records N share m hN κ ∗ received N share m c j)
      ⊢ iprop(|={Set.univ}=> iprop((srcPts N share m c (.inl j) ∗ landPts N m c (N.source c (.inl j)) (.inl j))
          ∗ (semVal (cell N c (.inl j)) 0 ∗ semVal (cell N c (.inr (.inl j))) 0))) := by
  unfold received ends
  iintro ⟨#HR, Hs, Hd, Hp, Hp'⟩
  imod (close_cell N share m hN c κ (.inl j)) $$ [Hp] with H1
  · isplitr; · iexact HR
    iexact Hp
  imod (close_cell N share m hN c κ (.inr (.inl j))) $$ [Hp'] with H2
  · isplitr; · iexact HR
    iexact Hp'
  imodintro
  isplitl [Hs Hd]
  · isplitl [Hs]; · iexact Hs
    iexact Hd
  isplitl [H1]; · iexact H1
  iexact H2

theorem close_copy (i : I) :
    iprop(records N share m hN κ ∗ copyPost N share m c i)
      ⊢ iprop(|={Set.univ}=> iprop((srcPts N share m c (.inr i) ∗ landPts N m c (N.source c (.inr i)) (.inr i))
          ∗ semVal (cell N c (.inr (.inr i))) 0)) := by
  unfold copyPost
  iintro ⟨#HR, ⟨Hd, Hs⟩, Hp⟩
  imod (close_cell N share m hN c κ (.inr (.inr i))) $$ [Hp] with H1
  · isplitr; · iexact HR
    iexact Hp
  imodintro
  isplitl [Hs Hd]
  · isplitl [Hs]; · iexact Hs
    iexact Hd
  iexact H1

theorem close : iprop(records N share m hN κ ∗ after N share m c) ⊢ iprop(|={Set.univ}=> iprop(outcome N share m c ∗ zeros N c)) := by
  unfold after outcome zeros
  rw [along_univ _ _ hN.channels_nodup hN.channels_all, along_univ _ _ hN.copies_nodup hN.copies_all,
    bigSep_sum, bigSep_sum, bigSep_sum]
  iintro ⟨#HR, H1, H2⟩
  imod (each (close_channel N share m hN c κ)) $$ [H1] with H1
  · isplitr; · iexact HR
    iexact H1
  imod (each (close_copy N share m hN c κ)) $$ [H2] with H2
  · isplitr; · iexact HR
    iexact H2
  imodintro
  simp only [bigSep_sep']
  icases H1 with ⟨⟨A1, A2⟩, A3, A4⟩
  icases H2 with ⟨⟨B1, B2⟩, B3⟩
  isplitl [A1 A2 B1 B2]
  · isplitl [A1 A2]
    · isplitl [A1]; · iexact A1
      iexact A2
    · isplitl [B1]; · iexact B1
      iexact B2
  isplitl [A3]; · iexact A3
  isplitl [A4]; · iexact A4
  iexact B3

end Close

/-! ## Dealing -/

include hN in
theorem cell_injective : Function.Injective fun x : Dev nD × Key J I => cell (τ := τ) N x.1 x.2 := by
  rintro ⟨c, k⟩ ⟨c', k'⟩ h
  have h1 : c = c' := congrArg (fun g : GSem nD τ sig => g.1.1) h
  have h2 : k = k' := hN.sem_inj (SemLoc.dma.inj (congrArg Prod.snd h))
  rw [h1, h2]

def allCells : Finset (GSem nD τ sig) := Finset.univ.map ⟨_, cell_injective N hN⟩
def allTokens : Finset (GSem nD τ sig × ℕ × Unit) :=
  Finset.univ.map ⟨fun x : Dev nD × Key J I => (cell N x.1 x.2, 0, ()), fun _ _ h => cell_injective N hN (congrArg Prod.fst h)⟩

/-- The protocol's state at launch: every cell before its round 0, every token unspent. -/
def seed : UR sig nD τ := initOf (allCells N hN) (allTokens N hN)

theorem bigSep_cells (Φ : GSem nD τ sig → sProp 𝕄) :
    bigSep (allCells N hN) Φ = bigSep Finset.univ fun c : Dev nD => bigSep Finset.univ fun k : Key J I => Φ (cell N c k) := by
  unfold allCells; rw [bigSep_map, bigSep_univ_prod]; rfl
theorem bigSep_tokens :
    bigSep (allTokens N hN) (fun x => (dutyTok ER x.1 x.2.1 x.2.2 : sProp 𝕄))
      = bigSep Finset.univ fun c : Dev nD => bigSep Finset.univ fun k : Key J I => token N c k := by
  unfold allTokens; rw [bigSep_map, bigSep_univ_prod]; rfl

include hN in
theorem source_source (c : Dev nD) : ∀ p : J ⊕ I, N.source (N.source c p) p = c
  | .inl j => hN.peer_peer j c
  | .inr _ => rfl

include hN in
/-- What every device holds for the device at the transfer's other end, handed to it. -/
theorem around (P : Dev nD → Dev nD → J ⊕ I → sProp 𝕄) :
    (bigSep Finset.univ fun c : Dev nD => bigSep Finset.univ fun p : J ⊕ I => P c (N.source c p) p)
      = bigSep Finset.univ fun c : Dev nD => bigSep Finset.univ fun p : J ⊕ I => P (N.source c p) c p := by
  let e : Dev nD × (J ⊕ I) ≃ Dev nD × (J ⊕ I) :=
    ⟨fun x => (N.source x.1 x.2, x.2), fun x => (N.source x.1 x.2, x.2),
      fun x => Prod.ext (source_source N hN x.1 x.2) rfl, fun x => Prod.ext (source_source N hN x.1 x.2) rfl⟩
  rw [← bigSep_univ_prod (fun x : Dev nD × (J ⊕ I) => P x.1 (N.source x.1 x.2) x.2),
    ← bigSep_univ_prod (fun x : Dev nD × (J ⊕ I) => P (N.source x.1 x.2) x.1 x.2),
    bigSep_univ_equiv e fun x => P x.1 (N.source x.1 x.2) x.2]
  refine bigSep_congr fun x _ => ?_
  show P (N.source x.1 x.2) (N.source (N.source x.1 x.2) x.2) x.2 = P (N.source x.1 x.2) x.1 x.2
  rw [source_source N hN]

/-- A device's own share of the dealing. -/
def hand (amount : J ⊕ I → ℕ) (c : Dev nD) : sProp 𝕄 :=
  iprop((bigSep Finset.univ fun p : J ⊕ I => srcPts N share m c p)
    ∗ (bigSep Finset.univ fun p : J ⊕ I => slotPts N m (N.source c p) c p)
    ∗ (bigSep Finset.univ fun p : J ⊕ I => token N (N.source c p) (.inr p))
    ∗ (bigSep Finset.univ fun j : J => token N c (.inl j))
    ∗ (bigSep Finset.univ fun k : Key J I => position N c 0 k)
    ∗ bigSep Finset.univ fun j : J => credit N amount c (.inr (.inl j)))

include hN in
theorem hand_before (c : Dev nD) : hand N share m amount c ⊢ before N share m amount c := by
  unfold hand before copyPre sendPre ends
  rw [along_univ _ _ hN.channels_nodup hN.channels_all, along_univ _ _ hN.copies_nodup hN.copies_all,
    along_univ _ _ hN.channels_nodup hN.channels_all, along_univ _ _ hN.copies_nodup hN.copies_all,
    bigSep_sum, bigSep_sum, bigSep_sum, bigSep_sum, bigSep_sum]
  simp only [bigSep_sep']
  iintro ⟨⟨A1, A2⟩, ⟨B1, B2⟩, ⟨C1, C2⟩, D, ⟨E1, E2, E3⟩, G⟩
  isplitl [A2 B2 C2]
  · isplitl [A2]; · iexact A2
    isplitl [B2]; · iexact B2
    iexact C2
  isplitl [A1 B1 C1 D]
  · isplitl [A1]; · iexact A1
    isplitl [B1]; · iexact B1
    isplitl [D]; · iexact D
    iexact C1
  isplitl [G E1 E2]
  · isplitl [G]; · iexact G
    isplitl [E1]; · iexact E1
    iexact E2
  iexact E3

/-- Device `c`'s kernel, ready to start. -/
def ready (c : Dev nD) : sProp 𝕄 := iprop(∃ κ, records N share m hN κ ∗ before N share m amount c)

theorem deal :
    iprop((bigSep Finset.univ fun c : Dev nD => iprop(zeros N c ∗ supply N share m c ∗ bigSep Finset.univ fun j : J => credit N amount c (.inr (.inl j))))
        ∗ BI.own (ER (seed N hN)))
      ⊢ (|={Set.univ}=> bigSep Finset.univ (ready N share m hN) : sProp 𝕄) := by
  have hinv : iprop((bigSep Finset.univ fun c : Dev nD => zeros N c)
        ∗ bigSep Finset.univ fun c : Dev nD => bigSep Finset.univ fun k : Key J I => roundState ER (plan N share m hN) (cell N c k) 0)
      ⊢ (|={Set.univ}=> ∃ κ : Dev nD × Key J I → ℕ, bigSep Finset.univ fun x : Dev nD × Key J I => cellInv ER (plan N share m hN) (κ x) (cell N x.1 x.2) : sProp 𝕄) := by
    unfold zeros
    rw [← bigSep_univ_prod (fun x : Dev nD × Key J I => (semVal (cell N x.1 x.2) 0 : sProp 𝕄)),
      ← bigSep_univ_prod (fun x : Dev nD × Key J I => (roundState ER (plan N share m hN) (cell N x.1 x.2) 0 : sProp 𝕄)), ← bigSep_sep']
    exact ((bigSep_mono fun x _ => (Rounds.body_intro ER (plan N share m hN) (cell N x.1 x.2)).trans inv_alloc).trans (bigSep_fupd _ _)).trans
      (BI.fupd_mono (BI.bigSep_exists_pi Finset.univ (fun (x : Dev nD × Key J I) (κ : ℕ) => (cellInv ER (plan N share m hN) κ (cell N x.1 x.2) : sProp 𝕄))))
  have hrec (κ : Dev nD × Key J I → ℕ) :
      iprop((bigSep Finset.univ fun x : Dev nD × Key J I => cellInv ER (plan N share m hN) (κ x) (cell N x.1 x.2))
          ∗ bigSep Finset.univ fun c : Dev nD => bigSep Finset.univ fun k : Key J I => reached ER (cell N c k) 0)
        ⊢ records N share m hN κ := by
    unfold records
    rw [bigSep_sep', bigSep_univ_prod (fun x : Dev nD × Key J I => (reached ER (cell N x.1 x.2) 0 : sProp 𝕄))]
  have hready (κ : Dev nD × Key J I → ℕ) :
      iprop(records N share m hN κ ∗ bigSep Finset.univ (hand N share m amount)) ⊢ bigSep Finset.univ (ready N share m hN) :=
    (BIClass.sep_mono (BI.bigSep_of_persistent Finset.univ (records N share m hN κ)) .rfl).trans (by
      rw [← bigSep_sep']
      refine bigSep_mono fun c _ => ?_
      show iprop(records N share m hN κ ∗ hand N share m amount c) ⊢ iprop(∃ κ, records N share m hN κ ∗ before N share m amount c)
      iintro ⟨HR, Hh⟩
      iexists κ
      isplitl [HR]; · iexact HR
      iapply (hand_before N share m hN c); iexact Hh)
  unfold seed
  iintro ⟨Hall, Hu⟩
  imod (Rounds.fund ER (plan N share m hN) (allCells N hN) (allTokens N hN)) $$ Hu with ⟨Hst, Hr, Hat, Htok⟩
  ihave Hst := (Entails.of_eq (bigSep_cells N hN fun g => roundState ER (plan N share m hN) g 0)) $$ Hst
  ihave Hat := (Entails.of_eq (bigSep_cells N hN fun g => atPos ER g 0 (∅ : Finset Unit) 0)) $$ Hat
  ihave Hr := (Entails.of_eq (bigSep_cells N hN fun g => reached ER g 0)) $$ Hr
  ihave Htok := (Entails.of_eq (bigSep_tokens N hN)) $$ Htok
  ihave Hall := (Entails.of_eq ((bigSep_sep' Finset.univ (fun c : Dev nD => (zeros N c : sProp 𝕄)) _).trans
    (congrArg _ (bigSep_sep' Finset.univ (fun c : Dev nD => (supply N share m c : sProp 𝕄)) _)))) $$ Hall
  icases Hall with ⟨Hz, Hs, Hc⟩
  imod hinv $$ [Hz Hst] with ⟨%κ, HI⟩
  · isplitl [Hz] <;> iassumption
  imodintro
  iapply (hready κ)
  isplitl [HI Hr]
  · iapply (hrec κ)
    isplitl [HI] <;> iassumption
  unfold hand supply
  simp only [bigSep_sep']
  ihave Htok := (Entails.of_eq ((bigSep_congr fun (c : Dev nD) _ => bigSep_sum fun k : Key J I => (token N c k : sProp 𝕄)).trans
    (bigSep_sep' Finset.univ _ _))) $$ Htok
  icases Hs with ⟨Hsrc, Hslot⟩
  icases Htok with ⟨Ht1, Ht2⟩
  ihave Hslot := (Entails.of_eq (around N hN fun c d p => (slotPts N m c d p : sProp 𝕄))) $$ Hslot
  ihave Ht2 := (Entails.of_eq (around N hN fun c _ p => (token N c (.inr p) : sProp 𝕄))) $$ Ht2
  isplitl [Hsrc]; · iexact Hsrc
  isplitl [Hslot]; · iexact Hslot
  isplitl [Ht2]; · iexact Ht2
  isplitl [Ht1]; · iexact Ht1
  isplitl [Hat]; · iexact Hat
  iexact Hc

end Cert.Exchange
-- ==== Proof.Exchange.Launch.lean ====
/-
  A program whose first region is a net's kernel: its launch, on all devices at once, and that region on one of them.
-/
module

public import proofs.«01_k».proof.Proof.Exchange.Deal

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {J I : Type} [Fintype J] [Fintype I] [DecidableEq J] [DecidableEq I]
variable {Val : EltTy → Type}

local notation "𝕄" => MT nD τ sig Unit Val ℕ (UU nD τ sig) ℕ

variable (N : Net nD sig J I) {amount : J ⊕ I → ℕ} (share : J ⊕ I → PosShare TreeShare)
variable (m : (ℓ : Loc nD τ sig) → Buf Val ℓ) (hN : N.Sound amount)

/-! ## What the devices owe each other -/

/-- What device `c` owes at launch: every channel's amount, on the device at its other end. -/
abbrev owed₀ (amount : J ⊕ I → ℕ) (c : Dev nD) : CellTallies nD τ sig Unit := debts N amount c N.channels

include hN in
theorem owed_at (d c : Dev nD) (j : J) :
    owed₀ (τ := τ) N amount d (cell N c (.inr (.inl j))) () = if d = N.peer j c then amount (.inl j) else 0 := by
  unfold owed₀ debts
  rw [← List.sum_toFinset _ hN.channels_nodup,
    show N.channels.toFinset = Finset.univ from Finset.eq_univ_iff_forall.mpr fun a => List.mem_toFinset.mpr (hN.channels_all a),
    Finset.sum_apply, Finsupp.finsetSum_apply, Finset.sum_eq_single j ?_ fun h => absurd (Finset.mem_univ j) h]
  · rw [tallyAt_apply]
    refine if_congr ⟨fun h => ?_, fun h => ?_⟩ rfl rfl
    · have h1 : c = N.peer j d := congrArg (fun g : GSem nD τ sig => g.1.1) h.1
      rw [h1, hN.peer_peer]
    · rw [h, hN.peer_peer]; exact ⟨rfl, rfl⟩
  · intro j' _ hj
    rw [tallyAt_apply, if_neg]
    rintro ⟨h, -⟩
    have h2 : (Sum.inr (Sum.inl j) : Key J I) = .inr (.inl j') := hN.sem_inj (SemLoc.dma.inj (congrArg Prod.snd h))
    exact hj (Sum.inl.inj (Sum.inr.inj h2)).symm

include hN in
theorem credit_at (c : Dev nD) (j : J) :
    tallyOn (cell (τ := τ) N c (.inr (.inl j))) (launchCredit (Pipeline.owing (owed₀ N amount)) 0 (cell (τ := τ) N c (.inr (.inl j))))
      = (tallyAt (cell N c (.inr (.inl j))) () (amount (.inl j)) : CellTallies nD τ sig Unit) := by
  unfold tallyAt
  refine congrArg _ (Finsupp.ext fun u => ?_)
  cases u
  rw [Pipeline.launchCredit_owing, Finsupp.single_eq_same, Finset.sum_congr rfl fun d _ => owed_at N hN d c j,
    Finset.sum_ite_eq' Finset.univ (N.peer j c) fun _ => amount (.inl j), if_pos (Finset.mem_univ _)]

include hN in
theorem credits (c : Dev nD) :
    (Pipeline.launchCred (owed₀ N amount) c : sProp 𝕄) ⊢ bigSep Finset.univ fun j : J => credit N amount c (.inr (.inl j)) := by
  classical
  have hinj : Function.Injective fun j : J => (SemLoc.dma (N.recvSem j) : SemLoc sig) := fun j j' h => by
    have h2 : (Sum.inr (Sum.inl j) : Key J I) = .inr (.inl j') := hN.sem_inj (SemLoc.dma.inj h)
    exact Sum.inl.inj (Sum.inr.inj h2)
  unfold Pipeline.launchCred
  refine (bigSep_subset (Finset.subset_univ (Finset.univ.map ⟨_, hinj⟩))).trans ?_
  rw [bigSep_map]
  exact bigSep_mono fun j _ => Entails.of_eq (congrArg cred (credit_at N hN c j))

/-! ## The launch -/

variable {Λ₀ : Labels} {P : Type} [Fintype P] [DecidableEq P] [∀ e, Nonempty (Val e)]
variable (cfgs : P → Pipeline.Cfg sig Λ₀) (phinj : Function.Injective (Pipeline.cellOf (nD := nD) (τ := τ) cfgs)) (p : P)
variable (defs₀ : Defs nD τ sig Val Λ₀) (𝒱₀ : Variants)
variable (hw : Pipeline.WinFacts₀ (cfgs p).spec) (ho : Pipeline.OwnSemFacts (cfgs p).spec fun k : Key J I => SemLoc.dma (N.sem k))

abbrev pcs : P → Pipeline.PCfg sig Λ₀ Val := fun p => (cfgs p).toPCfg
abbrev adm : (p : P) → (pcs (Val := Val) cfgs p).Adm := fun p => (cfgs p).toPCfg_adm

/-- The pipelines' own ghost state on device `c`, for the pipelines `S`. -/
def ghostOn (S : Finset P) (c : Dev nD) : sProp 𝕄 :=
  bigSep S fun p' => iprop(Pipeline.cellsGhost cfgs EP p' c ∗ Pipeline.toksInit cfgs EP p' c)

/-- A device's boundary holdings, its net's counters apart. -/
def bounds (c : Dev nD) : sProp 𝕄 :=
  iprop(scopedBufs (c : Thread nD τ) ∗ Pipeline.cellsSems0 cfgs p c ∗ Pipeline.idleSems0 cfgs phinj p ho c ∗ opIdle (c : Thread nD τ))

include hw in
theorem boundary_eq (c : Dev nD) :
    (boundary (c : Thread nD τ) : sProp 𝕄) ⊣⊢ iprop(bounds N cfgs phinj p ho c ∗ zeros N c) := by
  have hss := Pipeline.scopedSems0_split cfgs phinj p hw ho (Ix := Unit) (Val := Val) (Name := ℕ) (U := UU nD τ sig) (Lvl := ℕ) c
  constructor
  · refine (show (boundary (c : Thread nD τ) : sProp 𝕄)
      ⊢ iprop(scopedBufs (c : Thread nD τ) ∗ ((Pipeline.cellsSems0 cfgs p c ∗ zeros N c) ∗ Pipeline.idleSems0 cfgs phinj p ho c) ∗ opIdle (c : Thread nD τ)) from by
        unfold boundary; rw [hss]; exact .rfl).trans ?_
    unfold bounds
    iintro ⟨H1, ⟨⟨H2, H3⟩, H4⟩, H5⟩
    isplitr [H3]
    · isplitl [H1]; · iexact H1
      isplitl [H2]; · iexact H2
      isplitl [H4]; · iexact H4
      iexact H5
    iexact H3
  · refine BIBase.Entails.trans ?_ (show iprop(scopedBufs (c : Thread nD τ) ∗ ((Pipeline.cellsSems0 cfgs p c ∗ zeros N c) ∗ Pipeline.idleSems0 cfgs phinj p ho c) ∗ opIdle (c : Thread nD τ))
      ⊢ (boundary (c : Thread nD τ) : sProp 𝕄) from by unfold boundary; rw [hss]; exact .rfl)
    unfold bounds
    iintro ⟨⟨H1, H2, H4, H5⟩, H3⟩
    isplitl [H1]; · iexact H1
    isplitr [H5]
    · isplitr [H4]
      · isplitl [H2]; · iexact H2
        iexact H3
      iexact H4
    iexact H5

/-- Device `c` at the start of @main. -/
def launched (rest : Dev nD → sProp 𝕄) (c : Dev nD) : sProp 𝕄 :=
  iprop(bounds N cfgs phinj p ho c ∗ ready N share m hN c ∗ owing c (owed₀ N amount c) ∗ rest c ∗ ghostOn cfgs Finset.univ c)

/-- The pipelines' and the net's state at launch. -/
def start : UU nD τ sig := (initOf (Pipeline.cells cfgs phinj) (Pipeline.launchToks cfgs phinj), seed N hN)

include hw in
theorem launch_devices (g : Dev nD → PrngReg) (rest : Dev nD → sProp 𝕄)
    (hsplit : ∀ c, unscopedBufs c (fun b => m ((c : Thread nD τ).loc b)) ⊢ iprop(supply N share m c ∗ rest c)) :
    iprop((bigSep Finset.univ fun c : Dev nD =>
          coreInit (Ix := Unit) (Name := ℕ) (U := UU nD τ sig) (Lvl := ℕ) (Pipeline.owing (owed₀ N amount)) 0 (⟨m, fun _ => 0, g⟩ : MemSt nD τ sig Val) (c : Thread nD τ))
        ∗ ownU (start N hN cfgs phinj))
      ⊢ (|={Set.univ}=> bigSep Finset.univ (launched N share m hN cfgs phinj p ho rest) : sProp 𝕄) := by
  have hcore : (bigSep Finset.univ fun c : Dev nD =>
          coreInit (Ix := Unit) (Name := ℕ) (U := UU nD τ sig) (Lvl := ℕ) (Pipeline.owing (owed₀ N amount)) 0 (⟨m, fun _ => 0, g⟩ : MemSt nD τ sig Val) (c : Thread nD τ))
        ⊢ iprop((bigSep Finset.univ fun c : Dev nD => iprop(zeros N c ∗ supply N share m c ∗ bigSep Finset.univ fun j : J => credit N amount c (.inr (.inl j))))
            ∗ (bigSep Finset.univ fun c : Dev nD => bounds N cfgs phinj p ho c)
            ∗ (bigSep Finset.univ fun c : Dev nD => owing c (owed₀ N amount c))
            ∗ (bigSep Finset.univ rest) : sProp 𝕄) := by
    rw [← bigSep_sep', ← bigSep_sep', ← bigSep_sep']
    refine bigSep_mono fun c _ => (Pipeline.coreInit_boundary_owing (owed₀ N amount) m g c).trans ?_
    show _ ⊢ iprop((zeros N c ∗ supply N share m c ∗ bigSep Finset.univ fun j : J => credit N amount c (.inr (.inl j)))
      ∗ bounds N cfgs phinj p ho c ∗ owing c (owed₀ N amount c) ∗ rest c)
    iintro ⟨Hb, Hub, -, HL, -, -, Hcr⟩
    ihave Hb := (boundary_eq N cfgs phinj p hw ho c).1 $$ Hb
    icases Hb with ⟨Hb, Hz⟩
    ihave Hs := (hsplit c) $$ Hub
    icases Hs with ⟨Hs, Hrest⟩
    ihave Hcr := (credits N hN c) $$ Hcr
    isplitl [Hz Hs Hcr]
    · isplitl [Hz]; · iexact Hz
      isplitl [Hs]; · iexact Hs
      iexact Hcr
    isplitl [Hb]; · iexact Hb
    isplitl [HL]
    · unfold owing; iexists ∅; iexact HL
    iexact Hrest
  have hghost : iprop((bigSep Finset.univ fun c : Dev nD => bigSep Finset.univ fun p' => Pipeline.cellsGhost cfgs EP p' c)
        ∗ (bigSep Finset.univ fun c : Dev nD => bigSep Finset.univ fun p' => (Pipeline.toksInit cfgs EP p' c : sProp 𝕄)))
      ⊢ bigSep Finset.univ fun c : Dev nD => ghostOn cfgs Finset.univ c := by
    rw [← bigSep_sep']
    refine bigSep_mono fun c _ => ?_
    unfold ghostOn
    rw [bigSep_sep']
    exact BI.Entails.refl _
  unfold start
  iintro ⟨Hcores, Hu⟩
  ihave H := hcore $$ Hcores
  icases H with ⟨Hd, Hb, HO, Hrest⟩
  ihave Hu := (ownU_pair _ _) $$ Hu
  icases Hu with ⟨HP, HX⟩
  imod (Pipeline.fund_ghost cfgs EP phinj) $$ HP with ⟨Hg, Ht⟩
  imod (deal N share m hN) $$ [Hd HX] with Hready
  · isplitl [Hd]; · iexact Hd
    iexact HX
  imodintro
  unfold launched
  simp only [bigSep_sep']
  isplitl [Hb]; · iexact Hb
  isplitl [Hready]; · iexact Hready
  isplitl [HO]; · iexact HO
  isplitl [Hrest]; · iexact Hrest
  iapply hghost
  isplitl [Hg]; · iexact Hg
  iexact Ht

include hw in
/-- A program that every device, launched, runs to the boundary with `Tₙ` in hand, and nothing owed. -/
theorem run_launched (g : Dev nD → PrngReg)
    (main : Dev nD → Prog (TpuEff nD τ sig Val (Pipeline.Sig Λ₀ P fun p => (pcs (Val := Val) cfgs p).Adm) .tc) PUnit)
    (rest Tₙ : Dev nD → sProp 𝕄)
    (hsplit : ∀ c, unscopedBufs c (fun b => m ((c : Thread nD τ).loc b)) ⊢ iprop(supply N share m c ∗ rest c))
    (hmain : ∀ c, launched N share m hN cfgs phinj p ho rest c
      ⊢ wp frame (wpE (Pipeline.defs (pcs cfgs) defs₀) (Variants.lift 𝒱₀) (c : Thread nD τ) none) Set.univ (main c)
          fun _ => iprop((Tₙ c ∗ boundary (c : Thread nD τ)) ∗ owing c 0))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (pcs cfgs) defs₀) (onTc main) ⟨m, fun _ => 0, g⟩ Q := by
  classical
  let fin : Dev nD → sProp 𝕄 := fun c => iprop(Tₙ c ∗ boundary (c : Thread nD τ))
  refine (θ_run (Pipeline.defs (pcs cfgs) defs₀) _ _).mono (Q := fun r => (∀ c : Dev nD, QY c r.2 ∧ ∀ sm : SemLoc sig, sm.isScoped .tc = true → r.2.sem ((c : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs (pcs cfgs) defs₀) _ _ _
      (reflect_intro_fupd_tc_sems (X := Unit) (Variants.lift 𝒱₀) (Pipeline.owing (owed₀ N amount)) 0 (noBookings fun _ => le_rfl)
        (Pipeline.owing_of_ne (owed₀ N amount)) (start N hN cfgs phinj)
        (fun _ => launched N share m hN cfgs phinj p ho rest) (fun _ => fin) (fun _ => iprop(emp)) Set.univ ?_ (fun _ c => ?_) fun _ => ?_))
  · refine (launch_devices N share m hN cfgs phinj p hw ho g rest hsplit).trans (BI.fupd_mono ?_)
    iintro H
    iexists ()
    isplitl [H]; · iexact H
    iempintro
  · refine (hmain c).trans (Entails.of_eq ?_)
    unfold post owing; simp only [liftTc_tc, fin]
  · iintro ⟨H, -, Hsc⟩ %s' HSI
    ihave %hsc := (scSems_read_zero m g s') $$ [Hsc HSI]
    · isplitl [Hsc] <;> iassumption
    imod (posts_fupd Finset.univ (fun c s' => Pipeline.boundary_read c s' (hfin c s')) s') $$ [H HSI] with %h
    · isplitl [H] <;> iassumption
    imodintro
    ipureintro
    exact ⟨fun c => h c (Finset.mem_univ c), hsc⟩

/-! ## The region -/

/-- The region's proof data: before its one point the device is ready, after it the exchange is done. -/
def netDat (cfg : Pipeline.Cfg sig Λ₀) (c : Dev nD) : Pipeline.Dat τ Val Unit ℕ (UU nD τ sig) ℕ cfg c where
  A := fun _ => m _
  after := Pipeline.Dat.unnamed
  Φ := fun t => iprop((if t.val = 0 then ready N share m hN c else iprop(outcome N share m c ∗ zeros N c)) ∗ scopedBufs (c : Thread nD τ))
  q := fun _ => fullShare
  owed := fun t => if t.val = 0 then owed₀ N amount c else 0

theorem owesAt_intro (cfg : Pipeline.Cfg sig Λ₀) (c : Dev nD) (t : Fin (cfg.N + 1)) :
    owing c ((netDat N share m hN cfg c).owed t) ⊢ (netDat N share m hN cfg c).owesAt () t := by
  unfold owing Pipeline.Dat.owesAt Pipeline.owesWithin
  iintro ⟨%W, H⟩
  iexists W
  isplitr
  · ipureintro; exact fun _ _ => Or.inl trivial
  iexact H

theorem owesAt_elim (cfg : Pipeline.Cfg sig Λ₀) (c : Dev nD) (t : Fin (cfg.N + 1)) :
    (netDat N share m hN cfg c).owesAt () t ⊢ owing c ((netDat N share m hN cfg c).owed t) := by
  unfold owing Pipeline.Dat.owesAt Pipeline.owesWithin
  iintro ⟨%W, -, H⟩
  iexists W
  iexact H

variable (cfg : Pipeline.Cfg sig Λ₀) [IsEmpty (Fin cfg.W)] (h1 : cfg.N = 1)
variable (hr : ∀ c c' : Dev nD, τ.routes (c : Thread nD τ) (c' : Thread nD τ) = true)

/-- The kernel's program `e` on device `c` runs to `Q`. -/
abbrev runsTo (c : Dev nD) {α : Type} (e : Prog (TpuEff nD τ sig Val Λ₀ .tc) α) (Q : sProp 𝕄) : sProp 𝕄 :=
  wp frame (wpE defs₀ 𝒱₀ (c : Thread nD τ) none) Set.univ e fun _ => Q

/-- The configuration's kernel is the net's program. -/
def IsNet {J I : Type} (N : Net nD sig J I) (cfg : Pipeline.Cfg sig Λ₀) : Prop :=
  ∀ (c : Dev nD) (t : Fin cfg.N) (Q : sProp (MT nD τ sig Unit Val ℕ (UU nD τ sig) ℕ)),
    runsTo defs₀ 𝒱₀ c (N.prog (τ := τ) (Val := Val) (Λ := Λ₀)) Q ⊢ runsTo defs₀ 𝒱₀ c (defs₀ .tc cfg.body (cfg.bodyArgs t (cfg.slots t))) Q

variable (hbody : IsNet defs₀ 𝒱₀ N cfg)

include h1 hr hbody in
theorem net_body (c : Dev nD) : Pipeline.BodyObligationLoose (netDat N share m hN cfg c) defs₀ 𝒱₀ () Set.univ := by
  intro t
  have h0 : (t.castSucc : Fin (cfg.N + 1)).val = 0 := by have := t.isLt; rw [Fin.val_castSucc]; omega
  have h0' : (t.succ : Fin (cfg.N + 1)).val ≠ 0 := by simp
  refine BIBase.Entails.trans ?_ (hbody c t _)
  simp only [Finset.univ_eq_empty (α := Fin cfg.W), BI.bigSep_empty]
  have hΦ : (netDat N share m hN cfg c).Φ t.castSucc = iprop(ready N share m hN c ∗ scopedBufs (c : Thread nD τ)) := by
    show iprop((if _ then _ else _) ∗ _) = _
    rw [if_pos h0]
  have hΦ' : (netDat N share m hN cfg c).Φ t.succ = iprop((outcome N share m c ∗ zeros N c) ∗ scopedBufs (c : Thread nD τ)) := by
    show iprop((if _ then _ else _) ∗ _) = _
    rw [if_neg h0']
  have hO : (netDat N share m hN cfg c).owed t.castSucc = owed₀ N amount c := if_pos h0
  have hO' : (netDat N share m hN cfg c).owed t.succ = 0 := by
    show (if t.succ.val = 0 then owed₀ N amount c else 0) = 0
    rw [if_neg h0']
  have hin := owesAt_elim N share m hN cfg c t.castSucc
  have hout := owesAt_intro N share m hN cfg c t.succ
  rw [hO] at hin
  rw [hO'] at hout
  rw [hΦ, hΦ']
  unfold ready
  iintro ⟨⟨⟨%κ, #Hrec, Hbef⟩, Hsc⟩, Ho, -⟩
  ihave Ho := hin $$ Ho
  iapply (runs_net N share m hN defs₀ 𝒱₀ none c κ hr _) $$ [Hbef Ho]
  · isplitr; · iexact Hrec
    isplitl [Hbef] <;> iassumption
  iintro %u ⟨Haft, Ho⟩
  imod (close N share m hN c κ) $$ [Haft] with ⟨Hout, Hz⟩
  · isplitr; · iexact Hrec
    iexact Haft
  imodintro
  isplitr [Ho]
  · isplitr [Hsc]
    · isplitl [Hout] <;> iassumption
    iexact Hsc
  isplitl [Ho]
  · iapply hout; iexact Ho
  iempintro

omit [Fintype P] in
theorem ghostOn_erase {S : Finset P} (hp : p ∈ S) (c : Dev nD) :
    (ghostOn cfgs S c : sProp 𝕄) = iprop((Pipeline.cellsGhost cfgs EP p c ∗ Pipeline.toksInit cfgs EP p c) ∗ ghostOn cfgs (S.erase p) c) := by
  unfold ghostOn; exact bigSep_erase hp

/-- Device `c` once the exchange is done. -/
def exchanged (rest : Dev nD → sProp 𝕄) (c : Dev nD) : sProp 𝕄 :=
  iprop(boundary (c : Thread nD τ) ∗ outcome N share m c ∗ rest c ∗ owing c 0 ∗ ghostOn cfgs (Finset.univ.erase p) c)

abbrev datsOf (p' : P) (c : Dev nD) : Pipeline.Dat τ Val Unit ℕ (UU nD τ sig) ℕ (Pipeline.pin (pcs (Val := Val) cfgs) (adm cfgs) p') c :=
  netDat N share m hN (cfgs p') c

variable [IsEmpty (Fin (cfgs p).W)] (h1' : (cfgs p).N = 1) (hK : IsEmpty (Fin (pcs (Val := Val) cfgs p).pre.K))
variable (hbody' : IsNet defs₀ 𝒱₀ N (cfgs p))

include hw h1' hr hbody' hK in
/-- The net's region: from the launch to the exchange done. -/
theorem wp_net (rest : Dev nD → sProp 𝕄) (c : Dev nD) {α : Type}
    {k : PUnit → Prog (TpuEff nD τ sig Val (Pipeline.Sig Λ₀ P fun p => (pcs (Val := Val) cfgs p).Adm) .tc) α} {Q : α → sProp 𝕄} :
    launched N share m hN cfgs phinj p ho rest c
      ⊢ iprop((exchanged N share m cfgs p rest c -∗ wp frame (wpE (Pipeline.defs (pcs cfgs) defs₀) (Variants.lift 𝒱₀) (c : Thread nD τ) none) Set.univ (k ⟨⟩) Q)
          -∗ wp frame (wpE (Pipeline.defs (pcs cfgs) defs₀) (Variants.lift 𝒱₀) (c : Thread nD τ) none) Set.univ (.op (.customCall (Pipeline.entry p) ()) k) Q) := by
  have hss : (scopedSems0 (c : Thread nD τ) : sProp 𝕄)
      = iprop((Pipeline.cellsSems0 cfgs p c ∗ zeros N c) ∗ Pipeline.idleSems0 cfgs phinj p ho c) :=
    Pipeline.scopedSems0_split cfgs phinj p hw ho (Ix := Unit) (Val := Val) (Name := ℕ) (U := UU nD τ sig) (Lvl := ℕ) c
  have hΦ : (datsOf N share m hN cfgs p c).Φ 0 = iprop(ready N share m hN c ∗ scopedBufs (c : Thread nD τ)) := by
    show iprop((if _ then _ else _) ∗ _) = _
    rw [if_pos (show ((0 : Fin ((cfgs p).N + 1)).val = 0) from rfl)]
  have hΦ' : (datsOf N share m hN cfgs p c).Φ (Fin.last _) = iprop((outcome N share m c ∗ zeros N c) ∗ scopedBufs (c : Thread nD τ)) := by
    show iprop((if _ then _ else _) ∗ _) = _
    rw [if_neg (by rw [Fin.val_last]; exact fun h => absurd (h.symm.trans h1') (by decide))]
  have hO : (datsOf N share m hN cfgs p c).owed 0 = owed₀ N amount c := by
    show (if (0 : Fin ((cfgs p).N + 1)).val = 0 then owed₀ N amount c else 0) = _
    rw [if_pos (show ((0 : Fin ((cfgs p).N + 1)).val = 0) from rfl)]
  have hO' : (datsOf N share m hN cfgs p c).owed (Fin.last _) = 0 := by
    show (if (Fin.last (cfgs p).N).val = 0 then owed₀ N amount c else 0) = _
    rw [if_neg (by rw [Fin.val_last]; exact fun h => absurd (h.symm.trans h1') (by decide))]
  have hin := owesAt_intro N share m hN (cfgs p) c 0
  have hout := owesAt_elim N share m hN (cfgs p) c (Fin.last _)
  rw [show (netDat N share m hN (cfgs p) c).owed 0 = _ from hO] at hin
  rw [show (netDat N share m hN (cfgs p) c).owed (Fin.last _) = 0 from hO'] at hout
  have hpre : (emp : sProp 𝕄) ⊢ Pipeline.prefHeld (pcs (Val := Val) cfgs p).pre c (fun _ => fullShare) (adm cfgs p).1 := by
    unfold Pipeline.prefHeld
    rw [Finset.univ_eq_empty, BI.bigSep_empty]; exact BI.Entails.refl _
  have harr : (emp : sProp 𝕄) ⊢ (datsOf N share m hN cfgs p c).arrays ((datsOf N share m hN cfgs p c).arrAt · 0) := by
    unfold Pipeline.Dat.arrays
    rw [Finset.univ_eq_empty, BI.bigSep_empty]; exact BI.Entails.refl _
  have hstage : (emp : sProp 𝕄) ⊢ Pipeline.Dat.staging (cfgs p) c := by
    unfold Pipeline.Dat.staging
    rw [Finset.univ_eq_empty, BI.bigSep_empty]; exact BI.Entails.refl _
  unfold launched bounds
  rw [ghostOn_erase cfgs p (Finset.mem_univ p) c]
  iintro ⟨⟨Hsb, Hcs, His, Hop⟩, Hready, HO, Hrest, ⟨Hg, Ht⟩, Hgs⟩ Hk
  iapply (fupd_wp frame (wpE (Pipeline.defs (pcs cfgs) defs₀) (Variants.lift 𝒱₀) (c : Thread nD τ) none) Set.univ _ _)
  imod (Pipeline.cellsInit_alloc cfgs (datsOf N share m hN cfgs) EP phinj p c) $$ [Hcs Hg] with ⟨%κ, -, Hinit⟩
  · isplitl [Hcs] <;> iassumption
  imodintro
  iapply (Pipeline.wp_customCall_entry_frame (pcs cfgs) (adm cfgs) (datsOf N share m hN cfgs) () EP κ phinj p defs₀ 𝒱₀ (fun _ => fullShare) c Set.univ
    (fun _ _ => Set.mem_univ _) (net_body N share m hN defs₀ 𝒱₀ (cfgs p) h1' hr hbody' c) (fun w => (IsEmpty.false w).elim) none (fun u h => nomatch h)
    (X := ready N share m hN c) (Y := outcome N share m c) (R := scopedBufs (c : Thread nD τ))
    (I := Pipeline.idleSems0 cfgs phinj p ho c) ?_ ?_ ?_) $$ [Hready HO Hinit Ht Hsb His]
  · iintro H
    isplitr
    · iapply hstage; iempintro
    iexact H
  · rw [hΦ]
    iintro ⟨H1, -, H2⟩
    isplitl [H1] <;> iassumption
  · rw [hΦ', hss]
    iintro ⟨⟨⟨H1, H2⟩, H3⟩, H4, -, H5⟩
    isplitl [H1]; · iexact H1
    isplitr [H3]
    · isplitr [H5]
      · isplitl [H4]; · iexact H4
        iexact H2
      iexact H5
    iexact H3
  · unfold Pipeline.EntryPre Pipeline.PerCore.EntryPre
    isplitl [HO Hinit Ht]
    · isplitr
      · iapply harr; iempintro
      isplitl [HO]; · iapply hin; iexact HO
      isplitr
      · iapply (Pipeline.cellsWaits_intro cfgs (datsOf N share m hN cfgs) () p c (R := iprop(emp)) fun w => (IsEmpty.false w).elim); iempintro
      isplitl [Hinit] <;> iassumption
    isplitr
    · iapply hpre; iempintro
    isplitl [Hready]; · iexact Hready
    isplitl [His] <;> iassumption
  unfold Pipeline.EntryPost Pipeline.PerCore.EntryPost
  iintro ⟨⟨-, HO⟩, HY, Hss, Hsb⟩
  iapply Hk
  unfold exchanged boundary
  isplitl [Hsb Hss Hop]
  · isplitl [Hsb]; · iexact Hsb
    isplitl [Hss] <;> iassumption
  isplitl [HY]; · iexact HY
  isplitl [Hrest]; · iexact Hrest
  isplitl [HO]; · iapply hout; iexact HO
  iexact Hgs

end Cert.Exchange
-- ==== Proof.Exchange.Settle.lean ====
/-
  A program that is a net's kernel and nothing else: what it leaves in memory.
-/
module

public import proofs.«01_k».proof.Proof.Exchange.Launch

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {J I : Type} [Fintype J] [Fintype I] [DecidableEq J] [DecidableEq I]
variable {Val : EltTy → Type}

local notation "𝕄" => MT nD τ sig Unit Val ℕ (UU nD τ sig) ℕ

variable (N : Net nD sig J I) {amount : J ⊕ I → ℕ} (share : J ⊕ I → PosShare TreeShare)
variable (m : (ℓ : Loc nD τ sig) → Buf Val ℓ) (hN : N.Sound amount)

/-- On device `c`: the source of its transfer `p` is as it was, and where the transfer `p` to `c` lands lies what its
    sender had. -/
def Settled (c : Dev nD) (p : J ⊕ I) (s : MemSt nD τ sig Val) : Prop :=
  (∀ i ∈ (N.wire c p).src.view.set, s.mem ((N.wire c p).src.view.loc (c : Thread nD τ)) i = m ((N.wire c p).src.view.loc (c : Thread nD τ)) i)
  ∧ (∀ i ∈ (N.wire (N.source c p) p).dst.view.set,
      s.mem ((N.wire (N.source c p) p).dst.view.loc (c : Thread nD τ)) i = landed N m c (N.source c p) p i)

/-- What lies where a transfer landed reads as what its sender reads at its source. -/
theorem Settled.read {c : Dev nD} {p : J ⊕ I} {s : MemSt nD τ sig Val} (h : Settled N m c p s) :
    (N.wire (N.source c p) p).dst.view.read Val (s.mem ((N.wire (N.source c p) p).dst.view.loc (c : Thread nD τ)))
      = (N.wire (N.source c p) p).src.view.read Val (m ((N.wire (N.source c p) p).src.view.loc (N.source c p : Thread nD τ))) :=
  (View.read_congr h.2).trans (View.read_write_univ _ _)

theorem settled_of_outcome (c : Dev nD) (s' : Phys nD τ sig Val) :
    iprop(outcome N share m c ∗ SI s') ⊢ (⌜∀ p, Settled N m c p s'.mem⌝ : sProp 𝕄) := by
  refine BIBase.Entails.trans (Laws.forall_intro fun p => ?_) Laws.pure_forall.2
  have hp : outcome N share m c ⊢ (iprop(srcPts N share m c p ∗ landPts N m c (N.source c p) p) : sProp 𝕄) :=
    bigSep_elim (Φ := fun p => iprop(srcPts N share m c p ∗ landPts N m c (N.source c p) p)) (Finset.mem_univ p)
  iintro ⟨H, HSI⟩
  ihave H := hp $$ H
  icases H with ⟨H1, H2⟩
  ihave %h1 := SI_pointsTo_agree $$ [HSI H1]
  · isplitl [HSI] <;> iassumption
  ihave %h2 := SI_pointsTo_agree $$ [HSI H2]
  · isplitl [HSI] <;> iassumption
  ipureintro
  exact ⟨h1, h2⟩

/-- A part of an array, left alone at a share. -/
structure Spare (nD : Nat) (τ : Topo) (sig : RefSig) where
  loc : Loc nD τ sig
  K : Finset (Idx loc)
  q : PosShare TreeShare

abbrev Spare.pts (a : Spare nD τ sig) : sProp 𝕄 := a.loc ↦[a.K]{a.q} m a.loc

/-- The part is as it was. -/
def Spare.Kept (a : Spare nD τ sig) (s : MemSt nD τ sig Val) : Prop := ∀ i ∈ a.K, s.mem a.loc i = m a.loc i

theorem spares_kept {T : Type} [Fintype T] [DecidableEq T] (spare : T → Spare nD τ sig) (s' : Phys nD τ sig Val) :
    iprop((bigSep Finset.univ fun t => (spare t).pts m) ∗ SI s') ⊢ (⌜∀ t, (spare t).Kept m s'.mem⌝ : sProp 𝕄) := by
  refine BIBase.Entails.trans (Laws.forall_intro fun t => ?_) Laws.pure_forall.2
  have ht : (bigSep Finset.univ fun t => (spare t).pts m) ⊢ ((spare t).pts m : sProp 𝕄) := bigSep_elim (Φ := fun t => (spare t).pts m) (Finset.mem_univ t)
  iintro ⟨H, HSI⟩
  ihave H := ht $$ H
  ihave %h := SI_pointsTo_agree $$ [HSI H]
  · isplitl [HSI] <;> iassumption
  ipureintro
  exact h

variable {Λ₀ : Labels} {P : Type} [Fintype P] [DecidableEq P] [∀ e, Nonempty (Val e)]
variable (cfgs : P → Pipeline.Cfg sig Λ₀) (phinj : Function.Injective (Pipeline.cellOf (nD := nD) (τ := τ) cfgs)) (p : P)
variable (defs₀ : Defs nD τ sig Val Λ₀) (𝒱₀ : Variants)
variable (hw : Pipeline.WinFacts₀ (cfgs p).spec) (ho : Pipeline.OwnSemFacts (cfgs p).spec fun k : Key J I => SemLoc.dma (N.sem k))
variable (hr : ∀ c c' : Dev nD, τ.routes (c : Thread nD τ) (c' : Thread nD τ) = true)
variable [IsEmpty (Fin (cfgs p).W)] (h1 : (cfgs p).N = 1) (hK : IsEmpty (Fin (pcs (Val := Val) cfgs p).pre.K))
variable (hbody : IsNet defs₀ 𝒱₀ N (cfgs p))

include phinj hN hw ho hr h1 hK hbody in
/-- The run, for a program that also has parts of arrays no transfer takes. -/
theorem run_exchange_sparing {T : Type} [Fintype T] [DecidableEq T] (spare : Dev nD → T → Spare nD τ sig) (g : Dev nD → PrngReg)
    (main : Dev nD → Prog (TpuEff nD τ sig Val (Pipeline.Sig Λ₀ P fun p => (pcs (Val := Val) cfgs p).Adm) .tc) PUnit)
    (hmain : ∀ c, main c = .op (.customCall (Pipeline.entry p) ()) fun _ => .ret ⟨⟩)
    (hsem : ∀ sm : SemLoc sig, sm.isScoped .tc = true)
    (hsplit : ∀ c, unscopedBufs c (fun b => m ((c : Thread nD τ).loc b))
      ⊢ (iprop(supply N share m c ∗ (bigSep Finset.univ fun t => (spare c t).pts m)) : sProp 𝕄)) :
    θ_run (Pipeline.defs (pcs cfgs) defs₀) (onTc main) ⟨m, fun _ => 0, g⟩
      fun r => ((∀ c q, Settled N m c q r.2) ∧ ∀ c t, (spare c t).Kept m r.2) ∧ r.2.sem = fun _ => 0 := by
  let rest : Dev nD → sProp 𝕄 := fun c => bigSep Finset.univ fun t => (spare c t).pts m
  refine run_launched N share m hN cfgs phinj p defs₀ 𝒱₀ hw ho g main rest (fun c => iprop(outcome N share m c ∗ rest c))
    hsplit (fun c => ?_) (fun c s => (∀ q, Settled N m c q s) ∧ ∀ t, (spare c t).Kept m s) (fun c s' => ?_)
    fun s hs hz => ⟨⟨fun c => (hs c).1, fun c => (hs c).2⟩, sem_eq_zero_of_scoped hsem hz⟩
  · rw [hmain c]
    iintro H
    iapply (wp_net N share m hN cfgs phinj p defs₀ 𝒱₀ hw ho hr h1 hK hbody rest c) $$ H
    unfold exchanged
    iintro ⟨Hb, Hout, Hrest, HO, -⟩
    rw [wp_ret]
    imodintro
    isplitr [HO]
    · isplitr [Hb]
      · isplitl [Hout] <;> iassumption
      iexact Hb
    iexact HO
  · iintro ⟨⟨H, Hrest⟩, HSI⟩
    ihave %h := (settled_of_outcome N share m c s') $$ [H HSI]
    · isplitl [H] <;> iassumption
    ihave %h' := (spares_kept m (spare c) s') $$ [Hrest HSI]
    · isplitl [Hrest] <;> iassumption
    imodintro
    isplitr
    · ipureintro; exact ⟨h, h'⟩
    iexact HSI

include phinj hN hw ho hr h1 hK hbody in
/-- The run, for a program whose transfers take everything. -/
theorem run_exchange (g : Dev nD → PrngReg)
    (main : Dev nD → Prog (TpuEff nD τ sig Val (Pipeline.Sig Λ₀ P fun p => (pcs (Val := Val) cfgs p).Adm) .tc) PUnit)
    (hmain : ∀ c, main c = .op (.customCall (Pipeline.entry p) ()) fun _ => .ret ⟨⟩)
    (hsem : ∀ sm : SemLoc sig, sm.isScoped .tc = true)
    (hsplit : ∀ c, unscopedBufs c (fun b => m ((c : Thread nD τ).loc b)) ⊢ (supply N share m c : sProp 𝕄)) :
    θ_run (Pipeline.defs (pcs cfgs) defs₀) (onTc main) ⟨m, fun _ => 0, g⟩
      fun r => (∀ c q, Settled N m c q r.2) ∧ r.2.sem = fun _ => 0 :=
  (θ_run (Pipeline.defs (pcs cfgs) defs₀) _ _).mono (fun _ h => ⟨h.1.1, h.2⟩)
    (run_exchange_sparing N share m hN cfgs phinj p defs₀ 𝒱₀ hw ho hr h1 hK hbody (fun _ => Fin.elim0) g main hmain hsem fun c => (hsplit c).trans (by
      rw [Finset.univ_eq_empty, BI.bigSep_empty]
      iintro H
      isplitl [H]; · iexact H
      iempintro))

end Cert.Exchange
-- ==== Proof.Exchange.Slab.lean ====
/-
  Cutting an array among the transfers that read it or land in it, and blocks along an array's leading axis.
-/
module

public import proofs.«01_k».proof.Proof.Exchange.Protocol
public import Idealize.ShloMosaic.Lib.ShareLeaves

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU nD τ sig) ℕ

/-! ## Shares and pieces -/

/-- An array read `2 ^ n` times, on `K` each time. -/
theorem deal_shares {ℓ : Loc nD τ sig} (n : ℕ) (K : Finset (Idx ℓ)) (f : Buf Val ℓ) :
    (ℓ ↦{fullShare} f : sProp 𝕄) ⊢ bigSep Finset.univ fun i : Fin (2 ^ n) => ℓ ↦[K]{ShareLeaves.leaf n fullShare i} f := by
  refine ((pointsTo_split_subset (Finset.subset_univ K)).1).trans ?_
  rw [ShareLeaves.pointsTo_leaves K f n fullShare]
  iintro ⟨H, -⟩
  iexact H

/-- An array written in pieces. -/
theorem deal_pieces {ℓ : Loc nD τ sig} {T : Type} [Fintype T] (K : T → Finset (Idx ℓ)) (h : ∀ t t', t ≠ t' → Disjoint (K t) (K t'))
    (q : PosShare TreeShare) (f : Buf Val ℓ) :
    (ℓ ↦{q} f : sProp 𝕄) ⊢ bigSep Finset.univ fun t => ℓ ↦[K t]{q} f := by
  classical
  rw [← pointsTo_biUnion Finset.univ K fun t _ t' _ => h t t']
  refine ((pointsTo_split_subset (Finset.subset_univ (Finset.univ.biUnion K))).1).trans ?_
  iintro ⟨H, -⟩
  iexact H

/-! ## Blocks along the leading axis -/

section Leading

variable {n : ℕ} {N : ℕ} {d : Fin n → ℕ} {o : Fin (n + 1) → ℕ}
variable {h : ∀ a, o a + (Matrix.vecCons 1 d : Fin (n + 1) → ℕ) a ≤ (Matrix.vecCons N d : Fin (n + 1) → ℕ) a}

/-- Block `o 0` along the leading axis holds the indices there. -/
theorem lead_of_mem {i : (⟨n + 1, Matrix.vecCons N d⟩ : Shape).Idx}
    (hi : i ∈ (Rect.unit (s := ⟨n + 1, Matrix.vecCons N d⟩) o (Matrix.vecCons 1 d) h).set) : (i 0).val = o 0 := by
  have h0 := (Rect.mem_set_unit.mp hi) 0
  have h1 : (Matrix.vecCons 1 d : Fin (n + 1) → ℕ) 0 = 1 := rfl
  rw [h1] at h0
  omega

theorem leads_disjoint {o' : Fin (n + 1) → ℕ}
    {h' : ∀ a, o' a + (Matrix.vecCons 1 d : Fin (n + 1) → ℕ) a ≤ (Matrix.vecCons N d : Fin (n + 1) → ℕ) a} (hne : o 0 ≠ o' 0) :
    Disjoint (Rect.unit (s := ⟨n + 1, Matrix.vecCons N d⟩) o (Matrix.vecCons 1 d) h).set
      (Rect.unit (s := ⟨n + 1, Matrix.vecCons N d⟩) o' (Matrix.vecCons 1 d) h').set :=
  Finset.disjoint_left.mpr fun _ hi hi' => hne ((lead_of_mem hi).symm.trans (lead_of_mem hi'))

/-- An index without its leading coordinate. -/
def behind (i : (⟨n + 1, Matrix.vecCons N d⟩ : Shape).Idx) : (⟨n, d⟩ : Shape).Idx := fun a => i a.succ

/-- The element of the block at an index there, the block seen without its leading axis. -/
theorem lead_emb (hq : (⟨n, d⟩ : Shape).numel = (⟨n + 1, Matrix.vecCons 1 d⟩ : Shape).numel)
    (ho : ∀ a : Fin n, o a.succ = 0) (i : (⟨n + 1, Matrix.vecCons N d⟩ : Shape).Idx) (hi : (i 0).val = o 0) :
    (Rect.unit (s := ⟨n + 1, Matrix.vecCons N d⟩) o (Matrix.vecCons 1 d) h).emb
      (Shape.reshapeEquiv hq (behind i)) = i := by
  rw [Shape.reshapeEquiv_cons_one hq]
  funext a
  refine Fin.ext ?_
  refine Fin.cases ?_ (fun a => ?_) a
  · show o 0 + 1 * 0 = _
    rw [hi]; omega
  · show o a.succ + 1 * (i a.succ).val = _
    rw [ho]; omega

end Leading

end Cert.Exchange
-- ==== Proof.Gather.Net.lean ====
/-
  The weights' all-gather as a net: five arrays, each with one local copy and three channels, to the chip across x, the
  one across y and the one across both.
-/
module

public import proofs.«01_k».proof.Proof.Exchange.Net
public import proofs.«01_k».proof.Proof.Gen.KernelIdeal
public import proofs.«01_k».proof.Proof.Gen.KernelIdeal.Launch

@[expose] public section

noncomputable section

namespace Cert.Gather

open Cert.KernelIdeal Cert.KernelIdeal.Gen Cert.Exchange
open Idealize.ShloMosaic Idealize.ShloMosaic.TcCoe Idealize.SL Idealize.SL.Sem

variable {F : FTy → Type} [FloatOps F]

/-! ## A chip's block of a gathered array -/

def slotIn (o : Fin 3 → ℕ) (h : ∀ a, o a + S1x1024x1664.size a ≤ S4x1024x1664.size a) : Memref sig .tc .hbm S1024x1664 .bf16 :=
  ((Memref.whole main_v1_0).slice (Rect.unit (s := S4x1024x1664) o S1x1024x1664.size h) (fun _ => rfl)).squeeze S1024x1664 squeezes_S1x1024x1664_S1024x1664

def slotOut (r : Memref sig .tc .hbm S4x256x1024 .bf16) (o : Fin 3 → ℕ) (h : ∀ a, o a + S1x256x1024.size a ≤ S4x256x1024.size a) :
    Memref sig .tc .hbm S256x1024 .bf16 :=
  (r.slice (Rect.unit (s := S4x256x1024) o S1x256x1024.size h) (fun _ => rfl)).squeeze S256x1024 squeezes_S1x256x1024_S256x1024

def slotConv (o : Fin 3 → ℕ) (h : ∀ a, o a + S1x4x256.size a ≤ S4x4x256.size a) : Memref sig .tc .hbm S4x256 .f32 :=
  ((Memref.whole main_v1_4).slice (Rect.unit (s := S4x4x256) o S1x4x256.size h) (fun _ => rfl)).squeeze S4x256 squeezes_S1x4x256_S4x256

/-- Device `d`'s shard of array `t`, and its block of the gathered array. -/
def block (d : Dev nD) : Fin 5 → Wire sig
  | 0 => ⟨S1024x1664, .bf16, Memref.whole main_arg0, slotIn (k0_off1 d) (k0_off1_inb d), (Memref.isWhole_whole _).wordExact,
      (((Memref.isWhole_whole _).wordExact_slice rfl _ (k0_off1_wordsbf16 d)).reshape _ _), rfl⟩
  | 1 => ⟨S256x1024, .bf16, Memref.whole main_arg1, slotOut (Memref.whole main_v1_1) (k0_off2 d) (k0_off2_inb d), (Memref.isWhole_whole _).wordExact,
      (((Memref.isWhole_whole _).wordExact_slice rfl _ (k0_off2_wordsbf16 d)).reshape _ _), rfl⟩
  | 2 => ⟨S256x1024, .bf16, Memref.whole main_arg2, slotOut (Memref.whole main_v1_2) (k0_off2 d) (k0_off2_inb d), (Memref.isWhole_whole _).wordExact,
      (((Memref.isWhole_whole _).wordExact_slice rfl _ (k0_off2_wordsbf16 d)).reshape _ _), rfl⟩
  | 3 => ⟨S256x1024, .bf16, Memref.whole main_arg3, slotOut (Memref.whole main_v1_3) (k0_off2 d) (k0_off2_inb d), (Memref.isWhole_whole _).wordExact,
      (((Memref.isWhole_whole _).wordExact_slice rfl _ (k0_off2_wordsbf16 d)).reshape _ _), rfl⟩
  | 4 => ⟨S4x256, .f32, Memref.whole main_arg4, slotConv (k0_off3 d) (k0_off3_inb d), (Memref.isWhole_whole _).wordExact,
      ((View.wordExact_bits rfl).reshape _ _), rfl⟩

/-- The block of array `t` that channel `k` brings to device `d`, as the kernel computes where it lies. -/
def brought (d : Dev nD) : Fin 5 × Fin 3 → End sig
  | (0, 0) => ⟨_, _, slotIn (k0_off4 d) (k0_off4_inb d)⟩
  | (0, 1) => ⟨_, _, slotIn (k0_off5 d) (k0_off5_inb d)⟩
  | (0, 2) => ⟨_, _, slotIn (k0_off6 d) (k0_off6_inb d)⟩
  | (1, 0) => ⟨_, _, slotOut (Memref.whole main_v1_1) (k0_off7 d) (k0_off7_inb d)⟩
  | (1, 1) => ⟨_, _, slotOut (Memref.whole main_v1_1) (k0_off8 d) (k0_off8_inb d)⟩
  | (1, 2) => ⟨_, _, slotOut (Memref.whole main_v1_1) (k0_off9 d) (k0_off9_inb d)⟩
  | (2, 0) => ⟨_, _, slotOut (Memref.whole main_v1_2) (k0_off7 d) (k0_off7_inb d)⟩
  | (2, 1) => ⟨_, _, slotOut (Memref.whole main_v1_2) (k0_off8 d) (k0_off8_inb d)⟩
  | (2, 2) => ⟨_, _, slotOut (Memref.whole main_v1_2) (k0_off9 d) (k0_off9_inb d)⟩
  | (3, 0) => ⟨_, _, slotOut (Memref.whole main_v1_3) (k0_off7 d) (k0_off7_inb d)⟩
  | (3, 1) => ⟨_, _, slotOut (Memref.whole main_v1_3) (k0_off8 d) (k0_off8_inb d)⟩
  | (3, 2) => ⟨_, _, slotOut (Memref.whole main_v1_3) (k0_off9 d) (k0_off9_inb d)⟩
  | (4, 0) => ⟨_, _, slotConv (k0_off10 d) (k0_off10_inb d)⟩
  | (4, 1) => ⟨_, _, slotConv (k0_off11 d) (k0_off11_inb d)⟩
  | (4, 2) => ⟨_, _, slotConv (k0_off12 d) (k0_off12_inb d)⟩

/-- The chip at the other end of channel `k` of array `t`. -/
def other (d : Dev nD) : Fin 5 × Fin 3 → Dev nD
  | (0, 0) => ⟨k0_dev1 d, k0_dev1_lt d⟩
  | (0, 1) => ⟨k0_dev2 d, k0_dev2_lt d⟩
  | (0, 2) => ⟨k0_dev3 d, k0_dev3_lt d⟩
  | (1, 0) => ⟨k0_dev4 d, k0_dev4_lt d⟩
  | (1, 1) => ⟨k0_dev5 d, k0_dev5_lt d⟩
  | (1, 2) => ⟨k0_dev6 d, k0_dev6_lt d⟩
  | (2, 0) => ⟨k0_dev7 d, k0_dev7_lt d⟩
  | (2, 1) => ⟨k0_dev8 d, k0_dev8_lt d⟩
  | (2, 2) => ⟨k0_dev9 d, k0_dev9_lt d⟩
  | (3, 0) => ⟨k0_dev10 d, k0_dev10_lt d⟩
  | (3, 1) => ⟨k0_dev11 d, k0_dev11_lt d⟩
  | (3, 2) => ⟨k0_dev12 d, k0_dev12_lt d⟩
  | (4, 0) => ⟨k0_dev13 d, k0_dev13_lt d⟩
  | (4, 1) => ⟨k0_dev14 d, k0_dev14_lt d⟩
  | (4, 2) => ⟨k0_dev15 d, k0_dev15_lt d⟩

/-- Semaphore `3 t + k` of a bank of fifteen starting at `b`. -/
def bank (b : ℕ) (hb : b ≤ 15) (j : Fin 5 × Fin 3) : DmaSem sig := ⟨b + (3 * j.1.val + j.2.val), by have := j.1.isLt; have := j.2.isLt; show _ < 35; omega⟩

def net : Net nD sig (Fin 5 × Fin 3) (Fin 5) where
  wire d := Sum.elim (fun j => block d j.1) (block d)
  peer j d := other d j
  sendSem := bank 0 (by decide)
  recvSem := bank 15 (by decide)
  copySem t := ⟨30 + t.val, by have := t.isLt; show _ < 35; omega⟩
  sent d j := ⟨_, _, (block d j.1).src⟩
  got := brought
  copied d t := ⟨_, _, (block d t).dst⟩
  channels := [(0, 0), (0, 1), (0, 2), (1, 0), (1, 1), (1, 2), (2, 0), (2, 1), (2, 2), (3, 0), (3, 1), (3, 2), (4, 0), (4, 1), (4, 2)]
  copies := [0, 1, 2, 3, 4]

set_option maxRecDepth 65536 in
/-- The printed kernel is the net's program. -/
theorem body_eq : (cc0_all_gather_weights (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1 cc0_scratch2
    : Prog (TpuEff nD τ sig (Elt F) Λ₀ .tc) PUnit) = net.prog := rfl

end Cert.Gather
-- ==== Proof.Gather.Sound.lean ====
/-
  The gather's net is sound, and its arrays cut among its transfers.
-/
module

public import proofs.«01_k».proof.Proof.Exchange.Settle
public import proofs.«01_k».proof.Proof.Exchange.Slab
public import proofs.«01_k».proof.Proof.Gather.Net

@[expose] public section

noncomputable section

namespace Cert.Gather

open Cert.KernelIdeal Cert.KernelIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Soundness -/

/-- What a transfer of array `t` pays. -/
def credit (t : Fin 5) : ℕ := (block 0 t).dst.view.dmaCredit

def amount : (Fin 5 × Fin 3) ⊕ Fin 5 → ℕ := Sum.elim (fun j => credit j.1) credit

theorem credit_eq : ∀ (d : Dev nD) (t : Fin 5), (block d t).dst.view.dmaCredit = credit t
  | _, 0 => rfl | _, 1 => rfl | _, 2 => rfl | _, 3 => rfl | _, 4 => rfl

theorem credit_src : ∀ (d : Dev nD) (t : Fin 5), (block d t).src.view.dmaCredit = credit t
  | _, 0 => rfl | _, 1 => rfl | _, 2 => rfl | _, 3 => rfl | _, 4 => rfl

theorem credit_brought (d : Dev nD) : ∀ j : Fin 5 × Fin 3, (brought d j).mem.view.dmaCredit = credit j.1
  | (0, 0) => rfl | (0, 1) => rfl | (0, 2) => rfl | (1, 0) => rfl | (1, 1) => rfl | (1, 2) => rfl | (2, 0) => rfl | (2, 1) => rfl | (2, 2) => rfl
  | (3, 0) => rfl | (3, 1) => rfl | (3, 2) => rfl | (4, 0) => rfl | (4, 1) => rfl | (4, 2) => rfl

theorem credit_pos : ∀ t : Fin 5, 0 < credit t
  | 0 => by decide | 1 => by decide | 2 => by decide | 3 => by decide | 4 => by decide

theorem other_other : ∀ (j : Fin 5 × Fin 3) (c : Dev nD), other (other c j) j = c := by decide

theorem sem_inj : Function.Injective net.sem := by decide

theorem sound : net.Sound amount where
  peer_peer := other_other
  sem_inj := sem_inj
  amount_pos | .inl j => credit_pos j.1 | .inr t => credit_pos t
  wire_credit | d, .inl j => credit_eq d j.1 | d, .inr t => credit_eq d t
  sent_credit d j := credit_src d j.1
  got_credit := credit_brought
  copied_credit := credit_eq
  channels_nodup := by decide
  channels_all := by decide
  copies_nodup := by decide
  copies_all := by decide

theorem own_sems : Pipeline.OwnSemFacts (cfgs 0).spec fun k : Key (Fin 5 × Fin 3) (Fin 5) => SemLoc.dma (net.sem k) := by decide

end Cert.Gather
-- ==== Proof.Gather.Run.lean ====
/-
  The gather's arrays cut among its transfers, and what its run leaves.
-/
module

public import proofs.«01_k».proof.Proof.Gather.Sound
public import Idealize.ShloMosaic.Lib.Ring
public import Idealize.ShloMosaic.Lib.Ring.AtN

@[expose] public section

noncomputable section

namespace Cert.Gather

open Cert.KernelIdeal Cert.KernelIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Where the blocks lie -/

/-- The chip of device `d`: the place of its block in a gathered array. -/
def row (d : Dev nD) : ℕ := 2 * (d.val / 4) + (d.val / 2) % 2

theorem row_lt : ∀ d : Dev nD, row d < 4 := by decide

/-- The devices whose blocks of array `t` device `c` holds in the end, its own the last. -/
def holders (c : Dev nD) (t : Fin 5) : Fin 4 → Dev nD := ![other c (t, 0), other c (t, 1), other c (t, 2), c]

theorem holders_apart : ∀ (c : Dev nD) (t : Fin 5) (s s' : Fin 4), s ≠ s' → row (holders c t s) ≠ row (holders c t s') := by decide

theorem holders_all : ∀ (c : Dev nD) (t : Fin 5) (r : Fin 4), ∃ s, row (holders c t s) = r.val := by decide

theorem off1 (d : Dev nD) : k0_off1 d = ![row d, 0, 0] := by revert d; decide
theorem off2 (d : Dev nD) : k0_off2 d = ![row d, 0, 0] := by revert d; decide
theorem off3 (d : Dev nD) : k0_off3 d = ![row d, 0, 0] := by revert d; decide

theorem off1_lead (d : Dev nD) : k0_off1 d 0 = row d := by rw [off1]; rfl
theorem off2_lead (d : Dev nD) : k0_off2 d 0 = row d := by rw [off2]; rfl
theorem off3_lead (d : Dev nD) : k0_off3 d 0 = row d := by rw [off3]; rfl

theorem setIn (o : Fin 3 → ℕ) (h) : (slotIn o h).view.set = (Rect.unit (s := S4x1024x1664) o S1x1024x1664.size h).set :=
  (View.set_reshape _ _).trans (View.set_slice_whole _ _)

theorem setConv (o : Fin 3 → ℕ) (h) : (slotConv o h).view.set = (Rect.unit (s := S4x4x256) o S1x4x256.size h).set :=
  (View.set_reshape _ _).trans (View.set_slice_whole _ _)

theorem setOut1 (o : Fin 3 → ℕ) (h) : (slotOut (Memref.whole main_v1_1) o h).view.set = (Rect.unit (s := S4x256x1024) o S1x256x1024.size h).set :=
  (View.set_reshape _ _).trans (View.set_slice_whole _ _)

theorem setOut2 (o : Fin 3 → ℕ) (h) : (slotOut (Memref.whole main_v1_2) o h).view.set = (Rect.unit (s := S4x256x1024) o S1x256x1024.size h).set :=
  (View.set_reshape _ _).trans (View.set_slice_whole _ _)

theorem setOut3 (o : Fin 3 → ℕ) (h) : (slotOut (Memref.whole main_v1_3) o h).view.set = (Rect.unit (s := S4x256x1024) o S1x256x1024.size h).set :=
  (View.set_reshape _ _).trans (View.set_slice_whole _ _)

theorem apartIn {o o' : Fin 3 → ℕ} {h h'} (hne : o 0 ≠ o' 0) : Disjoint (slotIn o h).view.set (slotIn o' h').view.set := by
  rw [setIn, setIn]
  exact leads_disjoint (n := 2) (N := 4) (d := ![1024, 1664]) hne

theorem apartConv {o o' : Fin 3 → ℕ} {h h'} (hne : o 0 ≠ o' 0) : Disjoint (slotConv o h).view.set (slotConv o' h').view.set := by
  rw [setConv, setConv]
  exact leads_disjoint (n := 2) (N := 4) (d := ![4, 256]) hne

theorem apartOut1 {o o' : Fin 3 → ℕ} {h h'} (hne : o 0 ≠ o' 0) :
    Disjoint (slotOut (Memref.whole main_v1_1) o h).view.set (slotOut (Memref.whole main_v1_1) o' h').view.set := by
  rw [setOut1, setOut1]
  exact leads_disjoint (n := 2) (N := 4) (d := ![256, 1024]) hne

theorem apartOut2 {o o' : Fin 3 → ℕ} {h h'} (hne : o 0 ≠ o' 0) :
    Disjoint (slotOut (Memref.whole main_v1_2) o h).view.set (slotOut (Memref.whole main_v1_2) o' h').view.set := by
  rw [setOut2, setOut2]
  exact leads_disjoint (n := 2) (N := 4) (d := ![256, 1024]) hne

theorem apartOut3 {o o' : Fin 3 → ℕ} {h h'} (hne : o 0 ≠ o' 0) :
    Disjoint (slotOut (Memref.whole main_v1_3) o h).view.set (slotOut (Memref.whole main_v1_3) o' h').view.set := by
  rw [setOut3, setOut3]
  exact leads_disjoint (n := 2) (N := 4) (d := ![256, 1024]) hne

/-! ## The arrays cut -/

/-- A fourth of an array's share. -/
def quarter (i : Fin 4) : PosShare TreeShare := ShareLeaves.leaf 2 fullShare i

/-- An array and the one it is gathered into: three shares of the array and the places three blocks arrive at, and a
    fourth share with the place of the device's own block. -/
theorem deal_array {ℓs ℓd : Loc nD τ sig} (Ks : Finset (Idx ℓs)) (Kd : Fin 4 → Finset (Idx ℓd)) (h : ∀ s s', s ≠ s' → Disjoint (Kd s) (Kd s'))
    (f : Buf (Elt F) ℓs) (g : Buf (Elt F) ℓd) :
    (iprop((ℓs ↦{fullShare} f) ∗ (ℓd ↦{fullShare} g)) : sProp 𝕄)
      ⊢ iprop((((ℓs ↦[Ks]{quarter 0} f) ∗ (ℓd ↦[Kd 0]{fullShare} g))
          ∗ ((ℓs ↦[Ks]{quarter 1} f) ∗ (ℓd ↦[Kd 1]{fullShare} g))
          ∗ ((ℓs ↦[Ks]{quarter 2} f) ∗ (ℓd ↦[Kd 2]{fullShare} g)))
        ∗ ((ℓs ↦[Ks]{quarter 3} f) ∗ (ℓd ↦[Kd 3]{fullShare} g))) := by
  have hs : (ℓs ↦{fullShare} f : sProp 𝕄) ⊢ bigSep Finset.univ fun i : Fin 4 => ℓs ↦[Ks]{quarter i} f :=
    deal_shares 2 Ks f
  have hd := deal_pieces (Val := Elt F) Kd h fullShare g
  rw [Ring.bigSep_fin4] at hs hd
  iintro ⟨Hs, Hd⟩
  ihave Hs := hs $$ Hs
  ihave Hd := hd $$ Hd
  icases Hs with ⟨S0, S1, S2, S3⟩
  icases Hd with ⟨D0, D1, D2, D3⟩
  isplitr [S3 D3]
  · isplitl [S0 D0]
    · isplitl [S0] <;> iassumption
    isplitl [S1 D1]
    · isplitl [S1] <;> iassumption
    isplitl [S2] <;> iassumption
  isplitl [S3] <;> iassumption

abbrev share : (Fin 5 × Fin 3) ⊕ Fin 5 → PosShare TreeShare :=
  Sum.elim (fun j => quarter j.2.castSucc) (fun _ => quarter 3)

section

variable (m : (ℓ : Loc nD τ sig) → Buf (Elt F) ℓ) (c : Dev nD)

/-- What array `t`'s transfers take on device `c`. -/
def taken (t : Fin 5) : sProp 𝕄 :=
  iprop((bigSep Finset.univ fun k : Fin 3 => iprop(srcPts net share m c (.inl (t, k)) ∗ slotPts net m c (net.source c (.inl (t, k))) (.inl (t, k))))
    ∗ (srcPts net share m c (.inr t) ∗ slotPts net m c (net.source c (.inr t)) (.inr t)))

theorem taken_0 : (iprop(((c : Thread nD τ).loc main_arg0 ↦{fullShare} m ((c : Thread nD τ).loc main_arg0))
    ∗ ((c : Thread nD τ).loc main_v1_0 ↦{fullShare} m ((c : Thread nD τ).loc main_v1_0))) : sProp 𝕄) ⊢ taken m c 0 := by
  unfold taken
  rw [Ring.bigSep_fin3]
  exact deal_array (ℓs := (c : Thread nD τ).loc main_arg0) (ℓd := (c : Thread nD τ).loc main_v1_0) (block c 0).src.view.set (fun s => (block (holders c 0 s) 0).dst.view.set)
    (fun s s' h => apartIn (by rw [off1_lead, off1_lead]; exact holders_apart c 0 s s' h)) _ _

theorem taken_1 : (iprop(((c : Thread nD τ).loc main_arg1 ↦{fullShare} m ((c : Thread nD τ).loc main_arg1))
    ∗ ((c : Thread nD τ).loc main_v1_1 ↦{fullShare} m ((c : Thread nD τ).loc main_v1_1))) : sProp 𝕄) ⊢ taken m c 1 := by
  unfold taken
  rw [Ring.bigSep_fin3]
  exact deal_array (ℓs := (c : Thread nD τ).loc main_arg1) (ℓd := (c : Thread nD τ).loc main_v1_1) (block c 1).src.view.set (fun s => (block (holders c 1 s) 1).dst.view.set)
    (fun s s' h => apartOut1 (by rw [off2_lead, off2_lead]; exact holders_apart c 1 s s' h)) _ _

theorem taken_2 : (iprop(((c : Thread nD τ).loc main_arg2 ↦{fullShare} m ((c : Thread nD τ).loc main_arg2))
    ∗ ((c : Thread nD τ).loc main_v1_2 ↦{fullShare} m ((c : Thread nD τ).loc main_v1_2))) : sProp 𝕄) ⊢ taken m c 2 := by
  unfold taken
  rw [Ring.bigSep_fin3]
  exact deal_array (ℓs := (c : Thread nD τ).loc main_arg2) (ℓd := (c : Thread nD τ).loc main_v1_2) (block c 2).src.view.set (fun s => (block (holders c 2 s) 2).dst.view.set)
    (fun s s' h => apartOut2 (by rw [off2_lead, off2_lead]; exact holders_apart c 2 s s' h)) _ _

theorem taken_3 : (iprop(((c : Thread nD τ).loc main_arg3 ↦{fullShare} m ((c : Thread nD τ).loc main_arg3))
    ∗ ((c : Thread nD τ).loc main_v1_3 ↦{fullShare} m ((c : Thread nD τ).loc main_v1_3))) : sProp 𝕄) ⊢ taken m c 3 := by
  unfold taken
  rw [Ring.bigSep_fin3]
  exact deal_array (ℓs := (c : Thread nD τ).loc main_arg3) (ℓd := (c : Thread nD τ).loc main_v1_3) (block c 3).src.view.set (fun s => (block (holders c 3 s) 3).dst.view.set)
    (fun s s' h => apartOut3 (by rw [off2_lead, off2_lead]; exact holders_apart c 3 s s' h)) _ _

theorem taken_4 : (iprop(((c : Thread nD τ).loc main_arg4 ↦{fullShare} m ((c : Thread nD τ).loc main_arg4))
    ∗ ((c : Thread nD τ).loc main_v1_4 ↦{fullShare} m ((c : Thread nD τ).loc main_v1_4))) : sProp 𝕄) ⊢ taken m c 4 := by
  unfold taken
  rw [Ring.bigSep_fin3]
  exact deal_array (ℓs := (c : Thread nD τ).loc main_arg4) (ℓd := (c : Thread nD τ).loc main_v1_4) (block c 4).src.view.set (fun s => (block (holders c 4 s) 4).dst.view.set)
    (fun s s' h => apartConv (by rw [off3_lead, off3_lead]; exact holders_apart c 4 s s' h)) _ _

theorem supply_eq : (supply net share m c : sProp 𝕄) = bigSep Finset.univ fun t : Fin 5 => taken m c t := by
  unfold supply taken
  rw [bigSep_sum, bigSep_univ_prod, bigSep_sep' (Φ := fun t : Fin 5 => bigSep Finset.univ fun k : Fin 3 => iprop(srcPts net share m c (.inl (t, k)) ∗ slotPts net m c (net.source c (.inl (t, k))) (.inl (t, k))))]

/-- A device's buffers, cut among the transfers. -/
theorem split : unscopedBufs c (fun b => m ((c : Thread nD τ).loc b)) ⊢ (supply net share m c : sProp 𝕄) := by
  have h : unscopedBufs c (fun b => m ((c : Thread nD τ).loc b)) = (Pipeline.unscopedRest (cfg0.spec) c (fun b => m ((c : Thread nD τ).loc b)) : sProp 𝕄) := by
    unfold unscopedBufs Pipeline.unscopedRest
    rw [show Finset.univ.image (Pipeline.arrRef cfg0.spec) = ∅ from by decide, Finset.sdiff_empty]
  rw [h, unscopedRest0_eq, supply_eq, bigSep_univ_eq_bigSepL [0, 1, 2, 3, 4] (by decide) (by decide)]
  have h0 := taken_0 m c
  have h1 := taken_1 m c
  have h2 := taken_2 m c
  have h3 := taken_3 m c
  have h4 := taken_4 m c
  show _ ⊢ iprop(taken m c 0 ∗ taken m c 1 ∗ taken m c 2 ∗ taken m c 3 ∗ taken m c 4)
  iintro ⟨A0, A1, A2, A3, A4, O0, O1, O2, O3, O4⟩
  isplitl [A0 O0]
  · iapply h0; isplitl [A0] <;> iassumption
  isplitl [A1 O1]
  · iapply h1; isplitl [A1] <;> iassumption
  isplitl [A2 O2]
  · iapply h2; isplitl [A2] <;> iassumption
  isplitl [A3 O3]
  · iapply h3; isplitl [A3] <;> iassumption
  iapply h4; isplitl [A4] <;> iassumption

end

/-! ## The run -/

instance : IsEmpty (Fin (cfgs 0).W) := inferInstanceAs (IsEmpty (Fin 0))

theorem isNet : IsNet (defs₀ (F := F)) Variants.none net (cfgs 0) := by
  intro c t Q
  unfold runsTo
  rw [← body_eq]
  exact BI.Entails.refl _

theorem run (m : (ℓ : Loc nD τ sig) → Buf (Elt F) ℓ) (g : Dev nD → PrngReg) :
    θ_run (defs (F := F)) (onTc (τ := τ) (main (F := F))) ⟨m, fun _ => 0, g⟩ fun r => (∀ c q, Settled net m c q r.2) ∧ r.2.sem = fun _ => 0 :=
  run_exchange net share m sound cfgs cellOf_inj 0 defs₀ Variants.none winFacts0.to₀ own_sems (by decide) N_0 (inferInstanceAs (IsEmpty (Fin 0))) isNet g main
    (fun c => rfl) (by decide) (split m)

/-! ## What it leaves -/

section

variable {m : (ℓ : Loc nD τ sig) → Buf (Elt F) ℓ} {s : MemSt nD τ sig (Elt F)} (h : ∀ c q, Settled net m c q s)
include h

/-- Every block a device holds in the end is its holder's shard. -/
theorem held (c : Dev nD) (t : Fin 5) : ∀ k : Fin 4, (block (holders c t k) t).dst.view.read (Elt F) (s.mem ((block (holders c t k) t).dst.view.loc (c : Thread nD τ)))
    = (block (holders c t k) t).src.view.read (Elt F) (m ((block (holders c t k) t).src.view.loc (holders c t k : Thread nD τ)))
  | 0 => (h c (.inl (t, 0))).read
  | 1 => (h c (.inl (t, 1))).read
  | 2 => (h c (.inl (t, 2))).read
  | 3 => (h c (.inr t)).read

/-- The shards are as they were. -/
theorem kept (c : Dev nD) (t : Fin 5) : ∀ i ∈ (block c t).src.view.set,
    s.mem ((block c t).src.view.loc (c : Thread nD τ)) i = m ((block c t).src.view.loc (c : Thread nD τ)) i := (h c (.inr t)).1

theorem kept_0 (c : Dev nD) : s.mem ((c : Thread nD τ).loc main_arg0) = m ((c : Thread nD τ).loc main_arg0) :=
  funext fun i => kept h c 0 i (by show i ∈ (View.whole main_arg0).set; rw [View.set_whole]; exact Finset.mem_univ _)
theorem kept_1 (c : Dev nD) : s.mem ((c : Thread nD τ).loc main_arg1) = m ((c : Thread nD τ).loc main_arg1) :=
  funext fun i => kept h c 1 i (by show i ∈ (View.whole main_arg1).set; rw [View.set_whole]; exact Finset.mem_univ _)
theorem kept_2 (c : Dev nD) : s.mem ((c : Thread nD τ).loc main_arg2) = m ((c : Thread nD τ).loc main_arg2) :=
  funext fun i => kept h c 2 i (by show i ∈ (View.whole main_arg2).set; rw [View.set_whole]; exact Finset.mem_univ _)
theorem kept_3 (c : Dev nD) : s.mem ((c : Thread nD τ).loc main_arg3) = m ((c : Thread nD τ).loc main_arg3) :=
  funext fun i => kept h c 3 i (by show i ∈ (View.whole main_arg3).set; rw [View.set_whole]; exact Finset.mem_univ _)
theorem kept_4 (c : Dev nD) : s.mem ((c : Thread nD τ).loc main_arg4) = m ((c : Thread nD τ).loc main_arg4) :=
  funext fun i => kept h c 4 i (by show i ∈ (View.whole main_arg4).set; rw [View.set_whole]; exact Finset.mem_univ _)

/-- Element `i` of a gathered array is its chip's, behind the leading coordinate. -/
theorem gathered_0 (c : Dev nD) (i : S4x1024x1664.Idx) :
    ∃ d : Dev nD, row d = (i 0).val ∧ s.mem ((c : Thread nD τ).loc main_v1_0) i = m ((d : Thread nD τ).loc main_arg0) (behind (d := ![1024, 1664]) i) := by
  obtain ⟨k, hk⟩ := holders_all c 0 (i 0)
  refine ⟨holders c 0 k, hk, ?_⟩
  have := congrFun (held h c 0 k) (behind (d := ![1024, 1664]) i)
  refine Eq.trans (congrArg (s.mem ((c : Thread nD τ).loc main_v1_0)) ?_) this
  exact (lead_emb (n := 2) (N := 4) (d := ![1024, 1664]) _ (by rw [off1]; exact fun a => by fin_cases a <;> rfl) i (by rw [off1_lead, hk])).symm

theorem gathered_1 (c : Dev nD) (i : S4x256x1024.Idx) :
    ∃ d : Dev nD, row d = (i 0).val ∧ s.mem ((c : Thread nD τ).loc main_v1_1) i = m ((d : Thread nD τ).loc main_arg1) (behind (d := ![256, 1024]) i) := by
  obtain ⟨k, hk⟩ := holders_all c 1 (i 0)
  refine ⟨holders c 1 k, hk, ?_⟩
  have := congrFun (held h c 1 k) (behind (d := ![256, 1024]) i)
  refine Eq.trans (congrArg (s.mem ((c : Thread nD τ).loc main_v1_1)) ?_) this
  exact (lead_emb (n := 2) (N := 4) (d := ![256, 1024]) _ (by rw [off2]; exact fun a => by fin_cases a <;> rfl) i (by rw [off2_lead, hk])).symm

theorem gathered_2 (c : Dev nD) (i : S4x256x1024.Idx) :
    ∃ d : Dev nD, row d = (i 0).val ∧ s.mem ((c : Thread nD τ).loc main_v1_2) i = m ((d : Thread nD τ).loc main_arg2) (behind (d := ![256, 1024]) i) := by
  obtain ⟨k, hk⟩ := holders_all c 2 (i 0)
  refine ⟨holders c 2 k, hk, ?_⟩
  have := congrFun (held h c 2 k) (behind (d := ![256, 1024]) i)
  refine Eq.trans (congrArg (s.mem ((c : Thread nD τ).loc main_v1_2)) ?_) this
  exact (lead_emb (n := 2) (N := 4) (d := ![256, 1024]) _ (by rw [off2]; exact fun a => by fin_cases a <;> rfl) i (by rw [off2_lead, hk])).symm

theorem gathered_3 (c : Dev nD) (i : S4x256x1024.Idx) :
    ∃ d : Dev nD, row d = (i 0).val ∧ s.mem ((c : Thread nD τ).loc main_v1_3) i = m ((d : Thread nD τ).loc main_arg3) (behind (d := ![256, 1024]) i) := by
  obtain ⟨k, hk⟩ := holders_all c 3 (i 0)
  refine ⟨holders c 3 k, hk, ?_⟩
  have := congrFun (held h c 3 k) (behind (d := ![256, 1024]) i)
  refine Eq.trans (congrArg (s.mem ((c : Thread nD τ).loc main_v1_3)) ?_) this
  exact (lead_emb (n := 2) (N := 4) (d := ![256, 1024]) _ (by rw [off2]; exact fun a => by fin_cases a <;> rfl) i (by rw [off2_lead, hk])).symm

theorem gathered_4 (c : Dev nD) (i : S4x4x256.Idx) :
    ∃ d : Dev nD, row d = (i 0).val ∧ s.mem ((c : Thread nD τ).loc main_v1_4) i = m ((d : Thread nD τ).loc main_arg4) (behind (d := ![4, 256]) i) := by
  obtain ⟨k, hk⟩ := holders_all c 4 (i 0)
  refine ⟨holders c 4 k, hk, ?_⟩
  have := congrFun (held h c 4 k) (behind (d := ![4, 256]) i)
  refine Eq.trans (congrArg (s.mem ((c : Thread nD τ).loc main_v1_4)) ?_) this
  exact (lead_emb (n := 2) (N := 4) (d := ![4, 256]) _ (by rw [off3]; exact fun a => by fin_cases a <;> rfl) i (by rw [off3_lead, hk])).symm

end

end Cert.Gather
-- ==== Proof.Gather.Value.lean ====
/-
  The reference's run, and the gathered arrays as its results.
-/
module

public import proofs.«01_k».proof.Defs
public import proofs.«01_k».proof.Proof.Gather.Run
public import proofs.«01_k».proof.Proof.Gen.ReferenceIdeal
public import Idealize.ShloMosaic.Lib.Claim
public import Idealize.ShloMosaic.Lib.Quiescent
public import Idealize.ShloMosaic.Lib.Pipeline.Value
public import Idealize.ShloMosaic.Lib.ValueIdxCore

@[expose] public section

noncomputable section

namespace Cert.Gather

open Cert.Exchange
open Idealize.ShloMosaic Idealize.ShloMosaic.TcCoe Idealize.SL Idealize.SL.Sem

/-! ## Cutting an array and stacking the parts -/

section Stack

variable {α : Type} {R C k w : ℕ}

/-- Columns cut in `k` parts and stacked: part `j 0`'s column `j 2`. -/
theorem columns_apply (x : (⟨2, ![R, C]⟩ : Shape).Idx → α) (hs : (⟨2, ![R, C]⟩ : Shape).ShapeCasts ⟨3, ![R, k, w]⟩)
    (ht : (⟨3, ![R, k, w]⟩ : Shape).Transposes [1, 0, 2] ⟨3, ![k, R, w]⟩) (hC : C = k * w) (j : (⟨3, ![k, R, w]⟩ : Shape).Idx)
    (p : (⟨2, ![R, C]⟩ : Shape).Idx) (h0 : (p 0).val = (j 1).val) (h1 : (p 1).val = (j 0).val * w + (j 2).val) :
    transpose ⟨3, ![k, R, w]⟩ [1, 0, 2] (shapeCast ⟨3, ![R, k, w]⟩ x hs) ht j = x p := by
  let l : (⟨3, ![R, k, w]⟩ : Shape).Idx := ValueIdx.ix3 (j 1) (j 0) (j 2)
  rw [transpose_apply [1, 0, 2] _ ht j l (fun b => by fin_cases b <;> rfl)]
  refine shapeCast_apply x hs l p ?_
  rw [Shape.rowMajor_val_two, Shape.rowMajor_val_three, h0, h1]
  show (j 1).val * C + _ = ((j 1).val * k + (j 0).val) * w + (j 2).val
  rw [hC]; ring

/-- Rows cut in parts and stacked. -/
theorem rows_apply {R C k w : ℕ} (x : (⟨2, ![R, C]⟩ : Shape).Idx → α) (hs : (⟨2, ![R, C]⟩ : Shape).ShapeCasts ⟨3, ![k, w, C]⟩)
    (j : (⟨3, ![k, w, C]⟩ : Shape).Idx)
    (p : (⟨2, ![R, C]⟩ : Shape).Idx) (h0 : (p 0).val = (j 0).val * w + (j 1).val) (h1 : (p 1).val = (j 2).val) :
    shapeCast ⟨3, ![k, w, C]⟩ x hs j = x p := by
  refine shapeCast_apply x hs j p ?_
  rw [Shape.rowMajor_val_two, Shape.rowMajor_val_three, h0, h1]
  show ((j 0).val * w + (j 1).val) * C + _ = ((j 0).val * w + (j 1).val) * C + (j 2).val
  rfl

end Stack

/-! ## The reference -/

section Reference

open Cert.ReferenceIdeal Cert.ReferenceIdeal.Gen

variable {F : FTy → Type} [FloatOps F]

variable (m : (ℓ : Loc nD τ sig) → Buf (Elt F) ℓ)

def in_proj : S4x1024x1664.Idx → Elt F .bf16 :=
  transpose S4x1024x1664 [1, 0, 2] (shapeCast S1024x4x1664 (m (((0 : Dev nD) : Thread nD τ).loc main_arg0)) shapeCasts_S1024x6656_S1024x4x1664)
    transposes_S1024x4x1664_S4x1024x1664_1_0_2
def rows_1 : S4x256x1024.Idx → Elt F .bf16 := shapeCast S4x256x1024 (m (((0 : Dev nD) : Thread nD τ).loc main_arg1)) shapeCasts_S1024x1024_S4x256x1024
def rows_2 : S4x256x1024.Idx → Elt F .bf16 := shapeCast S4x256x1024 (m (((0 : Dev nD) : Thread nD τ).loc main_arg2)) shapeCasts_S1024x1024_S4x256x1024
def rows_3 : S4x256x1024.Idx → Elt F .bf16 := shapeCast S4x256x1024 (m (((0 : Dev nD) : Thread nD τ).loc main_arg3)) shapeCasts_S1024x1024_S4x256x1024
def conv : S4x4x256.Idx → Elt F .f32 :=
  transpose S4x4x256 [1, 0, 2] (shapeCast S4x4x256 (m (((0 : Dev nD) : Thread nD τ).loc main_arg4)) shapeCasts_S4x1024_S4x4x256)
    transposes_S4x4x256_S4x4x256_1_0_2

theorem run_reference (g : Dev nD → PrngReg) :
    θ_run (defs (F := F)) (onTc (τ := τ) (main (F := F))) ⟨m, fun _ => 0, g⟩ fun r =>
      r.2.mem (((0 : Dev nD) : Thread nD τ).loc main_v1) = in_proj m
      ∧ r.2.mem (((0 : Dev nD) : Thread nD τ).loc main_v4) = rows_1 m
      ∧ r.2.mem (((0 : Dev nD) : Thread nD τ).loc main_v5) = rows_2 m
      ∧ r.2.mem (((0 : Dev nD) : Thread nD τ).loc main_v6) = rows_3 m
      ∧ r.2.mem (((0 : Dev nD) : Thread nD τ).loc main_v3) = conv m
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4) := by
  hlo_run <;> rfl

end Reference

/-! ## The results -/

section Results

open Cert.KernelIdeal Cert.KernelIdeal.Gen

variable {F : FTy → Type} [FloatOps F]

theorem by_columns (d : Dev nD) : Layout.meshLin [2, 2, 2] d.val [0, 1] = row d := by revert d; decide

variable {m : (ℓ : Loc nD τ sig) → Buf (Elt F) ℓ} {s : MemSt nD τ sig (Elt F)} (h : ∀ c q, Settled net m c q s)
include h

theorem result_0 {m' : (ℓ : Loc Cert.ReferenceIdeal.nD Cert.ReferenceIdeal.τ Cert.ReferenceIdeal.sig) → Buf (Elt F) ℓ}
    (hm : ∀ c : Dev nD, m ((c : Thread nD τ).loc main_arg0) = Layout.blockN ⟨2, ![1024, 1664]⟩ ⟨2, ![1024, 6656]⟩ (Layout.meshBlock [2, 2, 2] ![[], [0, 1]] c)
      (m' (((0 : Dev Cert.ReferenceIdeal.nD) : Thread Cert.ReferenceIdeal.nD Cert.ReferenceIdeal.τ).loc Cert.ReferenceIdeal.main_arg0))) (c : Dev nD) :
    s.mem ((c : Thread nD τ).loc main_v1_0) = in_proj m' := by
  funext i
  obtain ⟨d, hd, e⟩ := gathered_0 h c i
  rw [e, hm d]
  exact (columns_apply _ _ _ rfl i _ (by show Layout.meshLin [2, 2, 2] d.val [] * _ + _ = _; rw [show Layout.meshLin [2, 2, 2] d.val [] = 0 from rfl, Nat.zero_mul, Nat.zero_add]; rfl) (by show Layout.meshLin [2, 2, 2] d.val [0, 1] * 1664 + _ = _; rw [by_columns, hd]; rfl)).symm

theorem result_1 {m' : (ℓ : Loc Cert.ReferenceIdeal.nD Cert.ReferenceIdeal.τ Cert.ReferenceIdeal.sig) → Buf (Elt F) ℓ}
    (hm : ∀ c : Dev nD, m ((c : Thread nD τ).loc main_arg1) = Layout.blockN ⟨2, ![256, 1024]⟩ ⟨2, ![1024, 1024]⟩ (Layout.meshBlock [2, 2, 2] ![[0, 1], []] c)
      (m' (((0 : Dev Cert.ReferenceIdeal.nD) : Thread Cert.ReferenceIdeal.nD Cert.ReferenceIdeal.τ).loc Cert.ReferenceIdeal.main_arg1))) (c : Dev nD) :
    s.mem ((c : Thread nD τ).loc main_v1_1) = rows_1 m' := by
  funext i
  obtain ⟨d, hd, e⟩ := gathered_1 h c i
  rw [e, hm d]
  rw [Layout.blockN_apply, rows_1]
  refine (rows_apply _ _ i _ ?_ ?_).symm
  · show Layout.meshLin [2, 2, 2] d.val [0, 1] * 256 + _ = _; rw [by_columns, hd]; rfl
  · show Layout.meshLin [2, 2, 2] d.val [] * _ + _ = _; rw [show Layout.meshLin [2, 2, 2] d.val [] = 0 from rfl, Nat.zero_mul, Nat.zero_add]; rfl

theorem result_2 {m' : (ℓ : Loc Cert.ReferenceIdeal.nD Cert.ReferenceIdeal.τ Cert.ReferenceIdeal.sig) → Buf (Elt F) ℓ}
    (hm : ∀ c : Dev nD, m ((c : Thread nD τ).loc main_arg2) = Layout.blockN ⟨2, ![256, 1024]⟩ ⟨2, ![1024, 1024]⟩ (Layout.meshBlock [2, 2, 2] ![[0, 1], []] c)
      (m' (((0 : Dev Cert.ReferenceIdeal.nD) : Thread Cert.ReferenceIdeal.nD Cert.ReferenceIdeal.τ).loc Cert.ReferenceIdeal.main_arg2))) (c : Dev nD) :
    s.mem ((c : Thread nD τ).loc main_v1_2) = rows_2 m' := by
  funext i
  obtain ⟨d, hd, e⟩ := gathered_2 h c i
  rw [e, hm d]
  rw [Layout.blockN_apply, rows_2]
  refine (rows_apply _ _ i _ ?_ ?_).symm
  · show Layout.meshLin [2, 2, 2] d.val [0, 1] * 256 + _ = _; rw [by_columns, hd]; rfl
  · show Layout.meshLin [2, 2, 2] d.val [] * _ + _ = _; rw [show Layout.meshLin [2, 2, 2] d.val [] = 0 from rfl, Nat.zero_mul, Nat.zero_add]; rfl

theorem result_3 {m' : (ℓ : Loc Cert.ReferenceIdeal.nD Cert.ReferenceIdeal.τ Cert.ReferenceIdeal.sig) → Buf (Elt F) ℓ}
    (hm : ∀ c : Dev nD, m ((c : Thread nD τ).loc main_arg3) = Layout.blockN ⟨2, ![256, 1024]⟩ ⟨2, ![1024, 1024]⟩ (Layout.meshBlock [2, 2, 2] ![[0, 1], []] c)
      (m' (((0 : Dev Cert.ReferenceIdeal.nD) : Thread Cert.ReferenceIdeal.nD Cert.ReferenceIdeal.τ).loc Cert.ReferenceIdeal.main_arg3))) (c : Dev nD) :
    s.mem ((c : Thread nD τ).loc main_v1_3) = rows_3 m' := by
  funext i
  obtain ⟨d, hd, e⟩ := gathered_3 h c i
  rw [e, hm d]
  rw [Layout.blockN_apply, rows_3]
  refine (rows_apply _ _ i _ ?_ ?_).symm
  · show Layout.meshLin [2, 2, 2] d.val [0, 1] * 256 + _ = _; rw [by_columns, hd]; rfl
  · show Layout.meshLin [2, 2, 2] d.val [] * _ + _ = _; rw [show Layout.meshLin [2, 2, 2] d.val [] = 0 from rfl, Nat.zero_mul, Nat.zero_add]; rfl

theorem result_4 {m' : (ℓ : Loc Cert.ReferenceIdeal.nD Cert.ReferenceIdeal.τ Cert.ReferenceIdeal.sig) → Buf (Elt F) ℓ}
    (hm : ∀ c : Dev nD, m ((c : Thread nD τ).loc main_arg4) = Layout.blockN ⟨2, ![4, 256]⟩ ⟨2, ![4, 1024]⟩ (Layout.meshBlock [2, 2, 2] ![[], [0, 1]] c)
      (m' (((0 : Dev Cert.ReferenceIdeal.nD) : Thread Cert.ReferenceIdeal.nD Cert.ReferenceIdeal.τ).loc Cert.ReferenceIdeal.main_arg4))) (c : Dev nD) :
    s.mem ((c : Thread nD τ).loc main_v1_4) = conv m' := by
  funext i
  obtain ⟨d, hd, e⟩ := gathered_4 h c i
  rw [e, hm d]
  exact (columns_apply _ _ _ rfl i _ (by show Layout.meshLin [2, 2, 2] d.val [] * _ + _ = _; rw [show Layout.meshLin [2, 2, 2] d.val [] = 0 from rfl, Nat.zero_mul, Nat.zero_add]; rfl) (by show Layout.meshLin [2, 2, 2] d.val [0, 1] * 256 + _ = _; rw [by_columns, hd]; rfl)).symm

end Results

end Cert.Gather
-- ==== Proof.Swapped.Net.lean ====
/-
  The halves the two cores of a chip exchange as a net: five arrays, each with one channel to the other core.
-/
module

public import proofs.«01_k».proof.Proof.Exchange.Net
public import proofs.«01_k».proof.Proof.Gen.SwapIdeal
public import proofs.«01_k».proof.Proof.Gen.SwapIdeal.Launch

@[expose] public section

noncomputable section

namespace Cert.Swapped

open Cert.SwapIdeal Cert.SwapIdeal.Gen Cert.Exchange
open Idealize.ShloMosaic Idealize.ShloMosaic.TcCoe Idealize.SL Idealize.SL.Sem

variable {F : FTy → Type} [FloatOps F]

/-- The half of every block's rows that device `d` sends away. -/
def awayIn (d : Dev nD) : Memref sig .tc .hbm S4x512x1664 .f32 :=
  (Memref.whole main_arg0).slice (Rect.unit (s := S4x1024x1664) (k0_off1 d) S4x512x1664.size (k0_off1_inb d)) (fun _ => rfl)

def awayOut (r : Memref sig .tc .hbm S4x256x1024 .f32) (d : Dev nD) : Memref sig .tc .hbm S4x128x1024 .f32 :=
  r.slice (Rect.unit (s := S4x256x1024) (k0_off2 d) S4x128x1024.size (k0_off2_inb d)) (fun _ => rfl)

/-- What device `d` sends of array `t`, and where it arrives. -/
def sending (d : Dev nD) : Fin 5 → Wire sig
  | 0 => ⟨S4x512x1664, .f32, awayIn d, Memref.whole main_v1_0, View.wordExact_bits rfl, (Memref.isWhole_whole _).wordExact, rfl⟩
  | 1 => ⟨S4x128x1024, .f32, awayOut (Memref.whole main_arg1) d, Memref.whole main_v1_1, View.wordExact_bits rfl, (Memref.isWhole_whole _).wordExact, rfl⟩
  | 2 => ⟨S4x128x1024, .f32, awayOut (Memref.whole main_arg2) d, Memref.whole main_v1_2, View.wordExact_bits rfl, (Memref.isWhole_whole _).wordExact, rfl⟩
  | 3 => ⟨S4x128x1024, .f32, awayOut (Memref.whole main_arg3) d, Memref.whole main_v1_3, View.wordExact_bits rfl, (Memref.isWhole_whole _).wordExact, rfl⟩
  | 4 => ⟨S2144x128, .f32, Memref.whole main_arg4, Memref.whole main_v1_4, (Memref.isWhole_whole _).wordExact, (Memref.isWhole_whole _).wordExact, rfl⟩

/-- The other core, as the kernel computes it for array `t`. -/
def sibling (d : Dev nD) : Fin 5 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩

/-- Semaphore `t` of a bank of five starting at `b`. -/
def bank (b : ℕ) (hb : b ≤ 5) (t : Fin 5) : DmaSem sig := ⟨b + t.val, by have := t.isLt; show _ < 10; omega⟩

def net : Net nD sig (Fin 5) (Fin 0) where
  wire d := Sum.elim (sending d) Fin.elim0
  peer t d := sibling d t
  sendSem := bank 0 (by decide)
  recvSem := bank 5 (by decide)
  copySem := Fin.elim0
  sent d t := ⟨_, _, (sending d t).src⟩
  got d t := ⟨_, _, (sending d t).dst⟩
  copied _ := Fin.elim0
  channels := [0, 1, 2, 3, 4]
  copies := []

set_option maxRecDepth 65536 in
/-- The printed kernel is the net's program. -/
theorem body_eq : (cc0_pair_exchange (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1
    : Prog (TpuEff nD τ sig (Elt F) Λ₀ .tc) PUnit) = net.prog := rfl

end Cert.Swapped
-- ==== Proof.Swapped.Run.lean ====
/-
  The exchange's net is sound, its arrays are cut among its transfers, and what its run leaves.
-/
module

public import proofs.«01_k».proof.Proof.Exchange.Settle
public import proofs.«01_k».proof.Proof.Exchange.Slab
public import proofs.«01_k».proof.Proof.Swapped.Net

@[expose] public section

noncomputable section

namespace Cert.Swapped

open Cert.SwapIdeal Cert.SwapIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Soundness -/

/-- What a transfer of array `t` pays. -/
def credit (t : Fin 5) : ℕ := (sending 0 t).dst.view.dmaCredit

def amount : Fin 5 ⊕ Fin 0 → ℕ := Sum.elim credit Fin.elim0

theorem credit_eq : ∀ (d : Dev nD) (t : Fin 5), (sending d t).dst.view.dmaCredit = credit t
  | _, 0 => rfl | _, 1 => rfl | _, 2 => rfl | _, 3 => rfl | _, 4 => rfl

theorem credit_src : ∀ (d : Dev nD) (t : Fin 5), (sending d t).src.view.dmaCredit = credit t
  | _, 0 => rfl | _, 1 => rfl | _, 2 => rfl | _, 3 => rfl | _, 4 => rfl

theorem credit_pos : ∀ t : Fin 5, 0 < credit t
  | 0 => by decide | 1 => by decide | 2 => by decide | 3 => by decide | 4 => by decide

theorem sound : net.Sound amount where
  peer_peer := by decide
  sem_inj := by decide
  amount_pos | .inl t => credit_pos t
  wire_credit | d, .inl t => credit_eq d t
  sent_credit := credit_src
  got_credit := credit_eq
  copied_credit := fun _ i => i.elim0
  channels_nodup := by decide
  channels_all := by decide
  copies_nodup := by decide
  copies_all := by decide

theorem own_sems : Pipeline.OwnSemFacts (cfgs 0).spec fun k : Key (Fin 5) (Fin 0) => SemLoc.dma (net.sem k) := by decide

/-! ## The arrays cut -/

/-- An array of which a part is sent, and the one that arrives. -/
theorem deal_array {ℓs ℓd : Loc nD τ sig} (Ks : Finset (Idx ℓs)) (Kd : Finset (Idx ℓd)) (f : Buf (Elt F) ℓs) (g : Buf (Elt F) ℓd) :
    (iprop((ℓs ↦{fullShare} f) ∗ (ℓd ↦{fullShare} g)) : sProp 𝕄)
      ⊢ iprop(((ℓs ↦[Ks]{fullShare} f) ∗ (ℓd ↦[Kd]{fullShare} g)) ∗ (ℓs ↦[Finset.univ \ Ks]{fullShare} f)) := by
  have hs : (ℓs ↦{fullShare} f : sProp 𝕄) ⊢ iprop((ℓs ↦[Ks]{fullShare} f) ∗ (ℓs ↦[Finset.univ \ Ks]{fullShare} f)) :=
    (pointsTo_split_subset (Finset.subset_univ Ks)).1
  have hd : (ℓd ↦{fullShare} g : sProp 𝕄) ⊢ iprop((ℓd ↦[Kd]{fullShare} g) ∗ (ℓd ↦[Finset.univ \ Kd]{fullShare} g)) :=
    (pointsTo_split_subset (Finset.subset_univ Kd)).1
  iintro ⟨Hs, Hd⟩
  ihave Hs := hs $$ Hs
  ihave Hd := hd $$ Hd
  icases Hs with ⟨S, R⟩
  icases Hd with ⟨D, -⟩
  isplitr [R]
  · isplitl [S] <;> iassumption
  iexact R

abbrev share : Fin 5 ⊕ Fin 0 → PosShare TreeShare := fun _ => fullShare

/-- What of array `t` device `c` does not send. -/
def spare (c : Dev nD) (t : Fin 5) : Spare nD τ sig :=
  ⟨(sending c t).src.view.loc (c : Thread nD τ), Finset.univ \ (sending c t).src.view.set, fullShare⟩

section

variable (m : (ℓ : Loc nD τ sig) → Buf (Elt F) ℓ) (c : Dev nD)

/-- What array `t`'s transfer takes on device `c`, and what it leaves. -/
def taken (t : Fin 5) : sProp 𝕄 :=
  iprop((srcPts net share m c (.inl t) ∗ slotPts net m c (net.source c (.inl t)) (.inl t)) ∗ (spare c t).pts m)

theorem taken_0 : (iprop(((c : Thread nD τ).loc main_arg0 ↦{fullShare} m ((c : Thread nD τ).loc main_arg0))
    ∗ ((c : Thread nD τ).loc main_v1_0 ↦{fullShare} m ((c : Thread nD τ).loc main_v1_0))) : sProp 𝕄) ⊢ taken m c 0 :=
  deal_array (ℓs := (c : Thread nD τ).loc main_arg0) (ℓd := (c : Thread nD τ).loc main_v1_0) (sending c 0).src.view.set (sending (sibling c 0) 0).dst.view.set _ _

theorem taken_1 : (iprop(((c : Thread nD τ).loc main_arg1 ↦{fullShare} m ((c : Thread nD τ).loc main_arg1))
    ∗ ((c : Thread nD τ).loc main_v1_1 ↦{fullShare} m ((c : Thread nD τ).loc main_v1_1))) : sProp 𝕄) ⊢ taken m c 1 :=
  deal_array (ℓs := (c : Thread nD τ).loc main_arg1) (ℓd := (c : Thread nD τ).loc main_v1_1) (sending c 1).src.view.set (sending (sibling c 1) 1).dst.view.set _ _

theorem taken_2 : (iprop(((c : Thread nD τ).loc main_arg2 ↦{fullShare} m ((c : Thread nD τ).loc main_arg2))
    ∗ ((c : Thread nD τ).loc main_v1_2 ↦{fullShare} m ((c : Thread nD τ).loc main_v1_2))) : sProp 𝕄) ⊢ taken m c 2 :=
  deal_array (ℓs := (c : Thread nD τ).loc main_arg2) (ℓd := (c : Thread nD τ).loc main_v1_2) (sending c 2).src.view.set (sending (sibling c 2) 2).dst.view.set _ _

theorem taken_3 : (iprop(((c : Thread nD τ).loc main_arg3 ↦{fullShare} m ((c : Thread nD τ).loc main_arg3))
    ∗ ((c : Thread nD τ).loc main_v1_3 ↦{fullShare} m ((c : Thread nD τ).loc main_v1_3))) : sProp 𝕄) ⊢ taken m c 3 :=
  deal_array (ℓs := (c : Thread nD τ).loc main_arg3) (ℓd := (c : Thread nD τ).loc main_v1_3) (sending c 3).src.view.set (sending (sibling c 3) 3).dst.view.set _ _

theorem taken_4 : (iprop(((c : Thread nD τ).loc main_arg4 ↦{fullShare} m ((c : Thread nD τ).loc main_arg4))
    ∗ ((c : Thread nD τ).loc main_v1_4 ↦{fullShare} m ((c : Thread nD τ).loc main_v1_4))) : sProp 𝕄) ⊢ taken m c 4 :=
  deal_array (ℓs := (c : Thread nD τ).loc main_arg4) (ℓd := (c : Thread nD τ).loc main_v1_4) (sending c 4).src.view.set (sending (sibling c 4) 4).dst.view.set _ _

theorem supply_eq : (iprop(supply net share m c ∗ (bigSep Finset.univ fun t => (spare c t).pts m)) : sProp 𝕄) ⊣⊢ bigSep Finset.univ fun t : Fin 5 => taken m c t := by
  unfold supply taken
  rw [bigSep_sum, bigSep_sep' (Φ := fun t : Fin 5 => iprop(srcPts net share m c (.inl t) ∗ slotPts net m c (net.source c (.inl t)) (.inl t))),
    Finset.univ_eq_empty (α := Fin 0), BI.bigSep_empty]
  constructor
  · iintro ⟨⟨H, -⟩, R⟩
    isplitl [H] <;> iassumption
  · iintro ⟨H, R⟩
    isplitl [H]
    · isplitl [H]; · iexact H
      iempintro
    iexact R

/-- A device's buffers, cut among the transfers. -/
theorem split : unscopedBufs c (fun b => m ((c : Thread nD τ).loc b))
    ⊢ (iprop(supply net share m c ∗ (bigSep Finset.univ fun t => (spare c t).pts m)) : sProp 𝕄) := by
  have h : unscopedBufs c (fun b => m ((c : Thread nD τ).loc b)) = (Pipeline.unscopedRest (cfg0.spec) c (fun b => m ((c : Thread nD τ).loc b)) : sProp 𝕄) := by
    unfold unscopedBufs Pipeline.unscopedRest
    rw [show Finset.univ.image (Pipeline.arrRef cfg0.spec) = ∅ from by decide, Finset.sdiff_empty]
  rw [h, unscopedRest0_eq]
  refine BIBase.Entails.trans ?_ (supply_eq m c).2
  rw [bigSep_univ_eq_bigSepL [0, 1, 2, 3, 4] (by decide) (by decide)]
  have h0 := taken_0 m c
  have h1 := taken_1 m c
  have h2 := taken_2 m c
  have h3 := taken_3 m c
  have h4 := taken_4 m c
  show _ ⊢ iprop(taken m c 0 ∗ taken m c 1 ∗ taken m c 2 ∗ taken m c 3 ∗ taken m c 4)
  iintro ⟨A0, A1, A2, A3, A4, O0, O1, O2, O3, O4⟩
  isplitl [A0 O0]
  · iapply h0; isplitl [A0] <;> iassumption
  isplitl [A1 O1]
  · iapply h1; isplitl [A1] <;> iassumption
  isplitl [A2 O2]
  · iapply h2; isplitl [A2] <;> iassumption
  isplitl [A3 O3]
  · iapply h3; isplitl [A3] <;> iassumption
  iapply h4; isplitl [A4] <;> iassumption

end

/-! ## The run -/

instance : IsEmpty (Fin (cfgs 0).W) := inferInstanceAs (IsEmpty (Fin 0))

theorem isNet : IsNet (defs₀ (F := F)) Variants.none net (cfgs 0) := by
  intro c t Q
  unfold runsTo
  rw [← body_eq]
  exact BI.Entails.refl _

theorem run (m : (ℓ : Loc nD τ sig) → Buf (Elt F) ℓ) (g : Dev nD → PrngReg) :
    θ_run (defs (F := F)) (onTc (τ := τ) (main (F := F))) ⟨m, fun _ => 0, g⟩
      fun r => ((∀ c q, Settled net m c q r.2) ∧ ∀ c t, (spare c t).Kept m r.2) ∧ r.2.sem = fun _ => 0 :=
  run_exchange_sparing net share m sound cfgs cellOf_inj 0 defs₀ Variants.none winFacts0.to₀ own_sems (by decide) N_0 (inferInstanceAs (IsEmpty (Fin 0))) isNet
    spare g main (fun c => rfl) (by decide) (split m)

/-! ## What it leaves -/

section

variable {m : (ℓ : Loc nD τ sig) → Buf (Elt F) ℓ} {s : MemSt nD τ sig (Elt F)}
  (h : (∀ c q, Settled net m c q s) ∧ ∀ c t, (spare c t).Kept m s)
include h

/-- What arrived is what the other core sent. -/
theorem held (c : Dev nD) (t : Fin 5) : (sending (sibling c t) t).dst.view.read (Elt F) (s.mem ((sending (sibling c t) t).dst.view.loc (c : Thread nD τ)))
    = (sending (sibling c t) t).src.view.read (Elt F) (m ((sending (sibling c t) t).src.view.loc (sibling c t : Thread nD τ))) :=
  (h.1 c (.inl t)).read

/-- The arrays are as they were, what was sent of them and what was not. -/
theorem kept (c : Dev nD) (t : Fin 5) : s.mem ((sending c t).src.view.loc (c : Thread nD τ)) = m ((sending c t).src.view.loc (c : Thread nD τ)) :=
  funext fun i => if hi : i ∈ (sending c t).src.view.set then (h.1 c (.inl t)).1 i hi
    else h.2 c t i (Finset.mem_sdiff.mpr ⟨Finset.mem_univ _, hi⟩)

theorem kept_0 (c : Dev nD) : s.mem ((c : Thread nD τ).loc main_arg0) = m ((c : Thread nD τ).loc main_arg0) := kept h c 0
theorem kept_1 (c : Dev nD) : s.mem ((c : Thread nD τ).loc main_arg1) = m ((c : Thread nD τ).loc main_arg1) := kept h c 1
theorem kept_2 (c : Dev nD) : s.mem ((c : Thread nD τ).loc main_arg2) = m ((c : Thread nD τ).loc main_arg2) := kept h c 2
theorem kept_3 (c : Dev nD) : s.mem ((c : Thread nD τ).loc main_arg3) = m ((c : Thread nD τ).loc main_arg3) := kept h c 3
theorem kept_4 (c : Dev nD) : s.mem ((c : Thread nD τ).loc main_arg4) = m ((c : Thread nD τ).loc main_arg4) := kept h c 4

end

/-! ## The elements -/

/-- The other core of the chip. -/
def twin (c : Dev nD) : Dev nD := sibling c 0

theorem sibling_eq : ∀ (c : Dev nD) (t : Fin 5), sibling c t = twin c := by decide

theorem off1 (d : Dev nD) : k0_off1 (twin d) = ![0, (d.val % 2) * 512, 0] := by revert d; decide
theorem off2 (d : Dev nD) : k0_off2 (twin d) = ![0, (d.val % 2) * 128, 0] := by revert d; decide

section

variable {m : (ℓ : Loc nD τ sig) → Buf (Elt F) ℓ} {s : MemSt nD τ sig (Elt F)}
  (h : (∀ c q, Settled net m c q s) ∧ ∀ c t, (spare c t).Kept m s)
include h

/-- Row `i 1` of what arrived from core `c`'s sibling of every block. -/
theorem swapped_0 (c : Dev nD) (i : S4x512x1664.Idx) (i' : S4x1024x1664.Idx) (h0 : (i' 0).val = (i 0).val) (h1 : (i' 1).val = (c.val % 2) * 512 + (i 1).val)
    (h2 : (i' 2).val = (i 2).val) : s.mem ((c : Thread nD τ).loc main_v1_0) i = m ((twin c : Thread nD τ).loc main_arg0) i' := by
  refine (congrFun (held h c 0) i).trans (congrArg (m ((twin c : Thread nD τ).loc main_arg0)) (funext fun a => Fin.ext ?_))
  show k0_off1 (twin c) a + 1 * (i a).val = _
  rw [off1]
  fin_cases a
  · show 0 + 1 * (i 0).val = (i' 0).val; omega
  · show _ * 512 + 1 * (i 1).val = (i' 1).val; omega
  · show 0 + 1 * (i 2).val = (i' 2).val; omega

omit h in
theorem away_at (c : Dev nD) (i : S4x128x1024.Idx) (i' : S4x256x1024.Idx) (h0 : (i' 0).val = (i 0).val) (h1 : (i' 1).val = (c.val % 2) * 128 + (i 1).val)
    (h2 : (i' 2).val = (i 2).val) (a : Fin 3) : k0_off2 (twin c) a + 1 * (i a).val = (i' a).val := by
  rw [off2]
  fin_cases a
  · show 0 + 1 * (i 0).val = (i' 0).val; omega
  · show _ * 128 + 1 * (i 1).val = (i' 1).val; omega
  · show 0 + 1 * (i 2).val = (i' 2).val; omega

theorem swapped_1 (c : Dev nD) (i : S4x128x1024.Idx) (i' : S4x256x1024.Idx) (h0 : (i' 0).val = (i 0).val) (h1 : (i' 1).val = (c.val % 2) * 128 + (i 1).val)
    (h2 : (i' 2).val = (i 2).val) : s.mem ((c : Thread nD τ).loc main_v1_1) i = m ((twin c : Thread nD τ).loc main_arg1) i' :=
  (congrFun (held h c 1) i).trans (congrArg (m ((twin c : Thread nD τ).loc main_arg1)) (funext fun a => Fin.ext (away_at c i i' h0 h1 h2 a)))

theorem swapped_2 (c : Dev nD) (i : S4x128x1024.Idx) (i' : S4x256x1024.Idx) (h0 : (i' 0).val = (i 0).val) (h1 : (i' 1).val = (c.val % 2) * 128 + (i 1).val)
    (h2 : (i' 2).val = (i 2).val) : s.mem ((c : Thread nD τ).loc main_v1_2) i = m ((twin c : Thread nD τ).loc main_arg2) i' :=
  (congrFun (held h c 2) i).trans (congrArg (m ((twin c : Thread nD τ).loc main_arg2)) (funext fun a => Fin.ext (away_at c i i' h0 h1 h2 a)))

theorem swapped_3 (c : Dev nD) (i : S4x128x1024.Idx) (i' : S4x256x1024.Idx) (h0 : (i' 0).val = (i 0).val) (h1 : (i' 1).val = (c.val % 2) * 128 + (i 1).val)
    (h2 : (i' 2).val = (i 2).val) : s.mem ((c : Thread nD τ).loc main_v1_3) i = m ((twin c : Thread nD τ).loc main_arg3) i' :=
  (congrFun (held h c 3) i).trans (congrArg (m ((twin c : Thread nD τ).loc main_arg3)) (funext fun a => Fin.ext (away_at c i i' h0 h1 h2 a)))

theorem swapped_4 (c : Dev nD) (i : S2144x128.Idx) : s.mem ((c : Thread nD τ).loc main_v1_4) i = m ((twin c : Thread nD τ).loc main_arg4) i :=
  congrFun (held h c 4) i

end

end Cert.Swapped
-- ==== Proof.Swapped.Reference.lean ====
/-
  The reference's run, and its arrays at an index.
-/
module

public import proofs.«01_k».proof.Proof.Gen.SwapReferenceIdeal
public import Mathlib.Tactic.Ring
public import Idealize.ShloMosaic.Lib.Claim
public import Idealize.ShloMosaic.Lib.Quiescent
public import Idealize.ShloMosaic.Lib.Pipeline.Value
public import Idealize.ShloMosaic.Lib.LayoutAt
public import Idealize.ShloMosaic.Lib.ValueIdxCore
public import Idealize.ShloMosaic.Lib.ValueIdxRank6

@[expose] public section

noncomputable section

namespace Cert.Swapped

open Idealize.ShloMosaic Idealize.ShloMosaic.TcCoe Idealize.SL Idealize.SL.Sem

/-! ## Two parts stacked -/

section Stack

variable {α : Type}

/-- Two arrays stacked along a new axis 1: at `core`, the array that `core` names. -/
theorem stack_apply {k b n C : ℕ} (x y : (⟨4, ![k, b, n, C]⟩ : Shape).Idx → α)
    (hb : (⟨4, ![k, b, n, C]⟩ : Shape).BroadcastsInDim ⟨5, ![k, 1, b, n, C]⟩ ![0, 2, 3, 4])
    (hc : Shape.Concatenates [⟨5, ![k, 1, b, n, C]⟩, ⟨5, ![k, 1, b, n, C]⟩] ⟨5, ![k, 2, b, n, C]⟩ 1)
    (p : Fin k) (core : Fin 2) (q : Fin b) (r : Fin n) (w : Fin C) :
    concatenate ⟨5, ![k, 2, b, n, C]⟩ 1 [⟨⟨5, ![k, 1, b, n, C]⟩, broadcastInDim ⟨5, ![k, 1, b, n, C]⟩ ![0, 2, 3, 4] hb x⟩,
        ⟨⟨5, ![k, 1, b, n, C]⟩, broadcastInDim ⟨5, ![k, 1, b, n, C]⟩ ![0, 2, 3, 4] hb y⟩] hc (ValueIdx.ix5 p core q r w)
      = (if core = 0 then x else y) (ValueIdx.ix4 p q r w) := by
  have hbc : ∀ z : (⟨4, ![k, b, n, C]⟩ : Shape).Idx → α,
      broadcastInDim ⟨5, ![k, 1, b, n, C]⟩ ![0, 2, 3, 4] hb z (ValueIdx.ix5 p 0 q r w) = z (ValueIdx.ix4 p q r w) := fun z =>
    broadcastInDim_apply _ hb z _ _ fun a => by
      have hlt := (ValueIdx.ix4 p q r w a).isLt
      split_ifs with h1
      · omega
      · fin_cases a <;> rfl
  match core with
  | 0 =>
    rw [if_pos rfl, ← hbc x]
    exact concatenate_pair_apply_left 1 _ _ hc _ rfl _ fun a => by fin_cases a <;> rfl
  | 1 =>
    rw [if_neg (by decide), ← hbc y]
    exact concatenate_pair_apply_right 1 _ _ hc _ rfl rfl _ (fun a ha => by fin_cases a <;> first | rfl | exact absurd rfl ha) rfl

/-- The same of arrays of rows. -/
theorem stack_rows {k n C : ℕ} (x y : (⟨3, ![k, n, C]⟩ : Shape).Idx → α)
    (hb : (⟨3, ![k, n, C]⟩ : Shape).BroadcastsInDim ⟨4, ![k, 1, n, C]⟩ ![0, 2, 3])
    (hc : Shape.Concatenates [⟨4, ![k, 1, n, C]⟩, ⟨4, ![k, 1, n, C]⟩] ⟨4, ![k, 2, n, C]⟩ 1)
    (p : Fin k) (core : Fin 2) (r : Fin n) (w : Fin C) :
    concatenate ⟨4, ![k, 2, n, C]⟩ 1 [⟨⟨4, ![k, 1, n, C]⟩, broadcastInDim ⟨4, ![k, 1, n, C]⟩ ![0, 2, 3] hb x⟩,
        ⟨⟨4, ![k, 1, n, C]⟩, broadcastInDim ⟨4, ![k, 1, n, C]⟩ ![0, 2, 3] hb y⟩] hc (ValueIdx.ix4 p core r w)
      = (if core = 0 then x else y) (ValueIdx.ix3 p r w) := by
  have hbc : ∀ z : (⟨3, ![k, n, C]⟩ : Shape).Idx → α,
      broadcastInDim ⟨4, ![k, 1, n, C]⟩ ![0, 2, 3] hb z (ValueIdx.ix4 p 0 r w) = z (ValueIdx.ix3 p r w) := fun z =>
    broadcastInDim_apply _ hb z _ _ fun a => by
      have hlt := (ValueIdx.ix3 p r w a).isLt
      split_ifs with h1
      · omega
      · fin_cases a <;> rfl
  match core with
  | 0 =>
    rw [if_pos rfl, ← hbc x]
    exact concatenate_pair_apply_left 1 _ _ hc _ rfl _ fun a => by fin_cases a <;> rfl
  | 1 =>
    rw [if_neg (by decide), ← hbc y]
    exact concatenate_pair_apply_right 1 _ _ hc _ rfl rfl _ (fun a ha => by fin_cases a <;> first | rfl | exact absurd rfl ha) rfl

/-- Half `half` of the rows of the blocks of the cores `core`. -/
theorem part_apply {R n C : ℕ} (hR : R = 2 * n) (x : (⟨3, ![32, R, C]⟩ : Shape).Idx → α) (core half : ℕ)
    (hx : (⟨3, ![32, R, C]⟩ : Shape).ShapeCasts ⟨6, ![4, 2, 4, 2, n, C]⟩)
    (hs : (⟨6, ![4, 2, 4, 2, n, C]⟩ : Shape).Slices ![0, core, 0, half, 0, 0] ⟨6, ![4, 1, 4, 1, n, C]⟩)
    (hq : (⟨6, ![4, 1, 4, 1, n, C]⟩ : Shape).ShapeCasts ⟨4, ![4, 4, n, C]⟩)
    (hcore : core < 2) (hhalf : half < 2) (p q : Fin 4) (r : Fin n) (w : Fin C) (i : (⟨3, ![32, R, C]⟩ : Shape).Idx)
    (h0 : (i 0).val = (p.val * 2 + core) * 4 + q.val) (h1 : (i 1).val = half * n + r.val) (h2 : (i 2).val = w.val) :
    shapeCast ⟨4, ![4, 4, n, C]⟩ (extractStridedSlice ⟨6, ![4, 1, 4, 1, n, C]⟩ ![0, core, 0, half, 0, 0]
        (shapeCast ⟨6, ![4, 2, 4, 2, n, C]⟩ x hx) hs) hq (ValueIdx.ix4 p q r w) = x i := by
  rw [shapeCast_apply _ hq (ValueIdx.ix4 p q r w) (ValueIdx.ix6 p 0 q 0 r w) (by
      rw [Shape.rowMajor_val_four, Shape.rowMajor_val_six]
      show ((((p.val * 1 + 0) * 4 + q.val) * 1 + 0) * n + r.val) * C + w.val = ((p.val * 4 + q.val) * n + r.val) * C + w.val
      simp only [Nat.mul_one, Nat.add_zero]),
    extractStridedSlice_apply _ _ hs _ (ValueIdx.ix6 p ⟨core, hcore⟩ q ⟨half, hhalf⟩ r w) (fun a => by
      fin_cases a
      · show p.val = 0 + p.val; omega
      · rfl
      · show q.val = 0 + q.val; omega
      · rfl
      · show r.val = 0 + r.val; omega
      · show w.val = 0 + w.val; omega)]
  refine shapeCast_apply x hx _ i ?_
  rw [Shape.rowMajor_val_three, Shape.rowMajor_val_six, h0, h1, h2]
  show (((p.val * 2 + core) * 4 + q.val) * R + (half * n + r.val)) * C + w.val
    = (((((p.val * 2 + core) * 4 + q.val) * 2 + half) * n + r.val) * C + w.val)
  rw [hR]; ring

/-- The copies of the cores `core`. -/
theorem copy_apply {R n C : ℕ} (hR : R = 8 * n) (x : (⟨2, ![R, C]⟩ : Shape).Idx → α) (core : ℕ)
    (hx : (⟨2, ![R, C]⟩ : Shape).ShapeCasts ⟨4, ![4, 2, n, C]⟩) (hs : (⟨4, ![4, 2, n, C]⟩ : Shape).Slices ![0, core, 0, 0] ⟨4, ![4, 1, n, C]⟩)
    (hq : (⟨4, ![4, 1, n, C]⟩ : Shape).ShapeCasts ⟨3, ![4, n, C]⟩)
    (hcore : core < 2) (p : Fin 4) (r : Fin n) (w : Fin C) (i : (⟨2, ![R, C]⟩ : Shape).Idx)
    (h0 : (i 0).val = (p.val * 2 + core) * n + r.val) (h1 : (i 1).val = w.val) :
    shapeCast ⟨3, ![4, n, C]⟩ (extractStridedSlice ⟨4, ![4, 1, n, C]⟩ ![0, core, 0, 0] (shapeCast ⟨4, ![4, 2, n, C]⟩ x hx) hs) hq (ValueIdx.ix3 p r w) = x i := by
  rw [shapeCast_apply _ hq (ValueIdx.ix3 p r w) (ValueIdx.ix4 p 0 r w) (by
      rw [Shape.rowMajor_val_three, Shape.rowMajor_val_four]
      show ((p.val * 1 + 0) * n + r.val) * C + w.val = (p.val * n + r.val) * C + w.val
      simp only [Nat.mul_one, Nat.add_zero]),
    extractStridedSlice_apply _ _ hs _ (ValueIdx.ix4 p ⟨core, hcore⟩ r w) (fun a => by
      fin_cases a
      · show p.val = 0 + p.val; omega
      · rfl
      · show r.val = 0 + r.val; omega
      · show w.val = 0 + w.val; omega)]
  refine shapeCast_apply x hx _ i ?_
  rw [Shape.rowMajor_val_two, Shape.rowMajor_val_four, h0, h1]
  rfl

end Stack

/-! ## The reference -/

section Reference

open Cert.SwapReferenceIdeal Cert.SwapReferenceIdeal.Gen

variable {F : FTy → Type} [FloatOps F]

def crossIn (x : S32x1024x1664.Idx → Elt F .f32) : S32x512x1664.Idx → Elt F .f32 :=
  shapeCast S32x512x1664 (concatenate S4x2x4x512x1664 1
    [⟨S4x1x4x512x1664, broadcastInDim S4x1x4x512x1664 ![0, 2, 3, 4] bcast_S4x4x512x1664_S4x1x4x512x1664_0_2_3_4
        (shapeCast S4x4x512x1664 (extractStridedSlice S4x1x4x1x512x1664 ![0, 1, 0, 0, 0, 0] (shapeCast S4x2x4x2x512x1664 x shapeCasts_S32x1024x1664_S4x2x4x2x512x1664)
          slices_S4x2x4x2x512x1664_S4x1x4x1x512x1664_0_1_0_0_0_0) shapeCasts_S4x1x4x1x512x1664_S4x4x512x1664)⟩,
     ⟨S4x1x4x512x1664, broadcastInDim S4x1x4x512x1664 ![0, 2, 3, 4] bcast_S4x4x512x1664_S4x1x4x512x1664_0_2_3_4
        (shapeCast S4x4x512x1664 (extractStridedSlice S4x1x4x1x512x1664 ![0, 0, 0, 1, 0, 0] (shapeCast S4x2x4x2x512x1664 x shapeCasts_S32x1024x1664_S4x2x4x2x512x1664)
          slices_S4x2x4x2x512x1664_S4x1x4x1x512x1664_0_0_0_1_0_0) shapeCasts_S4x1x4x1x512x1664_S4x4x512x1664)⟩]
    concatenates_S4x1x4x512x1664_S4x1x4x512x1664_S4x2x4x512x1664_d1) shapeCasts_S4x2x4x512x1664_S32x512x1664

def crossOut (x : S32x256x1024.Idx → Elt F .f32) : S32x128x1024.Idx → Elt F .f32 :=
  shapeCast S32x128x1024 (concatenate S4x2x4x128x1024 1
    [⟨S4x1x4x128x1024, broadcastInDim S4x1x4x128x1024 ![0, 2, 3, 4] bcast_S4x4x128x1024_S4x1x4x128x1024_0_2_3_4
        (shapeCast S4x4x128x1024 (extractStridedSlice S4x1x4x1x128x1024 ![0, 1, 0, 0, 0, 0] (shapeCast S4x2x4x2x128x1024 x shapeCasts_S32x256x1024_S4x2x4x2x128x1024)
          slices_S4x2x4x2x128x1024_S4x1x4x1x128x1024_0_1_0_0_0_0) shapeCasts_S4x1x4x1x128x1024_S4x4x128x1024)⟩,
     ⟨S4x1x4x128x1024, broadcastInDim S4x1x4x128x1024 ![0, 2, 3, 4] bcast_S4x4x128x1024_S4x1x4x128x1024_0_2_3_4
        (shapeCast S4x4x128x1024 (extractStridedSlice S4x1x4x1x128x1024 ![0, 0, 0, 1, 0, 0] (shapeCast S4x2x4x2x128x1024 x shapeCasts_S32x256x1024_S4x2x4x2x128x1024)
          slices_S4x2x4x2x128x1024_S4x1x4x1x128x1024_0_0_0_1_0_0) shapeCasts_S4x1x4x1x128x1024_S4x4x128x1024)⟩]
    concatenates_S4x1x4x128x1024_S4x1x4x128x1024_S4x2x4x128x1024_d1) shapeCasts_S4x2x4x128x1024_S32x128x1024

def crossSmall (x : S17152x128.Idx → Elt F .f32) : S17152x128.Idx → Elt F .f32 :=
  shapeCast S17152x128 (concatenate S4x2x2144x128 1
    [⟨S4x1x2144x128, broadcastInDim S4x1x2144x128 ![0, 2, 3] bcast_S4x2144x128_S4x1x2144x128_0_2_3
        (shapeCast S4x2144x128 (extractStridedSlice S4x1x2144x128 ![0, 1, 0, 0] (shapeCast S4x2x2144x128 x shapeCasts_S17152x128_S4x2x2144x128)
          slices_S4x2x2144x128_S4x1x2144x128_0_1_0_0) shapeCasts_S4x1x2144x128_S4x2144x128)⟩,
     ⟨S4x1x2144x128, broadcastInDim S4x1x2144x128 ![0, 2, 3] bcast_S4x2144x128_S4x1x2144x128_0_2_3
        (shapeCast S4x2144x128 (extractStridedSlice S4x1x2144x128 ![0, 0, 0, 0] (shapeCast S4x2x2144x128 x shapeCasts_S17152x128_S4x2x2144x128)
          slices_S4x2x2144x128_S4x1x2144x128_0_0_0_0) shapeCasts_S4x1x2144x128_S4x2144x128)⟩]
    concatenates_S4x1x2144x128_S4x1x2144x128_S4x2x2144x128_d1) shapeCasts_S4x2x2144x128_S17152x128

variable (m : (ℓ : Loc nD τ sig) → Buf (Elt F) ℓ)

theorem run_reference (g : Dev nD → PrngReg) :
    θ_run (defs (F := F)) (onTc (τ := τ) (main (F := F))) ⟨m, fun _ => 0, g⟩ fun r =>
      r.2.mem (((0 : Dev nD) : Thread nD τ).loc main_v9) = crossIn (m (((0 : Dev nD) : Thread nD τ).loc main_arg0))
      ∧ r.2.mem (((0 : Dev nD) : Thread nD τ).loc main_v18) = crossOut (m (((0 : Dev nD) : Thread nD τ).loc main_arg1))
      ∧ r.2.mem (((0 : Dev nD) : Thread nD τ).loc main_v27) = crossOut (m (((0 : Dev nD) : Thread nD τ).loc main_arg2))
      ∧ r.2.mem (((0 : Dev nD) : Thread nD τ).loc main_v36) = crossOut (m (((0 : Dev nD) : Thread nD τ).loc main_arg3))
      ∧ r.2.mem (((0 : Dev nD) : Thread nD τ).loc main_v44) = crossSmall (m (((0 : Dev nD) : Thread nD τ).loc main_arg4))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4) := by
  hlo_run <;> rfl

/-- Block `j 0` of the reference is that of the other core, its rows the half of the block's core. -/
theorem crossIn_apply (x : S32x1024x1664.Idx → Elt F .f32) (p q : Fin 4) (core : Fin 2) (j : S32x512x1664.Idx) (i : S32x1024x1664.Idx)
    (hj : (j 0).val = (p.val * 2 + core.val) * 4 + q.val) (h0 : (i 0).val = (p.val * 2 + (1 - core.val)) * 4 + q.val)
    (h1 : (i 1).val = core.val * 512 + (j 1).val) (h2 : (i 2).val = (j 2).val) : crossIn x j = x i := by
  unfold crossIn
  refine (shapeCast_apply _ _ j (ValueIdx.ix5 p core q (j 1) (j 2)) ?_).trans ((stack_apply _ _ _ _ p core q (j 1) (j 2)).trans ?_)
  · rw [Shape.rowMajor_val_five, Shape.rowMajor_val_three]
    show (((p.val * 2 + core.val) * 4 + q.val) * 512 + (j 1).val) * 1664 + (j 2).val = ((j 0).val * 512 + (j 1).val) * 1664 + (j 2).val
    rw [hj]
  match core with
  | 0 => exact part_apply (by decide) x 1 0 _ _ _ (by decide) (by decide) p q (j 1) (j 2) i h0 h1 h2
  | 1 => exact part_apply (by decide) x 0 1 _ _ _ (by decide) (by decide) p q (j 1) (j 2) i h0 h1 h2

theorem crossOut_apply (x : S32x256x1024.Idx → Elt F .f32) (p q : Fin 4) (core : Fin 2) (j : S32x128x1024.Idx) (i : S32x256x1024.Idx)
    (hj : (j 0).val = (p.val * 2 + core.val) * 4 + q.val) (h0 : (i 0).val = (p.val * 2 + (1 - core.val)) * 4 + q.val)
    (h1 : (i 1).val = core.val * 128 + (j 1).val) (h2 : (i 2).val = (j 2).val) : crossOut x j = x i := by
  unfold crossOut
  refine (shapeCast_apply _ _ j (ValueIdx.ix5 p core q (j 1) (j 2)) ?_).trans ((stack_apply _ _ _ _ p core q (j 1) (j 2)).trans ?_)
  · rw [Shape.rowMajor_val_five, Shape.rowMajor_val_three]
    show (((p.val * 2 + core.val) * 4 + q.val) * 128 + (j 1).val) * 1024 + (j 2).val = ((j 0).val * 128 + (j 1).val) * 1024 + (j 2).val
    rw [hj]
  match core with
  | 0 => exact part_apply (by decide) x 1 0 _ _ _ (by decide) (by decide) p q (j 1) (j 2) i h0 h1 h2
  | 1 => exact part_apply (by decide) x 0 1 _ _ _ (by decide) (by decide) p q (j 1) (j 2) i h0 h1 h2

theorem crossSmall_apply (x : S17152x128.Idx → Elt F .f32) (p : Fin 4) (core : Fin 2) (r : Fin 2144) (j i : S17152x128.Idx)
    (hj : (j 0).val = (p.val * 2 + core.val) * 2144 + r.val) (h0 : (i 0).val = (p.val * 2 + (1 - core.val)) * 2144 + r.val)
    (h1 : (i 1).val = (j 1).val) : crossSmall x j = x i := by
  unfold crossSmall
  refine (shapeCast_apply _ _ j (ValueIdx.ix4 p core r (j 1)) ?_).trans ((stack_rows _ _ _ _ p core r (j 1)).trans ?_)
  · rw [Shape.rowMajor_val_four, Shape.rowMajor_val_two]
    show ((p.val * 2 + core.val) * 2144 + r.val) * 128 + (j 1).val = (j 0).val * 128 + (j 1).val
    rw [hj]
  match core with
  | 0 => exact copy_apply (by decide) x 1 _ _ _ (by decide) p r (j 1) i h0 h1
  | 1 => exact copy_apply (by decide) x 0 _ _ _ (by decide) p r (j 1) i h0 h1

end Reference

end Cert.Swapped
-- ==== Proof.Swapped.Value.lean ====
/-
  The halves that arrived are the reference's results.
-/
module

public import proofs.«01_k».proof.Proof.Swapped.Run
public import proofs.«01_k».proof.Proof.Swapped.Reference
public import Idealize.ShloMosaic.Lib.LayoutAt

@[expose] public section

noncomputable section

namespace Cert.Swapped

open Cert.Exchange
open Idealize.ShloMosaic Idealize.ShloMosaic.TcCoe Idealize.SL Idealize.SL.Sem

/-! ## The results -/

section Results

open Cert.SwapIdeal Cert.SwapIdeal.Gen

variable {F : FTy → Type} [FloatOps F]

theorem chip_core : ∀ c : Dev nD, ∃ (p : Fin 4) (core : Fin 2), c.val = p.val * 2 + core.val ∧ (twin c).val = p.val * 2 + (1 - core.val) ∧ c.val % 2 = core.val := by
  decide

/-- Core `c`'s half of its sibling's blocks is core `c`'s part of the reference. -/
theorem block_in (x : (⟨3, ![32, 1024, 1664]⟩ : Shape).Idx → Elt F .f32) (c : Dev nD) (i : (⟨3, ![4, 512, 1664]⟩ : Shape).Idx)
    (i' : (⟨3, ![4, 1024, 1664]⟩ : Shape).Idx) (h0 : (i' 0).val = (i 0).val) (h1 : (i' 1).val = (c.val % 2) * 512 + (i 1).val) (h2 : (i' 2).val = (i 2).val) :
    (Layout.block ⟨3, ![4, 1024, 1664]⟩ ⟨3, ![32, 1024, 1664]⟩ 0 8 (twin c) x : _ → _) i' = (Layout.block ⟨3, ![4, 512, 1664]⟩ ⟨3, ![32, 512, 1664]⟩ 0 8 c (crossIn x) : _ → _) i := by
  obtain ⟨p, core, hc, ht, hmod⟩ := chip_core c
  rw [Layout.block_apply, Layout.block_apply]
  refine (crossIn_apply x p (i 0) core _ _ ?_ ?_ ?_ ?_).symm
  · refine (Layout.Tiles.idx_val_self _ _ _ _ rfl).trans ?_; show c.val * 4 + (i 0).val = _; rw [hc]
  · refine (Layout.Tiles.idx_val_self _ _ _ _ rfl).trans ?_; show (twin c).val * 4 + (i' 0).val = _; rw [ht, h0]
  · refine (Layout.Tiles.idx_val_of_ne _ (twin c) i' 1 (by decide : (1 : ℕ) ≠ 0)).trans ((h1.trans ?_).trans (congrArg (core.val * 512 + ·) (Layout.Tiles.idx_val_of_ne _ c i 1 (by decide : (1 : ℕ) ≠ 0)).symm))
    rw [hmod]; rfl
  · exact (Layout.Tiles.idx_val_of_ne _ (twin c) i' 2 (by decide : (2 : ℕ) ≠ 0)).trans (h2.trans (Eq.symm (by exact Layout.Tiles.idx_val_of_ne _ c i 2 (by decide))))

theorem block_out (x : (⟨3, ![32, 256, 1024]⟩ : Shape).Idx → Elt F .f32) (c : Dev nD) (i : (⟨3, ![4, 128, 1024]⟩ : Shape).Idx)
    (i' : (⟨3, ![4, 256, 1024]⟩ : Shape).Idx) (h0 : (i' 0).val = (i 0).val) (h1 : (i' 1).val = (c.val % 2) * 128 + (i 1).val) (h2 : (i' 2).val = (i 2).val) :
    (Layout.block ⟨3, ![4, 256, 1024]⟩ ⟨3, ![32, 256, 1024]⟩ 0 8 (twin c) x : _ → _) i' = (Layout.block ⟨3, ![4, 128, 1024]⟩ ⟨3, ![32, 128, 1024]⟩ 0 8 c (crossOut x) : _ → _) i := by
  obtain ⟨p, core, hc, ht, hmod⟩ := chip_core c
  rw [Layout.block_apply, Layout.block_apply]
  refine (crossOut_apply x p (i 0) core _ _ ?_ ?_ ?_ ?_).symm
  · refine (Layout.Tiles.idx_val_self _ _ _ _ rfl).trans ?_; show c.val * 4 + (i 0).val = _; rw [hc]
  · refine (Layout.Tiles.idx_val_self _ _ _ _ rfl).trans ?_; show (twin c).val * 4 + (i' 0).val = _; rw [ht, h0]
  · refine (Layout.Tiles.idx_val_of_ne _ (twin c) i' 1 (by decide : (1 : ℕ) ≠ 0)).trans ((h1.trans ?_).trans (congrArg (core.val * 128 + ·) (Layout.Tiles.idx_val_of_ne _ c i 1 (by decide : (1 : ℕ) ≠ 0)).symm))
    rw [hmod]; rfl
  · exact (Layout.Tiles.idx_val_of_ne _ (twin c) i' 2 (by decide : (2 : ℕ) ≠ 0)).trans (h2.trans (Eq.symm (by exact Layout.Tiles.idx_val_of_ne _ c i 2 (by decide))))

theorem block_small (x : (⟨2, ![17152, 128]⟩ : Shape).Idx → Elt F .f32) (c : Dev nD) (i : (⟨2, ![2144, 128]⟩ : Shape).Idx) :
    (Layout.block ⟨2, ![2144, 128]⟩ ⟨2, ![17152, 128]⟩ 0 8 (twin c) x : _ → _) i = (Layout.block ⟨2, ![2144, 128]⟩ ⟨2, ![17152, 128]⟩ 0 8 c (crossSmall x) : _ → _) i := by
  obtain ⟨p, core, hc, ht, hmod⟩ := chip_core c
  rw [Layout.block_apply, Layout.block_apply]
  refine (crossSmall_apply x p core (i 0) _ _ ?_ ?_ ?_).symm
  · refine (Layout.Tiles.idx_val_self _ _ _ _ rfl).trans ?_; show c.val * 2144 + (i 0).val = _; rw [hc]
  · refine (Layout.Tiles.idx_val_self _ _ _ _ rfl).trans ?_; show (twin c).val * 2144 + (i 0).val = _; rw [ht]
  · exact (Layout.Tiles.idx_val_of_ne _ _ _ _ (by decide)).trans (Layout.Tiles.idx_val_of_ne _ _ _ _ (by decide)).symm

/-- Row `r` of a half of `n` rows, in the half's array. -/
def within (n : ℕ) {k C : ℕ} (c : Dev nD) (i : (⟨3, ![k, n, C]⟩ : Shape).Idx) : (⟨3, ![k, 2 * n, C]⟩ : Shape).Idx :=
  ValueIdx.ix3 (i 0) ⟨(c.val % 2) * n + (i 1).val, by
    have h1 : (i 1).val < n := (i 1).isLt
    rcases Nat.mod_two_eq_zero_or_one c.val with h | h <;> rw [h] <;> omega⟩ (i 2)

variable {m : (ℓ : Loc nD τ sig) → Buf (Elt F) ℓ} {s : MemSt nD τ sig (Elt F)}
  (h : (∀ c q, Settled net m c q s) ∧ ∀ c t, (spare c t).Kept m s)
include h

theorem result_0 {x : (⟨3, ![32, 1024, 1664]⟩ : Shape).Idx → Elt F .f32}
    (hm : ∀ c : Dev nD, m ((c : Thread nD τ).loc main_arg0) = Layout.block ⟨3, ![4, 1024, 1664]⟩ ⟨3, ![32, 1024, 1664]⟩ 0 8 c x) (c : Dev nD) :
    s.mem ((c : Thread nD τ).loc main_v1_0) = Layout.block ⟨3, ![4, 512, 1664]⟩ ⟨3, ![32, 512, 1664]⟩ 0 8 c (crossIn x) :=
  funext fun i => ((swapped_0 h c i (within 512 c i) rfl rfl rfl).trans (congrFun (hm (twin c)) _)).trans (block_in x c i (within 512 c i) rfl rfl rfl)

theorem result_1 {x : (⟨3, ![32, 256, 1024]⟩ : Shape).Idx → Elt F .f32}
    (hm : ∀ c : Dev nD, m ((c : Thread nD τ).loc main_arg1) = Layout.block ⟨3, ![4, 256, 1024]⟩ ⟨3, ![32, 256, 1024]⟩ 0 8 c x) (c : Dev nD) :
    s.mem ((c : Thread nD τ).loc main_v1_1) = Layout.block ⟨3, ![4, 128, 1024]⟩ ⟨3, ![32, 128, 1024]⟩ 0 8 c (crossOut x) :=
  funext fun i => ((swapped_1 h c i (within 128 c i) rfl rfl rfl).trans (congrFun (hm (twin c)) _)).trans (block_out x c i (within 128 c i) rfl rfl rfl)

theorem result_2 {x : (⟨3, ![32, 256, 1024]⟩ : Shape).Idx → Elt F .f32}
    (hm : ∀ c : Dev nD, m ((c : Thread nD τ).loc main_arg2) = Layout.block ⟨3, ![4, 256, 1024]⟩ ⟨3, ![32, 256, 1024]⟩ 0 8 c x) (c : Dev nD) :
    s.mem ((c : Thread nD τ).loc main_v1_2) = Layout.block ⟨3, ![4, 128, 1024]⟩ ⟨3, ![32, 128, 1024]⟩ 0 8 c (crossOut x) :=
  funext fun i => ((swapped_2 h c i (within 128 c i) rfl rfl rfl).trans (congrFun (hm (twin c)) _)).trans (block_out x c i (within 128 c i) rfl rfl rfl)

theorem result_3 {x : (⟨3, ![32, 256, 1024]⟩ : Shape).Idx → Elt F .f32}
    (hm : ∀ c : Dev nD, m ((c : Thread nD τ).loc main_arg3) = Layout.block ⟨3, ![4, 256, 1024]⟩ ⟨3, ![32, 256, 1024]⟩ 0 8 c x) (c : Dev nD) :
    s.mem ((c : Thread nD τ).loc main_v1_3) = Layout.block ⟨3, ![4, 128, 1024]⟩ ⟨3, ![32, 128, 1024]⟩ 0 8 c (crossOut x) :=
  funext fun i => ((swapped_3 h c i (within 128 c i) rfl rfl rfl).trans (congrFun (hm (twin c)) _)).trans (block_out x c i (within 128 c i) rfl rfl rfl)

theorem result_4 {x : (⟨2, ![17152, 128]⟩ : Shape).Idx → Elt F .f32}
    (hm : ∀ c : Dev nD, m ((c : Thread nD τ).loc main_arg4) = Layout.block ⟨2, ![2144, 128]⟩ ⟨2, ![17152, 128]⟩ 0 8 c x) (c : Dev nD) :
    s.mem ((c : Thread nD τ).loc main_v1_4) = Layout.block ⟨2, ![2144, 128]⟩ ⟨2, ![17152, 128]⟩ 0 8 c (crossSmall x) :=
  funext fun i => ((swapped_4 h c i).trans (congrFun (hm (twin c)) _)).trans (block_small x c i)

end Results

end Cert.Swapped
-- ==== Proof.Crossed.Net.lean ====
/-
  The exchange of the chips' partial sums as a net: five arrays, each with three channels, to the chip across x, the one
  across y and the one across both; of the fifth, which goes to every chip alike, a local copy too.
-/
module

public import proofs.«01_k».proof.Proof.Exchange.Net
public import proofs.«01_k».proof.Proof.Gen.CrossIdeal
public import proofs.«01_k».proof.Proof.Gen.CrossIdeal.Launch

@[expose] public section

noncomputable section

namespace Cert.Crossed

open Cert.CrossIdeal Cert.CrossIdeal.Gen Cert.Exchange
open Idealize.ShloMosaic Idealize.ShloMosaic.TcCoe Idealize.SL Idealize.SL.Sem

variable {F : FTy → Type} [FloatOps F]

/-! ## A chip's block of an array, and a core's rows of the small one -/

def slotIn (r : Memref sig .tc .hbm S4x512x1664 .bf16) (o : Fin 3 → ℕ) (h : ∀ a, o a + S1x512x1664.size a ≤ S4x512x1664.size a) :
    Memref sig .tc .hbm S512x1664 .bf16 :=
  (r.slice (Rect.unit (s := S4x512x1664) o S1x512x1664.size h) (fun _ => rfl)).squeeze S512x1664 squeezes_S1x512x1664_S512x1664

def slotOut (r : Memref sig .tc .hbm S4x128x1024 .bf16) (o : Fin 3 → ℕ) (h : ∀ a, o a + S1x128x1024.size a ≤ S4x128x1024.size a) :
    Memref sig .tc .hbm S128x1024 .bf16 :=
  (r.slice (Rect.unit (s := S4x128x1024) o S1x128x1024.size h) (fun _ => rfl)).squeeze S128x1024 squeezes_S1x128x1024_S128x1024

def slotSmall (o : Fin 3 → ℕ) (h : ∀ a, o a + S1x1072x128.size a ≤ S4x1072x128.size a) : Memref sig .tc .hbm S1072x128 .f32 :=
  ((Memref.whole main_v1_4).slice (Rect.unit (s := S4x1072x128) o S1x1072x128.size h) (fun _ => rfl)).squeeze S1072x128 squeezes_S1x1072x128_S1072x128

def rows (d : Dev nD) : Memref sig .tc .hbm S1072x128 .f32 :=
  (Memref.whole main_arg4).slice (Rect.unit (s := S2144x128) (k0_off2 d) S1072x128.size (k0_off2_inb d)) (fun _ => rfl)

/-! ## The block of the chip at the other end of channel `k`, as the kernel computes it -/

def aimIn (d : Dev nD) : Fin 3 → Fin 3 → ℕ
  | 0 => k0_off4 d | 1 => k0_off5 d | 2 => k0_off6 d

theorem aimIn_inb (d : Dev nD) : ∀ (k : Fin 3) (a), aimIn d k a + S1x512x1664.size a ≤ S4x512x1664.size a
  | 0 => k0_off4_inb d | 1 => k0_off5_inb d | 2 => k0_off6_inb d

theorem aimIn_words (d : Dev nD) : ∀ k : Fin 3, (Rect.unit (s := S4x512x1664) (aimIn d k) S1x512x1664.size (aimIn_inb d k)).WholeWords (EltTy.packing .bf16)
  | 0 => k0_off4_wordsbf16 d | 1 => k0_off5_wordsbf16 d | 2 => k0_off6_wordsbf16 d

def aimOut (d : Dev nD) : Fin 3 → Fin 3 → ℕ
  | 0 => k0_off8 d | 1 => k0_off9 d | 2 => k0_off10 d

theorem aimOut_inb (d : Dev nD) : ∀ (k : Fin 3) (a), aimOut d k a + S1x128x1024.size a ≤ S4x128x1024.size a
  | 0 => k0_off8_inb d | 1 => k0_off9_inb d | 2 => k0_off10_inb d

theorem aimOut_words (d : Dev nD) : ∀ k : Fin 3, (Rect.unit (s := S4x128x1024) (aimOut d k) S1x128x1024.size (aimOut_inb d k)).WholeWords (EltTy.packing .bf16)
  | 0 => k0_off8_wordsbf16 d | 1 => k0_off9_wordsbf16 d | 2 => k0_off10_wordsbf16 d

def aimSmall (d : Dev nD) : Fin 3 → Fin 3 → ℕ
  | 0 => k0_off11 d | 1 => k0_off12 d | 2 => k0_off13 d

theorem aimSmall_inb (d : Dev nD) : ∀ (k : Fin 3) (a), aimSmall d k a + S1x1072x128.size a ≤ S4x1072x128.size a
  | 0 => k0_off11_inb d | 1 => k0_off12_inb d | 2 => k0_off13_inb d

/-! ## The transfers -/

def wireIn (d : Dev nD) (k : Fin 3) : Wire sig :=
  ⟨S512x1664, .bf16, slotIn (Memref.whole main_arg0) (aimIn d k) (aimIn_inb d k), slotIn (Memref.whole main_v1_0) (k0_off3 d) (k0_off3_inb d),
    (((Memref.isWhole_whole _).wordExact_slice rfl _ (aimIn_words d k)).reshape _ _), (((Memref.isWhole_whole _).wordExact_slice rfl _ (k0_off3_wordsbf16 d)).reshape _ _), rfl⟩

def wireOut1 (d : Dev nD) (k : Fin 3) : Wire sig :=
  ⟨S128x1024, .bf16, slotOut (Memref.whole main_arg1) (aimOut d k) (aimOut_inb d k), slotOut (Memref.whole main_v1_1) (k0_off7 d) (k0_off7_inb d),
    (((Memref.isWhole_whole _).wordExact_slice rfl _ (aimOut_words d k)).reshape _ _), (((Memref.isWhole_whole _).wordExact_slice rfl _ (k0_off7_wordsbf16 d)).reshape _ _), rfl⟩

def wireOut2 (d : Dev nD) (k : Fin 3) : Wire sig :=
  ⟨S128x1024, .bf16, slotOut (Memref.whole main_arg2) (aimOut d k) (aimOut_inb d k), slotOut (Memref.whole main_v1_2) (k0_off7 d) (k0_off7_inb d),
    (((Memref.isWhole_whole _).wordExact_slice rfl _ (aimOut_words d k)).reshape _ _), (((Memref.isWhole_whole _).wordExact_slice rfl _ (k0_off7_wordsbf16 d)).reshape _ _), rfl⟩

def wireOut3 (d : Dev nD) (k : Fin 3) : Wire sig :=
  ⟨S128x1024, .bf16, slotOut (Memref.whole main_arg3) (aimOut d k) (aimOut_inb d k), slotOut (Memref.whole main_v1_3) (k0_off7 d) (k0_off7_inb d),
    (((Memref.isWhole_whole _).wordExact_slice rfl _ (aimOut_words d k)).reshape _ _), (((Memref.isWhole_whole _).wordExact_slice rfl _ (k0_off7_wordsbf16 d)).reshape _ _), rfl⟩

def wireSmall (d : Dev nD) : Wire sig :=
  ⟨S1072x128, .f32, rows d, slotSmall (k0_off1 d) (k0_off1_inb d), View.wordExact_bits rfl, ((View.wordExact_bits rfl).reshape _ _), rfl⟩

/-- What device `d` sends of array `t` over channel `k`. -/
def sending (d : Dev nD) : Fin 5 × Fin 3 → Wire sig
  | (0, k) => wireIn d k
  | (1, k) => wireOut1 d k
  | (2, k) => wireOut2 d k
  | (3, k) => wireOut3 d k
  | (4, _) => wireSmall d

/-- The block of array `t` that channel `k` brings to device `d`, as the kernel computes where it lies. -/
def brought (d : Dev nD) : Fin 5 × Fin 3 → End sig
  | (0, k) => ⟨_, _, slotIn (Memref.whole main_v1_0) (aimIn d k) (aimIn_inb d k)⟩
  | (1, k) => ⟨_, _, slotOut (Memref.whole main_v1_1) (aimOut d k) (aimOut_inb d k)⟩
  | (2, k) => ⟨_, _, slotOut (Memref.whole main_v1_2) (aimOut d k) (aimOut_inb d k)⟩
  | (3, k) => ⟨_, _, slotOut (Memref.whole main_v1_3) (aimOut d k) (aimOut_inb d k)⟩
  | (4, k) => ⟨_, _, slotSmall (aimSmall d k) (aimSmall_inb d k)⟩

/-- The chip at the other end of channel `k` of array `t`. -/
def other (d : Dev nD) : Fin 5 × Fin 3 → Dev nD
  | (0, 0) => ⟨k0_dev1 d, k0_dev1_lt d⟩
  | (0, 1) => ⟨k0_dev2 d, k0_dev2_lt d⟩
  | (0, 2) => ⟨k0_dev3 d, k0_dev3_lt d⟩
  | (1, 0) => ⟨k0_dev4 d, k0_dev4_lt d⟩
  | (1, 1) => ⟨k0_dev5 d, k0_dev5_lt d⟩
  | (1, 2) => ⟨k0_dev6 d, k0_dev6_lt d⟩
  | (2, 0) => ⟨k0_dev7 d, k0_dev7_lt d⟩
  | (2, 1) => ⟨k0_dev8 d, k0_dev8_lt d⟩
  | (2, 2) => ⟨k0_dev9 d, k0_dev9_lt d⟩
  | (3, 0) => ⟨k0_dev10 d, k0_dev10_lt d⟩
  | (3, 1) => ⟨k0_dev11 d, k0_dev11_lt d⟩
  | (3, 2) => ⟨k0_dev12 d, k0_dev12_lt d⟩
  | (4, 0) => ⟨k0_dev13 d, k0_dev13_lt d⟩
  | (4, 1) => ⟨k0_dev14 d, k0_dev14_lt d⟩
  | (4, 2) => ⟨k0_dev15 d, k0_dev15_lt d⟩

/-- Semaphore `3 t + k` of a bank of fifteen starting at `b`. -/
def bank (b : ℕ) (hb : b ≤ 15) (j : Fin 5 × Fin 3) : DmaSem sig := ⟨b + (3 * j.1.val + j.2.val), by have := j.1.isLt; have := j.2.isLt; show _ < 31; omega⟩

def net : Net nD sig (Fin 5 × Fin 3) (Fin 1) where
  wire d := Sum.elim (sending d) (fun _ => wireSmall d)
  peer j d := other d j
  sendSem := bank 0 (by decide)
  recvSem := bank 15 (by decide)
  copySem _ := ⟨30, by decide⟩
  sent d j := ⟨_, _, (sending d j).src⟩
  got := brought
  copied d _ := ⟨_, _, (wireSmall d).dst⟩
  channels := [(0, 0), (0, 1), (0, 2), (1, 0), (1, 1), (1, 2), (2, 0), (2, 1), (2, 2), (3, 0), (3, 1), (3, 2), (4, 0), (4, 1), (4, 2)]
  copies := [0]

set_option maxRecDepth 65536 in
/-- The printed kernel is the net's program. -/
theorem body_eq : (cc0_chip_exchange (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1 cc0_scratch2
    : Prog (TpuEff nD τ sig (Elt F) Λ₀ .tc) PUnit) = net.prog := rfl

end Cert.Crossed
-- ==== Proof.Crossed.Sound.lean ====
/-
  The net of the exchange is sound, and where its blocks lie.
-/
module

public import proofs.«01_k».proof.Proof.Exchange.Settle
public import proofs.«01_k».proof.Proof.Exchange.Slab
public import proofs.«01_k».proof.Proof.Crossed.Net

@[expose] public section

noncomputable section

namespace Cert.Crossed

open Cert.CrossIdeal Cert.CrossIdeal.Gen Cert.Exchange
open Idealize.ShloMosaic Idealize.ShloMosaic.TcCoe Idealize.SL Idealize.SL.Sem

/-! ## Soundness -/

/-- What a transfer of array `t` pays. -/
def credit (t : Fin 5) : ℕ := (sending 0 (t, 0)).dst.view.dmaCredit

def amount : (Fin 5 × Fin 3) ⊕ Fin 1 → ℕ := Sum.elim (fun j => credit j.1) (fun _ => credit 4)

theorem credit_dst (d : Dev nD) : ∀ j : Fin 5 × Fin 3, (sending d j).dst.view.dmaCredit = credit j.1
  | (0, _) => rfl | (1, _) => rfl | (2, _) => rfl | (3, _) => rfl | (4, _) => rfl

theorem credit_src (d : Dev nD) : ∀ j : Fin 5 × Fin 3, (sending d j).src.view.dmaCredit = credit j.1
  | (0, _) => rfl | (1, _) => rfl | (2, _) => rfl | (3, _) => rfl | (4, _) => rfl

theorem credit_brought (d : Dev nD) : ∀ j : Fin 5 × Fin 3, (brought d j).mem.view.dmaCredit = credit j.1
  | (0, _) => rfl | (1, _) => rfl | (2, _) => rfl | (3, _) => rfl | (4, _) => rfl

theorem credit_pos : ∀ t : Fin 5, 0 < credit t
  | 0 => by decide | 1 => by decide | 2 => by decide | 3 => by decide | 4 => by decide

/-- The chip across x, across y, across both. -/
def across (c : Dev nD) (k : Fin 3) : Dev nD := ⟨(c.val ^^^ ![4, 2, 6] k) % 8, Nat.mod_lt _ (by decide)⟩

theorem other_eq : ∀ (c : Dev nD) (j : Fin 5 × Fin 3), other c j = across c j.2 := by decide

theorem across_across : ∀ (k : Fin 3) (c : Dev nD), across (across c k) k = c := by decide

theorem other_other (j : Fin 5 × Fin 3) (c : Dev nD) : other (other c j) j = c := by rw [other_eq, other_eq, across_across]

theorem sem_inj : Function.Injective net.sem := by decide

theorem sound : net.Sound amount where
  peer_peer := other_other
  sem_inj := sem_inj
  amount_pos | .inl j => credit_pos j.1 | .inr _ => credit_pos 4
  wire_credit | d, .inl j => credit_dst d j | d, .inr _ => credit_dst d (4, 0)
  sent_credit := credit_src
  got_credit := credit_brought
  copied_credit := fun d _ => credit_dst d (4, 0)
  channels_nodup := by decide
  channels_all := by decide
  copies_nodup := by decide
  copies_all := by decide

theorem own_sems : Pipeline.OwnSemFacts (cfgs 0).spec fun k : Key (Fin 5 × Fin 3) (Fin 1) => SemLoc.dma (net.sem k) := by decide

/-! ## Where the blocks lie -/

/-- The chip of device `d`: the place of its block in an array. -/
def row (d : Dev nD) : ℕ := 2 * (d.val / 4) + (d.val / 2) % 2

theorem row_lt : ∀ d : Dev nD, row d < 4 := by decide

theorem across_apart : ∀ (c : Dev nD) (k k' : Fin 3), k ≠ k' → row (across c k) ≠ row (across c k') := by decide

theorem across_all : ∀ (c : Dev nD) (q : Fin 4), q.val ≠ row c → ∃ k : Fin 3, row (across c k) = q.val := by decide

theorem across_val : ∀ (c : Dev nD) (k : Fin 3), (across c k).val = row (across c k) * 2 + c.val % 2 := by decide

theorem row_val : ∀ c : Dev nD, c.val = row c * 2 + c.val % 2 := by decide

theorem off1 (d : Dev nD) : k0_off1 d = ![row d, 0, 0] := by revert d; decide
theorem off2 (d : Dev nD) : k0_off2 d = ![(d.val % 2) * 1072, 0] := by revert d; decide
theorem off3 (d : Dev nD) : k0_off3 d = ![row d, 0, 0] := by revert d; decide
theorem off7 (d : Dev nD) : k0_off7 d = ![row d, 0, 0] := by revert d; decide
theorem aimIn_eq (d : Dev nD) (k : Fin 3) : aimIn d k = ![row (across d k), 0, 0] := by revert d k; decide
theorem aimOut_eq (d : Dev nD) (k : Fin 3) : aimOut d k = ![row (across d k), 0, 0] := by revert d k; decide

theorem off1_lead (d : Dev nD) : k0_off1 d 0 = row d := by rw [off1]; rfl
theorem off3_lead (d : Dev nD) : k0_off3 d 0 = row d := by rw [off3]; rfl
theorem off7_lead (d : Dev nD) : k0_off7 d 0 = row d := by rw [off7]; rfl
theorem aimIn_lead (d : Dev nD) (k : Fin 3) : aimIn d k 0 = row (across d k) := by rw [aimIn_eq]; rfl
theorem aimOut_lead (d : Dev nD) (k : Fin 3) : aimOut d k 0 = row (across d k) := by rw [aimOut_eq]; rfl

end Cert.Crossed
-- ==== Proof.Crossed.Run.lean ====
/-
  The arrays of the exchange cut among its transfers, and what its run leaves.
-/
module

public import proofs.«01_k».proof.Proof.Crossed.Sound
public import Idealize.ShloMosaic.Lib.Ring
public import Idealize.ShloMosaic.Lib.Ring.AtN
public import Idealize.ShloMosaic.Lib.ValueIdxCore

@[expose] public section

noncomputable section

namespace Cert.Crossed

open Cert.CrossIdeal Cert.CrossIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Blocks at different places are apart -/

theorem apartIn (r : Memref sig .tc .hbm S4x512x1664 .bf16) {o o' : Fin 3 → ℕ} {h h'} (hne : o 0 ≠ o' 0) :
    Disjoint (slotIn r o h).view.set (slotIn r o' h').view.set := by
  have e : ∀ o h, (slotIn r o h).view.set = (Rect.unit (s := S4x512x1664) o S1x512x1664.size h).set.map r.view.emb := fun o h =>
    (View.set_reshape _ _).trans (View.set_slice _ _)
  rw [e, e]
  exact (Finset.disjoint_map _).mpr (leads_disjoint (n := 2) (N := 4) (d := ![512, 1664]) hne)

theorem apartOut (r : Memref sig .tc .hbm S4x128x1024 .bf16) {o o' : Fin 3 → ℕ} {h h'} (hne : o 0 ≠ o' 0) :
    Disjoint (slotOut r o h).view.set (slotOut r o' h').view.set := by
  have e : ∀ o h, (slotOut r o h).view.set = (Rect.unit (s := S4x128x1024) o S1x128x1024.size h).set.map r.view.emb := fun o h =>
    (View.set_reshape _ _).trans (View.set_slice _ _)
  rw [e, e]
  exact (Finset.disjoint_map _).mpr (leads_disjoint (n := 2) (N := 4) (d := ![128, 1024]) hne)

theorem apartSmall {o o' : Fin 3 → ℕ} {h h'} (hne : o 0 ≠ o' 0) : Disjoint (slotSmall o h).view.set (slotSmall o' h').view.set := by
  have e : ∀ o h, (slotSmall o h).view.set = (Rect.unit (s := S4x1072x128) o S1x1072x128.size h).set := fun o h =>
    (View.set_reshape _ _).trans (View.set_slice_whole _ _)
  rw [e, e]
  exact leads_disjoint (n := 2) (N := 4) (d := ![1072, 128]) hne

/-! ## The arrays cut -/

/-- An array of which three parts are sent, and one at three places of which parts arrive. -/
theorem deal_parts {ℓs ℓd : Loc nD τ sig} (Ks : Fin 3 → Finset (Idx ℓs)) (Kd : Fin 3 → Finset (Idx ℓd))
    (hs : ∀ k k', k ≠ k' → Disjoint (Ks k) (Ks k')) (hd : ∀ k k', k ≠ k' → Disjoint (Kd k) (Kd k')) (f : Buf (Elt F) ℓs) (g : Buf (Elt F) ℓd) :
    (iprop((ℓs ↦{fullShare} f) ∗ (ℓd ↦{fullShare} g)) : sProp 𝕄)
      ⊢ iprop((((ℓs ↦[Ks 0]{fullShare} f) ∗ (ℓd ↦[Kd 0]{fullShare} g))
          ∗ ((ℓs ↦[Ks 1]{fullShare} f) ∗ (ℓd ↦[Kd 1]{fullShare} g))
          ∗ ((ℓs ↦[Ks 2]{fullShare} f) ∗ (ℓd ↦[Kd 2]{fullShare} g)))
        ∗ (ℓs ↦[Finset.univ \ Finset.univ.biUnion Ks]{fullShare} f)) := by
  have h1 : (ℓs ↦{fullShare} f : sProp 𝕄)
      ⊢ iprop((bigSep Finset.univ fun k : Fin 3 => ℓs ↦[Ks k]{fullShare} f) ∗ (ℓs ↦[Finset.univ \ Finset.univ.biUnion Ks]{fullShare} f)) := by
    rw [← pointsTo_biUnion Finset.univ Ks fun k _ k' _ => hs k k']
    exact (pointsTo_split_subset (Finset.subset_univ (Finset.univ.biUnion Ks))).1
  have h2 := deal_pieces (Val := Elt F) Kd hd fullShare g
  rw [Ring.bigSep_fin3] at h1 h2
  iintro ⟨Hs, Hd⟩
  ihave Hs := h1 $$ Hs
  ihave Hd := h2 $$ Hd
  icases Hs with ⟨⟨S0, S1, S2⟩, R⟩
  icases Hd with ⟨D0, D1, D2⟩
  isplitr [R]
  · isplitl [S0 D0]
    · isplitl [S0] <;> iassumption
    isplitl [S1 D1]
    · isplitl [S1] <;> iassumption
    isplitl [S2] <;> iassumption
  iexact R

/-- A fourth of an array's share. -/
def quarter (i : Fin 4) : PosShare TreeShare := ShareLeaves.leaf 2 fullShare i

/-- An array of which one part is sent three times and copied once, and the places where three parts and the copy arrive. -/
theorem deal_rows {ℓs ℓd : Loc nD τ sig} (K : Finset (Idx ℓs)) (Kd : Fin 4 → Finset (Idx ℓd)) (hd : ∀ k k', k ≠ k' → Disjoint (Kd k) (Kd k'))
    (f : Buf (Elt F) ℓs) (g : Buf (Elt F) ℓd) :
    (iprop((ℓs ↦{fullShare} f) ∗ (ℓd ↦{fullShare} g)) : sProp 𝕄)
      ⊢ iprop(((((ℓs ↦[K]{quarter 0} f) ∗ (ℓd ↦[Kd 0]{fullShare} g))
          ∗ ((ℓs ↦[K]{quarter 1} f) ∗ (ℓd ↦[Kd 1]{fullShare} g))
          ∗ ((ℓs ↦[K]{quarter 2} f) ∗ (ℓd ↦[Kd 2]{fullShare} g)))
          ∗ (ℓs ↦[Finset.univ \ K]{fullShare} f))
        ∗ ((ℓs ↦[K]{quarter 3} f) ∗ (ℓd ↦[Kd 3]{fullShare} g))) := by
  have h1 : (ℓs ↦{fullShare} f : sProp 𝕄)
      ⊢ iprop((bigSep Finset.univ fun i : Fin 4 => ℓs ↦[K]{quarter i} f) ∗ (ℓs ↦[Finset.univ \ K]{fullShare} f)) := by
    refine ((pointsTo_split_subset (Finset.subset_univ K)).1).trans ?_
    rw [ShareLeaves.pointsTo_leaves K f 2 fullShare]
    exact BI.Entails.refl _
  have h2 := deal_pieces (Val := Elt F) Kd hd fullShare g
  rw [Ring.bigSep_fin4] at h1 h2
  iintro ⟨Hs, Hd⟩
  ihave Hs := h1 $$ Hs
  ihave Hd := h2 $$ Hd
  icases Hs with ⟨⟨S0, S1, S2, S3⟩, R⟩
  icases Hd with ⟨D0, D1, D2, D3⟩
  isplitr [S3 D3]
  · isplitr [R]
    · isplitl [S0 D0]
      · isplitl [S0] <;> iassumption
      isplitl [S1 D1]
      · isplitl [S1] <;> iassumption
      isplitl [S2] <;> iassumption
    iexact R
  isplitl [S3] <;> iassumption

abbrev share : (Fin 5 × Fin 3) ⊕ Fin 1 → PosShare TreeShare :=
  Sum.elim (fun j => ![fullShare, fullShare, fullShare, fullShare, quarter j.2.castSucc] j.1) (fun _ => quarter 3)

/-- What of array `t` device `c` does not send. -/
def spare (c : Dev nD) : Fin 5 → Spare nD τ sig
  | 0 => ⟨(c : Thread nD τ).loc main_arg0, Finset.univ \ Finset.univ.biUnion fun k => (wireIn c k).src.view.set, fullShare⟩
  | 1 => ⟨(c : Thread nD τ).loc main_arg1, Finset.univ \ Finset.univ.biUnion fun k => (wireOut1 c k).src.view.set, fullShare⟩
  | 2 => ⟨(c : Thread nD τ).loc main_arg2, Finset.univ \ Finset.univ.biUnion fun k => (wireOut2 c k).src.view.set, fullShare⟩
  | 3 => ⟨(c : Thread nD τ).loc main_arg3, Finset.univ \ Finset.univ.biUnion fun k => (wireOut3 c k).src.view.set, fullShare⟩
  | 4 => ⟨(c : Thread nD τ).loc main_arg4, Finset.univ \ (wireSmall c).src.view.set, fullShare⟩

section

variable (m : (ℓ : Loc nD τ sig) → Buf (Elt F) ℓ) (c : Dev nD)

/-- What array `t`'s transfers to other chips take on device `c`, and what they leave. -/
def taken (t : Fin 5) : sProp 𝕄 :=
  iprop((bigSep Finset.univ fun k : Fin 3 => iprop(srcPts net share m c (.inl (t, k)) ∗ slotPts net m c (net.source c (.inl (t, k))) (.inl (t, k))))
    ∗ (spare c t).pts m)

/-- What the local copy takes. -/
def takenHere : sProp 𝕄 := iprop(srcPts net share m c (.inr 0) ∗ slotPts net m c (net.source c (.inr 0)) (.inr 0))

theorem taken_0 : (iprop(((c : Thread nD τ).loc main_arg0 ↦{fullShare} m ((c : Thread nD τ).loc main_arg0))
    ∗ ((c : Thread nD τ).loc main_v1_0 ↦{fullShare} m ((c : Thread nD τ).loc main_v1_0))) : sProp 𝕄) ⊢ taken m c 0 := by
  unfold taken
  rw [Ring.bigSep_fin3]
  exact deal_parts (ℓs := (c : Thread nD τ).loc main_arg0) (ℓd := (c : Thread nD τ).loc main_v1_0) (fun k => (wireIn c k).src.view.set)
    (fun k => (wireIn (other c (0, k)) k).dst.view.set) (fun k k' h => apartIn _ (by rw [aimIn_lead, aimIn_lead]; exact across_apart c k k' h))
    (fun k k' h => apartIn _ (by rw [off3_lead, off3_lead, other_eq, other_eq]; exact across_apart c k k' h)) _ _

theorem taken_1 : (iprop(((c : Thread nD τ).loc main_arg1 ↦{fullShare} m ((c : Thread nD τ).loc main_arg1))
    ∗ ((c : Thread nD τ).loc main_v1_1 ↦{fullShare} m ((c : Thread nD τ).loc main_v1_1))) : sProp 𝕄) ⊢ taken m c 1 := by
  unfold taken
  rw [Ring.bigSep_fin3]
  exact deal_parts (ℓs := (c : Thread nD τ).loc main_arg1) (ℓd := (c : Thread nD τ).loc main_v1_1) (fun k => (wireOut1 c k).src.view.set)
    (fun k => (wireOut1 (other c (1, k)) k).dst.view.set) (fun k k' h => apartOut _ (by rw [aimOut_lead, aimOut_lead]; exact across_apart c k k' h))
    (fun k k' h => apartOut _ (by rw [off7_lead, off7_lead, other_eq, other_eq]; exact across_apart c k k' h)) _ _

theorem taken_2 : (iprop(((c : Thread nD τ).loc main_arg2 ↦{fullShare} m ((c : Thread nD τ).loc main_arg2))
    ∗ ((c : Thread nD τ).loc main_v1_2 ↦{fullShare} m ((c : Thread nD τ).loc main_v1_2))) : sProp 𝕄) ⊢ taken m c 2 := by
  unfold taken
  rw [Ring.bigSep_fin3]
  exact deal_parts (ℓs := (c : Thread nD τ).loc main_arg2) (ℓd := (c : Thread nD τ).loc main_v1_2) (fun k => (wireOut2 c k).src.view.set)
    (fun k => (wireOut2 (other c (2, k)) k).dst.view.set) (fun k k' h => apartOut _ (by rw [aimOut_lead, aimOut_lead]; exact across_apart c k k' h))
    (fun k k' h => apartOut _ (by rw [off7_lead, off7_lead, other_eq, other_eq]; exact across_apart c k k' h)) _ _

theorem taken_3 : (iprop(((c : Thread nD τ).loc main_arg3 ↦{fullShare} m ((c : Thread nD τ).loc main_arg3))
    ∗ ((c : Thread nD τ).loc main_v1_3 ↦{fullShare} m ((c : Thread nD τ).loc main_v1_3))) : sProp 𝕄) ⊢ taken m c 3 := by
  unfold taken
  rw [Ring.bigSep_fin3]
  exact deal_parts (ℓs := (c : Thread nD τ).loc main_arg3) (ℓd := (c : Thread nD τ).loc main_v1_3) (fun k => (wireOut3 c k).src.view.set)
    (fun k => (wireOut3 (other c (3, k)) k).dst.view.set) (fun k k' h => apartOut _ (by rw [aimOut_lead, aimOut_lead]; exact across_apart c k k' h))
    (fun k k' h => apartOut _ (by rw [off7_lead, off7_lead, other_eq, other_eq]; exact across_apart c k k' h)) _ _

/-- The devices whose rows device `c` holds in the end, its own the last. -/
def holders : Fin 4 → Dev nD := ![other c (4, 0), other c (4, 1), other c (4, 2), c]

theorem holders_apart : ∀ (c : Dev nD) (k k' : Fin 4), k ≠ k' → row (holders c k) ≠ row (holders c k') := by
  have h : ∀ c, holders c = ![across c 0, across c 1, across c 2, c] := fun c => by unfold holders; rw [other_eq, other_eq, other_eq]
  intro c
  rw [h]
  revert c
  decide

theorem taken_4 : (iprop(((c : Thread nD τ).loc main_arg4 ↦{fullShare} m ((c : Thread nD τ).loc main_arg4))
    ∗ ((c : Thread nD τ).loc main_v1_4 ↦{fullShare} m ((c : Thread nD τ).loc main_v1_4))) : sProp 𝕄) ⊢ iprop(taken m c 4 ∗ takenHere m c) := by
  unfold taken takenHere
  rw [Ring.bigSep_fin3]
  exact deal_rows (ℓs := (c : Thread nD τ).loc main_arg4) (ℓd := (c : Thread nD τ).loc main_v1_4) (wireSmall c).src.view.set
    (fun k => (wireSmall (holders c k)).dst.view.set) (fun k k' h => apartSmall (by rw [off1_lead, off1_lead]; exact holders_apart c k k' h)) _ _

theorem supply_eq : (iprop(supply net share m c ∗ (bigSep Finset.univ fun t => (spare c t).pts m)) : sProp 𝕄)
    ⊣⊢ iprop((bigSep Finset.univ fun t : Fin 5 => taken m c t) ∗ takenHere m c) := by
  unfold supply taken takenHere
  rw [bigSep_sum, bigSep_univ_prod,
    bigSep_sep' (Φ := fun t : Fin 5 => bigSep Finset.univ fun k : Fin 3 => iprop(srcPts net share m c (.inl (t, k)) ∗ slotPts net m c (net.source c (.inl (t, k))) (.inl (t, k)))),
    Finset.univ_unique (α := Fin 1), BI.bigSep_singleton]
  constructor
  · iintro ⟨⟨H, L⟩, R⟩
    isplitr [L]
    · isplitl [H] <;> iassumption
    iexact L
  · iintro ⟨⟨H, R⟩, L⟩
    isplitr [R]
    · isplitl [H] <;> iassumption
    iexact R

/-- A device's buffers, cut among the transfers. -/
theorem split : unscopedBufs c (fun b => m ((c : Thread nD τ).loc b))
    ⊢ (iprop(supply net share m c ∗ (bigSep Finset.univ fun t => (spare c t).pts m)) : sProp 𝕄) := by
  have h : unscopedBufs c (fun b => m ((c : Thread nD τ).loc b)) = (Pipeline.unscopedRest (cfg0.spec) c (fun b => m ((c : Thread nD τ).loc b)) : sProp 𝕄) := by
    unfold unscopedBufs Pipeline.unscopedRest
    rw [show Finset.univ.image (Pipeline.arrRef cfg0.spec) = ∅ from by decide, Finset.sdiff_empty]
  rw [h, unscopedRest0_eq]
  refine BIBase.Entails.trans ?_ (supply_eq m c).2
  rw [bigSep_univ_eq_bigSepL [0, 1, 2, 3, 4] (by decide) (by decide)]
  have h0 := taken_0 m c
  have h1 := taken_1 m c
  have h2 := taken_2 m c
  have h3 := taken_3 m c
  have h4 := taken_4 m c
  show _ ⊢ iprop((taken m c 0 ∗ taken m c 1 ∗ taken m c 2 ∗ taken m c 3 ∗ taken m c 4) ∗ takenHere m c)
  iintro ⟨A0, A1, A2, A3, A4, O0, O1, O2, O3, O4⟩
  ihave H := h4 $$ [A4 O4]
  · isplitl [A4] <;> iassumption
  icases H with ⟨T, L⟩
  isplitr [L]
  · isplitl [A0 O0]
    · iapply h0; isplitl [A0] <;> iassumption
    isplitl [A1 O1]
    · iapply h1; isplitl [A1] <;> iassumption
    isplitl [A2 O2]
    · iapply h2; isplitl [A2] <;> iassumption
    isplitl [A3 O3]
    · iapply h3; isplitl [A3] <;> iassumption
    iexact T
  iexact L

end

/-! ## The run -/

instance : IsEmpty (Fin (cfgs 0).W) := inferInstanceAs (IsEmpty (Fin 0))

theorem isNet : IsNet (defs₀ (F := F)) Variants.none net (cfgs 0) := by
  intro c t Q
  unfold runsTo
  rw [← body_eq]
  exact BI.Entails.refl _

theorem run (m : (ℓ : Loc nD τ sig) → Buf (Elt F) ℓ) (g : Dev nD → PrngReg) :
    θ_run (defs (F := F)) (onTc (τ := τ) (main (F := F))) ⟨m, fun _ => 0, g⟩
      fun r => ((∀ c q, Settled net m c q r.2) ∧ ∀ c t, (spare c t).Kept m r.2) ∧ r.2.sem = fun _ => 0 :=
  run_exchange_sparing net share m sound cfgs cellOf_inj 0 defs₀ Variants.none winFacts0.to₀ own_sems (by decide) N_0 (inferInstanceAs (IsEmpty (Fin 0))) isNet
    spare g main (fun c => rfl) (by decide) (split m)

/-! ## What it leaves -/

section

variable {m : (ℓ : Loc nD τ sig) → Buf (Elt F) ℓ} {s : MemSt nD τ sig (Elt F)}
  (h : (∀ c q, Settled net m c q s) ∧ ∀ c t, (spare c t).Kept m s)
include h

/-- What arrived is what the chip at the channel's other end sent. -/
theorem held (c : Dev nD) (j : Fin 5 × Fin 3) : (sending (other c j) j).dst.view.read (Elt F) (s.mem ((sending (other c j) j).dst.view.loc (c : Thread nD τ)))
    = (sending (other c j) j).src.view.read (Elt F) (m ((sending (other c j) j).src.view.loc (other c j : Thread nD τ))) :=
  (h.1 c (.inl j)).read

/-- What was copied is what was there. -/
theorem held_here (c : Dev nD) : (wireSmall c).dst.view.read (Elt F) (s.mem ((wireSmall c).dst.view.loc (c : Thread nD τ)))
    = (wireSmall c).src.view.read (Elt F) (m ((wireSmall c).src.view.loc (c : Thread nD τ))) :=
  (h.1 c (.inr 0)).read

theorem kept_0 (c : Dev nD) : s.mem ((c : Thread nD τ).loc main_arg0) = m ((c : Thread nD τ).loc main_arg0) :=
  funext fun i => if hi : i ∈ Finset.univ.biUnion fun k => (wireIn c k).src.view.set then
      (Finset.mem_biUnion.mp hi).elim fun k hk => (h.1 c (.inl (0, k))).1 i hk.2
    else h.2 c 0 i (Finset.mem_sdiff.mpr ⟨Finset.mem_univ _, hi⟩)

theorem kept_1 (c : Dev nD) : s.mem ((c : Thread nD τ).loc main_arg1) = m ((c : Thread nD τ).loc main_arg1) :=
  funext fun i => if hi : i ∈ Finset.univ.biUnion fun k => (wireOut1 c k).src.view.set then
      (Finset.mem_biUnion.mp hi).elim fun k hk => (h.1 c (.inl (1, k))).1 i hk.2
    else h.2 c 1 i (Finset.mem_sdiff.mpr ⟨Finset.mem_univ _, hi⟩)

theorem kept_2 (c : Dev nD) : s.mem ((c : Thread nD τ).loc main_arg2) = m ((c : Thread nD τ).loc main_arg2) :=
  funext fun i => if hi : i ∈ Finset.univ.biUnion fun k => (wireOut2 c k).src.view.set then
      (Finset.mem_biUnion.mp hi).elim fun k hk => (h.1 c (.inl (2, k))).1 i hk.2
    else h.2 c 2 i (Finset.mem_sdiff.mpr ⟨Finset.mem_univ _, hi⟩)

theorem kept_3 (c : Dev nD) : s.mem ((c : Thread nD τ).loc main_arg3) = m ((c : Thread nD τ).loc main_arg3) :=
  funext fun i => if hi : i ∈ Finset.univ.biUnion fun k => (wireOut3 c k).src.view.set then
      (Finset.mem_biUnion.mp hi).elim fun k hk => (h.1 c (.inl (3, k))).1 i hk.2
    else h.2 c 3 i (Finset.mem_sdiff.mpr ⟨Finset.mem_univ _, hi⟩)

theorem kept_4 (c : Dev nD) : s.mem ((c : Thread nD τ).loc main_arg4) = m ((c : Thread nD τ).loc main_arg4) :=
  funext fun i => (Classical.em (i ∈ (wireSmall c).src.view.set)).elim (fun hi => (h.1 c (.inr 0)).1 i hi)
    fun hi => h.2 c 4 i (Finset.mem_sdiff.mpr ⟨Finset.mem_univ _, hi⟩)

end

/-! ## The elements -/

theorem behind_eq {N n C : ℕ} {i i' : (⟨3, ![N, n, C]⟩ : Shape).Idx} (h1 : (i' 1).val = (i 1).val) (h2 : (i' 2).val = (i 2).val) :
    behind (d := ![n, C]) i = behind (d := ![n, C]) i' := by
  funext a
  fin_cases a
  · exact Fin.ext h1.symm
  · exact Fin.ext h2.symm

theorem off3_behind (d : Dev nD) (a : Fin 2) : k0_off3 d a.succ = 0 := by rw [off3]; fin_cases a <;> rfl
theorem off7_behind (d : Dev nD) (a : Fin 2) : k0_off7 d a.succ = 0 := by rw [off7]; fin_cases a <;> rfl
theorem off1_behind (d : Dev nD) (a : Fin 2) : k0_off1 d a.succ = 0 := by rw [off1]; fin_cases a <;> rfl
theorem aimIn_behind (d : Dev nD) (k : Fin 3) (a : Fin 2) : aimIn d k a.succ = 0 := by rw [aimIn_eq]; fin_cases a <;> rfl
theorem aimOut_behind (d : Dev nD) (k : Fin 3) (a : Fin 2) : aimOut d k a.succ = 0 := by rw [aimOut_eq]; fin_cases a <;> rfl

theorem other_val (c : Dev nD) (t : Fin 5) (k : Fin 3) (q : ℕ) (hk : row (across c k) = q) : (other c (t, k)).val = q * 2 + c.val % 2 := by
  rw [other_eq]
  exact (across_val c k).trans (by rw [hk])

theorem row_other (c : Dev nD) (t : Fin 5) (k : Fin 3) (q : ℕ) (hk : row (across c k) = q) : q = row (other c (t, k)) := by rw [other_eq, ← hk]

theorem row_back (c : Dev nD) (t : Fin 5) (k : Fin 3) : row (across (other c (t, k)) k) = row c := by rw [other_eq, across_across]

section

variable {m : (ℓ : Loc nD τ sig) → Buf (Elt F) ℓ} {s : MemSt nD τ sig (Elt F)}
  (h : (∀ c q, Settled net m c q s) ∧ ∀ c t, (spare c t).Kept m s)
include h

/-- Block `i 0` is what the chip there, of the same core, had for chip `row c`. -/
theorem crossed_0 (c : Dev nD) (i i' : S4x512x1664.Idx) (hi : (i 0).val ≠ row c) (h0 : (i' 0).val = row c) (h1 : (i' 1).val = (i 1).val) (h2 : (i' 2).val = (i 2).val) :
    ∃ d : Dev nD, d.val = (i 0).val * 2 + c.val % 2 ∧ s.mem ((c : Thread nD τ).loc main_v1_0) i = m ((d : Thread nD τ).loc main_arg0) i' := by
  obtain ⟨k, hk⟩ := across_all c (i 0) hi
  refine ⟨other c (0, k), other_val c 0 k _ hk, ?_⟩
  have hd := congrFun (held h c (0, k)) (behind (d := ![512, 1664]) i)
  refine (congrArg (s.mem ((c : Thread nD τ).loc main_v1_0)) ?_).trans (hd.trans (congrArg (m ((other c (0, k) : Thread nD τ).loc main_arg0)) ?_))
  · exact (lead_emb (n := 2) (N := 4) (d := ![512, 1664]) _ (off3_behind _) i ((row_other c 0 k _ hk).trans (off3_lead _).symm)).symm
  · rw [behind_eq h1 h2]
    exact lead_emb (n := 2) (N := 4) (d := ![512, 1664]) _ (aimIn_behind _ _) i' ((h0.trans (row_back c 0 k).symm).trans (aimIn_lead _ _).symm)

theorem crossed_1 (c : Dev nD) (i i' : S4x128x1024.Idx) (hi : (i 0).val ≠ row c) (h0 : (i' 0).val = row c) (h1 : (i' 1).val = (i 1).val) (h2 : (i' 2).val = (i 2).val) :
    ∃ d : Dev nD, d.val = (i 0).val * 2 + c.val % 2 ∧ s.mem ((c : Thread nD τ).loc main_v1_1) i = m ((d : Thread nD τ).loc main_arg1) i' := by
  obtain ⟨k, hk⟩ := across_all c (i 0) hi
  refine ⟨other c (1, k), other_val c 1 k _ hk, ?_⟩
  have hd := congrFun (held h c (1, k)) (behind (d := ![128, 1024]) i)
  refine (congrArg (s.mem ((c : Thread nD τ).loc main_v1_1)) ?_).trans (hd.trans (congrArg (m ((other c (1, k) : Thread nD τ).loc main_arg1)) ?_))
  · exact (lead_emb (n := 2) (N := 4) (d := ![128, 1024]) _ (off7_behind _) i ((row_other c 1 k _ hk).trans (off7_lead _).symm)).symm
  · rw [behind_eq h1 h2]
    exact lead_emb (n := 2) (N := 4) (d := ![128, 1024]) _ (aimOut_behind _ _) i' ((h0.trans (row_back c 1 k).symm).trans (aimOut_lead _ _).symm)

theorem crossed_2 (c : Dev nD) (i i' : S4x128x1024.Idx) (hi : (i 0).val ≠ row c) (h0 : (i' 0).val = row c) (h1 : (i' 1).val = (i 1).val) (h2 : (i' 2).val = (i 2).val) :
    ∃ d : Dev nD, d.val = (i 0).val * 2 + c.val % 2 ∧ s.mem ((c : Thread nD τ).loc main_v1_2) i = m ((d : Thread nD τ).loc main_arg2) i' := by
  obtain ⟨k, hk⟩ := across_all c (i 0) hi
  refine ⟨other c (2, k), other_val c 2 k _ hk, ?_⟩
  have hd := congrFun (held h c (2, k)) (behind (d := ![128, 1024]) i)
  refine (congrArg (s.mem ((c : Thread nD τ).loc main_v1_2)) ?_).trans (hd.trans (congrArg (m ((other c (2, k) : Thread nD τ).loc main_arg2)) ?_))
  · exact (lead_emb (n := 2) (N := 4) (d := ![128, 1024]) _ (off7_behind _) i ((row_other c 2 k _ hk).trans (off7_lead _).symm)).symm
  · rw [behind_eq h1 h2]
    exact lead_emb (n := 2) (N := 4) (d := ![128, 1024]) _ (aimOut_behind _ _) i' ((h0.trans (row_back c 2 k).symm).trans (aimOut_lead _ _).symm)

theorem crossed_3 (c : Dev nD) (i i' : S4x128x1024.Idx) (hi : (i 0).val ≠ row c) (h0 : (i' 0).val = row c) (h1 : (i' 1).val = (i 1).val) (h2 : (i' 2).val = (i 2).val) :
    ∃ d : Dev nD, d.val = (i 0).val * 2 + c.val % 2 ∧ s.mem ((c : Thread nD τ).loc main_v1_3) i = m ((d : Thread nD τ).loc main_arg3) i' := by
  obtain ⟨k, hk⟩ := across_all c (i 0) hi
  refine ⟨other c (3, k), other_val c 3 k _ hk, ?_⟩
  have hd := congrFun (held h c (3, k)) (behind (d := ![128, 1024]) i)
  refine (congrArg (s.mem ((c : Thread nD τ).loc main_v1_3)) ?_).trans (hd.trans (congrArg (m ((other c (3, k) : Thread nD τ).loc main_arg3)) ?_))
  · exact (lead_emb (n := 2) (N := 4) (d := ![128, 1024]) _ (off7_behind _) i ((row_other c 3 k _ hk).trans (off7_lead _).symm)).symm
  · rw [behind_eq h1 h2]
    exact lead_emb (n := 2) (N := 4) (d := ![128, 1024]) _ (aimOut_behind _ _) i' ((h0.trans (row_back c 3 k).symm).trans (aimOut_lead _ _).symm)

omit h in
theorem rows_at (d : Dev nD) (i : S4x1072x128.Idx) (i' : S2144x128.Idx) (h0 : (i' 0).val = (d.val % 2) * 1072 + (i 1).val) (h1 : (i' 1).val = (i 2).val)
    (a : Fin 2) : k0_off2 d a + 1 * (behind (d := ![1072, 128]) i a).val = (i' a).val := by
  rw [off2]
  fin_cases a
  · show _ * 1072 + 1 * (i 1).val = (i' 0).val; omega
  · show 0 + 1 * (i 2).val = (i' 1).val; omega

theorem crossed_4 (c : Dev nD) (i : S4x1072x128.Idx) (i' : S2144x128.Idx) (h0 : (i' 0).val = (c.val % 2) * 1072 + (i 1).val) (h1 : (i' 1).val = (i 2).val) :
    ∃ d : Dev nD, d.val = (i 0).val * 2 + c.val % 2 ∧ s.mem ((c : Thread nD τ).loc main_v1_4) i = m ((d : Thread nD τ).loc main_arg4) i' := by
  by_cases hi : (i 0).val = row c
  · refine ⟨c, (row_val c).trans (by rw [hi]), ?_⟩
    have hd := congrFun (held_here h c) (behind (d := ![1072, 128]) i)
    refine (congrArg (s.mem ((c : Thread nD τ).loc main_v1_4)) ?_).trans (hd.trans (congrArg (m ((c : Thread nD τ).loc main_arg4)) ?_))
    · exact (lead_emb (n := 2) (N := 4) (d := ![1072, 128]) _ (off1_behind _) i (hi.trans (off1_lead _).symm)).symm
    · exact funext fun a => Fin.ext (rows_at c i i' h0 h1 a)
  · obtain ⟨k, hk⟩ := across_all c (i 0) hi
    refine ⟨other c (4, k), other_val c 4 k _ hk, ?_⟩
    have hd := congrFun (held h c (4, k)) (behind (d := ![1072, 128]) i)
    refine (congrArg (s.mem ((c : Thread nD τ).loc main_v1_4)) ?_).trans (hd.trans (congrArg (m ((other c (4, k) : Thread nD τ).loc main_arg4)) ?_))
    · exact (lead_emb (n := 2) (N := 4) (d := ![1072, 128]) _ (off1_behind _) i ((row_other c 4 k _ hk).trans (off1_lead _).symm)).symm
    · refine funext fun a => Fin.ext (rows_at (other c (4, k)) i i' ?_ h1 a)
      rw [h0, other_val c 4 k _ hk, show ((i 0).val * 2 + c.val % 2) % 2 = c.val % 2 by omega]

end

end Cert.Crossed
-- ==== Proof.Crossed.Reference.lean ====
/-
  The reference's run, and its arrays at an index.
-/
module

public import proofs.«01_k».proof.Proof.Gen.CrossReferenceIdeal
public import Mathlib.Tactic.Ring
public import Idealize.ShloMosaic.Lib.Claim
public import Idealize.ShloMosaic.Lib.Quiescent
public import Idealize.ShloMosaic.Lib.Pipeline.Value
public import Idealize.ShloMosaic.Lib.LayoutAt
public import Idealize.ShloMosaic.Lib.ValueIdxCore
public import Idealize.ShloMosaic.Lib.ValueIdxRank6

@[expose] public section

noncomputable section

namespace Cert.Crossed

open Idealize.ShloMosaic Idealize.ShloMosaic.TcCoe Idealize.SL Idealize.SL.Sem

/-! ## Blocks reordered, and rows gathered -/

section Parts

variable {α : Type}

/-- Blocks numbered by chip, core and slot, chips and slots exchanged. -/
theorem turn_apply {n C : ℕ} (x : (⟨3, ![32, n, C]⟩ : Shape).Idx → α)
    (hx : (⟨3, ![32, n, C]⟩ : Shape).ShapeCasts ⟨5, ![4, 2, 4, n, C]⟩) (ht : (⟨5, ![4, 2, 4, n, C]⟩ : Shape).Transposes [2, 1, 0, 3, 4] ⟨5, ![4, 2, 4, n, C]⟩)
    (hb : (⟨5, ![4, 2, 4, n, C]⟩ : Shape).ShapeCasts ⟨3, ![32, n, C]⟩) (p q : Fin 4) (core : Fin 2) (j i : (⟨3, ![32, n, C]⟩ : Shape).Idx)
    (hj : (j 0).val = (p.val * 2 + core.val) * 4 + q.val) (h0 : (i 0).val = (q.val * 2 + core.val) * 4 + p.val)
    (h1 : (i 1).val = (j 1).val) (h2 : (i 2).val = (j 2).val) :
    shapeCast ⟨3, ![32, n, C]⟩ (transpose ⟨5, ![4, 2, 4, n, C]⟩ [2, 1, 0, 3, 4] (shapeCast ⟨5, ![4, 2, 4, n, C]⟩ x hx) ht) hb j = x i := by
  refine (shapeCast_apply _ hb j (ValueIdx.ix5 p core q (j 1) (j 2)) ?_).trans
    ((transpose_apply _ _ ht _ (ValueIdx.ix5 q core p (j 1) (j 2)) fun a => by fin_cases a <;> rfl).trans (shapeCast_apply x hx _ i ?_))
  · rw [Shape.rowMajor_val_five, Shape.rowMajor_val_three]
    show (((p.val * 2 + core.val) * 4 + q.val) * n + (j 1).val) * C + (j 2).val = ((j 0).val * n + (j 1).val) * C + (j 2).val
    rw [hj]
  · rw [Shape.rowMajor_val_five, Shape.rowMajor_val_three, h0, h1, h2]
    rfl

/-- Of each chip's core `core`, its rows of half `core`. -/
theorem half_apply {R n C : ℕ} (x : (⟨2, ![R, C]⟩ : Shape).Idx → α) (core : ℕ)
    (hx : (⟨2, ![R, C]⟩ : Shape).ShapeCasts ⟨5, ![4, 2, 2, n, C]⟩)
    (hs : (⟨5, ![4, 2, 2, n, C]⟩ : Shape).Slices ![0, core, core, 0, 0] ⟨5, ![4, 1, 1, n, C]⟩)
    (hq : (⟨5, ![4, 1, 1, n, C]⟩ : Shape).ShapeCasts ⟨3, ![4, n, C]⟩)
    (hcore : core < 2) (q : Fin 4) (r : Fin n) (w : Fin C) (i : (⟨2, ![R, C]⟩ : Shape).Idx)
    (h0 : (i 0).val = ((q.val * 2 + core) * 2 + core) * n + r.val) (h1 : (i 1).val = w.val) :
    shapeCast ⟨3, ![4, n, C]⟩ (extractStridedSlice ⟨5, ![4, 1, 1, n, C]⟩ ![0, core, core, 0, 0] (shapeCast ⟨5, ![4, 2, 2, n, C]⟩ x hx) hs) hq (ValueIdx.ix3 q r w) = x i := by
  rw [shapeCast_apply _ hq (ValueIdx.ix3 q r w) (ValueIdx.ix5 q 0 0 r w) (by
      rw [Shape.rowMajor_val_three, Shape.rowMajor_val_five]
      show (((q.val * 1 + 0) * 1 + 0) * n + r.val) * C + w.val = (q.val * n + r.val) * C + w.val
      simp only [Nat.mul_one, Nat.add_zero]),
    extractStridedSlice_apply _ _ hs _ (ValueIdx.ix5 q ⟨core, hcore⟩ ⟨core, hcore⟩ r w) (fun a => by
      fin_cases a
      · show q.val = 0 + q.val; omega
      · rfl
      · rfl
      · show r.val = 0 + r.val; omega
      · show w.val = 0 + w.val; omega)]
  refine shapeCast_apply x hx _ i ?_
  rw [Shape.rowMajor_val_two, Shape.rowMajor_val_five, h0, h1]
  rfl

/-- Two arrays stacked along a new leading axis: at `core`, the array that `core` names. -/
theorem stack_apply {k n C : ℕ} (x y : (⟨3, ![k, n, C]⟩ : Shape).Idx → α)
    (hb : (⟨3, ![k, n, C]⟩ : Shape).BroadcastsInDim ⟨4, ![1, k, n, C]⟩ ![1, 2, 3])
    (hc : Shape.Concatenates [⟨4, ![1, k, n, C]⟩, ⟨4, ![1, k, n, C]⟩] ⟨4, ![2, k, n, C]⟩ 0)
    (core : Fin 2) (q : Fin k) (r : Fin n) (w : Fin C) :
    concatenate ⟨4, ![2, k, n, C]⟩ 0 [⟨⟨4, ![1, k, n, C]⟩, broadcastInDim ⟨4, ![1, k, n, C]⟩ ![1, 2, 3] hb x⟩,
        ⟨⟨4, ![1, k, n, C]⟩, broadcastInDim ⟨4, ![1, k, n, C]⟩ ![1, 2, 3] hb y⟩] hc (ValueIdx.ix4 core q r w)
      = (if core = 0 then x else y) (ValueIdx.ix3 q r w) := by
  have hbc : ∀ z : (⟨3, ![k, n, C]⟩ : Shape).Idx → α,
      broadcastInDim ⟨4, ![1, k, n, C]⟩ ![1, 2, 3] hb z (ValueIdx.ix4 0 q r w) = z (ValueIdx.ix3 q r w) := fun z =>
    broadcastInDim_apply _ hb z _ _ fun a => by
      have hlt := (ValueIdx.ix3 q r w a).isLt
      split_ifs with h1
      · omega
      · fin_cases a <;> rfl
  match core with
  | 0 =>
    rw [if_pos rfl, ← hbc x]
    exact concatenate_pair_apply_left 0 _ _ hc _ rfl _ fun a => by fin_cases a <;> rfl
  | 1 =>
    rw [if_neg (by decide), ← hbc y]
    exact concatenate_pair_apply_right 0 _ _ hc _ rfl rfl _ (fun a ha => by fin_cases a <;> first | rfl | exact absurd rfl ha) rfl

end Parts

/-! ## The reference -/

section Reference

open Cert.CrossReferenceIdeal Cert.CrossReferenceIdeal.Gen

variable {F : FTy → Type} [FloatOps F]

def turnedIn (x : S32x512x1664.Idx → Elt F .bf16) : S32x512x1664.Idx → Elt F .bf16 :=
  shapeCast S32x512x1664 (transpose S4x2x4x512x1664 [2, 1, 0, 3, 4] (shapeCast S4x2x4x512x1664 x shapeCasts_S32x512x1664_S4x2x4x512x1664)
    transposes_S4x2x4x512x1664_S4x2x4x512x1664_2_1_0_3_4) shapeCasts_S4x2x4x512x1664_S32x512x1664

def turnedOut (x : S32x128x1024.Idx → Elt F .bf16) : S32x128x1024.Idx → Elt F .bf16 :=
  shapeCast S32x128x1024 (transpose S4x2x4x128x1024 [2, 1, 0, 3, 4] (shapeCast S4x2x4x128x1024 x shapeCasts_S32x128x1024_S4x2x4x128x1024)
    transposes_S4x2x4x128x1024_S4x2x4x128x1024_2_1_0_3_4) shapeCasts_S4x2x4x128x1024_S32x128x1024

def gathered (x : S17152x128.Idx → Elt F .f32) : S32x1072x128.Idx → Elt F .f32 :=
  shapeCast S32x1072x128 (broadcastInDim S4x2x4x1072x128 ![1, 2, 3, 4] bcast_S2x4x1072x128_S4x2x4x1072x128_1_2_3_4 (concatenate S2x4x1072x128 0
    [⟨S1x4x1072x128, broadcastInDim S1x4x1072x128 ![1, 2, 3] bcast_S4x1072x128_S1x4x1072x128_1_2_3
        (shapeCast S4x1072x128 (extractStridedSlice S4x1x1x1072x128 ![0, 0, 0, 0, 0] (shapeCast S4x2x2x1072x128 x shapeCasts_S17152x128_S4x2x2x1072x128)
          slices_S4x2x2x1072x128_S4x1x1x1072x128_0_0_0_0_0) shapeCasts_S4x1x1x1072x128_S4x1072x128)⟩,
     ⟨S1x4x1072x128, broadcastInDim S1x4x1072x128 ![1, 2, 3] bcast_S4x1072x128_S1x4x1072x128_1_2_3
        (shapeCast S4x1072x128 (extractStridedSlice S4x1x1x1072x128 ![0, 1, 1, 0, 0] (shapeCast S4x2x2x1072x128 x shapeCasts_S17152x128_S4x2x2x1072x128)
          slices_S4x2x2x1072x128_S4x1x1x1072x128_0_1_1_0_0) shapeCasts_S4x1x1x1072x128_S4x1072x128)⟩]
    concatenates_S1x4x1072x128_S1x4x1072x128_S2x4x1072x128_d0)) shapeCasts_S4x2x4x1072x128_S32x1072x128

variable (m : (ℓ : Loc nD τ sig) → Buf (Elt F) ℓ)

theorem run_reference (g : Dev nD → PrngReg) :
    θ_run (defs (F := F)) (onTc (τ := τ) (main (F := F))) ⟨m, fun _ => 0, g⟩ fun r =>
      r.2.mem (((0 : Dev nD) : Thread nD τ).loc main_v10) = turnedIn (m (((0 : Dev nD) : Thread nD τ).loc main_arg0))
      ∧ r.2.mem (((0 : Dev nD) : Thread nD τ).loc main_v13) = turnedOut (m (((0 : Dev nD) : Thread nD τ).loc main_arg1))
      ∧ r.2.mem (((0 : Dev nD) : Thread nD τ).loc main_v16) = turnedOut (m (((0 : Dev nD) : Thread nD τ).loc main_arg2))
      ∧ r.2.mem (((0 : Dev nD) : Thread nD τ).loc main_v19) = turnedOut (m (((0 : Dev nD) : Thread nD τ).loc main_arg3))
      ∧ r.2.mem (((0 : Dev nD) : Thread nD τ).loc main_v21) = gathered (m (((0 : Dev nD) : Thread nD τ).loc main_arg4))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4) := by
  hlo_run <;> rfl

theorem turnedIn_apply (x : S32x512x1664.Idx → Elt F .bf16) (p q : Fin 4) (core : Fin 2) (j i : S32x512x1664.Idx)
    (hj : (j 0).val = (p.val * 2 + core.val) * 4 + q.val) (h0 : (i 0).val = (q.val * 2 + core.val) * 4 + p.val)
    (h1 : (i 1).val = (j 1).val) (h2 : (i 2).val = (j 2).val) : turnedIn x j = x i :=
  turn_apply x _ _ _ p q core j i hj h0 h1 h2

theorem turnedOut_apply (x : S32x128x1024.Idx → Elt F .bf16) (p q : Fin 4) (core : Fin 2) (j i : S32x128x1024.Idx)
    (hj : (j 0).val = (p.val * 2 + core.val) * 4 + q.val) (h0 : (i 0).val = (q.val * 2 + core.val) * 4 + p.val)
    (h1 : (i 1).val = (j 1).val) (h2 : (i 2).val = (j 2).val) : turnedOut x j = x i :=
  turn_apply x _ _ _ p q core j i hj h0 h1 h2

theorem gathered_apply (x : S17152x128.Idx → Elt F .f32) (p q : Fin 4) (core : Fin 2) (j : S32x1072x128.Idx) (i : S17152x128.Idx)
    (hj : (j 0).val = (p.val * 2 + core.val) * 4 + q.val) (h0 : (i 0).val = (q.val * 2 + core.val) * 2144 + (core.val * 1072 + (j 1).val))
    (h1 : (i 1).val = (j 2).val) : gathered x j = x i := by
  unfold gathered
  refine (shapeCast_apply _ _ j (ValueIdx.ix5 p core q (j 1) (j 2)) ?_).trans
    ((broadcastInDim_apply _ _ _ _ (ValueIdx.ix4 core q (j 1) (j 2)) fun a => by fin_cases a <;> rfl).trans ((stack_apply _ _ _ _ core q (j 1) (j 2)).trans ?_))
  · rw [Shape.rowMajor_val_five, Shape.rowMajor_val_three]
    show (((p.val * 2 + core.val) * 4 + q.val) * 1072 + (j 1).val) * 128 + (j 2).val = ((j 0).val * 1072 + (j 1).val) * 128 + (j 2).val
    rw [hj]
  match core with
  | 0 => exact half_apply x 0 _ _ _ (by decide) q (j 1) (j 2) i (h0.trans (by show (q.val * 2 + 0) * 2144 + (0 * 1072 + (j 1).val) = ((q.val * 2 + 0) * 2 + 0) * 1072 + (j 1).val; omega)) h1
  | 1 => exact half_apply x 1 _ _ _ (by decide) q (j 1) (j 2) i (h0.trans (by show (q.val * 2 + 1) * 2144 + (1 * 1072 + (j 1).val) = ((q.val * 2 + 1) * 2 + 1) * 1072 + (j 1).val; omega)) h1

end Reference

end Cert.Crossed
-- ==== Proof.Crossed.Mask.lean ====
/-
  Where the results are compared: the blocks that come from other chips.
-/
module

public import proofs.«01_k».proof.On_from_others

@[expose] public section

noncomputable section

namespace Cert.Crossed

open Idealize.ShloMosaic
open Cert.On_from_others

theorem facts_from_others : Cert.On_from_others.Facts :=
  ⟨by decide, by decide, by decide⟩

attribute [local instance] facts_from_others

/-- Block `b` selected is of chip `b / 8` and comes from another. -/
theorem block_aside : ∀ b : Fin 32,
    IntOp.cmpi .ne (IntOp.shrui .host (BitVec.ofNat 32 b.val) 3#32) (IntOp.andi (BitVec.ofNat 32 b.val) 3#32) = 1#1 → b.val % 4 ≠ b.val / 8 := by
  decide

variable {F : FTy → Type} [FloatOps F] {x : FVec F S32x512x1664 .bf16} {y z w : FVec F S32x128x1024 .bf16} {v : FVec F S17152x128 .f32}

theorem aside_0 {j : S32x512x1664.Idx} (h : (fn x y z w v).1 j = 1#1) : (j 0).val % 4 ≠ (j 0).val / 8 := block_aside (j 0) h
theorem aside_1 {j : S32x128x1024.Idx} (h : (fn x y z w v).2.1 j = 1#1) : (j 0).val % 4 ≠ (j 0).val / 8 := block_aside (j 0) h
theorem aside_2 {j : S32x128x1024.Idx} (h : (fn x y z w v).2.2.1 j = 1#1) : (j 0).val % 4 ≠ (j 0).val / 8 := block_aside (j 0) h
theorem aside_3 {j : S32x128x1024.Idx} (h : (fn x y z w v).2.2.2.1 j = 1#1) : (j 0).val % 4 ≠ (j 0).val / 8 := block_aside (j 0) h

end Cert.Crossed
-- ==== Proof.Crossed.Value.lean ====
/-
  The blocks that arrived are the reference's results.
-/
module

public import proofs.«01_k».proof.Proof.Crossed.Run
public import proofs.«01_k».proof.Proof.Crossed.Reference
public import proofs.«01_k».proof.Proof.Crossed.Mask
public import Idealize.ShloMosaic.Lib.LayoutAt

@[expose] public section

noncomputable section

namespace Cert.Crossed

open Cert.Exchange
open Idealize.ShloMosaic Idealize.ShloMosaic.TcCoe Idealize.SL Idealize.SL.Sem

attribute [local instance] facts_from_others

/-! ## The results -/

section Results

open Cert.CrossIdeal Cert.CrossIdeal.Gen

variable {F : FTy → Type} [FloatOps F]

theorem chip_core : ∀ c : Dev nD, ∃ (p : Fin 4) (core : Fin 2), row c = p.val ∧ c.val = p.val * 2 + core.val ∧ c.val % 2 = core.val := by
  decide

/-- Block `i 0` of device `c` is selected when another chip sends it. -/
theorem of_other (c : Dev nD) (b q : ℕ) (hb : b = c.val * 4 + q) (hq : q < 4) (h : b % 4 ≠ b / 8) : q ≠ row c := by
  have hc := row_val c
  have h4 : b % 4 = q := by omega
  have h8 : b / 8 = row c := by omega
  rwa [h4, h8] at h

/-- Block `i 0` of device `c`'s part of the reference is block `row c` of the part of the device it comes from. -/
theorem block_in (x : (⟨3, ![32, 512, 1664]⟩ : Shape).Idx → Elt F .bf16) (c d : Dev nD) (i i' : (⟨3, ![4, 512, 1664]⟩ : Shape).Idx)
    (hd : d.val = (i 0).val * 2 + c.val % 2) (h0 : (i' 0).val = row c) (h1 : (i' 1).val = (i 1).val) (h2 : (i' 2).val = (i 2).val) :
    (Layout.block ⟨3, ![4, 512, 1664]⟩ ⟨3, ![32, 512, 1664]⟩ 0 8 d x : _ → _) i' = (Layout.block ⟨3, ![4, 512, 1664]⟩ ⟨3, ![32, 512, 1664]⟩ 0 8 c (turnedIn x) : _ → _) i := by
  obtain ⟨p, core, hr, hc, hmod⟩ := chip_core c
  rw [Layout.block_apply, Layout.block_apply]
  refine (turnedIn_apply x p (i 0) core _ _ ?_ ?_ ?_ ?_).symm
  · refine (Layout.Tiles.idx_val_self _ _ _ _ rfl).trans ?_; show c.val * 4 + (i 0).val = _; rw [hc]
  · refine (Layout.Tiles.idx_val_self _ _ _ _ rfl).trans ?_; show d.val * 4 + (i' 0).val = _; rw [hd, h0, hr, hmod]
  · exact (Layout.Tiles.idx_val_of_ne _ d i' 1 (by decide : (1 : ℕ) ≠ 0)).trans (h1.trans (Eq.symm (by exact Layout.Tiles.idx_val_of_ne _ c i 1 (by decide))))
  · exact (Layout.Tiles.idx_val_of_ne _ d i' 2 (by decide : (2 : ℕ) ≠ 0)).trans (h2.trans (Eq.symm (by exact Layout.Tiles.idx_val_of_ne _ c i 2 (by decide))))

theorem block_out (x : (⟨3, ![32, 128, 1024]⟩ : Shape).Idx → Elt F .bf16) (c d : Dev nD) (i i' : (⟨3, ![4, 128, 1024]⟩ : Shape).Idx)
    (hd : d.val = (i 0).val * 2 + c.val % 2) (h0 : (i' 0).val = row c) (h1 : (i' 1).val = (i 1).val) (h2 : (i' 2).val = (i 2).val) :
    (Layout.block ⟨3, ![4, 128, 1024]⟩ ⟨3, ![32, 128, 1024]⟩ 0 8 d x : _ → _) i' = (Layout.block ⟨3, ![4, 128, 1024]⟩ ⟨3, ![32, 128, 1024]⟩ 0 8 c (turnedOut x) : _ → _) i := by
  obtain ⟨p, core, hr, hc, hmod⟩ := chip_core c
  rw [Layout.block_apply, Layout.block_apply]
  refine (turnedOut_apply x p (i 0) core _ _ ?_ ?_ ?_ ?_).symm
  · refine (Layout.Tiles.idx_val_self _ _ _ _ rfl).trans ?_; show c.val * 4 + (i 0).val = _; rw [hc]
  · refine (Layout.Tiles.idx_val_self _ _ _ _ rfl).trans ?_; show d.val * 4 + (i' 0).val = _; rw [hd, h0, hr, hmod]
  · exact (Layout.Tiles.idx_val_of_ne _ d i' 1 (by decide : (1 : ℕ) ≠ 0)).trans (h1.trans (Eq.symm (by exact Layout.Tiles.idx_val_of_ne _ c i 1 (by decide))))
  · exact (Layout.Tiles.idx_val_of_ne _ d i' 2 (by decide : (2 : ℕ) ≠ 0)).trans (h2.trans (Eq.symm (by exact Layout.Tiles.idx_val_of_ne _ c i 2 (by decide))))

theorem block_small (x : (⟨2, ![17152, 128]⟩ : Shape).Idx → Elt F .f32) (c d : Dev nD) (i : (⟨3, ![4, 1072, 128]⟩ : Shape).Idx) (i' : (⟨2, ![2144, 128]⟩ : Shape).Idx)
    (hd : d.val = (i 0).val * 2 + c.val % 2) (h0 : (i' 0).val = (c.val % 2) * 1072 + (i 1).val) (h1 : (i' 1).val = (i 2).val) :
    (Layout.block ⟨2, ![2144, 128]⟩ ⟨2, ![17152, 128]⟩ 0 8 d x : _ → _) i' = (Layout.block ⟨3, ![4, 1072, 128]⟩ ⟨3, ![32, 1072, 128]⟩ 0 8 c (gathered x) : _ → _) i := by
  obtain ⟨p, core, hr, hc, hmod⟩ := chip_core c
  rw [Layout.block_apply, Layout.block_apply]
  refine (gathered_apply x p (i 0) core _ _ ?_ ?_ ?_).symm
  · refine (Layout.Tiles.idx_val_self _ _ _ _ rfl).trans ?_; show c.val * 4 + (i 0).val = _; rw [hc]
  · refine (Layout.Tiles.idx_val_self _ _ _ _ rfl).trans ?_
    show d.val * 2144 + (i' 0).val = _
    rw [hd, h0, hmod]
    exact congrArg (fun r => ((i 0).val * 2 + core.val) * 2144 + (core.val * 1072 + r)) (Eq.symm (by exact Layout.Tiles.idx_val_of_ne _ c i 1 (by decide)))
  · exact (Layout.Tiles.idx_val_of_ne _ d i' 1 (by decide : (1 : ℕ) ≠ 0)).trans (h1.trans (Eq.symm (by exact Layout.Tiles.idx_val_of_ne _ c i 2 (by decide))))

/-- An index in the block kept for chip `row c`. -/
def inRow {n C : ℕ} (c : Dev nD) (i : (⟨3, ![4, n, C]⟩ : Shape).Idx) : (⟨3, ![4, n, C]⟩ : Shape).Idx :=
  ValueIdx.ix3 ⟨row c, row_lt c⟩ (i 1) (i 2)

/-- An index in the half of the rows that core `c` sums. -/
def inHalf (c : Dev nD) (i : (⟨3, ![4, 1072, 128]⟩ : Shape).Idx) : (⟨2, ![2144, 128]⟩ : Shape).Idx :=
  ValueIdx.ix2 ⟨(c.val % 2) * 1072 + (i 1).val, by
    have h1 : (i 1).val < 1072 := (i 1).isLt
    omega⟩ (i 2)

variable {m : (ℓ : Loc nD τ sig) → Buf (Elt F) ℓ} {s : MemSt nD τ sig (Elt F)}
  (h : (∀ c q, Settled net m c q s) ∧ ∀ c t, (spare c t).Kept m s)
  {x : (⟨3, ![32, 512, 1664]⟩ : Shape).Idx → Elt F .bf16} {y z w : (⟨3, ![32, 128, 1024]⟩ : Shape).Idx → Elt F .bf16} {v : (⟨2, ![17152, 128]⟩ : Shape).Idx → Elt F .f32}
include h

theorem result_0 (hm : ∀ c : Dev nD, m ((c : Thread nD τ).loc main_arg0) = Layout.block ⟨3, ![4, 512, 1664]⟩ ⟨3, ![32, 512, 1664]⟩ 0 8 c x) (c : Dev nD)
    (i : (⟨3, ![4, 512, 1664]⟩ : Shape).Idx)
    (hi : (Layout.block ⟨3, ![4, 512, 1664]⟩ ⟨3, ![32, 512, 1664]⟩ 0 8 c (Cert.On_from_others.fn x y z w v).1 : (⟨3, ![4, 512, 1664]⟩ : Shape).Idx → _) i = 1#1) :
    s.mem ((c : Thread nD τ).loc main_v1_0) i = (Layout.block ⟨3, ![4, 512, 1664]⟩ ⟨3, ![32, 512, 1664]⟩ 0 8 c (turnedIn x) : (⟨3, ![4, 512, 1664]⟩ : Shape).Idx → _) i := by
  rw [Layout.block_apply] at hi
  obtain ⟨d, hd, e⟩ := crossed_0 h c i (inRow c i) (of_other c _ _ (by exact Layout.Tiles.idx_val_self _ c i 0 rfl) (i 0).isLt (aside_0 hi)) rfl rfl rfl
  exact (e.trans (congrFun (hm d) _)).trans (block_in x c d i (inRow c i) hd rfl rfl rfl)

theorem result_1 (hm : ∀ c : Dev nD, m ((c : Thread nD τ).loc main_arg1) = Layout.block ⟨3, ![4, 128, 1024]⟩ ⟨3, ![32, 128, 1024]⟩ 0 8 c y) (c : Dev nD)
    (i : (⟨3, ![4, 128, 1024]⟩ : Shape).Idx)
    (hi : (Layout.block ⟨3, ![4, 128, 1024]⟩ ⟨3, ![32, 128, 1024]⟩ 0 8 c (Cert.On_from_others.fn x y z w v).2.1 : (⟨3, ![4, 128, 1024]⟩ : Shape).Idx → _) i = 1#1) :
    s.mem ((c : Thread nD τ).loc main_v1_1) i = (Layout.block ⟨3, ![4, 128, 1024]⟩ ⟨3, ![32, 128, 1024]⟩ 0 8 c (turnedOut y) : (⟨3, ![4, 128, 1024]⟩ : Shape).Idx → _) i := by
  rw [Layout.block_apply] at hi
  obtain ⟨d, hd, e⟩ := crossed_1 h c i (inRow c i) (of_other c _ _ (by exact Layout.Tiles.idx_val_self _ c i 0 rfl) (i 0).isLt (aside_1 hi)) rfl rfl rfl
  exact (e.trans (congrFun (hm d) _)).trans (block_out y c d i (inRow c i) hd rfl rfl rfl)

theorem result_2 (hm : ∀ c : Dev nD, m ((c : Thread nD τ).loc main_arg2) = Layout.block ⟨3, ![4, 128, 1024]⟩ ⟨3, ![32, 128, 1024]⟩ 0 8 c z) (c : Dev nD)
    (i : (⟨3, ![4, 128, 1024]⟩ : Shape).Idx)
    (hi : (Layout.block ⟨3, ![4, 128, 1024]⟩ ⟨3, ![32, 128, 1024]⟩ 0 8 c (Cert.On_from_others.fn x y z w v).2.2.1 : (⟨3, ![4, 128, 1024]⟩ : Shape).Idx → _) i = 1#1) :
    s.mem ((c : Thread nD τ).loc main_v1_2) i = (Layout.block ⟨3, ![4, 128, 1024]⟩ ⟨3, ![32, 128, 1024]⟩ 0 8 c (turnedOut z) : (⟨3, ![4, 128, 1024]⟩ : Shape).Idx → _) i := by
  rw [Layout.block_apply] at hi
  obtain ⟨d, hd, e⟩ := crossed_2 h c i (inRow c i) (of_other c _ _ (by exact Layout.Tiles.idx_val_self _ c i 0 rfl) (i 0).isLt (aside_2 hi)) rfl rfl rfl
  exact (e.trans (congrFun (hm d) _)).trans (block_out z c d i (inRow c i) hd rfl rfl rfl)

theorem result_3 (hm : ∀ c : Dev nD, m ((c : Thread nD τ).loc main_arg3) = Layout.block ⟨3, ![4, 128, 1024]⟩ ⟨3, ![32, 128, 1024]⟩ 0 8 c w) (c : Dev nD)
    (i : (⟨3, ![4, 128, 1024]⟩ : Shape).Idx)
    (hi : (Layout.block ⟨3, ![4, 128, 1024]⟩ ⟨3, ![32, 128, 1024]⟩ 0 8 c (Cert.On_from_others.fn x y z w v).2.2.2.1 : (⟨3, ![4, 128, 1024]⟩ : Shape).Idx → _) i = 1#1) :
    s.mem ((c : Thread nD τ).loc main_v1_3) i = (Layout.block ⟨3, ![4, 128, 1024]⟩ ⟨3, ![32, 128, 1024]⟩ 0 8 c (turnedOut w) : (⟨3, ![4, 128, 1024]⟩ : Shape).Idx → _) i := by
  rw [Layout.block_apply] at hi
  obtain ⟨d, hd, e⟩ := crossed_3 h c i (inRow c i) (of_other c _ _ (by exact Layout.Tiles.idx_val_self _ c i 0 rfl) (i 0).isLt (aside_3 hi)) rfl rfl rfl
  exact (e.trans (congrFun (hm d) _)).trans (block_out w c d i (inRow c i) hd rfl rfl rfl)

theorem result_4 (hm : ∀ c : Dev nD, m ((c : Thread nD τ).loc main_arg4) = Layout.block ⟨2, ![2144, 128]⟩ ⟨2, ![17152, 128]⟩ 0 8 c v) (c : Dev nD)
    (i : (⟨3, ![4, 1072, 128]⟩ : Shape).Idx) :
    s.mem ((c : Thread nD τ).loc main_v1_4) i = (Layout.block ⟨3, ![4, 1072, 128]⟩ ⟨3, ![32, 1072, 128]⟩ 0 8 c (gathered v) : (⟨3, ![4, 1072, 128]⟩ : Shape).Idx → _) i := by
  obtain ⟨d, hd, e⟩ := crossed_4 h c i (inHalf c i) rfl rfl
  exact (e.trans (congrFun (hm d) _)).trans (block_small v c d i (inHalf c i) hd rfl rfl)

end Results

end Cert.Crossed
-- ==== Proof.Joined.Net.lean ====
/-
  The pair gather as a net: five arrays, each with one channel to the other core of the chip and one local copy.
-/
module

public import proofs.«01_k».proof.Proof.Exchange.Net
public import proofs.«01_k».proof.Proof.Gen.JoinIdeal
public import proofs.«01_k».proof.Proof.Gen.JoinIdeal.Launch

@[expose] public section

noncomputable section

namespace Cert.Joined

open Cert.JoinIdeal Cert.JoinIdeal.Gen Cert.Exchange
open Idealize.ShloMosaic Idealize.ShloMosaic.TcCoe Idealize.SL Idealize.SL.Sem

variable {F : FTy → Type} [FloatOps F]

/-! ## A core's half of a joined array -/

def halfIn (o : Fin 2 → ℕ) (h : ∀ a, o a + S512x1664.size a ≤ S1024x1664.size a) : Memref sig .tc .hbm S512x1664 .f32 :=
  (Memref.whole main_v1_0).slice (Rect.unit (s := S1024x1664) o S512x1664.size h) (fun _ => rfl)

def halfOut (r : Memref sig .tc .hbm S256x1024 .f32) (o : Fin 2 → ℕ) (h : ∀ a, o a + S128x1024.size a ≤ S256x1024.size a) :
    Memref sig .tc .hbm S128x1024 .f32 :=
  r.slice (Rect.unit (s := S256x1024) o S128x1024.size h) (fun _ => rfl)

def halfSmall (o : Fin 2 → ℕ) (h : ∀ a, o a + S1072x128.size a ≤ S2144x128.size a) : Memref sig .tc .hbm S1072x128 .f32 :=
  (Memref.whole main_v1_4).slice (Rect.unit (s := S2144x128) o S1072x128.size h) (fun _ => rfl)

/-- Device `d`'s part of array `t`, and its half of the joined array. -/
def half (d : Dev nD) : Fin 5 → Wire sig
  | 0 => ⟨S512x1664, .f32, Memref.whole main_arg0, halfIn (k0_off1 d) (k0_off1_inb d), (Memref.isWhole_whole _).wordExact, View.wordExact_bits rfl, rfl⟩
  | 1 => ⟨S128x1024, .f32, Memref.whole main_arg1, halfOut (Memref.whole main_v1_1) (k0_off2 d) (k0_off2_inb d), (Memref.isWhole_whole _).wordExact, View.wordExact_bits rfl, rfl⟩
  | 2 => ⟨S128x1024, .f32, Memref.whole main_arg2, halfOut (Memref.whole main_v1_2) (k0_off2 d) (k0_off2_inb d), (Memref.isWhole_whole _).wordExact, View.wordExact_bits rfl, rfl⟩
  | 3 => ⟨S128x1024, .f32, Memref.whole main_arg3, halfOut (Memref.whole main_v1_3) (k0_off2 d) (k0_off2_inb d), (Memref.isWhole_whole _).wordExact, View.wordExact_bits rfl, rfl⟩
  | 4 => ⟨S1072x128, .f32, Memref.whole main_arg4, halfSmall (k0_off3 d) (k0_off3_inb d), (Memref.isWhole_whole _).wordExact, View.wordExact_bits rfl, rfl⟩

/-- The half of array `t` that the channel brings to device `d`, as the kernel computes where it lies. -/
def brought (d : Dev nD) : Fin 5 → End sig
  | 0 => ⟨_, _, halfIn (k0_off4 d) (k0_off4_inb d)⟩
  | 1 => ⟨_, _, halfOut (Memref.whole main_v1_1) (k0_off5 d) (k0_off5_inb d)⟩
  | 2 => ⟨_, _, halfOut (Memref.whole main_v1_2) (k0_off5 d) (k0_off5_inb d)⟩
  | 3 => ⟨_, _, halfOut (Memref.whole main_v1_3) (k0_off5 d) (k0_off5_inb d)⟩
  | 4 => ⟨_, _, halfSmall (k0_off6 d) (k0_off6_inb d)⟩

/-- The other core, as the kernel computes it for array `t`. -/
def sibling (d : Dev nD) : Fin 5 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩

/-- Semaphore `t` of a bank of five starting at `b`. -/
def bank (b : ℕ) (hb : b ≤ 10) (t : Fin 5) : DmaSem sig := ⟨b + t.val, by have := t.isLt; show _ < 15; omega⟩

def net : Net nD sig (Fin 5) (Fin 5) where
  wire d := Sum.elim (half d) (half d)
  peer t d := sibling d t
  sendSem := bank 0 (by decide)
  recvSem := bank 5 (by decide)
  copySem := bank 10 (by decide)
  sent d t := ⟨_, _, (half d t).src⟩
  got := brought
  copied d t := ⟨_, _, (half d t).dst⟩
  channels := [0, 1, 2, 3, 4]
  copies := [0, 1, 2, 3, 4]

set_option maxRecDepth 65536 in
/-- The printed kernel is the net's program. -/
theorem body_eq : (cc0_pair_gather (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1 cc0_scratch2
    : Prog (TpuEff nD τ sig (Elt F) Λ₀ .tc) PUnit) = net.prog := rfl

end Cert.Joined
-- ==== Proof.Joined.Run.lean ====
/-
  The pair gather's net is sound, its arrays are cut among its transfers, and what its run leaves.
-/
module

public import proofs.«01_k».proof.Proof.Exchange.Settle
public import proofs.«01_k».proof.Proof.Exchange.Slab
public import proofs.«01_k».proof.Proof.Joined.Net
public import Idealize.ShloMosaic.Lib.Ring
public import Idealize.ShloMosaic.Lib.Ring.AtN

@[expose] public section

noncomputable section

namespace Cert.Joined

open Cert.JoinIdeal Cert.JoinIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Soundness -/

/-- What a transfer of array `t` pays. -/
def credit (t : Fin 5) : ℕ := (half 0 t).dst.view.dmaCredit

def amount : Fin 5 ⊕ Fin 5 → ℕ := Sum.elim credit credit

theorem credit_eq : ∀ (d : Dev nD) (t : Fin 5), (half d t).dst.view.dmaCredit = credit t
  | _, 0 => rfl | _, 1 => rfl | _, 2 => rfl | _, 3 => rfl | _, 4 => rfl

theorem credit_src : ∀ (d : Dev nD) (t : Fin 5), (half d t).src.view.dmaCredit = credit t
  | _, 0 => rfl | _, 1 => rfl | _, 2 => rfl | _, 3 => rfl | _, 4 => rfl

theorem credit_brought : ∀ (d : Dev nD) (t : Fin 5), (brought d t).mem.view.dmaCredit = credit t
  | _, 0 => rfl | _, 1 => rfl | _, 2 => rfl | _, 3 => rfl | _, 4 => rfl

theorem credit_pos : ∀ t : Fin 5, 0 < credit t
  | 0 => by decide | 1 => by decide | 2 => by decide | 3 => by decide | 4 => by decide

theorem sound : net.Sound amount where
  peer_peer := by decide
  sem_inj := by decide
  amount_pos | .inl t => credit_pos t | .inr t => credit_pos t
  wire_credit | d, .inl t => credit_eq d t | d, .inr t => credit_eq d t
  sent_credit := credit_src
  got_credit := credit_brought
  copied_credit := credit_eq
  channels_nodup := by decide
  channels_all := by decide
  copies_nodup := by decide
  copies_all := by decide

theorem own_sems : Pipeline.OwnSemFacts (cfgs 0).spec fun k : Key (Fin 5) (Fin 5) => SemLoc.dma (net.sem k) := by decide

/-! ## Where the halves lie -/

theorem setIn (o : Fin 2 → ℕ) (h) : (halfIn o h).view.set = (Rect.unit (s := S1024x1664) o S512x1664.size h).set := View.set_slice_whole _ _
theorem setOut1 (o : Fin 2 → ℕ) (h) : (halfOut (Memref.whole main_v1_1) o h).view.set = (Rect.unit (s := S256x1024) o S128x1024.size h).set := View.set_slice_whole _ _
theorem setOut2 (o : Fin 2 → ℕ) (h) : (halfOut (Memref.whole main_v1_2) o h).view.set = (Rect.unit (s := S256x1024) o S128x1024.size h).set := View.set_slice_whole _ _
theorem setOut3 (o : Fin 2 → ℕ) (h) : (halfOut (Memref.whole main_v1_3) o h).view.set = (Rect.unit (s := S256x1024) o S128x1024.size h).set := View.set_slice_whole _ _
theorem setSmall (o : Fin 2 → ℕ) (h) : (halfSmall o h).view.set = (Rect.unit (s := S2144x128) o S1072x128.size h).set := View.set_slice_whole _ _

/-- Runs of `n` rows starting at different multiples of `n` share no row. -/
theorem runs_disjoint {N n C : ℕ} {o o' : Fin 2 → ℕ} (k k' : ℕ) (hk : k ≠ k') (e : o 0 = n * k) (e' : o' 0 = n * k')
    {h : ∀ a, o a + (![n, C] : Fin 2 → ℕ) a ≤ (![N, C] : Fin 2 → ℕ) a} {h' : ∀ a, o' a + (![n, C] : Fin 2 → ℕ) a ≤ (![N, C] : Fin 2 → ℕ) a} :
    Disjoint (Rect.unit (s := ⟨2, ![N, C]⟩) o ![n, C] h).set (Rect.unit (s := ⟨2, ![N, C]⟩) o' ![n, C] h').set := by
  refine Finset.disjoint_left.mpr fun i hi hi' => ?_
  have h0 := (Rect.mem_set_unit.mp hi) 0
  have h1 := (Rect.mem_set_unit.mp hi') 0
  have hs : (![n, C] : Fin 2 → ℕ) 0 = n := rfl
  rw [hs, e] at h0
  rw [hs, e'] at h1
  rcases Nat.lt_or_gt_of_ne hk with hlt | hlt
  · have := Nat.mul_le_mul_left n (show k + 1 ≤ k' from hlt); rw [Nat.mul_add, Nat.mul_one] at this; omega
  · have := Nat.mul_le_mul_left n (show k' + 1 ≤ k from hlt); rw [Nat.mul_add, Nat.mul_one] at this; omega

theorem core_sibling : ∀ (c : Dev nD) (t : Fin 5), (sibling c t).val % 2 ≠ c.val % 2 := by decide

theorem apartIn {o o' : Fin 2 → ℕ} {h h'} (k k' : ℕ) (hk : k ≠ k') (e : o 0 = 512 * k) (e' : o' 0 = 512 * k') :
    Disjoint (halfIn o h).view.set (halfIn o' h').view.set := by
  rw [setIn, setIn]
  exact runs_disjoint k k' hk e e'

theorem apartOut1 {o o' : Fin 2 → ℕ} {h h'} (k k' : ℕ) (hk : k ≠ k') (e : o 0 = 128 * k) (e' : o' 0 = 128 * k') :
    Disjoint (halfOut (Memref.whole main_v1_1) o h).view.set (halfOut (Memref.whole main_v1_1) o' h').view.set := by
  rw [setOut1, setOut1]
  exact runs_disjoint k k' hk e e'

theorem apartOut2 {o o' : Fin 2 → ℕ} {h h'} (k k' : ℕ) (hk : k ≠ k') (e : o 0 = 128 * k) (e' : o' 0 = 128 * k') :
    Disjoint (halfOut (Memref.whole main_v1_2) o h).view.set (halfOut (Memref.whole main_v1_2) o' h').view.set := by
  rw [setOut2, setOut2]
  exact runs_disjoint k k' hk e e'

theorem apartOut3 {o o' : Fin 2 → ℕ} {h h'} (k k' : ℕ) (hk : k ≠ k') (e : o 0 = 128 * k) (e' : o' 0 = 128 * k') :
    Disjoint (halfOut (Memref.whole main_v1_3) o h).view.set (halfOut (Memref.whole main_v1_3) o' h').view.set := by
  rw [setOut3, setOut3]
  exact runs_disjoint k k' hk e e'

theorem apartSmall {o o' : Fin 2 → ℕ} {h h'} (k k' : ℕ) (hk : k ≠ k') (e : o 0 = 1072 * k) (e' : o' 0 = 1072 * k') :
    Disjoint (halfSmall o h).view.set (halfSmall o' h').view.set := by
  rw [setSmall, setSmall]
  exact runs_disjoint k k' hk e e'

/-! ## The arrays cut -/

/-- Half of an array's share. -/
def part (i : Fin 2) : PosShare TreeShare := ShareLeaves.leaf 1 fullShare i

/-- An array and the one it is joined into: a share of the array with the half another device's arrives at, and a share with
    the device's own half. -/
theorem deal_array {ℓs ℓd : Loc nD τ sig} (Ks : Finset (Idx ℓs)) (Kd Ke : Finset (Idx ℓd)) (h : Disjoint Kd Ke)
    (f : Buf (Elt F) ℓs) (g : Buf (Elt F) ℓd) :
    (iprop((ℓs ↦{fullShare} f) ∗ (ℓd ↦{fullShare} g)) : sProp 𝕄)
      ⊢ iprop(((ℓs ↦[Ks]{part 0} f) ∗ (ℓd ↦[Kd]{fullShare} g)) ∗ ((ℓs ↦[Ks]{part 1} f) ∗ (ℓd ↦[Ke]{fullShare} g))) := by
  have hs : (ℓs ↦{fullShare} f : sProp 𝕄) ⊢ bigSep Finset.univ fun i : Fin 2 => ℓs ↦[Ks]{part i} f :=
    deal_shares 1 Ks f
  have hd : (ℓd ↦{fullShare} g : sProp 𝕄) ⊢ iprop((ℓd ↦[Kd]{fullShare} g) ∗ (ℓd ↦[Ke]{fullShare} g)) := by
    have := deal_pieces (Val := Elt F) ![Kd, Ke]
      (fun s s' hne => match s, s', hne with | 0, 0, hne => (hne rfl).elim | 0, 1, _ => h | 1, 0, _ => h.symm | 1, 1, hne => (hne rfl).elim) fullShare g
    rwa [Ring.bigSep_fin2] at this
  rw [Ring.bigSep_fin2] at hs
  iintro ⟨Hs, Hd⟩
  ihave Hs := hs $$ Hs
  ihave Hd := hd $$ Hd
  icases Hs with ⟨S0, S1⟩
  icases Hd with ⟨D0, D1⟩
  isplitl [S0 D0]
  · isplitl [S0] <;> iassumption
  isplitl [S1] <;> iassumption

abbrev share : Fin 5 ⊕ Fin 5 → PosShare TreeShare := Sum.elim (fun _ => part 0) (fun _ => part 1)

section

variable (m : (ℓ : Loc nD τ sig) → Buf (Elt F) ℓ) (c : Dev nD)

/-- What array `t`'s transfers take on device `c`. -/
def taken (t : Fin 5) : sProp 𝕄 :=
  iprop((srcPts net share m c (.inl t) ∗ slotPts net m c (net.source c (.inl t)) (.inl t))
    ∗ (srcPts net share m c (.inr t) ∗ slotPts net m c (net.source c (.inr t)) (.inr t)))

theorem taken_0 : (iprop(((c : Thread nD τ).loc main_arg0 ↦{fullShare} m ((c : Thread nD τ).loc main_arg0))
    ∗ ((c : Thread nD τ).loc main_v1_0 ↦{fullShare} m ((c : Thread nD τ).loc main_v1_0))) : sProp 𝕄) ⊢ taken m c 0 :=
  deal_array (ℓs := (c : Thread nD τ).loc main_arg0) (ℓd := (c : Thread nD τ).loc main_v1_0) (half c 0).src.view.set (half (sibling c 0) 0).dst.view.set (half c 0).dst.view.set
    (apartIn _ _ (core_sibling c 0) (congrFun (k0_off1_eq (sibling c 0)) 0) (congrFun (k0_off1_eq c) 0)) _ _

theorem taken_1 : (iprop(((c : Thread nD τ).loc main_arg1 ↦{fullShare} m ((c : Thread nD τ).loc main_arg1))
    ∗ ((c : Thread nD τ).loc main_v1_1 ↦{fullShare} m ((c : Thread nD τ).loc main_v1_1))) : sProp 𝕄) ⊢ taken m c 1 :=
  deal_array (ℓs := (c : Thread nD τ).loc main_arg1) (ℓd := (c : Thread nD τ).loc main_v1_1) (half c 1).src.view.set (half (sibling c 1) 1).dst.view.set (half c 1).dst.view.set
    (apartOut1 _ _ (core_sibling c 1) (congrFun (k0_off2_eq (sibling c 1)) 0) (congrFun (k0_off2_eq c) 0)) _ _

theorem taken_2 : (iprop(((c : Thread nD τ).loc main_arg2 ↦{fullShare} m ((c : Thread nD τ).loc main_arg2))
    ∗ ((c : Thread nD τ).loc main_v1_2 ↦{fullShare} m ((c : Thread nD τ).loc main_v1_2))) : sProp 𝕄) ⊢ taken m c 2 :=
  deal_array (ℓs := (c : Thread nD τ).loc main_arg2) (ℓd := (c : Thread nD τ).loc main_v1_2) (half c 2).src.view.set (half (sibling c 2) 2).dst.view.set (half c 2).dst.view.set
    (apartOut2 _ _ (core_sibling c 2) (congrFun (k0_off2_eq (sibling c 2)) 0) (congrFun (k0_off2_eq c) 0)) _ _

theorem taken_3 : (iprop(((c : Thread nD τ).loc main_arg3 ↦{fullShare} m ((c : Thread nD τ).loc main_arg3))
    ∗ ((c : Thread nD τ).loc main_v1_3 ↦{fullShare} m ((c : Thread nD τ).loc main_v1_3))) : sProp 𝕄) ⊢ taken m c 3 :=
  deal_array (ℓs := (c : Thread nD τ).loc main_arg3) (ℓd := (c : Thread nD τ).loc main_v1_3) (half c 3).src.view.set (half (sibling c 3) 3).dst.view.set (half c 3).dst.view.set
    (apartOut3 _ _ (core_sibling c 3) (congrFun (k0_off2_eq (sibling c 3)) 0) (congrFun (k0_off2_eq c) 0)) _ _

theorem taken_4 : (iprop(((c : Thread nD τ).loc main_arg4 ↦{fullShare} m ((c : Thread nD τ).loc main_arg4))
    ∗ ((c : Thread nD τ).loc main_v1_4 ↦{fullShare} m ((c : Thread nD τ).loc main_v1_4))) : sProp 𝕄) ⊢ taken m c 4 :=
  deal_array (ℓs := (c : Thread nD τ).loc main_arg4) (ℓd := (c : Thread nD τ).loc main_v1_4) (half c 4).src.view.set (half (sibling c 4) 4).dst.view.set (half c 4).dst.view.set
    (apartSmall _ _ (core_sibling c 4) (congrFun (k0_off3_eq (sibling c 4)) 0) (congrFun (k0_off3_eq c) 0)) _ _

theorem supply_eq : (supply net share m c : sProp 𝕄) = bigSep Finset.univ fun t : Fin 5 => taken m c t := by
  unfold supply taken
  rw [bigSep_sum, bigSep_sep' (Φ := fun t : Fin 5 => iprop(srcPts net share m c (.inl t) ∗ slotPts net m c (net.source c (.inl t)) (.inl t)))]

/-- A device's buffers, cut among the transfers. -/
theorem split : unscopedBufs c (fun b => m ((c : Thread nD τ).loc b)) ⊢ (supply net share m c : sProp 𝕄) := by
  have h : unscopedBufs c (fun b => m ((c : Thread nD τ).loc b)) = (Pipeline.unscopedRest (cfg0.spec) c (fun b => m ((c : Thread nD τ).loc b)) : sProp 𝕄) := by
    unfold unscopedBufs Pipeline.unscopedRest
    rw [show Finset.univ.image (Pipeline.arrRef cfg0.spec) = ∅ from by decide, Finset.sdiff_empty]
  rw [h, unscopedRest0_eq, supply_eq, bigSep_univ_eq_bigSepL [0, 1, 2, 3, 4] (by decide) (by decide)]
  have h0 := taken_0 m c
  have h1 := taken_1 m c
  have h2 := taken_2 m c
  have h3 := taken_3 m c
  have h4 := taken_4 m c
  show _ ⊢ iprop(taken m c 0 ∗ taken m c 1 ∗ taken m c 2 ∗ taken m c 3 ∗ taken m c 4)
  iintro ⟨A0, A1, A2, A3, A4, O0, O1, O2, O3, O4⟩
  isplitl [A0 O0]
  · iapply h0; isplitl [A0] <;> iassumption
  isplitl [A1 O1]
  · iapply h1; isplitl [A1] <;> iassumption
  isplitl [A2 O2]
  · iapply h2; isplitl [A2] <;> iassumption
  isplitl [A3 O3]
  · iapply h3; isplitl [A3] <;> iassumption
  iapply h4; isplitl [A4] <;> iassumption

end

/-! ## The run -/

instance : IsEmpty (Fin (cfgs 0).W) := inferInstanceAs (IsEmpty (Fin 0))

theorem isNet : IsNet (defs₀ (F := F)) Variants.none net (cfgs 0) := by
  intro c t Q
  unfold runsTo
  rw [← body_eq]
  exact BI.Entails.refl _

theorem run (m : (ℓ : Loc nD τ sig) → Buf (Elt F) ℓ) (g : Dev nD → PrngReg) :
    θ_run (defs (F := F)) (onTc (τ := τ) (main (F := F))) ⟨m, fun _ => 0, g⟩ fun r => (∀ c q, Settled net m c q r.2) ∧ r.2.sem = fun _ => 0 :=
  run_exchange net share m sound cfgs cellOf_inj 0 defs₀ Variants.none winFacts0.to₀ own_sems (by decide) N_0 (inferInstanceAs (IsEmpty (Fin 0))) isNet g main
    (fun c => rfl) (by decide) (split m)

/-! ## What it leaves -/

section

variable {m : (ℓ : Loc nD τ sig) → Buf (Elt F) ℓ} {s : MemSt nD τ sig (Elt F)} (h : ∀ c q, Settled net m c q s)
include h

/-- The half that arrived is the other core's, -/
theorem came (c : Dev nD) (t : Fin 5) : (half (sibling c t) t).dst.view.read (Elt F) (s.mem ((half (sibling c t) t).dst.view.loc (c : Thread nD τ)))
    = (half (sibling c t) t).src.view.read (Elt F) (m ((half (sibling c t) t).src.view.loc (sibling c t : Thread nD τ))) := (h c (.inl t)).read

/-- and the other half is the device's own. -/
theorem own (c : Dev nD) (t : Fin 5) : (half c t).dst.view.read (Elt F) (s.mem ((half c t).dst.view.loc (c : Thread nD τ)))
    = (half c t).src.view.read (Elt F) (m ((half c t).src.view.loc (c : Thread nD τ))) := (h c (.inr t)).read

theorem kept (c : Dev nD) (t : Fin 5) : ∀ i ∈ (half c t).src.view.set,
    s.mem ((half c t).src.view.loc (c : Thread nD τ)) i = m ((half c t).src.view.loc (c : Thread nD τ)) i := (h c (.inr t)).1

theorem kept_0 (c : Dev nD) : s.mem ((c : Thread nD τ).loc main_arg0) = m ((c : Thread nD τ).loc main_arg0) :=
  funext fun i => kept h c 0 i (by show i ∈ (View.whole main_arg0).set; rw [View.set_whole]; exact Finset.mem_univ _)
theorem kept_1 (c : Dev nD) : s.mem ((c : Thread nD τ).loc main_arg1) = m ((c : Thread nD τ).loc main_arg1) :=
  funext fun i => kept h c 1 i (by show i ∈ (View.whole main_arg1).set; rw [View.set_whole]; exact Finset.mem_univ _)
theorem kept_2 (c : Dev nD) : s.mem ((c : Thread nD τ).loc main_arg2) = m ((c : Thread nD τ).loc main_arg2) :=
  funext fun i => kept h c 2 i (by show i ∈ (View.whole main_arg2).set; rw [View.set_whole]; exact Finset.mem_univ _)
theorem kept_3 (c : Dev nD) : s.mem ((c : Thread nD τ).loc main_arg3) = m ((c : Thread nD τ).loc main_arg3) :=
  funext fun i => kept h c 3 i (by show i ∈ (View.whole main_arg3).set; rw [View.set_whole]; exact Finset.mem_univ _)
theorem kept_4 (c : Dev nD) : s.mem ((c : Thread nD τ).loc main_arg4) = m ((c : Thread nD τ).loc main_arg4) :=
  funext fun i => kept h c 4 i (by show i ∈ (View.whole main_arg4).set; rw [View.set_whole]; exact Finset.mem_univ _)

end

/-! ## The elements -/

theorem holder_cases : ∀ (c d : Dev nD) (t : Fin 5), d.val / 2 = c.val / 2 → d = c ∨ d = sibling c t := by decide

section

variable {m : (ℓ : Loc nD τ sig) → Buf (Elt F) ℓ} {s : MemSt nD τ sig (Elt F)} (h : ∀ c q, Settled net m c q s)
include h

/-- Both halves of a joined array are their holders' arrays. -/
theorem held (c d : Dev nD) (t : Fin 5) (hd : d.val / 2 = c.val / 2) : (half d t).dst.view.read (Elt F) (s.mem ((half d t).dst.view.loc (c : Thread nD τ)))
    = (half d t).src.view.read (Elt F) (m ((half d t).src.view.loc (d : Thread nD τ))) := by
  rcases holder_cases c d t hd with rfl | rfl
  · exact own h d t
  · exact came h c t

theorem joined_0 (c d : Dev nD) (hd : d.val / 2 = c.val / 2) (i : S512x1664.Idx) (i' : S1024x1664.Idx) (h0 : (i' 0).val = 512 * (d.val % 2) + (i 0).val)
    (h1 : (i' 1).val = (i 1).val) : s.mem ((c : Thread nD τ).loc main_v1_0) i' = m ((d : Thread nD τ).loc main_arg0) i := by
  refine (congrArg (s.mem ((c : Thread nD τ).loc main_v1_0)) (funext fun a => Fin.ext ?_)).trans (congrFun (held h c d 0 hd) i)
  show (i' a).val = k0_off1 d a + 1 * (i a).val
  rw [k0_off1_eq]
  fin_cases a
  · show (i' 0).val = 512 * (d.val % 2) + 1 * (i 0).val; omega
  · show (i' 1).val = 0 + 1 * (i 1).val; omega

omit h in
theorem out_at (d : Dev nD) (i : S128x1024.Idx) (i' : S256x1024.Idx) (h0 : (i' 0).val = 128 * (d.val % 2) + (i 0).val)
    (h1 : (i' 1).val = (i 1).val) (a : Fin 2) : (i' a).val = k0_off2 d a + 1 * (i a).val := by
  rw [k0_off2_eq]
  fin_cases a
  · show (i' 0).val = 128 * (d.val % 2) + 1 * (i 0).val; omega
  · show (i' 1).val = 0 + 1 * (i 1).val; omega

theorem joined_1 (c d : Dev nD) (hd : d.val / 2 = c.val / 2) (i : S128x1024.Idx) (i' : S256x1024.Idx) (h0 : (i' 0).val = 128 * (d.val % 2) + (i 0).val)
    (h1 : (i' 1).val = (i 1).val) : s.mem ((c : Thread nD τ).loc main_v1_1) i' = m ((d : Thread nD τ).loc main_arg1) i :=
  (congrArg (s.mem ((c : Thread nD τ).loc main_v1_1)) (funext fun a => Fin.ext (out_at d i i' h0 h1 a))).trans (congrFun (held h c d 1 hd) i)

theorem joined_2 (c d : Dev nD) (hd : d.val / 2 = c.val / 2) (i : S128x1024.Idx) (i' : S256x1024.Idx) (h0 : (i' 0).val = 128 * (d.val % 2) + (i 0).val)
    (h1 : (i' 1).val = (i 1).val) : s.mem ((c : Thread nD τ).loc main_v1_2) i' = m ((d : Thread nD τ).loc main_arg2) i :=
  (congrArg (s.mem ((c : Thread nD τ).loc main_v1_2)) (funext fun a => Fin.ext (out_at d i i' h0 h1 a))).trans (congrFun (held h c d 2 hd) i)

theorem joined_3 (c d : Dev nD) (hd : d.val / 2 = c.val / 2) (i : S128x1024.Idx) (i' : S256x1024.Idx) (h0 : (i' 0).val = 128 * (d.val % 2) + (i 0).val)
    (h1 : (i' 1).val = (i 1).val) : s.mem ((c : Thread nD τ).loc main_v1_3) i' = m ((d : Thread nD τ).loc main_arg3) i :=
  (congrArg (s.mem ((c : Thread nD τ).loc main_v1_3)) (funext fun a => Fin.ext (out_at d i i' h0 h1 a))).trans (congrFun (held h c d 3 hd) i)

theorem joined_4 (c d : Dev nD) (hd : d.val / 2 = c.val / 2) (i : S1072x128.Idx) (i' : S2144x128.Idx) (h0 : (i' 0).val = 1072 * (d.val % 2) + (i 0).val)
    (h1 : (i' 1).val = (i 1).val) : s.mem ((c : Thread nD τ).loc main_v1_4) i' = m ((d : Thread nD τ).loc main_arg4) i := by
  refine (congrArg (s.mem ((c : Thread nD τ).loc main_v1_4)) (funext fun a => Fin.ext ?_)).trans (congrFun (held h c d 4 hd) i)
  show (i' a).val = k0_off3 d a + 1 * (i a).val
  rw [k0_off3_eq]
  fin_cases a
  · show (i' 0).val = 1072 * (d.val % 2) + 1 * (i 0).val; omega
  · show (i' 1).val = 0 + 1 * (i 1).val; omega

end

end Cert.Joined
-- ==== Proof.Joined.Value.lean ====
/-
  The joined arrays as the reference's results, which are its arguments.
-/
module

public import proofs.«01_k».proof.Defs
public import proofs.«01_k».proof.Proof.Joined.Run
public import proofs.«01_k».proof.Proof.Gen.JoinReferenceIdeal
public import Idealize.ShloMosaic.Lib.Claim
public import Idealize.ShloMosaic.Lib.LayoutAt
public import Idealize.ShloMosaic.Lib.Quiescent
public import Idealize.ShloMosaic.Lib.Pipeline.Value
public import Idealize.ShloMosaic.Lib.ValueIdxCore

@[expose] public section

noncomputable section

namespace Cert.Joined

open Cert.Exchange
open Idealize.ShloMosaic Idealize.ShloMosaic.TcCoe Idealize.SL Idealize.SL.Sem

variable {F : FTy → Type} [FloatOps F]

/-! ## The reference -/

section Reference

open Cert.JoinReferenceIdeal Cert.JoinReferenceIdeal.Gen

variable (m : (ℓ : Loc nD τ sig) → Buf (Elt F) ℓ)

theorem run_reference (g : Dev nD → PrngReg) :
    θ_run (defs (F := F)) (onTc (τ := τ) (main (F := F))) ⟨m, fun _ => 0, g⟩ fun r =>
      r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4) := by
  hlo_run <;> rfl

end Reference

/-! ## The results -/

section Results

open Cert.JoinIdeal Cert.JoinIdeal.Gen

theorem chip (c : Dev nD) : Layout.meshLin [2, 2, 2] c.val [0, 1] = c.val / 2 := by revert c; decide
theorem core (c : Dev nD) : Layout.meshLin [2, 2, 2] c.val [2] = c.val % 2 := by revert c; decide

/-- The device of `c`'s chip that holds half `k` of its joined arrays. -/
theorem holder : ∀ (c : Dev nD) (k : Fin 2), ∃ d : Dev nD, d.val / 2 = c.val / 2 ∧ d.val % 2 = k.val := by decide

/-- A row of a joined array of `2 * n` rows, in the half it lies in. -/
theorem row_at (n : ℕ) (hn : 0 < n) {C : ℕ} (c : Dev nD) (i' : (⟨2, ![2 * n, C]⟩ : Shape).Idx) :
    ∃ (d : Dev nD) (i : (⟨2, ![n, C]⟩ : Shape).Idx), d.val / 2 = c.val / 2 ∧ (i' 0).val = n * (d.val % 2) + (i 0).val ∧ (i' 1).val = (i 1).val := by
  have h : (i' 0).val < 2 * n := (i' 0).isLt
  obtain ⟨d, hd, hk⟩ := holder c ⟨(i' 0).val / n, Nat.div_lt_of_lt_mul (h.trans_eq (Nat.mul_comm _ _))⟩
  refine ⟨d, ValueIdx.ix2 ⟨(i' 0).val % n, Nat.mod_lt _ hn⟩ (i' 1), hd, ?_, rfl⟩
  rw [hk]
  exact (Nat.div_add_mod _ _).symm

theorem block_in (x : (⟨2, ![4096, 1664]⟩ : Shape).Idx → Elt F .f32) (c d : Dev nD) (hd : d.val / 2 = c.val / 2) (i : (⟨2, ![512, 1664]⟩ : Shape).Idx)
    (i' : (⟨2, ![1024, 1664]⟩ : Shape).Idx) (h0 : (i' 0).val = 512 * (d.val % 2) + (i 0).val) (h1 : (i' 1).val = (i 1).val) :
    (Layout.block ⟨2, ![512, 1664]⟩ ⟨2, ![4096, 1664]⟩ 0 8 d x : _ → _) i
      = (Layout.blockN ⟨2, ![1024, 1664]⟩ ⟨2, ![4096, 1664]⟩ (Layout.meshBlock [2, 2, 2] ![[0, 1], []] c) x : _ → _) i' := by
  rw [Layout.block_apply, Layout.blockN_apply]
  refine congrArg x (funext fun a => Fin.ext ?_)
  fin_cases a
  · refine (Layout.Tiles.idx_val_self _ d i 0 rfl).trans ?_
    show d.val * 512 + (i 0).val = Layout.meshLin [2, 2, 2] c.val [0, 1] * 1024 + (i' 0).val
    rw [chip, h0]; omega
  · refine Eq.trans (by exact Layout.Tiles.idx_val_of_ne _ d i 1 (by decide)) ?_
    show (i 1).val = Layout.meshLin [2, 2, 2] c.val [] * 1664 + (i' 1).val
    rw [show Layout.meshLin [2, 2, 2] c.val [] = 0 from rfl, h1]; omega

theorem block_out (x : (⟨2, ![1024, 1024]⟩ : Shape).Idx → Elt F .f32) (c d : Dev nD) (hd : d.val / 2 = c.val / 2) (i : (⟨2, ![128, 1024]⟩ : Shape).Idx)
    (i' : (⟨2, ![256, 1024]⟩ : Shape).Idx) (h0 : (i' 0).val = 128 * (d.val % 2) + (i 0).val) (h1 : (i' 1).val = (i 1).val) :
    (Layout.block ⟨2, ![128, 1024]⟩ ⟨2, ![1024, 1024]⟩ 0 8 d x : _ → _) i
      = (Layout.blockN ⟨2, ![256, 1024]⟩ ⟨2, ![1024, 1024]⟩ (Layout.meshBlock [2, 2, 2] ![[0, 1], []] c) x : _ → _) i' := by
  rw [Layout.block_apply, Layout.blockN_apply]
  refine congrArg x (funext fun a => Fin.ext ?_)
  fin_cases a
  · refine (Layout.Tiles.idx_val_self _ d i 0 rfl).trans ?_
    show d.val * 128 + (i 0).val = Layout.meshLin [2, 2, 2] c.val [0, 1] * 256 + (i' 0).val
    rw [chip, h0]; omega
  · refine Eq.trans (by exact Layout.Tiles.idx_val_of_ne _ d i 1 (by decide)) ?_
    show (i 1).val = Layout.meshLin [2, 2, 2] c.val [] * 1024 + (i' 1).val
    rw [show Layout.meshLin [2, 2, 2] c.val [] = 0 from rfl, h1]; omega

theorem block_small (x : (⟨2, ![2144, 128]⟩ : Shape).Idx → Elt F .f32) (d : Dev nD) (i : (⟨2, ![1072, 128]⟩ : Shape).Idx)
    (i' : (⟨2, ![2144, 128]⟩ : Shape).Idx) (h0 : (i' 0).val = 1072 * (d.val % 2) + (i 0).val) (h1 : (i' 1).val = (i 1).val) :
    (Layout.blockN ⟨2, ![1072, 128]⟩ ⟨2, ![2144, 128]⟩ (Layout.meshBlock [2, 2, 2] ![[2], []] d) x : _ → _) i = x i' := by
  rw [Layout.blockN_apply]
  refine congrArg x (funext fun a => Fin.ext ?_)
  fin_cases a
  · show Layout.meshLin [2, 2, 2] d.val [2] * 1072 + (i 0).val = (i' 0).val
    rw [core, h0]; omega
  · show Layout.meshLin [2, 2, 2] d.val [] * 128 + (i 1).val = (i' 1).val
    rw [show Layout.meshLin [2, 2, 2] d.val [] = 0 from rfl, h1]; omega

variable {m : (ℓ : Loc nD τ sig) → Buf (Elt F) ℓ} {s : MemSt nD τ sig (Elt F)} (h : ∀ c q, Settled net m c q s)
include h

theorem result_0 {x : (⟨2, ![4096, 1664]⟩ : Shape).Idx → Elt F .f32}
    (hm : ∀ c : Dev nD, m ((c : Thread nD τ).loc main_arg0) = Layout.block ⟨2, ![512, 1664]⟩ ⟨2, ![4096, 1664]⟩ 0 8 c x) (c : Dev nD) :
    s.mem ((c : Thread nD τ).loc main_v1_0) = Layout.blockN ⟨2, ![1024, 1664]⟩ ⟨2, ![4096, 1664]⟩ (Layout.meshBlock [2, 2, 2] ![[0, 1], []] c) x :=
  funext fun i' => by
    obtain ⟨d, i, hd, h0, h1⟩ := row_at 512 (by decide) (C := 1664) c i'
    exact ((joined_0 h c d hd i i' h0 h1).trans (congrFun (hm d) i)).trans (block_in x c d hd i i' h0 h1)

theorem result_1 {x : (⟨2, ![1024, 1024]⟩ : Shape).Idx → Elt F .f32}
    (hm : ∀ c : Dev nD, m ((c : Thread nD τ).loc main_arg1) = Layout.block ⟨2, ![128, 1024]⟩ ⟨2, ![1024, 1024]⟩ 0 8 c x) (c : Dev nD) :
    s.mem ((c : Thread nD τ).loc main_v1_1) = Layout.blockN ⟨2, ![256, 1024]⟩ ⟨2, ![1024, 1024]⟩ (Layout.meshBlock [2, 2, 2] ![[0, 1], []] c) x :=
  funext fun i' => by
    obtain ⟨d, i, hd, h0, h1⟩ := row_at 128 (by decide) (C := 1024) c i'
    exact ((joined_1 h c d hd i i' h0 h1).trans (congrFun (hm d) i)).trans (block_out x c d hd i i' h0 h1)

theorem result_2 {x : (⟨2, ![1024, 1024]⟩ : Shape).Idx → Elt F .f32}
    (hm : ∀ c : Dev nD, m ((c : Thread nD τ).loc main_arg2) = Layout.block ⟨2, ![128, 1024]⟩ ⟨2, ![1024, 1024]⟩ 0 8 c x) (c : Dev nD) :
    s.mem ((c : Thread nD τ).loc main_v1_2) = Layout.blockN ⟨2, ![256, 1024]⟩ ⟨2, ![1024, 1024]⟩ (Layout.meshBlock [2, 2, 2] ![[0, 1], []] c) x :=
  funext fun i' => by
    obtain ⟨d, i, hd, h0, h1⟩ := row_at 128 (by decide) (C := 1024) c i'
    exact ((joined_2 h c d hd i i' h0 h1).trans (congrFun (hm d) i)).trans (block_out x c d hd i i' h0 h1)

theorem result_3 {x : (⟨2, ![1024, 1024]⟩ : Shape).Idx → Elt F .f32}
    (hm : ∀ c : Dev nD, m ((c : Thread nD τ).loc main_arg3) = Layout.block ⟨2, ![128, 1024]⟩ ⟨2, ![1024, 1024]⟩ 0 8 c x) (c : Dev nD) :
    s.mem ((c : Thread nD τ).loc main_v1_3) = Layout.blockN ⟨2, ![256, 1024]⟩ ⟨2, ![1024, 1024]⟩ (Layout.meshBlock [2, 2, 2] ![[0, 1], []] c) x :=
  funext fun i' => by
    obtain ⟨d, i, hd, h0, h1⟩ := row_at 128 (by decide) (C := 1024) c i'
    exact ((joined_3 h c d hd i i' h0 h1).trans (congrFun (hm d) i)).trans (block_out x c d hd i i' h0 h1)

theorem result_4 {x : (⟨2, ![2144, 128]⟩ : Shape).Idx → Elt F .f32}
    (hm : ∀ c : Dev nD, m ((c : Thread nD τ).loc main_arg4) = Layout.blockN ⟨2, ![1072, 128]⟩ ⟨2, ![2144, 128]⟩ (Layout.meshBlock [2, 2, 2] ![[2], []] c) x) (c : Dev nD) :
    s.mem ((c : Thread nD τ).loc main_v1_4) = x :=
  funext fun i' => by
    obtain ⟨d, i, hd, h0, h1⟩ := row_at 1072 (by decide) (C := 128) c i'
    exact ((joined_4 h c d hd i i' h0 h1).trans (congrFun (hm d) i)).trans (block_small x d i i' h0 h1)

end Results

end Cert.Joined
-- ==== Proof.Stepped.Scalar.lean ====
/-
  One element of the optimiser's step, over the extended reals: the two moments and the change of the weight.
-/
module

public import Idealize.ShloMosaic.Lib.Exec
public import Idealize.ShloMosaic.Lib.IdealHost

@[expose] public section

noncomputable section

namespace Cert.Proof.Stepped

open Idealize.ShloMosaic

/-- 0.9 m + 0.1 g -/
def first (g m : Ideal .f32) : Ideal .f32 :=
  FloatOps.addf (FloatOps.mulf (Scalar.ofBits .f32 0x3F666666#32) m) (FloatOps.mulf (Scalar.ofBits .f32 0x3DCCCCCD#32) g)

/-- 0.999 v + 0.001 g² -/
def second (g v : Ideal .f32) : Ideal .f32 :=
  FloatOps.addf (FloatOps.mulf (Scalar.ofBits .f32 0x3F7FBE77#32) v) (FloatOps.mulf (Scalar.ofBits .f32 0x3A83126F#32) (FloatOps.mulf g g))

/-- −0.001 (m' / √v' with both moments' bias taken out, and 0.01 w for the decay) -/
def change (w g m v : Ideal .f32) : Ideal .f32 :=
  FloatOps.mulf (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32))) (Scalar.ofBits .f32 0x322BCC77#32)))
      (FloatOps.mulf (Scalar.ofBits .f32 0x3C23D70A#32) w))

end Cert.Proof.Stepped

end
-- ==== Proof.Stepped.In.lean ====
/-
  The step of w_in: eight tiles of 128 rows, every element by `change`, `first` and `second`.
-/
module

public import proofs.«01_k».proof.Proof.Gen.StepInIdeal.Frame
public import proofs.«01_k».proof.Proof.Gen.StepInReferenceIdeal
public import proofs.«01_k».proof.Proof.Stepped.Scalar
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Stepped.In

section Kernel

open Cert.StepInIdeal Cert.StepInIdeal.Gen

variable (m : (ℓ : Loc nD τ sig) → Buf (Elt Ideal) ℓ)

theorem index : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem final_4 (c : Dev nD) : (dats m 0 c).arrAt 4 (cfgs 0).N = fun i => change (m ((c : Thread nD τ).loc main_arg0) i)
    (m ((c : Thread nD τ).loc main_arg1) i) (m ((c : Thread nD τ).loc main_arg2) i) (m ((c : Thread nD τ).loc main_arg3) i) := by
  refine (dats m 0 c).arrAt_eq_of_covers 4 _ (by decide +kernel) fun t _ y => ?_
  blk_simp
  rw [after0_4]; frame_out
  show change (iblk m c 0 t y) (iblk m c 1 t y) (iblk m c 2 t y) (iblk m c 3 t y) = _
  blk_point [iblk, V, index t]

theorem final_5 (c : Dev nD) : (dats m 0 c).arrAt 5 (cfgs 0).N = fun i => first (m ((c : Thread nD τ).loc main_arg1) i) (m ((c : Thread nD τ).loc main_arg2) i) := by
  refine (dats m 0 c).arrAt_eq_of_covers 5 _ (by decide +kernel) fun t _ y => ?_
  blk_simp
  rw [after0_5]; frame_out
  show first (iblk m c 1 t y) (iblk m c 2 t y) = _
  blk_point [iblk, V, index t]

theorem final_6 (c : Dev nD) : (dats m 0 c).arrAt 6 (cfgs 0).N = fun i => second (m ((c : Thread nD τ).loc main_arg1) i) (m ((c : Thread nD τ).loc main_arg3) i) := by
  refine (dats m 0 c).arrAt_eq_of_covers 6 _ (by decide +kernel) fun t _ y => ?_
  blk_simp
  rw [after0_6]; frame_out
  show second (iblk m c 1 t y) (iblk m c 3 t y) = _
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun i => change (m ((c : Thread nD τ).loc main_arg0) i) (m ((c : Thread nD τ).loc main_arg1) i)
      (m ((c : Thread nD τ).loc main_arg2) i) (m ((c : Thread nD τ).loc main_arg3) i))
    ∧ r.2.mem ((c : Thread nD τ).loc main_v0_1) = (fun i => first (m ((c : Thread nD τ).loc main_arg1) i) (m ((c : Thread nD τ).loc main_arg2) i))
    ∧ r.2.mem ((c : Thread nD τ).loc main_v0_2) = (fun i => second (m ((c : Thread nD τ).loc main_arg1) i) (m ((c : Thread nD τ).loc main_arg3) i)) :=
  (θ_run defs _ _).mono (fun _ h c => ⟨((h c).1 4).trans (final_4 m c), ((h c).1 5).trans (final_5 m c), ((h c).1 6).trans (final_6 m c)⟩) (run_main m g)

end Kernel

section Reference

open Cert.StepInReferenceIdeal Cert.StepInReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v23) = (fun i => change (m (((0 : Dev nD) : Thread nD τ).loc main_arg0) i)
        (m (((0 : Dev nD) : Thread nD τ).loc main_arg1) i) (m (((0 : Dev nD) : Thread nD τ).loc main_arg2) i) (m (((0 : Dev nD) : Thread nD τ).loc main_arg3) i))
      ∧ r.2.mem (((0 : Dev nD) : Thread nD τ).loc main_v4) = (fun i => first (m (((0 : Dev nD) : Thread nD τ).loc main_arg1) i) (m (((0 : Dev nD) : Thread nD τ).loc main_arg2) i))
      ∧ r.2.mem (((0 : Dev nD) : Thread nD τ).loc main_v10) = (fun i => second (m (((0 : Dev nD) : Thread nD τ).loc main_arg1) i) (m (((0 : Dev nD) : Thread nD τ).loc main_arg3) i))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) := by
  hlo_run <;> rfl

end Reference

end Cert.Proof.Stepped.In

end
-- ==== Proof.Stepped.Out.lean ====
/-
  The step of w_rnn_out, w_attn_out and w_o: one tile, every element by `change`, `first` and `second`.
-/
module

public import proofs.«01_k».proof.Proof.Gen.StepOutIdeal.Frame
public import proofs.«01_k».proof.Proof.Gen.StepOutReferenceIdeal
public import proofs.«01_k».proof.Proof.Stepped.Scalar
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Stepped.Out

section Kernel

open Cert.StepOutIdeal Cert.StepOutIdeal.Gen

variable (m : (ℓ : Loc nD τ sig) → Buf (Elt Ideal) ℓ)

theorem index : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem final_4 (c : Dev nD) : (dats m 0 c).arrAt 4 (cfgs 0).N = fun i => change (m ((c : Thread nD τ).loc main_arg0) i)
    (m ((c : Thread nD τ).loc main_arg1) i) (m ((c : Thread nD τ).loc main_arg2) i) (m ((c : Thread nD τ).loc main_arg3) i) := by
  refine (dats m 0 c).arrAt_eq_of_covers 4 _ (by decide +kernel) fun t _ y => ?_
  blk_simp
  rw [after0_4]; frame_out
  show change (iblk m c 0 t y) (iblk m c 1 t y) (iblk m c 2 t y) (iblk m c 3 t y) = _
  blk_point [iblk, V, index t]

theorem final_5 (c : Dev nD) : (dats m 0 c).arrAt 5 (cfgs 0).N = fun i => first (m ((c : Thread nD τ).loc main_arg1) i) (m ((c : Thread nD τ).loc main_arg2) i) := by
  refine (dats m 0 c).arrAt_eq_of_covers 5 _ (by decide +kernel) fun t _ y => ?_
  blk_simp
  rw [after0_5]; frame_out
  show first (iblk m c 1 t y) (iblk m c 2 t y) = _
  blk_point [iblk, V, index t]

theorem final_6 (c : Dev nD) : (dats m 0 c).arrAt 6 (cfgs 0).N = fun i => second (m ((c : Thread nD τ).loc main_arg1) i) (m ((c : Thread nD τ).loc main_arg3) i) := by
  refine (dats m 0 c).arrAt_eq_of_covers 6 _ (by decide +kernel) fun t _ y => ?_
  blk_simp
  rw [after0_6]; frame_out
  show second (iblk m c 1 t y) (iblk m c 3 t y) = _
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun i => change (m ((c : Thread nD τ).loc main_arg0) i) (m ((c : Thread nD τ).loc main_arg1) i)
      (m ((c : Thread nD τ).loc main_arg2) i) (m ((c : Thread nD τ).loc main_arg3) i))
    ∧ r.2.mem ((c : Thread nD τ).loc main_v0_1) = (fun i => first (m ((c : Thread nD τ).loc main_arg1) i) (m ((c : Thread nD τ).loc main_arg2) i))
    ∧ r.2.mem ((c : Thread nD τ).loc main_v0_2) = (fun i => second (m ((c : Thread nD τ).loc main_arg1) i) (m ((c : Thread nD τ).loc main_arg3) i)) :=
  (θ_run defs _ _).mono (fun _ h c => ⟨((h c).1 4).trans (final_4 m c), ((h c).1 5).trans (final_5 m c), ((h c).1 6).trans (final_6 m c)⟩) (run_main m g)

end Kernel

section Reference

open Cert.StepOutReferenceIdeal Cert.StepOutReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v23) = (fun i => change (m (((0 : Dev nD) : Thread nD τ).loc main_arg0) i)
        (m (((0 : Dev nD) : Thread nD τ).loc main_arg1) i) (m (((0 : Dev nD) : Thread nD τ).loc main_arg2) i) (m (((0 : Dev nD) : Thread nD τ).loc main_arg3) i))
      ∧ r.2.mem (((0 : Dev nD) : Thread nD τ).loc main_v4) = (fun i => first (m (((0 : Dev nD) : Thread nD τ).loc main_arg1) i) (m (((0 : Dev nD) : Thread nD τ).loc main_arg2) i))
      ∧ r.2.mem (((0 : Dev nD) : Thread nD τ).loc main_v10) = (fun i => second (m (((0 : Dev nD) : Thread nD τ).loc main_arg1) i) (m (((0 : Dev nD) : Thread nD τ).loc main_arg3) i))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) := by
  hlo_run <;> rfl

end Reference

end Cert.Proof.Stepped.Out

end
-- ==== Proof.Stepped.Conv.lean ====
/-
  The step of conv_w: one tile, every element by `change`, `first` and `second`.
-/
module

public import proofs.«01_k».proof.Proof.Gen.StepConvIdeal.Frame
public import proofs.«01_k».proof.Proof.Gen.StepConvReferenceIdeal
public import proofs.«01_k».proof.Proof.Stepped.Scalar
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Stepped.Conv

section Kernel

open Cert.StepConvIdeal Cert.StepConvIdeal.Gen

variable (m : (ℓ : Loc nD τ sig) → Buf (Elt Ideal) ℓ)

theorem index : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem final_4 (c : Dev nD) : (dats m 0 c).arrAt 4 (cfgs 0).N = fun i => change (m ((c : Thread nD τ).loc main_arg0) i)
    (m ((c : Thread nD τ).loc main_arg1) i) (m ((c : Thread nD τ).loc main_arg2) i) (m ((c : Thread nD τ).loc main_arg3) i) := by
  refine (dats m 0 c).arrAt_eq_of_covers 4 _ (by decide +kernel) fun t _ y => ?_
  blk_simp
  rw [after0_4]; frame_out
  show change (iblk m c 0 t y) (iblk m c 1 t y) (iblk m c 2 t y) (iblk m c 3 t y) = _
  blk_point [iblk, V, index t]

theorem final_5 (c : Dev nD) : (dats m 0 c).arrAt 5 (cfgs 0).N = fun i => first (m ((c : Thread nD τ).loc main_arg1) i) (m ((c : Thread nD τ).loc main_arg2) i) := by
  refine (dats m 0 c).arrAt_eq_of_covers 5 _ (by decide +kernel) fun t _ y => ?_
  blk_simp
  rw [after0_5]; frame_out
  show first (iblk m c 1 t y) (iblk m c 2 t y) = _
  blk_point [iblk, V, index t]

theorem final_6 (c : Dev nD) : (dats m 0 c).arrAt 6 (cfgs 0).N = fun i => second (m ((c : Thread nD τ).loc main_arg1) i) (m ((c : Thread nD τ).loc main_arg3) i) := by
  refine (dats m 0 c).arrAt_eq_of_covers 6 _ (by decide +kernel) fun t _ y => ?_
  blk_simp
  rw [after0_6]; frame_out
  show second (iblk m c 1 t y) (iblk m c 3 t y) = _
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun i => change (m ((c : Thread nD τ).loc main_arg0) i) (m ((c : Thread nD τ).loc main_arg1) i)
      (m ((c : Thread nD τ).loc main_arg2) i) (m ((c : Thread nD τ).loc main_arg3) i))
    ∧ r.2.mem ((c : Thread nD τ).loc main_v0_1) = (fun i => first (m ((c : Thread nD τ).loc main_arg1) i) (m ((c : Thread nD τ).loc main_arg2) i))
    ∧ r.2.mem ((c : Thread nD τ).loc main_v0_2) = (fun i => second (m ((c : Thread nD τ).loc main_arg1) i) (m ((c : Thread nD τ).loc main_arg3) i)) :=
  (θ_run defs _ _).mono (fun _ h c => ⟨((h c).1 4).trans (final_4 m c), ((h c).1 5).trans (final_5 m c), ((h c).1 6).trans (final_6 m c)⟩) (run_main m g)

end Kernel

section Reference

open Cert.StepConvReferenceIdeal Cert.StepConvReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v23) = (fun i => change (m (((0 : Dev nD) : Thread nD τ).loc main_arg0) i)
        (m (((0 : Dev nD) : Thread nD τ).loc main_arg1) i) (m (((0 : Dev nD) : Thread nD τ).loc main_arg2) i) (m (((0 : Dev nD) : Thread nD τ).loc main_arg3) i))
      ∧ r.2.mem (((0 : Dev nD) : Thread nD τ).loc main_v4) = (fun i => first (m (((0 : Dev nD) : Thread nD τ).loc main_arg1) i) (m (((0 : Dev nD) : Thread nD τ).loc main_arg2) i))
      ∧ r.2.mem (((0 : Dev nD) : Thread nD τ).loc main_v10) = (fun i => second (m (((0 : Dev nD) : Thread nD τ).loc main_arg1) i) (m (((0 : Dev nD) : Thread nD τ).loc main_arg3) i))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) := by
  hlo_run <;> rfl

end Reference

end Cert.Proof.Stepped.Conv

end
-- ==== Proof.Stepped.Small.lean ====
/-
  The step of the small weights, packed: two tiles of 1072 rows, every element by `change`, `first` and `second`.
-/
module

public import proofs.«01_k».proof.Proof.Gen.StepSmallIdeal.Frame
public import proofs.«01_k».proof.Proof.Gen.StepSmallReferenceIdeal
public import proofs.«01_k».proof.Proof.Stepped.Scalar
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Stepped.Small

section Kernel

open Cert.StepSmallIdeal Cert.StepSmallIdeal.Gen

variable (m : (ℓ : Loc nD τ sig) → Buf (Elt Ideal) ℓ)

theorem index : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem final_4 (c : Dev nD) : (dats m 0 c).arrAt 4 (cfgs 0).N = fun i => change (m ((c : Thread nD τ).loc main_arg0) i)
    (m ((c : Thread nD τ).loc main_arg1) i) (m ((c : Thread nD τ).loc main_arg2) i) (m ((c : Thread nD τ).loc main_arg3) i) := by
  refine (dats m 0 c).arrAt_eq_of_covers 4 _ (by decide +kernel) fun t _ y => ?_
  blk_simp
  rw [after0_4]; frame_out
  show change (iblk m c 0 t y) (iblk m c 1 t y) (iblk m c 2 t y) (iblk m c 3 t y) = _
  blk_point [iblk, V, index t]

theorem final_5 (c : Dev nD) : (dats m 0 c).arrAt 5 (cfgs 0).N = fun i => first (m ((c : Thread nD τ).loc main_arg1) i) (m ((c : Thread nD τ).loc main_arg2) i) := by
  refine (dats m 0 c).arrAt_eq_of_covers 5 _ (by decide +kernel) fun t _ y => ?_
  blk_simp
  rw [after0_5]; frame_out
  show first (iblk m c 1 t y) (iblk m c 2 t y) = _
  blk_point [iblk, V, index t]

theorem final_6 (c : Dev nD) : (dats m 0 c).arrAt 6 (cfgs 0).N = fun i => second (m ((c : Thread nD τ).loc main_arg1) i) (m ((c : Thread nD τ).loc main_arg3) i) := by
  refine (dats m 0 c).arrAt_eq_of_covers 6 _ (by decide +kernel) fun t _ y => ?_
  blk_simp
  rw [after0_6]; frame_out
  show second (iblk m c 1 t y) (iblk m c 3 t y) = _
  blk_point [iblk, V, index t]

theorem run (g : Dev nD → PrngReg) : θ_run (defs (F := Ideal)) (onTc (τ := τ) (main (F := Ideal))) ⟨m, fun _ => 0, g⟩ fun r => ∀ c : Dev nD,
    r.2.mem ((c : Thread nD τ).loc main_v0_0) = (fun i => change (m ((c : Thread nD τ).loc main_arg0) i) (m ((c : Thread nD τ).loc main_arg1) i)
      (m ((c : Thread nD τ).loc main_arg2) i) (m ((c : Thread nD τ).loc main_arg3) i))
    ∧ r.2.mem ((c : Thread nD τ).loc main_v0_1) = (fun i => first (m ((c : Thread nD τ).loc main_arg1) i) (m ((c : Thread nD τ).loc main_arg2) i))
    ∧ r.2.mem ((c : Thread nD τ).loc main_v0_2) = (fun i => second (m ((c : Thread nD τ).loc main_arg1) i) (m ((c : Thread nD τ).loc main_arg3) i)) :=
  (θ_run defs _ _).mono (fun _ h c => ⟨((h c).1 4).trans (final_4 m c), ((h c).1 5).trans (final_5 m c), ((h c).1 6).trans (final_6 m c)⟩) (run_main m g)

end Kernel

section Reference

open Cert.StepSmallReferenceIdeal Cert.StepSmallReferenceIdeal.Gen

variable (m : (ℓ : Loc nD τ sig) → Buf (Elt Ideal) ℓ) (g : Dev nD → PrngReg)

theorem run_reference :
    θ_run (defs (F := Ideal)) (onTc (τ := τ) (main (F := Ideal))) ⟨m, fun _ => 0, g⟩ fun r =>
      r.2.mem (((0 : Dev nD) : Thread nD τ).loc main_v23) = (fun i => change (m (((0 : Dev nD) : Thread nD τ).loc main_arg0) i)
        (m (((0 : Dev nD) : Thread nD τ).loc main_arg1) i) (m (((0 : Dev nD) : Thread nD τ).loc main_arg2) i) (m (((0 : Dev nD) : Thread nD τ).loc main_arg3) i))
      ∧ r.2.mem (((0 : Dev nD) : Thread nD τ).loc main_v4) = (fun i => first (m (((0 : Dev nD) : Thread nD τ).loc main_arg1) i) (m (((0 : Dev nD) : Thread nD τ).loc main_arg2) i))
      ∧ r.2.mem (((0 : Dev nD) : Thread nD τ).loc main_v10) = (fun i => second (m (((0 : Dev nD) : Thread nD τ).loc main_arg1) i) (m (((0 : Dev nD) : Thread nD τ).loc main_arg3) i))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) := by
  hlo_run <;> rfl

end Reference

end Cert.Proof.Stepped.Small

end
-- ==== Proof.lean ====
/-
  The claims: every device ends with the arrays gathered, with its sibling's halves of every block, with the blocks that the
  other chips have for it, with the halves of an array joined, with the sum of the devices' losses — each as the reference has it;
  and on one device the first normalization, the projection behind it, the gradients through both, the products that make the weights' gradients,
  the sums of the gradients, the casts of the weights, the merge of the branches with the loss, forward and backward, and the steps of the weights are the reference's.
-/
module

public import proofs.«01_k».proof.Proof.Backward.GradX
public import proofs.«01_k».proof.Proof.Backward.Merge
public import proofs.«01_k».proof.Proof.Forward.Norm
public import proofs.«01_k».proof.Proof.Forward.Project
public import proofs.«01_k».proof.Proof.Backward.GradW
public import proofs.«01_k».proof.Proof.Backward.GradWIn
public import proofs.«01_k».proof.Proof.Backward.GradH
public import proofs.«01_k».proof.Proof.Summed.Cores
public import proofs.«01_k».proof.Proof.Summed.Chips
public import proofs.«01_k».proof.Proof.Summed.Pair
public import proofs.«01_k».proof.Proof.Summed.Four
public import proofs.«01_k».proof.Proof.Forward.CastIn
public import proofs.«01_k».proof.Proof.Forward.CastOut
public import proofs.«01_k».proof.Proof.Total
public import proofs.«01_k».proof.Defs
public import proofs.«01_k».proof.Proof.Gen.Kernel
public import proofs.«01_k».proof.Proof.Gen.Reference
public import proofs.«01_k».proof.Proof.Gather.Value
public import proofs.«01_k».proof.Proof.Gen.Swap
public import proofs.«01_k».proof.Proof.Gen.SwapReference
public import proofs.«01_k».proof.Proof.Gen.Join
public import proofs.«01_k».proof.Proof.Gen.JoinReference
public import proofs.«01_k».proof.Proof.Gen.Cross
public import proofs.«01_k».proof.Proof.Gen.CrossIdeal
public import proofs.«01_k».proof.Proof.Gen.CrossIdeal.Launch
public import proofs.«01_k».proof.Proof.Gen.CrossReference
public import proofs.«01_k».proof.Proof.Gen.CrossReferenceIdeal
public import proofs.«01_k».proof.Proof.Swapped.Value
public import proofs.«01_k».proof.Proof.Crossed.Value
public import proofs.«01_k».proof.Proof.Joined.Value
public import proofs.«01_k».proof.Proof.Gen.StepIn.Frame
public import proofs.«01_k».proof.Proof.Stepped.In
public import proofs.«01_k».proof.Proof.Gen.StepOut.Frame
public import proofs.«01_k».proof.Proof.Stepped.Out
public import proofs.«01_k».proof.Proof.Gen.StepConv.Frame
public import proofs.«01_k».proof.Proof.Stepped.Conv
public import proofs.«01_k».proof.Proof.Gen.StepSmall.Frame
public import proofs.«01_k».proof.Proof.Stepped.Small

@[expose] public section

noncomputable section

namespace Cert.Proof

open Idealize.ShloMosaic Idealize.ShloMosaic.TcCoe Idealize.SL.Sem

theorem frame_kernel : letI := Cert.Kernel.Gen.facts; Cert.quiescent_Kernel := fun m g _ =>
  (θ_run Cert.KernelIdeal.defs _ _).mono
    (fun _ h => ⟨fun c => ⟨Gather.kept_0 h.1 c, Gather.kept_1 h.1 c, Gather.kept_2 h.1 c, Gather.kept_3 h.1 c, Gather.kept_4 h.1 c⟩, h.2⟩)
    (Gather.run (F := Bits) m g)

theorem frame_ideal : letI := Cert.KernelIdeal.Gen.facts; Cert.quiescent_KernelIdeal := fun m g _ =>
  (θ_run Cert.KernelIdeal.defs _ _).mono
    (fun _ h => ⟨fun c => ⟨Gather.kept_0 h.1 c, Gather.kept_1 h.1 c, Gather.kept_2 h.1 c, Gather.kept_3 h.1 c, Gather.kept_4 h.1 c⟩, h.2⟩)
    (Gather.run (F := Ideal) m g)

theorem frame_reference : letI := Cert.ReferenceIdeal.Gen.facts; Cert.quiescent_ReferenceIdeal := fun m g _ =>
  θ_run_mono (Gather.run_reference (F := Ideal) m g) fun r h =>
    ⟨fun c => by obtain rfl : c = 0 := Subsingleton.elim _ _; exact h.2.2.2.2.2, sem_eq_zero_of_no_sems rfl r.2⟩

theorem frame_reference_bits : letI := Cert.Reference.Gen.facts; Cert.quiescent_Reference := fun m g _ =>
  θ_run_mono (Gather.run_reference (F := Bits) m g) fun r h =>
    ⟨fun c => by obtain rfl : c = 0 := Subsingleton.elim _ _; exact h.2.2.2.2.2, sem_eq_zero_of_no_sems rfl r.2⟩

theorem gather : letI := Cert.KernelIdeal.Gen.facts; letI := Cert.ReferenceIdeal.Gen.facts; Cert.algebraic_KernelIdeal_ReferenceIdeal :=
  fun m g m' g' _ hm => ⟨Gather.in_proj m', Gather.rows_1 m', Gather.rows_2 m', Gather.rows_3 m', Gather.conv m',
    (θ_run Cert.KernelIdeal.defs _ _).mono
      (fun _ h c => ⟨Gather.result_0 h.1 (fun c => (hm c).1) c, Gather.result_1 h.1 (fun c => (hm c).2.1) c, Gather.result_2 h.1 (fun c => (hm c).2.2.1) c,
        Gather.result_3 h.1 (fun c => (hm c).2.2.2.1) c, Gather.result_4 h.1 (fun c => (hm c).2.2.2.2) c,
        Gather.kept_0 h.1 c, Gather.kept_1 h.1 c, Gather.kept_2 h.1 c, Gather.kept_3 h.1 c, Gather.kept_4 h.1 c⟩)
      (Gather.run (F := Ideal) m g),
    Gather.run_reference (F := Ideal) m' g'⟩

theorem gather_bits : letI := Cert.Kernel.Gen.facts; letI := Cert.Reference.Gen.facts; Cert.bitexact_Kernel_Reference :=
  fun m g m' g' _ hm => ⟨Gather.in_proj m', Gather.rows_1 m', Gather.rows_2 m', Gather.rows_3 m', Gather.conv m',
    (θ_run Cert.KernelIdeal.defs _ _).mono
      (fun _ h c => ⟨Gather.result_0 h.1 (fun c => (hm c).1) c, Gather.result_1 h.1 (fun c => (hm c).2.1) c, Gather.result_2 h.1 (fun c => (hm c).2.2.1) c,
        Gather.result_3 h.1 (fun c => (hm c).2.2.2.1) c, Gather.result_4 h.1 (fun c => (hm c).2.2.2.2) c,
        Gather.kept_0 h.1 c, Gather.kept_1 h.1 c, Gather.kept_2 h.1 c, Gather.kept_3 h.1 c, Gather.kept_4 h.1 c⟩)
      (Gather.run (F := Bits) m g),
    Gather.run_reference (F := Bits) m' g'⟩

/-! ## The exchange with the other core -/

theorem frame_swap : letI := Cert.Swap.Gen.facts; Cert.quiescent_Swap := fun m g _ =>
  (θ_run Cert.SwapIdeal.defs _ _).mono
    (fun _ h => ⟨fun c => ⟨Swapped.kept_0 h.1 c, Swapped.kept_1 h.1 c, Swapped.kept_2 h.1 c, Swapped.kept_3 h.1 c, Swapped.kept_4 h.1 c⟩, h.2⟩)
    (Swapped.run (F := Bits) m g)

theorem frame_swap_ideal : letI := Cert.SwapIdeal.Gen.facts; Cert.quiescent_SwapIdeal := fun m g _ =>
  (θ_run Cert.SwapIdeal.defs _ _).mono
    (fun _ h => ⟨fun c => ⟨Swapped.kept_0 h.1 c, Swapped.kept_1 h.1 c, Swapped.kept_2 h.1 c, Swapped.kept_3 h.1 c, Swapped.kept_4 h.1 c⟩, h.2⟩)
    (Swapped.run (F := Ideal) m g)

theorem frame_swap_reference : letI := Cert.SwapReferenceIdeal.Gen.facts; Cert.quiescent_SwapReferenceIdeal := fun m g _ =>
  θ_run_mono (Swapped.run_reference (F := Ideal) m g) fun r h =>
    ⟨fun c => by obtain rfl : c = 0 := Subsingleton.elim _ _; exact h.2.2.2.2.2, sem_eq_zero_of_no_sems rfl r.2⟩

theorem frame_swap_reference_bits : letI := Cert.SwapReference.Gen.facts; Cert.quiescent_SwapReference := fun m g _ =>
  θ_run_mono (Swapped.run_reference (F := Bits) m g) fun r h =>
    ⟨fun c => by obtain rfl : c = 0 := Subsingleton.elim _ _; exact h.2.2.2.2.2, sem_eq_zero_of_no_sems rfl r.2⟩

theorem swap : letI := Cert.SwapIdeal.Gen.facts; letI := Cert.SwapReferenceIdeal.Gen.facts; Cert.algebraic_SwapIdeal_SwapReferenceIdeal :=
  fun m g m' g' _ hm => ⟨_, _, _, _, _,
    (θ_run Cert.SwapIdeal.defs _ _).mono
      (fun _ h c => ⟨Swapped.result_0 h.1 (fun c => (hm c).1) c, Swapped.result_1 h.1 (fun c => (hm c).2.1) c, Swapped.result_2 h.1 (fun c => (hm c).2.2.1) c,
        Swapped.result_3 h.1 (fun c => (hm c).2.2.2.1) c, Swapped.result_4 h.1 (fun c => (hm c).2.2.2.2) c,
        Swapped.kept_0 h.1 c, Swapped.kept_1 h.1 c, Swapped.kept_2 h.1 c, Swapped.kept_3 h.1 c, Swapped.kept_4 h.1 c⟩)
      (Swapped.run (F := Ideal) m g),
    Swapped.run_reference (F := Ideal) m' g'⟩

theorem swap_bits : letI := Cert.Swap.Gen.facts; letI := Cert.SwapReference.Gen.facts; Cert.bitexact_Swap_SwapReference :=
  fun m g m' g' _ hm => ⟨_, _, _, _, _,
    (θ_run Cert.SwapIdeal.defs _ _).mono
      (fun _ h c => ⟨Swapped.result_0 h.1 (fun c => (hm c).1) c, Swapped.result_1 h.1 (fun c => (hm c).2.1) c, Swapped.result_2 h.1 (fun c => (hm c).2.2.1) c,
        Swapped.result_3 h.1 (fun c => (hm c).2.2.2.1) c, Swapped.result_4 h.1 (fun c => (hm c).2.2.2.2) c,
        Swapped.kept_0 h.1 c, Swapped.kept_1 h.1 c, Swapped.kept_2 h.1 c, Swapped.kept_3 h.1 c, Swapped.kept_4 h.1 c⟩)
      (Swapped.run (F := Bits) m g),
    Swapped.run_reference (F := Bits) m' g'⟩

/-! ## The exchange of the chips' partial sums -/

theorem frame_cross : letI := Cert.Cross.Gen.facts; Cert.quiescent_Cross := fun m g _ =>
  (θ_run Cert.CrossIdeal.defs _ _).mono
    (fun _ h => ⟨fun c => ⟨Crossed.kept_0 h.1 c, Crossed.kept_1 h.1 c, Crossed.kept_2 h.1 c, Crossed.kept_3 h.1 c, Crossed.kept_4 h.1 c⟩, h.2⟩)
    (Crossed.run (F := Bits) m g)

theorem frame_cross_ideal : letI := Cert.CrossIdeal.Gen.facts; Cert.quiescent_CrossIdeal := fun m g _ =>
  (θ_run Cert.CrossIdeal.defs _ _).mono
    (fun _ h => ⟨fun c => ⟨Crossed.kept_0 h.1 c, Crossed.kept_1 h.1 c, Crossed.kept_2 h.1 c, Crossed.kept_3 h.1 c, Crossed.kept_4 h.1 c⟩, h.2⟩)
    (Crossed.run (F := Ideal) m g)

theorem frame_cross_reference : letI := Cert.CrossReferenceIdeal.Gen.facts; Cert.quiescent_CrossReferenceIdeal := fun m g _ =>
  θ_run_mono (Crossed.run_reference (F := Ideal) m g) fun r h =>
    ⟨fun c => by obtain rfl : c = 0 := Subsingleton.elim _ _; exact h.2.2.2.2.2, sem_eq_zero_of_no_sems rfl r.2⟩

theorem frame_cross_reference_bits : letI := Cert.CrossReference.Gen.facts; Cert.quiescent_CrossReference := fun m g _ =>
  θ_run_mono (Crossed.run_reference (F := Bits) m g) fun r h =>
    ⟨fun c => by obtain rfl : c = 0 := Subsingleton.elim _ _; exact h.2.2.2.2.2, sem_eq_zero_of_no_sems rfl r.2⟩

theorem cross : letI := Cert.CrossIdeal.Gen.facts; letI := Cert.CrossReferenceIdeal.Gen.facts; letI := Crossed.facts_from_others;
    Cert.algebraic_CrossIdeal_CrossReferenceIdeal_on_from_others :=
  fun m g m' g' _ hm => ⟨_, _, _, _, _,
    (θ_run Cert.CrossIdeal.defs _ _).mono
      (fun _ h c => ⟨fun i hi => Crossed.result_0 h.1 (fun c => (hm c).1) c i hi, fun i hi => Crossed.result_1 h.1 (fun c => (hm c).2.1) c i hi,
        fun i hi => Crossed.result_2 h.1 (fun c => (hm c).2.2.1) c i hi, fun i hi => Crossed.result_3 h.1 (fun c => (hm c).2.2.2.1) c i hi,
        fun i _ => Crossed.result_4 h.1 (fun c => (hm c).2.2.2.2) c i,
        Crossed.kept_0 h.1 c, Crossed.kept_1 h.1 c, Crossed.kept_2 h.1 c, Crossed.kept_3 h.1 c, Crossed.kept_4 h.1 c⟩)
      (Crossed.run (F := Ideal) m g),
    θ_run_mono (Crossed.run_reference (F := Ideal) m' g') fun _ h =>
      ⟨fun i _ => congrFun h.1 i, fun i _ => congrFun h.2.1 i, fun i _ => congrFun h.2.2.1 i, fun i _ => congrFun h.2.2.2.1 i,
        fun i _ => congrFun h.2.2.2.2.1 i, h.2.2.2.2.2⟩⟩

theorem cross_bits : letI := Cert.Cross.Gen.facts; letI := Cert.CrossReference.Gen.facts; letI := Crossed.facts_from_others;
    Cert.bitexact_Cross_CrossReference_on_from_others :=
  fun m g m' g' _ hm => ⟨_, _, _, _, _,
    (θ_run Cert.CrossIdeal.defs _ _).mono
      (fun _ h c => ⟨fun i hi => Crossed.result_0 h.1 (fun c => (hm c).1) c i hi, fun i hi => Crossed.result_1 h.1 (fun c => (hm c).2.1) c i hi,
        fun i hi => Crossed.result_2 h.1 (fun c => (hm c).2.2.1) c i hi, fun i hi => Crossed.result_3 h.1 (fun c => (hm c).2.2.2.1) c i hi,
        fun i _ => Crossed.result_4 h.1 (fun c => (hm c).2.2.2.2) c i,
        Crossed.kept_0 h.1 c, Crossed.kept_1 h.1 c, Crossed.kept_2 h.1 c, Crossed.kept_3 h.1 c, Crossed.kept_4 h.1 c⟩)
      (Crossed.run (F := Bits) m g),
    θ_run_mono (Crossed.run_reference (F := Bits) m' g') fun _ h =>
      ⟨fun i _ => congrFun h.1 i, fun i _ => congrFun h.2.1 i, fun i _ => congrFun h.2.2.1 i, fun i _ => congrFun h.2.2.2.1 i,
        fun i _ => congrFun h.2.2.2.2.1 i, h.2.2.2.2.2⟩⟩

/-! ## The halves joined -/

theorem frame_join : letI := Cert.Join.Gen.facts; Cert.quiescent_Join := fun m g _ =>
  (θ_run Cert.JoinIdeal.defs _ _).mono
    (fun _ h => ⟨fun c => ⟨Joined.kept_0 h.1 c, Joined.kept_1 h.1 c, Joined.kept_2 h.1 c, Joined.kept_3 h.1 c, Joined.kept_4 h.1 c⟩, h.2⟩)
    (Joined.run (F := Bits) m g)

theorem frame_join_ideal : letI := Cert.JoinIdeal.Gen.facts; Cert.quiescent_JoinIdeal := fun m g _ =>
  (θ_run Cert.JoinIdeal.defs _ _).mono
    (fun _ h => ⟨fun c => ⟨Joined.kept_0 h.1 c, Joined.kept_1 h.1 c, Joined.kept_2 h.1 c, Joined.kept_3 h.1 c, Joined.kept_4 h.1 c⟩, h.2⟩)
    (Joined.run (F := Ideal) m g)

theorem frame_join_reference : letI := Cert.JoinReferenceIdeal.Gen.facts; Cert.quiescent_JoinReferenceIdeal := fun m g _ =>
  θ_run_mono (Joined.run_reference (F := Ideal) m g) fun r h =>
    ⟨fun c => by obtain rfl : c = 0 := Subsingleton.elim _ _; exact h, sem_eq_zero_of_no_sems rfl r.2⟩

theorem frame_join_reference_bits : letI := Cert.JoinReference.Gen.facts; Cert.quiescent_JoinReference := fun m g _ =>
  θ_run_mono (Joined.run_reference (F := Bits) m g) fun r h =>
    ⟨fun c => by obtain rfl : c = 0 := Subsingleton.elim _ _; exact h, sem_eq_zero_of_no_sems rfl r.2⟩

theorem join : letI := Cert.JoinIdeal.Gen.facts; letI := Cert.JoinReferenceIdeal.Gen.facts; Cert.algebraic_JoinIdeal_JoinReferenceIdeal :=
  fun m g m' g' _ hm => ⟨_, _, _, _, _,
    (θ_run Cert.JoinIdeal.defs _ _).mono
      (fun _ h c => ⟨Joined.result_0 h.1 (fun c => (hm c).1) c, Joined.result_1 h.1 (fun c => (hm c).2.1) c, Joined.result_2 h.1 (fun c => (hm c).2.2.1) c,
        Joined.result_3 h.1 (fun c => (hm c).2.2.2.1) c, Joined.result_4 h.1 (fun c => (hm c).2.2.2.2) c,
        Joined.kept_0 h.1 c, Joined.kept_1 h.1 c, Joined.kept_2 h.1 c, Joined.kept_3 h.1 c, Joined.kept_4 h.1 c⟩)
      (Joined.run (F := Ideal) m g),
    θ_run_mono (Joined.run_reference (F := Ideal) m' g') fun _ h => ⟨h.1, h.2.1, h.2.2.1, h.2.2.2.1, h.2.2.2.2, h⟩⟩

theorem join_bits : letI := Cert.Join.Gen.facts; letI := Cert.JoinReference.Gen.facts; Cert.bitexact_Join_JoinReference :=
  fun m g m' g' _ hm => ⟨_, _, _, _, _,
    (θ_run Cert.JoinIdeal.defs _ _).mono
      (fun _ h c => ⟨Joined.result_0 h.1 (fun c => (hm c).1) c, Joined.result_1 h.1 (fun c => (hm c).2.1) c, Joined.result_2 h.1 (fun c => (hm c).2.2.1) c,
        Joined.result_3 h.1 (fun c => (hm c).2.2.2.1) c, Joined.result_4 h.1 (fun c => (hm c).2.2.2.2) c,
        Joined.kept_0 h.1 c, Joined.kept_1 h.1 c, Joined.kept_2 h.1 c, Joined.kept_3 h.1 c, Joined.kept_4 h.1 c⟩)
      (Joined.run (F := Bits) m g),
    θ_run_mono (Joined.run_reference (F := Bits) m' g') fun _ h => ⟨h.1, h.2.1, h.2.2.1, h.2.2.2.1, h.2.2.2.2, h⟩⟩

/-! ## The optimiser's step -/

theorem frame_in : letI := Cert.StepIn.Gen.facts; Cert.quiescent_StepIn := fun m g _ => Cert.StepIn.Gen.frame m g

theorem frame_in_ideal : letI := Cert.StepInIdeal.Gen.facts; Cert.quiescent_StepInIdeal := fun m g _ => Cert.StepInIdeal.Gen.frame (F := Ideal) m g

theorem frame_in_reference : letI := Cert.StepInReferenceIdeal.Gen.facts; Cert.quiescent_StepInReferenceIdeal := fun m g _ =>
  θ_run_mono (Stepped.In.run_reference m g) fun r h =>
    ⟨fun c => by obtain rfl : c = 0 := Subsingleton.elim _ _; exact h.2.2.2, sem_eq_zero_of_no_sems rfl r.2⟩

theorem step_in : letI := Cert.StepInIdeal.Gen.facts; letI := Cert.StepInReferenceIdeal.Gen.facts; Cert.algebraic_StepInIdeal_StepInReferenceIdeal :=
  fun m g m' g' _ hm => ⟨_, _, _,
    θ_run_mono (θ_run_and (Stepped.In.run m g) (Cert.StepInIdeal.Gen.unchanged m g)) fun _ h c => ⟨(h.1 c).1, (h.1 c).2.1, (h.1 c).2.2, h.2 c⟩,
    θ_run_mono (Stepped.In.run_reference m' g') fun _ h c => by
      obtain rfl : c = 0 := Subsingleton.elim _ _
      rw [← (hm 0).1, ← (hm 0).2.1, ← (hm 0).2.2.1, ← (hm 0).2.2.2]
      exact h⟩

theorem frame_out : letI := Cert.StepOut.Gen.facts; Cert.quiescent_StepOut := fun m g _ => Cert.StepOut.Gen.frame m g

theorem frame_out_ideal : letI := Cert.StepOutIdeal.Gen.facts; Cert.quiescent_StepOutIdeal := fun m g _ => Cert.StepOutIdeal.Gen.frame (F := Ideal) m g

theorem frame_out_reference : letI := Cert.StepOutReferenceIdeal.Gen.facts; Cert.quiescent_StepOutReferenceIdeal := fun m g _ =>
  θ_run_mono (Stepped.Out.run_reference m g) fun r h =>
    ⟨fun c => by obtain rfl : c = 0 := Subsingleton.elim _ _; exact h.2.2.2, sem_eq_zero_of_no_sems rfl r.2⟩

theorem step_out : letI := Cert.StepOutIdeal.Gen.facts; letI := Cert.StepOutReferenceIdeal.Gen.facts; Cert.algebraic_StepOutIdeal_StepOutReferenceIdeal :=
  fun m g m' g' _ hm => ⟨_, _, _,
    θ_run_mono (θ_run_and (Stepped.Out.run m g) (Cert.StepOutIdeal.Gen.unchanged m g)) fun _ h c => ⟨(h.1 c).1, (h.1 c).2.1, (h.1 c).2.2, h.2 c⟩,
    θ_run_mono (Stepped.Out.run_reference m' g') fun _ h c => by
      obtain rfl : c = 0 := Subsingleton.elim _ _
      rw [← (hm 0).1, ← (hm 0).2.1, ← (hm 0).2.2.1, ← (hm 0).2.2.2]
      exact h⟩

theorem frame_conv : letI := Cert.StepConv.Gen.facts; Cert.quiescent_StepConv := fun m g _ => Cert.StepConv.Gen.frame m g

theorem frame_conv_ideal : letI := Cert.StepConvIdeal.Gen.facts; Cert.quiescent_StepConvIdeal := fun m g _ => Cert.StepConvIdeal.Gen.frame (F := Ideal) m g

theorem frame_conv_reference : letI := Cert.StepConvReferenceIdeal.Gen.facts; Cert.quiescent_StepConvReferenceIdeal := fun m g _ =>
  θ_run_mono (Stepped.Conv.run_reference m g) fun r h =>
    ⟨fun c => by obtain rfl : c = 0 := Subsingleton.elim _ _; exact h.2.2.2, sem_eq_zero_of_no_sems rfl r.2⟩

theorem step_conv : letI := Cert.StepConvIdeal.Gen.facts; letI := Cert.StepConvReferenceIdeal.Gen.facts; Cert.algebraic_StepConvIdeal_StepConvReferenceIdeal :=
  fun m g m' g' _ hm => ⟨_, _, _,
    θ_run_mono (θ_run_and (Stepped.Conv.run m g) (Cert.StepConvIdeal.Gen.unchanged m g)) fun _ h c => ⟨(h.1 c).1, (h.1 c).2.1, (h.1 c).2.2, h.2 c⟩,
    θ_run_mono (Stepped.Conv.run_reference m' g') fun _ h c => by
      obtain rfl : c = 0 := Subsingleton.elim _ _
      rw [← (hm 0).1, ← (hm 0).2.1, ← (hm 0).2.2.1, ← (hm 0).2.2.2]
      exact h⟩

theorem frame_small : letI := Cert.StepSmall.Gen.facts; Cert.quiescent_StepSmall := fun m g _ => Cert.StepSmall.Gen.frame m g

theorem frame_small_ideal : letI := Cert.StepSmallIdeal.Gen.facts; Cert.quiescent_StepSmallIdeal := fun m g _ => Cert.StepSmallIdeal.Gen.frame (F := Ideal) m g

theorem frame_small_reference : letI := Cert.StepSmallReferenceIdeal.Gen.facts; Cert.quiescent_StepSmallReferenceIdeal := fun m g _ =>
  θ_run_mono (Stepped.Small.run_reference m g) fun r h =>
    ⟨fun c => by obtain rfl : c = 0 := Subsingleton.elim _ _; exact h.2.2.2, sem_eq_zero_of_no_sems rfl r.2⟩

theorem step_small : letI := Cert.StepSmallIdeal.Gen.facts; letI := Cert.StepSmallReferenceIdeal.Gen.facts; Cert.algebraic_StepSmallIdeal_StepSmallReferenceIdeal :=
  fun m g m' g' _ hm => ⟨_, _, _,
    θ_run_mono (θ_run_and (Stepped.Small.run m g) (Cert.StepSmallIdeal.Gen.unchanged m g)) fun _ h c => ⟨(h.1 c).1, (h.1 c).2.1, (h.1 c).2.2, h.2 c⟩,
    θ_run_mono (Stepped.Small.run_reference m' g') fun _ h c => by
      obtain rfl : c = 0 := Subsingleton.elim _ _
      rw [← (hm 0).1, ← (hm 0).2.1, ← (hm 0).2.2.1, ← (hm 0).2.2.2]
      exact h⟩

theorem frame_grad_x : letI := Cert.GradX.Gen.facts; Cert.quiescent_GradX := fun m g _ => Cert.GradX.Gen.frame m g

theorem frame_grad_x_ideal : letI := Cert.GradXIdeal.Gen.facts; Cert.quiescent_GradXIdeal := fun m g _ => Cert.GradXIdeal.Gen.frame (F := Ideal) m g

theorem frame_grad_x_reference : letI := Cert.GradXReferenceIdeal.Gen.facts; Cert.quiescent_GradXReferenceIdeal := fun m g _ =>
  θ_run_mono (Backward.GradX.run_reference m g) fun r h =>
    ⟨fun c => by obtain rfl : c = 0 := Subsingleton.elim _ _; exact h.2.2, sem_eq_zero_of_no_sems rfl r.2⟩

theorem grad_x : letI := Cert.GradXIdeal.Gen.facts; letI := Cert.GradXReferenceIdeal.Gen.facts; Cert.algebraic_GradXIdeal_GradXReferenceIdeal :=
  fun m g m' g' _ hm => ⟨_, _,
    θ_run_mono (θ_run_and (Backward.GradX.run m g) (Cert.GradXIdeal.Gen.unchanged m g)) fun _ h c => ⟨(h.1 c).1, (h.1 c).2, h.2 c⟩,
    θ_run_mono (Backward.GradX.run_reference m' g') fun _ h c => by
      obtain rfl : c = 0 := Subsingleton.elim _ _
      rw [← (hm 0).1, ← (hm 0).2.1, ← (hm 0).2.2.1, ← (hm 0).2.2.2]
      exact h⟩

theorem frame_merge : letI := Cert.Merge.Gen.facts; Cert.quiescent_Merge := fun m g _ => Cert.Merge.Gen.frame m g

theorem frame_merge_ideal : letI := Cert.MergeIdeal.Gen.facts; Cert.quiescent_MergeIdeal := fun m g _ => Cert.MergeIdeal.Gen.frame (F := Ideal) m g

theorem frame_merge_reference : letI := Cert.MergeReferenceIdeal.Gen.facts; Cert.quiescent_MergeReferenceIdeal := fun m g _ =>
  θ_run_mono (Backward.Merge.run_reference m g) fun r h =>
    ⟨fun c => by obtain rfl : c = 0 := Subsingleton.elim _ _; exact h.2.2.2.2.2.2.2.2.2.2, sem_eq_zero_of_no_sems rfl r.2⟩

theorem merge : letI := Cert.MergeIdeal.Gen.facts; letI := Cert.MergeReferenceIdeal.Gen.facts; Cert.algebraic_MergeIdeal_MergeReferenceIdeal :=
  fun m g m' g' _ hm => ⟨_, _, _, _, _, _, _, _, _, _,
    θ_run_mono (θ_run_and (Backward.Merge.run m g) (Cert.MergeIdeal.Gen.unchanged m g)) fun _ h c =>
      let ⟨r₀, r₁, r₂, r₃, r₄, r₅, r₆, r₇, r₈, r₉⟩ := h.1 c
      ⟨r₀, r₁, r₂, r₃, r₄, r₅, r₆, r₇, r₈, r₉, h.2 c⟩,
    θ_run_mono (Backward.Merge.run_reference m' g') fun _ h c => by
      obtain rfl : c = 0 := Subsingleton.elim _ _
      obtain ⟨e₀, e₁, e₂, e₃, e₄, e₅, e₆, e₇, e₈⟩ := hm 0
      unfold Backward.Merge.row Backward.Merge.all
      rw [← e₀, ← e₁, ← e₂, ← e₃, ← e₄, ← e₅, ← e₆, ← e₇, ← e₈]
      exact h⟩

theorem frame_total : letI := Cert.Total.Gen.facts; Cert.quiescent_Total := fun m g _ => Total.OnBits.run m g

theorem frame_total_ideal : letI := Cert.TotalIdeal.Gen.facts; Cert.quiescent_TotalIdeal := fun m g _ =>
  θ_run_mono (Total.run m g) fun _ h => ⟨fun c => (h.1 c).2, h.2⟩

theorem frame_total_reference : letI := Cert.TotalReferenceIdeal.Gen.facts; Cert.quiescent_TotalReferenceIdeal := fun m g _ =>
  θ_run_mono (Total.run_reference m g) fun r h =>
    ⟨fun c => by obtain rfl : c = 0 := Subsingleton.elim _ _; exact h.2, sem_eq_zero_of_no_sems rfl r.2⟩

theorem total : letI := Cert.TotalIdeal.Gen.facts; letI := Cert.TotalReferenceIdeal.Gen.facts; Cert.algebraic_TotalIdeal_TotalReferenceIdeal :=
  fun m g m' g' _ hm => ⟨_,
    θ_run_mono (Total.run m g) fun _ h c => ⟨(h.1 c).1.trans (Total.over_blocks hm), (h.1 c).2⟩,
    Total.run_reference m' g'⟩

theorem frame_norm : letI := Cert.Norm.Gen.facts; Cert.quiescent_Norm := fun m g _ => Cert.Norm.Gen.frame m g

theorem frame_norm_ideal : letI := Cert.NormIdeal.Gen.facts; Cert.quiescent_NormIdeal := fun m g _ => Cert.NormIdeal.Gen.frame (F := Ideal) m g

theorem frame_norm_reference : letI := Cert.NormReferenceIdeal.Gen.facts; Cert.quiescent_NormReferenceIdeal := fun m g _ =>
  θ_run_mono (Forward.Norm.run_reference m g) fun r h =>
    ⟨fun c => by obtain rfl : c = 0 := Subsingleton.elim _ _; exact h.2, sem_eq_zero_of_no_sems rfl r.2⟩

theorem norm : letI := Cert.NormIdeal.Gen.facts; letI := Cert.NormReferenceIdeal.Gen.facts; Cert.algebraic_NormIdeal_NormReferenceIdeal :=
  fun m g m' g' _ hm => ⟨_,
    θ_run_mono (θ_run_and (Forward.Norm.run m g) (Cert.NormIdeal.Gen.unchanged m g)) fun _ h c => ⟨h.1 c, h.2 c⟩,
    θ_run_mono (Forward.Norm.run_reference m' g') fun _ h c => by
      obtain rfl : c = 0 := Subsingleton.elim _ _
      rw [← (hm 0).1, ← (hm 0).2]
      exact h⟩

theorem frame_project : letI := Cert.Project.Gen.facts; Cert.quiescent_Project := fun m g _ => Cert.Project.Gen.frame m g

theorem frame_project_ideal : letI := Cert.ProjectIdeal.Gen.facts; Cert.quiescent_ProjectIdeal := fun m g _ => Cert.ProjectIdeal.Gen.frame (F := Ideal) m g

theorem frame_project_reference : letI := Cert.ProjectReferenceIdeal.Gen.facts; Cert.quiescent_ProjectReferenceIdeal := fun m g _ =>
  θ_run_mono (Forward.Project.run_reference m g) fun r h =>
    ⟨fun c => by obtain rfl : c = 0 := Subsingleton.elim _ _; exact h.2, sem_eq_zero_of_no_sems rfl r.2⟩

theorem project : letI := Cert.ProjectIdeal.Gen.facts; letI := Cert.ProjectReferenceIdeal.Gen.facts; Cert.algebraic_ProjectIdeal_ProjectReferenceIdeal :=
  fun m g m' g' _ hm => ⟨_,
    θ_run_mono (θ_run_and (Forward.Project.run m g) (Cert.ProjectIdeal.Gen.unchanged m g)) fun _ h c => ⟨h.1 c, h.2 c⟩,
    θ_run_mono (Forward.Project.run_reference m' g') fun _ h c => by
      obtain rfl : c = 0 := Subsingleton.elim _ _
      rw [← (hm 0).1, ← (hm 0).2]
      exact h⟩

theorem frame_grad_w : letI := Cert.GradW.Gen.facts; Cert.quiescent_GradW := fun m g _ => Cert.GradW.Gen.frame m g

theorem frame_grad_w_ideal : letI := Cert.GradWIdeal.Gen.facts; Cert.quiescent_GradWIdeal := fun m g _ => Cert.GradWIdeal.Gen.frame (F := Ideal) m g

theorem frame_grad_w_reference : letI := Cert.GradWReferenceIdeal.Gen.facts; Cert.quiescent_GradWReferenceIdeal := fun m g _ =>
  θ_run_mono (Backward.GradW.run_reference m g) fun r h =>
    ⟨fun c => by obtain rfl : c = 0 := Subsingleton.elim _ _; exact h.2, sem_eq_zero_of_no_sems rfl r.2⟩

theorem grad_w : letI := Cert.GradWIdeal.Gen.facts; letI := Cert.GradWReferenceIdeal.Gen.facts; Cert.algebraic_GradWIdeal_GradWReferenceIdeal :=
  fun m g m' g' _ hm => ⟨_,
    θ_run_mono (θ_run_and (Backward.GradW.run m g) (Cert.GradWIdeal.Gen.unchanged m g)) fun _ h c => ⟨h.1 c, h.2 c⟩,
    θ_run_mono (Backward.GradW.run_reference m' g') fun _ h c => by
      obtain rfl : c = 0 := Subsingleton.elim _ _
      rw [← (hm 0).1, ← (hm 0).2]
      exact h⟩

theorem frame_grad_w_in : letI := Cert.GradWIn.Gen.facts; Cert.quiescent_GradWIn := fun m g _ => Cert.GradWIn.Gen.frame m g

theorem frame_grad_w_in_ideal : letI := Cert.GradWInIdeal.Gen.facts; Cert.quiescent_GradWInIdeal := fun m g _ => Cert.GradWInIdeal.Gen.frame (F := Ideal) m g

theorem frame_grad_w_in_reference : letI := Cert.GradWInReferenceIdeal.Gen.facts; Cert.quiescent_GradWInReferenceIdeal := fun m g _ =>
  θ_run_mono (Backward.GradWIn.run_reference m g) fun r h =>
    ⟨fun c => by obtain rfl : c = 0 := Subsingleton.elim _ _; exact h.2, sem_eq_zero_of_no_sems rfl r.2⟩

theorem grad_w_in : letI := Cert.GradWInIdeal.Gen.facts; letI := Cert.GradWInReferenceIdeal.Gen.facts; Cert.algebraic_GradWInIdeal_GradWInReferenceIdeal :=
  fun m g m' g' _ hm => ⟨_,
    θ_run_mono (θ_run_and (Backward.GradWIn.run m g) (Cert.GradWInIdeal.Gen.unchanged m g)) fun _ h c => ⟨h.1 c, h.2 c⟩,
    θ_run_mono (Backward.GradWIn.run_reference m' g') fun _ h c => by
      obtain rfl : c = 0 := Subsingleton.elim _ _
      rw [← (hm 0).1, ← (hm 0).2]
      exact h⟩

theorem frame_grad_h : letI := Cert.GradH.Gen.facts; Cert.quiescent_GradH := fun m g _ => Cert.GradH.Gen.frame m g

theorem frame_grad_h_ideal : letI := Cert.GradHIdeal.Gen.facts; Cert.quiescent_GradHIdeal := fun m g _ => Cert.GradHIdeal.Gen.frame (F := Ideal) m g

theorem frame_grad_h_reference : letI := Cert.GradHReferenceIdeal.Gen.facts; Cert.quiescent_GradHReferenceIdeal := fun m g _ =>
  θ_run_mono (Backward.GradH.run_reference m g) fun r h =>
    ⟨fun c => by obtain rfl : c = 0 := Subsingleton.elim _ _; exact h.2, sem_eq_zero_of_no_sems rfl r.2⟩

theorem grad_h : letI := Cert.GradHIdeal.Gen.facts; letI := Cert.GradHReferenceIdeal.Gen.facts; Cert.algebraic_GradHIdeal_GradHReferenceIdeal :=
  fun m g m' g' _ hm => ⟨_,
    θ_run_mono (θ_run_and (Backward.GradH.run m g) (Cert.GradHIdeal.Gen.unchanged m g)) fun _ h c => ⟨h.1 c, h.2 c⟩,
    θ_run_mono (Backward.GradH.run_reference m' g') fun _ h c => by
      obtain rfl : c = 0 := Subsingleton.elim _ _
      rw [← (hm 0).1, ← (hm 0).2]
      exact h⟩

theorem frame_sum_cores : letI := Cert.SumCores.Gen.facts; Cert.quiescent_SumCores := fun m g _ => Cert.SumCores.Gen.frame m g

theorem frame_sum_cores_ideal : letI := Cert.SumCoresIdeal.Gen.facts; Cert.quiescent_SumCoresIdeal := fun m g _ => Cert.SumCoresIdeal.Gen.frame (F := Ideal) m g

theorem frame_sum_cores_reference : letI := Cert.SumCoresReferenceIdeal.Gen.facts; Cert.quiescent_SumCoresReferenceIdeal := fun m g _ =>
  θ_run_mono (Summed.Cores.run_reference m g) fun r h =>
    ⟨fun c => by obtain rfl : c = 0 := Subsingleton.elim _ _; exact h.2, sem_eq_zero_of_no_sems rfl r.2⟩

theorem sum_cores : letI := Cert.SumCoresIdeal.Gen.facts; letI := Cert.SumCoresReferenceIdeal.Gen.facts; Cert.algebraic_SumCoresIdeal_SumCoresReferenceIdeal :=
  fun m g m' g' _ hm => ⟨_,
    θ_run_mono (θ_run_and (Summed.Cores.run m g) (Cert.SumCoresIdeal.Gen.unchanged m g)) fun _ h c => ⟨h.1 c, h.2 c⟩,
    θ_run_mono (Summed.Cores.run_reference m' g') fun _ h c => by
      obtain rfl : c = 0 := Subsingleton.elim _ _
      rw [← (hm 0).1, ← (hm 0).2]
      exact h⟩

theorem frame_sum_chips : letI := Cert.SumChips.Gen.facts; Cert.quiescent_SumChips := fun m g _ => Cert.SumChips.Gen.frame m g

theorem frame_sum_chips_ideal : letI := Cert.SumChipsIdeal.Gen.facts; Cert.quiescent_SumChipsIdeal := fun m g _ => Cert.SumChipsIdeal.Gen.frame (F := Ideal) m g

theorem frame_sum_chips_reference : letI := Cert.SumChipsReferenceIdeal.Gen.facts; Cert.quiescent_SumChipsReferenceIdeal := fun m g _ =>
  θ_run_mono (Summed.Chips.run_reference m g) fun r h =>
    ⟨fun c => by obtain rfl : c = 0 := Subsingleton.elim _ _; exact h.2, sem_eq_zero_of_no_sems rfl r.2⟩

theorem sum_chips : letI := Cert.SumChipsIdeal.Gen.facts; letI := Cert.SumChipsReferenceIdeal.Gen.facts; Cert.algebraic_SumChipsIdeal_SumChipsReferenceIdeal :=
  fun m g m' g' _ hm => ⟨_,
    θ_run_mono (θ_run_and (Summed.Chips.run m g) (Cert.SumChipsIdeal.Gen.unchanged m g)) fun _ h c => ⟨h.1 c, h.2 c⟩,
    θ_run_mono (Summed.Chips.run_reference m' g') fun _ h c => by
      obtain rfl : c = 0 := Subsingleton.elim _ _
      rw [← hm 0]
      exact h⟩

theorem frame_cast_in : letI := Cert.CastIn.Gen.facts; Cert.quiescent_CastIn := fun m g _ => Cert.CastIn.Gen.frame m g

theorem frame_cast_in_ideal : letI := Cert.CastInIdeal.Gen.facts; Cert.quiescent_CastInIdeal := fun m g _ => Cert.CastInIdeal.Gen.frame (F := Ideal) m g

theorem frame_cast_in_reference : letI := Cert.CastInReferenceIdeal.Gen.facts; Cert.quiescent_CastInReferenceIdeal := fun m g _ =>
  θ_run_mono (Forward.CastIn.run_reference (F := Ideal) m g) fun r h =>
    ⟨fun c => by obtain rfl : c = 0 := Subsingleton.elim _ _; exact h.2, sem_eq_zero_of_no_sems rfl r.2⟩

theorem frame_cast_in_reference_bits : letI := Cert.CastInReference.Gen.facts; Cert.quiescent_CastInReference := fun m g _ =>
  θ_run_mono (Forward.CastIn.run_reference (F := Bits) m g) fun r h =>
    ⟨fun c => by obtain rfl : c = 0 := Subsingleton.elim _ _; exact h.2, sem_eq_zero_of_no_sems rfl r.2⟩

theorem cast_in : letI := Cert.CastInIdeal.Gen.facts; letI := Cert.CastInReferenceIdeal.Gen.facts; Cert.algebraic_CastInIdeal_CastInReferenceIdeal :=
  fun m g m' g' _ hm => ⟨_,
    θ_run_mono (θ_run_and (Forward.CastIn.run (F := Ideal) m g) (Cert.CastInIdeal.Gen.unchanged m g)) fun _ h c => ⟨h.1 c, h.2 c⟩,
    θ_run_mono (Forward.CastIn.run_reference (F := Ideal) m' g') fun _ h c => by
      obtain rfl : c = 0 := Subsingleton.elim _ _
      exact ⟨h.1.trans (congrArg Forward.CastIn.cast (hm 0)), h.2⟩⟩

theorem cast_in_bits : letI := Cert.CastIn.Gen.facts; letI := Cert.CastInReference.Gen.facts; Cert.bitexact_CastIn_CastInReference :=
  fun m g m' g' _ hm => ⟨fun _ => Forward.CastIn.cast (F := Bits) (m' (((0 : Dev 1) : Thread 1 Cert.CastInReference.τ).loc Cert.CastInReference.main_arg0)),
    Forward.CastIn.run_of_ideal (F := Bits) m g _ (θ_run_mono (θ_run_and (Forward.CastIn.run (F := Bits) m g) (Cert.CastInIdeal.Gen.unchanged (F := Bits) m g)) fun _ h c => by
        obtain rfl : c = 0 := Subsingleton.elim _ _
        exact ⟨(h.1 0).trans (congrArg (Forward.CastIn.cast (F := Bits)) (hm 0).symm), h.2 0⟩),
    (θ_run Cert.CastInReferenceIdeal.defs _ _).mono
      (fun _ h c => by
        obtain rfl : c = 0 := Subsingleton.elim _ _
        exact h)
      (Forward.CastIn.run_reference (F := Bits) m' g')⟩

theorem frame_cast_out : letI := Cert.CastOut.Gen.facts; Cert.quiescent_CastOut := fun m g _ => Cert.CastOut.Gen.frame m g

theorem frame_cast_out_ideal : letI := Cert.CastOutIdeal.Gen.facts; Cert.quiescent_CastOutIdeal := fun m g _ => Cert.CastOutIdeal.Gen.frame (F := Ideal) m g

theorem frame_cast_out_reference : letI := Cert.CastOutReferenceIdeal.Gen.facts; Cert.quiescent_CastOutReferenceIdeal := fun m g _ =>
  θ_run_mono (Forward.CastOut.run_reference (F := Ideal) m g) fun r h =>
    ⟨fun c => by obtain rfl : c = 0 := Subsingleton.elim _ _; exact h.2, sem_eq_zero_of_no_sems rfl r.2⟩

theorem frame_cast_out_reference_bits : letI := Cert.CastOutReference.Gen.facts; Cert.quiescent_CastOutReference := fun m g _ =>
  θ_run_mono (Forward.CastOut.run_reference (F := Bits) m g) fun r h =>
    ⟨fun c => by obtain rfl : c = 0 := Subsingleton.elim _ _; exact h.2, sem_eq_zero_of_no_sems rfl r.2⟩

theorem cast_out : letI := Cert.CastOutIdeal.Gen.facts; letI := Cert.CastOutReferenceIdeal.Gen.facts; Cert.algebraic_CastOutIdeal_CastOutReferenceIdeal :=
  fun m g m' g' _ hm => ⟨_,
    θ_run_mono (θ_run_and (Forward.CastOut.run (F := Ideal) m g) (Cert.CastOutIdeal.Gen.unchanged m g)) fun _ h c => ⟨h.1 c, h.2 c⟩,
    θ_run_mono (Forward.CastOut.run_reference (F := Ideal) m' g') fun _ h c => by
      obtain rfl : c = 0 := Subsingleton.elim _ _
      exact ⟨h.1.trans (congrArg Forward.CastOut.cast (hm 0)), h.2⟩⟩

theorem cast_out_bits : letI := Cert.CastOut.Gen.facts; letI := Cert.CastOutReference.Gen.facts; Cert.bitexact_CastOut_CastOutReference :=
  fun m g m' g' _ hm => ⟨fun _ => Forward.CastOut.cast (F := Bits) (m' (((0 : Dev 1) : Thread 1 Cert.CastOutReference.τ).loc Cert.CastOutReference.main_arg0)),
    Forward.CastOut.run_of_ideal (F := Bits) m g _ (θ_run_mono (θ_run_and (Forward.CastOut.run (F := Bits) m g) (Cert.CastOutIdeal.Gen.unchanged (F := Bits) m g)) fun _ h c => by
        obtain rfl : c = 0 := Subsingleton.elim _ _
        exact ⟨(h.1 0).trans (congrArg (Forward.CastOut.cast (F := Bits)) (hm 0).symm), h.2 0⟩),
    (θ_run Cert.CastOutReferenceIdeal.defs _ _).mono
      (fun _ h c => by
        obtain rfl : c = 0 := Subsingleton.elim _ _
        exact h)
      (Forward.CastOut.run_reference (F := Bits) m' g')⟩

theorem frame_pair_in : letI := Cert.PairIn.Gen.facts; letI := Cert.Pre_a_core.Gen.facts; Cert.quiescent_PairIn := fun m g h =>
  Cert.PairIn.Gen.frame (F := Bits) m g (Summed.Pair.ok (F := Bits) m (Summed.Pair.named _ _ _ (h 0)))

theorem frame_pair_in_ideal : letI := Cert.PairInIdeal.Gen.facts; letI := Cert.Pre_a_core.Gen.facts; Cert.quiescent_PairInIdeal := fun m g h =>
  Cert.PairInIdeal.Gen.frame (F := Ideal) m g (Summed.Pair.ok (F := Ideal) m (Summed.Pair.named _ _ _ (h 0)))

theorem frame_pair_in_reference : letI := Cert.PairInReferenceIdeal.Gen.facts; Cert.quiescent_PairInReferenceIdeal := fun m g _ =>
  θ_run_mono (Summed.Pair.run_reference (F := Ideal) m g) fun r h =>
    ⟨fun c => by obtain rfl : c = 0 := Subsingleton.elim _ _; exact h.2.2, sem_eq_zero_of_no_sems rfl r.2⟩

theorem frame_pair_in_reference_a_core : letI := Cert.PairInReferenceIdeal.Gen.facts; letI := Cert.Pre_a_core.Gen.facts; Cert.quiescent_PairInReferenceIdeal_pre_a_core := fun m g _ =>
  θ_run_mono (Summed.Pair.run_reference (F := Ideal) m g) fun r h =>
    ⟨fun c => by obtain rfl : c = 0 := Subsingleton.elim _ _; exact h.2.2, sem_eq_zero_of_no_sems rfl r.2⟩

theorem frame_pair_in_reference_bits : letI := Cert.PairInReference.Gen.facts; letI := Cert.Pre_a_core.Gen.facts; Cert.quiescent_PairInReference := fun m g _ =>
  θ_run_mono (Summed.Pair.run_reference (F := Bits) m g) fun r h =>
    ⟨fun c => by obtain rfl : c = 0 := Subsingleton.elim _ _; exact h.2.2, sem_eq_zero_of_no_sems rfl r.2⟩

theorem pair_in : letI := Cert.PairInIdeal.Gen.facts; letI := Cert.PairInReferenceIdeal.Gen.facts; letI := Cert.Pre_a_core.Gen.facts; Cert.algebraic_PairInIdeal_PairInReferenceIdeal :=
  fun m g m' g' h hm =>
    have named := Summed.Pair.named _ _ _ (h 0)
    ⟨_, _,
    θ_run_mono (θ_run_and (Summed.Pair.run (F := Ideal) m named g) (Cert.PairInIdeal.Gen.unchanged (F := Ideal) m g (Summed.Pair.ok (F := Ideal) m named))) fun _ h c => ⟨(h.1 c).1, (h.1 c).2, h.2 c⟩,
    θ_run_mono (Summed.Pair.run_reference (F := Ideal) m' g') fun _ h c => by
      obtain rfl : c = 0 := Subsingleton.elim _ _
      exact ⟨h.1.trans (Summed.Pair.sum_congr (hm 0).1 (hm 0).2.1 (hm 0).2.2), h.2.1.trans (congrArg Summed.Pair.short (Summed.Pair.sum_congr (hm 0).1 (hm 0).2.1 (hm 0).2.2)), h.2.2⟩⟩

theorem pair_in_bits : letI := Cert.PairIn.Gen.facts; letI := Cert.PairInReference.Gen.facts; letI := Cert.Pre_a_core.Gen.facts; Cert.bitexact_PairIn_PairInReference :=
  fun m g m' g' h hm =>
    have named := Summed.Pair.named _ _ _ (h 0)
    let sum := Summed.Pair.sum (F := Bits) (m' (((0 : Dev 1) : Thread 1 Cert.PairInReference.τ).loc Cert.PairInReference.main_arg0))
      (m' (((0 : Dev 1) : Thread 1 Cert.PairInReference.τ).loc Cert.PairInReference.main_arg1)) ((m' (((0 : Dev 1) : Thread 1 Cert.PairInReference.τ).loc Cert.PairInReference.main_arg2)) (ValueIdx.ix1 0))
    ⟨fun _ => sum, fun _ => Summed.Pair.short (F := Bits) sum,
    Summed.Pair.run_of_ideal (F := Bits) m g _ (θ_run_mono (θ_run_and (Summed.Pair.run (F := Bits) m named g) (Cert.PairInIdeal.Gen.unchanged (F := Bits) m g (Summed.Pair.ok (F := Bits) m named))) fun _ h c => by
        obtain rfl : c = 0 := Subsingleton.elim _ _
        have same := (Summed.Pair.sum_congr (F := Bits) (hm 0).1 (hm 0).2.1 (hm 0).2.2).symm
        exact ⟨(h.1 0).1.trans same, (h.1 0).2.trans (congrArg (Summed.Pair.short (F := Bits)) same), h.2 0⟩),
    (θ_run Cert.PairInReferenceIdeal.defs _ _).mono
      (fun _ h c => by
        obtain rfl : c = 0 := Subsingleton.elim _ _
        exact h)
      (Summed.Pair.run_reference (F := Bits) m' g')⟩

theorem frame_four_in : letI := Cert.FourIn.Gen.facts; letI := Cert.Pre_four_chips.Gen.facts; Cert.quiescent_FourIn := fun m g h =>
  Cert.FourIn.Gen.frame (F := Bits) m g (Summed.Four.ok (F := Bits) m (Summed.Four.named _ _ _ (h 0)))

theorem frame_four_in_ideal : letI := Cert.FourInIdeal.Gen.facts; letI := Cert.Pre_four_chips.Gen.facts; Cert.quiescent_FourInIdeal := fun m g h =>
  Cert.FourInIdeal.Gen.frame (F := Ideal) m g (Summed.Four.ok (F := Ideal) m (Summed.Four.named _ _ _ (h 0)))

theorem frame_four_in_reference : letI := Cert.FourInReferenceIdeal.Gen.facts; Cert.quiescent_FourInReferenceIdeal := fun m g _ =>
  θ_run_mono (Summed.Four.run_reference (F := Ideal) m g) fun r h =>
    ⟨fun c => by obtain rfl : c = 0 := Subsingleton.elim _ _; exact h.2, sem_eq_zero_of_no_sems rfl r.2⟩

theorem frame_four_in_reference_four_chips : letI := Cert.FourInReferenceIdeal.Gen.facts; letI := Cert.Pre_four_chips.Gen.facts; Cert.quiescent_FourInReferenceIdeal_pre_four_chips := fun m g _ =>
  θ_run_mono (Summed.Four.run_reference (F := Ideal) m g) fun r h =>
    ⟨fun c => by obtain rfl : c = 0 := Subsingleton.elim _ _; exact h.2, sem_eq_zero_of_no_sems rfl r.2⟩

theorem frame_four_in_reference_bits : letI := Cert.FourInReference.Gen.facts; letI := Cert.Pre_four_chips.Gen.facts; Cert.quiescent_FourInReference := fun m g _ =>
  θ_run_mono (Summed.Four.run_reference (F := Bits) m g) fun r h =>
    ⟨fun c => by obtain rfl : c = 0 := Subsingleton.elim _ _; exact h.2, sem_eq_zero_of_no_sems rfl r.2⟩

theorem four_in : letI := Cert.FourInIdeal.Gen.facts; letI := Cert.FourInReferenceIdeal.Gen.facts; letI := Cert.Pre_four_chips.Gen.facts; Cert.algebraic_FourInIdeal_FourInReferenceIdeal :=
  fun m g m' g' h hm =>
    have named := Summed.Four.named _ _ _ (h 0)
    ⟨_,
    θ_run_mono (θ_run_and (Summed.Four.run (F := Ideal) m named g) (Cert.FourInIdeal.Gen.unchanged (F := Ideal) m g (Summed.Four.ok (F := Ideal) m named))) fun _ h c => ⟨h.1 c, h.2 c⟩,
    θ_run_mono (Summed.Four.run_reference (F := Ideal) m' g') fun _ h c => by
      obtain rfl : c = 0 := Subsingleton.elim _ _
      exact ⟨h.1.trans (Summed.Four.sum_congr (hm 0).1 (hm 0).2.1 (hm 0).2.2), h.2⟩⟩

theorem four_in_bits : letI := Cert.FourIn.Gen.facts; letI := Cert.FourInReference.Gen.facts; letI := Cert.Pre_four_chips.Gen.facts; Cert.bitexact_FourIn_FourInReference :=
  fun m g m' g' h hm =>
    have named := Summed.Four.named _ _ _ (h 0)
    let sum := Summed.Four.sum (F := Bits) (m' (((0 : Dev 1) : Thread 1 Cert.FourInReference.τ).loc Cert.FourInReference.main_arg0))
      (m' (((0 : Dev 1) : Thread 1 Cert.FourInReference.τ).loc Cert.FourInReference.main_arg1)) (m' (((0 : Dev 1) : Thread 1 Cert.FourInReference.τ).loc Cert.FourInReference.main_arg2))
    ⟨fun _ => sum,
    Summed.Four.run_of_ideal (F := Bits) m g _ (θ_run_mono (θ_run_and (Summed.Four.run (F := Bits) m named g) (Cert.FourInIdeal.Gen.unchanged (F := Bits) m g (Summed.Four.ok (F := Bits) m named))) fun _ h c => by
        obtain rfl : c = 0 := Subsingleton.elim _ _
        have same := (Summed.Four.sum_congr (F := Bits) (hm 0).1 (hm 0).2.1 (hm 0).2.2).symm
        exact ⟨(h.1 0).trans same, h.2 0⟩),
    (θ_run Cert.FourInReferenceIdeal.defs _ _).mono
      (fun _ h c => by
        obtain rfl : c = 0 := Subsingleton.elim _ _
        exact h)
      (Summed.Four.run_reference (F := Bits) m' g')⟩

theorem claim : Cert.Claim :=
  ⟨Cert.Kernel.Gen.facts, Cert.KernelIdeal.Gen.facts, Cert.ReferenceIdeal.Gen.facts, Cert.Reference.Gen.facts, Cert.Swap.Gen.facts, Cert.SwapIdeal.Gen.facts,
    Cert.SwapReferenceIdeal.Gen.facts, Cert.SwapReference.Gen.facts, Cert.Join.Gen.facts, Cert.JoinIdeal.Gen.facts, Cert.JoinReferenceIdeal.Gen.facts, Cert.JoinReference.Gen.facts,
    Cert.Cross.Gen.facts, Cert.CrossIdeal.Gen.facts, Cert.CrossReferenceIdeal.Gen.facts, Cert.CrossReference.Gen.facts,
    Cert.StepIn.Gen.facts, Cert.StepInIdeal.Gen.facts, Cert.StepInReferenceIdeal.Gen.facts,
    Cert.StepOut.Gen.facts, Cert.StepOutIdeal.Gen.facts, Cert.StepOutReferenceIdeal.Gen.facts,
    Cert.StepConv.Gen.facts, Cert.StepConvIdeal.Gen.facts, Cert.StepConvReferenceIdeal.Gen.facts,
    Cert.StepSmall.Gen.facts, Cert.StepSmallIdeal.Gen.facts, Cert.StepSmallReferenceIdeal.Gen.facts,
    Cert.GradX.Gen.facts, Cert.GradXIdeal.Gen.facts, Cert.GradXReferenceIdeal.Gen.facts,
    Cert.Merge.Gen.facts, Cert.MergeIdeal.Gen.facts, Cert.MergeReferenceIdeal.Gen.facts,
    Cert.Total.Gen.facts, Cert.TotalIdeal.Gen.facts, Cert.TotalReferenceIdeal.Gen.facts,
    Cert.Norm.Gen.facts, Cert.NormIdeal.Gen.facts, Cert.NormReferenceIdeal.Gen.facts,
    Cert.Project.Gen.facts, Cert.ProjectIdeal.Gen.facts, Cert.ProjectReferenceIdeal.Gen.facts,
    Cert.GradW.Gen.facts, Cert.GradWIdeal.Gen.facts, Cert.GradWReferenceIdeal.Gen.facts,
    Cert.GradWIn.Gen.facts, Cert.GradWInIdeal.Gen.facts, Cert.GradWInReferenceIdeal.Gen.facts,
    Cert.GradH.Gen.facts, Cert.GradHIdeal.Gen.facts, Cert.GradHReferenceIdeal.Gen.facts,
    Cert.SumCores.Gen.facts, Cert.SumCoresIdeal.Gen.facts, Cert.SumCoresReferenceIdeal.Gen.facts,
    Cert.SumChips.Gen.facts, Cert.SumChipsIdeal.Gen.facts, Cert.SumChipsReferenceIdeal.Gen.facts,
    Cert.CastIn.Gen.facts, Cert.CastInIdeal.Gen.facts, Cert.CastInReferenceIdeal.Gen.facts, Cert.CastInReference.Gen.facts,
    Cert.CastOut.Gen.facts, Cert.CastOutIdeal.Gen.facts, Cert.CastOutReferenceIdeal.Gen.facts, Cert.CastOutReference.Gen.facts,
    Cert.PairIn.Gen.facts, Cert.PairInIdeal.Gen.facts, Cert.PairInReferenceIdeal.Gen.facts, Cert.PairInReference.Gen.facts,
    Cert.FourIn.Gen.facts, Cert.FourInIdeal.Gen.facts, Cert.FourInReferenceIdeal.Gen.facts, Cert.FourInReference.Gen.facts,
    Cert.Pre_a_core.Gen.facts, Cert.Pre_four_chips.Gen.facts, Crossed.facts_from_others,
    frame_kernel, frame_ideal, frame_reference, frame_reference_bits, frame_swap, frame_swap_ideal, frame_swap_reference, frame_swap_reference_bits, frame_join, frame_join_ideal, frame_join_reference, frame_join_reference_bits,
    frame_cross, frame_cross_ideal, frame_cross_reference, frame_cross_reference_bits,
    frame_in, frame_in_ideal, frame_in_reference,
    frame_out, frame_out_ideal, frame_out_reference,
    frame_conv, frame_conv_ideal, frame_conv_reference,
    frame_small, frame_small_ideal, frame_small_reference,
    frame_grad_x, frame_grad_x_ideal, frame_grad_x_reference,
    frame_merge, frame_merge_ideal, frame_merge_reference,
    frame_total, frame_total_ideal, frame_total_reference,
    frame_norm, frame_norm_ideal, frame_norm_reference,
    frame_project, frame_project_ideal, frame_project_reference,
    frame_grad_w, frame_grad_w_ideal, frame_grad_w_reference,
    frame_grad_w_in, frame_grad_w_in_ideal, frame_grad_w_in_reference,
    frame_grad_h, frame_grad_h_ideal, frame_grad_h_reference,
    frame_sum_cores, frame_sum_cores_ideal, frame_sum_cores_reference,
    frame_sum_chips, frame_sum_chips_ideal, frame_sum_chips_reference,
    frame_cast_in, frame_cast_in_ideal, frame_cast_in_reference, frame_cast_in_reference_bits,
    frame_cast_out, frame_cast_out_ideal, frame_cast_out_reference, frame_cast_out_reference_bits,
    frame_pair_in, frame_pair_in_ideal, frame_pair_in_reference, frame_pair_in_reference_a_core, frame_pair_in_reference_bits,
    frame_four_in, frame_four_in_ideal, frame_four_in_reference, frame_four_in_reference_four_chips, frame_four_in_reference_bits,
    trivial, gather, gather_bits, trivial, swap, swap_bits, trivial, join, join_bits, trivial, cross, cross_bits,
    trivial, step_in, trivial, step_out, trivial, step_conv, trivial, step_small, trivial, grad_x, trivial, merge, trivial, total,
    trivial, norm, trivial, project, trivial, grad_w, trivial, grad_w_in, trivial, grad_h, trivial, sum_cores, trivial, sum_chips,
    trivial, cast_in, cast_in_bits, trivial, cast_out, cast_out_bits, trivial, pair_in, pair_in_bits, trivial, four_in, four_in_bits⟩

end Cert.Proof

end
